-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_separated [hPre_separated : Cert.Pre_separated.Facts] (m : (ℓ : Loc Cert.MlpIdeal.nD Cert.MlpIdeal.τ Cert.MlpIdeal.sig) → Buf (Elt Ideal) ℓ) : Prop :=
  ∀ c : Dev Cert.MlpIdeal.nD,
    (Cert.Pre_separated.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_separated [hPre_separated : Cert.Pre_separated.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_separated.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3))) = (fun _ => 1#1)

def Pre_FirstWeight (m : (ℓ : Loc Cert.FirstWeight.nD Cert.FirstWeight.τ Cert.FirstWeight.sig) → Buf (Elt Bits) ℓ) : Prop :=
  True

def Pre_FirstWeightIdeal (m : (ℓ : Loc Cert.FirstWeightIdeal.nD Cert.FirstWeightIdeal.τ Cert.FirstWeightIdeal.sig) → Buf (Elt Ideal) ℓ) : Prop :=
  True

def Pre_FirstWeightIdeal_separated1 [hPre_separated1 : Cert.Pre_separated1.Facts] (m : (ℓ : Loc Cert.FirstWeightIdeal.nD Cert.FirstWeightIdeal.τ Cert.FirstWeightIdeal.sig) → Buf (Elt Ideal) ℓ) : Prop :=
  ∀ c : Dev Cert.FirstWeightIdeal.nD,
    (Cert.Pre_separated1.fn (F := Ideal) (m ((c.tc : Thread Cert.FirstWeightIdeal.nD Cert.FirstWeightIdeal.τ).loc Cert.FirstWeightIdeal.main_arg0)) (m ((c.tc : Thread Cert.FirstWeightIdeal.nD Cert.FirstWeightIdeal.τ).loc Cert.FirstWeightIdeal.main_arg1)) (m ((c.tc : Thread Cert.FirstWeightIdeal.nD Cert.FirstWeightIdeal.τ).loc Cert.FirstWeightIdeal.main_arg2))) = (fun _ => 1#1)

def Pre_FirstWeightReferenceIdeal (m : (ℓ : Loc Cert.FirstWeightReferenceIdeal.nD Cert.FirstWeightReferenceIdeal.τ Cert.FirstWeightReferenceIdeal.sig) → Buf (Elt Ideal) ℓ) : Prop :=
  True

def Pre_FirstWeightReferenceIdeal_separated1 [hPre_separated1 : Cert.Pre_separated1.Facts] (m : (ℓ : Loc Cert.FirstWeightReferenceIdeal.nD Cert.FirstWeightReferenceIdeal.τ Cert.FirstWeightReferenceIdeal.sig) → Buf (Elt Ideal) ℓ) : Prop :=
  ∀ c : Dev Cert.FirstWeightReferenceIdeal.nD,
    (Cert.Pre_separated1.fn (F := Ideal) (m ((c.tc : Thread Cert.FirstWeightReferenceIdeal.nD Cert.FirstWeightReferenceIdeal.τ).loc Cert.FirstWeightReferenceIdeal.main_arg0)) (m ((c.tc : Thread Cert.FirstWeightReferenceIdeal.nD Cert.FirstWeightReferenceIdeal.τ).loc Cert.FirstWeightReferenceIdeal.main_arg1)) (m ((c.tc : Thread Cert.FirstWeightReferenceIdeal.nD Cert.FirstWeightReferenceIdeal.τ).loc Cert.FirstWeightReferenceIdeal.main_arg2))) = (fun _ => 1#1)

def Pre_SecondWeight (m : (ℓ : Loc Cert.SecondWeight.nD Cert.SecondWeight.τ Cert.SecondWeight.sig) → Buf (Elt Bits) ℓ) : Prop :=
  True

def Pre_SecondWeightIdeal (m : (ℓ : Loc Cert.SecondWeightIdeal.nD Cert.SecondWeightIdeal.τ Cert.SecondWeightIdeal.sig) → Buf (Elt Ideal) ℓ) : Prop :=
  True

def Pre_SecondWeightReferenceIdeal (m : (ℓ : Loc Cert.SecondWeightReferenceIdeal.nD Cert.SecondWeightReferenceIdeal.τ Cert.SecondWeightReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightReferenceIdeal (m : (ℓ : Loc Cert.InWeightReferenceIdeal.nD Cert.InWeightReferenceIdeal.τ Cert.InWeightReferenceIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightReferenceIdeal (m : (ℓ : Loc Cert.OutWeightReferenceIdeal.nD Cert.OutWeightReferenceIdeal.τ Cert.OutWeightReferenceIdeal.sig) → Buf (Elt Ideal) ℓ) : Prop :=
  True

def Pre_Grouped (m : (ℓ : Loc Cert.Grouped.nD Cert.Grouped.τ Cert.Grouped.sig) → Buf (Elt Bits) ℓ) : Prop :=
  True

def Pre_GroupedIdeal (m : (ℓ : Loc Cert.GroupedIdeal.nD Cert.GroupedIdeal.τ Cert.GroupedIdeal.sig) → Buf (Elt Ideal) ℓ) : Prop :=
  True

def Pre_GroupedIdeal_finite1 [hPre_finite1 : Cert.Pre_finite1.Facts] (m : (ℓ : Loc Cert.GroupedIdeal.nD Cert.GroupedIdeal.τ Cert.GroupedIdeal.sig) → Buf (Elt Ideal) ℓ) : Prop :=
  ∀ c : Dev Cert.GroupedIdeal.nD,
    (Cert.Pre_finite1.fn (F := Ideal) (m ((c.tc : Thread Cert.GroupedIdeal.nD Cert.GroupedIdeal.τ).loc Cert.GroupedIdeal.main_arg0)) (m ((c.tc : Thread Cert.GroupedIdeal.nD Cert.GroupedIdeal.τ).loc Cert.GroupedIdeal.main_arg1)) (m ((c.tc : Thread Cert.GroupedIdeal.nD Cert.GroupedIdeal.τ).loc Cert.GroupedIdeal.main_arg2)) (m ((c.tc : Thread Cert.GroupedIdeal.nD Cert.GroupedIdeal.τ).loc Cert.GroupedIdeal.main_arg3))) = (fun _ => 1#1)

def Pre_GroupedReferenceIdeal (m : (ℓ : Loc Cert.GroupedReferenceIdeal.nD Cert.GroupedReferenceIdeal.τ Cert.GroupedReferenceIdeal.sig) → Buf (Elt Ideal) ℓ) : Prop :=
  True

def Pre_GroupedReferenceIdeal_finite1 [hPre_finite1 : Cert.Pre_finite1.Facts] (m : (ℓ : Loc Cert.GroupedReferenceIdeal.nD Cert.GroupedReferenceIdeal.τ Cert.GroupedReferenceIdeal.sig) → Buf (Elt Ideal) ℓ) : Prop :=
  ∀ c : Dev Cert.GroupedReferenceIdeal.nD,
    (Cert.Pre_finite1.fn (F := Ideal) (m ((c.tc : Thread Cert.GroupedReferenceIdeal.nD Cert.GroupedReferenceIdeal.τ).loc Cert.GroupedReferenceIdeal.main_arg0)) (m ((c.tc : Thread Cert.GroupedReferenceIdeal.nD Cert.GroupedReferenceIdeal.τ).loc Cert.GroupedReferenceIdeal.main_arg1)) (m ((c.tc : Thread Cert.GroupedReferenceIdeal.nD Cert.GroupedReferenceIdeal.τ).loc Cert.GroupedReferenceIdeal.main_arg2)) (m ((c.tc : Thread Cert.GroupedReferenceIdeal.nD Cert.GroupedReferenceIdeal.τ).loc Cert.GroupedReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_QWeight (m : (ℓ : Loc Cert.QWeight.nD Cert.QWeight.τ Cert.QWeight.sig) → Buf (Elt Bits) ℓ) : Prop :=
  True

def Pre_QWeightIdeal (m : (ℓ : Loc Cert.QWeightIdeal.nD Cert.QWeightIdeal.τ Cert.QWeightIdeal.sig) → Buf (Elt Ideal) ℓ) : Prop :=
  True

def Pre_QWeightReferenceIdeal (m : (ℓ : Loc Cert.QWeightReferenceIdeal.nD Cert.QWeightReferenceIdeal.τ Cert.QWeightReferenceIdeal.sig) → Buf (Elt Ideal) ℓ) : Prop :=
  True

def Pre_KWeight (m : (ℓ : Loc Cert.KWeight.nD Cert.KWeight.τ Cert.KWeight.sig) → Buf (Elt Bits) ℓ) : Prop :=
  True

def Pre_KWeightIdeal (m : (ℓ : Loc Cert.KWeightIdeal.nD Cert.KWeightIdeal.τ Cert.KWeightIdeal.sig) → Buf (Elt Ideal) ℓ) : Prop :=
  True

def Pre_KWeightReferenceIdeal (m : (ℓ : Loc Cert.KWeightReferenceIdeal.nD Cert.KWeightReferenceIdeal.τ Cert.KWeightReferenceIdeal.sig) → Buf (Elt Ideal) ℓ) : Prop :=
  True

def Pre_VWeight (m : (ℓ : Loc Cert.VWeight.nD Cert.VWeight.τ Cert.VWeight.sig) → Buf (Elt Bits) ℓ) : Prop :=
  True

def Pre_VWeightIdeal (m : (ℓ : Loc Cert.VWeightIdeal.nD Cert.VWeightIdeal.τ Cert.VWeightIdeal.sig) → Buf (Elt Ideal) ℓ) : Prop :=
  True

def Pre_VWeightReferenceIdeal (m : (ℓ : Loc Cert.VWeightReferenceIdeal.nD Cert.VWeightReferenceIdeal.τ Cert.VWeightReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpIdeal_pre_separated [hMlpIdeal : Cert.MlpIdeal.Facts] [hPre_separated : Cert.Pre_separated.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_separated m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_MlpReferenceIdeal_pre_separated [hMlpReferenceIdeal : Cert.MlpReferenceIdeal.Facts] [hPre_separated : Cert.Pre_separated.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_separated m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_FirstWeight [hFirstWeight : Cert.FirstWeight.Facts] : Prop :=
  ∀ (m : (ℓ : Loc Cert.FirstWeight.nD Cert.FirstWeight.τ Cert.FirstWeight.sig) → Buf (Elt Bits) ℓ) (g : Dev Cert.FirstWeight.nD → PrngReg), Pre_FirstWeight m →
    θ_run (Cert.FirstWeight.defs (F := Bits)) (onTc (τ := Cert.FirstWeight.τ) (Cert.FirstWeight.main (F := Bits))) ⟨m, fun _ => 0, g⟩ (fun r => (∀ c : Dev Cert.FirstWeight.nD,
      r.2.mem ((c.tc : Thread Cert.FirstWeight.nD Cert.FirstWeight.τ).loc Cert.FirstWeight.main_arg0) = m ((c.tc : Thread Cert.FirstWeight.nD Cert.FirstWeight.τ).loc Cert.FirstWeight.main_arg0)
      ∧ r.2.mem ((c.tc : Thread Cert.FirstWeight.nD Cert.FirstWeight.τ).loc Cert.FirstWeight.main_arg1) = m ((c.tc : Thread Cert.FirstWeight.nD Cert.FirstWeight.τ).loc Cert.FirstWeight.main_arg1)
      ∧ r.2.mem ((c.tc : Thread Cert.FirstWeight.nD Cert.FirstWeight.τ).loc Cert.FirstWeight.main_arg2) = m ((c.tc : Thread Cert.FirstWeight.nD Cert.FirstWeight.τ).loc Cert.FirstWeight.main_arg2))
      ∧ r.2.sem = fun _ => 0)

def quiescent_FirstWeightIdeal [hFirstWeightIdeal : Cert.FirstWeightIdeal.Facts] : Prop :=
  ∀ (m : (ℓ : Loc Cert.FirstWeightIdeal.nD Cert.FirstWeightIdeal.τ Cert.FirstWeightIdeal.sig) → Buf (Elt Ideal) ℓ) (g : Dev Cert.FirstWeightIdeal.nD → PrngReg), Pre_FirstWeightIdeal m →
    θ_run (Cert.FirstWeightIdeal.defs (F := Ideal)) (onTc (τ := Cert.FirstWeightIdeal.τ) (Cert.FirstWeightIdeal.main (F := Ideal))) ⟨m, fun _ => 0, g⟩ (fun r => (∀ c : Dev Cert.FirstWeightIdeal.nD,
      r.2.mem ((c.tc : Thread Cert.FirstWeightIdeal.nD Cert.FirstWeightIdeal.τ).loc Cert.FirstWeightIdeal.main_arg0) = m ((c.tc : Thread Cert.FirstWeightIdeal.nD Cert.FirstWeightIdeal.τ).loc Cert.FirstWeightIdeal.main_arg0)
      ∧ r.2.mem ((c.tc : Thread Cert.FirstWeightIdeal.nD Cert.FirstWeightIdeal.τ).loc Cert.FirstWeightIdeal.main_arg1) = m ((c.tc : Thread Cert.FirstWeightIdeal.nD Cert.FirstWeightIdeal.τ).loc Cert.FirstWeightIdeal.main_arg1)
      ∧ r.2.mem ((c.tc : Thread Cert.FirstWeightIdeal.nD Cert.FirstWeightIdeal.τ).loc Cert.FirstWeightIdeal.main_arg2) = m ((c.tc : Thread Cert.FirstWeightIdeal.nD Cert.FirstWeightIdeal.τ).loc Cert.FirstWeightIdeal.main_arg2))
      ∧ r.2.sem = fun _ => 0)

def quiescent_FirstWeightIdeal_pre_separated1 [hFirstWeightIdeal : Cert.FirstWeightIdeal.Facts] [hPre_separated1 : Cert.Pre_separated1.Facts] : Prop :=
  ∀ (m : (ℓ : Loc Cert.FirstWeightIdeal.nD Cert.FirstWeightIdeal.τ Cert.FirstWeightIdeal.sig) → Buf (Elt Ideal) ℓ) (g : Dev Cert.FirstWeightIdeal.nD → PrngReg), Pre_FirstWeightIdeal_separated1 m →
    θ_run (Cert.FirstWeightIdeal.defs (F := Ideal)) (onTc (τ := Cert.FirstWeightIdeal.τ) (Cert.FirstWeightIdeal.main (F := Ideal))) ⟨m, fun _ => 0, g⟩ (fun r => (∀ c : Dev Cert.FirstWeightIdeal.nD,
      r.2.mem ((c.tc : Thread Cert.FirstWeightIdeal.nD Cert.FirstWeightIdeal.τ).loc Cert.FirstWeightIdeal.main_arg0) = m ((c.tc : Thread Cert.FirstWeightIdeal.nD Cert.FirstWeightIdeal.τ).loc Cert.FirstWeightIdeal.main_arg0)
      ∧ r.2.mem ((c.tc : Thread Cert.FirstWeightIdeal.nD Cert.FirstWeightIdeal.τ).loc Cert.FirstWeightIdeal.main_arg1) = m ((c.tc : Thread Cert.FirstWeightIdeal.nD Cert.FirstWeightIdeal.τ).loc Cert.FirstWeightIdeal.main_arg1)
      ∧ r.2.mem ((c.tc : Thread Cert.FirstWeightIdeal.nD Cert.FirstWeightIdeal.τ).loc Cert.FirstWeightIdeal.main_arg2) = m ((c.tc : Thread Cert.FirstWeightIdeal.nD Cert.FirstWeightIdeal.τ).loc Cert.FirstWeightIdeal.main_arg2))
      ∧ r.2.sem = fun _ => 0)

def quiescent_FirstWeightReferenceIdeal [hFirstWeightReferenceIdeal : Cert.FirstWeightReferenceIdeal.Facts] : Prop :=
  ∀ (m : (ℓ : Loc Cert.FirstWeightReferenceIdeal.nD Cert.FirstWeightReferenceIdeal.τ Cert.FirstWeightReferenceIdeal.sig) → Buf (Elt Ideal) ℓ) (g : Dev Cert.FirstWeightReferenceIdeal.nD → PrngReg), Pre_FirstWeightReferenceIdeal m →
    θ_run (Cert.FirstWeightReferenceIdeal.defs (F := Ideal)) (onTc (τ := Cert.FirstWeightReferenceIdeal.τ) (Cert.FirstWeightReferenceIdeal.main (F := Ideal))) ⟨m, fun _ => 0, g⟩ (fun r => (∀ c : Dev Cert.FirstWeightReferenceIdeal.nD,
      r.2.mem ((c.tc : Thread Cert.FirstWeightReferenceIdeal.nD Cert.FirstWeightReferenceIdeal.τ).loc Cert.FirstWeightReferenceIdeal.main_arg0) = m ((c.tc : Thread Cert.FirstWeightReferenceIdeal.nD Cert.FirstWeightReferenceIdeal.τ).loc Cert.FirstWeightReferenceIdeal.main_arg0)
      ∧ r.2.mem ((c.tc : Thread Cert.FirstWeightReferenceIdeal.nD Cert.FirstWeightReferenceIdeal.τ).loc Cert.FirstWeightReferenceIdeal.main_arg1) = m ((c.tc : Thread Cert.FirstWeightReferenceIdeal.nD Cert.FirstWeightReferenceIdeal.τ).loc Cert.FirstWeightReferenceIdeal.main_arg1)
      ∧ r.2.mem ((c.tc : Thread Cert.FirstWeightReferenceIdeal.nD Cert.FirstWeightReferenceIdeal.τ).loc Cert.FirstWeightReferenceIdeal.main_arg2) = m ((c.tc : Thread Cert.FirstWeightReferenceIdeal.nD Cert.FirstWeightReferenceIdeal.τ).loc Cert.FirstWeightReferenceIdeal.main_arg2))
      ∧ r.2.sem = fun _ => 0)

def quiescent_FirstWeightReferenceIdeal_pre_separated1 [hFirstWeightReferenceIdeal : Cert.FirstWeightReferenceIdeal.Facts] [hPre_separated1 : Cert.Pre_separated1.Facts] : Prop :=
  ∀ (m : (ℓ : Loc Cert.FirstWeightReferenceIdeal.nD Cert.FirstWeightReferenceIdeal.τ Cert.FirstWeightReferenceIdeal.sig) → Buf (Elt Ideal) ℓ) (g : Dev Cert.FirstWeightReferenceIdeal.nD → PrngReg), Pre_FirstWeightReferenceIdeal_separated1 m →
    θ_run (Cert.FirstWeightReferenceIdeal.defs (F := Ideal)) (onTc (τ := Cert.FirstWeightReferenceIdeal.τ) (Cert.FirstWeightReferenceIdeal.main (F := Ideal))) ⟨m, fun _ => 0, g⟩ (fun r => (∀ c : Dev Cert.FirstWeightReferenceIdeal.nD,
      r.2.mem ((c.tc : Thread Cert.FirstWeightReferenceIdeal.nD Cert.FirstWeightReferenceIdeal.τ).loc Cert.FirstWeightReferenceIdeal.main_arg0) = m ((c.tc : Thread Cert.FirstWeightReferenceIdeal.nD Cert.FirstWeightReferenceIdeal.τ).loc Cert.FirstWeightReferenceIdeal.main_arg0)
      ∧ r.2.mem ((c.tc : Thread Cert.FirstWeightReferenceIdeal.nD Cert.FirstWeightReferenceIdeal.τ).loc Cert.FirstWeightReferenceIdeal.main_arg1) = m ((c.tc : Thread Cert.FirstWeightReferenceIdeal.nD Cert.FirstWeightReferenceIdeal.τ).loc Cert.FirstWeightReferenceIdeal.main_arg1)
      ∧ r.2.mem ((c.tc : Thread Cert.FirstWeightReferenceIdeal.nD Cert.FirstWeightReferenceIdeal.τ).loc Cert.FirstWeightReferenceIdeal.main_arg2) = m ((c.tc : Thread Cert.FirstWeightReferenceIdeal.nD Cert.FirstWeightReferenceIdeal.τ).loc Cert.FirstWeightReferenceIdeal.main_arg2))
      ∧ r.2.sem = fun _ => 0)

def quiescent_SecondWeight [hSecondWeight : Cert.SecondWeight.Facts] : Prop :=
  ∀ (m : (ℓ : Loc Cert.SecondWeight.nD Cert.SecondWeight.τ Cert.SecondWeight.sig) → Buf (Elt Bits) ℓ) (g : Dev Cert.SecondWeight.nD → PrngReg), Pre_SecondWeight m →
    θ_run (Cert.SecondWeight.defs (F := Bits)) (onTc (τ := Cert.SecondWeight.τ) (Cert.SecondWeight.main (F := Bits))) ⟨m, fun _ => 0, g⟩ (fun r => (∀ c : Dev Cert.SecondWeight.nD,
      r.2.mem ((c.tc : Thread Cert.SecondWeight.nD Cert.SecondWeight.τ).loc Cert.SecondWeight.main_arg0) = m ((c.tc : Thread Cert.SecondWeight.nD Cert.SecondWeight.τ).loc Cert.SecondWeight.main_arg0)
      ∧ r.2.mem ((c.tc : Thread Cert.SecondWeight.nD Cert.SecondWeight.τ).loc Cert.SecondWeight.main_arg1) = m ((c.tc : Thread Cert.SecondWeight.nD Cert.SecondWeight.τ).loc Cert.SecondWeight.main_arg1)
      ∧ r.2.mem ((c.tc : Thread Cert.SecondWeight.nD Cert.SecondWeight.τ).loc Cert.SecondWeight.main_arg2) = m ((c.tc : Thread Cert.SecondWeight.nD Cert.SecondWeight.τ).loc Cert.SecondWeight.main_arg2))
      ∧ r.2.sem = fun _ => 0)

def quiescent_SecondWeightIdeal [hSecondWeightIdeal : Cert.SecondWeightIdeal.Facts] : Prop :=
  ∀ (m : (ℓ : Loc Cert.SecondWeightIdeal.nD Cert.SecondWeightIdeal.τ Cert.SecondWeightIdeal.sig) → Buf (Elt Ideal) ℓ) (g : Dev Cert.SecondWeightIdeal.nD → PrngReg), Pre_SecondWeightIdeal m →
    θ_run (Cert.SecondWeightIdeal.defs (F := Ideal)) (onTc (τ := Cert.SecondWeightIdeal.τ) (Cert.SecondWeightIdeal.main (F := Ideal))) ⟨m, fun _ => 0, g⟩ (fun r => (∀ c : Dev Cert.SecondWeightIdeal.nD,
      r.2.mem ((c.tc : Thread Cert.SecondWeightIdeal.nD Cert.SecondWeightIdeal.τ).loc Cert.SecondWeightIdeal.main_arg0) = m ((c.tc : Thread Cert.SecondWeightIdeal.nD Cert.SecondWeightIdeal.τ).loc Cert.SecondWeightIdeal.main_arg0)
      ∧ r.2.mem ((c.tc : Thread Cert.SecondWeightIdeal.nD Cert.SecondWeightIdeal.τ).loc Cert.SecondWeightIdeal.main_arg1) = m ((c.tc : Thread Cert.SecondWeightIdeal.nD Cert.SecondWeightIdeal.τ).loc Cert.SecondWeightIdeal.main_arg1)
      ∧ r.2.mem ((c.tc : Thread Cert.SecondWeightIdeal.nD Cert.SecondWeightIdeal.τ).loc Cert.SecondWeightIdeal.main_arg2) = m ((c.tc : Thread Cert.SecondWeightIdeal.nD Cert.SecondWeightIdeal.τ).loc Cert.SecondWeightIdeal.main_arg2))
      ∧ r.2.sem = fun _ => 0)

def quiescent_SecondWeightReferenceIdeal [hSecondWeightReferenceIdeal : Cert.SecondWeightReferenceIdeal.Facts] : Prop :=
  ∀ (m : (ℓ : Loc Cert.SecondWeightReferenceIdeal.nD Cert.SecondWeightReferenceIdeal.τ Cert.SecondWeightReferenceIdeal.sig) → Buf (Elt Ideal) ℓ) (g : Dev Cert.SecondWeightReferenceIdeal.nD → PrngReg), Pre_SecondWeightReferenceIdeal m →
    θ_run (Cert.SecondWeightReferenceIdeal.defs (F := Ideal)) (onTc (τ := Cert.SecondWeightReferenceIdeal.τ) (Cert.SecondWeightReferenceIdeal.main (F := Ideal))) ⟨m, fun _ => 0, g⟩ (fun r => (∀ c : Dev Cert.SecondWeightReferenceIdeal.nD,
      r.2.mem ((c.tc : Thread Cert.SecondWeightReferenceIdeal.nD Cert.SecondWeightReferenceIdeal.τ).loc Cert.SecondWeightReferenceIdeal.main_arg0) = m ((c.tc : Thread Cert.SecondWeightReferenceIdeal.nD Cert.SecondWeightReferenceIdeal.τ).loc Cert.SecondWeightReferenceIdeal.main_arg0)
      ∧ r.2.mem ((c.tc : Thread Cert.SecondWeightReferenceIdeal.nD Cert.SecondWeightReferenceIdeal.τ).loc Cert.SecondWeightReferenceIdeal.main_arg1) = m ((c.tc : Thread Cert.SecondWeightReferenceIdeal.nD Cert.SecondWeightReferenceIdeal.τ).loc Cert.SecondWeightReferenceIdeal.main_arg1)
      ∧ r.2.mem ((c.tc : Thread Cert.SecondWeightReferenceIdeal.nD Cert.SecondWeightReferenceIdeal.τ).loc Cert.SecondWeightReferenceIdeal.main_arg2) = m ((c.tc : Thread Cert.SecondWeightReferenceIdeal.nD Cert.SecondWeightReferenceIdeal.τ).loc Cert.SecondWeightReferenceIdeal.main_arg2))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1)
      ∧ r.2.mem ((c.tc : Thread Cert.InWeight.nD Cert.InWeight.τ).loc Cert.InWeight.main_arg2) = m ((c.tc : Thread Cert.InWeight.nD Cert.InWeight.τ).loc Cert.InWeight.main_arg2))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
      ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2))
      ∧ r.2.sem = fun _ => 0)

def quiescent_InWeightReferenceIdeal [hInWeightReferenceIdeal : Cert.InWeightReferenceIdeal.Facts] : Prop :=
  ∀ (m : (ℓ : Loc Cert.InWeightReferenceIdeal.nD Cert.InWeightReferenceIdeal.τ Cert.InWeightReferenceIdeal.sig) → Buf (Elt Ideal) ℓ) (g : Dev Cert.InWeightReferenceIdeal.nD → PrngReg), Pre_InWeightReferenceIdeal m →
    θ_run (Cert.InWeightReferenceIdeal.defs (F := Ideal)) (onTc (τ := Cert.InWeightReferenceIdeal.τ) (Cert.InWeightReferenceIdeal.main (F := Ideal))) ⟨m, fun _ => 0, g⟩ (fun r => (∀ c : Dev Cert.InWeightReferenceIdeal.nD,
      r.2.mem ((c.tc : Thread Cert.InWeightReferenceIdeal.nD Cert.InWeightReferenceIdeal.τ).loc Cert.InWeightReferenceIdeal.main_arg0) = m ((c.tc : Thread Cert.InWeightReferenceIdeal.nD Cert.InWeightReferenceIdeal.τ).loc Cert.InWeightReferenceIdeal.main_arg0)
      ∧ r.2.mem ((c.tc : Thread Cert.InWeightReferenceIdeal.nD Cert.InWeightReferenceIdeal.τ).loc Cert.InWeightReferenceIdeal.main_arg1) = m ((c.tc : Thread Cert.InWeightReferenceIdeal.nD Cert.InWeightReferenceIdeal.τ).loc Cert.InWeightReferenceIdeal.main_arg1)
      ∧ r.2.mem ((c.tc : Thread Cert.InWeightReferenceIdeal.nD Cert.InWeightReferenceIdeal.τ).loc Cert.InWeightReferenceIdeal.main_arg2) = m ((c.tc : Thread Cert.InWeightReferenceIdeal.nD Cert.InWeightReferenceIdeal.τ).loc Cert.InWeightReferenceIdeal.main_arg2))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1)
      ∧ r.2.mem ((c.tc : Thread Cert.OutWeight.nD Cert.OutWeight.τ).loc Cert.OutWeight.main_arg2) = m ((c.tc : Thread Cert.OutWeight.nD Cert.OutWeight.τ).loc Cert.OutWeight.main_arg2))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
      ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ r.2.sem = fun _ => 0)

def quiescent_OutWeightReferenceIdeal [hOutWeightReferenceIdeal : Cert.OutWeightReferenceIdeal.Facts] : Prop :=
  ∀ (m : (ℓ : Loc Cert.OutWeightReferenceIdeal.nD Cert.OutWeightReferenceIdeal.τ Cert.OutWeightReferenceIdeal.sig) → Buf (Elt Ideal) ℓ) (g : Dev Cert.OutWeightReferenceIdeal.nD → PrngReg), Pre_OutWeightReferenceIdeal m →
    θ_run (Cert.OutWeightReferenceIdeal.defs (F := Ideal)) (onTc (τ := Cert.OutWeightReferenceIdeal.τ) (Cert.OutWeightReferenceIdeal.main (F := Ideal))) ⟨m, fun _ => 0, g⟩ (fun r => (∀ c : Dev Cert.OutWeightReferenceIdeal.nD,
      r.2.mem ((c.tc : Thread Cert.OutWeightReferenceIdeal.nD Cert.OutWeightReferenceIdeal.τ).loc Cert.OutWeightReferenceIdeal.main_arg0) = m ((c.tc : Thread Cert.OutWeightReferenceIdeal.nD Cert.OutWeightReferenceIdeal.τ).loc Cert.OutWeightReferenceIdeal.main_arg0)
      ∧ r.2.mem ((c.tc : Thread Cert.OutWeightReferenceIdeal.nD Cert.OutWeightReferenceIdeal.τ).loc Cert.OutWeightReferenceIdeal.main_arg1) = m ((c.tc : Thread Cert.OutWeightReferenceIdeal.nD Cert.OutWeightReferenceIdeal.τ).loc Cert.OutWeightReferenceIdeal.main_arg1)
      ∧ r.2.mem ((c.tc : Thread Cert.OutWeightReferenceIdeal.nD Cert.OutWeightReferenceIdeal.τ).loc Cert.OutWeightReferenceIdeal.main_arg2) = m ((c.tc : Thread Cert.OutWeightReferenceIdeal.nD Cert.OutWeightReferenceIdeal.τ).loc Cert.OutWeightReferenceIdeal.main_arg2))
      ∧ r.2.sem = fun _ => 0)

def quiescent_Grouped [hGrouped : Cert.Grouped.Facts] : Prop :=
  ∀ (m : (ℓ : Loc Cert.Grouped.nD Cert.Grouped.τ Cert.Grouped.sig) → Buf (Elt Bits) ℓ) (g : Dev Cert.Grouped.nD → PrngReg), Pre_Grouped m →
    θ_run (Cert.Grouped.defs (F := Bits)) (onTc (τ := Cert.Grouped.τ) (Cert.Grouped.main (F := Bits))) ⟨m, fun _ => 0, g⟩ (fun r => (∀ c : Dev Cert.Grouped.nD,
      r.2.mem ((c.tc : Thread Cert.Grouped.nD Cert.Grouped.τ).loc Cert.Grouped.main_arg0) = m ((c.tc : Thread Cert.Grouped.nD Cert.Grouped.τ).loc Cert.Grouped.main_arg0)
      ∧ r.2.mem ((c.tc : Thread Cert.Grouped.nD Cert.Grouped.τ).loc Cert.Grouped.main_arg1) = m ((c.tc : Thread Cert.Grouped.nD Cert.Grouped.τ).loc Cert.Grouped.main_arg1)
      ∧ r.2.mem ((c.tc : Thread Cert.Grouped.nD Cert.Grouped.τ).loc Cert.Grouped.main_arg2) = m ((c.tc : Thread Cert.Grouped.nD Cert.Grouped.τ).loc Cert.Grouped.main_arg2)
      ∧ r.2.mem ((c.tc : Thread Cert.Grouped.nD Cert.Grouped.τ).loc Cert.Grouped.main_arg3) = m ((c.tc : Thread Cert.Grouped.nD Cert.Grouped.τ).loc Cert.Grouped.main_arg3))
      ∧ r.2.sem = fun _ => 0)

def quiescent_GroupedIdeal [hGroupedIdeal : Cert.GroupedIdeal.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
      ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3))
      ∧ r.2.sem = fun _ => 0)

def quiescent_GroupedIdeal_pre_finite1 [hGroupedIdeal : Cert.GroupedIdeal.Facts] [hPre_finite1 : Cert.Pre_finite1.Facts] : Prop :=
  ∀ (m : (ℓ : Loc Cert.GroupedIdeal.nD Cert.GroupedIdeal.τ Cert.GroupedIdeal.sig) → Buf (Elt Ideal) ℓ) (g : Dev Cert.GroupedIdeal.nD → PrngReg), Pre_GroupedIdeal_finite1 m →
    θ_run (Cert.GroupedIdeal.defs (F := Ideal)) (onTc (τ := Cert.GroupedIdeal.τ) (Cert.GroupedIdeal.main (F := Ideal))) ⟨m, fun _ => 0, g⟩ (fun r => (∀ c : Dev Cert.GroupedIdeal.nD,
      r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
      ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
      ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
      ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3))
      ∧ r.2.sem = fun _ => 0)

def quiescent_GroupedReferenceIdeal [hGroupedReferenceIdeal : Cert.GroupedReferenceIdeal.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2)
      ∧ r.2.mem ((c.tc : Thread Cert.GroupedReferenceIdeal.nD Cert.GroupedReferenceIdeal.τ).loc Cert.GroupedReferenceIdeal.main_arg3) = m ((c.tc : Thread Cert.GroupedReferenceIdeal.nD Cert.GroupedReferenceIdeal.τ).loc Cert.GroupedReferenceIdeal.main_arg3))
      ∧ r.2.sem = fun _ => 0)

def quiescent_GroupedReferenceIdeal_pre_finite1 [hGroupedReferenceIdeal : Cert.GroupedReferenceIdeal.Facts] [hPre_finite1 : Cert.Pre_finite1.Facts] : Prop :=
  ∀ (m : (ℓ : Loc Cert.GroupedReferenceIdeal.nD Cert.GroupedReferenceIdeal.τ Cert.GroupedReferenceIdeal.sig) → Buf (Elt Ideal) ℓ) (g : Dev Cert.GroupedReferenceIdeal.nD → PrngReg), Pre_GroupedReferenceIdeal_finite1 m →
    θ_run (Cert.GroupedReferenceIdeal.defs (F := Ideal)) (onTc (τ := Cert.GroupedReferenceIdeal.τ) (Cert.GroupedReferenceIdeal.main (F := Ideal))) ⟨m, fun _ => 0, g⟩ (fun r => (∀ c : Dev Cert.GroupedReferenceIdeal.nD,
      r.2.mem ((c.tc : Thread Cert.GroupedReferenceIdeal.nD Cert.GroupedReferenceIdeal.τ).loc Cert.GroupedReferenceIdeal.main_arg0) = m ((c.tc : Thread Cert.GroupedReferenceIdeal.nD Cert.GroupedReferenceIdeal.τ).loc Cert.GroupedReferenceIdeal.main_arg0)
      ∧ r.2.mem ((c.tc : Thread Cert.GroupedReferenceIdeal.nD Cert.GroupedReferenceIdeal.τ).loc Cert.GroupedReferenceIdeal.main_arg1) = m ((c.tc : Thread Cert.GroupedReferenceIdeal.nD Cert.GroupedReferenceIdeal.τ).loc Cert.GroupedReferenceIdeal.main_arg1)
      ∧ r.2.mem ((c.tc : Thread Cert.GroupedReferenceIdeal.nD Cert.GroupedReferenceIdeal.τ).loc Cert.GroupedReferenceIdeal.main_arg2) = m ((c.tc : Thread Cert.GroupedReferenceIdeal.nD Cert.GroupedReferenceIdeal.τ).loc Cert.GroupedReferenceIdeal.main_arg2)
      ∧ r.2.mem ((c.tc : Thread Cert.GroupedReferenceIdeal.nD Cert.GroupedReferenceIdeal.τ).loc Cert.GroupedReferenceIdeal.main_arg3) = m ((c.tc : Thread Cert.GroupedReferenceIdeal.nD Cert.GroupedReferenceIdeal.τ).loc Cert.GroupedReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2)
      ∧ r.2.mem ((c.tc : Thread Cert.UpReferenceIdeal.nD Cert.UpReferenceIdeal.τ).loc Cert.UpReferenceIdeal.main_arg3) = m ((c.tc : Thread Cert.UpReferenceIdeal.nD Cert.UpReferenceIdeal.τ).loc Cert.UpReferenceIdeal.main_arg3)
      ∧ r.2.mem ((c.tc : Thread Cert.UpReferenceIdeal.nD Cert.UpReferenceIdeal.τ).loc Cert.UpReferenceIdeal.main_arg4) = m ((c.tc : Thread Cert.UpReferenceIdeal.nD Cert.UpReferenceIdeal.τ).loc Cert.UpReferenceIdeal.main_arg4)
      ∧ r.2.mem ((c.tc : Thread Cert.UpReferenceIdeal.nD Cert.UpReferenceIdeal.τ).loc Cert.UpReferenceIdeal.main_arg5) = m ((c.tc : Thread Cert.UpReferenceIdeal.nD Cert.UpReferenceIdeal.τ).loc Cert.UpReferenceIdeal.main_arg5)
      ∧ r.2.mem ((c.tc : Thread Cert.UpReferenceIdeal.nD Cert.UpReferenceIdeal.τ).loc Cert.UpReferenceIdeal.main_arg6) = m ((c.tc : Thread Cert.UpReferenceIdeal.nD Cert.UpReferenceIdeal.τ).loc Cert.UpReferenceIdeal.main_arg6)
      ∧ r.2.mem ((c.tc : Thread Cert.UpReferenceIdeal.nD Cert.UpReferenceIdeal.τ).loc Cert.UpReferenceIdeal.main_arg7) = m ((c.tc : Thread Cert.UpReferenceIdeal.nD Cert.UpReferenceIdeal.τ).loc Cert.UpReferenceIdeal.main_arg7))
      ∧ r.2.sem = fun _ => 0)

def quiescent_QWeight [hQWeight : Cert.QWeight.Facts] : Prop :=
  ∀ (m : (ℓ : Loc Cert.QWeight.nD Cert.QWeight.τ Cert.QWeight.sig) → Buf (Elt Bits) ℓ) (g : Dev Cert.QWeight.nD → PrngReg), Pre_QWeight m →
    θ_run (Cert.QWeight.defs (F := Bits)) (onTc (τ := Cert.QWeight.τ) (Cert.QWeight.main (F := Bits))) ⟨m, fun _ => 0, g⟩ (fun r => (∀ c : Dev Cert.QWeight.nD,
      r.2.mem ((c.tc : Thread Cert.QWeight.nD Cert.QWeight.τ).loc Cert.QWeight.main_arg0) = m ((c.tc : Thread Cert.QWeight.nD Cert.QWeight.τ).loc Cert.QWeight.main_arg0)
      ∧ r.2.mem ((c.tc : Thread Cert.QWeight.nD Cert.QWeight.τ).loc Cert.QWeight.main_arg1) = m ((c.tc : Thread Cert.QWeight.nD Cert.QWeight.τ).loc Cert.QWeight.main_arg1)
      ∧ r.2.mem ((c.tc : Thread Cert.QWeight.nD Cert.QWeight.τ).loc Cert.QWeight.main_arg2) = m ((c.tc : Thread Cert.QWeight.nD Cert.QWeight.τ).loc Cert.QWeight.main_arg2))
      ∧ r.2.sem = fun _ => 0)

def quiescent_QWeightIdeal [hQWeightIdeal : Cert.QWeightIdeal.Facts] : Prop :=
  ∀ (m : (ℓ : Loc Cert.QWeightIdeal.nD Cert.QWeightIdeal.τ Cert.QWeightIdeal.sig) → Buf (Elt Ideal) ℓ) (g : Dev Cert.QWeightIdeal.nD → PrngReg), Pre_QWeightIdeal m →
    θ_run (Cert.QWeightIdeal.defs (F := Ideal)) (onTc (τ := Cert.QWeightIdeal.τ) (Cert.QWeightIdeal.main (F := Ideal))) ⟨m, fun _ => 0, g⟩ (fun r => (∀ c : Dev Cert.QWeightIdeal.nD,
      r.2.mem ((c.tc : Thread Cert.QWeightIdeal.nD Cert.QWeightIdeal.τ).loc Cert.QWeightIdeal.main_arg0) = m ((c.tc : Thread Cert.QWeightIdeal.nD Cert.QWeightIdeal.τ).loc Cert.QWeightIdeal.main_arg0)
      ∧ r.2.mem ((c.tc : Thread Cert.QWeightIdeal.nD Cert.QWeightIdeal.τ).loc Cert.QWeightIdeal.main_arg1) = m ((c.tc : Thread Cert.QWeightIdeal.nD Cert.QWeightIdeal.τ).loc Cert.QWeightIdeal.main_arg1)
      ∧ r.2.mem ((c.tc : Thread Cert.QWeightIdeal.nD Cert.QWeightIdeal.τ).loc Cert.QWeightIdeal.main_arg2) = m ((c.tc : Thread Cert.QWeightIdeal.nD Cert.QWeightIdeal.τ).loc Cert.QWeightIdeal.main_arg2))
      ∧ r.2.sem = fun _ => 0)

def quiescent_QWeightReferenceIdeal [hQWeightReferenceIdeal : Cert.QWeightReferenceIdeal.Facts] : Prop :=
  ∀ (m : (ℓ : Loc Cert.QWeightReferenceIdeal.nD Cert.QWeightReferenceIdeal.τ Cert.QWeightReferenceIdeal.sig) → Buf (Elt Ideal) ℓ) (g : Dev Cert.QWeightReferenceIdeal.nD → PrngReg), Pre_QWeightReferenceIdeal m →
    θ_run (Cert.QWeightReferenceIdeal.defs (F := Ideal)) (onTc (τ := Cert.QWeightReferenceIdeal.τ) (Cert.QWeightReferenceIdeal.main (F := Ideal))) ⟨m, fun _ => 0, g⟩ (fun r => (∀ c : Dev Cert.QWeightReferenceIdeal.nD,
      r.2.mem ((c.tc : Thread Cert.QWeightReferenceIdeal.nD Cert.QWeightReferenceIdeal.τ).loc Cert.QWeightReferenceIdeal.main_arg0) = m ((c.tc : Thread Cert.QWeightReferenceIdeal.nD Cert.QWeightReferenceIdeal.τ).loc Cert.QWeightReferenceIdeal.main_arg0)
      ∧ r.2.mem ((c.tc : Thread Cert.QWeightReferenceIdeal.nD Cert.QWeightReferenceIdeal.τ).loc Cert.QWeightReferenceIdeal.main_arg1) = m ((c.tc : Thread Cert.QWeightReferenceIdeal.nD Cert.QWeightReferenceIdeal.τ).loc Cert.QWeightReferenceIdeal.main_arg1)
      ∧ r.2.mem ((c.tc : Thread Cert.QWeightReferenceIdeal.nD Cert.QWeightReferenceIdeal.τ).loc Cert.QWeightReferenceIdeal.main_arg2) = m ((c.tc : Thread Cert.QWeightReferenceIdeal.nD Cert.QWeightReferenceIdeal.τ).loc Cert.QWeightReferenceIdeal.main_arg2))
      ∧ r.2.sem = fun _ => 0)

def quiescent_KWeight [hKWeight : Cert.KWeight.Facts] : Prop :=
  ∀ (m : (ℓ : Loc Cert.KWeight.nD Cert.KWeight.τ Cert.KWeight.sig) → Buf (Elt Bits) ℓ) (g : Dev Cert.KWeight.nD → PrngReg), Pre_KWeight m →
    θ_run (Cert.KWeight.defs (F := Bits)) (onTc (τ := Cert.KWeight.τ) (Cert.KWeight.main (F := Bits))) ⟨m, fun _ => 0, g⟩ (fun r => (∀ c : Dev Cert.KWeight.nD,
      r.2.mem ((c.tc : Thread Cert.KWeight.nD Cert.KWeight.τ).loc Cert.KWeight.main_arg0) = m ((c.tc : Thread Cert.KWeight.nD Cert.KWeight.τ).loc Cert.KWeight.main_arg0)
      ∧ r.2.mem ((c.tc : Thread Cert.KWeight.nD Cert.KWeight.τ).loc Cert.KWeight.main_arg1) = m ((c.tc : Thread Cert.KWeight.nD Cert.KWeight.τ).loc Cert.KWeight.main_arg1)
      ∧ r.2.mem ((c.tc : Thread Cert.KWeight.nD Cert.KWeight.τ).loc Cert.KWeight.main_arg2) = m ((c.tc : Thread Cert.KWeight.nD Cert.KWeight.τ).loc Cert.KWeight.main_arg2))
      ∧ r.2.sem = fun _ => 0)

def quiescent_KWeightIdeal [hKWeightIdeal : Cert.KWeightIdeal.Facts] : Prop :=
  ∀ (m : (ℓ : Loc Cert.KWeightIdeal.nD Cert.KWeightIdeal.τ Cert.KWeightIdeal.sig) → Buf (Elt Ideal) ℓ) (g : Dev Cert.KWeightIdeal.nD → PrngReg), Pre_KWeightIdeal m →
    θ_run (Cert.KWeightIdeal.defs (F := Ideal)) (onTc (τ := Cert.KWeightIdeal.τ) (Cert.KWeightIdeal.main (F := Ideal))) ⟨m, fun _ => 0, g⟩ (fun r => (∀ c : Dev Cert.KWeightIdeal.nD,
      r.2.mem ((c.tc : Thread Cert.KWeightIdeal.nD Cert.KWeightIdeal.τ).loc Cert.KWeightIdeal.main_arg0) = m ((c.tc : Thread Cert.KWeightIdeal.nD Cert.KWeightIdeal.τ).loc Cert.KWeightIdeal.main_arg0)
      ∧ r.2.mem ((c.tc : Thread Cert.KWeightIdeal.nD Cert.KWeightIdeal.τ).loc Cert.KWeightIdeal.main_arg1) = m ((c.tc : Thread Cert.KWeightIdeal.nD Cert.KWeightIdeal.τ).loc Cert.KWeightIdeal.main_arg1)
      ∧ r.2.mem ((c.tc : Thread Cert.KWeightIdeal.nD Cert.KWeightIdeal.τ).loc Cert.KWeightIdeal.main_arg2) = m ((c.tc : Thread Cert.KWeightIdeal.nD Cert.KWeightIdeal.τ).loc Cert.KWeightIdeal.main_arg2))
      ∧ r.2.sem = fun _ => 0)

def quiescent_KWeightReferenceIdeal [hKWeightReferenceIdeal : Cert.KWeightReferenceIdeal.Facts] : Prop :=
  ∀ (m : (ℓ : Loc Cert.KWeightReferenceIdeal.nD Cert.KWeightReferenceIdeal.τ Cert.KWeightReferenceIdeal.sig) → Buf (Elt Ideal) ℓ) (g : Dev Cert.KWeightReferenceIdeal.nD → PrngReg), Pre_KWeightReferenceIdeal m →
    θ_run (Cert.KWeightReferenceIdeal.defs (F := Ideal)) (onTc (τ := Cert.KWeightReferenceIdeal.τ) (Cert.KWeightReferenceIdeal.main (F := Ideal))) ⟨m, fun _ => 0, g⟩ (fun r => (∀ c : Dev Cert.KWeightReferenceIdeal.nD,
      r.2.mem ((c.tc : Thread Cert.KWeightReferenceIdeal.nD Cert.KWeightReferenceIdeal.τ).loc Cert.KWeightReferenceIdeal.main_arg0) = m ((c.tc : Thread Cert.KWeightReferenceIdeal.nD Cert.KWeightReferenceIdeal.τ).loc Cert.KWeightReferenceIdeal.main_arg0)
      ∧ r.2.mem ((c.tc : Thread Cert.KWeightReferenceIdeal.nD Cert.KWeightReferenceIdeal.τ).loc Cert.KWeightReferenceIdeal.main_arg1) = m ((c.tc : Thread Cert.KWeightReferenceIdeal.nD Cert.KWeightReferenceIdeal.τ).loc Cert.KWeightReferenceIdeal.main_arg1)
      ∧ r.2.mem ((c.tc : Thread Cert.KWeightReferenceIdeal.nD Cert.KWeightReferenceIdeal.τ).loc Cert.KWeightReferenceIdeal.main_arg2) = m ((c.tc : Thread Cert.KWeightReferenceIdeal.nD Cert.KWeightReferenceIdeal.τ).loc Cert.KWeightReferenceIdeal.main_arg2))
      ∧ r.2.sem = fun _ => 0)

def quiescent_VWeight [hVWeight : Cert.VWeight.Facts] : Prop :=
  ∀ (m : (ℓ : Loc Cert.VWeight.nD Cert.VWeight.τ Cert.VWeight.sig) → Buf (Elt Bits) ℓ) (g : Dev Cert.VWeight.nD → PrngReg), Pre_VWeight m →
    θ_run (Cert.VWeight.defs (F := Bits)) (onTc (τ := Cert.VWeight.τ) (Cert.VWeight.main (F := Bits))) ⟨m, fun _ => 0, g⟩ (fun r => (∀ c : Dev Cert.VWeight.nD,
      r.2.mem ((c.tc : Thread Cert.VWeight.nD Cert.VWeight.τ).loc Cert.VWeight.main_arg0) = m ((c.tc : Thread Cert.VWeight.nD Cert.VWeight.τ).loc Cert.VWeight.main_arg0)
      ∧ r.2.mem ((c.tc : Thread Cert.VWeight.nD Cert.VWeight.τ).loc Cert.VWeight.main_arg1) = m ((c.tc : Thread Cert.VWeight.nD Cert.VWeight.τ).loc Cert.VWeight.main_arg1)
      ∧ r.2.mem ((c.tc : Thread Cert.VWeight.nD Cert.VWeight.τ).loc Cert.VWeight.main_arg2) = m ((c.tc : Thread Cert.VWeight.nD Cert.VWeight.τ).loc Cert.VWeight.main_arg2))
      ∧ r.2.sem = fun _ => 0)

def quiescent_VWeightIdeal [hVWeightIdeal : Cert.VWeightIdeal.Facts] : Prop :=
  ∀ (m : (ℓ : Loc Cert.VWeightIdeal.nD Cert.VWeightIdeal.τ Cert.VWeightIdeal.sig) → Buf (Elt Ideal) ℓ) (g : Dev Cert.VWeightIdeal.nD → PrngReg), Pre_VWeightIdeal m →
    θ_run (Cert.VWeightIdeal.defs (F := Ideal)) (onTc (τ := Cert.VWeightIdeal.τ) (Cert.VWeightIdeal.main (F := Ideal))) ⟨m, fun _ => 0, g⟩ (fun r => (∀ c : Dev Cert.VWeightIdeal.nD,
      r.2.mem ((c.tc : Thread Cert.VWeightIdeal.nD Cert.VWeightIdeal.τ).loc Cert.VWeightIdeal.main_arg0) = m ((c.tc : Thread Cert.VWeightIdeal.nD Cert.VWeightIdeal.τ).loc Cert.VWeightIdeal.main_arg0)
      ∧ r.2.mem ((c.tc : Thread Cert.VWeightIdeal.nD Cert.VWeightIdeal.τ).loc Cert.VWeightIdeal.main_arg1) = m ((c.tc : Thread Cert.VWeightIdeal.nD Cert.VWeightIdeal.τ).loc Cert.VWeightIdeal.main_arg1)
      ∧ r.2.mem ((c.tc : Thread Cert.VWeightIdeal.nD Cert.VWeightIdeal.τ).loc Cert.VWeightIdeal.main_arg2) = m ((c.tc : Thread Cert.VWeightIdeal.nD Cert.VWeightIdeal.τ).loc Cert.VWeightIdeal.main_arg2))
      ∧ r.2.sem = fun _ => 0)

def quiescent_VWeightReferenceIdeal [hVWeightReferenceIdeal : Cert.VWeightReferenceIdeal.Facts] : Prop :=
  ∀ (m : (ℓ : Loc Cert.VWeightReferenceIdeal.nD Cert.VWeightReferenceIdeal.τ Cert.VWeightReferenceIdeal.sig) → Buf (Elt Ideal) ℓ) (g : Dev Cert.VWeightReferenceIdeal.nD → PrngReg), Pre_VWeightReferenceIdeal m →
    θ_run (Cert.VWeightReferenceIdeal.defs (F := Ideal)) (onTc (τ := Cert.VWeightReferenceIdeal.τ) (Cert.VWeightReferenceIdeal.main (F := Ideal))) ⟨m, fun _ => 0, g⟩ (fun r => (∀ c : Dev Cert.VWeightReferenceIdeal.nD,
      r.2.mem ((c.tc : Thread Cert.VWeightReferenceIdeal.nD Cert.VWeightReferenceIdeal.τ).loc Cert.VWeightReferenceIdeal.main_arg0) = m ((c.tc : Thread Cert.VWeightReferenceIdeal.nD Cert.VWeightReferenceIdeal.τ).loc Cert.VWeightReferenceIdeal.main_arg0)
      ∧ r.2.mem ((c.tc : Thread Cert.VWeightReferenceIdeal.nD Cert.VWeightReferenceIdeal.τ).loc Cert.VWeightReferenceIdeal.main_arg1) = m ((c.tc : Thread Cert.VWeightReferenceIdeal.nD Cert.VWeightReferenceIdeal.τ).loc Cert.VWeightReferenceIdeal.main_arg1)
      ∧ r.2.mem ((c.tc : Thread Cert.VWeightReferenceIdeal.nD Cert.VWeightReferenceIdeal.τ).loc Cert.VWeightReferenceIdeal.main_arg2) = m ((c.tc : Thread Cert.VWeightReferenceIdeal.nD Cert.VWeightReferenceIdeal.τ).loc Cert.VWeightReferenceIdeal.main_arg2))
      ∧ r.2.sem = fun _ => 0)

def preserves_Kernel_KernelIdeal : Prop :=
  IdealRules.named_const.Statement Cert.KernelIdeal.κ "scale_log2e" .f32 0x3E16C740#32 (((Real.sqrt 96)⁻¹ * (Real.log 2)⁻¹ : ℝ) : EReal)
  ∧ IdealRules.named_const.Statement Cert.KernelIdeal.κ "scale" .f32 0x3DD105EC#32 (((Real.sqrt 96)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v91_0)) (v1 : (c : Dev Cert.KernelIdeal.nD) → Buf (Elt Ideal) ((c.tc : Thread Cert.KernelIdeal.nD Cert.KernelIdeal.τ).loc Cert.KernelIdeal.main_v91_1)) (v2 : (c : Dev Cert.KernelIdeal.nD) → Buf (Elt Ideal) ((c.tc : Thread Cert.KernelIdeal.nD Cert.KernelIdeal.τ).loc Cert.KernelIdeal.main_v91_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91_0) = v0 c
          ∧ r.2.mem ((c.tc : Thread Cert.KernelIdeal.nD Cert.KernelIdeal.τ).loc Cert.KernelIdeal.main_v91_1) = v1 c
          ∧ r.2.mem ((c.tc : Thread Cert.KernelIdeal.nD Cert.KernelIdeal.τ).loc Cert.KernelIdeal.main_v91_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Mlp_MlpIdeal : Prop :=
  True

def algebraic_MlpIdeal_MlpReferenceIdeal_pre_separated [hMlpIdeal : Cert.MlpIdeal.Facts] [hMlpReferenceIdeal : Cert.MlpReferenceIdeal.Facts] [hPre_separated : Cert.Pre_separated.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_separated m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0)) (v1 : (c : Dev Cert.MlpIdeal.nD) → Buf (Elt Ideal) ((c.tc : Thread Cert.MlpIdeal.nD Cert.MlpIdeal.τ).loc Cert.MlpIdeal.main_v1)) (v2 : (c : Dev Cert.MlpIdeal.nD) → Buf (Elt Ideal) ((c.tc : Thread Cert.MlpIdeal.nD Cert.MlpIdeal.τ).loc Cert.MlpIdeal.main_v2)) (v3 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_v1) = v1 c
          ∧ r.2.mem ((c.tc : Thread Cert.MlpIdeal.nD Cert.MlpIdeal.τ).loc Cert.MlpIdeal.main_v2) = v2 c
          ∧ r.2.mem ((c.tc : Thread Cert.MlpIdeal.nD Cert.MlpIdeal.τ).loc Cert.MlpIdeal.main_v3) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v13) = v0 c
          ∧ r.2.mem ((c.tc : Thread Cert.MlpReferenceIdeal.nD Cert.MlpReferenceIdeal.τ).loc Cert.MlpReferenceIdeal.main_v11) = v1 c
          ∧ r.2.mem ((c.tc : Thread Cert.MlpReferenceIdeal.nD Cert.MlpReferenceIdeal.τ).loc Cert.MlpReferenceIdeal.main_v14) = v2 c
          ∧ r.2.mem ((c.tc : Thread Cert.MlpReferenceIdeal.nD Cert.MlpReferenceIdeal.τ).loc Cert.MlpReferenceIdeal.main_v19) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_FirstWeight_FirstWeightIdeal : Prop :=
  True

def algebraic_FirstWeightIdeal_FirstWeightReferenceIdeal_pre_separated1 [hFirstWeightIdeal : Cert.FirstWeightIdeal.Facts] [hFirstWeightReferenceIdeal : Cert.FirstWeightReferenceIdeal.Facts] [hPre_separated1 : Cert.Pre_separated1.Facts] : Prop :=
  ∀ (m : (ℓ : Loc Cert.FirstWeightIdeal.nD Cert.FirstWeightIdeal.τ Cert.FirstWeightIdeal.sig) → Buf (Elt Ideal) ℓ) (g : Dev Cert.FirstWeightIdeal.nD → PrngReg)
    (m' : (ℓ : Loc Cert.FirstWeightReferenceIdeal.nD Cert.FirstWeightReferenceIdeal.τ Cert.FirstWeightReferenceIdeal.sig) → Buf (Elt Ideal) ℓ) (g' : Dev Cert.FirstWeightReferenceIdeal.nD → PrngReg), Pre_FirstWeightIdeal_separated1 m →
    (∀ c : Dev Cert.FirstWeightIdeal.nD,
      m' ((c.tc : Thread Cert.FirstWeightReferenceIdeal.nD Cert.FirstWeightReferenceIdeal.τ).loc Cert.FirstWeightReferenceIdeal.main_arg0) = m ((c.tc : Thread Cert.FirstWeightIdeal.nD Cert.FirstWeightIdeal.τ).loc Cert.FirstWeightIdeal.main_arg0)
      ∧ m' ((c.tc : Thread Cert.FirstWeightReferenceIdeal.nD Cert.FirstWeightReferenceIdeal.τ).loc Cert.FirstWeightReferenceIdeal.main_arg1) = m ((c.tc : Thread Cert.FirstWeightIdeal.nD Cert.FirstWeightIdeal.τ).loc Cert.FirstWeightIdeal.main_arg1)
      ∧ m' ((c.tc : Thread Cert.FirstWeightReferenceIdeal.nD Cert.FirstWeightReferenceIdeal.τ).loc Cert.FirstWeightReferenceIdeal.main_arg2) = m ((c.tc : Thread Cert.FirstWeightIdeal.nD Cert.FirstWeightIdeal.τ).loc Cert.FirstWeightIdeal.main_arg2)) →
    ∃ (v0 : (c : Dev Cert.FirstWeightIdeal.nD) → Buf (Elt Ideal) ((c.tc : Thread Cert.FirstWeightIdeal.nD Cert.FirstWeightIdeal.τ).loc Cert.FirstWeightIdeal.main_v6)),
      θ_run (Cert.FirstWeightIdeal.defs (F := Ideal)) (onTc (τ := Cert.FirstWeightIdeal.τ) (Cert.FirstWeightIdeal.main (F := Ideal))) ⟨m, fun _ => 0, g⟩ (fun r => ∀ c : Dev Cert.FirstWeightIdeal.nD,
          r.2.mem ((c.tc : Thread Cert.FirstWeightIdeal.nD Cert.FirstWeightIdeal.τ).loc Cert.FirstWeightIdeal.main_v6) = v0 c
          ∧ r.2.mem ((c.tc : Thread Cert.FirstWeightIdeal.nD Cert.FirstWeightIdeal.τ).loc Cert.FirstWeightIdeal.main_arg0) = m ((c.tc : Thread Cert.FirstWeightIdeal.nD Cert.FirstWeightIdeal.τ).loc Cert.FirstWeightIdeal.main_arg0)
          ∧ r.2.mem ((c.tc : Thread Cert.FirstWeightIdeal.nD Cert.FirstWeightIdeal.τ).loc Cert.FirstWeightIdeal.main_arg1) = m ((c.tc : Thread Cert.FirstWeightIdeal.nD Cert.FirstWeightIdeal.τ).loc Cert.FirstWeightIdeal.main_arg1)
          ∧ r.2.mem ((c.tc : Thread Cert.FirstWeightIdeal.nD Cert.FirstWeightIdeal.τ).loc Cert.FirstWeightIdeal.main_arg2) = m ((c.tc : Thread Cert.FirstWeightIdeal.nD Cert.FirstWeightIdeal.τ).loc Cert.FirstWeightIdeal.main_arg2))
      ∧ θ_run (Cert.FirstWeightReferenceIdeal.defs (F := Ideal)) (onTc (τ := Cert.FirstWeightReferenceIdeal.τ) (Cert.FirstWeightReferenceIdeal.main (F := Ideal))) ⟨m', fun _ => 0, g'⟩ (fun r => ∀ c : Dev Cert.FirstWeightReferenceIdeal.nD,
          r.2.mem ((c.tc : Thread Cert.FirstWeightReferenceIdeal.nD Cert.FirstWeightReferenceIdeal.τ).loc Cert.FirstWeightReferenceIdeal.main_v16) = v0 c
          ∧ r.2.mem ((c.tc : Thread Cert.FirstWeightReferenceIdeal.nD Cert.FirstWeightReferenceIdeal.τ).loc Cert.FirstWeightReferenceIdeal.main_arg0) = m' ((c.tc : Thread Cert.FirstWeightReferenceIdeal.nD Cert.FirstWeightReferenceIdeal.τ).loc Cert.FirstWeightReferenceIdeal.main_arg0)
          ∧ r.2.mem ((c.tc : Thread Cert.FirstWeightReferenceIdeal.nD Cert.FirstWeightReferenceIdeal.τ).loc Cert.FirstWeightReferenceIdeal.main_arg1) = m' ((c.tc : Thread Cert.FirstWeightReferenceIdeal.nD Cert.FirstWeightReferenceIdeal.τ).loc Cert.FirstWeightReferenceIdeal.main_arg1)
          ∧ r.2.mem ((c.tc : Thread Cert.FirstWeightReferenceIdeal.nD Cert.FirstWeightReferenceIdeal.τ).loc Cert.FirstWeightReferenceIdeal.main_arg2) = m' ((c.tc : Thread Cert.FirstWeightReferenceIdeal.nD Cert.FirstWeightReferenceIdeal.τ).loc Cert.FirstWeightReferenceIdeal.main_arg2))

def preserves_SecondWeight_SecondWeightIdeal : Prop :=
  True

def algebraic_SecondWeightIdeal_SecondWeightReferenceIdeal [hSecondWeightIdeal : Cert.SecondWeightIdeal.Facts] [hSecondWeightReferenceIdeal : Cert.SecondWeightReferenceIdeal.Facts] : Prop :=
  ∀ (m : (ℓ : Loc Cert.SecondWeightIdeal.nD Cert.SecondWeightIdeal.τ Cert.SecondWeightIdeal.sig) → Buf (Elt Ideal) ℓ) (g : Dev Cert.SecondWeightIdeal.nD → PrngReg)
    (m' : (ℓ : Loc Cert.SecondWeightReferenceIdeal.nD Cert.SecondWeightReferenceIdeal.τ Cert.SecondWeightReferenceIdeal.sig) → Buf (Elt Ideal) ℓ) (g' : Dev Cert.SecondWeightReferenceIdeal.nD → PrngReg), Pre_SecondWeightIdeal m →
    (∀ c : Dev Cert.SecondWeightIdeal.nD,
      m' ((c.tc : Thread Cert.SecondWeightReferenceIdeal.nD Cert.SecondWeightReferenceIdeal.τ).loc Cert.SecondWeightReferenceIdeal.main_arg0) = m ((c.tc : Thread Cert.SecondWeightIdeal.nD Cert.SecondWeightIdeal.τ).loc Cert.SecondWeightIdeal.main_arg0)
      ∧ m' ((c.tc : Thread Cert.SecondWeightReferenceIdeal.nD Cert.SecondWeightReferenceIdeal.τ).loc Cert.SecondWeightReferenceIdeal.main_arg1) = m ((c.tc : Thread Cert.SecondWeightIdeal.nD Cert.SecondWeightIdeal.τ).loc Cert.SecondWeightIdeal.main_arg1)
      ∧ m' ((c.tc : Thread Cert.SecondWeightReferenceIdeal.nD Cert.SecondWeightReferenceIdeal.τ).loc Cert.SecondWeightReferenceIdeal.main_arg2) = m ((c.tc : Thread Cert.SecondWeightIdeal.nD Cert.SecondWeightIdeal.τ).loc Cert.SecondWeightIdeal.main_arg2)) →
    ∃ (v0 : (c : Dev Cert.SecondWeightIdeal.nD) → Buf (Elt Ideal) ((c.tc : Thread Cert.SecondWeightIdeal.nD Cert.SecondWeightIdeal.τ).loc Cert.SecondWeightIdeal.main_v0)),
      θ_run (Cert.SecondWeightIdeal.defs (F := Ideal)) (onTc (τ := Cert.SecondWeightIdeal.τ) (Cert.SecondWeightIdeal.main (F := Ideal))) ⟨m, fun _ => 0, g⟩ (fun r => ∀ c : Dev Cert.SecondWeightIdeal.nD,
          r.2.mem ((c.tc : Thread Cert.SecondWeightIdeal.nD Cert.SecondWeightIdeal.τ).loc Cert.SecondWeightIdeal.main_v0) = v0 c
          ∧ r.2.mem ((c.tc : Thread Cert.SecondWeightIdeal.nD Cert.SecondWeightIdeal.τ).loc Cert.SecondWeightIdeal.main_arg0) = m ((c.tc : Thread Cert.SecondWeightIdeal.nD Cert.SecondWeightIdeal.τ).loc Cert.SecondWeightIdeal.main_arg0)
          ∧ r.2.mem ((c.tc : Thread Cert.SecondWeightIdeal.nD Cert.SecondWeightIdeal.τ).loc Cert.SecondWeightIdeal.main_arg1) = m ((c.tc : Thread Cert.SecondWeightIdeal.nD Cert.SecondWeightIdeal.τ).loc Cert.SecondWeightIdeal.main_arg1)
          ∧ r.2.mem ((c.tc : Thread Cert.SecondWeightIdeal.nD Cert.SecondWeightIdeal.τ).loc Cert.SecondWeightIdeal.main_arg2) = m ((c.tc : Thread Cert.SecondWeightIdeal.nD Cert.SecondWeightIdeal.τ).loc Cert.SecondWeightIdeal.main_arg2))
      ∧ θ_run (Cert.SecondWeightReferenceIdeal.defs (F := Ideal)) (onTc (τ := Cert.SecondWeightReferenceIdeal.τ) (Cert.SecondWeightReferenceIdeal.main (F := Ideal))) ⟨m', fun _ => 0, g'⟩ (fun r => ∀ c : Dev Cert.SecondWeightReferenceIdeal.nD,
          r.2.mem ((c.tc : Thread Cert.SecondWeightReferenceIdeal.nD Cert.SecondWeightReferenceIdeal.τ).loc Cert.SecondWeightReferenceIdeal.main_v5) = v0 c
          ∧ r.2.mem ((c.tc : Thread Cert.SecondWeightReferenceIdeal.nD Cert.SecondWeightReferenceIdeal.τ).loc Cert.SecondWeightReferenceIdeal.main_arg0) = m' ((c.tc : Thread Cert.SecondWeightReferenceIdeal.nD Cert.SecondWeightReferenceIdeal.τ).loc Cert.SecondWeightReferenceIdeal.main_arg0)
          ∧ r.2.mem ((c.tc : Thread Cert.SecondWeightReferenceIdeal.nD Cert.SecondWeightReferenceIdeal.τ).loc Cert.SecondWeightReferenceIdeal.main_arg1) = m' ((c.tc : Thread Cert.SecondWeightReferenceIdeal.nD Cert.SecondWeightReferenceIdeal.τ).loc Cert.SecondWeightReferenceIdeal.main_arg1)
          ∧ r.2.mem ((c.tc : Thread Cert.SecondWeightReferenceIdeal.nD Cert.SecondWeightReferenceIdeal.τ).loc Cert.SecondWeightReferenceIdeal.main_arg2) = m' ((c.tc : Thread Cert.SecondWeightReferenceIdeal.nD Cert.SecondWeightReferenceIdeal.τ).loc Cert.SecondWeightReferenceIdeal.main_arg2))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)) →
    ∃ (v0 : (c : Dev Cert.MixIdeal.nD) → Buf (Elt Ideal) ((c.tc : Thread Cert.MixIdeal.nD Cert.MixIdeal.τ).loc Cert.MixIdeal.main_v0)) (v1 : (c : Dev Cert.MixIdeal.nD) → Buf (Elt Ideal) ((c.tc : Thread Cert.MixIdeal.nD Cert.MixIdeal.τ).loc Cert.MixIdeal.main_v1)) (v2 : (c : Dev Cert.MixIdeal.nD) → Buf (Elt Ideal) ((c.tc : Thread Cert.MixIdeal.nD Cert.MixIdeal.τ).loc Cert.MixIdeal.main_v2)) (v3 : (c : Dev Cert.MixIdeal.nD) → Buf (Elt Ideal) ((c.tc : Thread Cert.MixIdeal.nD Cert.MixIdeal.τ).loc Cert.MixIdeal.main_v3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_v1) = v1 c
          ∧ r.2.mem ((c.tc : Thread Cert.MixIdeal.nD Cert.MixIdeal.τ).loc Cert.MixIdeal.main_v2) = v2 c
          ∧ r.2.mem ((c.tc : Thread Cert.MixIdeal.nD Cert.MixIdeal.τ).loc Cert.MixIdeal.main_v3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v2) = v0 c
          ∧ r.2.mem ((c.tc : Thread Cert.MixReferenceIdeal.nD Cert.MixReferenceIdeal.τ).loc Cert.MixReferenceIdeal.main_v7) = v1 c
          ∧ r.2.mem ((c.tc : Thread Cert.MixReferenceIdeal.nD Cert.MixReferenceIdeal.τ).loc Cert.MixReferenceIdeal.main_v5) = v2 c
          ∧ r.2.mem ((c.tc : Thread Cert.MixReferenceIdeal.nD Cert.MixReferenceIdeal.τ).loc Cert.MixReferenceIdeal.main_v9) = v3 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5))

def preserves_InWeight_InWeightIdeal : Prop :=
  True

def algebraic_InWeightIdeal_InWeightReferenceIdeal [hInWeightIdeal : Cert.InWeightIdeal.Facts] [hInWeightReferenceIdeal : Cert.InWeightReferenceIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightReferenceIdeal.nD Cert.InWeightReferenceIdeal.τ Cert.InWeightReferenceIdeal.sig) → Buf (Elt Ideal) ℓ) (g' : Dev Cert.InWeightReferenceIdeal.nD → PrngReg), Pre_InWeightIdeal m →
    (∀ c : Dev Cert.InWeightIdeal.nD,
      m' ((c.tc : Thread Cert.InWeightReferenceIdeal.nD Cert.InWeightReferenceIdeal.τ).loc Cert.InWeightReferenceIdeal.main_arg0) = m ((c.tc : Thread Cert.InWeightIdeal.nD Cert.InWeightIdeal.τ).loc Cert.InWeightIdeal.main_arg0)
      ∧ m' ((c.tc : Thread Cert.InWeightReferenceIdeal.nD Cert.InWeightReferenceIdeal.τ).loc Cert.InWeightReferenceIdeal.main_arg1) = m ((c.tc : Thread Cert.InWeightIdeal.nD Cert.InWeightIdeal.τ).loc Cert.InWeightIdeal.main_arg1)
      ∧ m' ((c.tc : Thread Cert.InWeightReferenceIdeal.nD Cert.InWeightReferenceIdeal.τ).loc Cert.InWeightReferenceIdeal.main_arg2) = m ((c.tc : Thread Cert.InWeightIdeal.nD Cert.InWeightIdeal.τ).loc Cert.InWeightIdeal.main_arg2)) →
    ∃ (v0 : (c : Dev Cert.InWeightIdeal.nD) → Buf (Elt Ideal) ((c.tc : Thread Cert.InWeightIdeal.nD Cert.InWeightIdeal.τ).loc Cert.InWeightIdeal.main_v0)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1)
          ∧ r.2.mem ((c.tc : Thread Cert.InWeightIdeal.nD Cert.InWeightIdeal.τ).loc Cert.InWeightIdeal.main_arg2) = m ((c.tc : Thread Cert.InWeightIdeal.nD Cert.InWeightIdeal.τ).loc Cert.InWeightIdeal.main_arg2))
      ∧ θ_run (Cert.InWeightReferenceIdeal.defs (F := Ideal)) (onTc (τ := Cert.InWeightReferenceIdeal.τ) (Cert.InWeightReferenceIdeal.main (F := Ideal))) ⟨m', fun _ => 0, g'⟩ (fun r => ∀ c : Dev Cert.InWeightReferenceIdeal.nD,
          r.2.mem ((c.tc : Thread Cert.InWeightReferenceIdeal.nD Cert.InWeightReferenceIdeal.τ).loc Cert.InWeightReferenceIdeal.main_v5) = v0 c
          ∧ r.2.mem ((c.tc : Thread Cert.InWeightReferenceIdeal.nD Cert.InWeightReferenceIdeal.τ).loc Cert.InWeightReferenceIdeal.main_arg0) = m' ((c.tc : Thread Cert.InWeightReferenceIdeal.nD Cert.InWeightReferenceIdeal.τ).loc Cert.InWeightReferenceIdeal.main_arg0)
          ∧ r.2.mem ((c.tc : Thread Cert.InWeightReferenceIdeal.nD Cert.InWeightReferenceIdeal.τ).loc Cert.InWeightReferenceIdeal.main_arg1) = m' ((c.tc : Thread Cert.InWeightReferenceIdeal.nD Cert.InWeightReferenceIdeal.τ).loc Cert.InWeightReferenceIdeal.main_arg1)
          ∧ r.2.mem ((c.tc : Thread Cert.InWeightReferenceIdeal.nD Cert.InWeightReferenceIdeal.τ).loc Cert.InWeightReferenceIdeal.main_arg2) = m' ((c.tc : Thread Cert.InWeightReferenceIdeal.nD Cert.InWeightReferenceIdeal.τ).loc Cert.InWeightReferenceIdeal.main_arg2))

def preserves_OutWeight_OutWeightIdeal : Prop :=
  True

def algebraic_OutWeightIdeal_OutWeightReferenceIdeal [hOutWeightIdeal : Cert.OutWeightIdeal.Facts] [hOutWeightReferenceIdeal : Cert.OutWeightReferenceIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightReferenceIdeal.nD Cert.OutWeightReferenceIdeal.τ Cert.OutWeightReferenceIdeal.sig) → Buf (Elt Ideal) ℓ) (g' : Dev Cert.OutWeightReferenceIdeal.nD → PrngReg), Pre_OutWeightIdeal m →
    (∀ c : Dev Cert.OutWeightIdeal.nD,
      m' ((c.tc : Thread Cert.OutWeightReferenceIdeal.nD Cert.OutWeightReferenceIdeal.τ).loc Cert.OutWeightReferenceIdeal.main_arg0) = m ((c.tc : Thread Cert.OutWeightIdeal.nD Cert.OutWeightIdeal.τ).loc Cert.OutWeightIdeal.main_arg0)
      ∧ m' ((c.tc : Thread Cert.OutWeightReferenceIdeal.nD Cert.OutWeightReferenceIdeal.τ).loc Cert.OutWeightReferenceIdeal.main_arg1) = m ((c.tc : Thread Cert.OutWeightIdeal.nD Cert.OutWeightIdeal.τ).loc Cert.OutWeightIdeal.main_arg1)
      ∧ m' ((c.tc : Thread Cert.OutWeightReferenceIdeal.nD Cert.OutWeightReferenceIdeal.τ).loc Cert.OutWeightReferenceIdeal.main_arg2) = m ((c.tc : Thread Cert.OutWeightIdeal.nD Cert.OutWeightIdeal.τ).loc Cert.OutWeightIdeal.main_arg2)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1)
          ∧ r.2.mem ((c.tc : Thread Cert.OutWeightIdeal.nD Cert.OutWeightIdeal.τ).loc Cert.OutWeightIdeal.main_arg2) = m ((c.tc : Thread Cert.OutWeightIdeal.nD Cert.OutWeightIdeal.τ).loc Cert.OutWeightIdeal.main_arg2))
      ∧ θ_run (Cert.OutWeightReferenceIdeal.defs (F := Ideal)) (onTc (τ := Cert.OutWeightReferenceIdeal.τ) (Cert.OutWeightReferenceIdeal.main (F := Ideal))) ⟨m', fun _ => 0, g'⟩ (fun r => ∀ c : Dev Cert.OutWeightReferenceIdeal.nD,
          r.2.mem ((c.tc : Thread Cert.OutWeightReferenceIdeal.nD Cert.OutWeightReferenceIdeal.τ).loc Cert.OutWeightReferenceIdeal.main_v5) = v0 c
          ∧ r.2.mem ((c.tc : Thread Cert.OutWeightReferenceIdeal.nD Cert.OutWeightReferenceIdeal.τ).loc Cert.OutWeightReferenceIdeal.main_arg0) = m' ((c.tc : Thread Cert.OutWeightReferenceIdeal.nD Cert.OutWeightReferenceIdeal.τ).loc Cert.OutWeightReferenceIdeal.main_arg0)
          ∧ r.2.mem ((c.tc : Thread Cert.OutWeightReferenceIdeal.nD Cert.OutWeightReferenceIdeal.τ).loc Cert.OutWeightReferenceIdeal.main_arg1) = m' ((c.tc : Thread Cert.OutWeightReferenceIdeal.nD Cert.OutWeightReferenceIdeal.τ).loc Cert.OutWeightReferenceIdeal.main_arg1)
          ∧ r.2.mem ((c.tc : Thread Cert.OutWeightReferenceIdeal.nD Cert.OutWeightReferenceIdeal.τ).loc Cert.OutWeightReferenceIdeal.main_arg2) = m' ((c.tc : Thread Cert.OutWeightReferenceIdeal.nD Cert.OutWeightReferenceIdeal.τ).loc Cert.OutWeightReferenceIdeal.main_arg2))

def preserves_Grouped_GroupedIdeal : Prop :=
  IdealRules.named_const.Statement Cert.GroupedIdeal.κ "eighth_log2e" .f32 0x3E38AA3B#32 (((Real.sqrt 64)⁻¹ * (Real.log 2)⁻¹ : ℝ) : EReal)

def algebraic_GroupedIdeal_GroupedReferenceIdeal_pre_finite1 [hGroupedIdeal : Cert.GroupedIdeal.Facts] [hGroupedReferenceIdeal : Cert.GroupedReferenceIdeal.Facts] [hPre_finite1 : Cert.Pre_finite1.Facts] : Prop :=
  ∀ (m : (ℓ : Loc Cert.GroupedIdeal.nD Cert.GroupedIdeal.τ Cert.GroupedIdeal.sig) → Buf (Elt Ideal) ℓ) (g : Dev Cert.GroupedIdeal.nD → PrngReg)
    (m' : (ℓ : Loc Cert.GroupedReferenceIdeal.nD Cert.GroupedReferenceIdeal.τ Cert.GroupedReferenceIdeal.sig) → Buf (Elt Ideal) ℓ) (g' : Dev Cert.GroupedReferenceIdeal.nD → PrngReg), Pre_GroupedIdeal_finite1 m →
    (∀ c : Dev Cert.GroupedIdeal.nD,
      m' ((c.tc : Thread Cert.GroupedReferenceIdeal.nD Cert.GroupedReferenceIdeal.τ).loc Cert.GroupedReferenceIdeal.main_arg0) = m ((c.tc : Thread Cert.GroupedIdeal.nD Cert.GroupedIdeal.τ).loc Cert.GroupedIdeal.main_arg0)
      ∧ m' ((c.tc : Thread Cert.GroupedReferenceIdeal.nD Cert.GroupedReferenceIdeal.τ).loc Cert.GroupedReferenceIdeal.main_arg1) = m ((c.tc : Thread Cert.GroupedIdeal.nD Cert.GroupedIdeal.τ).loc Cert.GroupedIdeal.main_arg1)
      ∧ m' ((c.tc : Thread Cert.GroupedReferenceIdeal.nD Cert.GroupedReferenceIdeal.τ).loc Cert.GroupedReferenceIdeal.main_arg2) = m ((c.tc : Thread Cert.GroupedIdeal.nD Cert.GroupedIdeal.τ).loc Cert.GroupedIdeal.main_arg2)
      ∧ m' ((c.tc : Thread Cert.GroupedReferenceIdeal.nD Cert.GroupedReferenceIdeal.τ).loc Cert.GroupedReferenceIdeal.main_arg3) = m ((c.tc : Thread Cert.GroupedIdeal.nD Cert.GroupedIdeal.τ).loc Cert.GroupedIdeal.main_arg3)) →
    ∃ (v0 : (c : Dev Cert.GroupedIdeal.nD) → Buf (Elt Ideal) ((c.tc : Thread Cert.GroupedIdeal.nD Cert.GroupedIdeal.τ).loc Cert.GroupedIdeal.main_v97_0)) (v1 : (c : Dev Cert.GroupedIdeal.nD) → Buf (Elt Ideal) ((c.tc : Thread Cert.GroupedIdeal.nD Cert.GroupedIdeal.τ).loc Cert.GroupedIdeal.main_v97_1)) (v2 : (c : Dev Cert.GroupedIdeal.nD) → Buf (Elt Ideal) ((c.tc : Thread Cert.GroupedIdeal.nD Cert.GroupedIdeal.τ).loc Cert.GroupedIdeal.main_v97_2)),
      θ_run (Cert.GroupedIdeal.defs (F := Ideal)) (onTc (τ := Cert.GroupedIdeal.τ) (Cert.GroupedIdeal.main (F := Ideal))) ⟨m, fun _ => 0, g⟩ (fun r => ∀ c : Dev Cert.GroupedIdeal.nD,
          r.2.mem ((c.tc : Thread Cert.GroupedIdeal.nD Cert.GroupedIdeal.τ).loc Cert.GroupedIdeal.main_v97_0) = v0 c
          ∧ r.2.mem ((c.tc : Thread Cert.GroupedIdeal.nD Cert.GroupedIdeal.τ).loc Cert.GroupedIdeal.main_v97_1) = v1 c
          ∧ r.2.mem ((c.tc : Thread Cert.GroupedIdeal.nD Cert.GroupedIdeal.τ).loc Cert.GroupedIdeal.main_v97_2) = v2 c
          ∧ r.2.mem ((c.tc : Thread Cert.GroupedIdeal.nD Cert.GroupedIdeal.τ).loc Cert.GroupedIdeal.main_arg0) = m ((c.tc : Thread Cert.GroupedIdeal.nD Cert.GroupedIdeal.τ).loc Cert.GroupedIdeal.main_arg0)
          ∧ r.2.mem ((c.tc : Thread Cert.GroupedIdeal.nD Cert.GroupedIdeal.τ).loc Cert.GroupedIdeal.main_arg1) = m ((c.tc : Thread Cert.GroupedIdeal.nD Cert.GroupedIdeal.τ).loc Cert.GroupedIdeal.main_arg1)
          ∧ r.2.mem ((c.tc : Thread Cert.GroupedIdeal.nD Cert.GroupedIdeal.τ).loc Cert.GroupedIdeal.main_arg2) = m ((c.tc : Thread Cert.GroupedIdeal.nD Cert.GroupedIdeal.τ).loc Cert.GroupedIdeal.main_arg2)
          ∧ r.2.mem ((c.tc : Thread Cert.GroupedIdeal.nD Cert.GroupedIdeal.τ).loc Cert.GroupedIdeal.main_arg3) = m ((c.tc : Thread Cert.GroupedIdeal.nD Cert.GroupedIdeal.τ).loc Cert.GroupedIdeal.main_arg3))
      ∧ θ_run (Cert.GroupedReferenceIdeal.defs (F := Ideal)) (onTc (τ := Cert.GroupedReferenceIdeal.τ) (Cert.GroupedReferenceIdeal.main (F := Ideal))) ⟨m', fun _ => 0, g'⟩ (fun r => ∀ c : Dev Cert.GroupedReferenceIdeal.nD,
          r.2.mem ((c.tc : Thread Cert.GroupedReferenceIdeal.nD Cert.GroupedReferenceIdeal.τ).loc Cert.GroupedReferenceIdeal.main_v144) = v0 c
          ∧ r.2.mem ((c.tc : Thread Cert.GroupedReferenceIdeal.nD Cert.GroupedReferenceIdeal.τ).loc Cert.GroupedReferenceIdeal.main_v143) = v1 c
          ∧ r.2.mem ((c.tc : Thread Cert.GroupedReferenceIdeal.nD Cert.GroupedReferenceIdeal.τ).loc Cert.GroupedReferenceIdeal.main_v139) = v2 c
          ∧ r.2.mem ((c.tc : Thread Cert.GroupedReferenceIdeal.nD Cert.GroupedReferenceIdeal.τ).loc Cert.GroupedReferenceIdeal.main_arg0) = m' ((c.tc : Thread Cert.GroupedReferenceIdeal.nD Cert.GroupedReferenceIdeal.τ).loc Cert.GroupedReferenceIdeal.main_arg0)
          ∧ r.2.mem ((c.tc : Thread Cert.GroupedReferenceIdeal.nD Cert.GroupedReferenceIdeal.τ).loc Cert.GroupedReferenceIdeal.main_arg1) = m' ((c.tc : Thread Cert.GroupedReferenceIdeal.nD Cert.GroupedReferenceIdeal.τ).loc Cert.GroupedReferenceIdeal.main_arg1)
          ∧ r.2.mem ((c.tc : Thread Cert.GroupedReferenceIdeal.nD Cert.GroupedReferenceIdeal.τ).loc Cert.GroupedReferenceIdeal.main_arg2) = m' ((c.tc : Thread Cert.GroupedReferenceIdeal.nD Cert.GroupedReferenceIdeal.τ).loc Cert.GroupedReferenceIdeal.main_arg2)
          ∧ r.2.mem ((c.tc : Thread Cert.GroupedReferenceIdeal.nD Cert.GroupedReferenceIdeal.τ).loc Cert.GroupedReferenceIdeal.main_arg3) = m' ((c.tc : Thread Cert.GroupedReferenceIdeal.nD Cert.GroupedReferenceIdeal.τ).loc Cert.GroupedReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)
      ∧ m' ((c.tc : Thread Cert.UpReferenceIdeal.nD Cert.UpReferenceIdeal.τ).loc Cert.UpReferenceIdeal.main_arg3) = m ((c.tc : Thread Cert.UpIdeal.nD Cert.UpIdeal.τ).loc Cert.UpIdeal.main_arg3)
      ∧ m' ((c.tc : Thread Cert.UpReferenceIdeal.nD Cert.UpReferenceIdeal.τ).loc Cert.UpReferenceIdeal.main_arg4) = m ((c.tc : Thread Cert.UpIdeal.nD Cert.UpIdeal.τ).loc Cert.UpIdeal.main_arg4)
      ∧ m' ((c.tc : Thread Cert.UpReferenceIdeal.nD Cert.UpReferenceIdeal.τ).loc Cert.UpReferenceIdeal.main_arg5) = m ((c.tc : Thread Cert.UpIdeal.nD Cert.UpIdeal.τ).loc Cert.UpIdeal.main_arg5)
      ∧ m' ((c.tc : Thread Cert.UpReferenceIdeal.nD Cert.UpReferenceIdeal.τ).loc Cert.UpReferenceIdeal.main_arg6) = m ((c.tc : Thread Cert.UpIdeal.nD Cert.UpIdeal.τ).loc Cert.UpIdeal.main_arg6)
      ∧ m' ((c.tc : Thread Cert.UpReferenceIdeal.nD Cert.UpReferenceIdeal.τ).loc Cert.UpReferenceIdeal.main_arg7) = m ((c.tc : Thread Cert.UpIdeal.nD Cert.UpIdeal.τ).loc Cert.UpIdeal.main_arg7)) →
    ∃ (v0 : (c : Dev Cert.UpIdeal.nD) → Buf (Elt Ideal) ((c.tc : Thread Cert.UpIdeal.nD Cert.UpIdeal.τ).loc Cert.UpIdeal.main_v0)) (v1 : (c : Dev Cert.UpIdeal.nD) → Buf (Elt Ideal) ((c.tc : Thread Cert.UpIdeal.nD Cert.UpIdeal.τ).loc Cert.UpIdeal.main_v1)) (v2 : (c : Dev Cert.UpIdeal.nD) → Buf (Elt Ideal) ((c.tc : Thread Cert.UpIdeal.nD Cert.UpIdeal.τ).loc Cert.UpIdeal.main_v2)) (v3 : (c : Dev Cert.UpIdeal.nD) → Buf (Elt Ideal) ((c.tc : Thread Cert.UpIdeal.nD Cert.UpIdeal.τ).loc Cert.UpIdeal.main_v3)) (v4 : (c : Dev Cert.UpIdeal.nD) → Buf (Elt Ideal) ((c.tc : Thread Cert.UpIdeal.nD Cert.UpIdeal.τ).loc Cert.UpIdeal.main_v4)) (v5 : (c : Dev Cert.UpIdeal.nD) → Buf (Elt Ideal) ((c.tc : Thread Cert.UpIdeal.nD Cert.UpIdeal.τ).loc Cert.UpIdeal.main_v5)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_v1) = v1 c
          ∧ r.2.mem ((c.tc : Thread Cert.UpIdeal.nD Cert.UpIdeal.τ).loc Cert.UpIdeal.main_v2) = v2 c
          ∧ r.2.mem ((c.tc : Thread Cert.UpIdeal.nD Cert.UpIdeal.τ).loc Cert.UpIdeal.main_v3) = v3 c
          ∧ r.2.mem ((c.tc : Thread Cert.UpIdeal.nD Cert.UpIdeal.τ).loc Cert.UpIdeal.main_v4) = v4 c
          ∧ r.2.mem ((c.tc : Thread Cert.UpIdeal.nD Cert.UpIdeal.τ).loc Cert.UpIdeal.main_v5) = v5 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v2) = v0 c
          ∧ r.2.mem ((c.tc : Thread Cert.UpReferenceIdeal.nD Cert.UpReferenceIdeal.τ).loc Cert.UpReferenceIdeal.main_v11) = v1 c
          ∧ r.2.mem ((c.tc : Thread Cert.UpReferenceIdeal.nD Cert.UpReferenceIdeal.τ).loc Cert.UpReferenceIdeal.main_v5) = v2 c
          ∧ r.2.mem ((c.tc : Thread Cert.UpReferenceIdeal.nD Cert.UpReferenceIdeal.τ).loc Cert.UpReferenceIdeal.main_v13) = v3 c
          ∧ r.2.mem ((c.tc : Thread Cert.UpReferenceIdeal.nD Cert.UpReferenceIdeal.τ).loc Cert.UpReferenceIdeal.main_v9) = v4 c
          ∧ r.2.mem ((c.tc : Thread Cert.UpReferenceIdeal.nD Cert.UpReferenceIdeal.τ).loc Cert.UpReferenceIdeal.main_v16) = v5 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2)
          ∧ r.2.mem ((c.tc : Thread Cert.UpReferenceIdeal.nD Cert.UpReferenceIdeal.τ).loc Cert.UpReferenceIdeal.main_arg3) = m' ((c.tc : Thread Cert.UpReferenceIdeal.nD Cert.UpReferenceIdeal.τ).loc Cert.UpReferenceIdeal.main_arg3)
          ∧ r.2.mem ((c.tc : Thread Cert.UpReferenceIdeal.nD Cert.UpReferenceIdeal.τ).loc Cert.UpReferenceIdeal.main_arg4) = m' ((c.tc : Thread Cert.UpReferenceIdeal.nD Cert.UpReferenceIdeal.τ).loc Cert.UpReferenceIdeal.main_arg4)
          ∧ r.2.mem ((c.tc : Thread Cert.UpReferenceIdeal.nD Cert.UpReferenceIdeal.τ).loc Cert.UpReferenceIdeal.main_arg5) = m' ((c.tc : Thread Cert.UpReferenceIdeal.nD Cert.UpReferenceIdeal.τ).loc Cert.UpReferenceIdeal.main_arg5)
          ∧ r.2.mem ((c.tc : Thread Cert.UpReferenceIdeal.nD Cert.UpReferenceIdeal.τ).loc Cert.UpReferenceIdeal.main_arg6) = m' ((c.tc : Thread Cert.UpReferenceIdeal.nD Cert.UpReferenceIdeal.τ).loc Cert.UpReferenceIdeal.main_arg6)
          ∧ r.2.mem ((c.tc : Thread Cert.UpReferenceIdeal.nD Cert.UpReferenceIdeal.τ).loc Cert.UpReferenceIdeal.main_arg7) = m' ((c.tc : Thread Cert.UpReferenceIdeal.nD Cert.UpReferenceIdeal.τ).loc Cert.UpReferenceIdeal.main_arg7))

def preserves_QWeight_QWeightIdeal : Prop :=
  True

def algebraic_QWeightIdeal_QWeightReferenceIdeal [hQWeightIdeal : Cert.QWeightIdeal.Facts] [hQWeightReferenceIdeal : Cert.QWeightReferenceIdeal.Facts] : Prop :=
  ∀ (m : (ℓ : Loc Cert.QWeightIdeal.nD Cert.QWeightIdeal.τ Cert.QWeightIdeal.sig) → Buf (Elt Ideal) ℓ) (g : Dev Cert.QWeightIdeal.nD → PrngReg)
    (m' : (ℓ : Loc Cert.QWeightReferenceIdeal.nD Cert.QWeightReferenceIdeal.τ Cert.QWeightReferenceIdeal.sig) → Buf (Elt Ideal) ℓ) (g' : Dev Cert.QWeightReferenceIdeal.nD → PrngReg), Pre_QWeightIdeal m →
    (∀ c : Dev Cert.QWeightIdeal.nD,
      m' ((c.tc : Thread Cert.QWeightReferenceIdeal.nD Cert.QWeightReferenceIdeal.τ).loc Cert.QWeightReferenceIdeal.main_arg0) = m ((c.tc : Thread Cert.QWeightIdeal.nD Cert.QWeightIdeal.τ).loc Cert.QWeightIdeal.main_arg0)
      ∧ m' ((c.tc : Thread Cert.QWeightReferenceIdeal.nD Cert.QWeightReferenceIdeal.τ).loc Cert.QWeightReferenceIdeal.main_arg1) = m ((c.tc : Thread Cert.QWeightIdeal.nD Cert.QWeightIdeal.τ).loc Cert.QWeightIdeal.main_arg1)
      ∧ m' ((c.tc : Thread Cert.QWeightReferenceIdeal.nD Cert.QWeightReferenceIdeal.τ).loc Cert.QWeightReferenceIdeal.main_arg2) = m ((c.tc : Thread Cert.QWeightIdeal.nD Cert.QWeightIdeal.τ).loc Cert.QWeightIdeal.main_arg2)) →
    ∃ (v0 : (c : Dev Cert.QWeightIdeal.nD) → Buf (Elt Ideal) ((c.tc : Thread Cert.QWeightIdeal.nD Cert.QWeightIdeal.τ).loc Cert.QWeightIdeal.main_v0)),
      θ_run (Cert.QWeightIdeal.defs (F := Ideal)) (onTc (τ := Cert.QWeightIdeal.τ) (Cert.QWeightIdeal.main (F := Ideal))) ⟨m, fun _ => 0, g⟩ (fun r => ∀ c : Dev Cert.QWeightIdeal.nD,
          r.2.mem ((c.tc : Thread Cert.QWeightIdeal.nD Cert.QWeightIdeal.τ).loc Cert.QWeightIdeal.main_v0) = v0 c
          ∧ r.2.mem ((c.tc : Thread Cert.QWeightIdeal.nD Cert.QWeightIdeal.τ).loc Cert.QWeightIdeal.main_arg0) = m ((c.tc : Thread Cert.QWeightIdeal.nD Cert.QWeightIdeal.τ).loc Cert.QWeightIdeal.main_arg0)
          ∧ r.2.mem ((c.tc : Thread Cert.QWeightIdeal.nD Cert.QWeightIdeal.τ).loc Cert.QWeightIdeal.main_arg1) = m ((c.tc : Thread Cert.QWeightIdeal.nD Cert.QWeightIdeal.τ).loc Cert.QWeightIdeal.main_arg1)
          ∧ r.2.mem ((c.tc : Thread Cert.QWeightIdeal.nD Cert.QWeightIdeal.τ).loc Cert.QWeightIdeal.main_arg2) = m ((c.tc : Thread Cert.QWeightIdeal.nD Cert.QWeightIdeal.τ).loc Cert.QWeightIdeal.main_arg2))
      ∧ θ_run (Cert.QWeightReferenceIdeal.defs (F := Ideal)) (onTc (τ := Cert.QWeightReferenceIdeal.τ) (Cert.QWeightReferenceIdeal.main (F := Ideal))) ⟨m', fun _ => 0, g'⟩ (fun r => ∀ c : Dev Cert.QWeightReferenceIdeal.nD,
          r.2.mem ((c.tc : Thread Cert.QWeightReferenceIdeal.nD Cert.QWeightReferenceIdeal.τ).loc Cert.QWeightReferenceIdeal.main_v5) = v0 c
          ∧ r.2.mem ((c.tc : Thread Cert.QWeightReferenceIdeal.nD Cert.QWeightReferenceIdeal.τ).loc Cert.QWeightReferenceIdeal.main_arg0) = m' ((c.tc : Thread Cert.QWeightReferenceIdeal.nD Cert.QWeightReferenceIdeal.τ).loc Cert.QWeightReferenceIdeal.main_arg0)
          ∧ r.2.mem ((c.tc : Thread Cert.QWeightReferenceIdeal.nD Cert.QWeightReferenceIdeal.τ).loc Cert.QWeightReferenceIdeal.main_arg1) = m' ((c.tc : Thread Cert.QWeightReferenceIdeal.nD Cert.QWeightReferenceIdeal.τ).loc Cert.QWeightReferenceIdeal.main_arg1)
          ∧ r.2.mem ((c.tc : Thread Cert.QWeightReferenceIdeal.nD Cert.QWeightReferenceIdeal.τ).loc Cert.QWeightReferenceIdeal.main_arg2) = m' ((c.tc : Thread Cert.QWeightReferenceIdeal.nD Cert.QWeightReferenceIdeal.τ).loc Cert.QWeightReferenceIdeal.main_arg2))

def preserves_KWeight_KWeightIdeal : Prop :=
  True

def algebraic_KWeightIdeal_KWeightReferenceIdeal [hKWeightIdeal : Cert.KWeightIdeal.Facts] [hKWeightReferenceIdeal : Cert.KWeightReferenceIdeal.Facts] : Prop :=
  ∀ (m : (ℓ : Loc Cert.KWeightIdeal.nD Cert.KWeightIdeal.τ Cert.KWeightIdeal.sig) → Buf (Elt Ideal) ℓ) (g : Dev Cert.KWeightIdeal.nD → PrngReg)
    (m' : (ℓ : Loc Cert.KWeightReferenceIdeal.nD Cert.KWeightReferenceIdeal.τ Cert.KWeightReferenceIdeal.sig) → Buf (Elt Ideal) ℓ) (g' : Dev Cert.KWeightReferenceIdeal.nD → PrngReg), Pre_KWeightIdeal m →
    (∀ c : Dev Cert.KWeightIdeal.nD,
      m' ((c.tc : Thread Cert.KWeightReferenceIdeal.nD Cert.KWeightReferenceIdeal.τ).loc Cert.KWeightReferenceIdeal.main_arg0) = m ((c.tc : Thread Cert.KWeightIdeal.nD Cert.KWeightIdeal.τ).loc Cert.KWeightIdeal.main_arg0)
      ∧ m' ((c.tc : Thread Cert.KWeightReferenceIdeal.nD Cert.KWeightReferenceIdeal.τ).loc Cert.KWeightReferenceIdeal.main_arg1) = m ((c.tc : Thread Cert.KWeightIdeal.nD Cert.KWeightIdeal.τ).loc Cert.KWeightIdeal.main_arg1)
      ∧ m' ((c.tc : Thread Cert.KWeightReferenceIdeal.nD Cert.KWeightReferenceIdeal.τ).loc Cert.KWeightReferenceIdeal.main_arg2) = m ((c.tc : Thread Cert.KWeightIdeal.nD Cert.KWeightIdeal.τ).loc Cert.KWeightIdeal.main_arg2)) →
    ∃ (v0 : (c : Dev Cert.KWeightIdeal.nD) → Buf (Elt Ideal) ((c.tc : Thread Cert.KWeightIdeal.nD Cert.KWeightIdeal.τ).loc Cert.KWeightIdeal.main_v0)),
      θ_run (Cert.KWeightIdeal.defs (F := Ideal)) (onTc (τ := Cert.KWeightIdeal.τ) (Cert.KWeightIdeal.main (F := Ideal))) ⟨m, fun _ => 0, g⟩ (fun r => ∀ c : Dev Cert.KWeightIdeal.nD,
          r.2.mem ((c.tc : Thread Cert.KWeightIdeal.nD Cert.KWeightIdeal.τ).loc Cert.KWeightIdeal.main_v0) = v0 c
          ∧ r.2.mem ((c.tc : Thread Cert.KWeightIdeal.nD Cert.KWeightIdeal.τ).loc Cert.KWeightIdeal.main_arg0) = m ((c.tc : Thread Cert.KWeightIdeal.nD Cert.KWeightIdeal.τ).loc Cert.KWeightIdeal.main_arg0)
          ∧ r.2.mem ((c.tc : Thread Cert.KWeightIdeal.nD Cert.KWeightIdeal.τ).loc Cert.KWeightIdeal.main_arg1) = m ((c.tc : Thread Cert.KWeightIdeal.nD Cert.KWeightIdeal.τ).loc Cert.KWeightIdeal.main_arg1)
          ∧ r.2.mem ((c.tc : Thread Cert.KWeightIdeal.nD Cert.KWeightIdeal.τ).loc Cert.KWeightIdeal.main_arg2) = m ((c.tc : Thread Cert.KWeightIdeal.nD Cert.KWeightIdeal.τ).loc Cert.KWeightIdeal.main_arg2))
      ∧ θ_run (Cert.KWeightReferenceIdeal.defs (F := Ideal)) (onTc (τ := Cert.KWeightReferenceIdeal.τ) (Cert.KWeightReferenceIdeal.main (F := Ideal))) ⟨m', fun _ => 0, g'⟩ (fun r => ∀ c : Dev Cert.KWeightReferenceIdeal.nD,
          r.2.mem ((c.tc : Thread Cert.KWeightReferenceIdeal.nD Cert.KWeightReferenceIdeal.τ).loc Cert.KWeightReferenceIdeal.main_v5) = v0 c
          ∧ r.2.mem ((c.tc : Thread Cert.KWeightReferenceIdeal.nD Cert.KWeightReferenceIdeal.τ).loc Cert.KWeightReferenceIdeal.main_arg0) = m' ((c.tc : Thread Cert.KWeightReferenceIdeal.nD Cert.KWeightReferenceIdeal.τ).loc Cert.KWeightReferenceIdeal.main_arg0)
          ∧ r.2.mem ((c.tc : Thread Cert.KWeightReferenceIdeal.nD Cert.KWeightReferenceIdeal.τ).loc Cert.KWeightReferenceIdeal.main_arg1) = m' ((c.tc : Thread Cert.KWeightReferenceIdeal.nD Cert.KWeightReferenceIdeal.τ).loc Cert.KWeightReferenceIdeal.main_arg1)
          ∧ r.2.mem ((c.tc : Thread Cert.KWeightReferenceIdeal.nD Cert.KWeightReferenceIdeal.τ).loc Cert.KWeightReferenceIdeal.main_arg2) = m' ((c.tc : Thread Cert.KWeightReferenceIdeal.nD Cert.KWeightReferenceIdeal.τ).loc Cert.KWeightReferenceIdeal.main_arg2))

def preserves_VWeight_VWeightIdeal : Prop :=
  True

def algebraic_VWeightIdeal_VWeightReferenceIdeal [hVWeightIdeal : Cert.VWeightIdeal.Facts] [hVWeightReferenceIdeal : Cert.VWeightReferenceIdeal.Facts] : Prop :=
  ∀ (m : (ℓ : Loc Cert.VWeightIdeal.nD Cert.VWeightIdeal.τ Cert.VWeightIdeal.sig) → Buf (Elt Ideal) ℓ) (g : Dev Cert.VWeightIdeal.nD → PrngReg)
    (m' : (ℓ : Loc Cert.VWeightReferenceIdeal.nD Cert.VWeightReferenceIdeal.τ Cert.VWeightReferenceIdeal.sig) → Buf (Elt Ideal) ℓ) (g' : Dev Cert.VWeightReferenceIdeal.nD → PrngReg), Pre_VWeightIdeal m →
    (∀ c : Dev Cert.VWeightIdeal.nD,
      m' ((c.tc : Thread Cert.VWeightReferenceIdeal.nD Cert.VWeightReferenceIdeal.τ).loc Cert.VWeightReferenceIdeal.main_arg0) = m ((c.tc : Thread Cert.VWeightIdeal.nD Cert.VWeightIdeal.τ).loc Cert.VWeightIdeal.main_arg0)
      ∧ m' ((c.tc : Thread Cert.VWeightReferenceIdeal.nD Cert.VWeightReferenceIdeal.τ).loc Cert.VWeightReferenceIdeal.main_arg1) = m ((c.tc : Thread Cert.VWeightIdeal.nD Cert.VWeightIdeal.τ).loc Cert.VWeightIdeal.main_arg1)
      ∧ m' ((c.tc : Thread Cert.VWeightReferenceIdeal.nD Cert.VWeightReferenceIdeal.τ).loc Cert.VWeightReferenceIdeal.main_arg2) = m ((c.tc : Thread Cert.VWeightIdeal.nD Cert.VWeightIdeal.τ).loc Cert.VWeightIdeal.main_arg2)) →
    ∃ (v0 : (c : Dev Cert.VWeightIdeal.nD) → Buf (Elt Ideal) ((c.tc : Thread Cert.VWeightIdeal.nD Cert.VWeightIdeal.τ).loc Cert.VWeightIdeal.main_v0)),
      θ_run (Cert.VWeightIdeal.defs (F := Ideal)) (onTc (τ := Cert.VWeightIdeal.τ) (Cert.VWeightIdeal.main (F := Ideal))) ⟨m, fun _ => 0, g⟩ (fun r => ∀ c : Dev Cert.VWeightIdeal.nD,
          r.2.mem ((c.tc : Thread Cert.VWeightIdeal.nD Cert.VWeightIdeal.τ).loc Cert.VWeightIdeal.main_v0) = v0 c
          ∧ r.2.mem ((c.tc : Thread Cert.VWeightIdeal.nD Cert.VWeightIdeal.τ).loc Cert.VWeightIdeal.main_arg0) = m ((c.tc : Thread Cert.VWeightIdeal.nD Cert.VWeightIdeal.τ).loc Cert.VWeightIdeal.main_arg0)
          ∧ r.2.mem ((c.tc : Thread Cert.VWeightIdeal.nD Cert.VWeightIdeal.τ).loc Cert.VWeightIdeal.main_arg1) = m ((c.tc : Thread Cert.VWeightIdeal.nD Cert.VWeightIdeal.τ).loc Cert.VWeightIdeal.main_arg1)
          ∧ r.2.mem ((c.tc : Thread Cert.VWeightIdeal.nD Cert.VWeightIdeal.τ).loc Cert.VWeightIdeal.main_arg2) = m ((c.tc : Thread Cert.VWeightIdeal.nD Cert.VWeightIdeal.τ).loc Cert.VWeightIdeal.main_arg2))
      ∧ θ_run (Cert.VWeightReferenceIdeal.defs (F := Ideal)) (onTc (τ := Cert.VWeightReferenceIdeal.τ) (Cert.VWeightReferenceIdeal.main (F := Ideal))) ⟨m', fun _ => 0, g'⟩ (fun r => ∀ c : Dev Cert.VWeightReferenceIdeal.nD,
          r.2.mem ((c.tc : Thread Cert.VWeightReferenceIdeal.nD Cert.VWeightReferenceIdeal.τ).loc Cert.VWeightReferenceIdeal.main_v7) = v0 c
          ∧ r.2.mem ((c.tc : Thread Cert.VWeightReferenceIdeal.nD Cert.VWeightReferenceIdeal.τ).loc Cert.VWeightReferenceIdeal.main_arg0) = m' ((c.tc : Thread Cert.VWeightReferenceIdeal.nD Cert.VWeightReferenceIdeal.τ).loc Cert.VWeightReferenceIdeal.main_arg0)
          ∧ r.2.mem ((c.tc : Thread Cert.VWeightReferenceIdeal.nD Cert.VWeightReferenceIdeal.τ).loc Cert.VWeightReferenceIdeal.main_arg1) = m' ((c.tc : Thread Cert.VWeightReferenceIdeal.nD Cert.VWeightReferenceIdeal.τ).loc Cert.VWeightReferenceIdeal.main_arg1)
          ∧ r.2.mem ((c.tc : Thread Cert.VWeightReferenceIdeal.nD Cert.VWeightReferenceIdeal.τ).loc Cert.VWeightReferenceIdeal.main_arg2) = m' ((c.tc : Thread Cert.VWeightReferenceIdeal.nD Cert.VWeightReferenceIdeal.τ).loc Cert.VWeightReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hFirstWeight : Cert.FirstWeight.Facts) (hFirstWeightIdeal : Cert.FirstWeightIdeal.Facts) (hFirstWeightReferenceIdeal : Cert.FirstWeightReferenceIdeal.Facts) (hSecondWeight : Cert.SecondWeight.Facts) (hSecondWeightIdeal : Cert.SecondWeightIdeal.Facts) (hSecondWeightReferenceIdeal : Cert.SecondWeightReferenceIdeal.Facts) (hMix : Cert.Mix.Facts) (hMixIdeal : Cert.MixIdeal.Facts) (hMixReferenceIdeal : Cert.MixReferenceIdeal.Facts) (hInWeight : Cert.InWeight.Facts) (hInWeightIdeal : Cert.InWeightIdeal.Facts) (hInWeightReferenceIdeal : Cert.InWeightReferenceIdeal.Facts) (hOutWeight : Cert.OutWeight.Facts) (hOutWeightIdeal : Cert.OutWeightIdeal.Facts) (hOutWeightReferenceIdeal : Cert.OutWeightReferenceIdeal.Facts) (hGrouped : Cert.Grouped.Facts) (hGroupedIdeal : Cert.GroupedIdeal.Facts) (hGroupedReferenceIdeal : Cert.GroupedReferenceIdeal.Facts) (hUp : Cert.Up.Facts) (hUpIdeal : Cert.UpIdeal.Facts) (hUpReferenceIdeal : Cert.UpReferenceIdeal.Facts) (hQWeight : Cert.QWeight.Facts) (hQWeightIdeal : Cert.QWeightIdeal.Facts) (hQWeightReferenceIdeal : Cert.QWeightReferenceIdeal.Facts) (hKWeight : Cert.KWeight.Facts) (hKWeightIdeal : Cert.KWeightIdeal.Facts) (hKWeightReferenceIdeal : Cert.KWeightReferenceIdeal.Facts) (hVWeight : Cert.VWeight.Facts) (hVWeightIdeal : Cert.VWeightIdeal.Facts) (hVWeightReferenceIdeal : Cert.VWeightReferenceIdeal.Facts) (hPre_finite : Cert.Pre_finite.Facts) (hPre_separated : Cert.Pre_separated.Facts) (hPre_separated1 : Cert.Pre_separated1.Facts) (hPre_finite1 : Cert.Pre_finite1.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mlp (hMlp := hMlp)
    ∧ quiescent_MlpIdeal (hMlpIdeal := hMlpIdeal)
    ∧ quiescent_MlpIdeal_pre_separated (hMlpIdeal := hMlpIdeal) (hPre_separated := hPre_separated)
    ∧ quiescent_MlpReferenceIdeal (hMlpReferenceIdeal := hMlpReferenceIdeal)
    ∧ quiescent_MlpReferenceIdeal_pre_separated (hMlpReferenceIdeal := hMlpReferenceIdeal) (hPre_separated := hPre_separated)
    ∧ quiescent_FirstWeight (hFirstWeight := hFirstWeight)
    ∧ quiescent_FirstWeightIdeal (hFirstWeightIdeal := hFirstWeightIdeal)
    ∧ quiescent_FirstWeightIdeal_pre_separated1 (hFirstWeightIdeal := hFirstWeightIdeal) (hPre_separated1 := hPre_separated1)
    ∧ quiescent_FirstWeightReferenceIdeal (hFirstWeightReferenceIdeal := hFirstWeightReferenceIdeal)
    ∧ quiescent_FirstWeightReferenceIdeal_pre_separated1 (hFirstWeightReferenceIdeal := hFirstWeightReferenceIdeal) (hPre_separated1 := hPre_separated1)
    ∧ quiescent_SecondWeight (hSecondWeight := hSecondWeight)
    ∧ quiescent_SecondWeightIdeal (hSecondWeightIdeal := hSecondWeightIdeal)
    ∧ quiescent_SecondWeightReferenceIdeal (hSecondWeightReferenceIdeal := hSecondWeightReferenceIdeal)
    ∧ quiescent_Mix (hMix := hMix)
    ∧ quiescent_MixIdeal (hMixIdeal := hMixIdeal)
    ∧ quiescent_MixReferenceIdeal (hMixReferenceIdeal := hMixReferenceIdeal)
    ∧ quiescent_InWeight (hInWeight := hInWeight)
    ∧ quiescent_InWeightIdeal (hInWeightIdeal := hInWeightIdeal)
    ∧ quiescent_InWeightReferenceIdeal (hInWeightReferenceIdeal := hInWeightReferenceIdeal)
    ∧ quiescent_OutWeight (hOutWeight := hOutWeight)
    ∧ quiescent_OutWeightIdeal (hOutWeightIdeal := hOutWeightIdeal)
    ∧ quiescent_OutWeightReferenceIdeal (hOutWeightReferenceIdeal := hOutWeightReferenceIdeal)
    ∧ quiescent_Grouped (hGrouped := hGrouped)
    ∧ quiescent_GroupedIdeal (hGroupedIdeal := hGroupedIdeal)
    ∧ quiescent_GroupedIdeal_pre_finite1 (hGroupedIdeal := hGroupedIdeal) (hPre_finite1 := hPre_finite1)
    ∧ quiescent_GroupedReferenceIdeal (hGroupedReferenceIdeal := hGroupedReferenceIdeal)
    ∧ quiescent_GroupedReferenceIdeal_pre_finite1 (hGroupedReferenceIdeal := hGroupedReferenceIdeal) (hPre_finite1 := hPre_finite1)
    ∧ quiescent_Up (hUp := hUp)
    ∧ quiescent_UpIdeal (hUpIdeal := hUpIdeal)
    ∧ quiescent_UpReferenceIdeal (hUpReferenceIdeal := hUpReferenceIdeal)
    ∧ quiescent_QWeight (hQWeight := hQWeight)
    ∧ quiescent_QWeightIdeal (hQWeightIdeal := hQWeightIdeal)
    ∧ quiescent_QWeightReferenceIdeal (hQWeightReferenceIdeal := hQWeightReferenceIdeal)
    ∧ quiescent_KWeight (hKWeight := hKWeight)
    ∧ quiescent_KWeightIdeal (hKWeightIdeal := hKWeightIdeal)
    ∧ quiescent_KWeightReferenceIdeal (hKWeightReferenceIdeal := hKWeightReferenceIdeal)
    ∧ quiescent_VWeight (hVWeight := hVWeight)
    ∧ quiescent_VWeightIdeal (hVWeightIdeal := hVWeightIdeal)
    ∧ quiescent_VWeightReferenceIdeal (hVWeightReferenceIdeal := hVWeightReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mlp_MlpIdeal
    ∧ algebraic_MlpIdeal_MlpReferenceIdeal_pre_separated (hMlpIdeal := hMlpIdeal) (hMlpReferenceIdeal := hMlpReferenceIdeal) (hPre_separated := hPre_separated)
    ∧ preserves_FirstWeight_FirstWeightIdeal
    ∧ algebraic_FirstWeightIdeal_FirstWeightReferenceIdeal_pre_separated1 (hFirstWeightIdeal := hFirstWeightIdeal) (hFirstWeightReferenceIdeal := hFirstWeightReferenceIdeal) (hPre_separated1 := hPre_separated1)
    ∧ preserves_SecondWeight_SecondWeightIdeal
    ∧ algebraic_SecondWeightIdeal_SecondWeightReferenceIdeal (hSecondWeightIdeal := hSecondWeightIdeal) (hSecondWeightReferenceIdeal := hSecondWeightReferenceIdeal)
    ∧ preserves_Mix_MixIdeal
    ∧ algebraic_MixIdeal_MixReferenceIdeal (hMixIdeal := hMixIdeal) (hMixReferenceIdeal := hMixReferenceIdeal)
    ∧ preserves_InWeight_InWeightIdeal
    ∧ algebraic_InWeightIdeal_InWeightReferenceIdeal (hInWeightIdeal := hInWeightIdeal) (hInWeightReferenceIdeal := hInWeightReferenceIdeal)
    ∧ preserves_OutWeight_OutWeightIdeal
    ∧ algebraic_OutWeightIdeal_OutWeightReferenceIdeal (hOutWeightIdeal := hOutWeightIdeal) (hOutWeightReferenceIdeal := hOutWeightReferenceIdeal)
    ∧ preserves_Grouped_GroupedIdeal
    ∧ algebraic_GroupedIdeal_GroupedReferenceIdeal_pre_finite1 (hGroupedIdeal := hGroupedIdeal) (hGroupedReferenceIdeal := hGroupedReferenceIdeal) (hPre_finite1 := hPre_finite1)
    ∧ preserves_Up_UpIdeal
    ∧ algebraic_UpIdeal_UpReferenceIdeal (hUpIdeal := hUpIdeal) (hUpReferenceIdeal := hUpReferenceIdeal)
    ∧ preserves_QWeight_QWeightIdeal
    ∧ algebraic_QWeightIdeal_QWeightReferenceIdeal (hQWeightIdeal := hQWeightIdeal) (hQWeightReferenceIdeal := hQWeightReferenceIdeal)
    ∧ preserves_KWeight_KWeightIdeal
    ∧ algebraic_KWeightIdeal_KWeightReferenceIdeal (hKWeightIdeal := hKWeightIdeal) (hKWeightReferenceIdeal := hKWeightReferenceIdeal)
    ∧ preserves_VWeight_VWeightIdeal
    ∧ algebraic_VWeightIdeal_VWeightReferenceIdeal (hVWeightIdeal := hVWeightIdeal) (hVWeightReferenceIdeal := hVWeightReferenceIdeal)
-- ==== Pre_finite.lean ====
abbrev S8704x512 : Shape := ⟨2, ![8704, 512]⟩
abbrev S8704x256 : Shape := ⟨2, ![8704, 256]⟩
abbrev S_ : Shape := ⟨0, ![]⟩

class Facts : Prop where
  bcast_S_S8704x512 : S_.BroadcastsInDim S8704x512 (![] : Fin 0 → Fin S8704x512.rank)
  reducesTo_S8704x512_S_d0_1 : S8704x512.ReducesTo [0, 1] S_
  h_S_ : 0 < S_.numel
  bitsLt_bf16_f32 : FTy.bits .bf16 < FTy.bits .f32
  bcast_S_S8704x256 : S_.BroadcastsInDim S8704x256 (![] : Fin 0 → Fin S8704x256.rank)
  reducesTo_S8704x256_S_d0_1 : S8704x256.ReducesTo [0, 1] S_

variable [Facts]

def fn_part1 {F : FTy → Type} [FloatOps F] (main_v15 : IVec S_ 1) (main_v17 : FVec F S8704x256 .f32) : IVec S_ 1 :=
  let main_cst_4 : FVec F S_ .f32 := constant S_ .f32 0x7F800000#32
  let main_v18 : FVec F S8704x256 .f32 := broadcastInDim S8704x256 ![] bcast_S_S8704x256 main_cst_4
  let main_v19 : IVec S8704x256 1 := cmpf .olt main_v17 main_v18
  let main_c_5 : IVec S_ 1 := constantI S_ 1 1#1
  let main_v20 : IVec S_ 1 := (fun x v => Host.reduce IntOp.andi x v reducesTo_S8704x256_S_d0_1 h_S_) main_v19 main_c_5
  let main_v21 : IVec S_ 1 := andi main_v15 main_v20
  main_v21

def fn {F : FTy → Type} [FloatOps F] (main_arg0 : FVec F S8704x512 .f32) (main_arg1 : FVec F S8704x512 .bf16) (main_arg2 : FVec F S8704x256 .bf16) (main_arg3 : FVec F S8704x256 .bf16) : IVec S_ 1 :=
  let main_v0 : FVec F S8704x512 .f32 := Host.absf main_arg0
  let main_cst : FVec F S_ .f32 := constant S_ .f32 0x7F800000#32
  let main_v1 : FVec F S8704x512 .f32 := broadcastInDim S8704x512 ![] bcast_S_S8704x512 main_cst
  let main_v2 : IVec S8704x512 1 := cmpf .olt main_v0 main_v1
  let main_c : IVec S_ 1 := constantI S_ 1 1#1
  let main_v3 : IVec S_ 1 := (fun x v => Host.reduce IntOp.andi x v reducesTo_S8704x512_S_d0_1 h_S_) main_v2 main_c
  let main_v4 : FVec F S8704x512 .f32 := (extf .f32 · bitsLt_bf16_f32) main_arg1
  let main_v5 : FVec F S8704x512 .f32 := Host.absf main_v4
  let main_cst_0 : FVec F S_ .f32 := constant S_ .f32 0x7F800000#32
  let main_v6 : FVec F S8704x512 .f32 := broadcastInDim S8704x512 ![] bcast_S_S8704x512 main_cst_0
  let main_v7 : IVec S8704x512 1 := cmpf .olt main_v5 main_v6
  let main_c_1 : IVec S_ 1 := constantI S_ 1 1#1
  let main_v8 : IVec S_ 1 := (fun x v => Host.reduce IntOp.andi x v reducesTo_S8704x512_S_d0_1 h_S_) main_v7 main_c_1
  let main_v9 : IVec S_ 1 := andi main_v3 main_v8
  let main_v10 : FVec F S8704x256 .f32 := (extf .f32 · bitsLt_bf16_f32) main_arg2
  let main_v11 : FVec F S8704x256 .f32 := Host.absf main_v10
  let main_cst_2 : FVec F S_ .f32 := constant S_ .f32 0x7F800000#32
  let main_v12 : FVec F S8704x256 .f32 := broadcastInDim S8704x256 ![] bcast_S_S8704x256 main_cst_2
  let main_v13 : IVec S8704x256 1 := cmpf .olt main_v11 main_v12
  let main_c_3 : IVec S_ 1 := constantI S_ 1 1#1
  let main_v14 : IVec S_ 1 := (fun x v => Host.reduce IntOp.andi x v reducesTo_S8704x256_S_d0_1 h_S_) main_v13 main_c_3
  let main_v15 : IVec S_ 1 := andi main_v9 main_v14
  let main_v16 : FVec F S8704x256 .f32 := (extf .f32 · bitsLt_bf16_f32) main_arg3
  let main_v17 : FVec F S8704x256 .f32 := Host.absf main_v16
  fn_part1 (F := F) main_v15 main_v17
-- ==== Pre_finite1.lean ====
abbrev S8704x512 : Shape := ⟨2, ![8704, 512]⟩
abbrev S8704x128 : Shape := ⟨2, ![8704, 128]⟩
abbrev S_ : Shape := ⟨0, ![]⟩

class Facts : Prop where
  bcast_S_S8704x512 : S_.BroadcastsInDim S8704x512 (![] : Fin 0 → Fin S8704x512.rank)
  reducesTo_S8704x512_S_d0_1 : S8704x512.ReducesTo [0, 1] S_
  h_S_ : 0 < S_.numel
  bitsLt_bf16_f32 : FTy.bits .bf16 < FTy.bits .f32
  bcast_S_S8704x128 : S_.BroadcastsInDim S8704x128 (![] : Fin 0 → Fin S8704x128.rank)
  reducesTo_S8704x128_S_d0_1 : S8704x128.ReducesTo [0, 1] S_

variable [Facts]

def fn_part1 {F : FTy → Type} [FloatOps F] (main_v15 : IVec S_ 1) (main_v17 : FVec F S8704x512 .f32) : IVec S_ 1 :=
  let main_cst_4 : FVec F S_ .f32 := constant S_ .f32 0x7F800000#32
  let main_v18 : FVec F S8704x512 .f32 := broadcastInDim S8704x512 ![] bcast_S_S8704x512 main_cst_4
  let main_v19 : IVec S8704x512 1 := cmpf .olt main_v17 main_v18
  let main_c_5 : IVec S_ 1 := constantI S_ 1 1#1
  let main_v20 : IVec S_ 1 := (fun x v => Host.reduce IntOp.andi x v reducesTo_S8704x512_S_d0_1 h_S_) main_v19 main_c_5
  let main_v21 : IVec S_ 1 := andi main_v15 main_v20
  main_v21

def fn {F : FTy → Type} [FloatOps F] (main_arg0 : FVec F S8704x512 .f32) (main_arg1 : FVec F S8704x128 .bf16) (main_arg2 : FVec F S8704x128 .bf16) (main_arg3 : FVec F S8704x512 .bf16) : IVec S_ 1 :=
  let main_v0 : FVec F S8704x512 .f32 := Host.absf main_arg0
  let main_cst : FVec F S_ .f32 := constant S_ .f32 0x7F800000#32
  let main_v1 : FVec F S8704x512 .f32 := broadcastInDim S8704x512 ![] bcast_S_S8704x512 main_cst
  let main_v2 : IVec S8704x512 1 := cmpf .olt main_v0 main_v1
  let main_c : IVec S_ 1 := constantI S_ 1 1#1
  let main_v3 : IVec S_ 1 := (fun x v => Host.reduce IntOp.andi x v reducesTo_S8704x512_S_d0_1 h_S_) main_v2 main_c
  let main_v4 : FVec F S8704x128 .f32 := (extf .f32 · bitsLt_bf16_f32) main_arg1
  let main_v5 : FVec F S8704x128 .f32 := Host.absf main_v4
  let main_cst_0 : FVec F S_ .f32 := constant S_ .f32 0x7F800000#32
  let main_v6 : FVec F S8704x128 .f32 := broadcastInDim S8704x128 ![] bcast_S_S8704x128 main_cst_0
  let main_v7 : IVec S8704x128 1 := cmpf .olt main_v5 main_v6
  let main_c_1 : IVec S_ 1 := constantI S_ 1 1#1
  let main_v8 : IVec S_ 1 := (fun x v => Host.reduce IntOp.andi x v reducesTo_S8704x128_S_d0_1 h_S_) main_v7 main_c_1
  let main_v9 : IVec S_ 1 := andi main_v3 main_v8
  let main_v10 : FVec F S8704x128 .f32 := (extf .f32 · bitsLt_bf16_f32) main_arg2
  let main_v11 : FVec F S8704x128 .f32 := Host.absf main_v10
  let main_cst_2 : FVec F S_ .f32 := constant S_ .f32 0x7F800000#32
  let main_v12 : FVec F S8704x128 .f32 := broadcastInDim S8704x128 ![] bcast_S_S8704x128 main_cst_2
  let main_v13 : IVec S8704x128 1 := cmpf .olt main_v11 main_v12
  let main_c_3 : IVec S_ 1 := constantI S_ 1 1#1
  let main_v14 : IVec S_ 1 := (fun x v => Host.reduce IntOp.andi x v reducesTo_S8704x128_S_d0_1 h_S_) main_v13 main_c_3
  let main_v15 : IVec S_ 1 := andi main_v9 main_v14
  let main_v16 : FVec F S8704x512 .f32 := (extf .f32 · bitsLt_bf16_f32) main_arg3
  let main_v17 : FVec F S8704x512 .f32 := Host.absf main_v16
  fn_part1 (F := F) main_v15 main_v17
-- ==== Pre_separated.lean ====
abbrev S8704x1024 : Shape := ⟨2, ![8704, 1024]⟩
abbrev S1024x4096 : Shape := ⟨2, ![1024, 4096]⟩
abbrev S4096x1024 : Shape := ⟨2, ![4096, 1024]⟩
abbrev S8704x4096 : Shape := ⟨2, ![8704, 4096]⟩
abbrev S_ : Shape := ⟨0, ![]⟩

class Facts : Prop where
  bitsLt_bf16_f32 : FTy.bits .bf16 < FTy.bits .f32
  bcast_S_S8704x4096 : S_.BroadcastsInDim S8704x4096 (![] : Fin 0 → Fin S8704x4096.rank)
  reducesTo_S8704x4096_S_d0_1 : S8704x4096.ReducesTo [0, 1] S_
  h_S_ : 0 < S_.numel
  dot_S8704x1024_S1024x4096_S8704x4096_1_0_0_1_n_n_wf : DotDims.WF S8704x1024 S1024x4096 S8704x4096 [1] [0] [0] [1] [] []

variable [Facts]

def dot_S8704x1024_S1024x4096_S8704x4096_1_0_0_1_n_n : DotDims S8704x1024 S1024x4096 S8704x4096 where
  lhsContracting := [1]
  rhsContracting := [0]
  lhsNonContracting := [0]
  rhsNonContracting := [1]
  lhsBatch := []
  rhsBatch := []
  wf := dot_S8704x1024_S1024x4096_S8704x4096_1_0_0_1_n_n_wf
def fn_relu {F : FTy → Type} [FloatOps F] (arg0 : FVec F S8704x4096 .f32) : FVec F S8704x4096 .f32 :=
  let cst : FVec F S_ .f32 := constant S_ .f32 0x00000000#32
  let v0 : FVec F S8704x4096 .f32 := broadcastInDim S8704x4096 ![] bcast_S_S8704x4096 cst
  let v1 : FVec F S8704x4096 .f32 := maximumf arg0 v0
  v1

def fn {F : FTy → Type} [FloatOps F] (main_arg0 : FVec F S8704x1024 .bf16) (main_arg1 : FVec F S1024x4096 .bf16) (main_arg2 : FVec F S4096x1024 .bf16) (main_arg3 : FVec F S8704x1024 .f32) : IVec S_ 1 :=
  let main_v0 : FVec F S8704x1024 .f32 := (extf .f32 · bitsLt_bf16_f32) main_arg0
  let main_v1 : FVec F S1024x4096 .f32 := (extf .f32 · bitsLt_bf16_f32) main_arg1
  let main_v2 : FVec F S8704x4096 .f32 := (fun l r => Host.dotGeneral dot_S8704x1024_S1024x4096_S8704x4096_1_0_0_1_n_n none l r) main_v0 main_v1
  let main_v3 : FVec F S8704x4096 .f32 := fn_relu (F := F) main_v2
  let main_v4 : FVec F S8704x4096 .f32 := mulf main_v3 main_v3
  let main_cst : FVec F S_ .f32 := constant S_ .f32 0x00000000#32
  let main_v5 : FVec F S8704x4096 .f32 := broadcastInDim S8704x4096 ![] bcast_S_S8704x4096 main_cst
  let main_v6 : IVec S8704x4096 1 := cmpf .oeq main_v4 main_v5
  let main_cst_0 : FVec F S_ .f32 := constant S_ .f32 0x0DA24260#32
  let main_v7 : FVec F S8704x4096 .f32 := broadcastInDim S8704x4096 ![] bcast_S_S8704x4096 main_cst_0
  let main_v8 : IVec S8704x4096 1 := cmpf .oge main_v4 main_v7
  let main_cst_1 : FVec F S_ .f32 := constant S_ .f32 0x7F800000#32
  let main_v9 : FVec F S8704x4096 .f32 := broadcastInDim S8704x4096 ![] bcast_S_S8704x4096 main_cst_1
  let main_v10 : IVec S8704x4096 1 := cmpf .olt main_v4 main_v9
  let main_v11 : IVec S8704x4096 1 := andi main_v8 main_v10
  let main_v12 : IVec S8704x4096 1 := ori main_v6 main_v11
  let main_c : IVec S_ 1 := constantI S_ 1 1#1
  let main_v13 : IVec S_ 1 := (fun x v => Host.reduce IntOp.andi x v reducesTo_S8704x4096_S_d0_1 h_S_) main_v12 main_c
  main_v13
-- ==== Pre_separated1.lean ====
abbrev S8704x1024 : Shape := ⟨2, ![8704, 1024]⟩
abbrev S1024x4096 : Shape := ⟨2, ![1024, 4096]⟩
abbrev S8704x4096 : Shape := ⟨2, ![8704, 4096]⟩
abbrev S_ : Shape := ⟨0, ![]⟩

class Facts : Prop where
  bitsLt_bf16_f32 : FTy.bits .bf16 < FTy.bits .f32
  bcast_S_S8704x4096 : S_.BroadcastsInDim S8704x4096 (![] : Fin 0 → Fin S8704x4096.rank)
  reducesTo_S8704x4096_S_d0_1 : S8704x4096.ReducesTo [0, 1] S_
  h_S_ : 0 < S_.numel
  dot_S8704x1024_S1024x4096_S8704x4096_1_0_0_1_n_n_wf : DotDims.WF S8704x1024 S1024x4096 S8704x4096 [1] [0] [0] [1] [] []

variable [Facts]

def dot_S8704x1024_S1024x4096_S8704x4096_1_0_0_1_n_n : DotDims S8704x1024 S1024x4096 S8704x4096 where
  lhsContracting := [1]
  rhsContracting := [0]
  lhsNonContracting := [0]
  rhsNonContracting := [1]
  lhsBatch := []
  rhsBatch := []
  wf := dot_S8704x1024_S1024x4096_S8704x4096_1_0_0_1_n_n_wf
def fn_relu {F : FTy → Type} [FloatOps F] (arg0 : FVec F S8704x4096 .f32) : FVec F S8704x4096 .f32 :=
  let cst : FVec F S_ .f32 := constant S_ .f32 0x00000000#32
  let v0 : FVec F S8704x4096 .f32 := broadcastInDim S8704x4096 ![] bcast_S_S8704x4096 cst
  let v1 : FVec F S8704x4096 .f32 := maximumf arg0 v0
  v1

def fn {F : FTy → Type} [FloatOps F] (main_arg0 : FVec F S8704x1024 .bf16) (main_arg1 : FVec F S1024x4096 .bf16) (main_arg2 : FVec F S8704x4096 .bf16) : IVec S_ 1 :=
  let main_v0 : FVec F S8704x1024 .f32 := (extf .f32 · bitsLt_bf16_f32) main_arg0
  let main_v1 : FVec F S1024x4096 .f32 := (extf .f32 · bitsLt_bf16_f32) main_arg1
  let main_v2 : FVec F S8704x4096 .f32 := (fun l r => Host.dotGeneral dot_S8704x1024_S1024x4096_S8704x4096_1_0_0_1_n_n none l r) main_v0 main_v1
  let main_v3 : FVec F S8704x4096 .f32 := fn_relu (F := F) main_v2
  let main_v4 : FVec F S8704x4096 .f32 := mulf main_v3 main_v3
  let main_cst : FVec F S_ .f32 := constant S_ .f32 0x00000000#32
  let main_v5 : FVec F S8704x4096 .f32 := broadcastInDim S8704x4096 ![] bcast_S_S8704x4096 main_cst
  let main_v6 : IVec S8704x4096 1 := cmpf .oeq main_v4 main_v5
  let main_cst_0 : FVec F S_ .f32 := constant S_ .f32 0x0DA24260#32
  let main_v7 : FVec F S8704x4096 .f32 := broadcastInDim S8704x4096 ![] bcast_S_S8704x4096 main_cst_0
  let main_v8 : IVec S8704x4096 1 := cmpf .oge main_v4 main_v7
  let main_cst_1 : FVec F S_ .f32 := constant S_ .f32 0x7F800000#32
  let main_v9 : FVec F S8704x4096 .f32 := broadcastInDim S8704x4096 ![] bcast_S_S8704x4096 main_cst_1
  let main_v10 : IVec S8704x4096 1 := cmpf .olt main_v4 main_v9
  let main_v11 : IVec S8704x4096 1 := andi main_v8 main_v10
  let main_v12 : IVec S8704x4096 1 := ori main_v6 main_v11
  let main_c : IVec S_ 1 := constantI S_ 1 1#1
  let main_v13 : IVec S_ 1 := (fun x v => Host.reduce IntOp.andi x v reducesTo_S8704x4096_S_d0_1 h_S_) main_v12 main_c
  main_v13
-- ==== Kernel.lean ====
abbrev S8704x512 : Shape := ⟨2, ![8704, 512]⟩
abbrev S8704x256 : Shape := ⟨2, ![8704, 256]⟩
abbrev S2x4352x4x128 : Shape := ⟨4, ![2, 4352, 4, 128]⟩
abbrev S2x4352x4x64 : Shape := ⟨4, ![2, 4352, 4, 64]⟩
abbrev S2x4096x4x128 : Shape := ⟨4, ![2, 4096, 4, 128]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S2x4096x4x64 : Shape := ⟨4, ![2, 4096, 4, 64]⟩
abbrev S2x256x4x128 : Shape := ⟨4, ![2, 256, 4, 128]⟩
abbrev S2x256x4x64 : Shape := ⟨4, ![2, 256, 4, 64]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S2x256x4x256 : Shape := ⟨4, ![2, 256, 4, 256]⟩
abbrev S2x256x4 : Shape := ⟨3, ![2, 256, 4]⟩
abbrev S2x256x4x1 : Shape := ⟨4, ![2, 256, 4, 1]⟩
abbrev S2x4x4352x4096 : Shape := ⟨4, ![2, 4, 4352, 4096]⟩
abbrev S2x4096x4x4352 : Shape := ⟨4, ![2, 4096, 4, 4352]⟩
abbrev S2x4096x4 : Shape := ⟨3, ![2, 4096, 4]⟩
abbrev S2x4096x4x1 : Shape := ⟨4, ![2, 4096, 4, 1]⟩
abbrev S2x4352x4 : Shape := ⟨3, ![2, 4352, 4]⟩
abbrev S8704x4 : Shape := ⟨2, ![8704, 4]⟩
abbrev S8704x128 : Shape := ⟨2, ![8704, 128]⟩
abbrev S256x512 : Shape := ⟨2, ![256, 512]⟩
abbrev S4352x512 : Shape := ⟨2, ![4352, 512]⟩
abbrev S4352x256 : Shape := ⟨2, ![4352, 256]⟩
abbrev S256x256 : Shape := ⟨2, ![256, 256]⟩
abbrev S256x128 : Shape := ⟨2, ![256, 128]⟩
abbrev S256x64 : Shape := ⟨2, ![256, 64]⟩
abbrev S256 : Shape := ⟨1, ![256]⟩
abbrev S256x1 : Shape := ⟨2, ![256, 1]⟩
abbrev S4352x128 : Shape := ⟨2, ![4352, 128]⟩
abbrev S256x4352 : Shape := ⟨2, ![256, 4352]⟩
abbrev S4352x64 : Shape := ⟨2, ![4352, 64]⟩

abbrev nBuf : Space → Nat
  | .hbm => 116
  | .vmem => 20
  | .smem => 0
  | _ => 0

abbrev bufTy : (tb : Table) → Fin (tcTables nBuf tb) → BufTy
  | .hbm, ⟨0, _⟩ => ⟨S8704x512, .f32⟩
  | .hbm, ⟨1, _⟩ => ⟨S8704x512, .bf16⟩
  | .hbm, ⟨2, _⟩ => ⟨S8704x256, .bf16⟩
  | .hbm, ⟨3, _⟩ => ⟨S8704x256, .bf16⟩
  | .hbm, ⟨4, _⟩ => ⟨S2x4352x4x128, .f32⟩
  | .hbm, ⟨5, _⟩ => ⟨S8704x512, .f32⟩
  | .hbm, ⟨6, _⟩ => ⟨S2x4352x4x128, .f32⟩
  | .hbm, ⟨7, _⟩ => ⟨S8704x256, .f32⟩
  | .hbm, ⟨8, _⟩ => ⟨S2x4352x4x64, .f32⟩
  | .hbm, ⟨9, _⟩ => ⟨S2x4096x4x128, .f32⟩
  | .hbm, ⟨10, _⟩ => ⟨S2x4x4096x4352, .f32⟩
  | .hbm, ⟨11, _⟩ => ⟨S_, .f32⟩
  | .hbm, ⟨12, _⟩ => ⟨S_, .f32⟩
  | .hbm, ⟨13, _⟩ => ⟨S2x4x4096x4352, .f32⟩
  | .hbm, ⟨14, _⟩ => ⟨S2x4x4096x4352, .f32⟩
  | .hbm, ⟨15, _⟩ => ⟨S_, .f32⟩
  | .hbm, ⟨16, _⟩ => ⟨S2x4x4096, .f32⟩
  | .hbm, ⟨17, _⟩ => ⟨S_, .f32⟩
  | .hbm, ⟨18, _⟩ => ⟨S2x4x4096, .f32⟩
  | .hbm, ⟨19, _⟩ => ⟨S2x4x4096, .f32⟩
  | .hbm, ⟨20, _⟩ => ⟨S2x4x4096x1, .f32⟩
  | .hbm, ⟨21, _⟩ => ⟨S2x4x4096x4352, .f32⟩
  | .hbm, ⟨22, _⟩ => ⟨S2x4x4096x4352, .f32⟩
  | .hbm, ⟨23, _⟩ => ⟨S2x4x4096x4352, .f32⟩
  | .hbm, ⟨24, _⟩ => ⟨S_, .f32⟩
  | .hbm, ⟨25, _⟩ => ⟨S2x4x4096, .f32⟩
  | .hbm, ⟨26, _⟩ => ⟨S2x4x4096x1, .f32⟩
  | .hbm, ⟨27, _⟩ => ⟨S2x4x4096x4352, .f32⟩
  | .hbm, ⟨28, _⟩ => ⟨S2x4x4096x4352, .f32⟩
  | .hbm, ⟨29, _⟩ => ⟨S2x4x64x4096, .f32⟩
  | .hbm, ⟨30, _⟩ => ⟨S2x4096x4x64, .f32⟩
  | .hbm, ⟨31, _⟩ => ⟨S2x256x4x128, .f32⟩
  | .hbm, ⟨32, _⟩ => ⟨S2x256x4x128, .f32⟩
  | .hbm, ⟨33, _⟩ => ⟨S2x256x4x64, .f32⟩
  | .hbm, ⟨34, _⟩ => ⟨S2x4x256x256, .f32⟩
  | .hbm, ⟨35, _⟩ => ⟨S_, .f32⟩
  | .hbm, ⟨36, _⟩ => ⟨S_, .f32⟩
  | .hbm, ⟨37, _⟩ => ⟨S2x4x256x256, .f32⟩
  | .hbm, ⟨38, _⟩ => ⟨S2x4x256x256, .f32⟩
  | .hbm, ⟨39, _⟩ => ⟨S_, .f32⟩
  | .hbm, ⟨40, _⟩ => ⟨S2x4x256, .f32⟩
  | .hbm, ⟨41, _⟩ => ⟨S_, .f32⟩
  | .hbm, ⟨42, _⟩ => ⟨S2x4x256, .f32⟩
  | .hbm, ⟨43, _⟩ => ⟨S2x4x256, .f32⟩
  | .hbm, ⟨44, _⟩ => ⟨S2x4x256x1, .f32⟩
  | .hbm, ⟨45, _⟩ => ⟨S2x4x256x256, .f32⟩
  | .hbm, ⟨46, _⟩ => ⟨S2x4x256x256, .f32⟩
  | .hbm, ⟨47, _⟩ => ⟨S2x4x256x256, .f32⟩
  | .hbm, ⟨48, _⟩ => ⟨S_, .f32⟩
  | .hbm, ⟨49, _⟩ => ⟨S2x4x256, .f32⟩
  | .hbm, ⟨50, _⟩ => ⟨S2x4x256x1, .f32⟩
  | .hbm, ⟨51, _⟩ => ⟨S2x4x256x256, .f32⟩
  | .hbm, ⟨52, _⟩ => ⟨S2x4x256x256, .f32⟩
  | .hbm, ⟨53, _⟩ => ⟨S2x4x64x256, .f32⟩
  | .hbm, ⟨54, _⟩ => ⟨S2x256x4x64, .f32⟩
  | .hbm, ⟨55, _⟩ => ⟨S2x4352x4x64, .f32⟩
  | .hbm, ⟨56, _⟩ => ⟨S8704x256, .f32⟩
  | .hbm, ⟨57, _⟩ => ⟨S8704x256, .bf16⟩
  | .hbm, ⟨58, _⟩ => ⟨S2x4352x4x128, .f32⟩
  | .hbm, ⟨59, _⟩ => ⟨S8704x512, .f32⟩
  | .hbm, ⟨60, _⟩ => ⟨S2x4352x4x128, .f32⟩
  | .hbm, ⟨61, _⟩ => ⟨S2x256x4x128, .f32⟩
  | .hbm, ⟨62, _⟩ => ⟨S2x256x4x128, .f32⟩
  | .hbm, ⟨63, _⟩ => ⟨S2x4x256x256, .f32⟩
  | .hbm, ⟨64, _⟩ => ⟨S2x256x4x256, .f32⟩
  | .hbm, ⟨65, _⟩ => ⟨S_, .f32⟩
  | .hbm, ⟨66, _⟩ => ⟨S_, .f32⟩
  | .hbm, ⟨67, _⟩ => ⟨S2x256x4x256, .f32⟩
  | .hbm, ⟨68, _⟩ => ⟨S2x256x4x256, .f32⟩
  | .hbm, ⟨69, _⟩ => ⟨S_, .f32⟩
  | .hbm, ⟨70, _⟩ => ⟨S2x256x4, .f32⟩
  | .hbm, ⟨71, _⟩ => ⟨S2x256x4x1, .f32⟩
  | .hbm, ⟨72, _⟩ => ⟨S2x256x4x256, .f32⟩
  | .hbm, ⟨73, _⟩ => ⟨S2x256x4x256, .f32⟩
  | .hbm, ⟨74, _⟩ => ⟨S2x256x4x256, .f32⟩
  | .hbm, ⟨75, _⟩ => ⟨S_, .f32⟩
  | .hbm, ⟨76, _⟩ => ⟨S2x256x4, .f32⟩
  | .hbm, ⟨77, _⟩ => ⟨S2x256x4x1, .f32⟩
  | .hbm, ⟨78, _⟩ => ⟨S2x256x4x1, .f32⟩
  | .hbm, ⟨79, _⟩ => ⟨S2x256x4x1, .f32⟩
  | .hbm, ⟨80, _⟩ => ⟨S2x256x4, .f32⟩
  | .hbm, ⟨81, _⟩ => ⟨S_, .f32⟩
  | .hbm, ⟨82, _⟩ => ⟨S_, .f32⟩
  | .hbm, ⟨83, _⟩ => ⟨S2x256x4, .f32⟩
  | .hbm, ⟨84, _⟩ => ⟨S2x256x4, .f32⟩
  | .hbm, ⟨85, _⟩ => ⟨S2x4096x4x128, .f32⟩
  | .hbm, ⟨86, _⟩ => ⟨S2x4x4352x4096, .f32⟩
  | .hbm, ⟨87, _⟩ => ⟨S2x4096x4x4352, .f32⟩
  | .hbm, ⟨88, _⟩ => ⟨S_, .f32⟩
  | .hbm, ⟨89, _⟩ => ⟨S_, .f32⟩
  | .hbm, ⟨90, _⟩ => ⟨S2x4096x4x4352, .f32⟩
  | .hbm, ⟨91, _⟩ => ⟨S2x4096x4x4352, .f32⟩
  | .hbm, ⟨92, _⟩ => ⟨S_, .f32⟩
  | .hbm, ⟨93, _⟩ => ⟨S2x4096x4, .f32⟩
  | .hbm, ⟨94, _⟩ => ⟨S2x4096x4x1, .f32⟩
  | .hbm, ⟨95, _⟩ => ⟨S2x4096x4x4352, .f32⟩
  | .hbm, ⟨96, _⟩ => ⟨S2x4096x4x4352, .f32⟩
  | .hbm, ⟨97, _⟩ => ⟨S2x4096x4x4352, .f32⟩
  | .hbm, ⟨98, _⟩ => ⟨S_, .f32⟩
  | .hbm, ⟨99, _⟩ => ⟨S2x4096x4, .f32⟩
  | .hbm, ⟨100, _⟩ => ⟨S2x4096x4x1, .f32⟩
  | .hbm, ⟨101, _⟩ => ⟨S2x4096x4x1, .f32⟩
  | .hbm, ⟨102, _⟩ => ⟨S2x4096x4x1, .f32⟩
  | .hbm, ⟨103, _⟩ => ⟨S2x4096x4, .f32⟩
  | .hbm, ⟨104, _⟩ => ⟨S_, .f32⟩
  | .hbm, ⟨105, _⟩ => ⟨S_, .f32⟩
  | .hbm, ⟨106, _⟩ => ⟨S2x4096x4, .f32⟩
  | .hbm, ⟨107, _⟩ => ⟨S2x4096x4, .f32⟩
  | .hbm, ⟨108, _⟩ => ⟨S2x4352x4, .f32⟩
  | .hbm, ⟨109, _⟩ => ⟨S8704x4, .f32⟩
  | .hbm, ⟨110, _⟩ => ⟨S_, .i32⟩
  | .hbm, ⟨111, _⟩ => ⟨S_, .f32⟩
  | .hbm, ⟨112, _⟩ => ⟨S8704x128, .f32⟩
  | .hbm, ⟨113, _⟩ => ⟨S8704x512, .f32⟩
  | .hbm, ⟨114, _⟩ => ⟨S8704x512, .bf16⟩
  | .hbm, ⟨115, _⟩ => ⟨S8704x256, .bf16⟩
  | .local _ .vmem, ⟨0, _⟩ => ⟨S256x512, .f32⟩
  | .local _ .vmem, ⟨1, _⟩ => ⟨S256x512, .f32⟩
  | .local _ .vmem, ⟨2, _⟩ => ⟨S4352x512, .bf16⟩
  | .local _ .vmem, ⟨3, _⟩ => ⟨S4352x512, .bf16⟩
  | .local _ .vmem, ⟨4, _⟩ => ⟨S4352x256, .bf16⟩
  | .local _ .vmem, ⟨5, _⟩ => ⟨S4352x256, .bf16⟩
  | .local _ .vmem, ⟨6, _⟩ => ⟨S256x256, .bf16⟩
  | .local _ .vmem, ⟨7, _⟩ => ⟨S256x256, .bf16⟩
  | .local _ .vmem, ⟨8, _⟩ => ⟨S256x128, .f32⟩
  | .local _ .vmem, ⟨9, _⟩ => ⟨S256x128, .f32⟩
  | .local _ .vmem, ⟨10, _⟩ => ⟨S256x256, .bf16⟩
  | .local _ .vmem, ⟨11, _⟩ => ⟨S256x256, .bf16⟩
  | .local _ .vmem, ⟨12, _⟩ => ⟨S256x512, .f32⟩
  | .local _ .vmem, ⟨13, _⟩ => ⟨S256x512, .f32⟩
  | .local _ .vmem, ⟨14, _⟩ => ⟨S4352x512, .bf16⟩
  | .local _ .vmem, ⟨15, _⟩ => ⟨S4352x512, .bf16⟩
  | .local _ .vmem, ⟨16, _⟩ => ⟨S4352x256, .bf16⟩
  | .local _ .vmem, ⟨17, _⟩ => ⟨S4352x256, .bf16⟩
  | .local _ .vmem, ⟨18, _⟩ => ⟨S4352x512, .f32⟩
  | .local _ .vmem, ⟨19, _⟩ => ⟨S4352x256, .f32⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_9 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_10 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_11 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_cst_12 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_13 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_cst_14 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_c : Ref sig .tc := ⟨.hbm, 110, rfl⟩
abbrev main_call0_v0 : Ref sig .tc := ⟨.hbm, 111, rfl⟩
abbrev main_v90 : Ref sig .tc := ⟨.hbm, 112, rfl⟩
abbrev main_v91_0 : Ref sig .tc := ⟨.hbm, 113, rfl⟩
abbrev main_v91_1 : Ref sig .tc := ⟨.hbm, 114, rfl⟩
abbrev main_v91_2 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c1_i32 : BitVec 32 := 1#32
  let v4 : BitVec 1 := Scalar.cmpi .slt arg1 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg1 : BitVec 32 := BitVec.ofNat 32 (i 1).val
  let c1_i32 : BitVec 32 := 1#32
  let v4 : BitVec 1 := Scalar.cmpi .slt arg1 c1_i32
  let v_true : BitVec 1 := 1#1
  let v7 : BitVec 1 := Scalar.xori v4 v_true
  let v8 : BitVec 32 := Scalar.extui v7
  let c0_i32_2 : BitVec 32 := 0#32
  let v9 : BitVec 1 := Scalar.cmpi .ne v8 c0_i32_2
  v9

def k0_cond4 (i : grid0.Coords) : BitVec 1 :=
  let arg1 : BitVec 32 := BitVec.ofNat 32 (i 1).val
  let c16_i32 : BitVec 32 := 16#32
  let v10 : BitVec 1 := Scalar.cmpi .eq arg1 c16_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4352x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4352x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "scale" => some (((Real.sqrt 96)⁻¹ : ℝ) : EReal)
  | "scale_log2e" => some (((Real.sqrt 96)⁻¹ * (Real.log 2)⁻¹ : ℝ) : EReal)
  | _ => none
-- ==== ReferenceIdeal.lean ====
abbrev S8704x512 : Shape := ⟨2, ![8704, 512]⟩
abbrev S8704x256 : Shape := ⟨2, ![8704, 256]⟩
abbrev S2x4352x4x128 : Shape := ⟨4, ![2, 4352, 4, 128]⟩
abbrev S2x4352x4x64 : Shape := ⟨4, ![2, 4352, 4, 64]⟩
abbrev S2x4096x4x128 : Shape := ⟨4, ![2, 4096, 4, 128]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S2x4096x4x64 : Shape := ⟨4, ![2, 4096, 4, 64]⟩
abbrev S2x256x4x128 : Shape := ⟨4, ![2, 256, 4, 128]⟩
abbrev S2x256x4x64 : Shape := ⟨4, ![2, 256, 4, 64]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S2x4x256x128 : Shape := ⟨4, ![2, 4, 256, 128]⟩
abbrev S2x4x64x4352 : Shape := ⟨4, ![2, 4, 64, 4352]⟩
abbrev S2x4x4352x128 : Shape := ⟨4, ![2, 4, 4352, 128]⟩
abbrev S2x4x4096x128 : Shape := ⟨4, ![2, 4, 4096, 128]⟩

abbrev nBuf : Space → Nat
  | .hbm => 173
  | .vmem => 0
  | .smem => 0
  | _ => 0

abbrev hbmTy0_0 (i : Nat) : BufTy := match i % 128 with
  | 0 => ⟨S8704x512, .f32⟩
  | 1 => ⟨S8704x512, .bf16⟩
  | 2 => ⟨S8704x256, .bf16⟩
  | 3 => ⟨S8704x256, .bf16⟩
  | 4 => ⟨S2x4352x4x128, .f32⟩
  | 5 => ⟨S8704x512, .f32⟩
  | 6 => ⟨S2x4352x4x128, .f32⟩
  | 7 => ⟨S8704x256, .f32⟩
  | 8 => ⟨S2x4352x4x64, .f32⟩
  | 9 => ⟨S2x4096x4x128, .f32⟩
  | 10 => ⟨S2x4x4096x4352, .f32⟩
  | 11 => ⟨S_, .f32⟩
  | 12 => ⟨S_, .f32⟩
  | 13 => ⟨S2x4x4096x4352, .f32⟩
  | 14 => ⟨S2x4x4096x4352, .f32⟩
  | 15 => ⟨S_, .f32⟩
  | 16 => ⟨S2x4x4096, .f32⟩
  | 17 => ⟨S2x4x4096x1, .f32⟩
  | 18 => ⟨S2x4x4096x4352, .f32⟩
  | 19 => ⟨S2x4x4096x4352, .i1⟩
  | 20 => ⟨S2x4x4096x4352, .f32⟩
  | 21 => ⟨S_, .f32⟩
  | 22 => ⟨S2x4x4096, .f32⟩
  | 23 => ⟨S_, .f32⟩
  | 24 => ⟨S2x4x4096, .f32⟩
  | 25 => ⟨S2x4x4096, .f32⟩
  | 26 => ⟨S_, .f32⟩
  | 27 => ⟨S2x4x4096, .f32⟩
  | 28 => ⟨S2x4x4096, .i1⟩
  | 29 => ⟨S_, .f32⟩
  | 30 => ⟨S2x4x4096, .f32⟩
  | 31 => ⟨S2x4x4096, .i1⟩
  | 32 => ⟨S_, .f32⟩
  | 33 => ⟨S2x4x4096, .f32⟩
  | 34 => ⟨S_, .f32⟩
  | 35 => ⟨S2x4x4096, .f32⟩
  | 36 => ⟨S_, .f32⟩
  | 37 => ⟨S2x4x4096, .f32⟩
  | 38 => ⟨S2x4x4096, .f32⟩
  | 39 => ⟨S2x4x4096, .f32⟩
  | 40 => ⟨S2x4x4096x1, .f32⟩
  | 41 => ⟨S2x4x4096x4352, .f32⟩
  | 42 => ⟨S2x4x4096x4352, .f32⟩
  | 43 => ⟨S2x4x4096x4352, .f32⟩
  | 44 => ⟨S_, .f32⟩
  | 45 => ⟨S2x4x4096, .f32⟩
  | 46 => ⟨S2x4x4096x1, .f32⟩
  | 47 => ⟨S2x4x4096x4352, .f32⟩
  | 48 => ⟨S2x4x4096x4352, .f32⟩
  | 49 => ⟨S2x4x4096x1, .f32⟩
  | 50 => ⟨S_, .f32⟩
  | 51 => ⟨S2x4x4096x1, .f32⟩
  | 52 => ⟨S2x4x4096x1, .f32⟩
  | 53 => ⟨S2x4x64x4096, .f32⟩
  | 54 => ⟨S2x4096x4x64, .f32⟩
  | 55 => ⟨S2x256x4x128, .f32⟩
  | 56 => ⟨S2x256x4x128, .f32⟩
  | 57 => ⟨S2x256x4x64, .f32⟩
  | 58 => ⟨S2x4x256x256, .f32⟩
  | 59 => ⟨S_, .f32⟩
  | 60 => ⟨S_, .f32⟩
  | 61 => ⟨S2x4x256x256, .f32⟩
  | 62 => ⟨S2x4x256x256, .f32⟩
  | 63 => ⟨S_, .f32⟩
  | 64 => ⟨S2x4x256, .f32⟩
  | 65 => ⟨S2x4x256x1, .f32⟩
  | 66 => ⟨S2x4x256x256, .f32⟩
  | 67 => ⟨S2x4x256x256, .i1⟩
  | 68 => ⟨S2x4x256x256, .f32⟩
  | 69 => ⟨S_, .f32⟩
  | 70 => ⟨S2x4x256, .f32⟩
  | 71 => ⟨S_, .f32⟩
  | 72 => ⟨S2x4x256, .f32⟩
  | 73 => ⟨S2x4x256, .f32⟩
  | 74 => ⟨S_, .f32⟩
  | 75 => ⟨S2x4x256, .f32⟩
  | 76 => ⟨S2x4x256, .i1⟩
  | 77 => ⟨S_, .f32⟩
  | 78 => ⟨S2x4x256, .f32⟩
  | 79 => ⟨S2x4x256, .i1⟩
  | 80 => ⟨S_, .f32⟩
  | 81 => ⟨S2x4x256, .f32⟩
  | 82 => ⟨S_, .f32⟩
  | 83 => ⟨S2x4x256, .f32⟩
  | 84 => ⟨S_, .f32⟩
  | 85 => ⟨S2x4x256, .f32⟩
  | 86 => ⟨S2x4x256, .f32⟩
  | 87 => ⟨S2x4x256, .f32⟩
  | 88 => ⟨S2x4x256x1, .f32⟩
  | 89 => ⟨S2x4x256x256, .f32⟩
  | 90 => ⟨S2x4x256x256, .f32⟩
  | 91 => ⟨S2x4x256x256, .f32⟩
  | 92 => ⟨S_, .f32⟩
  | 93 => ⟨S2x4x256, .f32⟩
  | 94 => ⟨S2x4x256x1, .f32⟩
  | 95 => ⟨S2x4x256x256, .f32⟩
  | 96 => ⟨S2x4x256x256, .f32⟩
  | 97 => ⟨S2x4x256x1, .f32⟩
  | 98 => ⟨S_, .f32⟩
  | 99 => ⟨S2x4x256x1, .f32⟩
  | 100 => ⟨S2x4x256x1, .f32⟩
  | 101 => ⟨S2x4x64x256, .f32⟩
  | 102 => ⟨S2x256x4x64, .f32⟩
  | 103 => ⟨S2x4352x4x64, .f32⟩
  | 104 => ⟨S8704x256, .f32⟩
  | 105 => ⟨S8704x256, .f32⟩
  | 106 => ⟨S2x4352x4x64, .f32⟩
  | 107 => ⟨S2x256x4x64, .f32⟩
  | 108 => ⟨S2x4096x4x64, .f32⟩
  | 109 => ⟨S2x4x64x256, .f32⟩
  | 110 => ⟨S2x4x256x256, .f32⟩
  | 111 => ⟨S2x4x64x256, .f32⟩
  | 112 => ⟨S2x256x4x64, .f32⟩
  | 113 => ⟨S2x4x256x256, .f32⟩
  | 114 => ⟨S2x4x256x256, .f32⟩
  | 115 => ⟨S2x4x256x256, .f32⟩
  | 116 => ⟨S_, .f32⟩
  | 117 => ⟨S2x4x256, .f32⟩
  | 118 => ⟨S2x4x256x1, .f32⟩
  | 119 => ⟨S2x4x256x1, .f32⟩
  | 120 => ⟨S2x4x256x256, .f32⟩
  | 121 => ⟨S2x4x256x256, .f32⟩
  | 122 => ⟨S_, .f32⟩
  | 123 => ⟨S2x4x256, .f32⟩
  | 124 => ⟨S2x4x256x256, .f32⟩
  | 125 => ⟨S2x4x256x256, .f32⟩
  | 126 => ⟨S2x4x256x256, .f32⟩
  | 127 => ⟨S2x4x256x256, .f32⟩
  | _ => ⟨S8704x512, .f32⟩

abbrev hbmTy0_1 (i : Nat) : BufTy := match i % 128 with
  | 0 => ⟨S2x4x256x256, .f32⟩
  | 1 => ⟨S2x4x256x128, .f32⟩
  | 2 => ⟨S2x256x4x128, .f32⟩
  | 3 => ⟨S2x4x256x128, .f32⟩
  | 4 => ⟨S2x256x4x128, .f32⟩
  | 5 => ⟨S_, .f32⟩
  | 6 => ⟨S2x4352x4x64, .f32⟩
  | 7 => ⟨S_, .f32⟩
  | 8 => ⟨S2x4352x4x128, .f32⟩
  | 9 => ⟨S_, .f32⟩
  | 10 => ⟨S2x4352x4x128, .f32⟩
  | 11 => ⟨S2x4x64x4096, .f32⟩
  | 12 => ⟨S2x4x4096x4352, .f32⟩
  | 13 => ⟨S2x4x64x4352, .f32⟩
  | 14 => ⟨S2x4352x4x64, .f32⟩
  | 15 => ⟨S2x4352x4x64, .f32⟩
  | 16 => ⟨S2x4x4096x4352, .f32⟩
  | 17 => ⟨S2x4x4096x4352, .f32⟩
  | 18 => ⟨S2x4x4096x4352, .f32⟩
  | 19 => ⟨S_, .f32⟩
  | 20 => ⟨S2x4x4096, .f32⟩
  | 21 => ⟨S2x4x4096x1, .f32⟩
  | 22 => ⟨S2x4x4096x1, .f32⟩
  | 23 => ⟨S2x4x4096x4352, .f32⟩
  | 24 => ⟨S2x4x4096x4352, .f32⟩
  | 25 => ⟨S_, .f32⟩
  | 26 => ⟨S2x4x4096, .f32⟩
  | 27 => ⟨S2x4x4096x4352, .f32⟩
  | 28 => ⟨S2x4x4096x4352, .f32⟩
  | 29 => ⟨S2x4x4096x4352, .f32⟩
  | 30 => ⟨S2x4x4096x4352, .f32⟩
  | 31 => ⟨S2x4x4096x4352, .f32⟩
  | 32 => ⟨S2x4x4352x128, .f32⟩
  | 33 => ⟨S2x4352x4x128, .f32⟩
  | 34 => ⟨S2x4352x4x128, .f32⟩
  | 35 => ⟨S2x4x4096x128, .f32⟩
  | 36 => ⟨S2x4096x4x128, .f32⟩
  | 37 => ⟨S_, .f32⟩
  | 38 => ⟨S2x4352x4x128, .f32⟩
  | 39 => ⟨S2x4352x4x128, .f32⟩
  | 40 => ⟨S8704x256, .f32⟩
  | 41 => ⟨S8704x256, .bf16⟩
  | 42 => ⟨S8704x512, .f32⟩
  | 43 => ⟨S8704x512, .bf16⟩
  | 44 => ⟨S8704x512, .f32⟩
  | _ => ⟨S8704x512, .f32⟩

abbrev hbmTy (i : Nat) : BufTy := match i / 128 with
  | 0 => hbmTy0_0 i
  | 1 => hbmTy0_1 i
  | _ => ⟨S8704x512, .f32⟩

abbrev bufTy : (tb : Table) → Fin (tcTables nBuf tb) → BufTy
  | .hbm, ⟨i, _⟩ => hbmTy i
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_cst_18 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_19 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_20 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_21 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_cst_22 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_23 : Ref sig .tc := ⟨.hbm, 133, rfl⟩
abbrev main_v105 : Ref sig .tc := ⟨.hbm, 134, rfl⟩
abbrev main_cst_24 : Ref sig .tc := ⟨.hbm, 135, rfl⟩
abbrev main_v106 : Ref sig .tc := ⟨.hbm, 136, rfl⟩
abbrev main_cst_25 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_26 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_cst_27 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_cst_28 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩

abbrev nD : Nat := 1
abbrev τ : Topo := Topo.v7x

variable {F : FTy → Type} [FloatOps F]
-- ==== Mlp.lean ====
abbrev S8704x1024 : Shape := ⟨2, ![8704, 1024]⟩
abbrev S1024x4096 : Shape := ⟨2, ![1024, 4096]⟩
abbrev S4096x1024 : Shape := ⟨2, ![4096, 1024]⟩
abbrev S8704x4096 : Shape := ⟨2, ![8704, 4096]⟩
abbrev S512x1024 : Shape := ⟨2, ![512, 1024]⟩
abbrev S1024x2048 : Shape := ⟨2, ![1024, 2048]⟩
abbrev S512x2048 : Shape := ⟨2, ![512, 2048]⟩
abbrev S512x4096 : Shape := ⟨2, ![512, 4096]⟩
abbrev S2048x1024 : Shape := ⟨2, ![2048, 1024]⟩
abbrev S256x4096 : Shape := ⟨2, ![256, 4096]⟩
abbrev S256x1024 : Shape := ⟨2, ![256, 1024]⟩

abbrev nBuf : Space → Nat
  | .hbm => 8
  | .vmem => 24
  | .smem => 0
  | _ => 0

abbrev bufTy : (tb : Table) → Fin (tcTables nBuf tb) → BufTy
  | .hbm, ⟨0, _⟩ => ⟨S8704x1024, .bf16⟩
  | .hbm, ⟨1, _⟩ => ⟨S1024x4096, .bf16⟩
  | .hbm, ⟨2, _⟩ => ⟨S4096x1024, .bf16⟩
  | .hbm, ⟨3, _⟩ => ⟨S8704x1024, .f32⟩
  | .hbm, ⟨4, _⟩ => ⟨S8704x4096, .bf16⟩
  | .hbm, ⟨5, _⟩ => ⟨S8704x1024, .f32⟩
  | .hbm, ⟨6, _⟩ => ⟨S8704x4096, .bf16⟩
  | .hbm, ⟨7, _⟩ => ⟨S8704x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x4096, .bf16⟩
  | .local _ .vmem, ⟨7, _⟩ => ⟨S512x4096, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S2048x1024, .bf16⟩
  | .local _ .vmem, ⟨14, _⟩ => ⟨S2048x1024, .bf16⟩
  | .local _ .vmem, ⟨15, _⟩ => ⟨S512x2048, .bf16⟩
  | .local _ .vmem, ⟨16, _⟩ => ⟨S512x2048, .bf16⟩
  | .local _ .vmem, ⟨17, _⟩ => ⟨S256x4096, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S1024x4096, .bf16⟩
  | .local _ .vmem, ⟨22, _⟩ => ⟨S256x1024, .bf16⟩
  | .local _ .vmem, ⟨23, _⟩ => ⟨S256x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 17], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 17], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 34], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1024x4096 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 2 → Memref sig .tc .vmem S256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]
-- ==== MlpReferenceIdeal.lean ====
abbrev S8704x1024 : Shape := ⟨2, ![8704, 1024]⟩
abbrev S1024x4096 : Shape := ⟨2, ![1024, 4096]⟩
abbrev S4096x1024 : Shape := ⟨2, ![4096, 1024]⟩
abbrev S8704x4096 : Shape := ⟨2, ![8704, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x4096, .bf16⟩
  | .hbm, ⟨2, _⟩ => ⟨S4096x1024, .bf16⟩
  | .hbm, ⟨3, _⟩ => ⟨S8704x1024, .f32⟩
  | .hbm, ⟨4, _⟩ => ⟨S8704x1024, .f32⟩
  | .hbm, ⟨5, _⟩ => ⟨S1024x4096, .f32⟩
  | .hbm, ⟨6, _⟩ => ⟨S8704x4096, .f32⟩
  | .hbm, ⟨7, _⟩ => ⟨S_, .f32⟩
  | .hbm, ⟨8, _⟩ => ⟨S8704x4096, .f32⟩
  | .hbm, ⟨9, _⟩ => ⟨S8704x4096, .f32⟩
  | .hbm, ⟨10, _⟩ => ⟨S_, .f32⟩
  | .hbm, ⟨11, _⟩ => ⟨S8704x4096, .f32⟩
  | .hbm, ⟨12, _⟩ => ⟨S8704x4096, .i1⟩
  | .hbm, ⟨13, _⟩ => ⟨S_, .f32⟩
  | .hbm, ⟨14, _⟩ => ⟨S8704x4096, .f32⟩
  | .hbm, ⟨15, _⟩ => ⟨S8704x4096, .f32⟩
  | .hbm, ⟨16, _⟩ => ⟨S_, .f32⟩
  | .hbm, ⟨17, _⟩ => ⟨S8704x4096, .f32⟩
  | .hbm, ⟨18, _⟩ => ⟨S8704x4096, .f32⟩
  | .hbm, ⟨19, _⟩ => ⟨S4096x1024, .f32⟩
  | .hbm, ⟨20, _⟩ => ⟨S8704x1024, .f32⟩
  | .hbm, ⟨21, _⟩ => ⟨S8704x4096, .f32⟩
  | .hbm, ⟨22, _⟩ => ⟨S8704x4096, .bf16⟩
  | .hbm, ⟨23, _⟩ => ⟨S8704x4096, .bf16⟩
  | .hbm, ⟨24, _⟩ => ⟨S8704x4096, .f32⟩
  | .hbm, ⟨25, _⟩ => ⟨S_, .f32⟩
  | .hbm, ⟨26, _⟩ => ⟨S8704x4096, .f32⟩
  | .hbm, ⟨27, _⟩ => ⟨S8704x4096, .f32⟩
  | .hbm, ⟨28, _⟩ => ⟨S8704x1024, .f32⟩
  | .hbm, ⟨29, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== FirstWeight.lean ====
abbrev S8704x1024 : Shape := ⟨2, ![8704, 1024]⟩
abbrev S1024x4096 : Shape := ⟨2, ![1024, 4096]⟩
abbrev S8704x4096 : Shape := ⟨2, ![8704, 4096]⟩
abbrev S_ : Shape := ⟨0, ![]⟩
abbrev S2176x1024 : Shape := ⟨2, ![2176, 1024]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S8704x1024, .bf16⟩
  | .hbm, ⟨1, _⟩ => ⟨S1024x4096, .bf16⟩
  | .hbm, ⟨2, _⟩ => ⟨S8704x4096, .bf16⟩
  | .hbm, ⟨3, _⟩ => ⟨S8704x1024, .f32⟩
  | .hbm, ⟨4, _⟩ => ⟨S1024x4096, .f32⟩
  | .hbm, ⟨5, _⟩ => ⟨S8704x4096, .f32⟩
  | .hbm, ⟨6, _⟩ => ⟨S_, .f32⟩
  | .hbm, ⟨7, _⟩ => ⟨S8704x4096, .f32⟩
  | .hbm, ⟨8, _⟩ => ⟨S8704x4096, .f32⟩
  | .hbm, ⟨9, _⟩ => ⟨S8704x4096, .f32⟩
  | .hbm, ⟨10, _⟩ => ⟨S8704x4096, .bf16⟩
  | .hbm, ⟨11, _⟩ => ⟨S1024x4096, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .bf16⟩
  | .local _ .vmem, ⟨3, _⟩ => ⟨S2176x1024, .bf16⟩
  | .local _ .vmem, ⟨4, _⟩ => ⟨S2176x1024, .bf16⟩
  | .local _ .vmem, ⟨5, _⟩ => ⟨S2176x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FirstWeightReferenceIdeal.lean ====
abbrev S8704x1024 : Shape := ⟨2, ![8704, 1024]⟩
abbrev S1024x4096 : Shape := ⟨2, ![1024, 4096]⟩
abbrev S8704x4096 : Shape := ⟨2, ![8704, 4096]⟩
abbrev S_ : Shape := ⟨0, ![]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x4096, .bf16⟩
  | .hbm, ⟨2, _⟩ => ⟨S8704x4096, .bf16⟩
  | .hbm, ⟨3, _⟩ => ⟨S8704x1024, .f32⟩
  | .hbm, ⟨4, _⟩ => ⟨S1024x4096, .f32⟩
  | .hbm, ⟨5, _⟩ => ⟨S8704x4096, .f32⟩
  | .hbm, ⟨6, _⟩ => ⟨S_, .f32⟩
  | .hbm, ⟨7, _⟩ => ⟨S8704x4096, .f32⟩
  | .hbm, ⟨8, _⟩ => ⟨S8704x4096, .f32⟩
  | .hbm, ⟨9, _⟩ => ⟨S_, .f32⟩
  | .hbm, ⟨10, _⟩ => ⟨S8704x4096, .f32⟩
  | .hbm, ⟨11, _⟩ => ⟨S8704x4096, .i1⟩
  | .hbm, ⟨12, _⟩ => ⟨S_, .f32⟩
  | .hbm, ⟨13, _⟩ => ⟨S8704x4096, .f32⟩
  | .hbm, ⟨14, _⟩ => ⟨S8704x4096, .f32⟩
  | .hbm, ⟨15, _⟩ => ⟨S_, .f32⟩
  | .hbm, ⟨16, _⟩ => ⟨S8704x4096, .f32⟩
  | .hbm, ⟨17, _⟩ => ⟨S8704x4096, .f32⟩
  | .hbm, ⟨18, _⟩ => ⟨S8704x4096, .f32⟩
  | .hbm, ⟨19, _⟩ => ⟨S8704x4096, .f32⟩
  | .hbm, ⟨20, _⟩ => ⟨S_, .f32⟩
  | .hbm, ⟨21, _⟩ => ⟨S8704x4096, .f32⟩
  | .hbm, ⟨22, _⟩ => ⟨S8704x4096, .f32⟩
  | .hbm, ⟨23, _⟩ => ⟨S4096x1024, .f32⟩
  | .hbm, ⟨24, _⟩ => ⟨S1024x4096, .f32⟩
  | .hbm, ⟨25, _⟩ => ⟨S1024x4096, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== SecondWeight.lean ====
abbrev S8704x4096 : Shape := ⟨2, ![8704, 4096]⟩
abbrev S4096x1024 : Shape := ⟨2, ![4096, 1024]⟩
abbrev S8704x1024 : Shape := ⟨2, ![8704, 1024]⟩
abbrev S2176x1024 : Shape := ⟨2, ![2176, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S4096x1024, .bf16⟩
  | .hbm, ⟨2, _⟩ => ⟨S8704x1024, .f32⟩
  | .hbm, ⟨3, _⟩ => ⟨S4096x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .f32⟩
  | .local _ .vmem, ⟨3, _⟩ => ⟨S2176x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== SecondWeightReferenceIdeal.lean ====
abbrev S8704x4096 : Shape := ⟨2, ![8704, 4096]⟩
abbrev S4096x1024 : Shape := ⟨2, ![4096, 1024]⟩
abbrev S8704x1024 : Shape := ⟨2, ![8704, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S4096x1024, .bf16⟩
  | .hbm, ⟨2, _⟩ => ⟨S8704x1024, .f32⟩
  | .hbm, ⟨3, _⟩ => ⟨S8704x4096, .f32⟩
  | .hbm, ⟨4, _⟩ => ⟨S4096x1024, .f32⟩
  | .hbm, ⟨5, _⟩ => ⟨S8704x1024, .f32⟩
  | .hbm, ⟨6, _⟩ => ⟨S1024x4096, .f32⟩
  | .hbm, ⟨7, _⟩ => ⟨S4096x1024, .f32⟩
  | .hbm, ⟨8, _⟩ => ⟨S4096x1024, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mix.lean ====
abbrev S8704x1024 : Shape := ⟨2, ![8704, 1024]⟩
abbrev S1024x2560 : Shape := ⟨2, ![1024, 2560]⟩
abbrev S8704x2560 : Shape := ⟨2, ![8704, 2560]⟩
abbrev S1024x1024 : Shape := ⟨2, ![1024, 1024]⟩
abbrev S512x1024 : Shape := ⟨2, ![512, 1024]⟩
abbrev S1024x1280 : Shape := ⟨2, ![1024, 1280]⟩
abbrev S512x1280 : Shape := ⟨2, ![512, 1280]⟩
abbrev S512x2560 : Shape := ⟨2, ![512, 2560]⟩

abbrev nBuf : Space → Nat
  | .hbm => 10
  | .vmem => 21
  | .smem => 0
  | _ => 0

abbrev bufTy : (tb : Table) → Fin (tcTables nBuf tb) → BufTy
  | .hbm, ⟨0, _⟩ => ⟨S8704x1024, .bf16⟩
  | .hbm, ⟨1, _⟩ => ⟨S1024x2560, .bf16⟩
  | .hbm, ⟨2, _⟩ => ⟨S8704x2560, .f32⟩
  | .hbm, ⟨3, _⟩ => ⟨S8704x1024, .bf16⟩
  | .hbm, ⟨4, _⟩ => ⟨S1024x1024, .bf16⟩
  | .hbm, ⟨5, _⟩ => ⟨S8704x1024, .f32⟩
  | .hbm, ⟨6, _⟩ => ⟨S8704x2560, .f32⟩
  | .hbm, ⟨7, _⟩ => ⟨S8704x1024, .bf16⟩
  | .hbm, ⟨8, _⟩ => ⟨S8704x1024, .f32⟩
  | .hbm, ⟨9, _⟩ => ⟨S8704x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1280, .bf16⟩
  | .local _ .vmem, ⟨3, _⟩ => ⟨S1024x1280, .bf16⟩
  | .local _ .vmem, ⟨4, _⟩ => ⟨S512x1280, .f32⟩
  | .local _ .vmem, ⟨5, _⟩ => ⟨S512x1280, .f32⟩
  | .local _ .vmem, ⟨6, _⟩ => ⟨S512x2560, .f32⟩
  | .local _ .vmem, ⟨7, _⟩ => ⟨S512x2560, .f32⟩
  | .local _ .vmem, ⟨8, _⟩ => ⟨S1024x2560, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨2, ![2, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 17], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2560 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x2560 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 17], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 17], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== MixReferenceIdeal.lean ====
abbrev S8704x1024 : Shape := ⟨2, ![8704, 1024]⟩
abbrev S1024x2560 : Shape := ⟨2, ![1024, 2560]⟩
abbrev S8704x2560 : Shape := ⟨2, ![8704, 2560]⟩
abbrev S1024x1024 : Shape := ⟨2, ![1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x2560, .bf16⟩
  | .hbm, ⟨2, _⟩ => ⟨S8704x2560, .f32⟩
  | .hbm, ⟨3, _⟩ => ⟨S8704x1024, .bf16⟩
  | .hbm, ⟨4, _⟩ => ⟨S1024x1024, .bf16⟩
  | .hbm, ⟨5, _⟩ => ⟨S8704x1024, .f32⟩
  | .hbm, ⟨6, _⟩ => ⟨S8704x1024, .f32⟩
  | .hbm, ⟨7, _⟩ => ⟨S1024x2560, .f32⟩
  | .hbm, ⟨8, _⟩ => ⟨S8704x2560, .f32⟩
  | .hbm, ⟨9, _⟩ => ⟨S8704x1024, .f32⟩
  | .hbm, ⟨10, _⟩ => ⟨S1024x1024, .f32⟩
  | .hbm, ⟨11, _⟩ => ⟨S8704x1024, .f32⟩
  | .hbm, ⟨12, _⟩ => ⟨S8704x1024, .f32⟩
  | .hbm, ⟨13, _⟩ => ⟨S8704x1024, .bf16⟩
  | .hbm, ⟨14, _⟩ => ⟨S8704x1024, .f32⟩
  | .hbm, ⟨15, _⟩ => ⟨S8704x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== InWeight.lean ====
abbrev S8704x1024 : Shape := ⟨2, ![8704, 1024]⟩
abbrev S1024x2560 : Shape := ⟨2, ![1024, 2560]⟩
abbrev S8704x2560 : Shape := ⟨2, ![8704, 2560]⟩
abbrev S2176x1024 : Shape := ⟨2, ![2176, 1024]⟩
abbrev S2176x512 : Shape := ⟨2, ![2176, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8704x1024, .bf16⟩
  | .hbm, ⟨1, _⟩ => ⟨S1024x2560, .bf16⟩
  | .hbm, ⟨2, _⟩ => ⟨S8704x2560, .f32⟩
  | .hbm, ⟨3, _⟩ => ⟨S1024x2560, .bf16⟩
  | .local _ .vmem, ⟨0, _⟩ => ⟨S2176x1024, .bf16⟩
  | .local _ .vmem, ⟨1, _⟩ => ⟨S2176x1024, .bf16⟩
  | .local _ .vmem, ⟨2, _⟩ => ⟨S2176x512, .f32⟩
  | .local _ .vmem, ⟨3, _⟩ => ⟨S2176x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightReferenceIdeal.lean ====
abbrev S8704x1024 : Shape := ⟨2, ![8704, 1024]⟩
abbrev S1024x2560 : Shape := ⟨2, ![1024, 2560]⟩
abbrev S8704x2560 : Shape := ⟨2, ![8704, 2560]⟩
abbrev S2560x1024 : Shape := ⟨2, ![2560, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x2560, .bf16⟩
  | .hbm, ⟨2, _⟩ => ⟨S8704x2560, .f32⟩
  | .hbm, ⟨3, _⟩ => ⟨S8704x1024, .f32⟩
  | .hbm, ⟨4, _⟩ => ⟨S1024x2560, .f32⟩
  | .hbm, ⟨5, _⟩ => ⟨S8704x2560, .f32⟩
  | .hbm, ⟨6, _⟩ => ⟨S2560x1024, .f32⟩
  | .hbm, ⟨7, _⟩ => ⟨S1024x2560, .f32⟩
  | .hbm, ⟨8, _⟩ => ⟨S1024x2560, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWeight.lean ====
abbrev S8704x1024 : Shape := ⟨2, ![8704, 1024]⟩
abbrev S1024x1024 : Shape := ⟨2, ![1024, 1024]⟩
abbrev S2176x1024 : Shape := ⟨2, ![2176, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S1024x1024, .bf16⟩
  | .local _ .vmem, ⟨0, _⟩ => ⟨S2176x1024, .bf16⟩
  | .local _ .vmem, ⟨1, _⟩ => ⟨S2176x1024, .bf16⟩
  | .local _ .vmem, ⟨2, _⟩ => ⟨S2176x1024, .f32⟩
  | .local _ .vmem, ⟨3, _⟩ => ⟨S2176x1024, .f32⟩
  | .local _ .vmem, ⟨4, _⟩ => ⟨S1024x1024, .bf16⟩
  | .local _ .vmem, ⟨5, _⟩ => ⟨S1024x1024, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightReferenceIdeal.lean ====
abbrev S8704x1024 : Shape := ⟨2, ![8704, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S1024x1024, .bf16⟩
  | .hbm, ⟨2, _⟩ => ⟨S8704x1024, .f32⟩
  | .hbm, ⟨3, _⟩ => ⟨S8704x1024, .f32⟩
  | .hbm, ⟨4, _⟩ => ⟨S1024x1024, .f32⟩
  | .hbm, ⟨5, _⟩ => ⟨S8704x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Grouped.lean ====
abbrev S8704x512 : Shape := ⟨2, ![8704, 512]⟩
abbrev S8704x128 : Shape := ⟨2, ![8704, 128]⟩
abbrev S2x4352x8x64 : Shape := ⟨4, ![2, 4352, 8, 64]⟩
abbrev S2x4352x2x64 : Shape := ⟨4, ![2, 4352, 2, 64]⟩
abbrev S2x4352x2x4x64 : Shape := ⟨5, ![2, 4352, 2, 4, 64]⟩
abbrev S2x4096x8x64 : Shape := ⟨4, ![2, 4096, 8, 64]⟩
abbrev S2x8x4096x4352 : Shape := ⟨4, ![2, 8, 4096, 4352]⟩
abbrev S_ : Shape := ⟨0, ![]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x256x8x64 : Shape := ⟨4, ![2, 256, 8, 64]⟩
abbrev S2x8x256x256 : Shape := ⟨4, ![2, 8, 256, 256]⟩
abbrev S2x8x256 : Shape := ⟨3, ![2, 8, 256]⟩
abbrev S2x8x256x1 : Shape := ⟨4, ![2, 8, 256, 1]⟩
abbrev S2x8x64x256 : Shape := ⟨4, ![2, 8, 64, 256]⟩
abbrev S2x256x8x256 : Shape := ⟨4, ![2, 256, 8, 256]⟩
abbrev S2x256x8 : Shape := ⟨3, ![2, 256, 8]⟩
abbrev S2x256x8x1 : Shape := ⟨4, ![2, 256, 8, 1]⟩
abbrev S2x8x4352x4096 : Shape := ⟨4, ![2, 8, 4352, 4096]⟩
abbrev S2x4096x8x4352 : Shape := ⟨4, ![2, 4096, 8, 4352]⟩
abbrev S2x4096x8 : Shape := ⟨3, ![2, 4096, 8]⟩
abbrev S2x4096x8x1 : Shape := ⟨4, ![2, 4096, 8, 1]⟩
abbrev S2x4352x8 : Shape := ⟨3, ![2, 4352, 8]⟩
abbrev S8704x8 : Shape := ⟨2, ![8704, 8]⟩
abbrev S256x512 : Shape := ⟨2, ![256, 512]⟩
abbrev S4352x128 : Shape := ⟨2, ![4352, 128]⟩
abbrev S256x128 : Shape := ⟨2, ![256, 128]⟩
abbrev S256x64 : Shape := ⟨2, ![256, 64]⟩
abbrev S1024x64 : Shape := ⟨2, ![1024, 64]⟩
abbrev S256 : Shape := ⟨1, ![256]⟩
abbrev S256x1 : Shape := ⟨2, ![256, 1]⟩
abbrev S1024x1 : Shape := ⟨2, ![1024, 1]⟩
abbrev S1024 : Shape := ⟨1, ![1024]⟩
abbrev S1024x256 : Shape := ⟨2, ![1024, 256]⟩
abbrev S1024x1024 : Shape := ⟨2, ![1024, 1024]⟩

abbrev nBuf : Space → Nat
  | .hbm => 122
  | .vmem => 20
  | .smem => 0
  | _ => 0

abbrev bufTy : (tb : Table) → Fin (tcTables nBuf tb) → BufTy
  | .hbm, ⟨0, _⟩ => ⟨S8704x512, .f32⟩
  | .hbm, ⟨1, _⟩ => ⟨S8704x128, .bf16⟩
  | .hbm, ⟨2, _⟩ => ⟨S8704x128, .bf16⟩
  | .hbm, ⟨3, _⟩ => ⟨S8704x512, .bf16⟩
  | .hbm, ⟨4, _⟩ => ⟨S2x4352x8x64, .f32⟩
  | .hbm, ⟨5, _⟩ => ⟨S8704x128, .f32⟩
  | .hbm, ⟨6, _⟩ => ⟨S2x4352x2x64, .f32⟩
  | .hbm, ⟨7, _⟩ => ⟨S2x4352x2x4x64, .f32⟩
  | .hbm, ⟨8, _⟩ => ⟨S2x4352x8x64, .f32⟩
  | .hbm, ⟨9, _⟩ => ⟨S8704x128, .f32⟩
  | .hbm, ⟨10, _⟩ => ⟨S2x4352x2x64, .f32⟩
  | .hbm, ⟨11, _⟩ => ⟨S2x4352x2x4x64, .f32⟩
  | .hbm, ⟨12, _⟩ => ⟨S2x4352x8x64, .f32⟩
  | .hbm, ⟨13, _⟩ => ⟨S2x4096x8x64, .f32⟩
  | .hbm, ⟨14, _⟩ => ⟨S2x8x4096x4352, .f32⟩
  | .hbm, ⟨15, _⟩ => ⟨S_, .f32⟩
  | .hbm, ⟨16, _⟩ => ⟨S2x8x4096x4352, .f32⟩
  | .hbm, ⟨17, _⟩ => ⟨S2x8x4096x4352, .f32⟩
  | .hbm, ⟨18, _⟩ => ⟨S_, .f32⟩
  | .hbm, ⟨19, _⟩ => ⟨S2x8x4096, .f32⟩
  | .hbm, ⟨20, _⟩ => ⟨S_, .f32⟩
  | .hbm, ⟨21, _⟩ => ⟨S2x8x4096, .f32⟩
  | .hbm, ⟨22, _⟩ => ⟨S2x8x4096, .f32⟩
  | .hbm, ⟨23, _⟩ => ⟨S2x8x4096x1, .f32⟩
  | .hbm, ⟨24, _⟩ => ⟨S2x8x4096x4352, .f32⟩
  | .hbm, ⟨25, _⟩ => ⟨S2x8x4096x4352, .f32⟩
  | .hbm, ⟨26, _⟩ => ⟨S2x8x4096x4352, .f32⟩
  | .hbm, ⟨27, _⟩ => ⟨S_, .f32⟩
  | .hbm, ⟨28, _⟩ => ⟨S2x8x4096, .f32⟩
  | .hbm, ⟨29, _⟩ => ⟨S2x8x4096x1, .f32⟩
  | .hbm, ⟨30, _⟩ => ⟨S2x8x4096x4352, .f32⟩
  | .hbm, ⟨31, _⟩ => ⟨S2x8x4096x4352, .f32⟩
  | .hbm, ⟨32, _⟩ => ⟨S2x8x64x4096, .f32⟩
  | .hbm, ⟨33, _⟩ => ⟨S2x4096x8x64, .f32⟩
  | .hbm, ⟨34, _⟩ => ⟨S2x256x8x64, .f32⟩
  | .hbm, ⟨35, _⟩ => ⟨S2x256x8x64, .f32⟩
  | .hbm, ⟨36, _⟩ => ⟨S2x256x8x64, .f32⟩
  | .hbm, ⟨37, _⟩ => ⟨S2x8x256x256, .f32⟩
  | .hbm, ⟨38, _⟩ => ⟨S_, .f32⟩
  | .hbm, ⟨39, _⟩ => ⟨S2x8x256x256, .f32⟩
  | .hbm, ⟨40, _⟩ => ⟨S2x8x256x256, .f32⟩
  | .hbm, ⟨41, _⟩ => ⟨S_, .f32⟩
  | .hbm, ⟨42, _⟩ => ⟨S2x8x256, .f32⟩
  | .hbm, ⟨43, _⟩ => ⟨S_, .f32⟩
  | .hbm, ⟨44, _⟩ => ⟨S2x8x256, .f32⟩
  | .hbm, ⟨45, _⟩ => ⟨S2x8x256, .f32⟩
  | .hbm, ⟨46, _⟩ => ⟨S2x8x256x1, .f32⟩
  | .hbm, ⟨47, _⟩ => ⟨S2x8x256x256, .f32⟩
  | .hbm, ⟨48, _⟩ => ⟨S2x8x256x256, .f32⟩
  | .hbm, ⟨49, _⟩ => ⟨S2x8x256x256, .f32⟩
  | .hbm, ⟨50, _⟩ => ⟨S_, .f32⟩
  | .hbm, ⟨51, _⟩ => ⟨S2x8x256, .f32⟩
  | .hbm, ⟨52, _⟩ => ⟨S2x8x256x1, .f32⟩
  | .hbm, ⟨53, _⟩ => ⟨S2x8x256x256, .f32⟩
  | .hbm, ⟨54, _⟩ => ⟨S2x8x256x256, .f32⟩
  | .hbm, ⟨55, _⟩ => ⟨S2x8x64x256, .f32⟩
  | .hbm, ⟨56, _⟩ => ⟨S2x256x8x64, .f32⟩
  | .hbm, ⟨57, _⟩ => ⟨S2x4352x8x64, .f32⟩
  | .hbm, ⟨58, _⟩ => ⟨S8704x512, .f32⟩
  | .hbm, ⟨59, _⟩ => ⟨S8704x512, .bf16⟩
  | .hbm, ⟨60, _⟩ => ⟨S2x4352x8x64, .f32⟩
  | .hbm, ⟨61, _⟩ => ⟨S8704x128, .f32⟩
  | .hbm, ⟨62, _⟩ => ⟨S2x4352x2x64, .f32⟩
  | .hbm, ⟨63, _⟩ => ⟨S2x4352x2x4x64, .f32⟩
  | .hbm, ⟨64, _⟩ => ⟨S2x4352x8x64, .f32⟩
  | .hbm, ⟨65, _⟩ => ⟨S8704x128, .f32⟩
  | .hbm, ⟨66, _⟩ => ⟨S2x4352x2x64, .f32⟩
  | .hbm, ⟨67, _⟩ => ⟨S2x4352x2x4x64, .f32⟩
  | .hbm, ⟨68, _⟩ => ⟨S2x4352x8x64, .f32⟩
  | .hbm, ⟨69, _⟩ => ⟨S2x256x8x64, .f32⟩
  | .hbm, ⟨70, _⟩ => ⟨S2x256x8x64, .f32⟩
  | .hbm, ⟨71, _⟩ => ⟨S2x8x256x256, .f32⟩
  | .hbm, ⟨72, _⟩ => ⟨S2x256x8x256, .f32⟩
  | .hbm, ⟨73, _⟩ => ⟨S_, .f32⟩
  | .hbm, ⟨74, _⟩ => ⟨S2x256x8x256, .f32⟩
  | .hbm, ⟨75, _⟩ => ⟨S2x256x8x256, .f32⟩
  | .hbm, ⟨76, _⟩ => ⟨S_, .f32⟩
  | .hbm, ⟨77, _⟩ => ⟨S2x256x8, .f32⟩
  | .hbm, ⟨78, _⟩ => ⟨S2x256x8x1, .f32⟩
  | .hbm, ⟨79, _⟩ => ⟨S2x256x8x256, .f32⟩
  | .hbm, ⟨80, _⟩ => ⟨S2x256x8x256, .f32⟩
  | .hbm, ⟨81, _⟩ => ⟨S2x256x8x256, .f32⟩
  | .hbm, ⟨82, _⟩ => ⟨S_, .f32⟩
  | .hbm, ⟨83, _⟩ => ⟨S2x256x8, .f32⟩
  | .hbm, ⟨84, _⟩ => ⟨S2x256x8x1, .f32⟩
  | .hbm, ⟨85, _⟩ => ⟨S2x256x8x1, .f32⟩
  | .hbm, ⟨86, _⟩ => ⟨S2x256x8x1, .f32⟩
  | .hbm, ⟨87, _⟩ => ⟨S2x256x8, .f32⟩
  | .hbm, ⟨88, _⟩ => ⟨S_, .f32⟩
  | .hbm, ⟨89, _⟩ => ⟨S_, .f32⟩
  | .hbm, ⟨90, _⟩ => ⟨S2x256x8, .f32⟩
  | .hbm, ⟨91, _⟩ => ⟨S2x256x8, .f32⟩
  | .hbm, ⟨92, _⟩ => ⟨S2x4096x8x64, .f32⟩
  | .hbm, ⟨93, _⟩ => ⟨S2x8x4352x4096, .f32⟩
  | .hbm, ⟨94, _⟩ => ⟨S2x4096x8x4352, .f32⟩
  | .hbm, ⟨95, _⟩ => ⟨S_, .f32⟩
  | .hbm, ⟨96, _⟩ => ⟨S2x4096x8x4352, .f32⟩
  | .hbm, ⟨97, _⟩ => ⟨S2x4096x8x4352, .f32⟩
  | .hbm, ⟨98, _⟩ => ⟨S_, .f32⟩
  | .hbm, ⟨99, _⟩ => ⟨S2x4096x8, .f32⟩
  | .hbm, ⟨100, _⟩ => ⟨S2x4096x8x1, .f32⟩
  | .hbm, ⟨101, _⟩ => ⟨S2x4096x8x4352, .f32⟩
  | .hbm, ⟨102, _⟩ => ⟨S2x4096x8x4352, .f32⟩
  | .hbm, ⟨103, _⟩ => ⟨S2x4096x8x4352, .f32⟩
  | .hbm, ⟨104, _⟩ => ⟨S_, .f32⟩
  | .hbm, ⟨105, _⟩ => ⟨S2x4096x8, .f32⟩
  | .hbm, ⟨106, _⟩ => ⟨S2x4096x8x1, .f32⟩
  | .hbm, ⟨107, _⟩ => ⟨S2x4096x8x1, .f32⟩
  | .hbm, ⟨108, _⟩ => ⟨S2x4096x8x1, .f32⟩
  | .hbm, ⟨109, _⟩ => ⟨S2x4096x8, .f32⟩
  | .hbm, ⟨110, _⟩ => ⟨S_, .f32⟩
  | .hbm, ⟨111, _⟩ => ⟨S_, .f32⟩
  | .hbm, ⟨112, _⟩ => ⟨S2x4096x8, .f32⟩
  | .hbm, ⟨113, _⟩ => ⟨S2x4096x8, .f32⟩
  | .hbm, ⟨114, _⟩ => ⟨S2x4352x8, .f32⟩
  | .hbm, ⟨115, _⟩ => ⟨S8704x8, .f32⟩
  | .hbm, ⟨116, _⟩ => ⟨S_, .i32⟩
  | .hbm, ⟨117, _⟩ => ⟨S_, .f32⟩
  | .hbm, ⟨118, _⟩ => ⟨S8704x128, .f32⟩
  | .hbm, ⟨119, _⟩ => ⟨S8704x512, .f32⟩
  | .hbm, ⟨120, _⟩ => ⟨S8704x128, .bf16⟩
  | .hbm, ⟨121, _⟩ => ⟨S8704x128, .bf16⟩
  | .local _ .vmem, ⟨0, _⟩ => ⟨S256x512, .f32⟩
  | .local _ .vmem, ⟨1, _⟩ => ⟨S256x512, .f32⟩
  | .local _ .vmem, ⟨2, _⟩ => ⟨S4352x128, .bf16⟩
  | .local _ .vmem, ⟨3, _⟩ => ⟨S4352x128, .bf16⟩
  | .local _ .vmem, ⟨4, _⟩ => ⟨S4352x128, .bf16⟩
  | .local _ .vmem, ⟨5, _⟩ => ⟨S4352x128, .bf16⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S4352x128, .bf16⟩
  | .local _ .vmem, ⟨15, _⟩ => ⟨S4352x128, .bf16⟩
  | .local _ .vmem, ⟨16, _⟩ => ⟨S4352x128, .bf16⟩
  | .local _ .vmem, ⟨17, _⟩ => ⟨S4352x128, .bf16⟩
  | .local _ .vmem, ⟨18, _⟩ => ⟨S4352x128, .f32⟩
  | .local _ .vmem, ⟨19, _⟩ => ⟨S4352x128, .f32⟩
  | _, _ => ⟨S8704x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_7 : Ref sig .tc := ⟨.hbm, 73, rfl⟩
abbrev main_v61 : Ref sig .tc := ⟨.hbm, 74, rfl⟩
abbrev main_v62 : Ref sig .tc := ⟨.hbm, 75, rfl⟩
abbrev main_cst_8 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_9 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_10 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_cst_11 : Ref sig .tc := ⟨.hbm, 95, rfl⟩
abbrev main_v79 : Ref sig .tc := ⟨.hbm, 96, rfl⟩
abbrev main_v80 : Ref sig .tc := ⟨.hbm, 97, rfl⟩
abbrev main_cst_12 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_13 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_14 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_c : Ref sig .tc := ⟨.hbm, 116, rfl⟩
abbrev main_call0_v0 : Ref sig .tc := ⟨.hbm, 117, rfl⟩
abbrev main_v96 : Ref sig .tc := ⟨.hbm, 118, rfl⟩
abbrev main_v97_0 : Ref sig .tc := ⟨.hbm, 119, rfl⟩
abbrev main_v97_1 : Ref sig .tc := ⟨.hbm, 120, rfl⟩
abbrev main_v97_2 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 17], ![false, false]⟩

def k0_cond2 (i : grid0.Coords) : BitVec 1 :=
  let arg1 : BitVec 32 := BitVec.ofNat 32 (i 1).val
  let c1_i32 : BitVec 32 := 1#32
  let v4 : BitVec 1 := Scalar.cmpi .slt arg1 c1_i32
  let v5 : BitVec 32 := Scalar.extui v4
  let c0_i32_1 : BitVec 32 := 0#32
  let v6 : BitVec 1 := Scalar.cmpi .ne v5 c0_i32_1
  v6

def k0_cond3 (i : grid0.Coords) : BitVec 1 :=
  let arg1 : BitVec 32 := BitVec.ofNat 32 (i 1).val
  let c1_i32 : BitVec 32 := 1#32
  let v4 : BitVec 1 := Scalar.cmpi .slt arg1 c1_i32
  let v_true : BitVec 1 := 1#1
  let v7 : BitVec 1 := Scalar.xori v4 v_true
  let v8 : BitVec 32 := Scalar.extui v7
  let c0_i32_2 : BitVec 32 := 0#32
  let v9 : BitVec 1 := Scalar.cmpi .ne v8 c0_i32_2
  v9

def k0_cond4 (i : grid0.Coords) : BitVec 1 :=
  let arg1 : BitVec 32 := BitVec.ofNat 32 (i 1).val
  let c16_i32 : BitVec 32 := 16#32
  let v10 : BitVec 1 := Scalar.cmpi .eq arg1 c16_i32
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4352x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4352x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GroupedIdeal.lean ====
variable {F : FTy → Type} [FloatOps F] [Named F]
def κ : String → Option EReal := fun
  | "eighth_log2e" => some (((Real.sqrt 64)⁻¹ * (Real.log 2)⁻¹ : ℝ) : EReal)
  | _ => none
-- ==== GroupedReferenceIdeal.lean ====
abbrev S8704x512 : Shape := ⟨2, ![8704, 512]⟩
abbrev S8704x128 : Shape := ⟨2, ![8704, 128]⟩
abbrev S2x4352x8x64 : Shape := ⟨4, ![2, 4352, 8, 64]⟩
abbrev S2x4352x2x64 : Shape := ⟨4, ![2, 4352, 2, 64]⟩
abbrev S2x4352x2x4x64 : Shape := ⟨5, ![2, 4352, 2, 4, 64]⟩
abbrev S2x4096x8x64 : Shape := ⟨4, ![2, 4096, 8, 64]⟩
abbrev S2x8x4096x4352 : Shape := ⟨4, ![2, 8, 4096, 4352]⟩
abbrev S_ : Shape := ⟨0, ![]⟩
abbrev S2x8x4096 : Shape := ⟨3, ![2, 8, 4096]⟩
abbrev S2x8x4096x1 : Shape := ⟨4, ![2, 8, 4096, 1]⟩
abbrev S2x8x64x4096 : Shape := ⟨4, ![2, 8, 64, 4096]⟩
abbrev S2x256x8x64 : Shape := ⟨4, ![2, 256, 8, 64]⟩
abbrev S2x8x256x256 : Shape := ⟨4, ![2, 8, 256, 256]⟩
abbrev S2x8x256 : Shape := ⟨3, ![2, 8, 256]⟩
abbrev S2x8x256x1 : Shape := ⟨4, ![2, 8, 256, 1]⟩
abbrev S2x8x64x256 : Shape := ⟨4, ![2, 8, 64, 256]⟩
abbrev S2x8x256x64 : Shape := ⟨4, ![2, 8, 256, 64]⟩
abbrev S2x8x64x4352 : Shape := ⟨4, ![2, 8, 64, 4352]⟩
abbrev S2x8x4352x64 : Shape := ⟨4, ![2, 8, 4352, 64]⟩
abbrev S2x8x4096x64 : Shape := ⟨4, ![2, 8, 4096, 64]⟩

abbrev nBuf : Space → Nat
  | .hbm => 183
  | .vmem => 0
  | .smem => 0
  | _ => 0

abbrev hbmTy0_0 (i : Nat) : BufTy := match i % 128 with
  | 0 => ⟨S8704x512, .f32⟩
  | 1 => ⟨S8704x128, .bf16⟩
  | 2 => ⟨S8704x128, .bf16⟩
  | 3 => ⟨S8704x512, .bf16⟩
  | 4 => ⟨S2x4352x8x64, .f32⟩
  | 5 => ⟨S8704x128, .f32⟩
  | 6 => ⟨S2x4352x2x64, .f32⟩
  | 7 => ⟨S2x4352x2x4x64, .f32⟩
  | 8 => ⟨S2x4352x8x64, .f32⟩
  | 9 => ⟨S8704x128, .f32⟩
  | 10 => ⟨S2x4352x2x64, .f32⟩
  | 11 => ⟨S2x4352x2x4x64, .f32⟩
  | 12 => ⟨S2x4352x8x64, .f32⟩
  | 13 => ⟨S2x4096x8x64, .f32⟩
  | 14 => ⟨S2x8x4096x4352, .f32⟩
  | 15 => ⟨S_, .f32⟩
  | 16 => ⟨S2x8x4096x4352, .f32⟩
  | 17 => ⟨S2x8x4096x4352, .f32⟩
  | 18 => ⟨S_, .f32⟩
  | 19 => ⟨S2x8x4096, .f32⟩
  | 20 => ⟨S2x8x4096x1, .f32⟩
  | 21 => ⟨S2x8x4096x4352, .f32⟩
  | 22 => ⟨S2x8x4096x4352, .i1⟩
  | 23 => ⟨S2x8x4096x4352, .f32⟩
  | 24 => ⟨S_, .f32⟩
  | 25 => ⟨S2x8x4096, .f32⟩
  | 26 => ⟨S_, .f32⟩
  | 27 => ⟨S2x8x4096, .f32⟩
  | 28 => ⟨S2x8x4096, .f32⟩
  | 29 => ⟨S_, .f32⟩
  | 30 => ⟨S2x8x4096, .f32⟩
  | 31 => ⟨S2x8x4096, .i1⟩
  | 32 => ⟨S_, .f32⟩
  | 33 => ⟨S2x8x4096, .f32⟩
  | 34 => ⟨S2x8x4096, .i1⟩
  | 35 => ⟨S_, .f32⟩
  | 36 => ⟨S2x8x4096, .f32⟩
  | 37 => ⟨S_, .f32⟩
  | 38 => ⟨S2x8x4096, .f32⟩
  | 39 => ⟨S_, .f32⟩
  | 40 => ⟨S2x8x4096, .f32⟩
  | 41 => ⟨S2x8x4096, .f32⟩
  | 42 => ⟨S2x8x4096, .f32⟩
  | 43 => ⟨S2x8x4096x1, .f32⟩
  | 44 => ⟨S2x8x4096x4352, .f32⟩
  | 45 => ⟨S2x8x4096x4352, .f32⟩
  | 46 => ⟨S2x8x4096x4352, .f32⟩
  | 47 => ⟨S_, .f32⟩
  | 48 => ⟨S2x8x4096, .f32⟩
  | 49 => ⟨S2x8x4096x1, .f32⟩
  | 50 => ⟨S2x8x4096x4352, .f32⟩
  | 51 => ⟨S2x8x4096x4352, .f32⟩
  | 52 => ⟨S2x8x4096x1, .f32⟩
  | 53 => ⟨S_, .f32⟩
  | 54 => ⟨S2x8x4096x1, .f32⟩
  | 55 => ⟨S2x8x4096x1, .f32⟩
  | 56 => ⟨S2x8x64x4096, .f32⟩
  | 57 => ⟨S2x4096x8x64, .f32⟩
  | 58 => ⟨S2x256x8x64, .f32⟩
  | 59 => ⟨S2x256x8x64, .f32⟩
  | 60 => ⟨S2x256x8x64, .f32⟩
  | 61 => ⟨S2x8x256x256, .f32⟩
  | 62 => ⟨S_, .f32⟩
  | 63 => ⟨S2x8x256x256, .f32⟩
  | 64 => ⟨S2x8x256x256, .f32⟩
  | 65 => ⟨S_, .f32⟩
  | 66 => ⟨S2x8x256, .f32⟩
  | 67 => ⟨S2x8x256x1, .f32⟩
  | 68 => ⟨S2x8x256x256, .f32⟩
  | 69 => ⟨S2x8x256x256, .i1⟩
  | 70 => ⟨S2x8x256x256, .f32⟩
  | 71 => ⟨S_, .f32⟩
  | 72 => ⟨S2x8x256, .f32⟩
  | 73 => ⟨S_, .f32⟩
  | 74 => ⟨S2x8x256, .f32⟩
  | 75 => ⟨S2x8x256, .f32⟩
  | 76 => ⟨S_, .f32⟩
  | 77 => ⟨S2x8x256, .f32⟩
  | 78 => ⟨S2x8x256, .i1⟩
  | 79 => ⟨S_, .f32⟩
  | 80 => ⟨S2x8x256, .f32⟩
  | 81 => ⟨S2x8x256, .i1⟩
  | 82 => ⟨S_, .f32⟩
  | 83 => ⟨S2x8x256, .f32⟩
  | 84 => ⟨S_, .f32⟩
  | 85 => ⟨S2x8x256, .f32⟩
  | 86 => ⟨S_, .f32⟩
  | 87 => ⟨S2x8x256, .f32⟩
  | 88 => ⟨S2x8x256, .f32⟩
  | 89 => ⟨S2x8x256, .f32⟩
  | 90 => ⟨S2x8x256x1, .f32⟩
  | 91 => ⟨S2x8x256x256, .f32⟩
  | 92 => ⟨S2x8x256x256, .f32⟩
  | 93 => ⟨S2x8x256x256, .f32⟩
  | 94 => ⟨S_, .f32⟩
  | 95 => ⟨S2x8x256, .f32⟩
  | 96 => ⟨S2x8x256x1, .f32⟩
  | 97 => ⟨S2x8x256x256, .f32⟩
  | 98 => ⟨S2x8x256x256, .f32⟩
  | 99 => ⟨S2x8x256x1, .f32⟩
  | 100 => ⟨S_, .f32⟩
  | 101 => ⟨S2x8x256x1, .f32⟩
  | 102 => ⟨S2x8x256x1, .f32⟩
  | 103 => ⟨S2x8x64x256, .f32⟩
  | 104 => ⟨S2x256x8x64, .f32⟩
  | 105 => ⟨S2x4352x8x64, .f32⟩
  | 106 => ⟨S8704x512, .f32⟩
  | 107 => ⟨S8704x512, .f32⟩
  | 108 => ⟨S2x4352x8x64, .f32⟩
  | 109 => ⟨S2x256x8x64, .f32⟩
  | 110 => ⟨S2x4096x8x64, .f32⟩
  | 111 => ⟨S2x8x64x256, .f32⟩
  | 112 => ⟨S2x8x256x256, .f32⟩
  | 113 => ⟨S2x8x64x256, .f32⟩
  | 114 => ⟨S2x256x8x64, .f32⟩
  | 115 => ⟨S2x8x256x256, .f32⟩
  | 116 => ⟨S2x8x256x256, .f32⟩
  | 117 => ⟨S2x8x256x256, .f32⟩
  | 118 => ⟨S_, .f32⟩
  | 119 => ⟨S2x8x256, .f32⟩
  | 120 => ⟨S2x8x256x1, .f32⟩
  | 121 => ⟨S2x8x256x1, .f32⟩
  | 122 => ⟨S2x8x256x256, .f32⟩
  | 123 => ⟨S2x8x256x256, .f32⟩
  | 124 => ⟨S_, .f32⟩
  | 125 => ⟨S2x8x256, .f32⟩
  | 126 => ⟨S2x8x256x256, .f32⟩
  | 127 => ⟨S2x8x256x256, .f32⟩
  | _ => ⟨S8704x512, .f32⟩

abbrev hbmTy0_1 (i : Nat) : BufTy := match i % 128 with
  | 0 => ⟨S2x8x256x256, .f32⟩
  | 1 => ⟨S_, .f32⟩
  | 2 => ⟨S2x8x256x256, .f32⟩
  | 3 => ⟨S2x8x256x256, .f32⟩
  | 4 => ⟨S2x8x256x64, .f32⟩
  | 5 => ⟨S2x256x8x64, .f32⟩
  | 6 => ⟨S2x8x256x64, .f32⟩
  | 7 => ⟨S2x256x8x64, .f32⟩
  | 8 => ⟨S_, .f32⟩
  | 9 => ⟨S2x4352x8x64, .f32⟩
  | 10 => ⟨S_, .f32⟩
  | 11 => ⟨S2x4352x8x64, .f32⟩
  | 12 => ⟨S_, .f32⟩
  | 13 => ⟨S2x4352x8x64, .f32⟩
  | 14 => ⟨S2x8x64x4096, .f32⟩
  | 15 => ⟨S2x8x4096x4352, .f32⟩
  | 16 => ⟨S2x8x64x4352, .f32⟩
  | 17 => ⟨S2x4352x8x64, .f32⟩
  | 18 => ⟨S2x4352x8x64, .f32⟩
  | 19 => ⟨S2x8x4096x4352, .f32⟩
  | 20 => ⟨S2x8x4096x4352, .f32⟩
  | 21 => ⟨S2x8x4096x4352, .f32⟩
  | 22 => ⟨S_, .f32⟩
  | 23 => ⟨S2x8x4096, .f32⟩
  | 24 => ⟨S2x8x4096x1, .f32⟩
  | 25 => ⟨S2x8x4096x1, .f32⟩
  | 26 => ⟨S2x8x4096x4352, .f32⟩
  | 27 => ⟨S2x8x4096x4352, .f32⟩
  | 28 => ⟨S_, .f32⟩
  | 29 => ⟨S2x8x4096, .f32⟩
  | 30 => ⟨S2x8x4096x4352, .f32⟩
  | 31 => ⟨S2x8x4096x4352, .f32⟩
  | 32 => ⟨S2x8x4096x4352, .f32⟩
  | 33 => ⟨S_, .f32⟩
  | 34 => ⟨S2x8x4096x4352, .f32⟩
  | 35 => ⟨S2x8x4096x4352, .f32⟩
  | 36 => ⟨S2x8x4352x64, .f32⟩
  | 37 => ⟨S2x4352x8x64, .f32⟩
  | 38 => ⟨S2x4352x8x64, .f32⟩
  | 39 => ⟨S2x8x4096x64, .f32⟩
  | 40 => ⟨S2x4096x8x64, .f32⟩
  | 41 => ⟨S_, .f32⟩
  | 42 => ⟨S2x4352x8x64, .f32⟩
  | 43 => ⟨S2x4352x8x64, .f32⟩
  | 44 => ⟨S2x4352x2x4x64, .f32⟩
  | 45 => ⟨S_, .f32⟩
  | 46 => ⟨S2x4352x2x64, .f32⟩
  | 47 => ⟨S8704x128, .f32⟩
  | 48 => ⟨S8704x128, .bf16⟩
  | 49 => ⟨S2x4352x2x4x64, .f32⟩
  | 50 => ⟨S_, .f32⟩
  | 51 => ⟨S2x4352x2x64, .f32⟩
  | 52 => ⟨S8704x128, .f32⟩
  | 53 => ⟨S8704x128, .bf16⟩
  | 54 => ⟨S8704x512, .f32⟩
  | _ => ⟨S8704x512, .f32⟩

abbrev hbmTy (i : Nat) : BufTy := match i / 128 with
  | 0 => hbmTy0_0 i
  | 1 => hbmTy0_1 i
  | _ => ⟨S8704x512, .f32⟩

abbrev bufTy : (tb : Table) → Fin (tcTables nBuf tb) → BufTy
  | .hbm, ⟨i, _⟩ => hbmTy i
  | _, _ => ⟨S8704x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_cst_13 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_cst_16 : Ref sig .tc := ⟨.hbm, 82, rfl⟩
abbrev main_v61 : Ref sig .tc := ⟨.hbm, 83, rfl⟩
abbrev main_cst_17 : Ref sig .tc := ⟨.hbm, 84, rfl⟩
abbrev main_v62 : Ref sig .tc := ⟨.hbm, 85, rfl⟩
abbrev main_cst_18 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_19 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_20 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_21 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_22 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_23 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_cst_24 : Ref sig .tc := ⟨.hbm, 136, rfl⟩
abbrev main_v107 : Ref sig .tc := ⟨.hbm, 137, rfl⟩
abbrev main_cst_25 : Ref sig .tc := ⟨.hbm, 138, rfl⟩
abbrev main_v108 : Ref sig .tc := ⟨.hbm, 139, rfl⟩
abbrev main_cst_26 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_27 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_cst_28 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_cst_29 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_30 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_31 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_cst_32 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩

abbrev nD : Nat := 1
abbrev τ : Topo := Topo.v7x

variable {F : FTy → Type} [FloatOps F]
-- ==== Up.lean ====
abbrev S8704x256 : Shape := ⟨2, ![8704, 256]⟩
abbrev S256x512 : Shape := ⟨2, ![256, 512]⟩
abbrev S8704x512 : Shape := ⟨2, ![8704, 512]⟩
abbrev S8704x128 : Shape := ⟨2, ![8704, 128]⟩
abbrev S128x256 : Shape := ⟨2, ![128, 256]⟩
abbrev S512x256 : Shape := ⟨2, ![512, 256]⟩
abbrev S512x512 : Shape := ⟨2, ![512, 512]⟩
abbrev S512x128 : Shape := ⟨2, ![512, 128]⟩

abbrev nBuf : Space → Nat
  | .hbm => 14
  | .vmem => 30
  | .smem => 0
  | _ => 0

abbrev bufTy : (tb : Table) → Fin (tcTables nBuf tb) → BufTy
  | .hbm, ⟨0, _⟩ => ⟨S8704x256, .bf16⟩
  | .hbm, ⟨1, _⟩ => ⟨S256x512, .bf16⟩
  | .hbm, ⟨2, _⟩ => ⟨S8704x512, .f32⟩
  | .hbm, ⟨3, _⟩ => ⟨S8704x128, .bf16⟩
  | .hbm, ⟨4, _⟩ => ⟨S128x256, .bf16⟩
  | .hbm, ⟨5, _⟩ => ⟨S8704x256, .f32⟩
  | .hbm, ⟨6, _⟩ => ⟨S128x256, .bf16⟩
  | .hbm, ⟨7, _⟩ => ⟨S8704x256, .bf16⟩
  | .hbm, ⟨8, _⟩ => ⟨S8704x512, .f32⟩
  | .hbm, ⟨9, _⟩ => ⟨S8704x256, .bf16⟩
  | .hbm, ⟨10, _⟩ => ⟨S8704x256, .f32⟩
  | .hbm, ⟨11, _⟩ => ⟨S8704x128, .bf16⟩
  | .hbm, ⟨12, _⟩ => ⟨S8704x256, .bf16⟩
  | .hbm, ⟨13, _⟩ => ⟨S8704x128, .bf16⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S256x512, .bf16⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S128x256, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S128x256, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S128x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S128x256, .bf16⟩
  | .local _ .vmem, ⟨28, _⟩ => ⟨S512x128, .bf16⟩
  | .local _ .vmem, ⟨29, _⟩ => ⟨S512x128, .bf16⟩
  | _, _ => ⟨S8704x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨2, ![1, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 17], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 17], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S128x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 2 → Memref sig .tc .vmem S512x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 17], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S128x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S512x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 17], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S512x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S128x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S512x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 17], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S512x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S128x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S512x128 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== UpReferenceIdeal.lean ====
abbrev S8704x256 : Shape := ⟨2, ![8704, 256]⟩
abbrev S256x512 : Shape := ⟨2, ![256, 512]⟩
abbrev S8704x512 : Shape := ⟨2, ![8704, 512]⟩
abbrev S8704x128 : Shape := ⟨2, ![8704, 128]⟩
abbrev S128x256 : Shape := ⟨2, ![128, 256]⟩

abbrev nBuf : Space → Nat
  | .hbm => 25
  | .vmem => 0
  | .smem => 0
  | _ => 0

abbrev bufTy : (tb : Table) → Fin (tcTables nBuf tb) → BufTy
  | .hbm, ⟨0, _⟩ => ⟨S8704x256, .bf16⟩
  | .hbm, ⟨1, _⟩ => ⟨S256x512, .bf16⟩
  | .hbm, ⟨2, _⟩ => ⟨S8704x512, .f32⟩
  | .hbm, ⟨3, _⟩ => ⟨S8704x128, .bf16⟩
  | .hbm, ⟨4, _⟩ => ⟨S128x256, .bf16⟩
  | .hbm, ⟨5, _⟩ => ⟨S8704x256, .f32⟩
  | .hbm, ⟨6, _⟩ => ⟨S128x256, .bf16⟩
  | .hbm, ⟨7, _⟩ => ⟨S8704x256, .bf16⟩
  | .hbm, ⟨8, _⟩ => ⟨S8704x256, .f32⟩
  | .hbm, ⟨9, _⟩ => ⟨S256x512, .f32⟩
  | .hbm, ⟨10, _⟩ => ⟨S8704x512, .f32⟩
  | .hbm, ⟨11, _⟩ => ⟨S8704x128, .f32⟩
  | .hbm, ⟨12, _⟩ => ⟨S128x256, .f32⟩
  | .hbm, ⟨13, _⟩ => ⟨S8704x256, .f32⟩
  | .hbm, ⟨14, _⟩ => ⟨S8704x128, .f32⟩
  | .hbm, ⟨15, _⟩ => ⟨S128x256, .f32⟩
  | .hbm, ⟨16, _⟩ => ⟨S8704x256, .f32⟩
  | .hbm, ⟨17, _⟩ => ⟨S8704x256, .bf16⟩
  | .hbm, ⟨18, _⟩ => ⟨S8704x256, .f32⟩
  | .hbm, ⟨19, _⟩ => ⟨S8704x256, .bf16⟩
  | .hbm, ⟨20, _⟩ => ⟨S8704x128, .f32⟩
  | .hbm, ⟨21, _⟩ => ⟨S8704x128, .bf16⟩
  | .hbm, ⟨22, _⟩ => ⟨S8704x256, .f32⟩
  | .hbm, ⟨23, _⟩ => ⟨S8704x128, .f32⟩
  | .hbm, ⟨24, _⟩ => ⟨S8704x128, .bf16⟩
  | _, _ => ⟨S8704x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== QWeight.lean ====
abbrev S8704x256 : Shape := ⟨2, ![8704, 256]⟩
abbrev S256x512 : Shape := ⟨2, ![256, 512]⟩
abbrev S8704x512 : Shape := ⟨2, ![8704, 512]⟩
abbrev S2176x256 : Shape := ⟨2, ![2176, 256]⟩
abbrev S2176x512 : Shape := ⟨2, ![2176, 512]⟩

abbrev nBuf : Space → Nat
  | .hbm => 4
  | .vmem => 6
  | .smem => 0
  | _ => 0

abbrev bufTy : (tb : Table) → Fin (tcTables nBuf tb) → BufTy
  | .hbm, ⟨0, _⟩ => ⟨S8704x256, .bf16⟩
  | .hbm, ⟨1, _⟩ => ⟨S256x512, .bf16⟩
  | .hbm, ⟨2, _⟩ => ⟨S8704x512, .f32⟩
  | .hbm, ⟨3, _⟩ => ⟨S256x512, .bf16⟩
  | .local _ .vmem, ⟨0, _⟩ => ⟨S2176x256, .bf16⟩
  | .local _ .vmem, ⟨1, _⟩ => ⟨S2176x256, .bf16⟩
  | .local _ .vmem, ⟨2, _⟩ => ⟨S2176x512, .f32⟩
  | .local _ .vmem, ⟨3, _⟩ => ⟨S2176x512, .f32⟩
  | .local _ .vmem, ⟨4, _⟩ => ⟨S256x512, .bf16⟩
  | .local _ .vmem, ⟨5, _⟩ => ⟨S256x512, .f32⟩
  | _, _ => ⟨S8704x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QWeightReferenceIdeal.lean ====
abbrev S8704x256 : Shape := ⟨2, ![8704, 256]⟩
abbrev S256x512 : Shape := ⟨2, ![256, 512]⟩
abbrev S8704x512 : Shape := ⟨2, ![8704, 512]⟩
abbrev S512x256 : Shape := ⟨2, ![512, 256]⟩

abbrev nBuf : Space → Nat
  | .hbm => 9
  | .vmem => 0
  | .smem => 0
  | _ => 0

abbrev bufTy : (tb : Table) → Fin (tcTables nBuf tb) → BufTy
  | .hbm, ⟨0, _⟩ => ⟨S8704x256, .bf16⟩
  | .hbm, ⟨1, _⟩ => ⟨S256x512, .bf16⟩
  | .hbm, ⟨2, _⟩ => ⟨S8704x512, .f32⟩
  | .hbm, ⟨3, _⟩ => ⟨S8704x256, .f32⟩
  | .hbm, ⟨4, _⟩ => ⟨S256x512, .f32⟩
  | .hbm, ⟨5, _⟩ => ⟨S8704x512, .f32⟩
  | .hbm, ⟨6, _⟩ => ⟨S512x256, .f32⟩
  | .hbm, ⟨7, _⟩ => ⟨S256x512, .f32⟩
  | .hbm, ⟨8, _⟩ => ⟨S256x512, .bf16⟩
  | _, _ => ⟨S8704x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KWeight.lean ====
abbrev S8704x128 : Shape := ⟨2, ![8704, 128]⟩
abbrev S128x256 : Shape := ⟨2, ![128, 256]⟩
abbrev S8704x256 : Shape := ⟨2, ![8704, 256]⟩
abbrev S2176x128 : Shape := ⟨2, ![2176, 128]⟩
abbrev S2176x256 : Shape := ⟨2, ![2176, 256]⟩

abbrev nBuf : Space → Nat
  | .hbm => 4
  | .vmem => 6
  | .smem => 0
  | _ => 0

abbrev bufTy : (tb : Table) → Fin (tcTables nBuf tb) → BufTy
  | .hbm, ⟨0, _⟩ => ⟨S8704x128, .bf16⟩
  | .hbm, ⟨1, _⟩ => ⟨S128x256, .bf16⟩
  | .hbm, ⟨2, _⟩ => ⟨S8704x256, .f32⟩
  | .hbm, ⟨3, _⟩ => ⟨S128x256, .bf16⟩
  | .local _ .vmem, ⟨0, _⟩ => ⟨S2176x128, .bf16⟩
  | .local _ .vmem, ⟨1, _⟩ => ⟨S2176x128, .bf16⟩
  | .local _ .vmem, ⟨2, _⟩ => ⟨S2176x256, .f32⟩
  | .local _ .vmem, ⟨3, _⟩ => ⟨S2176x256, .f32⟩
  | .local _ .vmem, ⟨4, _⟩ => ⟨S128x256, .bf16⟩
  | .local _ .vmem, ⟨5, _⟩ => ⟨S128x256, .f32⟩
  | _, _ => ⟨S8704x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KWeightReferenceIdeal.lean ====
abbrev S8704x128 : Shape := ⟨2, ![8704, 128]⟩
abbrev S128x256 : Shape := ⟨2, ![128, 256]⟩
abbrev S8704x256 : Shape := ⟨2, ![8704, 256]⟩
abbrev S256x128 : Shape := ⟨2, ![256, 128]⟩

abbrev nBuf : Space → Nat
  | .hbm => 9
  | .vmem => 0
  | .smem => 0
  | _ => 0

abbrev bufTy : (tb : Table) → Fin (tcTables nBuf tb) → BufTy
  | .hbm, ⟨0, _⟩ => ⟨S8704x128, .bf16⟩
  | .hbm, ⟨1, _⟩ => ⟨S128x256, .bf16⟩
  | .hbm, ⟨2, _⟩ => ⟨S8704x256, .f32⟩
  | .hbm, ⟨3, _⟩ => ⟨S8704x128, .f32⟩
  | .hbm, ⟨4, _⟩ => ⟨S128x256, .f32⟩
  | .hbm, ⟨5, _⟩ => ⟨S8704x256, .f32⟩
  | .hbm, ⟨6, _⟩ => ⟨S256x128, .f32⟩
  | .hbm, ⟨7, _⟩ => ⟨S128x256, .f32⟩
  | .hbm, ⟨8, _⟩ => ⟨S128x256, .bf16⟩
  | _, _ => ⟨S8704x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== VWeight.lean ====
abbrev S8704x128 : Shape := ⟨2, ![8704, 128]⟩
abbrev S128x256 : Shape := ⟨2, ![128, 256]⟩
abbrev S8704x256 : Shape := ⟨2, ![8704, 256]⟩
abbrev S2176x128 : Shape := ⟨2, ![2176, 128]⟩
abbrev S2176x256 : Shape := ⟨2, ![2176, 256]⟩

abbrev nBuf : Space → Nat
  | .hbm => 4
  | .vmem => 6
  | .smem => 0
  | _ => 0

abbrev bufTy : (tb : Table) → Fin (tcTables nBuf tb) → BufTy
  | .hbm, ⟨0, _⟩ => ⟨S8704x128, .bf16⟩
  | .hbm, ⟨1, _⟩ => ⟨S128x256, .bf16⟩
  | .hbm, ⟨2, _⟩ => ⟨S8704x256, .bf16⟩
  | .hbm, ⟨3, _⟩ => ⟨S128x256, .bf16⟩
  | .local _ .vmem, ⟨0, _⟩ => ⟨S2176x128, .bf16⟩
  | .local _ .vmem, ⟨1, _⟩ => ⟨S2176x128, .bf16⟩
  | .local _ .vmem, ⟨2, _⟩ => ⟨S2176x256, .bf16⟩
  | .local _ .vmem, ⟨3, _⟩ => ⟨S2176x256, .bf16⟩
  | .local _ .vmem, ⟨4, _⟩ => ⟨S128x256, .bf16⟩
  | .local _ .vmem, ⟨5, _⟩ => ⟨S128x256, .f32⟩
  | _, _ => ⟨S8704x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2176x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2176x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== VWeightReferenceIdeal.lean ====
abbrev S8704x128 : Shape := ⟨2, ![8704, 128]⟩
abbrev S128x256 : Shape := ⟨2, ![128, 256]⟩
abbrev S8704x256 : Shape := ⟨2, ![8704, 256]⟩
abbrev S256x128 : Shape := ⟨2, ![256, 128]⟩

abbrev nBuf : Space → Nat
  | .hbm => 11
  | .vmem => 0
  | .smem => 0
  | _ => 0

abbrev bufTy : (tb : Table) → Fin (tcTables nBuf tb) → BufTy
  | .hbm, ⟨0, _⟩ => ⟨S8704x128, .bf16⟩
  | .hbm, ⟨1, _⟩ => ⟨S128x256, .bf16⟩
  | .hbm, ⟨2, _⟩ => ⟨S8704x256, .bf16⟩
  | .hbm, ⟨3, _⟩ => ⟨S8704x128, .f32⟩
  | .hbm, ⟨4, _⟩ => ⟨S128x256, .f32⟩
  | .hbm, ⟨5, _⟩ => ⟨S8704x256, .f32⟩
  | .hbm, ⟨6, _⟩ => ⟨S8704x256, .bf16⟩
  | .hbm, ⟨7, _⟩ => ⟨S8704x256, .f32⟩
  | .hbm, ⟨8, _⟩ => ⟨S256x128, .f32⟩
  | .hbm, ⟨9, _⟩ => ⟨S128x256, .f32⟩
  | .hbm, ⟨10, _⟩ => ⟨S128x256, .bf16⟩
  | _, _ => ⟨S8704x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Proof.Finite.lean ====
/- What the precondition says: every entry of every argument is a real number. -/
module

public import proofs.«01_k».proof.Defs
public import Idealize.ShloMosaic.Lib.ReduceAll
public import Idealize.ShloMosaic.Lib.Claim
public import Idealize.ShloMosaic.Lib.Decide
public import Idealize.ShloMosaic.Lib.Affine
public import Idealize.ShloMosaic.Lib.Pointwise.Select

@[expose] public section

noncomputable section

namespace Cert.Pre_finite

open Idealize.ShloMosaic

/-- The conditions that the precondition's operations take. -/
theorem conditions : Facts where
  bcast_S_S8704x512 := by decide
  reducesTo_S8704x512_S_d0_1 := by decide
  h_S_ := by decide
  bitsLt_bf16_f32 := by decide
  bcast_S_S8704x256 := by decide
  reducesTo_S8704x256_S_d0_1 := by decide

/-- A value of absolute value below the infinity is a real number. -/
theorem real_of_below (x : EReal) (h : FloatOps.cmpf (F := Ideal) (φ := .f32) .olt (FloatOps.hostAbsf (F := Ideal) (φ := .f32) x)
    (FloatOps.ofBits (F := Ideal) .f32 0x7F800000#32) = 1#1) : x = (x.toReal : EReal) := by
  have top : Ideal.ofBits .f32 0x7F800000#32 = ⊤ := by simp [Ideal.ofBits, Ideal.ieee]
  have below : max x (-x) < ⊤ := top ▸ (Idealize.ShloMosaic.Ideal.cmp_olt_eq_one _ _).1 h
  rw [max_lt_iff] at below
  refine (EReal.coe_toReal (ne_of_lt below.1) fun bot => ?_).symm
  rw [bot] at below
  exact absurd below.2 (by simp)

instance : Subsingleton S_.Idx := ⟨fun a b => funext fun i => i.elim0⟩

variable [Facts]

theorem finite_iff (q : FVec Ideal S8704x512 .f32) (k : FVec Ideal S8704x512 .bf16) (v g : FVec Ideal S8704x256 .bf16)
    (h : fn (F := Ideal) q k v g = fun _ => 1#1) :
    (∀ i, (q i : EReal) = (EReal.toReal (q i) : EReal)) ∧ (∀ i, (k i : EReal) = (EReal.toReal (k i) : EReal))
      ∧ (∀ i, (v i : EReal) = (EReal.toReal (v i) : EReal)) ∧ (∀ i, (g i : EReal) = (EReal.toReal (g i) : EReal)) := by
  have h0 := congrFun h fun a => a.elim0
  unfold fn fn_part1 at h0
  dsimp only at h0
  obtain ⟨h1, hg⟩ := IntOp.andi_eq_one.1 h0
  obtain ⟨h2, hv⟩ := IntOp.andi_eq_one.1 h1
  obtain ⟨hq, hk⟩ := IntOp.andi_eq_one.1 h2
  exact ⟨fun i => real_of_below _ (Host.reduce_andi_all _ _ _ _ _ hq i), fun i => real_of_below _ (Host.reduce_andi_all _ _ _ _ _ hk i),
    fun i => real_of_below _ (Host.reduce_andi_all _ _ _ _ _ hv i), fun i => real_of_below _ (Host.reduce_andi_all _ _ _ _ _ hg i)⟩

end Cert.Pre_finite

end
-- ==== Proof.GroupedFinite.lean ====
/- What the grouped call's precondition says: every entry of every argument is a real number. -/
module

public import proofs.«01_k».proof.Defs
public import proofs.«01_k».proof.Proof.Finite
public import Idealize.ShloMosaic.Lib.ReduceAll
public import Idealize.ShloMosaic.Lib.Claim
public import Idealize.ShloMosaic.Lib.Decide
public import Idealize.ShloMosaic.Lib.Affine
public import Idealize.ShloMosaic.Lib.Pointwise.Select

@[expose] public section

noncomputable section

namespace Cert.Pre_finite1

open Idealize.ShloMosaic

/-- The conditions that the precondition's operations take. -/
theorem conditions : Facts where
  bcast_S_S8704x512 := by decide
  reducesTo_S8704x512_S_d0_1 := by decide
  h_S_ := by decide
  bitsLt_bf16_f32 := by decide
  bcast_S_S8704x128 := by decide
  reducesTo_S8704x128_S_d0_1 := by decide

instance : Subsingleton S_.Idx := ⟨fun a b => funext fun i => i.elim0⟩

variable [Facts]

theorem finite_iff (q : FVec Ideal S8704x512 .f32) (k : FVec Ideal S8704x128 .bf16) (v : FVec Ideal S8704x128 .bf16) (g : FVec Ideal S8704x512 .bf16)
    (h : fn (F := Ideal) q k v g = fun _ => 1#1) :
    (∀ i, (q i : EReal) = (EReal.toReal (q i) : EReal)) ∧ (∀ i, (k i : EReal) = (EReal.toReal (k i) : EReal))
      ∧ (∀ i, (v i : EReal) = (EReal.toReal (v i) : EReal)) ∧ (∀ i, (g i : EReal) = (EReal.toReal (g i) : EReal)) := by
  have h0 := congrFun h fun a => a.elim0
  unfold fn fn_part1 at h0
  dsimp only at h0
  obtain ⟨h1, hg⟩ := IntOp.andi_eq_one.1 h0
  obtain ⟨h2, hv⟩ := IntOp.andi_eq_one.1 h1
  obtain ⟨hq, hk⟩ := IntOp.andi_eq_one.1 h2
  exact ⟨fun i => Cert.Pre_finite.real_of_below _ (Host.reduce_andi_all _ _ _ _ _ hq i), fun i => Cert.Pre_finite.real_of_below _ (Host.reduce_andi_all _ _ _ _ _ hk i),
    fun i => Cert.Pre_finite.real_of_below _ (Host.reduce_andi_all _ _ _ _ _ hv i), fun i => Cert.Pre_finite.real_of_below _ (Host.reduce_andi_all _ _ _ _ _ hg i)⟩

end Cert.Pre_finite1

end
-- ==== Proof.Rank2.lean ====
/- Reading rank-two pieces and loads at an index, and the columns of a head. -/
module

public import proofs.«01_k».proof.Proof.Gen.KernelIdeal.Frame
public import Idealize.ShloMosaic.Lib.Pointwise
public import Idealize.ShloMosaic.Lib.Pipeline.ValueKit.Tiles

@[expose] public section

noncomputable section

namespace Cert.KernelIdeal

open Idealize.ShloMosaic Idealize.ShloMosaic.TcCoe

/-- Column `d` of head `h`, of 128 columns each. -/
def col128 (h : Fin 4) (d : Fin 128) : Fin 512 := ⟨128 * h.val + d.val, by omega⟩

/-- Column `e` of head `h`, of 64 columns each. -/
def col64 (h : Fin 4) (e : Fin 64) : Fin 256 := ⟨64 * h.val + e.val, by omega⟩

/-- Lane `h` of the saved logarithms. -/
def lane (h : Fin 4) : Fin 128 := ⟨h.val, by omega⟩

theorem ctx_le : 256 ≤ 4352 := by decide

/-- The position of context row `r`. -/
def ctxPos (r : Fin 256) : Fin 4352 := Fin.castLE ctx_le r

theorem col128_val (h : Fin 4) (d : Fin 128) : (col128 h d).val = 128 * h.val + d.val := rfl

theorem col64_val (h : Fin 4) (e : Fin 64) : (col64 h e).val = 64 * h.val + e.val := rfl

variable {N0 N1 n0 n1 a b : ℕ} {e : EltTy}

/-- The index of a unit-stride rectangle's element. -/
theorem unit_idx {inb} (i : Fin n0) (j : Fin n1) (i' : Fin N0) (j' : Fin N1) (hi : i'.val = a + i.val) (hj : j'.val = b + j.val) :
    (Rect.unit (s := ⟨2, ![N0, N1]⟩) ![a, b] ![n0, n1] inb).idx (ix2 i j) = ix2 i' j' := by
  funext x
  apply Fin.ext
  rw [Rect.idx_unit_val]
  match x with
  | ⟨0, _⟩ => exact hi.symm
  | ⟨1, _⟩ => exact hj.symm

/-- An index of the newest piece reads that piece's payload. -/
theorem canon_hit {inb} (w : (⟨2, ![n0, n1]⟩ : Shape).Idx → Elt Ideal e) (L : List (View.Piece (Elt Ideal) ⟨2, ![N0, N1]⟩ e))
    (i : Fin n0) (j : Fin n1) (i' : Fin N0) (j' : Fin N1) (hi : i'.val = a + i.val) (hj : j'.val = b + j.val) :
    View.canon ((⟨Rect.unit (s := ⟨2, ![N0, N1]⟩) ![a, b] ![n0, n1] inb, w⟩ : View.Piece (Elt Ideal) ⟨2, ![N0, N1]⟩ e) :: L)
      (ix2 i' j') = w (ix2 i j) := by
  rw [← unit_idx (inb := inb) i j i' j' hi hj]
  exact View.canon_cons_emb (Rect.unit (s := ⟨2, ![N0, N1]⟩) ![a, b] ![n0, n1] inb) w L (ix2 i j)

/-- An index outside the newest piece reads the earlier ones. -/
theorem canon_skip {inb} (w : (⟨2, ![n0, n1]⟩ : Shape).Idx → Elt Ideal e) (L : List (View.Piece (Elt Ideal) ⟨2, ![N0, N1]⟩ e))
    (i' : Fin N0) (j' : Fin N1) (h : a + n0 ≤ i'.val ∨ j'.val < b ∨ b + n1 ≤ j'.val) :
    View.canon ((⟨Rect.unit (s := ⟨2, ![N0, N1]⟩) ![a, b] ![n0, n1] inb, w⟩ : View.Piece (Elt Ideal) ⟨2, ![N0, N1]⟩ e) :: L)
      (ix2 i' j') = View.canon L (ix2 i' j') := by
  refine View.canon_cons_of_not_mem _ L ?_
  intro hm
  have hm := (Rect.mem_set_unit (inb := inb)).mp hm
  have h0 := (hm 0).2
  have h1 := hm 1
  change i'.val < a + n0 at h0
  change b ≤ j'.val ∧ j'.val < b + n1 at h1
  omega

/-- A load of a rectangle reads the array at the rectangle's index. -/
theorem ld_at {inb} (X : (⟨2, ![N0, N1]⟩ : Shape).Idx → Elt Ideal e) (i : Fin n0) (j : Fin n1) (i' : Fin N0) (j' : Fin N1)
    (hi : i'.val = a + i.val) (hj : j'.val = b + j.val) :
    View.ld X (Rect.unit (s := ⟨2, ![N0, N1]⟩) ![a, b] ![n0, n1] inb) (ix2 i j) = X (ix2 i' j') :=
  congrArg X (unit_idx i j i' j' hi hj)

/-- A load that follows stores reads what they left, at the rectangle's index. -/
theorem readCov_at {sig : RefSig} {κ : Kind} {sp : Space} (v : View sig κ sp ⟨2, ![N0, N1]⟩ e)
    (L : List (View.Piece (Elt Ideal) ⟨2, ![N0, N1]⟩ e)) {inb} (i : Fin n0) (j : Fin n1) (i' : Fin N0) (j' : Fin N1)
    (hi : i'.val = a + i.val) (hj : j'.val = b + j.val) :
    v.readCov L (Rect.unit (s := ⟨2, ![N0, N1]⟩) ![a, b] ![n0, n1] inb).toLoadRect (ix2 i j) = View.canon L (ix2 i' j') := by
  rw [View.readCov_eq_canon']
  exact congrArg (View.canon L) (unit_idx i j i' j' hi hj)

/-- A load of the whole array that follows stores reads what they left. -/
theorem readCov_whole {sig : RefSig} {κ : Kind} {sp : Space} (v : View sig κ sp ⟨2, ![N0, N1]⟩ e)
    (L : List (View.Piece (Elt Ideal) ⟨2, ![N0, N1]⟩ e)) {inb} :
    v.readCov L (Rect.unit (s := ⟨2, ![N0, N1]⟩) ![0, 0] ![N0, N1] inb).toLoadRect = View.canon L := by
  funext y
  rw [View.readCov_eq_canon']
  exact congrArg (View.canon L) (funext fun x => Fin.ext (by
    refine (Rect.idx_unit_val _ _ _ y x).trans ?_
    match x with
    | ⟨0, _⟩ => exact Nat.zero_add _
    | ⟨1, _⟩ => exact Nat.zero_add _))

end Cert.KernelIdeal

end
-- ==== Proof.Row.lean ====
/- The gradient of one row of softmax attention, over the reals, and the two ways in which it is computed over
   the extended reals: from the saved logarithm of the row's sum of exponentials, as the kernel does, and through
   the quotient by that sum, as the derivative of the reference does. Both are the same real numbers. -/
module

public import Idealize.ShloMosaic.PureOps.Ideal
public import Idealize.ShloMosaic.PureOps.Ideal.Laws
public import Idealize.ShloMosaic.Lib.Pointwise

@[expose] public section

noncomputable section

namespace Cert.AttnGrad

open Idealize.ShloMosaic

/-- A finite sum of reals, read in the extended reals. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The maximum of finitely many (at least one) reals, started at `⊥`, is a real. -/
theorem fold_max_coe {n : ℕ} [NeZero n] (f : Fin n → ℝ) :
    ∃ M : ℝ, Finset.univ.fold max (⊥ : EReal) (fun c => (f c : EReal)) = (M : EReal) := by
  have key : ∀ s : Finset (Fin n), s.fold max (⊥ : EReal) (fun c => (f c : EReal)) = ⊥ ∧ s = ∅
      ∨ ∃ M : ℝ, s.fold max (⊥ : EReal) (fun c => (f c : EReal)) = (M : EReal) := by
    intro s
    induction s using Finset.induction_on with
    | empty => left; simp
    | insert a s ha ih =>
      right
      rw [Finset.fold_insert ha]
      rcases ih with ⟨h, -⟩ | ⟨M, h⟩
      · exact ⟨f a, by rw [h]; simp⟩
      · exact ⟨max (f a) M, by rw [h]; exact (EReal.coe_strictMono.monotone.map_max).symm⟩
  rcases key Finset.univ with ⟨-, h⟩ | h
  · exact absurd h (Finset.univ_nonempty.ne_empty)
  · exact h

variable {n : ℕ}

/-- The score of the row against key `c`: the product of the two vectors over `√96`. -/
def sc (q : Fin 128 → ℝ) (k : Fin n → Fin 128 → ℝ) (c : Fin n) : ℝ := (∑ d, q d * k c d) * (Real.sqrt 96)⁻¹

/-- The sum of the exponentials of the row's scores. -/
def ze (q : Fin 128 → ℝ) (k : Fin n → Fin 128 → ℝ) : ℝ := ∑ c, Real.exp (sc q k c)

/-- The row's attention weights: the softmax of its scores. -/
def pr (q : Fin 128 → ℝ) (k : Fin n → Fin 128 → ℝ) (c : Fin n) : ℝ := Real.exp (sc q k c) / ze q k

/-- The gradient with respect to the weights: the row's cotangent against each value. -/
def dp (g : Fin 64 → ℝ) (v : Fin n → Fin 64 → ℝ) (c : Fin n) : ℝ := ∑ e, g e * v c e

/-- The gradient with respect to the scores. -/
def ds (q : Fin 128 → ℝ) (k : Fin n → Fin 128 → ℝ) (v : Fin n → Fin 64 → ℝ) (g : Fin 64 → ℝ) (c : Fin n) : ℝ :=
  pr q k c * (dp g v c - ∑ c', pr q k c' * dp g v c')

theorem ze_pos [NeZero n] (q : Fin 128 → ℝ) (k : Fin n → Fin 128 → ℝ) : 0 < ze q k :=
  Finset.sum_pos (fun c _ => Real.exp_pos _) Finset.univ_nonempty

theorem sqrt96_ne : Real.sqrt 96 ≠ 0 := (Real.sqrt_pos.mpr (by norm_num)).ne'

/-- The score, with the quotient by the root as the host takes it. -/
theorem score_host (q : Fin 128 → ℝ) (k : Fin n → Fin 128 → ℝ) (c : Fin n) :
    Ideal.div (∑ d, (q d : EReal) * (k c d : EReal)) ((Real.sqrt 96 : ℝ) : EReal) = (sc q k c : EReal) := by
  simp only [← EReal.coe_mul]
  rw [sum_coe, Ideal.div_coe sqrt96_ne, ← EReal.coe_mul, sc, one_div]

/-- The row's sum of exponentials taken relative to any reference value `M`. -/
def zm (q : Fin 128 → ℝ) (k : Fin n → Fin 128 → ℝ) (M : ℝ) : ℝ := ∑ c, Real.exp (sc q k c - M)

theorem zm_eq (q : Fin 128 → ℝ) (k : Fin n → Fin 128 → ℝ) (M : ℝ) : zm q k M = ze q k * Real.exp (-M) := by
  simp only [zm, ze, Finset.sum_mul, ← Real.exp_add, sub_eq_add_neg]

theorem zm_pos [NeZero n] (q : Fin 128 → ℝ) (k : Fin n → Fin 128 → ℝ) (M : ℝ) : 0 < zm q k M :=
  Finset.sum_pos (fun c _ => Real.exp_pos _) Finset.univ_nonempty

theorem exp_host (q : Fin 128 → ℝ) (k : Fin n → Fin 128 → ℝ) (M : ℝ) (c : Fin n) :
    Ideal.exp ((sc q k c : EReal) - (M : EReal)) = ((Real.exp (sc q k c - M) : ℝ) : EReal) := by
  rw [← EReal.coe_sub, Ideal.exp_coe]

theorem sum_exp_host (q : Fin 128 → ℝ) (k : Fin n → Fin 128 → ℝ) (M : ℝ) :
    ∑ c, Ideal.exp ((sc q k c : EReal) - (M : EReal)) = (zm q k M : EReal) := by
  simp only [exp_host]; rw [sum_coe, zm]

/-- The weight as the reference forms it: the exponential over the row's sum, both relative to `M`. -/
theorem pr_host [NeZero n] (q : Fin 128 → ℝ) (k : Fin n → Fin 128 → ℝ) (M : ℝ) (c : Fin n) :
    Ideal.div (Ideal.exp ((sc q k c : EReal) - (M : EReal))) (zm q k M : EReal) = (pr q k c : EReal) := by
  rw [exp_host, Ideal.div_coe (zm_pos q k M).ne', ← EReal.coe_mul, zm_eq, pr, sub_eq_add_neg, Real.exp_add]
  have h1 := (ze_pos q k).ne'
  have h2 := (Real.exp_pos (-M)).ne'
  congr 1
  field_simp

theorem dp_coe (g : Fin 64 → ℝ) (v : Fin n → Fin 64 → ℝ) (c : Fin n) :
    ∑ e, (g e : EReal) * (v c e : EReal) = (dp g v c : EReal) := by
  simp only [← EReal.coe_mul]; rw [sum_coe, dp]

/-- The score's gradient as the derivative of the reference forms it, before the last quotient by the root:
    `(dp / L − Σ dp · (1 / L²) · E) · E`, where `E` and `L` are the exponentials and their sum. -/
theorem ds_host [NeZero n] (q : Fin 128 → ℝ) (k : Fin n → Fin 128 → ℝ) (v : Fin n → Fin 64 → ℝ) (g : Fin 64 → ℝ)
    (M : ℝ) (c : Fin n) :
    (Ideal.div (dp g v c : EReal) (zm q k M : EReal)
      + -∑ c', (dp g v c' : EReal) * Ideal.div 1 ((zm q k M : EReal) * (zm q k M : EReal))
          * Ideal.exp ((sc q k c' : EReal) - (M : EReal)))
      * Ideal.exp ((sc q k c : EReal) - (M : EReal)) = (ds q k v g c : EReal) := by
  have hz := (zm_pos q k M).ne'
  have hz2 : zm q k M * zm q k M ≠ 0 := mul_ne_zero hz hz
  have h1 := (ze_pos q k).ne'
  have h2 := (Real.exp_pos (-M)).ne'
  simp only [exp_host]
  rw [Ideal.div_coe hz, ← EReal.coe_mul (zm q k M), Ideal.div_coe hz2, one_mul]
  simp only [← EReal.coe_mul]
  rw [sum_coe, ← EReal.coe_neg, ← EReal.coe_add, ← EReal.coe_mul]
  congr 1
  have hp : ∀ c', dp g v c' * (1 / (zm q k M * zm q k M)) * Real.exp (sc q k c' - M)
      = (pr q k c' * dp g v c') * (1 / zm q k M) := by
    intro c'
    rw [zm_eq, pr, sub_eq_add_neg, Real.exp_add]; field_simp
  simp only [hp]
  rw [← Finset.sum_mul, ds]
  generalize (∑ c', pr q k c' * dp g v c') = S
  rw [zm_eq, pr, sub_eq_add_neg, Real.exp_add]; field_simp
  ring

/-- The last quotient by the root. -/
theorem div_root (x : ℝ) : Ideal.div (x : EReal) ((Real.sqrt 96 : ℝ) : EReal) = ((x * (Real.sqrt 96)⁻¹ : ℝ) : EReal) := by
  rw [Ideal.div_coe sqrt96_ne, ← EReal.coe_mul, one_div]

/-- The saved logarithm in base two of the row's sum of exponentials, as the host forms it. -/
def ls (q : Fin 128 → ℝ) (k : Fin n → Fin 128 → ℝ) : ℝ := Real.log (ze q k) / Real.log 2

theorem ls_host [NeZero n] (q : Fin 128 → ℝ) (k : Fin n → Fin 128 → ℝ) (M : ℝ) :
    Ideal.div ((M : EReal) + Ideal.log (zm q k M : EReal)) ((Real.log 2 : ℝ) : EReal) = (ls q k : EReal) := by
  have hz := zm_pos q k M
  have h2 : Real.log 2 ≠ 0 := (Real.log_pos (by norm_num)).ne'
  rw [Ideal.log_coe, if_neg (not_le.mpr hz), ← EReal.coe_add, Ideal.div_coe h2, ← EReal.coe_mul, zm_eq,
    Real.log_mul (ze_pos q k).ne' (Real.exp_pos _).ne', Real.log_exp, ls]
  congr 1
  field_simp
  ring

/-- The weight as the kernel forms it: two to the power of the score, in units of `log 2`, less the saved logarithm. -/
theorem pr_kernel [NeZero n] (q : Fin 128 → ℝ) (k : Fin n → Fin 128 → ℝ) (c : Fin n) :
    Ideal.exp2 ((∑ d, ((q d : EReal) * (((Real.sqrt 96)⁻¹ * (Real.log 2)⁻¹ : ℝ) : EReal)) * (k c d : EReal)) - (ls q k : EReal))
      = (pr q k c : EReal) := by
  have h2 : Real.log 2 ≠ 0 := (Real.log_pos (by norm_num)).ne'
  simp only [← EReal.coe_mul]
  rw [sum_coe, ← EReal.coe_sub, Ideal.exp2_coe]
  congr 1
  have hs : ∑ d, q d * ((Real.sqrt 96)⁻¹ * (Real.log 2)⁻¹) * k c d = sc q k c / Real.log 2 := by
    rw [sc, div_eq_mul_inv, Finset.sum_mul, Finset.sum_mul]
    exact Finset.sum_congr rfl fun d _ => by ring
  rw [hs, ls, ← sub_div]
  rw [Real.rpow_eq_pow, Real.rpow_def_of_pos (by norm_num), mul_div_cancel₀ _ h2, Real.exp_sub, Real.exp_log (ze_pos q k), pr]

/-- The row's output, as the host forms it. -/
def ob (q : Fin 128 → ℝ) (k : Fin n → Fin 128 → ℝ) (v : Fin n → Fin 64 → ℝ) (e : Fin 64) : ℝ := ∑ c, v c e * pr q k c

theorem ob_host (q : Fin 128 → ℝ) (k : Fin n → Fin 128 → ℝ) (v : Fin n → Fin 64 → ℝ) (e : Fin 64) :
    ∑ c, (v c e : EReal) * (pr q k c : EReal) = (ob q k v e : EReal) := by
  simp only [← EReal.coe_mul]; rw [sum_coe, ob]

/-- The score's gradient as the kernel forms it: the weight times the difference between `dp` and the product of the
    row's cotangent and output. -/
theorem ds_kernel (q : Fin 128 → ℝ) (k : Fin n → Fin 128 → ℝ) (v : Fin n → Fin 64 → ℝ) (g : Fin 64 → ℝ) (c : Fin n) :
    (pr q k c : EReal) * ((dp g v c : EReal) - ∑ e, (g e : EReal) * (ob q k v e : EReal)) = (ds q k v g c : EReal) := by
  simp only [← EReal.coe_mul]
  rw [sum_coe, ← EReal.coe_sub, ← EReal.coe_mul, ds]
  have : ∑ e, g e * ob q k v e = ∑ c', pr q k c' * dp g v c' := by
    simp only [ob, dp, Finset.mul_sum]
    rw [Finset.sum_comm]
    exact Finset.sum_congr rfl fun c' _ => Finset.sum_congr rfl fun e _ => by ring
  rw [this]

/-- The constant the root is taken of. -/
theorem c96 : Ideal.ofBits .f32 0x42C00000#32 = ((96 : ℝ) : EReal) := by
  simp [Ideal.ofBits, Ideal.ieee, -EReal.coe_mul]; norm_num

/-- The root the host takes of it. -/
theorem root96 : Ideal.sqrt (Ideal.ofBits .f32 0x42C00000#32) = ((Real.sqrt 96 : ℝ) : EReal) := by
  rw [c96, Ideal.sqrt_coe, if_neg (by norm_num)]

/-- The constant that starts a maximum. -/
theorem bot32 : Ideal.ofBits .f32 0xFF800000#32 = (⊥ : EReal) := by
  simp [Ideal.ofBits, Ideal.ieee]

/-- The base of the saved logarithm. -/
theorem log2_host : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]; norm_num
  rw [this, Ideal.log_coe, if_neg (by norm_num)]

/-- The maximum of two arrays, read at an index. -/
theorem maximumf_at {t : Shape} (x y : FVec Ideal t .f32) (i : t.Idx) : maximumf x y i = max (x i) (y i) := rfl

/-- The host's maximum over the last of four axes, read at an index: the fold of `max` along that axis. -/
theorem reduceMax_last {u : Shape} {n0 n1 n2 n3 : ℕ} (v : FVec Ideal ⟨4, ![n0, n1, n2, n3]⟩ .f32) (c : FVec Ideal u .f32)
    (h : (⟨4, ![n0, n1, n2, n3]⟩ : Shape).ReducesTo [3] ⟨3, ![n0, n1, n2]⟩) (hu : 0 < u.numel) (i : Fin n0) (j : Fin n1) (k : Fin n2)
    (x : EReal) (hc : c (Shape.Idx.first hu) = x) :
    Host.reduce FloatOps.maximumf v c h hu (ix3 i j k) = Finset.univ.fold max x fun y : Fin n3 => v (ix4 i j k y) := by
  subst hc
  rw [Host.reduce_eq_fold, Shape.ReducesTo.fold_fiber_r4_a3]
  rfl

end Cert.AttnGrad

end
-- ==== Proof.SaveLat.lean ====
/- The chain of host operations that forms the saved values of the latent rows, the attention's output and the logarithm of
   each row's sum of exponentials, as functions of the arrays it reads, and each stage read at an index. -/
module

public import proofs.«01_k».proof.Proof.Gen.KernelIdeal
public import proofs.«01_k».proof.Proof.Row
public import Idealize.ShloMosaic.Lib.Pointwise
public import Idealize.ShloMosaic.Lib.IdealHost

@[expose] public section

set_option maxRecDepth 16384

noncomputable section

namespace Cert.KernelIdeal.SaveLat

open Cert.KernelIdeal Cert.KernelIdeal.Gen Cert.AttnGrad Idealize.ShloMosaic

/-- The scores. -/
def s (q : FVec Ideal S2x4096x4x128 .f32) (k : FVec Ideal S2x4352x4x128 .f32) : FVec Ideal S2x4x4096x4352 .f32 :=
  Host.divf (Host.dotGeneral dot_S2x4096x4x128_S2x4352x4x128_S2x4x4096x4352_3_3_1_1_02_02 none q k)
    (broadcastInDim S2x4x4096x4352 ![] bcast_S_S2x4x4096x4352 (Host.sqrt (constant S_ .f32 0x42C00000#32)))

/-- The rows' greatest scores. -/
def mx (s : FVec Ideal S2x4x4096x4352 .f32) : FVec Ideal S2x4x4096 .f32 :=
  maximumf (broadcastInDim S2x4x4096 ![] bcast_S_S2x4x4096 (constant S_ .f32 0xFF800000#32))
    (Host.reduce FloatOps.maximumf s (constant S_ .f32 0xFF800000#32) reducesTo_S2x4x4096x4352_S2x4x4096_d3 h_S_)

/-- The exponentials of the scores less their row's greatest. -/
def e (s : FVec Ideal S2x4x4096x4352 .f32) : FVec Ideal S2x4x4096x4352 .f32 :=
  Host.exp (subf s (broadcastInDim S2x4x4096x4352 ![0, 1, 2, 3] bcast_S2x4x4096x1_S2x4x4096x4352_0_1_2_3
    (broadcastInDim S2x4x4096x1 ![0, 1, 2] bcast_S2x4x4096_S2x4x4096x1_0_1_2 (mx s))))

/-- Their sums over a row. -/
def l (e : FVec Ideal S2x4x4096x4352 .f32) : FVec Ideal S2x4x4096x1 .f32 :=
  broadcastInDim S2x4x4096x1 ![0, 1, 2] bcast_S2x4x4096_S2x4x4096x1_0_1_2
    (Host.reduceAdd e (constant S_ .f32 0x00000000#32) reducesTo_S2x4x4096x4352_S2x4x4096_d3 h_S_)

/-- The weights. -/
def p (e : FVec Ideal S2x4x4096x4352 .f32) : FVec Ideal S2x4x4096x4352 .f32 :=
  Host.divf e (broadcastInDim S2x4x4096x4352 ![0, 1, 2, 3] bcast_S2x4x4096x1_S2x4x4096x4352_0_1_2_3 (l e))

/-- The output. -/
def o (v : FVec Ideal S2x4352x4x64 .f32) (p : FVec Ideal S2x4x4096x4352 .f32) : FVec Ideal S2x4096x4x64 .f32 :=
  transpose S2x4096x4x64 [0, 3, 1, 2] (Host.dotGeneral dot_S2x4352x4x64_S2x4x4096x4352_S2x4x64x4096_1_3_3_2_02_01 none v p)
    transposes_S2x4x64x4096_S2x4096x4x64_0_3_1_2

/-- The scores, with the head axis third. -/
def t (q : FVec Ideal S2x4096x4x128 .f32) (k : FVec Ideal S2x4352x4x128 .f32) : FVec Ideal S2x4096x4x4352 .f32 :=
  Host.divf (transpose S2x4096x4x4352 [0, 3, 1, 2] (Host.dotGeneral dot_S2x4352x4x128_S2x4096x4x128_S2x4x4352x4096_3_3_1_1_02_02 none k q)
      transposes_S2x4x4352x4096_S2x4096x4x4352_0_3_1_2)
    (broadcastInDim S2x4096x4x4352 ![] bcast_S_S2x4096x4x4352 (Host.sqrt (constant S_ .f32 0x42C00000#32)))

/-- Their rows' greatest. -/
def nx (t : FVec Ideal S2x4096x4x4352 .f32) : FVec Ideal S2x4096x4x1 .f32 :=
  broadcastInDim S2x4096x4x1 ![0, 1, 2] bcast_S2x4096x4_S2x4096x4x1_0_1_2
    (Host.reduce FloatOps.maximumf t (constant S_ .f32 0xFF800000#32) reducesTo_S2x4096x4x4352_S2x4096x4_d3 h_S_)

/-- The exponentials of the scores less their row's greatest. -/
def f (t : FVec Ideal S2x4096x4x4352 .f32) : FVec Ideal S2x4096x4x4352 .f32 :=
  Host.exp (subf t (broadcastInDim S2x4096x4x4352 ![0, 1, 2, 3] bcast_S2x4096x4x1_S2x4096x4x4352_0_1_2_3 (nx t)))

/-- Their sums over a row. -/
def lf (f : FVec Ideal S2x4096x4x4352 .f32) : FVec Ideal S2x4096x4x1 .f32 :=
  broadcastInDim S2x4096x4x1 ![0, 1, 2] bcast_S2x4096x4_S2x4096x4x1_0_1_2
    (Host.reduceAdd f (constant S_ .f32 0x00000000#32) reducesTo_S2x4096x4x4352_S2x4096x4_d3 h_S_)

/-- The logarithms, in base two, of the rows' sums of exponentials of the scores. -/
def w (t : FVec Ideal S2x4096x4x4352 .f32) : FVec Ideal S2x4096x4 .f32 :=
  Host.divf (shapeCast S2x4096x4 (addf (nx t) (Host.log (lf (f t)))) shapeCasts_S2x4096x4x1_S2x4096x4)
    (broadcastInDim S2x4096x4 ![] bcast_S_S2x4096x4 (Host.log (constant S_ .f32 0x40000000#32)))

variable {q : FVec Ideal S2x4096x4x128 .f32} {k : FVec Ideal S2x4352x4x128 .f32} {v : FVec Ideal S2x4352x4x64 .f32}
variable {Q : Fin 2 → Fin 4 → Fin 4096 → Fin 128 → ℝ} {K : Fin 2 → Fin 4 → Fin 4352 → Fin 128 → ℝ}
  {V : Fin 2 → Fin 4 → Fin 4352 → Fin 64 → ℝ}

theorem s_at (hq : ∀ b r h d, q (ix4 b r h d) = (Q b h r d : EReal)) (hk : ∀ b c h d, k (ix4 b c h d) = (K b h c d : EReal))
    (b : Fin 2) (h : Fin 4) (r : Fin 4096) (c : Fin 4352) : s q k (ix4 b h r c) = (sc (Q b h r) (K b h) c : EReal) := by
  pointwise [s]
  simp only [hq, hk]
  rw [root96, score_host]

theorem mx_apply (s : FVec Ideal S2x4x4096x4352 .f32) (b : Fin 2) (h : Fin 4) (r : Fin 4096) : mx s (ix3 b h r)
    = max (Ideal.ofBits .f32 0xFF800000#32)
        (Finset.univ.fold max (Ideal.ofBits .f32 0xFF800000#32) fun c : Fin 4352 => s (ix4 b h r c)) := by
  unfold mx
  exact (maximumf_at _ _ _).trans (congrArg₂ max rfl
    (reduceMax_last s (constant S_ .f32 0xFF800000#32) reducesTo_S2x4x4096x4352_S2x4x4096_d3 h_S_ b h r _ rfl))

theorem mx_at (hq : ∀ b r h d, q (ix4 b r h d) = (Q b h r d : EReal)) (hk : ∀ b c h d, k (ix4 b c h d) = (K b h c d : EReal))
    (b : Fin 2) (h : Fin 4) (r : Fin 4096) : ∃ M : ℝ, mx (s q k) (ix3 b h r) = (M : EReal) := by
  obtain ⟨M, hM⟩ := fold_max_coe (sc (Q b h r) (K b h))
  refine ⟨M, ?_⟩
  simp only [mx_apply, s_at hq hk]
  rw [bot32, hM]; simp

theorem e_apply (s : FVec Ideal S2x4x4096x4352 .f32) (b : Fin 2) (h : Fin 4) (r : Fin 4096) (c : Fin 4352) :
    e s (ix4 b h r c) = Ideal.exp (s (ix4 b h r c) - mx s (ix3 b h r)) := by
  pointwise [e]

theorem l_apply (e : FVec Ideal S2x4x4096x4352 .f32) (b : Fin 2) (h : Fin 4) (r : Fin 4096) :
    l e (ix4 b h r 0) = ∑ c : Fin 4352, e (ix4 b h r c) := by
  pointwise [l]

theorem p_at (hq : ∀ b r h d, q (ix4 b r h d) = (Q b h r d : EReal)) (hk : ∀ b c h d, k (ix4 b c h d) = (K b h c d : EReal))
    (b : Fin 2) (h : Fin 4) (r : Fin 4096) (c : Fin 4352) : p (e (s q k)) (ix4 b h r c) = (pr (Q b h r) (K b h) c : EReal) := by
  obtain ⟨M, hm⟩ := mx_at hq hk b h r
  have he : ∀ c, e (s q k) (ix4 b h r c) = Ideal.exp ((sc (Q b h r) (K b h) c : EReal) - (M : EReal)) := by
    intro c
    rw [e_apply, hm, s_at hq hk]
  have hl : l (e (s q k)) (ix4 b h r 0) = (zm (Q b h r) (K b h) M : EReal) := by
    rw [l_apply]
    simp only [he]
    rw [sum_exp_host]
  pointwise [p]
  rw [he, hl, pr_host]

theorem o_at (hq : ∀ b r h d, q (ix4 b r h d) = (Q b h r d : EReal)) (hk : ∀ b c h d, k (ix4 b c h d) = (K b h c d : EReal))
    (hv : ∀ b c h d, v (ix4 b c h d) = (V b h c d : EReal)) (b : Fin 2) (r : Fin 4096) (h : Fin 4) (d : Fin 64) :
    o v (p (e (s q k))) (ix4 b r h d) = (ob (Q b h r) (K b h) (V b h) d : EReal) := by
  pointwise [o]
  simp only [p_at hq hk, hv]
  rw [ob_host]

theorem t_at (hq : ∀ b r h d, q (ix4 b r h d) = (Q b h r d : EReal)) (hk : ∀ b c h d, k (ix4 b c h d) = (K b h c d : EReal))
    (b : Fin 2) (r : Fin 4096) (h : Fin 4) (c : Fin 4352) : t q k (ix4 b r h c) = (sc (Q b h r) (K b h) c : EReal) := by
  pointwise [t]
  simp only [hq, hk, mul_comm ((K _ _ _ _ : ℝ) : EReal)]
  rw [root96, score_host]

/-- An array with a last axis of one entry added, read at an index. -/
theorem keep_at (y : FVec Ideal S2x4096x4 .f32) (b : Fin 2) (r : Fin 4096) (h : Fin 4) :
    broadcastInDim S2x4096x4x1 ![0, 1, 2] bcast_S2x4096x4_S2x4096x4x1_0_1_2 y (ix4 b r h 0) = y (ix3 b r h) := by
  pointwise

theorem nx_apply (t : FVec Ideal S2x4096x4x4352 .f32) (b : Fin 2) (r : Fin 4096) (h : Fin 4) : nx t (ix4 b r h 0)
    = Finset.univ.fold max (Ideal.ofBits .f32 0xFF800000#32) fun c : Fin 4352 => t (ix4 b r h c) := by
  unfold nx
  exact (keep_at _ b r h).trans
    (reduceMax_last t (constant S_ .f32 0xFF800000#32) reducesTo_S2x4096x4x4352_S2x4096x4_d3 h_S_ b r h _ rfl)

theorem less_at (t : FVec Ideal S2x4096x4x4352 .f32) (y : FVec Ideal S2x4096x4x1 .f32) (b : Fin 2) (r : Fin 4096) (h : Fin 4) (c : Fin 4352) :
    Host.exp (subf t (broadcastInDim S2x4096x4x4352 ![0, 1, 2, 3] bcast_S2x4096x4x1_S2x4096x4x4352_0_1_2_3 y)) (ix4 b r h c)
      = Ideal.exp (t (ix4 b r h c) - y (ix4 b r h 0)) := by
  pointwise

theorem f_apply (t : FVec Ideal S2x4096x4x4352 .f32) (b : Fin 2) (r : Fin 4096) (h : Fin 4) (c : Fin 4352) :
    f t (ix4 b r h c) = Ideal.exp (t (ix4 b r h c) - nx t (ix4 b r h 0)) :=
  less_at t (nx t) b r h c

theorem lf_apply (f : FVec Ideal S2x4096x4x4352 .f32) (b : Fin 2) (r : Fin 4096) (h : Fin 4) :
    lf f (ix4 b r h 0) = ∑ c : Fin 4352, f (ix4 b r h c) := by
  pointwise [lf]

theorem base_at (y z : FVec Ideal S2x4096x4x1 .f32) (b : Fin 2) (r : Fin 4096) (h : Fin 4) :
    Host.divf (shapeCast S2x4096x4 (addf y (Host.log z)) shapeCasts_S2x4096x4x1_S2x4096x4)
      (broadcastInDim S2x4096x4 ![] bcast_S_S2x4096x4 (Host.log (constant S_ .f32 0x40000000#32))) (ix3 b r h)
      = Ideal.div (y (ix4 b r h 0) + Ideal.log (z (ix4 b r h 0))) (Ideal.log (Ideal.ofBits .f32 0x40000000#32)) := by
  pointwise

theorem w_apply (t : FVec Ideal S2x4096x4x4352 .f32) (b : Fin 2) (r : Fin 4096) (h : Fin 4) :
    w t (ix3 b r h) = Ideal.div (nx t (ix4 b r h 0) + Ideal.log (lf (f t) (ix4 b r h 0)))
      (Ideal.log (Ideal.ofBits .f32 0x40000000#32)) :=
  base_at (nx t) (lf (f t)) b r h

theorem w_at (hq : ∀ b r h d, q (ix4 b r h d) = (Q b h r d : EReal)) (hk : ∀ b c h d, k (ix4 b c h d) = (K b h c d : EReal))
    (b : Fin 2) (r : Fin 4096) (h : Fin 4) : w (t q k) (ix3 b r h) = (ls (Q b h r) (K b h) : EReal) := by
  obtain ⟨M, hM⟩ := fold_max_coe (sc (Q b h r) (K b h))
  have hn : nx (t q k) (ix4 b r h 0) = (M : EReal) := by
    simp only [nx_apply, t_at hq hk]
    rw [bot32, hM]
  have hf : ∀ c, f (t q k) (ix4 b r h c) = Ideal.exp ((sc (Q b h r) (K b h) c : EReal) - (M : EReal)) := by
    intro c
    rw [f_apply, hn, t_at hq hk]
  rw [w_apply, hn, lf_apply]
  simp only [hf]
  rw [sum_exp_host, log2_host, ls_host]

end Cert.KernelIdeal.SaveLat

end
-- ==== Proof.SaveCtx.lean ====
/- The chain of host operations that forms the saved values of the context rows, the attention's output and the logarithm of
   each row's sum of exponentials, as functions of the arrays it reads, and each stage read at an index. -/
module

public import proofs.«01_k».proof.Proof.Gen.KernelIdeal
public import proofs.«01_k».proof.Proof.Row
public import Idealize.ShloMosaic.Lib.Pointwise
public import Idealize.ShloMosaic.Lib.IdealHost

@[expose] public section

set_option maxRecDepth 16384

noncomputable section

namespace Cert.KernelIdeal.SaveCtx

open Cert.KernelIdeal Cert.KernelIdeal.Gen Cert.AttnGrad Idealize.ShloMosaic

/-- The scores. -/
def s (q : FVec Ideal S2x256x4x128 .f32) (k : FVec Ideal S2x256x4x128 .f32) : FVec Ideal S2x4x256x256 .f32 :=
  Host.divf (Host.dotGeneral dot_S2x256x4x128_S2x256x4x128_S2x4x256x256_3_3_1_1_02_02 none q k)
    (broadcastInDim S2x4x256x256 ![] bcast_S_S2x4x256x256 (Host.sqrt (constant S_ .f32 0x42C00000#32)))

/-- The rows' greatest scores. -/
def mx (s : FVec Ideal S2x4x256x256 .f32) : FVec Ideal S2x4x256 .f32 :=
  maximumf (broadcastInDim S2x4x256 ![] bcast_S_S2x4x256 (constant S_ .f32 0xFF800000#32))
    (Host.reduce FloatOps.maximumf s (constant S_ .f32 0xFF800000#32) reducesTo_S2x4x256x256_S2x4x256_d3 h_S_)

/-- The exponentials of the scores less their row's greatest. -/
def e (s : FVec Ideal S2x4x256x256 .f32) : FVec Ideal S2x4x256x256 .f32 :=
  Host.exp (subf s (broadcastInDim S2x4x256x256 ![0, 1, 2, 3] bcast_S2x4x256x1_S2x4x256x256_0_1_2_3
    (broadcastInDim S2x4x256x1 ![0, 1, 2] bcast_S2x4x256_S2x4x256x1_0_1_2 (mx s))))

/-- Their sums over a row. -/
def l (e : FVec Ideal S2x4x256x256 .f32) : FVec Ideal S2x4x256x1 .f32 :=
  broadcastInDim S2x4x256x1 ![0, 1, 2] bcast_S2x4x256_S2x4x256x1_0_1_2
    (Host.reduceAdd e (constant S_ .f32 0x00000000#32) reducesTo_S2x4x256x256_S2x4x256_d3 h_S_)

/-- The weights. -/
def p (e : FVec Ideal S2x4x256x256 .f32) : FVec Ideal S2x4x256x256 .f32 :=
  Host.divf e (broadcastInDim S2x4x256x256 ![0, 1, 2, 3] bcast_S2x4x256x1_S2x4x256x256_0_1_2_3 (l e))

/-- The output. -/
def o (v : FVec Ideal S2x256x4x64 .f32) (p : FVec Ideal S2x4x256x256 .f32) : FVec Ideal S2x256x4x64 .f32 :=
  transpose S2x256x4x64 [0, 3, 1, 2] (Host.dotGeneral dot_S2x256x4x64_S2x4x256x256_S2x4x64x256_1_3_3_2_02_01 none v p)
    transposes_S2x4x64x256_S2x256x4x64_0_3_1_2

/-- The scores, with the head axis third. -/
def t (q : FVec Ideal S2x256x4x128 .f32) (k : FVec Ideal S2x256x4x128 .f32) : FVec Ideal S2x256x4x256 .f32 :=
  Host.divf (transpose S2x256x4x256 [0, 3, 1, 2] (Host.dotGeneral dot_S2x256x4x128_S2x256x4x128_S2x4x256x256_3_3_1_1_02_02 none k q)
      transposes_S2x4x256x256_S2x256x4x256_0_3_1_2)
    (broadcastInDim S2x256x4x256 ![] bcast_S_S2x256x4x256 (Host.sqrt (constant S_ .f32 0x42C00000#32)))

/-- Their rows' greatest. -/
def nx (t : FVec Ideal S2x256x4x256 .f32) : FVec Ideal S2x256x4x1 .f32 :=
  broadcastInDim S2x256x4x1 ![0, 1, 2] bcast_S2x256x4_S2x256x4x1_0_1_2
    (Host.reduce FloatOps.maximumf t (constant S_ .f32 0xFF800000#32) reducesTo_S2x256x4x256_S2x256x4_d3 h_S_)

/-- The exponentials of the scores less their row's greatest. -/
def f (t : FVec Ideal S2x256x4x256 .f32) : FVec Ideal S2x256x4x256 .f32 :=
  Host.exp (subf t (broadcastInDim S2x256x4x256 ![0, 1, 2, 3] bcast_S2x256x4x1_S2x256x4x256_0_1_2_3 (nx t)))

/-- Their sums over a row. -/
def lf (f : FVec Ideal S2x256x4x256 .f32) : FVec Ideal S2x256x4x1 .f32 :=
  broadcastInDim S2x256x4x1 ![0, 1, 2] bcast_S2x256x4_S2x256x4x1_0_1_2
    (Host.reduceAdd f (constant S_ .f32 0x00000000#32) reducesTo_S2x256x4x256_S2x256x4_d3 h_S_)

/-- The logarithms, in base two, of the rows' sums of exponentials of the scores. -/
def w (t : FVec Ideal S2x256x4x256 .f32) : FVec Ideal S2x256x4 .f32 :=
  Host.divf (shapeCast S2x256x4 (addf (nx t) (Host.log (lf (f t)))) shapeCasts_S2x256x4x1_S2x256x4)
    (broadcastInDim S2x256x4 ![] bcast_S_S2x256x4 (Host.log (constant S_ .f32 0x40000000#32)))

variable {q : FVec Ideal S2x256x4x128 .f32} {k : FVec Ideal S2x256x4x128 .f32} {v : FVec Ideal S2x256x4x64 .f32}
variable {Q : Fin 2 → Fin 4 → Fin 256 → Fin 128 → ℝ} {K : Fin 2 → Fin 4 → Fin 256 → Fin 128 → ℝ}
  {V : Fin 2 → Fin 4 → Fin 256 → Fin 64 → ℝ}

theorem s_at (hq : ∀ b r h d, q (ix4 b r h d) = (Q b h r d : EReal)) (hk : ∀ b c h d, k (ix4 b c h d) = (K b h c d : EReal))
    (b : Fin 2) (h : Fin 4) (r : Fin 256) (c : Fin 256) : s q k (ix4 b h r c) = (sc (Q b h r) (K b h) c : EReal) := by
  pointwise [s]
  simp only [hq, hk]
  rw [root96, score_host]

theorem mx_apply (s : FVec Ideal S2x4x256x256 .f32) (b : Fin 2) (h : Fin 4) (r : Fin 256) : mx s (ix3 b h r)
    = max (Ideal.ofBits .f32 0xFF800000#32)
        (Finset.univ.fold max (Ideal.ofBits .f32 0xFF800000#32) fun c : Fin 256 => s (ix4 b h r c)) := by
  unfold mx
  exact (maximumf_at _ _ _).trans (congrArg₂ max rfl
    (reduceMax_last s (constant S_ .f32 0xFF800000#32) reducesTo_S2x4x256x256_S2x4x256_d3 h_S_ b h r _ rfl))

theorem mx_at (hq : ∀ b r h d, q (ix4 b r h d) = (Q b h r d : EReal)) (hk : ∀ b c h d, k (ix4 b c h d) = (K b h c d : EReal))
    (b : Fin 2) (h : Fin 4) (r : Fin 256) : ∃ M : ℝ, mx (s q k) (ix3 b h r) = (M : EReal) := by
  obtain ⟨M, hM⟩ := fold_max_coe (sc (Q b h r) (K b h))
  refine ⟨M, ?_⟩
  simp only [mx_apply, s_at hq hk]
  rw [bot32, hM]; simp

theorem e_apply (s : FVec Ideal S2x4x256x256 .f32) (b : Fin 2) (h : Fin 4) (r : Fin 256) (c : Fin 256) :
    e s (ix4 b h r c) = Ideal.exp (s (ix4 b h r c) - mx s (ix3 b h r)) := by
  pointwise [e]

theorem l_apply (e : FVec Ideal S2x4x256x256 .f32) (b : Fin 2) (h : Fin 4) (r : Fin 256) :
    l e (ix4 b h r 0) = ∑ c : Fin 256, e (ix4 b h r c) := by
  pointwise [l]

theorem p_at (hq : ∀ b r h d, q (ix4 b r h d) = (Q b h r d : EReal)) (hk : ∀ b c h d, k (ix4 b c h d) = (K b h c d : EReal))
    (b : Fin 2) (h : Fin 4) (r : Fin 256) (c : Fin 256) : p (e (s q k)) (ix4 b h r c) = (pr (Q b h r) (K b h) c : EReal) := by
  obtain ⟨M, hm⟩ := mx_at hq hk b h r
  have he : ∀ c, e (s q k) (ix4 b h r c) = Ideal.exp ((sc (Q b h r) (K b h) c : EReal) - (M : EReal)) := by
    intro c
    rw [e_apply, hm, s_at hq hk]
  have hl : l (e (s q k)) (ix4 b h r 0) = (zm (Q b h r) (K b h) M : EReal) := by
    rw [l_apply]
    simp only [he]
    rw [sum_exp_host]
  pointwise [p]
  rw [he, hl, pr_host]

theorem o_at (hq : ∀ b r h d, q (ix4 b r h d) = (Q b h r d : EReal)) (hk : ∀ b c h d, k (ix4 b c h d) = (K b h c d : EReal))
    (hv : ∀ b c h d, v (ix4 b c h d) = (V b h c d : EReal)) (b : Fin 2) (r : Fin 256) (h : Fin 4) (d : Fin 64) :
    o v (p (e (s q k))) (ix4 b r h d) = (ob (Q b h r) (K b h) (V b h) d : EReal) := by
  pointwise [o]
  simp only [p_at hq hk, hv]
  rw [ob_host]

theorem t_at (hq : ∀ b r h d, q (ix4 b r h d) = (Q b h r d : EReal)) (hk : ∀ b c h d, k (ix4 b c h d) = (K b h c d : EReal))
    (b : Fin 2) (r : Fin 256) (h : Fin 4) (c : Fin 256) : t q k (ix4 b r h c) = (sc (Q b h r) (K b h) c : EReal) := by
  pointwise [t]
  simp only [hq, hk, mul_comm ((K _ _ _ _ : ℝ) : EReal)]
  rw [root96, score_host]

/-- An array with a last axis of one entry added, read at an index. -/
theorem keep_at (y : FVec Ideal S2x256x4 .f32) (b : Fin 2) (r : Fin 256) (h : Fin 4) :
    broadcastInDim S2x256x4x1 ![0, 1, 2] bcast_S2x256x4_S2x256x4x1_0_1_2 y (ix4 b r h 0) = y (ix3 b r h) := by
  pointwise

theorem nx_apply (t : FVec Ideal S2x256x4x256 .f32) (b : Fin 2) (r : Fin 256) (h : Fin 4) : nx t (ix4 b r h 0)
    = Finset.univ.fold max (Ideal.ofBits .f32 0xFF800000#32) fun c : Fin 256 => t (ix4 b r h c) := by
  unfold nx
  exact (keep_at _ b r h).trans
    (reduceMax_last t (constant S_ .f32 0xFF800000#32) reducesTo_S2x256x4x256_S2x256x4_d3 h_S_ b r h _ rfl)

theorem less_at (t : FVec Ideal S2x256x4x256 .f32) (y : FVec Ideal S2x256x4x1 .f32) (b : Fin 2) (r : Fin 256) (h : Fin 4) (c : Fin 256) :
    Host.exp (subf t (broadcastInDim S2x256x4x256 ![0, 1, 2, 3] bcast_S2x256x4x1_S2x256x4x256_0_1_2_3 y)) (ix4 b r h c)
      = Ideal.exp (t (ix4 b r h c) - y (ix4 b r h 0)) := by
  pointwise

theorem f_apply (t : FVec Ideal S2x256x4x256 .f32) (b : Fin 2) (r : Fin 256) (h : Fin 4) (c : Fin 256) :
    f t (ix4 b r h c) = Ideal.exp (t (ix4 b r h c) - nx t (ix4 b r h 0)) :=
  less_at t (nx t) b r h c

theorem lf_apply (f : FVec Ideal S2x256x4x256 .f32) (b : Fin 2) (r : Fin 256) (h : Fin 4) :
    lf f (ix4 b r h 0) = ∑ c : Fin 256, f (ix4 b r h c) := by
  pointwise [lf]

theorem base_at (y z : FVec Ideal S2x256x4x1 .f32) (b : Fin 2) (r : Fin 256) (h : Fin 4) :
    Host.divf (shapeCast S2x256x4 (addf y (Host.log z)) shapeCasts_S2x256x4x1_S2x256x4)
      (broadcastInDim S2x256x4 ![] bcast_S_S2x256x4 (Host.log (constant S_ .f32 0x40000000#32))) (ix3 b r h)
      = Ideal.div (y (ix4 b r h 0) + Ideal.log (z (ix4 b r h 0))) (Ideal.log (Ideal.ofBits .f32 0x40000000#32)) := by
  pointwise

theorem w_apply (t : FVec Ideal S2x256x4x256 .f32) (b : Fin 2) (r : Fin 256) (h : Fin 4) :
    w t (ix3 b r h) = Ideal.div (nx t (ix4 b r h 0) + Ideal.log (lf (f t) (ix4 b r h 0)))
      (Ideal.log (Ideal.ofBits .f32 0x40000000#32)) :=
  base_at (nx t) (lf (f t)) b r h

theorem w_at (hq : ∀ b r h d, q (ix4 b r h d) = (Q b h r d : EReal)) (hk : ∀ b c h d, k (ix4 b c h d) = (K b h c d : EReal))
    (b : Fin 2) (r : Fin 256) (h : Fin 4) : w (t q k) (ix3 b r h) = (ls (Q b h r) (K b h) : EReal) := by
  obtain ⟨M, hM⟩ := fold_max_coe (sc (Q b h r) (K b h))
  have hn : nx (t q k) (ix4 b r h 0) = (M : EReal) := by
    simp only [nx_apply, t_at hq hk]
    rw [bot32, hM]
  have hf : ∀ c, f (t q k) (ix4 b r h c) = Ideal.exp ((sc (Q b h r) (K b h) c : EReal) - (M : EReal)) := by
    intro c
    rw [f_apply, hn, t_at hq hk]
  rw [w_apply, hn, lf_apply]
  simp only [hf]
  rw [sum_exp_host, log2_host, ls_host]

end Cert.KernelIdeal.SaveCtx

end
-- ==== Proof.Saved.lean ====
/- The two saved arrays that the call reads, as the host operations before it form them: the attention's output and the
   logarithms of the rows' sums of exponentials, each read at a row and a column. -/
module

public import proofs.«01_k».proof.Proof.Gen.KernelIdeal.Frame.Runs
public import proofs.«01_k».proof.Proof.Rank2
public import proofs.«01_k».proof.Proof.SaveLat
public import proofs.«01_k».proof.Proof.SaveCtx
public import Idealize.ShloMosaic.Lib.Claim
public import Idealize.ShloMosaic.Lib.StableHlo.ReadAt

@[expose] public section

set_option maxRecDepth 16384

noncomputable section

namespace Cert.KernelIdeal.Saved

open Cert.KernelIdeal Cert.KernelIdeal.Gen Cert.AttnGrad Idealize.ShloMosaic Idealize.ShloMosaic.TcCoe

/-- The queries, keys and values by batch, position, head and dimension. -/
def q4 (q : FVec Ideal S8704x512 .f32) : FVec Ideal S2x4352x4x128 .f32 := shapeCast _ q shapeCasts_S8704x512_S2x4352x4x128
def k4 (k : FVec Ideal S8704x512 .bf16) : FVec Ideal S2x4352x4x128 .f32 :=
  shapeCast _ (extf .f32 k bitsLt_bf16_f32) shapeCasts_S8704x512_S2x4352x4x128
def v4 (v : FVec Ideal S8704x256 .bf16) : FVec Ideal S2x4352x4x64 .f32 :=
  shapeCast _ (extf .f32 v bitsLt_bf16_f32) shapeCasts_S8704x256_S2x4352x4x64

/-- Their latent and context rows. -/
def lat (q : FVec Ideal S2x4352x4x128 .f32) : FVec Ideal S2x4096x4x128 .f32 :=
  extractStridedSlice S2x4096x4x128 ![0, 256, 0, 0] q slices_S2x4352x4x128_S2x4096x4x128_0_256_0_0
def ctx (q : FVec Ideal S2x4352x4x128 .f32) : FVec Ideal S2x256x4x128 .f32 :=
  extractStridedSlice S2x256x4x128 ![0, 0, 0, 0] q slices_S2x4352x4x128_S2x256x4x128_0_0_0_0
def ctv (v : FVec Ideal S2x4352x4x64 .f32) : FVec Ideal S2x256x4x64 .f32 :=
  extractStridedSlice S2x256x4x64 ![0, 0, 0, 0] v slices_S2x4352x4x64_S2x256x4x64_0_0_0_0

/-- The context rows' array, then the latent rows', as one array of rows. -/
def joinO (a : FVec Ideal S2x256x4x64 .f32) (b : FVec Ideal S2x4096x4x64 .f32) : FVec Ideal S8704x256 .bf16 :=
  truncf .bf16 (shapeCast _ (concatenate S2x4352x4x64 1 [⟨S2x256x4x64, a⟩, ⟨S2x4096x4x64, b⟩]
    concatenates_S2x256x4x64_S2x4096x4x64_S2x4352x4x64_d1) shapeCasts_S2x4352x4x64_S8704x256) bitsLt_bf16_f32
def joinL (a : FVec Ideal S2x256x4 .f32) (b : FVec Ideal S2x4096x4 .f32) : FVec Ideal S8704x128 .f32 :=
  pad S8704x128 ![0, 0] ![0, 124] ![0, 0] (shapeCast S8704x4 (concatenate S2x4352x4 1 [⟨S2x256x4, a⟩, ⟨S2x4096x4, b⟩]
    concatenates_S2x256x4_S2x4096x4_S2x4352x4_d1) shapeCasts_S2x4352x4_S8704x4) (sitofp .f32 (constantI S_ 32 0#32))
    pads_S8704x4_S8704x128_000_01240 h_S_

variable (m : (ℓ : Loc nD τ sig) → Buf (Elt Ideal) ℓ) (c : Dev nD)

theorem V_o : V m c main_v45 = joinO
    (SaveCtx.o (ctv (v4 (m ((c : Thread nD τ).loc main_arg2))))
      (SaveCtx.p (SaveCtx.e (SaveCtx.s (ctx (q4 (m ((c : Thread nD τ).loc main_arg0)))) (ctx (k4 (m ((c : Thread nD τ).loc main_arg1))))))))
    (SaveLat.o (v4 (m ((c : Thread nD τ).loc main_arg2)))
      (SaveLat.p (SaveLat.e (SaveLat.s (lat (q4 (m ((c : Thread nD τ).loc main_arg0)))) (k4 (m ((c : Thread nD τ).loc main_arg1))))))) := by
  unfold V
  after_reads_simp
  all_goals try simp -implicitDefEqProofs only [StableHlo.TRef.toBuf, StableHlo.TRef.ofBuf, cast_cast, cast_eq]
  change joinO (StableHlo.upto (List.flatten [hostOps0, hostOps0_1]) (fun b => m (c, b)) 51 (Proc.tc.devRef main_v42))
    (StableHlo.upto (List.flatten [hostOps0, hostOps0_1]) (fun b => m (c, b)) 51 (Proc.tc.devRef main_v22)) = _
  refine congrArg₂ joinO ?_ ?_
  · after_reads_simp
    rfl
  · after_reads_simp
    rfl

theorem V_l : V m c main_v90 = joinL
    (SaveCtx.w (SaveCtx.t (ctx (q4 (m ((c : Thread nD τ).loc main_arg0)))) (ctx (k4 (m ((c : Thread nD τ).loc main_arg1))))))
    (SaveLat.w (SaveLat.t (lat (q4 (m ((c : Thread nD τ).loc main_arg0)))) (k4 (m ((c : Thread nD τ).loc main_arg1))))) := by
  unfold V
  after_reads_simp
  all_goals try simp -implicitDefEqProofs only [StableHlo.TRef.toBuf, StableHlo.TRef.ofBuf, cast_cast, cast_eq]
  change joinL (StableHlo.upto (List.flatten [hostOps0, hostOps0_1]) (fun b => m (c, b)) 104 (Proc.tc.devRef main_v68))
    (StableHlo.upto (List.flatten [hostOps0, hostOps0_1]) (fun b => m (c, b)) 104 (Proc.tc.devRef main_v87)) = _
  refine congrArg₂ joinL ?_ ?_
  · after_reads_simp
    rfl
  · after_reads_simp
    rfl

/-- The row of position `s` of batch `b`. -/
def row (b : Fin 2) (s : Fin 4352) : Fin 8704 := ⟨4352 * b.val + s.val, by omega⟩

theorem row_div (b : Fin 2) (s : Fin 4352) : (row b s).val / 4352 = b.val := by simp only [row]; omega
theorem row_mod (b : Fin 2) (s : Fin 4352) : (row b s).val % 4352 = s.val := by simp only [row]; omega
theorem col64_div (h : Fin 4) (d : Fin 64) : (col64 h d).val / 64 = h.val := by simp only [col64]; omega
theorem col64_mod (h : Fin 4) (d : Fin 64) : (col64 h d).val % 64 = d.val := by simp only [col64]; omega

/-- The flat index of a row and a column, as the row-major order spells it. -/
theorem row_eq (b : Fin 2) (s : Fin 4352) (hr : b.val * 4352 + s.val < 8704) : (⟨b.val * 4352 + s.val, hr⟩ : Fin 8704) = row b s :=
  Fin.ext (by simp only [row]; omega)
theorem col128_eq (h : Fin 4) (d : Fin 128) (hr : h.val * 128 + d.val < 512) : (⟨h.val * 128 + d.val, hr⟩ : Fin 512) = col128 h d :=
  Fin.ext (by simp only [col128]; omega)
theorem col64_eq (h : Fin 4) (d : Fin 64) (hr : h.val * 64 + d.val < 256) : (⟨h.val * 64 + d.val, hr⟩ : Fin 256) = col64 h d :=
  Fin.ext (by simp only [col64]; omega)

theorem q4_at (q : FVec Ideal S8704x512 .f32) (b : Fin 2) (s : Fin 4352) (h : Fin 4) (d : Fin 128) :
    q4 q (ix4 b s h d) = q (ix2 (row b s) (col128 h d)) := by
  pointwise [q4]
  rw [row_eq, col128_eq]

theorem k4_at (k : FVec Ideal S8704x512 .bf16) (b : Fin 2) (s : Fin 4352) (h : Fin 4) (d : Fin 128) :
    k4 k (ix4 b s h d) = k (ix2 (row b s) (col128 h d)) := by
  pointwise [k4]
  rw [row_eq, col128_eq]

theorem v4_at (v : FVec Ideal S8704x256 .bf16) (b : Fin 2) (s : Fin 4352) (h : Fin 4) (d : Fin 64) :
    v4 v (ix4 b s h d) = v (ix2 (row b s) (col64 h d)) := by
  pointwise [v4]
  rw [row_eq, col64_eq]

/-- The position of latent row `r`. -/
def latPos (r : Fin 4096) : Fin 4352 := ⟨256 + r.val, by omega⟩

theorem lat_at (q : FVec Ideal S2x4352x4x128 .f32) (b : Fin 2) (r : Fin 4096) (h : Fin 4) (d : Fin 128) :
    lat q (ix4 b r h d) = q (ix4 b (latPos r) h d) := by
  pointwise [lat]
  rfl

theorem ctx_at (q : FVec Ideal S2x4352x4x128 .f32) (b : Fin 2) (r : Fin 256) (h : Fin 4) (d : Fin 128) :
    ctx q (ix4 b r h d) = q (ix4 b (ctxPos r) h d) := by
  pointwise [ctx]
  rfl

theorem ctv_at (v : FVec Ideal S2x4352x4x64 .f32) (b : Fin 2) (r : Fin 256) (h : Fin 4) (d : Fin 64) :
    ctv v (ix4 b r h d) = v (ix4 b (ctxPos r) h d) := by
  pointwise [ctv]
  rfl

theorem joinO_at (x : FVec Ideal S2x256x4x64 .f32) (y : FVec Ideal S2x4096x4x64 .f32) (b : Fin 2) (s : Fin 4352) (h : Fin 4) (d : Fin 64) :
    joinO x y (ix2 (row b s) (col64 h d)) = if hs : s.val < 256 then x (ix4 b ⟨s.val, hs⟩ h d) else y (ix4 b ⟨s.val - 256, by omega⟩ h d) := by
  pointwise [joinO]
  simp only [row_div, row_mod, col64_div, col64_mod, Fin.eta]

theorem joinL_at (x : FVec Ideal S2x256x4 .f32) (y : FVec Ideal S2x4096x4 .f32) (b : Fin 2) (s : Fin 4352) (h : Fin 4) :
    joinL x y (ix2 (row b s) (lane h)) = if hs : s.val < 256 then x (ix3 b ⟨s.val, hs⟩ h) else y (ix3 b ⟨s.val - 256, by omega⟩ h) := by
  pointwise [joinL]
  rw [dif_pos (show (lane h).val < 4 from h.isLt)]
  simp only [row_div, row_mod, lane, Fin.eta]

variable {Q K : Fin 2 → Fin 4 → Fin 4352 → Fin 128 → ℝ} {X : Fin 2 → Fin 4 → Fin 4352 → Fin 64 → ℝ}
  {q : FVec Ideal S8704x512 .f32} {k : FVec Ideal S8704x512 .bf16} {v : FVec Ideal S8704x256 .bf16}

/-- The saved output of a context row and of a latent row. -/
theorem o_ctx (hq : ∀ b h s d, q (ix2 (row b s) (col128 h d)) = (Q b h s d : EReal))
    (hk : ∀ b h s d, k (ix2 (row b s) (col128 h d)) = (K b h s d : EReal))
    (hv : ∀ b h s d, v (ix2 (row b s) (col64 h d)) = (X b h s d : EReal)) (b : Fin 2) (h : Fin 4) (r : Fin 256) (d : Fin 64)
    (y : FVec Ideal S2x4096x4x64 .f32) :
    joinO (SaveCtx.o (ctv (v4 v)) (SaveCtx.p (SaveCtx.e (SaveCtx.s (ctx (q4 q)) (ctx (k4 k)))))) y (ix2 (row b (ctxPos r)) (col64 h d))
      = (ob (Q b h (ctxPos r)) (fun c => K b h (ctxPos c)) (fun c => X b h (ctxPos c)) d : EReal) := by
  rw [joinO_at, dif_pos (show (ctxPos r).val < 256 from r.isLt)]
  exact SaveCtx.o_at (Q := fun b h r => Q b h (ctxPos r)) (K := fun b h r => K b h (ctxPos r)) (V := fun b h r => X b h (ctxPos r))
    (fun b r h d => by rw [ctx_at, q4_at, hq]) (fun b r h d => by rw [ctx_at, k4_at, hk]) (fun b r h d => by rw [ctv_at, v4_at, hv]) b r h d

theorem o_lat (hq : ∀ b h s d, q (ix2 (row b s) (col128 h d)) = (Q b h s d : EReal))
    (hk : ∀ b h s d, k (ix2 (row b s) (col128 h d)) = (K b h s d : EReal))
    (hv : ∀ b h s d, v (ix2 (row b s) (col64 h d)) = (X b h s d : EReal)) (b : Fin 2) (h : Fin 4) (r : Fin 4096) (d : Fin 64)
    (y : FVec Ideal S2x256x4x64 .f32) :
    joinO y (SaveLat.o (v4 v) (SaveLat.p (SaveLat.e (SaveLat.s (lat (q4 q)) (k4 k))))) (ix2 (row b (latPos r)) (col64 h d))
      = (ob (Q b h (latPos r)) (K b h) (X b h) d : EReal) := by
  rw [joinO_at, dif_neg (show ¬ (latPos r).val < 256 by simp only [latPos]; omega)]
  rw [show (⟨(latPos r).val - 256, by omega⟩ : Fin 4096) = r from Fin.ext (by simp only [latPos]; omega)]
  exact SaveLat.o_at (Q := fun b h r => Q b h (latPos r)) (K := K) (V := X)
    (fun b r h d => by rw [lat_at, q4_at, hq]) (fun b r h d => by rw [k4_at, hk]) (fun b r h d => by rw [v4_at, hv]) b r h d

/-- The saved logarithm of a context row and of a latent row. -/
theorem l_ctx (hq : ∀ b h s d, q (ix2 (row b s) (col128 h d)) = (Q b h s d : EReal))
    (hk : ∀ b h s d, k (ix2 (row b s) (col128 h d)) = (K b h s d : EReal)) (b : Fin 2) (h : Fin 4) (r : Fin 256)
    (y : FVec Ideal S2x4096x4 .f32) :
    joinL (SaveCtx.w (SaveCtx.t (ctx (q4 q)) (ctx (k4 k)))) y (ix2 (row b (ctxPos r)) (lane h))
      = (ls (Q b h (ctxPos r)) (fun c => K b h (ctxPos c)) : EReal) := by
  rw [joinL_at, dif_pos (show (ctxPos r).val < 256 from r.isLt)]
  exact SaveCtx.w_at (Q := fun b h r => Q b h (ctxPos r)) (K := fun b h r => K b h (ctxPos r))
    (fun b r h d => by rw [ctx_at, q4_at, hq]) (fun b r h d => by rw [ctx_at, k4_at, hk]) b r h

theorem l_lat (hq : ∀ b h s d, q (ix2 (row b s) (col128 h d)) = (Q b h s d : EReal))
    (hk : ∀ b h s d, k (ix2 (row b s) (col128 h d)) = (K b h s d : EReal)) (b : Fin 2) (h : Fin 4) (r : Fin 4096)
    (y : FVec Ideal S2x256x4 .f32) :
    joinL y (SaveLat.w (SaveLat.t (lat (q4 q)) (k4 k))) (ix2 (row b (latPos r)) (lane h))
      = (ls (Q b h (latPos r)) (K b h) : EReal) := by
  rw [joinL_at, dif_neg (show ¬ (latPos r).val < 256 by simp only [latPos]; omega)]
  rw [show (⟨(latPos r).val - 256, by omega⟩ : Fin 4096) = r from Fin.ext (by simp only [latPos]; omega)]
  exact SaveLat.w_at (Q := fun b h r => Q b h (latPos r)) (K := K)
    (fun b r h d => by rw [lat_at, q4_at, hq]) (fun b r h d => by rw [k4_at, hk]) b r h

end Cert.KernelIdeal.Saved

end
-- ==== Proof.Soft.lean ====
/- The softmax of one row of scores and its gradient, over the reals, for any scores, and the two ways in which they are computed
   over the extended reals: from the saved logarithm of the row's sum of exponentials, as a kernel does, and through the quotient
   by that sum, as the derivative of a reference does. Then the scores of a vector of 64 entries, scaled by an eighth. -/
module

public import proofs.«01_k».proof.Proof.Row

@[expose] public section

noncomputable section

namespace Cert.Soft

open Idealize.ShloMosaic Cert.AttnGrad

variable {n : ℕ}

/-- The sum of the exponentials of the row's scores. -/
def ze (s : Fin n → ℝ) : ℝ := ∑ c, Real.exp (s c)

/-- The row's weights: the softmax of its scores. -/
def pr (s : Fin n → ℝ) (c : Fin n) : ℝ := Real.exp (s c) / ze s

/-- The mean, under the weights, of the gradient `w` with respect to the weights. -/
def mw (s w : Fin n → ℝ) : ℝ := ∑ c, pr s c * w c

/-- The gradient with respect to the scores. -/
def ds (s w : Fin n → ℝ) (c : Fin n) : ℝ := pr s c * (w c - mw s w)

/-- The logarithm in base two of the row's sum of exponentials. -/
def ls (s : Fin n → ℝ) : ℝ := Real.log (ze s) / Real.log 2

/-- The row's sum of exponentials taken relative to a reference value `M`. -/
def zm (s : Fin n → ℝ) (M : ℝ) : ℝ := ∑ c, Real.exp (s c - M)

theorem ze_pos [NeZero n] (s : Fin n → ℝ) : 0 < ze s :=
  Finset.sum_pos (fun _ _ => Real.exp_pos _) Finset.univ_nonempty

theorem zm_pos [NeZero n] (s : Fin n → ℝ) (M : ℝ) : 0 < zm s M :=
  Finset.sum_pos (fun _ _ => Real.exp_pos _) Finset.univ_nonempty

theorem zm_eq (s : Fin n → ℝ) (M : ℝ) : zm s M = ze s * Real.exp (-M) := by
  simp only [zm, ze, Finset.sum_mul, ← Real.exp_add, sub_eq_add_neg]

theorem log2_ne : Real.log 2 ≠ 0 := (Real.log_pos (by norm_num)).ne'

theorem exp_host (s : Fin n → ℝ) (M : ℝ) (c : Fin n) :
    Ideal.exp ((s c : EReal) - (M : EReal)) = ((Real.exp (s c - M) : ℝ) : EReal) := by
  rw [← EReal.coe_sub, Ideal.exp_coe]

theorem sum_exp_host (s : Fin n → ℝ) (M : ℝ) :
    ∑ c, Ideal.exp ((s c : EReal) - (M : EReal)) = (zm s M : EReal) := by
  simp only [exp_host]; rw [sum_coe, zm]

/-- The weight as the reference forms it: the exponential over the row's sum, both relative to `M`. -/
theorem pr_host [NeZero n] (s : Fin n → ℝ) (M : ℝ) (c : Fin n) :
    Ideal.div (Ideal.exp ((s c : EReal) - (M : EReal))) (zm s M : EReal) = (pr s c : EReal) := by
  rw [exp_host, Ideal.div_coe (zm_pos s M).ne', ← EReal.coe_mul, zm_eq, pr, sub_eq_add_neg, Real.exp_add]
  have h1 := (ze_pos s).ne'
  have h2 := (Real.exp_pos (-M)).ne'
  congr 1
  field_simp

/-- The score's gradient as the derivative of the reference forms it: `(w / L − Σ w · (1 / L²) · E) · E`, where `E` and `L`
    are the exponentials and their sum. -/
theorem ds_host [NeZero n] (s w : Fin n → ℝ) (M : ℝ) (c : Fin n) :
    (Ideal.div (w c : EReal) (zm s M : EReal)
      + -∑ c', (w c' : EReal) * Ideal.div 1 ((zm s M : EReal) * (zm s M : EReal)) * Ideal.exp ((s c' : EReal) - (M : EReal)))
      * Ideal.exp ((s c : EReal) - (M : EReal)) = (ds s w c : EReal) := by
  have hz := (zm_pos s M).ne'
  have hz2 : zm s M * zm s M ≠ 0 := mul_ne_zero hz hz
  have h1 := (ze_pos s).ne'
  have h2 := (Real.exp_pos (-M)).ne'
  simp only [exp_host]
  rw [Ideal.div_coe hz, ← EReal.coe_mul (zm s M), Ideal.div_coe hz2, one_mul]
  simp only [← EReal.coe_mul]
  rw [sum_coe, ← EReal.coe_neg, ← EReal.coe_add, ← EReal.coe_mul]
  congr 1
  have hp : ∀ c', w c' * (1 / (zm s M * zm s M)) * Real.exp (s c' - M) = (pr s c' * w c') * (1 / zm s M) := by
    intro c'
    rw [zm_eq, pr, sub_eq_add_neg, Real.exp_add]; field_simp
  simp only [hp]
  rw [← Finset.sum_mul, ds, mw]
  generalize (∑ c', pr s c' * w c') = S
  rw [zm_eq, pr, sub_eq_add_neg, Real.exp_add]; field_simp
  ring

/-- The saved logarithm, as the host forms it. -/
theorem ls_host [NeZero n] (s : Fin n → ℝ) (M : ℝ) :
    Ideal.div ((M : EReal) + Ideal.log (zm s M : EReal)) ((Real.log 2 : ℝ) : EReal) = (ls s : EReal) := by
  have hz := zm_pos s M
  rw [Ideal.log_coe, if_neg (not_le.mpr hz), ← EReal.coe_add, Ideal.div_coe log2_ne, ← EReal.coe_mul, zm_eq,
    Real.log_mul (ze_pos s).ne' (Real.exp_pos _).ne', Real.log_exp, ls]
  congr 1
  field_simp
  ring

/-- The weight as a kernel forms it: two to the power of the score, in units of `log 2`, less the saved logarithm. -/
theorem pr_kernel [NeZero n] (s : Fin n → ℝ) (c : Fin n) :
    Ideal.exp2 (((s c / Real.log 2 : ℝ) : EReal) - (ls s : EReal)) = (pr s c : EReal) := by
  rw [← EReal.coe_sub, Ideal.exp2_coe, ls, ← sub_div, Real.rpow_eq_pow, Real.rpow_def_of_pos (by norm_num),
    mul_div_cancel₀ _ log2_ne, Real.exp_sub, Real.exp_log (ze_pos s), pr]

/-! ### Vectors of 64 entries -/

/-- The score of the row against key `c`: an eighth of the product of the two vectors. -/
def sc (q : Fin 64 → ℝ) (k : Fin n → Fin 64 → ℝ) (c : Fin n) : ℝ := (∑ d, q d * k c d) * (8 : ℝ)⁻¹

/-- The gradient with respect to the weights: the row's cotangent against each value. -/
def dp (g : Fin 64 → ℝ) (v : Fin n → Fin 64 → ℝ) (c : Fin n) : ℝ := ∑ e, g e * v c e

/-- The row's output. -/
def ob (q : Fin 64 → ℝ) (k v : Fin n → Fin 64 → ℝ) (e : Fin 64) : ℝ := ∑ c, v c e * pr (sc q k) c

theorem eighth : Ideal.ofBits .f32 0x3E000000#32 = (((8 : ℝ)⁻¹ : ℝ) : EReal) := by
  simp [Ideal.ofBits, Ideal.ieee, -EReal.coe_mul]; norm_num

theorem dot_coe (g h : Fin 64 → ℝ) : ∑ e, (g e : EReal) * (h e : EReal) = ((∑ e, g e * h e : ℝ) : EReal) := by
  simp only [← EReal.coe_mul]; rw [sum_coe]

theorem score_host (q : Fin 64 → ℝ) (k : Fin n → Fin 64 → ℝ) (c : Fin n) :
    (∑ d, (q d : EReal) * (k c d : EReal)) * (((8 : ℝ)⁻¹ : ℝ) : EReal) = (sc q k c : EReal) := by
  rw [dot_coe, ← EReal.coe_mul, sc]

theorem ob_host (q : Fin 64 → ℝ) (k v : Fin n → Fin 64 → ℝ) (e : Fin 64) :
    ∑ c, (v c e : EReal) * (pr (sc q k) c : EReal) = (ob q k v e : EReal) := by
  simp only [← EReal.coe_mul]; rw [sum_coe, ob]

/-- The score in units of `log 2`, with the factor taken into the row's vector as the kernel takes it. -/
theorem score_kernel (q : Fin 64 → ℝ) (k : Fin n → Fin 64 → ℝ) (c : Fin n) :
    ∑ d, ((q d * ((8 : ℝ)⁻¹ * (Real.log 2)⁻¹) : ℝ) : EReal) * (k c d : EReal) = ((sc q k c / Real.log 2 : ℝ) : EReal) := by
  rw [dot_coe (fun d => q d * ((8 : ℝ)⁻¹ * (Real.log 2)⁻¹)) (k c)]
  congr 1
  rw [sc, div_eq_mul_inv, Finset.sum_mul, Finset.sum_mul]
  exact Finset.sum_congr rfl fun d _ => by ring

/-- The product of the row's cotangent and output is the mean of the gradient with respect to the weights. -/
theorem mean_out (q : Fin 64 → ℝ) (k v : Fin n → Fin 64 → ℝ) (g : Fin 64 → ℝ) :
    ∑ e, (g e : EReal) * (ob q k v e : EReal) = (mw (sc q k) (dp g v) : EReal) := by
  rw [dot_coe]
  congr 1
  simp only [ob, dp, mw, Finset.mul_sum]
  rw [Finset.sum_comm]
  exact Finset.sum_congr rfl fun c' _ => Finset.sum_congr rfl fun e _ => by ring

end Cert.Soft

end
-- ==== Proof.Lane.lean ====
/- Small facts about the kernel's own numbers: the two constants it names, and the sum over lanes by which it picks
   one column of the saved logarithms. -/
module

public import proofs.«01_k».proof.Proof.Gen.KernelIdeal.Frame
public import proofs.«01_k».proof.Proof.Row

@[expose] public section

noncomputable section

namespace Cert.KernelIdeal

open Cert.KernelIdeal.Gen Idealize.ShloMosaic Idealize.ShloMosaic.TcCoe

/-- The factor of the scores: one over the root of 96. -/
theorem scale : Named.named (F := Ideal) κ "scale" (φ := .f32) 0x3DD105EC#32 = (((Real.sqrt 96)⁻¹ : ℝ) : EReal) :=
  IdealRules.named_const.ideal_named_scalar _ _ _ _ rfl

/-- The same factor in units of `log 2`. -/
theorem scale_log2e :
    Named.named (F := Ideal) κ "scale_log2e" (φ := .f32) 0x3E16C740#32
      = (((Real.sqrt 96)⁻¹ * (Real.log 2)⁻¹ : ℝ) : EReal) :=
  IdealRules.named_const.ideal_named_scalar _ _ _ _ rfl

/-- A sum over the lanes in which only lane `j` is kept is the entry at lane `j`. -/
theorem lane_sum {f : Fin 128 → EReal} (z : EReal) (j : Fin 128) {w : BitVec 32} (hw : w = BitVec.ofNat 32 j.val)
    (hz : z = 0 := by rfl) :
    ∑ x : Fin 128, Scalar.select (IntOp.cmpi CmpIPredicate.eq (BitVec.ofNat 32 x.val) w) (f x) z = f j := by
  subst hw hz
  rw [Finset.sum_eq_single j]
  · simp [Scalar.select, IntOp.cmpi]
  · intro b _ hb
    have : ¬ BitVec.ofNat 32 b.val = BitVec.ofNat 32 j.val := by
      intro h
      apply hb
      have := congrArg BitVec.toNat h
      simp only [BitVec.toNat_ofNat] at this
      ext
      omega
    simp [Scalar.select, IntOp.cmpi, beq_eq_false_iff_ne.mpr this]
  · intro h; exact absurd (Finset.mem_univ _) h

end Cert.KernelIdeal

end
-- ==== Proof.GroupedPay.lean ====
/- What the grouped kernel's straight-line text computes, for one group of four query heads whose rows are stacked, and one chunk of
   keys: the weights, the gradient of the scores, and the three updates, read at an index as the real formulas of Soft. The printed
   text repeats the same piece for every group and chunk, so each lemma is stated once and the repetitions are equal by definition. -/
module

public import proofs.«01_k».proof.Proof.Gen.GroupedIdeal.Frame
public import proofs.«01_k».proof.Proof.Soft
public import proofs.«01_k».proof.Proof.Lane

@[expose] public section

noncomputable section

namespace Cert.GroupedIdeal

open Cert.GroupedIdeal.Gen Idealize.ShloMosaic Idealize.ShloMosaic.TcCoe Cert.Soft
open Cert.KernelIdeal (lane_sum)
open Cert.AttnGrad (sum_coe)

/-- The head, within its group, of a stacked row, and its row within the tile. -/
def hd (R : Fin 1024) : Fin 4 := ⟨R.val / 256, by omega⟩
def rw' (R : Fin 1024) : Fin 256 := ⟨R.val % 256, by omega⟩

/-- Row `r` of head `j`, stacked. -/
def stk (j : Fin 4) (r : Fin 256) : Fin 1024 := ⟨256 * j.val + r.val, by omega⟩

theorem hd_stk (j : Fin 4) (r : Fin 256) : hd (stk j r) = j := Fin.ext (by simp only [hd, stk]; omega)
theorem rw_stk (j : Fin 4) (r : Fin 256) : rw' (stk j r) = r := Fin.ext (by simp only [rw', stk]; omega)

/-- A sum over the stacked rows, head by head. -/
theorem sum_stk (f : Fin 1024 → ℝ) : ∑ R, f R = ∑ j : Fin 4, ∑ r : Fin 256, f (stk j r) := by
  rw [Fin.sum_univ_tiles 4 256 rfl f]
  exact Finset.sum_congr rfl fun j _ => Finset.sum_congr rfl fun r _ => congrArg f (Fin.ext (by simp only [stk]; omega))

/-- Four blocks of 256 rows, stacked, read at a row. -/
theorem stack_at {n : ℕ} {α : Type} (x0 x1 x2 x3 : (⟨2, ![256, n]⟩ : Shape).Idx → α)
    (h : Shape.Concatenates [⟨2, ![256, n]⟩, ⟨2, ![256, n]⟩, ⟨2, ![256, n]⟩, ⟨2, ![256, n]⟩] ⟨2, ![1024, n]⟩ 0)
    (F : Fin 4 → Fin 256 → Fin n → α) (h0 : ∀ r d, x0 (ix2 r d) = F 0 r d) (h1 : ∀ r d, x1 (ix2 r d) = F 1 r d)
    (h2 : ∀ r d, x2 (ix2 r d) = F 2 r d) (h3 : ∀ r d, x3 (ix2 r d) = F 3 r d) (R : Fin 1024) (d : Fin n) :
    concatenate (⟨2, ![1024, n]⟩ : Shape) 0 [⟨⟨2, ![256, n]⟩, x0⟩, ⟨⟨2, ![256, n]⟩, x1⟩, ⟨⟨2, ![256, n]⟩, x2⟩, ⟨⟨2, ![256, n]⟩, x3⟩] h (ix2 R d)
      = F (hd R) (rw' R) d := by
  have hR : R = stk (hd R) (rw' R) := Fin.ext (by simp only [stk, hd, rw']; omega)
  rw [hR, hd_stk, rw_stk]
  generalize rw' R = r
  have off : ∀ (j : Fin 4) (b : Fin 2), b ≠ 0 → ((ix2 r d) b : ℕ) = ((ix2 (stk j r) d) b : ℕ) := fun j b hb =>
    match b, hb with
    | 0, hb => absurd rfl hb
    | 1, _ => rfl
  have go := fun (j : Fin 4) => concatenate_apply_piece (t := ⟨2, ![1024, n]⟩) 0
    [⟨⟨2, ![256, n]⟩, x0⟩, ⟨⟨2, ![256, n]⟩, x1⟩, ⟨⟨2, ![256, n]⟩, x2⟩, ⟨⟨2, ![256, n]⟩, x3⟩] h (ix2 (stk j r) d)
  match hd R with
  | 0 => exact (go 0 0 (by simp) ⟨2, ![256, n]⟩ x0 rfl rfl 0 rfl (ix2 r d) (off 0) rfl).trans (h0 r d)
  | 1 => exact (go 1 1 (by simp) ⟨2, ![256, n]⟩ x1 rfl rfl 256 rfl (ix2 r d) (off 1) rfl).trans (h1 r d)
  | 2 => exact (go 2 2 (by simp) ⟨2, ![256, n]⟩ x2 rfl rfl 512 rfl (ix2 r d) (off 2) rfl).trans (h2 r d)
  | 3 => exact (go 3 3 (by simp) ⟨2, ![256, n]⟩ x3 rfl rfl 768 rfl (ix2 r d) (off 3) rfl).trans (h3 r d)

/-- The factor of the scores in units of `log 2`. -/
theorem eighth_log2e :
    Named.named (F := Ideal) κ "eighth_log2e" (φ := .f32) 0x3E38AA3B#32 = (((8 : ℝ)⁻¹ * (Real.log 2)⁻¹ : ℝ) : EReal) := by
  have h : Real.sqrt 64 = 8 := by
    rw [show (64 : ℝ) = 8 ^ 2 by norm_num]
    exact Real.sqrt_sq (by norm_num)
  rw [← h]
  exact IdealRules.named_const.ideal_named_scalar _ _ _ _ rfl

/-- The numbers of the lanes. -/
abbrev lanes : IVec S256x128 32 := iota Kind.tc S256x128 32 [1] iota_S256x128_d1_w32

/-- What a group's stacked arrays hold: the queries with the two factors, the cotangents, the saved logarithms, and the products
    of the cotangents and the outputs. -/
structure Stk {N : ℕ} (qb qs g : FVec Ideal S1024x64 .bf16) (l d : FVec Ideal S1024x1 .f32)
    (Q G : Fin 1024 → Fin 64 → ℝ) (K V : Fin N → Fin 64 → ℝ) : Prop where
  qb : ∀ R d, qb (ix2 R d) = ((Q R d * ((8 : ℝ)⁻¹ * (Real.log 2)⁻¹) : ℝ) : EReal)
  qs : ∀ R d, qs (ix2 R d) = ((Q R d * (8 : ℝ)⁻¹ : ℝ) : EReal)
  g : ∀ R e, g (ix2 R e) = (G R e : EReal)
  l : ∀ R, l (ix2 R 0) = (ls (sc (Q R) K) : EReal)
  d : ∀ R, d (ix2 R 0) = (mw (sc (Q R) K) (dp (G R) V) : EReal)

section chunks
variable {N : ℕ} [NeZero N] {qb qs g : FVec Ideal S1024x64 .bf16} {l d : FVec Ideal S1024x1 .f32}
  {Q G : Fin 1024 → Fin 64 → ℝ} {K V : Fin N → Fin 64 → ℝ} (S : Stk qb qs g l d Q G K V)

section wide
variable {pos : Fin 1024 → Fin N} {k v : Vec Ideal S1024x64 .bf16}

include S in
theorem w (hk : ∀ c d, k (ix2 c d) = (K (pos c) d : EReal)) (R c : Fin 1024) :
    k0_pay67 (F := Ideal) qb l k (ix2 R c) = (pr (sc (Q R) K) (pos c) : EReal) := by
  pointwise [k0_pay67]
  simp only [S.qb, S.l, hk]
  rw [score_kernel]
  exact pr_kernel _ _

include S in
theorem gs (hk : ∀ c d, k (ix2 c d) = (K (pos c) d : EReal)) (hv : ∀ c d, v (ix2 c d) = (V (pos c) d : EReal)) (R c : Fin 1024) :
    k0_pay68 (F := Ideal) qb l d g k v (ix2 R c) = (ds (sc (Q R) K) (dp (G R) V) (pos c) : EReal) := by
  have hw := w S hk R c
  pointwise [k0_pay68]
  rw [hw]
  simp only [S.g, S.d, hv]
  rw [dot_coe (G R) (V (pos c)), ← EReal.coe_sub, ← EReal.coe_mul]
  rfl

include S in
/-- The keys' update. -/
theorem uk (hk : ∀ c d, k (ix2 c d) = (K (pos c) d : EReal)) (hv : ∀ c d, v (ix2 c d) = (V (pos c) d : EReal))
    (a : Vec Ideal S1024x64 .f32) (c : Fin 1024) (e : Fin 64) :
    k0_pay106 (F := Ideal) qs (k0_pay68 qb l d g k v) a (ix2 c e)
      = a (ix2 c e) + ((∑ R, ds (sc (Q R) K) (dp (G R) V) (pos c) * (Q R e * (8 : ℝ)⁻¹) : ℝ) : EReal) := by
  have hd := fun R => gs S hk hv R c
  pointwise [k0_pay106]
  simp only [hd, S.qs, ← EReal.coe_mul, sum_coe]

include S in
/-- The values' update. -/
theorem uv (hk : ∀ c d, k (ix2 c d) = (K (pos c) d : EReal)) (a : Vec Ideal S1024x64 .f32) (c : Fin 1024) (e : Fin 64) :
    k0_pay107 (F := Ideal) g (k0_pay67 qb l k) a (ix2 c e)
      = a (ix2 c e) + ((∑ R, pr (sc (Q R) K) (pos c) * G R e : ℝ) : EReal) := by
  have hp := fun R => w S hk R c
  pointwise [k0_pay107]
  simp only [hp, S.g, ← EReal.coe_mul, sum_coe]

include S in
/-- The queries' sum, over one more chunk of keys. -/
theorem uq (hk : ∀ c d, k (ix2 c d) = (K (pos c) d : EReal)) (hv : ∀ c d, v (ix2 c d) = (V (pos c) d : EReal))
    {a : FVec Ideal S1024x64 .f32} {A : Fin 1024 → Fin 64 → ℝ} (ha : ∀ R e, a (ix2 R e) = (A R e : EReal)) (R : Fin 1024) (e : Fin 64) :
    k0_pay110 (F := Ideal) qb l d g a k v (ix2 R e)
      = ((A R e + ∑ c, ds (sc (Q R) K) (dp (G R) V) (pos c) * K (pos c) e : ℝ) : EReal) := by
  have hd := fun c => gs S hk hv R c
  have hr : k0_pay110 (F := Ideal) qb l d g a k v
      = addf a (matmul dot_S1024x1024_S1024x64_S1024x64_1_0_0_1_n_n none (k0_pay68 qb l d g k v) k (constant S1024x64 .f32 0x00000000#32)) := rfl
  rw [hr]
  pointwise
  simp only [hd, hk, ha, ← EReal.coe_mul, sum_coe, ← EReal.coe_add]
end wide

section narrow
variable {pos : Fin 256 → Fin N} {k v : Vec Ideal S256x64 .bf16}

include S in
theorem w' (hk : ∀ c d, k (ix2 c d) = (K (pos c) d : EReal)) (R : Fin 1024) (c : Fin 256) :
    k0_pay124 (F := Ideal) qb l k (ix2 R c) = (pr (sc (Q R) K) (pos c) : EReal) := by
  pointwise [k0_pay124]
  simp only [S.qb, S.l, hk]
  rw [score_kernel]
  exact pr_kernel _ _

include S in
theorem gs' (hk : ∀ c d, k (ix2 c d) = (K (pos c) d : EReal)) (hv : ∀ c d, v (ix2 c d) = (V (pos c) d : EReal)) (R : Fin 1024) (c : Fin 256) :
    k0_pay125 (F := Ideal) qb l d g k v (ix2 R c) = (ds (sc (Q R) K) (dp (G R) V) (pos c) : EReal) := by
  have hw := w' S hk R c
  pointwise [k0_pay125]
  rw [hw]
  simp only [S.g, S.d, hv]
  rw [dot_coe (G R) (V (pos c)), ← EReal.coe_sub, ← EReal.coe_mul]
  rfl

include S in
/-- The keys' update. -/
theorem uk' (hk : ∀ c d, k (ix2 c d) = (K (pos c) d : EReal)) (hv : ∀ c d, v (ix2 c d) = (V (pos c) d : EReal))
    (a : Vec Ideal S256x64 .f32) (c : Fin 256) (e : Fin 64) :
    k0_pay10 (F := Ideal) qs (k0_pay125 qb l d g k v) a (ix2 c e)
      = a (ix2 c e) + ((∑ R, ds (sc (Q R) K) (dp (G R) V) (pos c) * (Q R e * (8 : ℝ)⁻¹) : ℝ) : EReal) := by
  have hd := fun R => gs' S hk hv R c
  pointwise [k0_pay10]
  simp only [hd, S.qs, ← EReal.coe_mul, sum_coe]

include S in
/-- The values' update. -/
theorem uv' (hk : ∀ c d, k (ix2 c d) = (K (pos c) d : EReal)) (a : Vec Ideal S256x64 .f32) (c : Fin 256) (e : Fin 64) :
    k0_pay11 (F := Ideal) g (k0_pay124 qb l k) a (ix2 c e)
      = a (ix2 c e) + ((∑ R, pr (sc (Q R) K) (pos c) * G R e : ℝ) : EReal) := by
  have hp := fun R => w' S hk R c
  pointwise [k0_pay11]
  simp only [hp, S.g, ← EReal.coe_mul, sum_coe]

include S in
/-- The queries' sum, over the last chunk of keys, with the factor. -/
theorem uq' (hk : ∀ c d, k (ix2 c d) = (K (pos c) d : EReal)) (hv : ∀ c d, v (ix2 c d) = (V (pos c) d : EReal))
    {a : FVec Ideal S1024x64 .f32} {A : Fin 1024 → Fin 64 → ℝ} (ha : ∀ R e, a (ix2 R e) = (A R e : EReal)) (R : Fin 1024) (e : Fin 64) :
    k0_pay89 (F := Ideal) d a k (k0_pay124 qb l k) (k0_pay85 g v) (ix2 R e)
      = (((A R e + ∑ c, ds (sc (Q R) K) (dp (G R) V) (pos c) * K (pos c) e) * (8 : ℝ)⁻¹ : ℝ) : EReal) := by
  have hd := fun c => gs' S hk hv R c
  have hr : k0_pay89 (F := Ideal) d a k (k0_pay124 qb l k) (k0_pay85 g v)
      = mulf (addf a (matmul dot_S1024x256_S256x64_S1024x64_1_0_0_1_n_n none (k0_pay125 qb l d g k v) k (constant S1024x64 .f32 0x00000000#32)))
        (broadcast S1024x64 (Scalar.ofBits (F := Ideal) .f32 0x3E000000#32)) := rfl
  rw [hr]
  pointwise
  simp only [hd, hk, ha, eighth, ← EReal.coe_mul, sum_coe, ← EReal.coe_add]
end narrow
end chunks

end Cert.GroupedIdeal

end
-- ==== Proof.GroupedText.lean ====
/- The printed text of the grouped kernel's pieces brought to one form: the stacked arrays of each group of heads by name, and the
   weights, gradients and updates of every chunk as the same few functions of them. All by definition. -/
module

public import proofs.«01_k».proof.Proof.GroupedPay
public import proofs.«01_k».proof.Proof.Rank2

@[expose] public section

noncomputable section

namespace Cert.GroupedIdeal

open Cert.GroupedIdeal.Gen Idealize.ShloMosaic Idealize.ShloMosaic.TcCoe Cert.Soft
open Cert.KernelIdeal (ld_at lane_sum)

/-- The stacked queries, times the factor in units of `log 2`; the stacked queries, times the factor; the stacked cotangents; the
    saved logarithms; the products of the cotangents and the outputs: of the first group of heads, then of the second. -/
def qb0 (x : Vec Ideal S256x512 .f32) : FVec Ideal S1024x64 .bf16 :=
  k0_pay52 (F := Ideal) (View.ld x (Rect.unit ![0, 0] ![256, 64] inb_S256x512_S256x64_0_0)) (View.ld x (Rect.unit ![0, 64] ![256, 64] inb_S256x512_S256x64_0_64))
    (View.ld x (Rect.unit ![0, 128] ![256, 64] inb_S256x512_S256x64_0_128)) (View.ld x (Rect.unit ![0, 192] ![256, 64] inb_S256x512_S256x64_0_192))
def qs0 (x : Vec Ideal S256x512 .f32) : FVec Ideal S1024x64 .bf16 :=
  k0_pay53 (F := Ideal) (View.ld x (Rect.unit ![0, 0] ![256, 64] inb_S256x512_S256x64_0_0)) (View.ld x (Rect.unit ![0, 64] ![256, 64] inb_S256x512_S256x64_0_64))
    (View.ld x (Rect.unit ![0, 128] ![256, 64] inb_S256x512_S256x64_0_128)) (View.ld x (Rect.unit ![0, 192] ![256, 64] inb_S256x512_S256x64_0_192))
def g0 (x : Vec Ideal S256x512 .bf16) : FVec Ideal S1024x64 .f32 :=
  k0_pay54 (F := Ideal) (View.ld x (Rect.unit ![0, 0] ![256, 64] inb_S256x512_S256x64_0_0)) (View.ld x (Rect.unit ![0, 64] ![256, 64] inb_S256x512_S256x64_0_64))
    (View.ld x (Rect.unit ![0, 128] ![256, 64] inb_S256x512_S256x64_0_128)) (View.ld x (Rect.unit ![0, 192] ![256, 64] inb_S256x512_S256x64_0_192))
def l0 (x : Vec Ideal S256x128 .f32) : FVec Ideal S1024x1 .f32 :=
  k0_pay58 (F := Ideal) lanes (k0_pay50 (View.ld x (Rect.unit ![0, 0] ![256, 128] inb_S256x128_S256x128_0_0)))
def d0 (x : Vec Ideal S256x512 .bf16) (g : FVec Ideal S1024x64 .f32) : FVec Ideal S1024x1 .f32 :=
  k0_pay59 (F := Ideal) g (k0_pay55 (View.ld x (Rect.unit ![0, 0] ![256, 64] inb_S256x512_S256x64_0_0))) (k0_pay56 (View.ld x (Rect.unit ![0, 64] ![256, 64] inb_S256x512_S256x64_0_64)))
    (k0_pay57 (View.ld x (Rect.unit ![0, 128] ![256, 64] inb_S256x512_S256x64_0_128))) (View.ld x (Rect.unit ![0, 192] ![256, 64] inb_S256x512_S256x64_0_192))
def qb1 (x : Vec Ideal S256x512 .f32) : FVec Ideal S1024x64 .bf16 :=
  k0_pay52 (F := Ideal) (View.ld x (Rect.unit ![0, 256] ![256, 64] inb_S256x512_S256x64_0_256)) (View.ld x (Rect.unit ![0, 320] ![256, 64] inb_S256x512_S256x64_0_320))
    (View.ld x (Rect.unit ![0, 384] ![256, 64] inb_S256x512_S256x64_0_384)) (View.ld x (Rect.unit ![0, 448] ![256, 64] inb_S256x512_S256x64_0_448))
def qs1 (x : Vec Ideal S256x512 .f32) : FVec Ideal S1024x64 .bf16 :=
  k0_pay53 (F := Ideal) (View.ld x (Rect.unit ![0, 256] ![256, 64] inb_S256x512_S256x64_0_256)) (View.ld x (Rect.unit ![0, 320] ![256, 64] inb_S256x512_S256x64_0_320))
    (View.ld x (Rect.unit ![0, 384] ![256, 64] inb_S256x512_S256x64_0_384)) (View.ld x (Rect.unit ![0, 448] ![256, 64] inb_S256x512_S256x64_0_448))
def g1 (x : Vec Ideal S256x512 .bf16) : FVec Ideal S1024x64 .f32 :=
  k0_pay54 (F := Ideal) (View.ld x (Rect.unit ![0, 256] ![256, 64] inb_S256x512_S256x64_0_256)) (View.ld x (Rect.unit ![0, 320] ![256, 64] inb_S256x512_S256x64_0_320))
    (View.ld x (Rect.unit ![0, 384] ![256, 64] inb_S256x512_S256x64_0_384)) (View.ld x (Rect.unit ![0, 448] ![256, 64] inb_S256x512_S256x64_0_448))
def l1 (x : Vec Ideal S256x128 .f32) : FVec Ideal S1024x1 .f32 :=
  k0_pay100 (F := Ideal) lanes (k0_pay50 (View.ld x (Rect.unit ![0, 0] ![256, 128] inb_S256x128_S256x128_0_0)))
    (k0_pay99 lanes (k0_pay50 (View.ld x (Rect.unit ![0, 0] ![256, 128] inb_S256x128_S256x128_0_0))))
def d1 (x : Vec Ideal S256x512 .bf16) (g : FVec Ideal S1024x64 .f32) : FVec Ideal S1024x1 .f32 :=
  k0_pay59 (F := Ideal) g (k0_pay55 (View.ld x (Rect.unit ![0, 256] ![256, 64] inb_S256x512_S256x64_0_256))) (k0_pay56 (View.ld x (Rect.unit ![0, 320] ![256, 64] inb_S256x512_S256x64_0_320)))
    (k0_pay57 (View.ld x (Rect.unit ![0, 384] ![256, 64] inb_S256x512_S256x64_0_384))) (View.ld x (Rect.unit ![0, 448] ![256, 64] inb_S256x512_S256x64_0_448))

/-- The printed texts by these names. -/
theorem f_qb0 (x : Vec Ideal S256x512 .f32) :
    k0_pay52 (F := Ideal) (View.ld x (Rect.unit ![0, 0] ![256, 64] inb_S256x512_S256x64_0_0)) (View.ld x (Rect.unit ![0, 64] ![256, 64] inb_S256x512_S256x64_0_64))
      (View.ld x (Rect.unit ![0, 128] ![256, 64] inb_S256x512_S256x64_0_128)) (View.ld x (Rect.unit ![0, 192] ![256, 64] inb_S256x512_S256x64_0_192))
    = qb0 x := rfl
theorem f_qs0 (x : Vec Ideal S256x512 .f32) :
    k0_pay53 (F := Ideal) (View.ld x (Rect.unit ![0, 0] ![256, 64] inb_S256x512_S256x64_0_0)) (View.ld x (Rect.unit ![0, 64] ![256, 64] inb_S256x512_S256x64_0_64))
      (View.ld x (Rect.unit ![0, 128] ![256, 64] inb_S256x512_S256x64_0_128)) (View.ld x (Rect.unit ![0, 192] ![256, 64] inb_S256x512_S256x64_0_192))
    = qs0 x := rfl
theorem f_g0 (x : Vec Ideal S256x512 .bf16) :
    k0_pay54 (F := Ideal) (View.ld x (Rect.unit ![0, 0] ![256, 64] inb_S256x512_S256x64_0_0)) (View.ld x (Rect.unit ![0, 64] ![256, 64] inb_S256x512_S256x64_0_64))
      (View.ld x (Rect.unit ![0, 128] ![256, 64] inb_S256x512_S256x64_0_128)) (View.ld x (Rect.unit ![0, 192] ![256, 64] inb_S256x512_S256x64_0_192))
    = g0 x := rfl
theorem f_l0 (x : Vec Ideal S256x128 .f32) :
    k0_pay58 (F := Ideal) (iota Kind.tc S256x128 32 [1] iota_S256x128_d1_w32) (k0_pay50 (View.ld x (Rect.unit ![0, 0] ![256, 128] inb_S256x128_S256x128_0_0)))
    = l0 x := rfl
theorem f_d0 (x : Vec Ideal S256x512 .bf16) (g : FVec Ideal S1024x64 .f32) :
    k0_pay59 (F := Ideal) g (k0_pay55 (View.ld x (Rect.unit ![0, 0] ![256, 64] inb_S256x512_S256x64_0_0))) (k0_pay56 (View.ld x (Rect.unit ![0, 64] ![256, 64] inb_S256x512_S256x64_0_64)))
      (k0_pay57 (View.ld x (Rect.unit ![0, 128] ![256, 64] inb_S256x512_S256x64_0_128))) (View.ld x (Rect.unit ![0, 192] ![256, 64] inb_S256x512_S256x64_0_192))
    = d0 x g := rfl
theorem f_qb1 (x : Vec Ideal S256x512 .f32) :
    k0_pay52 (F := Ideal) (View.ld x (Rect.unit ![0, 256] ![256, 64] inb_S256x512_S256x64_0_256)) (View.ld x (Rect.unit ![0, 320] ![256, 64] inb_S256x512_S256x64_0_320))
      (View.ld x (Rect.unit ![0, 384] ![256, 64] inb_S256x512_S256x64_0_384)) (View.ld x (Rect.unit ![0, 448] ![256, 64] inb_S256x512_S256x64_0_448))
    = qb1 x := rfl
theorem f_qs1 (x : Vec Ideal S256x512 .f32) :
    k0_pay53 (F := Ideal) (View.ld x (Rect.unit ![0, 256] ![256, 64] inb_S256x512_S256x64_0_256)) (View.ld x (Rect.unit ![0, 320] ![256, 64] inb_S256x512_S256x64_0_320))
      (View.ld x (Rect.unit ![0, 384] ![256, 64] inb_S256x512_S256x64_0_384)) (View.ld x (Rect.unit ![0, 448] ![256, 64] inb_S256x512_S256x64_0_448))
    = qs1 x := rfl
theorem f_g1 (x : Vec Ideal S256x512 .bf16) :
    k0_pay54 (F := Ideal) (View.ld x (Rect.unit ![0, 256] ![256, 64] inb_S256x512_S256x64_0_256)) (View.ld x (Rect.unit ![0, 320] ![256, 64] inb_S256x512_S256x64_0_320))
      (View.ld x (Rect.unit ![0, 384] ![256, 64] inb_S256x512_S256x64_0_384)) (View.ld x (Rect.unit ![0, 448] ![256, 64] inb_S256x512_S256x64_0_448))
    = g1 x := rfl
theorem f_l1 (x : Vec Ideal S256x128 .f32) :
    k0_pay100 (F := Ideal) (iota Kind.tc S256x128 32 [1] iota_S256x128_d1_w32) (k0_pay50 (View.ld x (Rect.unit ![0, 0] ![256, 128] inb_S256x128_S256x128_0_0)))
      (k0_pay99 (iota Kind.tc S256x128 32 [1] iota_S256x128_d1_w32) (k0_pay50 (View.ld x (Rect.unit ![0, 0] ![256, 128] inb_S256x128_S256x128_0_0))))
    = l1 x := rfl
theorem f_d1 (x : Vec Ideal S256x512 .bf16) (g : FVec Ideal S1024x64 .f32) :
    k0_pay59 (F := Ideal) g (k0_pay55 (View.ld x (Rect.unit ![0, 256] ![256, 64] inb_S256x512_S256x64_0_256))) (k0_pay56 (View.ld x (Rect.unit ![0, 320] ![256, 64] inb_S256x512_S256x64_0_320)))
      (k0_pay57 (View.ld x (Rect.unit ![0, 384] ![256, 64] inb_S256x512_S256x64_0_384))) (View.ld x (Rect.unit ![0, 448] ![256, 64] inb_S256x512_S256x64_0_448))
    = d1 x g := rfl

/-- The cotangents' products with the values of a chunk. -/
def dpw (g v : FVec Ideal S1024x64 .bf16) : FVec Ideal S1024x1024 .f32 :=
  matmul dot_S1024x64_S1024x64_S1024x1024_1_1_0_0_n_n none g v (constant S1024x1024 .f32 0x00000000#32)

section
variable (qb qs g k v : FVec Ideal S1024x64 .bf16) (l d : FVec Ideal S1024x1 .f32) (gf a of : FVec Ideal S1024x64 .f32)
  (kn vn : FVec Ideal S256x64 .bf16) (an : FVec Ideal S256x64 .f32) (Z : IVec S256x128 32) (L sl : FVec Ideal S256x128 .f32)
  (p : FVec Ideal S1024x1024 .f32) (pn dn : FVec Ideal S1024x256 .f32) (dp : FVec Ideal S1024x1024 .f32)

theorem e62 : k0_pay62 (F := Ideal) Z L qb k = k0_pay67 qb (k0_pay58 Z L) k := rfl
theorem e63 : k0_pay63 (F := Ideal) gf v = dpw (k0_pay60 gf) v := rfl
theorem e64 : k0_pay64 (F := Ideal) d (k0_pay67 qb l k) (dpw g v) = k0_pay68 qb l d g k v := rfl
theorem e65 : k0_pay65 (F := Ideal) qs d p dp a = k0_pay106 qs (k0_pay64 d p dp) a := rfl
theorem e66 : k0_pay66 (F := Ideal) g p a = k0_pay107 g p a := rfl
theorem e69 (k' v') : k0_pay69 (F := Ideal) qb l d g a k (k0_pay67 qb l k) (dpw g v) k' v'
    = k0_pay110 qb l d g (k0_pay110 qb l d g a k v) k' v' := rfl
theorem e71 : k0_pay71 (F := Ideal) (k0_pay70 qb qs l d g k v a) = k0_pay106 qs (k0_pay68 qb l d g k v) a := rfl
theorem e72 : k0_pay72 (F := Ideal) g p a = k0_pay107 g p a := rfl
theorem e75 : k0_pay75 (F := Ideal) qb l d g a k v = k0_pay110 qb l d g a k v := rfl
theorem e76 : k0_pay76 (F := Ideal) qb qs l d g k v a = k0_pay106 qs (k0_pay68 qb l d g k v) a := rfl
theorem e78 : k0_pay78 (F := Ideal) (k0_pay77 qb l g k a) = k0_pay107 g (k0_pay67 qb l k) a := rfl
theorem e81 : k0_pay81 (F := Ideal) qb l d g a k v = k0_pay110 qb l d g a k v := rfl
theorem e82 : k0_pay82 (F := Ideal) qb qs l d g k v a = k0_pay106 qs (k0_pay68 qb l d g k v) a := rfl
theorem e83 : k0_pay83 (F := Ideal) qb l g k a = k0_pay107 g (k0_pay67 qb l k) a := rfl
theorem e84 : k0_pay84 (F := Ideal) qb l kn = k0_pay124 qb l kn := rfl
theorem e86 : k0_pay86 (F := Ideal) d (k0_pay124 qb l kn) (k0_pay85 g vn) = k0_pay125 qb l d g kn vn := rfl
theorem e87 : k0_pay87 (F := Ideal) qs d pn dn an = k0_pay10 qs (k0_pay86 d pn dn) an := rfl
theorem e88 : k0_pay88 (F := Ideal) g pn an = k0_pay11 g pn an := rfl
theorem e95 (y0 y1 y2 y3) : k0_pay95 (F := Ideal) y0 y1 y2 y3 = k0_pay52 y0 y1 y2 y3 := rfl
theorem e96 (y0 y1 y2 y3) : k0_pay96 (F := Ideal) y0 y1 y2 y3 = k0_pay53 y0 y1 y2 y3 := rfl
theorem e97 (y0 y1 y2 y3) : k0_pay97 (F := Ideal) y0 y1 y2 y3 = k0_pay54 y0 y1 y2 y3 := rfl
theorem e101 (y0 y1 y2 y3) : k0_pay101 (F := Ideal) gf (k0_pay98 y0 y1 y2 y3) = k0_pay59 gf (k0_pay55 y0) (k0_pay56 y1) (k0_pay57 y2) y3 := rfl
theorem e102 : k0_pay102 (F := Ideal) gf = k0_pay60 gf := rfl
theorem e103 : k0_pay103 (F := Ideal) Z L qb sl k = k0_pay67 qb (k0_pay100 Z L sl) k := rfl
theorem e104 : k0_pay104 (F := Ideal) Z L qb gf of sl k v = k0_pay68 qb (k0_pay100 Z L sl) (k0_pay101 gf of) (k0_pay60 gf) k v := rfl
theorem e105 : k0_pay105 (F := Ideal) Z L qb gf of sl k v
    = k0_pay110 qb (k0_pay100 Z L sl) (k0_pay101 gf of) (k0_pay60 gf) k0_pay61 k v := rfl
theorem e111 : k0_pay111 (F := Ideal) qb qs l d g k v a = k0_pay106 qs (k0_pay68 qb l d g k v) a := rfl
theorem e113 : k0_pay113 (F := Ideal) g a (k0_pay112 qb l k) (constant S1024x64 .f32 0x00000000#32) = k0_pay107 g (k0_pay67 qb l k) a := rfl
theorem e116 : k0_pay116 (F := Ideal) qb l d g a k v = k0_pay110 qb l d g a k v := rfl
theorem e117 : k0_pay117 (F := Ideal) qb qs l d g k v a = k0_pay106 qs (k0_pay68 qb l d g k v) a := rfl
theorem e118 : k0_pay118 (F := Ideal) qb l g k a = k0_pay107 g (k0_pay67 qb l k) a := rfl
theorem e122 : k0_pay122 (F := Ideal) qs d g (k0_pay119 qb l k) v a = k0_pay106 qs (k0_pay68 qb l d g k v) a := rfl
theorem e123 : k0_pay123 (F := Ideal) g (k0_pay119 qb l k) a = k0_pay107 g (k0_pay67 qb l k) a := rfl

theorem e13 : k0_pay13 (F := Ideal) (k0_pay126 qb l d g a k (k0_pay119 qb l k) v kn vn)
    = k0_pay90 d (k0_pay110 qb l d g a k v) kn (k0_pay124 qb l kn) (k0_pay85 g vn) := rfl
theorem e14 : k0_pay14 (F := Ideal) (k0_pay126 qb l d g a k (k0_pay119 qb l k) v kn vn)
    = k0_pay91 d (k0_pay110 qb l d g a k v) kn (k0_pay124 qb l kn) (k0_pay85 g vn) := rfl
theorem e15 : k0_pay15 (F := Ideal) (k0_pay126 qb l d g a k (k0_pay119 qb l k) v kn vn)
    = k0_pay92 d (k0_pay110 qb l d g a k v) kn (k0_pay124 qb l kn) (k0_pay85 g vn) := rfl
theorem e16 : k0_pay16 (F := Ideal) (k0_pay126 qb l d g a k (k0_pay119 qb l k) v kn vn)
    = k0_pay93 d (k0_pay110 qb l d g a k v) kn (k0_pay124 qb l kn) (k0_pay85 g vn) := rfl

/-- The rows of one head, out of the stacked sum of the queries. -/
theorem slice0 (r : Fin 256) (e : Fin 64) : k0_pay90 (F := Ideal) d a kn pn dn (ix2 r e) = k0_pay89 d a kn pn dn (ix2 (stk 0 r) e) := by
  pointwise [k0_pay90]
  exact congrArg (k0_pay89 d a kn pn dn) (by funext x; match x with | 0 => exact Fin.ext (by simp [stk, ix2]) | 1 => exact Fin.ext (by simp [ix2]))
theorem slice1 (r : Fin 256) (e : Fin 64) : k0_pay91 (F := Ideal) d a kn pn dn (ix2 r e) = k0_pay89 d a kn pn dn (ix2 (stk 1 r) e) := by
  pointwise [k0_pay91]
  exact congrArg (k0_pay89 d a kn pn dn) (by funext x; match x with | 0 => exact Fin.ext (by simp [stk, ix2]) | 1 => exact Fin.ext (by simp [ix2]))
theorem slice2 (r : Fin 256) (e : Fin 64) : k0_pay92 (F := Ideal) d a kn pn dn (ix2 r e) = k0_pay89 d a kn pn dn (ix2 (stk 2 r) e) := by
  pointwise [k0_pay92]
  exact congrArg (k0_pay89 d a kn pn dn) (by funext x; match x with | 0 => exact Fin.ext (by simp [stk, ix2]) | 1 => exact Fin.ext (by simp [ix2]))
theorem slice3 (r : Fin 256) (e : Fin 64) : k0_pay93 (F := Ideal) d a kn pn dn (ix2 r e) = k0_pay89 d a kn pn dn (ix2 (stk 3 r) e) := by
  pointwise [k0_pay93]
  exact congrArg (k0_pay89 d a kn pn dn) (by funext x; match x with | 0 => exact Fin.ext (by simp [stk, ix2]) | 1 => exact Fin.ext (by simp [ix2]))
end

end Cert.GroupedIdeal

end
-- ==== Proof.GroupedStack.lean ====
/- What the stacked arrays of a tile hold, from what the tile's blocks hold: the hypotheses of the chunk lemmas, for each of the two
   groups of heads. -/
module

public import proofs.«01_k».proof.Proof.GroupedText

@[expose] public section

noncomputable section

namespace Cert.GroupedIdeal

open Cert.GroupedIdeal.Gen Idealize.ShloMosaic Idealize.ShloMosaic.TcCoe Cert.Soft
open Cert.KernelIdeal (ld_at lane_sum)

/-- Column `d` of head `j` of group `g`; column `d` of the group's keys; the lane of a head. -/
def qcol (g : Fin 2) (j : Fin 4) (d : Fin 64) : Fin 512 := ⟨256 * g.val + 64 * j.val + d.val, by omega⟩
def kcol (g : Fin 2) (d : Fin 64) : Fin 128 := ⟨64 * g.val + d.val, by omega⟩
def hlane (g : Fin 2) (j : Fin 4) : Fin 128 := ⟨4 * g.val + j.val, by omega⟩

theorem qcol_val (g : Fin 2) (j : Fin 4) (d : Fin 64) : (qcol g j d).val = 256 * g.val + 64 * j.val + d.val := rfl
theorem kcol_val (g : Fin 2) (d : Fin 64) : (kcol g d).val = 64 * g.val + d.val := rfl

/-- One lane of the saved logarithms, as a column. -/
theorem lane_col (L : FVec Ideal S256x128 .f32) (w : BitVec 32) (j : Fin 128) (hw : w = BitVec.ofNat 32 j.val) (r : Fin 256) (z : Fin 1) :
    shapeCast S256x1 (multiReduction .add [1] S256
      (select (cmpi .eq lanes (broadcast S256x128 w)) L (broadcast S256x128 (Scalar.ofBits (F := Ideal) .f32 0x00000000#32)))
      0x00000000#32 reduces_S256x128_S256 (.inl rfl) rfl) shapeCasts_S256_S256x1 (ix2 r z) = L (ix2 r j) := by
  have hz : z = 0 := Subsingleton.elim _ _
  subst hz
  pointwise
  exact lane_sum (f := fun x => L (ix2 r x)) _ j hw

theorem l0_at (x : Vec Ideal S256x128 .f32) (R : Fin 1024) : l0 x (ix2 R 0) = x (ix2 (rw' R) (hlane 0 (hd R))) := by
  have hL : ∀ r j, k0_pay50 (F := Ideal) (View.ld x (Rect.unit ![0, 0] ![256, 128] inb_S256x128_S256x128_0_0)) (ix2 r j) = x (ix2 r j) := fun r j => by
    pointwise [k0_pay50]
  refine stack_at _ _ _ _ concatenates_S256x1_S256x1_S256x1_S256x1_S1024x1_d0 (fun j r _ => x (ix2 r (hlane 0 j))) (fun r z => ?_) (fun r z => ?_) (fun r z => ?_) (fun r z => ?_) R 0
  · exact (lane_col _ _ (hlane 0 0) rfl r z).trans (hL _ _)
  · exact (lane_col _ _ (hlane 0 1) rfl r z).trans (hL _ _)
  · exact (lane_col _ _ (hlane 0 2) rfl r z).trans (hL _ _)
  · exact (lane_col _ _ (hlane 0 3) rfl r z).trans (hL _ _)

theorem l1_at (x : Vec Ideal S256x128 .f32) (R : Fin 1024) : l1 x (ix2 R 0) = x (ix2 (rw' R) (hlane 1 (hd R))) := by
  have hL : ∀ r j, k0_pay50 (F := Ideal) (View.ld x (Rect.unit ![0, 0] ![256, 128] inb_S256x128_S256x128_0_0)) (ix2 r j) = x (ix2 r j) := fun r j => by
    pointwise [k0_pay50]
  refine stack_at _ _ _ _ concatenates_S256x1_S256x1_S256x1_S256x1_S1024x1_d0 (fun j r _ => x (ix2 r (hlane 1 j))) (fun r z => ?_) (fun r z => ?_) (fun r z => ?_) (fun r z => ?_) R 0
  · exact (lane_col _ _ (hlane 1 0) rfl r z).trans (hL _ _)
  · exact (lane_col _ _ (hlane 1 1) rfl r z).trans (hL _ _)
  · exact (lane_col _ _ (hlane 1 2) rfl r z).trans (hL _ _)
  · exact (lane_col _ _ (hlane 1 3) rfl r z).trans (hL _ _)

section
variable {N : ℕ} [NeZero N] {y : Fin 4 → Vec Ideal S256x64 .f32} {z o : Fin 4 → Vec Ideal S256x64 .bf16} {l : FVec Ideal S1024x1 .f32}
  {Q G : Fin 4 → Fin 256 → Fin 64 → ℝ} {K V : Fin N → Fin 64 → ℝ}

/-- The stacked arrays, from the heads' blocks. -/
theorem stk_of (hy : ∀ j r d, y j (ix2 r d) = (Q j r d : EReal)) (hz : ∀ j r e, z j (ix2 r e) = (G j r e : EReal))
    (ho : ∀ j r e, o j (ix2 r e) = (ob (Q j r) K V e : EReal)) (hl : ∀ R, l (ix2 R 0) = (ls (sc (Q (hd R) (rw' R)) K) : EReal)) :
    Stk (k0_pay52 (F := Ideal) (y 0) (y 1) (y 2) (y 3)) (k0_pay53 (y 0) (y 1) (y 2) (y 3)) (k0_pay60 (k0_pay54 (z 0) (z 1) (z 2) (z 3))) l
      (k0_pay59 (k0_pay54 (z 0) (z 1) (z 2) (z 3)) (k0_pay55 (o 0)) (k0_pay56 (o 1)) (k0_pay57 (o 2)) (o 3))
      (fun R => Q (hd R) (rw' R)) (fun R => G (hd R) (rw' R)) K V := by
  have hq : ∀ R d, k0_pay51 (F := Ideal) (y 0) (y 1) (y 2) (y 3) (ix2 R d) = (Q (hd R) (rw' R) d : EReal) :=
    stack_at _ _ _ _ concatenates_S256x64_S256x64_S256x64_S256x64_S1024x64_d0 (fun j r d => (Q j r d : EReal)) (hy 0) (hy 1) (hy 2) (hy 3)
  have hg : ∀ R e, k0_pay54 (F := Ideal) (z 0) (z 1) (z 2) (z 3) (ix2 R e) = (G (hd R) (rw' R) e : EReal) :=
    stack_at _ _ _ _ concatenates_S256x64_S256x64_S256x64_S256x64_S1024x64_d0 (fun j r e => (G j r e : EReal)) (hz 0) (hz 1) (hz 2) (hz 3)
  have hs : ∀ (j : Fin 4) r e, k0_pay55 (F := Ideal) (o j) (ix2 r e)
      = (ob (Q j r) K V e : EReal) := fun j r e => by
    pointwise [k0_pay55]
    exact ho j r e
  refine ⟨fun R d => ?_, fun R d => ?_, hg, hl, fun R => ?_⟩
  · have h := hq R d
    pointwise [k0_pay52]
    rw [h, eighth_log2e, ← EReal.coe_mul]
  · have h := hq R d
    pointwise [k0_pay53]
    rw [h, eighth, ← EReal.coe_mul]
  · have h := stack_at _ _ _ _ concatenates_S256x64_S256x64_S256x64_S256x64_S1024x64_d0
      (fun j r e => (ob (Q j r) K V e : EReal)) (hs 0) (hs 1) (hs 2) (hs 3) R
    have hr : ∀ (a b : FVec Ideal S1024x64 .f32), shapeCast S1024x1 (multiReduction .add [1] S1024 (mulf a b) 0x00000000#32 reduces_S1024x64_S1024 (.inl rfl) rfl)
        shapeCasts_S1024_S1024x1 (ix2 R 0) = ∑ e : Fin 64, a (ix2 R e) * b (ix2 R e) := fun a b => by pointwise
    refine (hr _ _).trans ?_
    refine (Finset.sum_congr rfl fun e _ => congrArg₂ (· * ·) (hg R e) (h e)).trans (mean_out _ _ _ _)
end

section
variable {N : ℕ} [NeZero N] {x0 : Vec Ideal S256x512 .f32} {x3 : Vec Ideal S256x512 .bf16} {x4 : Vec Ideal S256x128 .f32} {x5 : Vec Ideal S256x512 .bf16}
  {Q G : Fin 2 → Fin 4 → Fin 256 → Fin 64 → ℝ} {K V : Fin 2 → Fin N → Fin 64 → ℝ}

/-- A tile's blocks as read: the queries, the outputs, the saved logarithms and the cotangents. -/
structure Blk (x0 : Vec Ideal S256x512 .f32) (x3 : Vec Ideal S256x512 .bf16) (x4 : Vec Ideal S256x128 .f32) (x5 : Vec Ideal S256x512 .bf16)
    (Q G : Fin 2 → Fin 4 → Fin 256 → Fin 64 → ℝ) (K V : Fin 2 → Fin N → Fin 64 → ℝ) : Prop where
  q : ∀ g j r d, x0 (ix2 r (qcol g j d)) = (Q g j r d : EReal)
  o : ∀ g j r e, x3 (ix2 r (qcol g j e)) = (ob (Q g j r) (K g) (V g) e : EReal)
  l : ∀ g j r, x4 (ix2 r (hlane g j)) = (ls (sc (Q g j r) (K g)) : EReal)
  g : ∀ g j r e, x5 (ix2 r (qcol g j e)) = (G g j r e : EReal)

variable (B : Blk x0 x3 x4 x5 Q G K V)

include B in
theorem stk0 : Stk (qb0 x0) (qs0 x0) (k0_pay60 (g0 x5)) (l0 x4) (d0 x3 (g0 x5))
    (fun R => Q 0 (hd R) (rw' R)) (fun R => G 0 (hd R) (rw' R)) (K 0) (V 0) := by
  refine stk_of
    (y := ![View.ld x0 (Rect.unit ![0, 0] ![256, 64] inb_S256x512_S256x64_0_0), View.ld x0 (Rect.unit ![0, 64] ![256, 64] inb_S256x512_S256x64_0_64),
      View.ld x0 (Rect.unit ![0, 128] ![256, 64] inb_S256x512_S256x64_0_128), View.ld x0 (Rect.unit ![0, 192] ![256, 64] inb_S256x512_S256x64_0_192)])
    (z := ![View.ld x5 (Rect.unit ![0, 0] ![256, 64] inb_S256x512_S256x64_0_0), View.ld x5 (Rect.unit ![0, 64] ![256, 64] inb_S256x512_S256x64_0_64),
      View.ld x5 (Rect.unit ![0, 128] ![256, 64] inb_S256x512_S256x64_0_128), View.ld x5 (Rect.unit ![0, 192] ![256, 64] inb_S256x512_S256x64_0_192)])
    (o := ![View.ld x3 (Rect.unit ![0, 0] ![256, 64] inb_S256x512_S256x64_0_0), View.ld x3 (Rect.unit ![0, 64] ![256, 64] inb_S256x512_S256x64_0_64),
      View.ld x3 (Rect.unit ![0, 128] ![256, 64] inb_S256x512_S256x64_0_128), View.ld x3 (Rect.unit ![0, 192] ![256, 64] inb_S256x512_S256x64_0_192)])
    (Q := Q 0) (G := G 0) ?_ ?_ ?_ (fun R => (l0_at x4 R).trans (B.l 0 _ _))
  all_goals
    intro j r d
    first
    | refine Eq.trans ?_ (B.q 0 j r d)
    | refine Eq.trans ?_ (B.g 0 j r d)
    | refine Eq.trans ?_ (B.o 0 j r d)
    match j with
    | 0 => exact ld_at _ r d r (qcol 0 0 d) (by omega) (by simp only [qcol_val] <;> simp <;> omega)
    | 1 => exact ld_at _ r d r (qcol 0 1 d) (by omega) (by simp only [qcol_val] <;> simp <;> omega)
    | 2 => exact ld_at _ r d r (qcol 0 2 d) (by omega) (by simp only [qcol_val] <;> simp <;> omega)
    | 3 => exact ld_at _ r d r (qcol 0 3 d) (by omega) (by simp only [qcol_val] <;> simp <;> omega)

include B in
theorem stk1 : Stk (qb1 x0) (qs1 x0) (k0_pay60 (g1 x5)) (l1 x4) (d1 x3 (g1 x5))
    (fun R => Q 1 (hd R) (rw' R)) (fun R => G 1 (hd R) (rw' R)) (K 1) (V 1) := by
  refine stk_of
    (y := ![View.ld x0 (Rect.unit ![0, 256] ![256, 64] inb_S256x512_S256x64_0_256), View.ld x0 (Rect.unit ![0, 320] ![256, 64] inb_S256x512_S256x64_0_320),
      View.ld x0 (Rect.unit ![0, 384] ![256, 64] inb_S256x512_S256x64_0_384), View.ld x0 (Rect.unit ![0, 448] ![256, 64] inb_S256x512_S256x64_0_448)])
    (z := ![View.ld x5 (Rect.unit ![0, 256] ![256, 64] inb_S256x512_S256x64_0_256), View.ld x5 (Rect.unit ![0, 320] ![256, 64] inb_S256x512_S256x64_0_320),
      View.ld x5 (Rect.unit ![0, 384] ![256, 64] inb_S256x512_S256x64_0_384), View.ld x5 (Rect.unit ![0, 448] ![256, 64] inb_S256x512_S256x64_0_448)])
    (o := ![View.ld x3 (Rect.unit ![0, 256] ![256, 64] inb_S256x512_S256x64_0_256), View.ld x3 (Rect.unit ![0, 320] ![256, 64] inb_S256x512_S256x64_0_320),
      View.ld x3 (Rect.unit ![0, 384] ![256, 64] inb_S256x512_S256x64_0_384), View.ld x3 (Rect.unit ![0, 448] ![256, 64] inb_S256x512_S256x64_0_448)])
    (Q := Q 1) (G := G 1) ?_ ?_ ?_ (fun R => (l1_at x4 R).trans (B.l 1 _ _))
  all_goals
    intro j r d
    first
    | refine Eq.trans ?_ (B.q 1 j r d)
    | refine Eq.trans ?_ (B.g 1 j r d)
    | refine Eq.trans ?_ (B.o 1 j r d)
    match j with
    | 0 => exact ld_at _ r d r (qcol 1 0 d) (by omega) (by simp only [qcol_val] <;> simp <;> omega)
    | 1 => exact ld_at _ r d r (qcol 1 1 d) (by omega) (by simp only [qcol_val] <;> simp <;> omega)
    | 2 => exact ld_at _ r d r (qcol 1 2 d) (by omega) (by simp only [qcol_val] <;> simp <;> omega)
    | 3 => exact ld_at _ r d r (qcol 1 3 d) (by omega) (by simp only [qcol_val] <;> simp <;> omega)
end

end Cert.GroupedIdeal

end
-- ==== Proof.GroupedSaveLat.lean ====
/- The chain of host operations that forms the grouped call's saved values of the latent rows, the attention's output and the logarithm of
   each row's sum of exponentials, as functions of the arrays it reads, and each stage read at an index. -/
module

public import proofs.«01_k».proof.Proof.Gen.GroupedIdeal
public import proofs.«01_k».proof.Proof.GroupedStack
public import Idealize.ShloMosaic.Lib.Pointwise
public import Idealize.ShloMosaic.Lib.IdealHost

@[expose] public section

set_option maxRecDepth 16384

noncomputable section

namespace Cert.GroupedIdeal.SaveLat

open Cert.GroupedIdeal Cert.GroupedIdeal.Gen Cert.Soft Idealize.ShloMosaic
open Cert.AttnGrad (sum_coe fold_max_coe bot32 log2_host maximumf_at reduceMax_last)

/-- The scores. -/
def s (q : FVec Ideal S2x4096x8x64 .f32) (k : FVec Ideal S2x4352x8x64 .f32) : FVec Ideal S2x8x4096x4352 .f32 :=
  mulf (Host.dotGeneral dot_S2x4096x8x64_S2x4352x8x64_S2x8x4096x4352_3_3_1_1_02_02 none q k)
    (broadcastInDim S2x8x4096x4352 ![] bcast_S_S2x8x4096x4352 (constant S_ .f32 0x3E000000#32))

/-- The rows' greatest scores. -/
def mx (s : FVec Ideal S2x8x4096x4352 .f32) : FVec Ideal S2x8x4096 .f32 :=
  maximumf (broadcastInDim S2x8x4096 ![] bcast_S_S2x8x4096 (constant S_ .f32 0xFF800000#32))
    (Host.reduce FloatOps.maximumf s (constant S_ .f32 0xFF800000#32) reducesTo_S2x8x4096x4352_S2x8x4096_d3 h_S_)

/-- The exponentials of the scores less their row's greatest. -/
def e (s : FVec Ideal S2x8x4096x4352 .f32) : FVec Ideal S2x8x4096x4352 .f32 :=
  Host.exp (subf s (broadcastInDim S2x8x4096x4352 ![0, 1, 2, 3] bcast_S2x8x4096x1_S2x8x4096x4352_0_1_2_3
    (broadcastInDim S2x8x4096x1 ![0, 1, 2] bcast_S2x8x4096_S2x8x4096x1_0_1_2 (mx s))))

/-- Their sums over a row. -/
def l (e : FVec Ideal S2x8x4096x4352 .f32) : FVec Ideal S2x8x4096x1 .f32 :=
  broadcastInDim S2x8x4096x1 ![0, 1, 2] bcast_S2x8x4096_S2x8x4096x1_0_1_2
    (Host.reduceAdd e (constant S_ .f32 0x00000000#32) reducesTo_S2x8x4096x4352_S2x8x4096_d3 h_S_)

/-- The weights. -/
def p (e : FVec Ideal S2x8x4096x4352 .f32) : FVec Ideal S2x8x4096x4352 .f32 :=
  Host.divf e (broadcastInDim S2x8x4096x4352 ![0, 1, 2, 3] bcast_S2x8x4096x1_S2x8x4096x4352_0_1_2_3 (l e))

/-- The output. -/
def o (v : FVec Ideal S2x4352x8x64 .f32) (p : FVec Ideal S2x8x4096x4352 .f32) : FVec Ideal S2x4096x8x64 .f32 :=
  transpose S2x4096x8x64 [0, 3, 1, 2] (Host.dotGeneral dot_S2x4352x8x64_S2x8x4096x4352_S2x8x64x4096_1_3_3_2_02_01 none v p)
    transposes_S2x8x64x4096_S2x4096x8x64_0_3_1_2

/-- The scores, with the head axis third. -/
def t (q : FVec Ideal S2x4096x8x64 .f32) (k : FVec Ideal S2x4352x8x64 .f32) : FVec Ideal S2x4096x8x4352 .f32 :=
  mulf (transpose S2x4096x8x4352 [0, 3, 1, 2] (Host.dotGeneral dot_S2x4352x8x64_S2x4096x8x64_S2x8x4352x4096_3_3_1_1_02_02 none k q)
      transposes_S2x8x4352x4096_S2x4096x8x4352_0_3_1_2)
    (broadcastInDim S2x4096x8x4352 ![] bcast_S_S2x4096x8x4352 (constant S_ .f32 0x3E000000#32))

/-- Their rows' greatest. -/
def nx (t : FVec Ideal S2x4096x8x4352 .f32) : FVec Ideal S2x4096x8x1 .f32 :=
  broadcastInDim S2x4096x8x1 ![0, 1, 2] bcast_S2x4096x8_S2x4096x8x1_0_1_2
    (Host.reduce FloatOps.maximumf t (constant S_ .f32 0xFF800000#32) reducesTo_S2x4096x8x4352_S2x4096x8_d3 h_S_)

/-- The exponentials of the scores less their row's greatest. -/
def f (t : FVec Ideal S2x4096x8x4352 .f32) : FVec Ideal S2x4096x8x4352 .f32 :=
  Host.exp (subf t (broadcastInDim S2x4096x8x4352 ![0, 1, 2, 3] bcast_S2x4096x8x1_S2x4096x8x4352_0_1_2_3 (nx t)))

/-- Their sums over a row. -/
def lf (f : FVec Ideal S2x4096x8x4352 .f32) : FVec Ideal S2x4096x8x1 .f32 :=
  broadcastInDim S2x4096x8x1 ![0, 1, 2] bcast_S2x4096x8_S2x4096x8x1_0_1_2
    (Host.reduceAdd f (constant S_ .f32 0x00000000#32) reducesTo_S2x4096x8x4352_S2x4096x8_d3 h_S_)

/-- The logarithms, in base two, of the rows' sums of exponentials of the scores. -/
def w (t : FVec Ideal S2x4096x8x4352 .f32) : FVec Ideal S2x4096x8 .f32 :=
  Host.divf (shapeCast S2x4096x8 (addf (nx t) (Host.log (lf (f t)))) shapeCasts_S2x4096x8x1_S2x4096x8)
    (broadcastInDim S2x4096x8 ![] bcast_S_S2x4096x8 (Host.log (constant S_ .f32 0x40000000#32)))

variable {q : FVec Ideal S2x4096x8x64 .f32} {k : FVec Ideal S2x4352x8x64 .f32} {v : FVec Ideal S2x4352x8x64 .f32}
variable {Q : Fin 2 → Fin 8 → Fin 4096 → Fin 64 → ℝ} {K : Fin 2 → Fin 8 → Fin 4352 → Fin 64 → ℝ}
  {V : Fin 2 → Fin 8 → Fin 4352 → Fin 64 → ℝ}

theorem s_at (hq : ∀ b r h d, q (ix4 b r h d) = (Q b h r d : EReal)) (hk : ∀ b c h d, k (ix4 b c h d) = (K b h c d : EReal))
    (b : Fin 2) (h : Fin 8) (r : Fin 4096) (c : Fin 4352) : s q k (ix4 b h r c) = (sc (Q b h r) (K b h) c : EReal) := by
  pointwise [s]
  simp only [hq, hk]
  rw [eighth, score_host]

theorem mx_apply (s : FVec Ideal S2x8x4096x4352 .f32) (b : Fin 2) (h : Fin 8) (r : Fin 4096) : mx s (ix3 b h r)
    = max (Ideal.ofBits .f32 0xFF800000#32)
        (Finset.univ.fold max (Ideal.ofBits .f32 0xFF800000#32) fun c : Fin 4352 => s (ix4 b h r c)) := by
  unfold mx
  exact (maximumf_at _ _ _).trans (congrArg₂ max rfl
    (reduceMax_last s (constant S_ .f32 0xFF800000#32) reducesTo_S2x8x4096x4352_S2x8x4096_d3 h_S_ b h r _ rfl))

theorem mx_at (hq : ∀ b r h d, q (ix4 b r h d) = (Q b h r d : EReal)) (hk : ∀ b c h d, k (ix4 b c h d) = (K b h c d : EReal))
    (b : Fin 2) (h : Fin 8) (r : Fin 4096) : ∃ M : ℝ, mx (s q k) (ix3 b h r) = (M : EReal) := by
  obtain ⟨M, hM⟩ := fold_max_coe (sc (Q b h r) (K b h))
  refine ⟨M, ?_⟩
  simp only [mx_apply, s_at hq hk]
  rw [bot32, hM]; simp

theorem e_apply (s : FVec Ideal S2x8x4096x4352 .f32) (b : Fin 2) (h : Fin 8) (r : Fin 4096) (c : Fin 4352) :
    e s (ix4 b h r c) = Ideal.exp (s (ix4 b h r c) - mx s (ix3 b h r)) := by
  pointwise [e]

theorem l_apply (e : FVec Ideal S2x8x4096x4352 .f32) (b : Fin 2) (h : Fin 8) (r : Fin 4096) :
    l e (ix4 b h r 0) = ∑ c : Fin 4352, e (ix4 b h r c) := by
  pointwise [l]

theorem p_at (hq : ∀ b r h d, q (ix4 b r h d) = (Q b h r d : EReal)) (hk : ∀ b c h d, k (ix4 b c h d) = (K b h c d : EReal))
    (b : Fin 2) (h : Fin 8) (r : Fin 4096) (c : Fin 4352) : p (e (s q k)) (ix4 b h r c) = (pr (sc (Q b h r) (K b h)) c : EReal) := by
  obtain ⟨M, hm⟩ := mx_at hq hk b h r
  have he : ∀ c, e (s q k) (ix4 b h r c) = Ideal.exp ((sc (Q b h r) (K b h) c : EReal) - (M : EReal)) := by
    intro c
    rw [e_apply, hm, s_at hq hk]
  have hl : l (e (s q k)) (ix4 b h r 0) = (zm (sc (Q b h r) (K b h)) M : EReal) := by
    rw [l_apply]
    simp only [he]
    rw [sum_exp_host]
  pointwise [p]
  rw [he, hl, pr_host]

theorem o_at (hq : ∀ b r h d, q (ix4 b r h d) = (Q b h r d : EReal)) (hk : ∀ b c h d, k (ix4 b c h d) = (K b h c d : EReal))
    (hv : ∀ b c h d, v (ix4 b c h d) = (V b h c d : EReal)) (b : Fin 2) (r : Fin 4096) (h : Fin 8) (d : Fin 64) :
    o v (p (e (s q k))) (ix4 b r h d) = (ob (Q b h r) (K b h) (V b h) d : EReal) := by
  pointwise [o]
  simp only [p_at hq hk, hv]
  rw [ob_host]

theorem t_at (hq : ∀ b r h d, q (ix4 b r h d) = (Q b h r d : EReal)) (hk : ∀ b c h d, k (ix4 b c h d) = (K b h c d : EReal))
    (b : Fin 2) (r : Fin 4096) (h : Fin 8) (c : Fin 4352) : t q k (ix4 b r h c) = (sc (Q b h r) (K b h) c : EReal) := by
  pointwise [t]
  simp only [hq, hk, mul_comm ((K _ _ _ _ : ℝ) : EReal)]
  rw [eighth, score_host]

/-- An array with a last axis of one entry added, read at an index. -/
theorem keep_at (y : FVec Ideal S2x4096x8 .f32) (b : Fin 2) (r : Fin 4096) (h : Fin 8) :
    broadcastInDim S2x4096x8x1 ![0, 1, 2] bcast_S2x4096x8_S2x4096x8x1_0_1_2 y (ix4 b r h 0) = y (ix3 b r h) := by
  pointwise

theorem nx_apply (t : FVec Ideal S2x4096x8x4352 .f32) (b : Fin 2) (r : Fin 4096) (h : Fin 8) : nx t (ix4 b r h 0)
    = Finset.univ.fold max (Ideal.ofBits .f32 0xFF800000#32) fun c : Fin 4352 => t (ix4 b r h c) := by
  unfold nx
  exact (keep_at _ b r h).trans
    (reduceMax_last t (constant S_ .f32 0xFF800000#32) reducesTo_S2x4096x8x4352_S2x4096x8_d3 h_S_ b r h _ rfl)

theorem less_at (t : FVec Ideal S2x4096x8x4352 .f32) (y : FVec Ideal S2x4096x8x1 .f32) (b : Fin 2) (r : Fin 4096) (h : Fin 8) (c : Fin 4352) :
    Host.exp (subf t (broadcastInDim S2x4096x8x4352 ![0, 1, 2, 3] bcast_S2x4096x8x1_S2x4096x8x4352_0_1_2_3 y)) (ix4 b r h c)
      = Ideal.exp (t (ix4 b r h c) - y (ix4 b r h 0)) := by
  pointwise

theorem f_apply (t : FVec Ideal S2x4096x8x4352 .f32) (b : Fin 2) (r : Fin 4096) (h : Fin 8) (c : Fin 4352) :
    f t (ix4 b r h c) = Ideal.exp (t (ix4 b r h c) - nx t (ix4 b r h 0)) :=
  less_at t (nx t) b r h c

theorem lf_apply (f : FVec Ideal S2x4096x8x4352 .f32) (b : Fin 2) (r : Fin 4096) (h : Fin 8) :
    lf f (ix4 b r h 0) = ∑ c : Fin 4352, f (ix4 b r h c) := by
  pointwise [lf]

theorem base_at (y z : FVec Ideal S2x4096x8x1 .f32) (b : Fin 2) (r : Fin 4096) (h : Fin 8) :
    Host.divf (shapeCast S2x4096x8 (addf y (Host.log z)) shapeCasts_S2x4096x8x1_S2x4096x8)
      (broadcastInDim S2x4096x8 ![] bcast_S_S2x4096x8 (Host.log (constant S_ .f32 0x40000000#32))) (ix3 b r h)
      = Ideal.div (y (ix4 b r h 0) + Ideal.log (z (ix4 b r h 0))) (Ideal.log (Ideal.ofBits .f32 0x40000000#32)) := by
  pointwise

theorem w_apply (t : FVec Ideal S2x4096x8x4352 .f32) (b : Fin 2) (r : Fin 4096) (h : Fin 8) :
    w t (ix3 b r h) = Ideal.div (nx t (ix4 b r h 0) + Ideal.log (lf (f t) (ix4 b r h 0)))
      (Ideal.log (Ideal.ofBits .f32 0x40000000#32)) :=
  base_at (nx t) (lf (f t)) b r h

theorem w_at (hq : ∀ b r h d, q (ix4 b r h d) = (Q b h r d : EReal)) (hk : ∀ b c h d, k (ix4 b c h d) = (K b h c d : EReal))
    (b : Fin 2) (r : Fin 4096) (h : Fin 8) : w (t q k) (ix3 b r h) = (ls (sc (Q b h r) (K b h)) : EReal) := by
  obtain ⟨M, hM⟩ := fold_max_coe (sc (Q b h r) (K b h))
  have hn : nx (t q k) (ix4 b r h 0) = (M : EReal) := by
    simp only [nx_apply, t_at hq hk]
    rw [bot32, hM]
  have hf : ∀ c, f (t q k) (ix4 b r h c) = Ideal.exp ((sc (Q b h r) (K b h) c : EReal) - (M : EReal)) := by
    intro c
    rw [f_apply, hn, t_at hq hk]
  rw [w_apply, hn, lf_apply]
  simp only [hf]
  rw [sum_exp_host, log2_host, ls_host]

end Cert.GroupedIdeal.SaveLat

end
-- ==== Proof.GroupedSaveCtx.lean ====
/- The chain of host operations that forms the grouped call's saved values of the context rows, the attention's output and the logarithm of
   each row's sum of exponentials, as functions of the arrays it reads, and each stage read at an index. -/
module

public import proofs.«01_k».proof.Proof.Gen.GroupedIdeal
public import proofs.«01_k».proof.Proof.GroupedStack
public import Idealize.ShloMosaic.Lib.Pointwise
public import Idealize.ShloMosaic.Lib.IdealHost

@[expose] public section

set_option maxRecDepth 16384

noncomputable section

namespace Cert.GroupedIdeal.SaveCtx

open Cert.GroupedIdeal Cert.GroupedIdeal.Gen Cert.Soft Idealize.ShloMosaic
open Cert.AttnGrad (sum_coe fold_max_coe bot32 log2_host maximumf_at reduceMax_last)

/-- The scores. -/
def s (q : FVec Ideal S2x256x8x64 .f32) (k : FVec Ideal S2x256x8x64 .f32) : FVec Ideal S2x8x256x256 .f32 :=
  mulf (Host.dotGeneral dot_S2x256x8x64_S2x256x8x64_S2x8x256x256_3_3_1_1_02_02 none q k)
    (broadcastInDim S2x8x256x256 ![] bcast_S_S2x8x256x256 (constant S_ .f32 0x3E000000#32))

/-- The rows' greatest scores. -/
def mx (s : FVec Ideal S2x8x256x256 .f32) : FVec Ideal S2x8x256 .f32 :=
  maximumf (broadcastInDim S2x8x256 ![] bcast_S_S2x8x256 (constant S_ .f32 0xFF800000#32))
    (Host.reduce FloatOps.maximumf s (constant S_ .f32 0xFF800000#32) reducesTo_S2x8x256x256_S2x8x256_d3 h_S_)

/-- The exponentials of the scores less their row's greatest. -/
def e (s : FVec Ideal S2x8x256x256 .f32) : FVec Ideal S2x8x256x256 .f32 :=
  Host.exp (subf s (broadcastInDim S2x8x256x256 ![0, 1, 2, 3] bcast_S2x8x256x1_S2x8x256x256_0_1_2_3
    (broadcastInDim S2x8x256x1 ![0, 1, 2] bcast_S2x8x256_S2x8x256x1_0_1_2 (mx s))))

/-- Their sums over a row. -/
def l (e : FVec Ideal S2x8x256x256 .f32) : FVec Ideal S2x8x256x1 .f32 :=
  broadcastInDim S2x8x256x1 ![0, 1, 2] bcast_S2x8x256_S2x8x256x1_0_1_2
    (Host.reduceAdd e (constant S_ .f32 0x00000000#32) reducesTo_S2x8x256x256_S2x8x256_d3 h_S_)

/-- The weights. -/
def p (e : FVec Ideal S2x8x256x256 .f32) : FVec Ideal S2x8x256x256 .f32 :=
  Host.divf e (broadcastInDim S2x8x256x256 ![0, 1, 2, 3] bcast_S2x8x256x1_S2x8x256x256_0_1_2_3 (l e))

/-- The output. -/
def o (v : FVec Ideal S2x256x8x64 .f32) (p : FVec Ideal S2x8x256x256 .f32) : FVec Ideal S2x256x8x64 .f32 :=
  transpose S2x256x8x64 [0, 3, 1, 2] (Host.dotGeneral dot_S2x256x8x64_S2x8x256x256_S2x8x64x256_1_3_3_2_02_01 none v p)
    transposes_S2x8x64x256_S2x256x8x64_0_3_1_2

/-- The scores, with the head axis third. -/
def t (q : FVec Ideal S2x256x8x64 .f32) (k : FVec Ideal S2x256x8x64 .f32) : FVec Ideal S2x256x8x256 .f32 :=
  mulf (transpose S2x256x8x256 [0, 3, 1, 2] (Host.dotGeneral dot_S2x256x8x64_S2x256x8x64_S2x8x256x256_3_3_1_1_02_02 none k q)
      transposes_S2x8x256x256_S2x256x8x256_0_3_1_2)
    (broadcastInDim S2x256x8x256 ![] bcast_S_S2x256x8x256 (constant S_ .f32 0x3E000000#32))

/-- Their rows' greatest. -/
def nx (t : FVec Ideal S2x256x8x256 .f32) : FVec Ideal S2x256x8x1 .f32 :=
  broadcastInDim S2x256x8x1 ![0, 1, 2] bcast_S2x256x8_S2x256x8x1_0_1_2
    (Host.reduce FloatOps.maximumf t (constant S_ .f32 0xFF800000#32) reducesTo_S2x256x8x256_S2x256x8_d3 h_S_)

/-- The exponentials of the scores less their row's greatest. -/
def f (t : FVec Ideal S2x256x8x256 .f32) : FVec Ideal S2x256x8x256 .f32 :=
  Host.exp (subf t (broadcastInDim S2x256x8x256 ![0, 1, 2, 3] bcast_S2x256x8x1_S2x256x8x256_0_1_2_3 (nx t)))

/-- Their sums over a row. -/
def lf (f : FVec Ideal S2x256x8x256 .f32) : FVec Ideal S2x256x8x1 .f32 :=
  broadcastInDim S2x256x8x1 ![0, 1, 2] bcast_S2x256x8_S2x256x8x1_0_1_2
    (Host.reduceAdd f (constant S_ .f32 0x00000000#32) reducesTo_S2x256x8x256_S2x256x8_d3 h_S_)

/-- The logarithms, in base two, of the rows' sums of exponentials of the scores. -/
def w (t : FVec Ideal S2x256x8x256 .f32) : FVec Ideal S2x256x8 .f32 :=
  Host.divf (shapeCast S2x256x8 (addf (nx t) (Host.log (lf (f t)))) shapeCasts_S2x256x8x1_S2x256x8)
    (broadcastInDim S2x256x8 ![] bcast_S_S2x256x8 (Host.log (constant S_ .f32 0x40000000#32)))

variable {q : FVec Ideal S2x256x8x64 .f32} {k : FVec Ideal S2x256x8x64 .f32} {v : FVec Ideal S2x256x8x64 .f32}
variable {Q : Fin 2 → Fin 8 → Fin 256 → Fin 64 → ℝ} {K : Fin 2 → Fin 8 → Fin 256 → Fin 64 → ℝ}
  {V : Fin 2 → Fin 8 → Fin 256 → Fin 64 → ℝ}

theorem s_at (hq : ∀ b r h d, q (ix4 b r h d) = (Q b h r d : EReal)) (hk : ∀ b c h d, k (ix4 b c h d) = (K b h c d : EReal))
    (b : Fin 2) (h : Fin 8) (r : Fin 256) (c : Fin 256) : s q k (ix4 b h r c) = (sc (Q b h r) (K b h) c : EReal) := by
  pointwise [s]
  simp only [hq, hk]
  rw [eighth, score_host]

theorem mx_apply (s : FVec Ideal S2x8x256x256 .f32) (b : Fin 2) (h : Fin 8) (r : Fin 256) : mx s (ix3 b h r)
    = max (Ideal.ofBits .f32 0xFF800000#32)
        (Finset.univ.fold max (Ideal.ofBits .f32 0xFF800000#32) fun c : Fin 256 => s (ix4 b h r c)) := by
  unfold mx
  exact (maximumf_at _ _ _).trans (congrArg₂ max rfl
    (reduceMax_last s (constant S_ .f32 0xFF800000#32) reducesTo_S2x8x256x256_S2x8x256_d3 h_S_ b h r _ rfl))

theorem mx_at (hq : ∀ b r h d, q (ix4 b r h d) = (Q b h r d : EReal)) (hk : ∀ b c h d, k (ix4 b c h d) = (K b h c d : EReal))
    (b : Fin 2) (h : Fin 8) (r : Fin 256) : ∃ M : ℝ, mx (s q k) (ix3 b h r) = (M : EReal) := by
  obtain ⟨M, hM⟩ := fold_max_coe (sc (Q b h r) (K b h))
  refine ⟨M, ?_⟩
  simp only [mx_apply, s_at hq hk]
  rw [bot32, hM]; simp

theorem e_apply (s : FVec Ideal S2x8x256x256 .f32) (b : Fin 2) (h : Fin 8) (r : Fin 256) (c : Fin 256) :
    e s (ix4 b h r c) = Ideal.exp (s (ix4 b h r c) - mx s (ix3 b h r)) := by
  pointwise [e]

theorem l_apply (e : FVec Ideal S2x8x256x256 .f32) (b : Fin 2) (h : Fin 8) (r : Fin 256) :
    l e (ix4 b h r 0) = ∑ c : Fin 256, e (ix4 b h r c) := by
  pointwise [l]

theorem p_at (hq : ∀ b r h d, q (ix4 b r h d) = (Q b h r d : EReal)) (hk : ∀ b c h d, k (ix4 b c h d) = (K b h c d : EReal))
    (b : Fin 2) (h : Fin 8) (r : Fin 256) (c : Fin 256) : p (e (s q k)) (ix4 b h r c) = (pr (sc (Q b h r) (K b h)) c : EReal) := by
  obtain ⟨M, hm⟩ := mx_at hq hk b h r
  have he : ∀ c, e (s q k) (ix4 b h r c) = Ideal.exp ((sc (Q b h r) (K b h) c : EReal) - (M : EReal)) := by
    intro c
    rw [e_apply, hm, s_at hq hk]
  have hl : l (e (s q k)) (ix4 b h r 0) = (zm (sc (Q b h r) (K b h)) M : EReal) := by
    rw [l_apply]
    simp only [he]
    rw [sum_exp_host]
  pointwise [p]
  rw [he, hl, pr_host]

theorem o_at (hq : ∀ b r h d, q (ix4 b r h d) = (Q b h r d : EReal)) (hk : ∀ b c h d, k (ix4 b c h d) = (K b h c d : EReal))
    (hv : ∀ b c h d, v (ix4 b c h d) = (V b h c d : EReal)) (b : Fin 2) (r : Fin 256) (h : Fin 8) (d : Fin 64) :
    o v (p (e (s q k))) (ix4 b r h d) = (ob (Q b h r) (K b h) (V b h) d : EReal) := by
  pointwise [o]
  simp only [p_at hq hk, hv]
  rw [ob_host]

theorem t_at (hq : ∀ b r h d, q (ix4 b r h d) = (Q b h r d : EReal)) (hk : ∀ b c h d, k (ix4 b c h d) = (K b h c d : EReal))
    (b : Fin 2) (r : Fin 256) (h : Fin 8) (c : Fin 256) : t q k (ix4 b r h c) = (sc (Q b h r) (K b h) c : EReal) := by
  pointwise [t]
  simp only [hq, hk, mul_comm ((K _ _ _ _ : ℝ) : EReal)]
  rw [eighth, score_host]

/-- An array with a last axis of one entry added, read at an index. -/
theorem keep_at (y : FVec Ideal S2x256x8 .f32) (b : Fin 2) (r : Fin 256) (h : Fin 8) :
    broadcastInDim S2x256x8x1 ![0, 1, 2] bcast_S2x256x8_S2x256x8x1_0_1_2 y (ix4 b r h 0) = y (ix3 b r h) := by
  pointwise

theorem nx_apply (t : FVec Ideal S2x256x8x256 .f32) (b : Fin 2) (r : Fin 256) (h : Fin 8) : nx t (ix4 b r h 0)
    = Finset.univ.fold max (Ideal.ofBits .f32 0xFF800000#32) fun c : Fin 256 => t (ix4 b r h c) := by
  unfold nx
  exact (keep_at _ b r h).trans
    (reduceMax_last t (constant S_ .f32 0xFF800000#32) reducesTo_S2x256x8x256_S2x256x8_d3 h_S_ b r h _ rfl)

theorem less_at (t : FVec Ideal S2x256x8x256 .f32) (y : FVec Ideal S2x256x8x1 .f32) (b : Fin 2) (r : Fin 256) (h : Fin 8) (c : Fin 256) :
    Host.exp (subf t (broadcastInDim S2x256x8x256 ![0, 1, 2, 3] bcast_S2x256x8x1_S2x256x8x256_0_1_2_3 y)) (ix4 b r h c)
      = Ideal.exp (t (ix4 b r h c) - y (ix4 b r h 0)) := by
  pointwise

theorem f_apply (t : FVec Ideal S2x256x8x256 .f32) (b : Fin 2) (r : Fin 256) (h : Fin 8) (c : Fin 256) :
    f t (ix4 b r h c) = Ideal.exp (t (ix4 b r h c) - nx t (ix4 b r h 0)) :=
  less_at t (nx t) b r h c

theorem lf_apply (f : FVec Ideal S2x256x8x256 .f32) (b : Fin 2) (r : Fin 256) (h : Fin 8) :
    lf f (ix4 b r h 0) = ∑ c : Fin 256, f (ix4 b r h c) := by
  pointwise [lf]

theorem base_at (y z : FVec Ideal S2x256x8x1 .f32) (b : Fin 2) (r : Fin 256) (h : Fin 8) :
    Host.divf (shapeCast S2x256x8 (addf y (Host.log z)) shapeCasts_S2x256x8x1_S2x256x8)
      (broadcastInDim S2x256x8 ![] bcast_S_S2x256x8 (Host.log (constant S_ .f32 0x40000000#32))) (ix3 b r h)
      = Ideal.div (y (ix4 b r h 0) + Ideal.log (z (ix4 b r h 0))) (Ideal.log (Ideal.ofBits .f32 0x40000000#32)) := by
  pointwise

theorem w_apply (t : FVec Ideal S2x256x8x256 .f32) (b : Fin 2) (r : Fin 256) (h : Fin 8) :
    w t (ix3 b r h) = Ideal.div (nx t (ix4 b r h 0) + Ideal.log (lf (f t) (ix4 b r h 0)))
      (Ideal.log (Ideal.ofBits .f32 0x40000000#32)) :=
  base_at (nx t) (lf (f t)) b r h

theorem w_at (hq : ∀ b r h d, q (ix4 b r h d) = (Q b h r d : EReal)) (hk : ∀ b c h d, k (ix4 b c h d) = (K b h c d : EReal))
    (b : Fin 2) (r : Fin 256) (h : Fin 8) : w (t q k) (ix3 b r h) = (ls (sc (Q b h r) (K b h)) : EReal) := by
  obtain ⟨M, hM⟩ := fold_max_coe (sc (Q b h r) (K b h))
  have hn : nx (t q k) (ix4 b r h 0) = (M : EReal) := by
    simp only [nx_apply, t_at hq hk]
    rw [bot32, hM]
  have hf : ∀ c, f (t q k) (ix4 b r h c) = Ideal.exp ((sc (Q b h r) (K b h) c : EReal) - (M : EReal)) := by
    intro c
    rw [f_apply, hn, t_at hq hk]
  rw [w_apply, hn, lf_apply]
  simp only [hf]
  rw [sum_exp_host, log2_host, ls_host]

end Cert.GroupedIdeal.SaveCtx

end
-- ==== Proof.GroupedSaved.lean ====
/- The two saved arrays that the grouped call reads, as the host operations before it form them: the attention's output and the
   logarithms of the rows' sums of exponentials, each read at a row and a column. -/
module

public import proofs.«01_k».proof.Proof.Gen.GroupedIdeal.Frame.Runs
public import proofs.«01_k».proof.Proof.Saved
public import proofs.«01_k».proof.Proof.GroupedSaveLat
public import proofs.«01_k».proof.Proof.GroupedSaveCtx
public import Idealize.ShloMosaic.Lib.Claim
public import Idealize.ShloMosaic.Lib.StableHlo.ReadAt

@[expose] public section

set_option maxRecDepth 16384

noncomputable section

namespace Cert.GroupedIdeal.Saved

open Cert.GroupedIdeal Cert.GroupedIdeal.Gen Cert.Soft Idealize.ShloMosaic Idealize.ShloMosaic.TcCoe
open Cert.KernelIdeal (ctxPos)
open Cert.KernelIdeal.Saved (row latPos row_div row_mod row_eq)

/-- Head `j` of group `g`; a head's group; the column of a head's dimension; the lane of a head. -/
def hh (g : Fin 2) (j : Fin 4) : Fin 8 := ⟨4 * g.val + j.val, by omega⟩
def gp (h : Fin 8) : Fin 2 := ⟨h.val / 4, by omega⟩
def col8 (h : Fin 8) (d : Fin 64) : Fin 512 := ⟨64 * h.val + d.val, by omega⟩
def lane8 (h : Fin 8) : Fin 128 := ⟨h.val, by omega⟩

theorem gp_hh (g : Fin 2) (j : Fin 4) : gp (hh g j) = g := Fin.ext (by simp only [gp, hh]; omega)
theorem qcol_hh (g : Fin 2) (j : Fin 4) (d : Fin 64) : qcol g j d = col8 (hh g j) d := Fin.ext (by simp only [qcol, col8, hh]; omega)
theorem hlane_hh (g : Fin 2) (j : Fin 4) : hlane g j = lane8 (hh g j) := rfl

theorem col8_div (h : Fin 8) (d : Fin 64) : (col8 h d).val / 64 = h.val := by simp only [col8]; omega
theorem col8_mod (h : Fin 8) (d : Fin 64) : (col8 h d).val % 64 = d.val := by simp only [col8]; omega
theorem col8_eq (h : Fin 8) (d : Fin 64) (hr : h.val * 64 + d.val < 512) : (⟨h.val * 64 + d.val, hr⟩ : Fin 512) = col8 h d :=
  Fin.ext (by simp only [col8]; omega)
theorem kcol_eq (g : Fin 2) (d : Fin 64) (hr : g.val * 64 + d.val < 128) : (⟨g.val * 64 + d.val, hr⟩ : Fin 128) = kcol g d :=
  Fin.ext (by simp only [kcol]; omega)

/-- The queries by batch, position, head and dimension; the keys or values likewise, each group's repeated for its heads. -/
def q4 (q : FVec Ideal S8704x512 .f32) : FVec Ideal S2x4352x8x64 .f32 := shapeCast _ q shapeCasts_S8704x512_S2x4352x8x64
def k4 (k : FVec Ideal S8704x128 .bf16) : FVec Ideal S2x4352x8x64 .f32 :=
  shapeCast _ (broadcastInDim S2x4352x2x4x64 ![0, 1, 2, 4] bcast_S2x4352x2x64_S2x4352x2x4x64_0_1_2_4
    (shapeCast S2x4352x2x64 (extf .f32 k bitsLt_bf16_f32) shapeCasts_S8704x128_S2x4352x2x64)) shapeCasts_S2x4352x2x4x64_S2x4352x8x64

/-- Their latent and context rows. -/
def lat (q : FVec Ideal S2x4352x8x64 .f32) : FVec Ideal S2x4096x8x64 .f32 :=
  extractStridedSlice S2x4096x8x64 ![0, 256, 0, 0] q slices_S2x4352x8x64_S2x4096x8x64_0_256_0_0
def ctx (q : FVec Ideal S2x4352x8x64 .f32) : FVec Ideal S2x256x8x64 .f32 :=
  extractStridedSlice S2x256x8x64 ![0, 0, 0, 0] q slices_S2x4352x8x64_S2x256x8x64_0_0_0_0

/-- The context rows' array, then the latent rows', as one array of rows. -/
def joinO (a : FVec Ideal S2x256x8x64 .f32) (b : FVec Ideal S2x4096x8x64 .f32) : FVec Ideal S8704x512 .bf16 :=
  truncf .bf16 (shapeCast _ (concatenate S2x4352x8x64 1 [⟨S2x256x8x64, a⟩, ⟨S2x4096x8x64, b⟩]
    concatenates_S2x256x8x64_S2x4096x8x64_S2x4352x8x64_d1) shapeCasts_S2x4352x8x64_S8704x512) bitsLt_bf16_f32
def joinL (a : FVec Ideal S2x256x8 .f32) (b : FVec Ideal S2x4096x8 .f32) : FVec Ideal S8704x128 .f32 :=
  pad S8704x128 ![0, 0] ![0, 120] ![0, 0] (shapeCast S8704x8 (concatenate S2x4352x8 1 [⟨S2x256x8, a⟩, ⟨S2x4096x8, b⟩]
    concatenates_S2x256x8_S2x4096x8_S2x4352x8_d1) shapeCasts_S2x4352x8_S8704x8) (sitofp .f32 (constantI S_ 32 0#32))
    pads_S8704x8_S8704x128_000_01200 h_S_

variable (m : (ℓ : Loc nD τ sig) → Buf (Elt Ideal) ℓ) (c : Dev nD)

theorem V_o : V m c main_v47 = joinO
    (SaveCtx.o (ctx (k4 (m ((c : Thread nD τ).loc main_arg2))))
      (SaveCtx.p (SaveCtx.e (SaveCtx.s (ctx (q4 (m ((c : Thread nD τ).loc main_arg0)))) (ctx (k4 (m ((c : Thread nD τ).loc main_arg1))))))))
    (SaveLat.o (k4 (m ((c : Thread nD τ).loc main_arg2)))
      (SaveLat.p (SaveLat.e (SaveLat.s (lat (q4 (m ((c : Thread nD τ).loc main_arg0)))) (k4 (m ((c : Thread nD τ).loc main_arg1))))))) := by
  unfold V
  after_reads_simp
  all_goals try simp -implicitDefEqProofs only [StableHlo.TRef.toBuf, StableHlo.TRef.ofBuf, cast_cast, cast_eq]
  change joinO (StableHlo.upto (List.flatten [hostOps0, hostOps0_1]) (fun b => m (c, b)) 53 (Proc.tc.devRef main_v44))
    (StableHlo.upto (List.flatten [hostOps0, hostOps0_1]) (fun b => m (c, b)) 53 (Proc.tc.devRef main_v25)) = _
  refine congrArg₂ joinO ?_ ?_
  · after_reads_simp
    rfl
  · after_reads_simp
    rfl

theorem V_l : V m c main_v96 = joinL
    (SaveCtx.w (SaveCtx.t (ctx (q4 (m ((c : Thread nD τ).loc main_arg0)))) (ctx (k4 (m ((c : Thread nD τ).loc main_arg1))))))
    (SaveLat.w (SaveLat.t (lat (q4 (m ((c : Thread nD τ).loc main_arg0)))) (k4 (m ((c : Thread nD τ).loc main_arg1))))) := by
  unfold V
  after_reads_simp
  all_goals try simp -implicitDefEqProofs only [StableHlo.TRef.toBuf, StableHlo.TRef.ofBuf, cast_cast, cast_eq]
  change joinL (StableHlo.upto (List.flatten [hostOps0, hostOps0_1]) (fun b => m (c, b)) 110 (Proc.tc.devRef main_v75))
    (StableHlo.upto (List.flatten [hostOps0, hostOps0_1]) (fun b => m (c, b)) 110 (Proc.tc.devRef main_v93)) = _
  refine congrArg₂ joinL ?_ ?_
  · after_reads_simp
    rfl
  · after_reads_simp
    rfl

theorem q4_at (q : FVec Ideal S8704x512 .f32) (b : Fin 2) (s : Fin 4352) (h : Fin 8) (d : Fin 64) :
    q4 q (ix4 b s h d) = q (ix2 (row b s) (col8 h d)) := by
  pointwise [q4]
  rw [row_eq, col8_eq]

theorem k4_at (k : FVec Ideal S8704x128 .bf16) (b : Fin 2) (s : Fin 4352) (h : Fin 8) (d : Fin 64) :
    k4 k (ix4 b s h d) = k (ix2 (row b s) (kcol (gp h) d)) := by
  pointwise [k4]
  rw [row_eq]
  exact congrArg (fun c => k (ix2 (row b s) c)) (Fin.ext (by simp only [kcol, gp]; omega))

theorem lat_at (q : FVec Ideal S2x4352x8x64 .f32) (b : Fin 2) (r : Fin 4096) (h : Fin 8) (d : Fin 64) :
    lat q (ix4 b r h d) = q (ix4 b (latPos r) h d) := by
  pointwise [lat]
  rfl

theorem ctx_at (q : FVec Ideal S2x4352x8x64 .f32) (b : Fin 2) (r : Fin 256) (h : Fin 8) (d : Fin 64) :
    ctx q (ix4 b r h d) = q (ix4 b (ctxPos r) h d) := by
  pointwise [ctx]
  rfl

theorem joinO_at (x : FVec Ideal S2x256x8x64 .f32) (y : FVec Ideal S2x4096x8x64 .f32) (b : Fin 2) (s : Fin 4352) (h : Fin 8) (d : Fin 64) :
    joinO x y (ix2 (row b s) (col8 h d)) = if hs : s.val < 256 then x (ix4 b ⟨s.val, hs⟩ h d) else y (ix4 b ⟨s.val - 256, by omega⟩ h d) := by
  pointwise [joinO]
  simp only [row_div, row_mod, col8_div, col8_mod, Fin.eta]

theorem joinL_at (x : FVec Ideal S2x256x8 .f32) (y : FVec Ideal S2x4096x8 .f32) (b : Fin 2) (s : Fin 4352) (h : Fin 8) :
    joinL x y (ix2 (row b s) (lane8 h)) = if hs : s.val < 256 then x (ix3 b ⟨s.val, hs⟩ h) else y (ix3 b ⟨s.val - 256, by omega⟩ h) := by
  pointwise [joinL]
  rw [dif_pos (show (lane8 h).val < 8 from h.isLt)]
  simp only [row_div, row_mod, lane8, Fin.eta]

variable {Q : Fin 2 → Fin 8 → Fin 4352 → Fin 64 → ℝ} {K X : Fin 2 → Fin 2 → Fin 4352 → Fin 64 → ℝ}
  {q : FVec Ideal S8704x512 .f32} {k v : FVec Ideal S8704x128 .bf16}

/-- The saved output of a context row and of a latent row. -/
theorem o_ctx (hq : ∀ b h s d, q (ix2 (row b s) (col8 h d)) = (Q b h s d : EReal))
    (hk : ∀ b g s d, k (ix2 (row b s) (kcol g d)) = (K b g s d : EReal))
    (hv : ∀ b g s d, v (ix2 (row b s) (kcol g d)) = (X b g s d : EReal)) (b : Fin 2) (h : Fin 8) (r : Fin 256) (d : Fin 64)
    (y : FVec Ideal S2x4096x8x64 .f32) :
    joinO (SaveCtx.o (ctx (k4 v)) (SaveCtx.p (SaveCtx.e (SaveCtx.s (ctx (q4 q)) (ctx (k4 k)))))) y (ix2 (row b (ctxPos r)) (col8 h d))
      = (ob (Q b h (ctxPos r)) (fun c => K b (gp h) (ctxPos c)) (fun c => X b (gp h) (ctxPos c)) d : EReal) := by
  rw [joinO_at, dif_pos (show (ctxPos r).val < 256 from r.isLt)]
  exact SaveCtx.o_at (Q := fun b h r => Q b h (ctxPos r)) (K := fun b h r => K b (gp h) (ctxPos r)) (V := fun b h r => X b (gp h) (ctxPos r))
    (fun b r h d => by rw [ctx_at, q4_at, hq]) (fun b r h d => by rw [ctx_at, k4_at, hk]) (fun b r h d => by rw [ctx_at, k4_at, hv]) b r h d

theorem o_lat (hq : ∀ b h s d, q (ix2 (row b s) (col8 h d)) = (Q b h s d : EReal))
    (hk : ∀ b g s d, k (ix2 (row b s) (kcol g d)) = (K b g s d : EReal))
    (hv : ∀ b g s d, v (ix2 (row b s) (kcol g d)) = (X b g s d : EReal)) (b : Fin 2) (h : Fin 8) (r : Fin 4096) (d : Fin 64)
    (y : FVec Ideal S2x256x8x64 .f32) :
    joinO y (SaveLat.o (k4 v) (SaveLat.p (SaveLat.e (SaveLat.s (lat (q4 q)) (k4 k))))) (ix2 (row b (latPos r)) (col8 h d))
      = (ob (Q b h (latPos r)) (K b (gp h)) (X b (gp h)) d : EReal) := by
  rw [joinO_at, dif_neg (show ¬ (latPos r).val < 256 by simp only [latPos]; omega)]
  rw [show (⟨(latPos r).val - 256, by omega⟩ : Fin 4096) = r from Fin.ext (by simp only [latPos]; omega)]
  exact SaveLat.o_at (Q := fun b h r => Q b h (latPos r)) (K := fun b h => K b (gp h)) (V := fun b h => X b (gp h))
    (fun b r h d => by rw [lat_at, q4_at, hq]) (fun b r h d => by rw [k4_at, hk]) (fun b r h d => by rw [k4_at, hv]) b r h d

/-- The saved logarithm of a context row and of a latent row. -/
theorem l_ctx (hq : ∀ b h s d, q (ix2 (row b s) (col8 h d)) = (Q b h s d : EReal))
    (hk : ∀ b g s d, k (ix2 (row b s) (kcol g d)) = (K b g s d : EReal)) (b : Fin 2) (h : Fin 8) (r : Fin 256)
    (y : FVec Ideal S2x4096x8 .f32) :
    joinL (SaveCtx.w (SaveCtx.t (ctx (q4 q)) (ctx (k4 k)))) y (ix2 (row b (ctxPos r)) (lane8 h))
      = (ls (sc (Q b h (ctxPos r)) (fun c => K b (gp h) (ctxPos c))) : EReal) := by
  rw [joinL_at, dif_pos (show (ctxPos r).val < 256 from r.isLt)]
  exact SaveCtx.w_at (Q := fun b h r => Q b h (ctxPos r)) (K := fun b h r => K b (gp h) (ctxPos r))
    (fun b r h d => by rw [ctx_at, q4_at, hq]) (fun b r h d => by rw [ctx_at, k4_at, hk]) b r h

theorem l_lat (hq : ∀ b h s d, q (ix2 (row b s) (col8 h d)) = (Q b h s d : EReal))
    (hk : ∀ b g s d, k (ix2 (row b s) (kcol g d)) = (K b g s d : EReal)) (b : Fin 2) (h : Fin 8) (r : Fin 4096)
    (y : FVec Ideal S2x256x8 .f32) :
    joinL y (SaveLat.w (SaveLat.t (lat (q4 q)) (k4 k))) (ix2 (row b (latPos r)) (lane8 h))
      = (ls (sc (Q b h (latPos r)) (K b (gp h))) : EReal) := by
  rw [joinL_at, dif_neg (show ¬ (latPos r).val < 256 by simp only [latPos]; omega)]
  rw [show (⟨(latPos r).val - 256, by omega⟩ : Fin 4096) = r from Fin.ext (by simp only [latPos]; omega)]
  exact SaveLat.w_at (Q := fun b h r => Q b h (latPos r)) (K := fun b h => K b (gp h))
    (fun b r h d => by rw [lat_at, q4_at, hq]) (fun b r h d => by rw [k4_at, hk]) b r h

end Cert.GroupedIdeal.Saved

end
-- ==== Proof.Blocks.lean ====
/- The blocks of the call's inputs at each grid point, read at an index of the arrays before the call. -/
module

public import proofs.«01_k».proof.Proof.Gen.KernelIdeal.Frame
public import proofs.«01_k».proof.Proof.Saved
public import Idealize.ShloMosaic.Lib.Pipeline.ValueKit.Point

@[expose] public section

set_option maxRecDepth 16384

noncomputable section

namespace Cert.KernelIdeal.Blocks

open Cert.KernelIdeal Cert.KernelIdeal.Gen Cert.KernelIdeal.Saved Idealize.ShloMosaic Idealize.ShloMosaic.TcCoe

/-- Position `r` of tile `i`. -/
def tilePos (i : Fin 17) (r : Fin 256) : Fin 4352 := ⟨256 * i.val + r.val, by omega⟩

/-- The grid point of batch `b` and tile `i`. -/
def pt (b : Fin 2) (i : Fin 17) : Fin cfg0.N := ⟨17 * b.val + i.val, by rw [show cfg0.N = 34 from N_0]; omega⟩

theorem idx0 : ∀ t : Fin cfg0.N, win0_0.index t = ![t.val, 0] := (by decide +kernel : ∀ t : Fin grid0.N, _)
theorem idx1 : ∀ t : Fin cfg0.N, win0_1.index t = ![t.val / 17, 0] := (by decide +kernel : ∀ t : Fin grid0.N, _)
theorem idx2 : ∀ t : Fin cfg0.N, win0_2.index t = ![t.val / 17, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val / 17, 0] := (by decide +kernel : ∀ t : Fin grid0.N, _)
theorem idx8 : ∀ t : Fin cfg0.N, win0_8.index t = ![t.val / 17, 0] := (by decide +kernel : ∀ t : Fin grid0.N, _)

variable (m : (ℓ : Loc nD τ sig) → Buf (Elt Ideal) ℓ) (c : Dev nD)

theorem emb0 (b : Fin 2) (i : Fin 17) (r : Fin 256) (j : Fin 512) :
    ((cfg0.win 0).blk (pt b i)).view.emb (ix2 r j) = ix2 (row b (tilePos i r)) j := by
  funext x
  apply Fin.ext
  match x with
  | ⟨0, _⟩ =>
    refine (show _ = win0_0.index (pt b i) (0 : Fin 2) * 256 + 1 * r.val from rfl).trans ?_
    rw [idx0]
    simp only [pt, row, tilePos, ix2, Matrix.cons_val_zero]
    omega
  | ⟨1, _⟩ =>
    refine (show _ = win0_0.index (pt b i) (1 : Fin 2) * 512 + 1 * j.val from rfl).trans ?_
    rw [idx0]
    exact (Nat.zero_add _).trans (Nat.one_mul _)

theorem blk0 (b : Fin 2) (i : Fin 17) (r : Fin 256) (j : Fin 512) :
    iblk m c 0 (pt b i) (ix2 r j) = m ((c : Thread nD τ).loc main_arg0) (ix2 (row b (tilePos i r)) j) :=
  (congrArg (V m c main_arg0) (emb0 b i r j)).trans (congrFun (V_main_arg0 m c) _)

theorem emb1 (b : Fin 2) (i : Fin 17) (r : Fin 4352) (j : Fin 512) :
    ((cfg0.win 1).blk (pt b i)).view.emb (ix2 r j) = ix2 (row b r) j := by
  funext x
  apply Fin.ext
  match x with
  | ⟨0, _⟩ =>
    refine (show _ = win0_1.index (pt b i) (0 : Fin 2) * 4352 + 1 * r.val from rfl).trans ?_
    rw [idx1]
    simp only [pt, row, ix2, Matrix.cons_val_zero]
    omega
  | ⟨1, _⟩ =>
    refine (show _ = win0_1.index (pt b i) (1 : Fin 2) * 512 + 1 * j.val from rfl).trans ?_
    rw [idx1]
    exact (Nat.zero_add _).trans (Nat.one_mul _)

theorem blk1 (b : Fin 2) (i : Fin 17) (r : Fin 4352) (j : Fin 512) :
    iblk m c 1 (pt b i) (ix2 r j) = m ((c : Thread nD τ).loc main_arg1) (ix2 (row b r) j) :=
  (congrArg (V m c main_arg1) (emb1 b i r j)).trans (congrFun (V_main_arg1 m c) _)

theorem emb2 (b : Fin 2) (i : Fin 17) (r : Fin 4352) (j : Fin 256) :
    ((cfg0.win 2).blk (pt b i)).view.emb (ix2 r j) = ix2 (row b r) j := by
  funext x
  apply Fin.ext
  match x with
  | ⟨0, _⟩ =>
    refine (show _ = win0_2.index (pt b i) (0 : Fin 2) * 4352 + 1 * r.val from rfl).trans ?_
    rw [idx2]
    simp only [pt, row, ix2, Matrix.cons_val_zero]
    omega
  | ⟨1, _⟩ =>
    refine (show _ = win0_2.index (pt b i) (1 : Fin 2) * 256 + 1 * j.val from rfl).trans ?_
    rw [idx2]
    exact (Nat.zero_add _).trans (Nat.one_mul _)

theorem blk2 (b : Fin 2) (i : Fin 17) (r : Fin 4352) (j : Fin 256) :
    iblk m c 2 (pt b i) (ix2 r j) = m ((c : Thread nD τ).loc main_arg2) (ix2 (row b r) j) :=
  (congrArg (V m c main_arg2) (emb2 b i r j)).trans (congrFun (V_main_arg2 m c) _)

theorem emb3 (b : Fin 2) (i : Fin 17) (r : Fin 256) (j : Fin 256) :
    ((cfg0.win 3).blk (pt b i)).view.emb (ix2 r j) = ix2 (row b (tilePos i r)) j := by
  funext x
  apply Fin.ext
  match x with
  | ⟨0, _⟩ =>
    refine (show _ = win0_3.index (pt b i) (0 : Fin 2) * 256 + 1 * r.val from rfl).trans ?_
    rw [idx3]
    simp only [pt, row, tilePos, ix2, Matrix.cons_val_zero]
    omega
  | ⟨1, _⟩ =>
    refine (show _ = win0_3.index (pt b i) (1 : Fin 2) * 256 + 1 * j.val from rfl).trans ?_
    rw [idx3]
    exact (Nat.zero_add _).trans (Nat.one_mul _)

theorem blk3 (b : Fin 2) (i : Fin 17) (r : Fin 256) (j : Fin 256) :
    iblk m c 3 (pt b i) (ix2 r j) = V m c main_v45 (ix2 (row b (tilePos i r)) j) :=
  (congrArg (V m c main_v45) (emb3 b i r j)).trans (congrFun rfl _)

theorem emb4 (b : Fin 2) (i : Fin 17) (r : Fin 256) (j : Fin 128) :
    ((cfg0.win 4).blk (pt b i)).view.emb (ix2 r j) = ix2 (row b (tilePos i r)) j := by
  funext x
  apply Fin.ext
  match x with
  | ⟨0, _⟩ =>
    refine (show _ = win0_4.index (pt b i) (0 : Fin 2) * 256 + 1 * r.val from rfl).trans ?_
    rw [idx4]
    simp only [pt, row, tilePos, ix2, Matrix.cons_val_zero]
    omega
  | ⟨1, _⟩ =>
    refine (show _ = win0_4.index (pt b i) (1 : Fin 2) * 128 + 1 * j.val from rfl).trans ?_
    rw [idx4]
    exact (Nat.zero_add _).trans (Nat.one_mul _)

theorem blk4 (b : Fin 2) (i : Fin 17) (r : Fin 256) (j : Fin 128) :
    iblk m c 4 (pt b i) (ix2 r j) = V m c main_v90 (ix2 (row b (tilePos i r)) j) :=
  (congrArg (V m c main_v90) (emb4 b i r j)).trans (congrFun rfl _)

theorem emb5 (b : Fin 2) (i : Fin 17) (r : Fin 256) (j : Fin 256) :
    ((cfg0.win 5).blk (pt b i)).view.emb (ix2 r j) = ix2 (row b (tilePos i r)) j := by
  funext x
  apply Fin.ext
  match x with
  | ⟨0, _⟩ =>
    refine (show _ = win0_5.index (pt b i) (0 : Fin 2) * 256 + 1 * r.val from rfl).trans ?_
    rw [idx5]
    simp only [pt, row, tilePos, ix2, Matrix.cons_val_zero]
    omega
  | ⟨1, _⟩ =>
    refine (show _ = win0_5.index (pt b i) (1 : Fin 2) * 256 + 1 * j.val from rfl).trans ?_
    rw [idx5]
    exact (Nat.zero_add _).trans (Nat.one_mul _)

theorem blk5 (b : Fin 2) (i : Fin 17) (r : Fin 256) (j : Fin 256) :
    iblk m c 5 (pt b i) (ix2 r j) = m ((c : Thread nD τ).loc main_arg3) (ix2 (row b (tilePos i r)) j) :=
  (congrArg (V m c main_arg3) (emb5 b i r j)).trans (congrFun (V_main_arg3 m c) _)

theorem emb6 (b : Fin 2) (i : Fin 17) (r : Fin 256) (j : Fin 512) :
    ((cfg0.win 6).blk (pt b i)).view.emb (ix2 r j) = ix2 (row b (tilePos i r)) j := by
  funext x
  apply Fin.ext
  match x with
  | ⟨0, _⟩ =>
    refine (show _ = win0_6.index (pt b i) (0 : Fin 2) * 256 + 1 * r.val from rfl).trans ?_
    rw [idx6]
    simp only [pt, row, tilePos, ix2, Matrix.cons_val_zero]
    omega
  | ⟨1, _⟩ =>
    refine (show _ = win0_6.index (pt b i) (1 : Fin 2) * 512 + 1 * j.val from rfl).trans ?_
    rw [idx6]
    exact (Nat.zero_add _).trans (Nat.one_mul _)

theorem emb7 (b : Fin 2) (i : Fin 17) (r : Fin 4352) (j : Fin 512) :
    ((cfg0.win 7).blk (pt b i)).view.emb (ix2 r j) = ix2 (row b r) j := by
  funext x
  apply Fin.ext
  match x with
  | ⟨0, _⟩ =>
    refine (show _ = win0_7.index (pt b i) (0 : Fin 2) * 4352 + 1 * r.val from rfl).trans ?_
    rw [idx7]
    simp only [pt, row, ix2, Matrix.cons_val_zero]
    omega
  | ⟨1, _⟩ =>
    refine (show _ = win0_7.index (pt b i) (1 : Fin 2) * 512 + 1 * j.val from rfl).trans ?_
    rw [idx7]
    exact (Nat.zero_add _).trans (Nat.one_mul _)

theorem emb8 (b : Fin 2) (i : Fin 17) (r : Fin 4352) (j : Fin 256) :
    ((cfg0.win 8).blk (pt b i)).view.emb (ix2 r j) = ix2 (row b r) j := by
  funext x
  apply Fin.ext
  match x with
  | ⟨0, _⟩ =>
    refine (show _ = win0_8.index (pt b i) (0 : Fin 2) * 4352 + 1 * r.val from rfl).trans ?_
    rw [idx8]
    simp only [pt, row, ix2, Matrix.cons_val_zero]
    omega
  | ⟨1, _⟩ =>
    refine (show _ = win0_8.index (pt b i) (1 : Fin 2) * 256 + 1 * j.val from rfl).trans ?_
    rw [idx8]
    exact (Nat.zero_add _).trans (Nat.one_mul _)

end Cert.KernelIdeal.Blocks

end
-- ==== Proof.GroupedBlocks.lean ====
/- The blocks of the grouped call's inputs at each grid point, read at an index of the arrays before the call. -/
module

public import proofs.«01_k».proof.Proof.Gen.GroupedIdeal.Frame
public import proofs.«01_k».proof.Proof.GroupedSaved
public import proofs.«01_k».proof.Proof.Blocks
public import Idealize.ShloMosaic.Lib.Pipeline.ValueKit.Point

@[expose] public section

set_option maxRecDepth 16384

noncomputable section

namespace Cert.GroupedIdeal.Blocks

open Cert.GroupedIdeal Cert.GroupedIdeal.Gen Cert.GroupedIdeal.Saved Idealize.ShloMosaic Idealize.ShloMosaic.TcCoe
open Cert.KernelIdeal.Saved (row)
open Cert.KernelIdeal.Blocks (tilePos)

/-- The grid point of batch `b` and tile `i`. -/
def pt (b : Fin 2) (i : Fin 17) : Fin cfg0.N := ⟨17 * b.val + i.val, by rw [show cfg0.N = 34 from N_0]; omega⟩

theorem idx0 : ∀ t : Fin cfg0.N, win0_0.index t = ![t.val, 0] := (by decide +kernel : ∀ t : Fin grid0.N, _)
theorem idx1 : ∀ t : Fin cfg0.N, win0_1.index t = ![t.val / 17, 0] := (by decide +kernel : ∀ t : Fin grid0.N, _)
theorem idx2 : ∀ t : Fin cfg0.N, win0_2.index t = ![t.val / 17, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val / 17, 0] := (by decide +kernel : ∀ t : Fin grid0.N, _)
theorem idx8 : ∀ t : Fin cfg0.N, win0_8.index t = ![t.val / 17, 0] := (by decide +kernel : ∀ t : Fin grid0.N, _)

variable (m : (ℓ : Loc nD τ sig) → Buf (Elt Ideal) ℓ) (c : Dev nD)

theorem emb0 (b : Fin 2) (i : Fin 17) (r : Fin 256) (j : Fin 512) :
    ((cfg0.win 0).blk (pt b i)).view.emb (ix2 r j) = ix2 (row b (tilePos i r)) j := by
  funext x
  apply Fin.ext
  match x with
  | ⟨0, _⟩ =>
    refine (show _ = win0_0.index (pt b i) (0 : Fin 2) * 256 + 1 * r.val from rfl).trans ?_
    rw [idx0]
    simp only [pt, row, tilePos, ix2, Matrix.cons_val_zero]
    omega
  | ⟨1, _⟩ =>
    refine (show _ = win0_0.index (pt b i) (1 : Fin 2) * 512 + 1 * j.val from rfl).trans ?_
    rw [idx0]
    exact (Nat.zero_add _).trans (Nat.one_mul _)

theorem blk0 (b : Fin 2) (i : Fin 17) (r : Fin 256) (j : Fin 512) :
    iblk m c 0 (pt b i) (ix2 r j) = m ((c : Thread nD τ).loc main_arg0) (ix2 (row b (tilePos i r)) j) :=
  (congrArg (V m c main_arg0) (emb0 b i r j)).trans (congrFun (V_main_arg0 m c) _)

theorem emb1 (b : Fin 2) (i : Fin 17) (r : Fin 4352) (j : Fin 128) :
    ((cfg0.win 1).blk (pt b i)).view.emb (ix2 r j) = ix2 (row b r) j := by
  funext x
  apply Fin.ext
  match x with
  | ⟨0, _⟩ =>
    refine (show _ = win0_1.index (pt b i) (0 : Fin 2) * 4352 + 1 * r.val from rfl).trans ?_
    rw [idx1]
    simp only [pt, row, ix2, Matrix.cons_val_zero]
    omega
  | ⟨1, _⟩ =>
    refine (show _ = win0_1.index (pt b i) (1 : Fin 2) * 128 + 1 * j.val from rfl).trans ?_
    rw [idx1]
    exact (Nat.zero_add _).trans (Nat.one_mul _)

theorem blk1 (b : Fin 2) (i : Fin 17) (r : Fin 4352) (j : Fin 128) :
    iblk m c 1 (pt b i) (ix2 r j) = m ((c : Thread nD τ).loc main_arg1) (ix2 (row b r) j) :=
  (congrArg (V m c main_arg1) (emb1 b i r j)).trans (congrFun (V_main_arg1 m c) _)

theorem emb2 (b : Fin 2) (i : Fin 17) (r : Fin 4352) (j : Fin 128) :
    ((cfg0.win 2).blk (pt b i)).view.emb (ix2 r j) = ix2 (row b r) j := by
  funext x
  apply Fin.ext
  match x with
  | ⟨0, _⟩ =>
    refine (show _ = win0_2.index (pt b i) (0 : Fin 2) * 4352 + 1 * r.val from rfl).trans ?_
    rw [idx2]
    simp only [pt, row, ix2, Matrix.cons_val_zero]
    omega
  | ⟨1, _⟩ =>
    refine (show _ = win0_2.index (pt b i) (1 : Fin 2) * 128 + 1 * j.val from rfl).trans ?_
    rw [idx2]
    exact (Nat.zero_add _).trans (Nat.one_mul _)

theorem blk2 (b : Fin 2) (i : Fin 17) (r : Fin 4352) (j : Fin 128) :
    iblk m c 2 (pt b i) (ix2 r j) = m ((c : Thread nD τ).loc main_arg2) (ix2 (row b r) j) :=
  (congrArg (V m c main_arg2) (emb2 b i r j)).trans (congrFun (V_main_arg2 m c) _)

theorem emb3 (b : Fin 2) (i : Fin 17) (r : Fin 256) (j : Fin 512) :
    ((cfg0.win 3).blk (pt b i)).view.emb (ix2 r j) = ix2 (row b (tilePos i r)) j := by
  funext x
  apply Fin.ext
  match x with
  | ⟨0, _⟩ =>
    refine (show _ = win0_3.index (pt b i) (0 : Fin 2) * 256 + 1 * r.val from rfl).trans ?_
    rw [idx3]
    simp only [pt, row, tilePos, ix2, Matrix.cons_val_zero]
    omega
  | ⟨1, _⟩ =>
    refine (show _ = win0_3.index (pt b i) (1 : Fin 2) * 512 + 1 * j.val from rfl).trans ?_
    rw [idx3]
    exact (Nat.zero_add _).trans (Nat.one_mul _)

theorem blk3 (b : Fin 2) (i : Fin 17) (r : Fin 256) (j : Fin 512) :
    iblk m c 3 (pt b i) (ix2 r j) = V m c main_v47 (ix2 (row b (tilePos i r)) j) :=
  (congrArg (V m c main_v47) (emb3 b i r j)).trans (congrFun rfl _)

theorem emb4 (b : Fin 2) (i : Fin 17) (r : Fin 256) (j : Fin 128) :
    ((cfg0.win 4).blk (pt b i)).view.emb (ix2 r j) = ix2 (row b (tilePos i r)) j := by
  funext x
  apply Fin.ext
  match x with
  | ⟨0, _⟩ =>
    refine (show _ = win0_4.index (pt b i) (0 : Fin 2) * 256 + 1 * r.val from rfl).trans ?_
    rw [idx4]
    simp only [pt, row, tilePos, ix2, Matrix.cons_val_zero]
    omega
  | ⟨1, _⟩ =>
    refine (show _ = win0_4.index (pt b i) (1 : Fin 2) * 128 + 1 * j.val from rfl).trans ?_
    rw [idx4]
    exact (Nat.zero_add _).trans (Nat.one_mul _)

theorem blk4 (b : Fin 2) (i : Fin 17) (r : Fin 256) (j : Fin 128) :
    iblk m c 4 (pt b i) (ix2 r j) = V m c main_v96 (ix2 (row b (tilePos i r)) j) :=
  (congrArg (V m c main_v96) (emb4 b i r j)).trans (congrFun rfl _)

theorem emb5 (b : Fin 2) (i : Fin 17) (r : Fin 256) (j : Fin 512) :
    ((cfg0.win 5).blk (pt b i)).view.emb (ix2 r j) = ix2 (row b (tilePos i r)) j := by
  funext x
  apply Fin.ext
  match x with
  | ⟨0, _⟩ =>
    refine (show _ = win0_5.index (pt b i) (0 : Fin 2) * 256 + 1 * r.val from rfl).trans ?_
    rw [idx5]
    simp only [pt, row, tilePos, ix2, Matrix.cons_val_zero]
    omega
  | ⟨1, _⟩ =>
    refine (show _ = win0_5.index (pt b i) (1 : Fin 2) * 512 + 1 * j.val from rfl).trans ?_
    rw [idx5]
    exact (Nat.zero_add _).trans (Nat.one_mul _)

theorem blk5 (b : Fin 2) (i : Fin 17) (r : Fin 256) (j : Fin 512) :
    iblk m c 5 (pt b i) (ix2 r j) = m ((c : Thread nD τ).loc main_arg3) (ix2 (row b (tilePos i r)) j) :=
  (congrArg (V m c main_arg3) (emb5 b i r j)).trans (congrFun (V_main_arg3 m c) _)

theorem emb6 (b : Fin 2) (i : Fin 17) (r : Fin 256) (j : Fin 512) :
    ((cfg0.win 6).blk (pt b i)).view.emb (ix2 r j) = ix2 (row b (tilePos i r)) j := by
  funext x
  apply Fin.ext
  match x with
  | ⟨0, _⟩ =>
    refine (show _ = win0_6.index (pt b i) (0 : Fin 2) * 256 + 1 * r.val from rfl).trans ?_
    rw [idx6]
    simp only [pt, row, tilePos, ix2, Matrix.cons_val_zero]
    omega
  | ⟨1, _⟩ =>
    refine (show _ = win0_6.index (pt b i) (1 : Fin 2) * 512 + 1 * j.val from rfl).trans ?_
    rw [idx6]
    exact (Nat.zero_add _).trans (Nat.one_mul _)

theorem emb7 (b : Fin 2) (i : Fin 17) (r : Fin 4352) (j : Fin 128) :
    ((cfg0.win 7).blk (pt b i)).view.emb (ix2 r j) = ix2 (row b r) j := by
  funext x
  apply Fin.ext
  match x with
  | ⟨0, _⟩ =>
    refine (show _ = win0_7.index (pt b i) (0 : Fin 2) * 4352 + 1 * r.val from rfl).trans ?_
    rw [idx7]
    simp only [pt, row, ix2, Matrix.cons_val_zero]
    omega
  | ⟨1, _⟩ =>
    refine (show _ = win0_7.index (pt b i) (1 : Fin 2) * 128 + 1 * j.val from rfl).trans ?_
    rw [idx7]
    exact (Nat.zero_add _).trans (Nat.one_mul _)

theorem emb8 (b : Fin 2) (i : Fin 17) (r : Fin 4352) (j : Fin 128) :
    ((cfg0.win 8).blk (pt b i)).view.emb (ix2 r j) = ix2 (row b r) j := by
  funext x
  apply Fin.ext
  match x with
  | ⟨0, _⟩ =>
    refine (show _ = win0_8.index (pt b i) (0 : Fin 2) * 4352 + 1 * r.val from rfl).trans ?_
    rw [idx8]
    simp only [pt, row, ix2, Matrix.cons_val_zero]
    omega
  | ⟨1, _⟩ =>
    refine (show _ = win0_8.index (pt b i) (1 : Fin 2) * 128 + 1 * j.val from rfl).trans ?_
    rw [idx8]
    exact (Nat.zero_add _).trans (Nat.one_mul _)

end Cert.GroupedIdeal.Blocks

end
-- ==== Proof.GroupedTile.lean ====
/- The pieces a latent tile of the grouped kernel stores: five chunks of keys for each of two groups in an accumulator, eight heads in
   the queries' block; and the chunk lemmas over a tile's own blocks. -/
module

public import proofs.«01_k».proof.Proof.GroupedStack

@[expose] public section

noncomputable section

namespace Cert.GroupedIdeal

open Cert.GroupedIdeal.Gen Idealize.ShloMosaic Idealize.ShloMosaic.TcCoe Cert.Soft
open Cert.KernelIdeal (ld_at canon_hit unit_idx)

/-- Key `c` of chunk `n`, of 1024 keys; key `c` of the last chunk, of 256. -/
def cp (n : Fin 4) (c : Fin 1024) : Fin 4352 := ⟨1024 * n.val + c.val, by omega⟩
def cl (c : Fin 256) : Fin 4352 := ⟨4096 + c.val, by omega⟩

theorem cp_val (n : Fin 4) (c : Fin 1024) : (cp n c).val = 1024 * n.val + c.val := rfl
theorem cl_val (c : Fin 256) : (cl c).val = 4096 + c.val := rfl

/-- A sum over the keys, chunk by chunk. -/
theorem sum_chunks (f : Fin 4352 → ℝ) :
    ∑ c, f c = ((((0 + ∑ c, f (cp 0 c)) + ∑ c, f (cp 1 c)) + ∑ c, f (cp 2 c)) + ∑ c, f (cp 3 c)) + ∑ c, f (cl c) := by
  have h : ∑ c, f c = (∑ c : Fin 4096, f (Fin.castLE (by omega) c)) + ∑ c : Fin 256, f (cl c) :=
    Fin.sum_univ_add (a := 4096) (b := 256) f
  rw [h, Fin.sum_univ_tiles 4 1024 rfl (fun c : Fin 4096 => f (Fin.castLE (by omega) c)), Fin.sum_univ_four, zero_add]
  have g : ∀ n : Fin 4, ∀ c : Fin 1024, ∀ h : n.val * 1024 + c.val < 4352, f ⟨n.val * 1024 + c.val, h⟩ = f (cp n c) := fun n c h =>
    congrArg f (Fin.ext (by simp only [cp_val]; omega))
  refine congrArg₂ (· + ·) (congrArg₂ (· + ·) (congrArg₂ (· + ·) (congrArg₂ (· + ·) ?_ ?_) ?_) ?_) rfl
  · exact Finset.sum_congr rfl fun c _ => g 0 c _
  · exact Finset.sum_congr rfl fun c _ => g 1 c _
  · exact Finset.sum_congr rfl fun c _ => g 2 c _
  · exact Finset.sum_congr rfl fun c _ => g 3 c _

section pieces
variable {N0 N1 n0 n1 a b : ℕ} {e : EltTy}

/-- An index outside the newest piece reads the earlier ones. -/
theorem canon_pass {inb} (w : (⟨2, ![n0, n1]⟩ : Shape).Idx → Elt Ideal e) (L : List (View.Piece (Elt Ideal) ⟨2, ![N0, N1]⟩ e))
    (i' : Fin N0) (j' : Fin N1) (h : (i'.val < a ∨ a + n0 ≤ i'.val) ∨ j'.val < b ∨ b + n1 ≤ j'.val) :
    View.canon ((⟨Rect.unit (s := ⟨2, ![N0, N1]⟩) ![a, b] ![n0, n1] inb, w⟩ : View.Piece (Elt Ideal) ⟨2, ![N0, N1]⟩ e) :: L)
      (ix2 i' j') = View.canon L (ix2 i' j') := by
  refine View.canon_cons_of_not_mem _ L ?_
  intro hm
  have hm := (Rect.mem_set_unit (inb := inb)).mp hm
  have h0 := hm 0
  have h1 := hm 1
  change a ≤ i'.val ∧ i'.val < a + n0 at h0
  change b ≤ j'.val ∧ j'.val < b + n1 at h1
  omega

end pieces

section ten
variable {e : EltTy} {i0 i1 i2 i3 i4 i5 i6 i7 i8 i9} (a0 a1 a2 a3 b0 b1 b2 b3 : S1024x64.Idx → Elt Ideal e) (a4 b4 : S256x64.Idx → Elt Ideal e)
  (L : List (View.Piece (Elt Ideal) S4352x128 e)) (f : Fin 2 → Fin 4352 → Fin 64 → Elt Ideal e)

/-- An accumulator's ten pieces, read at an index. -/
theorem ten (g : Fin 2) (c : Fin 4352) (d : Fin 64)
    (hb4 : ∀ c d, b4 (ix2 c d) = f 1 (cl c) d) (hb3 : ∀ c d, b3 (ix2 c d) = f 1 (cp 3 c) d) (hb2 : ∀ c d, b2 (ix2 c d) = f 1 (cp 2 c) d)
    (hb1 : ∀ c d, b1 (ix2 c d) = f 1 (cp 1 c) d) (hb0 : ∀ c d, b0 (ix2 c d) = f 1 (cp 0 c) d)
    (ha4 : ∀ c d, a4 (ix2 c d) = f 0 (cl c) d) (ha3 : ∀ c d, a3 (ix2 c d) = f 0 (cp 3 c) d) (ha2 : ∀ c d, a2 (ix2 c d) = f 0 (cp 2 c) d)
    (ha1 : ∀ c d, a1 (ix2 c d) = f 0 (cp 1 c) d) (ha0 : ∀ c d, a0 (ix2 c d) = f 0 (cp 0 c) d) :
    View.canon
      ([⟨Rect.unit ![4096, 64] ![256, 64] i0, b4⟩, ⟨Rect.unit ![3072, 64] ![1024, 64] i1, b3⟩, ⟨Rect.unit ![2048, 64] ![1024, 64] i2, b2⟩,
       ⟨Rect.unit ![1024, 64] ![1024, 64] i3, b1⟩, ⟨Rect.unit ![0, 64] ![1024, 64] i4, b0⟩,
       ⟨Rect.unit ![4096, 0] ![256, 64] i5, a4⟩, ⟨Rect.unit ![3072, 0] ![1024, 64] i6, a3⟩, ⟨Rect.unit ![2048, 0] ![1024, 64] i7, a2⟩,
       ⟨Rect.unit ![1024, 0] ![1024, 64] i8, a1⟩, ⟨Rect.unit ![0, 0] ![1024, 64] i9, a0⟩] : List (View.Piece (Elt Ideal) S4352x128 e)) (ix2 c (kcol g d)) = f g c d := by
  have hc : (∃ c', c = cl c') ∨ (∃ c', c = cp 3 c') ∨ (∃ c', c = cp 2 c') ∨ (∃ c', c = cp 1 c') ∨ ∃ c', c = cp 0 c' := by
    by_cases h4 : 4096 ≤ c.val
    · exact Or.inl ⟨⟨c.val - 4096, by omega⟩, Fin.ext (by simp only [cl_val]; omega)⟩
    by_cases h3 : 3072 ≤ c.val
    · exact Or.inr (Or.inl ⟨⟨c.val - 3072, by omega⟩, Fin.ext (by simp [cp_val]; omega)⟩)
    by_cases h2 : 2048 ≤ c.val
    · exact Or.inr (Or.inr (Or.inl ⟨⟨c.val - 2048, by omega⟩, Fin.ext (by simp [cp_val]; omega)⟩))
    by_cases h1 : 1024 ≤ c.val
    · exact Or.inr (Or.inr (Or.inr (Or.inl ⟨⟨c.val - 1024, by omega⟩, Fin.ext (by simp [cp_val]; omega)⟩)))
    · exact Or.inr (Or.inr (Or.inr (Or.inr ⟨⟨c.val, by omega⟩, Fin.ext (by simp [cp_val])⟩)))
  have v0 : ∀ c', (cp 0 c').val = c'.val := fun c' => by simp [cp_val]
  have v1 : ∀ c', (cp 1 c').val = 1024 + c'.val := fun c' => by simp [cp_val]
  have v2 : ∀ c', (cp 2 c').val = 2048 + c'.val := fun c' => by simp [cp_val]
  have v3 : ∀ c', (cp 3 c').val = 3072 + c'.val := fun c' => by simp [cp_val]
  have k0 : (kcol 0 d).val = d.val := by simp [kcol_val]
  have k1 : (kcol 1 d).val = 64 + d.val := by simp [kcol_val]
  match g with
  | 0 =>
    iterate 5 rw [canon_pass _ _ _ _ (by omega)]
    rcases hc with ⟨c', rfl⟩ | ⟨c', rfl⟩ | ⟨c', rfl⟩ | ⟨c', rfl⟩ | ⟨c', rfl⟩
    · rw [canon_hit _ _ c' d _ _ (by rw [cl_val]) (by omega), ha4]
    · rw [canon_pass _ _ _ _ (by have := v3 c'; omega), canon_hit _ _ c' d _ _ (v3 c') (by omega), ha3]
    · have := v2 c'
      iterate 2 rw [canon_pass _ _ _ _ (by omega)]
      rw [canon_hit _ _ c' d _ _ (v2 c') (by omega), ha2]
    · have := v1 c'
      iterate 3 rw [canon_pass _ _ _ _ (by omega)]
      rw [canon_hit _ _ c' d _ _ (v1 c') (by omega), ha1]
    · have := v0 c'
      iterate 4 rw [canon_pass _ _ _ _ (by omega)]
      rw [canon_hit _ _ c' d _ _ (by omega) (by omega), ha0]
  | 1 =>
    rcases hc with ⟨c', rfl⟩ | ⟨c', rfl⟩ | ⟨c', rfl⟩ | ⟨c', rfl⟩ | ⟨c', rfl⟩
    · rw [canon_hit _ _ c' d _ _ (by rw [cl_val]) (by omega), hb4]
    · rw [canon_pass _ _ _ _ (by have := v3 c'; omega), canon_hit _ _ c' d _ _ (v3 c') (by omega), hb3]
    · have := v2 c'
      iterate 2 rw [canon_pass _ _ _ _ (by omega)]
      rw [canon_hit _ _ c' d _ _ (v2 c') (by omega), hb2]
    · have := v1 c'
      iterate 3 rw [canon_pass _ _ _ _ (by omega)]
      rw [canon_hit _ _ c' d _ _ (v1 c') (by omega), hb1]
    · have := v0 c'
      iterate 4 rw [canon_pass _ _ _ _ (by omega)]
      rw [canon_hit _ _ c' d _ _ (by omega) (by omega), hb0]
end ten

section eight
variable {e : EltTy} {i0 i1 i2 i3 i4 i5 i6 i7} (w13 w12 w11 w10 w03 w02 w01 w00 : S256x64.Idx → Elt Ideal e) (f : Fin 2 → Fin 4 → Fin 256 → Fin 64 → Elt Ideal e)

/-- The queries' block's eight pieces, read at an index. -/
theorem eight (g : Fin 2) (j : Fin 4) (r : Fin 256) (d : Fin 64)
    (h13 : ∀ r d, w13 (ix2 r d) = f 1 3 r d) (h12 : ∀ r d, w12 (ix2 r d) = f 1 2 r d) (h11 : ∀ r d, w11 (ix2 r d) = f 1 1 r d) (h10 : ∀ r d, w10 (ix2 r d) = f 1 0 r d) (h03 : ∀ r d, w03 (ix2 r d) = f 0 3 r d) (h02 : ∀ r d, w02 (ix2 r d) = f 0 2 r d) (h01 : ∀ r d, w01 (ix2 r d) = f 0 1 r d) (h00 : ∀ r d, w00 (ix2 r d) = f 0 0 r d) :
    View.canon
      ([⟨Rect.unit ![0, 448] ![256, 64] i0, w13⟩, ⟨Rect.unit ![0, 384] ![256, 64] i1, w12⟩, ⟨Rect.unit ![0, 320] ![256, 64] i2, w11⟩,
       ⟨Rect.unit ![0, 256] ![256, 64] i3, w10⟩, ⟨Rect.unit ![0, 192] ![256, 64] i4, w03⟩, ⟨Rect.unit ![0, 128] ![256, 64] i5, w02⟩,
       ⟨Rect.unit ![0, 64] ![256, 64] i6, w01⟩, ⟨Rect.unit ![0, 0] ![256, 64] i7, w00⟩] : List (View.Piece (Elt Ideal) S256x512 e)) (ix2 r (qcol g j d)) = f g j r d := by
  have hq : (qcol g j d).val = 256 * g.val + 64 * j.val + d.val := rfl
  match g, j with
  | 0, 0 =>
    iterate 7 rw [canon_pass _ _ _ _ (by simp at hq; omega)]
    rw [canon_hit _ _ r d _ _ (by omega) (by simp at hq; omega), h00]
  | 0, 1 =>
    iterate 6 rw [canon_pass _ _ _ _ (by simp at hq; omega)]
    rw [canon_hit _ _ r d _ _ (by omega) (by simp at hq; omega), h01]
  | 0, 2 =>
    iterate 5 rw [canon_pass _ _ _ _ (by simp at hq; omega)]
    rw [canon_hit _ _ r d _ _ (by omega) (by simp at hq; omega), h02]
  | 0, 3 =>
    iterate 4 rw [canon_pass _ _ _ _ (by simp at hq; omega)]
    rw [canon_hit _ _ r d _ _ (by omega) (by simp at hq; omega), h03]
  | 1, 0 =>
    iterate 3 rw [canon_pass _ _ _ _ (by simp at hq; omega)]
    rw [canon_hit _ _ r d _ _ (by omega) (by simp at hq; omega), h10]
  | 1, 1 =>
    iterate 2 rw [canon_pass _ _ _ _ (by simp at hq; omega)]
    rw [canon_hit _ _ r d _ _ (by omega) (by simp at hq; omega), h11]
  | 1, 2 =>
    rw [canon_pass _ _ _ _ (by simp at hq; omega)]
    rw [canon_hit _ _ r d _ _ (by omega) (by simp at hq; omega), h12]
  | 1, 3 =>
    rw [canon_hit _ _ r d _ _ (by omega) (by simp at hq; omega), h13]
end eight

section chunks
variable {qb qs g : FVec Ideal S1024x64 .bf16} {l d : FVec Ideal S1024x1 .f32} {Q G : Fin 1024 → Fin 64 → ℝ} {K V : Fin 4352 → Fin 64 → ℝ}
  (S : Stk qb qs g l d Q G K V) {x1 x2 : Vec Ideal S4352x128 .bf16} {h : Fin 2}
  (hx1 : ∀ c d, x1 (ix2 c (kcol h d)) = (K c d : EReal)) (hx2 : ∀ c d, x2 (ix2 c (kcol h d)) = (V c d : EReal))

/-- A chunk's rectangle of an array of keys. -/
theorem ldw {φ : EltTy} {a b : ℕ} {i} (X : Vec Ideal S4352x128 φ) (h : Fin 2) (n : Fin 4) (ha : a = 1024 * n.val) (hb : b = 64 * h.val)
    (c : Fin 1024) (d : Fin 64) : View.ld X (Rect.unit (s := S4352x128) ![a, b] ![1024, 64] i) (ix2 c d) = X (ix2 (cp n c) (kcol h d)) :=
  ld_at X c d (cp n c) (kcol h d) (by rw [ha, cp_val]) (by rw [hb, kcol_val])
theorem ldn {φ : EltTy} {b : ℕ} {i} (X : Vec Ideal S4352x128 φ) (h : Fin 2) (hb : b = 64 * h.val)
    (c : Fin 256) (d : Fin 64) : View.ld X (Rect.unit (s := S4352x128) ![4096, b] ![256, 64] i) (ix2 c d) = X (ix2 (cl c) (kcol h d)) :=
  ld_at X c d (cl c) (kcol h d) (by rw [cl_val]) (by rw [hb, kcol_val])

include S hx1 hx2 in
theorem kw {a b : ℕ} {i i' i''} (n : Fin 4) (ha : a = 1024 * n.val) (hb : b = 64 * h.val) (xs : Vec Ideal S4352x128 .f32) (c : Fin 1024) (e : Fin 64) :
    k0_pay106 (F := Ideal) qs (k0_pay68 qb l d g (View.ld x1 (Rect.unit (s := S4352x128) ![a, b] ![1024, 64] i)) (View.ld x2 (Rect.unit (s := S4352x128) ![a, b] ![1024, 64] i')))
      (View.ld xs (Rect.unit (s := S4352x128) ![a, b] ![1024, 64] i'')) (ix2 c e)
      = xs (ix2 (cp n c) (kcol h e)) + ((∑ R, ds (sc (Q R) K) (dp (G R) V) (cp n c) * (Q R e * (8 : ℝ)⁻¹) : ℝ) : EReal) :=
  (uk S (fun c d => (ldw x1 h n ha hb c d).trans (hx1 _ d)) (fun c d => (ldw x2 h n ha hb c d).trans (hx2 _ d)) _ c e).trans
    (congrArg (· + _) (ldw xs h n ha hb c e))

include S hx1 in
theorem vw {a b : ℕ} {i i''} (n : Fin 4) (ha : a = 1024 * n.val) (hb : b = 64 * h.val) (xs : Vec Ideal S4352x128 .f32) (c : Fin 1024) (e : Fin 64) :
    k0_pay107 (F := Ideal) g (k0_pay67 qb l (View.ld x1 (Rect.unit (s := S4352x128) ![a, b] ![1024, 64] i)))
      (View.ld xs (Rect.unit (s := S4352x128) ![a, b] ![1024, 64] i'')) (ix2 c e)
      = xs (ix2 (cp n c) (kcol h e)) + ((∑ R, pr (sc (Q R) K) (cp n c) * G R e : ℝ) : EReal) :=
  (uv S (fun c d => (ldw x1 h n ha hb c d).trans (hx1 _ d)) _ c e).trans (congrArg (· + _) (ldw xs h n ha hb c e))

include S hx1 hx2 in
theorem kn {b : ℕ} {i i' i''} (hb : b = 64 * h.val) (xs : Vec Ideal S4352x128 .f32) (c : Fin 256) (e : Fin 64) :
    k0_pay10 (F := Ideal) qs (k0_pay125 qb l d g (View.ld x1 (Rect.unit (s := S4352x128) ![4096, b] ![256, 64] i)) (View.ld x2 (Rect.unit (s := S4352x128) ![4096, b] ![256, 64] i')))
      (View.ld xs (Rect.unit (s := S4352x128) ![4096, b] ![256, 64] i'')) (ix2 c e)
      = xs (ix2 (cl c) (kcol h e)) + ((∑ R, ds (sc (Q R) K) (dp (G R) V) (cl c) * (Q R e * (8 : ℝ)⁻¹) : ℝ) : EReal) :=
  (uk' S (fun c d => (ldn x1 h hb c d).trans (hx1 _ d)) (fun c d => (ldn x2 h hb c d).trans (hx2 _ d)) _ c e).trans
    (congrArg (· + _) (ldn xs h hb c e))

include S hx1 in
theorem vn {b : ℕ} {i i''} (hb : b = 64 * h.val) (xs : Vec Ideal S4352x128 .f32) (c : Fin 256) (e : Fin 64) :
    k0_pay11 (F := Ideal) g (k0_pay124 qb l (View.ld x1 (Rect.unit (s := S4352x128) ![4096, b] ![256, 64] i)))
      (View.ld xs (Rect.unit (s := S4352x128) ![4096, b] ![256, 64] i'')) (ix2 c e)
      = xs (ix2 (cl c) (kcol h e)) + ((∑ R, pr (sc (Q R) K) (cl c) * G R e : ℝ) : EReal) :=
  (uv' S (fun c d => (ldn x1 h hb c d).trans (hx1 _ d)) _ c e).trans (congrArg (· + _) (ldn xs h hb c e))

include S hx1 hx2 in
theorem qw {a b : ℕ} {i j} (n : Fin 4) (ha : a = 1024 * n.val) (hb : b = 64 * h.val) {o : FVec Ideal S1024x64 .f32} {A : Fin 1024 → Fin 64 → ℝ}
    (ho : ∀ R e, o (ix2 R e) = (A R e : EReal)) (R : Fin 1024) (e : Fin 64) :
    k0_pay110 (F := Ideal) qb l d g o (View.ld x1 (Rect.unit (s := S4352x128) ![a, b] ![1024, 64] i)) (View.ld x2 (Rect.unit (s := S4352x128) ![a, b] ![1024, 64] j)) (ix2 R e)
      = ((A R e + ∑ c, ds (sc (Q R) K) (dp (G R) V) (cp n c) * K (cp n c) e : ℝ) : EReal) :=
  uq S (fun c d => (ldw x1 h n ha hb c d).trans (hx1 _ d)) (fun c d => (ldw x2 h n ha hb c d).trans (hx2 _ d)) ho R e

include S hx1 hx2 in
/-- The queries' sum over all chunks, with the factor. -/
theorem qsum {b : ℕ} {i0 j0 i1 j1 i2 j2 i3 j3 i4 j4} (hb : b = 64 * h.val) (R : Fin 1024) (e : Fin 64) :
    k0_pay89 (F := Ideal) d
      (k0_pay110 qb l d g (k0_pay110 qb l d g (k0_pay110 qb l d g (k0_pay110 qb l d g k0_pay61
        (View.ld x1 (Rect.unit (s := S4352x128) ![0, b] ![1024, 64] i0)) (View.ld x2 (Rect.unit (s := S4352x128) ![0, b] ![1024, 64] j0)))
        (View.ld x1 (Rect.unit (s := S4352x128) ![1024, b] ![1024, 64] i1)) (View.ld x2 (Rect.unit (s := S4352x128) ![1024, b] ![1024, 64] j1)))
        (View.ld x1 (Rect.unit (s := S4352x128) ![2048, b] ![1024, 64] i2)) (View.ld x2 (Rect.unit (s := S4352x128) ![2048, b] ![1024, 64] j2)))
        (View.ld x1 (Rect.unit (s := S4352x128) ![3072, b] ![1024, 64] i3)) (View.ld x2 (Rect.unit (s := S4352x128) ![3072, b] ![1024, 64] j3)))
      (View.ld x1 (Rect.unit (s := S4352x128) ![4096, b] ![256, 64] i4))
      (k0_pay124 qb l (View.ld x1 (Rect.unit (s := S4352x128) ![4096, b] ![256, 64] i4)))
      (k0_pay85 g (View.ld x2 (Rect.unit (s := S4352x128) ![4096, b] ![256, 64] j4))) (ix2 R e)
      = (((∑ c, ds (sc (Q R) K) (dp (G R) V) c * K c e) * (8 : ℝ)⁻¹ : ℝ) : EReal) := by
  have z : ∀ R e, k0_pay61 (F := Ideal) (ix2 R e) = ((0 : ℝ) : EReal) := fun R e => Ideal.ofBits_zero_f32
  refine (uq' S (fun c d => (ldn x1 h hb c d).trans (hx1 _ d)) (fun c d => (ldn x2 h hb c d).trans (hx2 _ d))
    (qw S hx1 hx2 3 rfl hb (qw S hx1 hx2 2 rfl hb (qw S hx1 hx2 1 rfl hb (qw S hx1 hx2 0 rfl hb z)))) R e).trans ?_
  rw [sum_chunks (fun c => ds (sc (Q R) K) (dp (G R) V) c * K c e)]
end chunks

end Cert.GroupedIdeal

end
-- ==== Proof.GroupedTileA.lean ====
/- What a batch's first point, the context, leaves in the query gradient's block and in the two accumulators of the grouped kernel, read at an
   index: the real formulas of Soft over the point's blocks. -/
module

public import proofs.«01_k».proof.Proof.GroupedTile

@[expose] public section

noncomputable section

namespace Cert.GroupedIdeal.TileA

open Cert.GroupedIdeal Cert.GroupedIdeal.Gen Idealize.ShloMosaic Idealize.ShloMosaic.TcCoe Cert.Soft
open Cert.KernelIdeal (ctx_le readCov_at canon_hit ld_at)

section
variable (qb qs g k : FVec Ideal S1024x64 .bf16) (l d : FVec Ideal S1024x1 .f32) (gf of : FVec Ideal S1024x64 .f32)
  (kn vn : FVec Ideal S256x64 .bf16) (an : FVec Ideal S256x64 .f32) (Z : IVec S256x128 32) (L sl : FVec Ideal S256x128 .f32)
  (pn dn : FVec Ideal S1024x256 .f32)

/-- The context's texts are those of the last chunk. -/
theorem c21 (y0 y1 y2 y3) : k0_pay21 (F := Ideal) y0 y1 y2 y3 = k0_pay52 y0 y1 y2 y3 := rfl
theorem c22 (y0 y1 y2 y3) : k0_pay22 (F := Ideal) y0 y1 y2 y3 = k0_pay53 y0 y1 y2 y3 := rfl
theorem c23 (y0 y1 y2 y3) : k0_pay23 (F := Ideal) y0 y1 y2 y3 = k0_pay54 y0 y1 y2 y3 := rfl
theorem c27 (y0 y1 y2 y3) : k0_pay27 (F := Ideal) gf (k0_pay24 y0) (k0_pay25 y1) (k0_pay26 y2) y3 = k0_pay59 gf (k0_pay55 y0) (k0_pay56 y1) (k0_pay57 y2) y3 := rfl
theorem c28 : k0_pay28 (F := Ideal) gf = k0_pay60 gf := rfl
theorem c30 : k0_pay30 (F := Ideal) Z L qb kn = k0_pay124 qb (k0_pay58 Z L) kn := rfl
theorem c31 : k0_pay31 (F := Ideal) gf vn = k0_pay85 (k0_pay60 gf) vn := rfl
theorem c32 : k0_pay32 (F := Ideal) d (k0_pay124 qb l kn) (k0_pay85 g vn) = k0_pay125 qb l d g kn vn := rfl
theorem c33 : k0_pay33 (F := Ideal) qs d pn dn an = k0_pay10 qs (k0_pay32 d pn dn) an := rfl
theorem c34 : k0_pay34 (F := Ideal) g pn an = k0_pay11 g pn an := rfl
theorem c36 : k0_pay36 (F := Ideal) d k0_pay29 kn pn dn = k0_pay90 d k0_pay61 kn pn dn := rfl
theorem c37 : k0_pay37 (F := Ideal) d k0_pay29 kn pn dn = k0_pay91 d k0_pay61 kn pn dn := rfl
theorem c38 : k0_pay38 (F := Ideal) d k0_pay29 kn pn dn = k0_pay92 d k0_pay61 kn pn dn := rfl
theorem c39 : k0_pay39 (F := Ideal) d k0_pay29 kn pn dn = k0_pay93 d k0_pay61 kn pn dn := rfl
theorem c41 (y0 y1 y2 y3) : k0_pay41 (F := Ideal) y0 y1 y2 y3 = k0_pay52 y0 y1 y2 y3 := rfl
theorem c42 (y0 y1 y2 y3) : k0_pay42 (F := Ideal) y0 y1 y2 y3 = k0_pay53 y0 y1 y2 y3 := rfl
theorem c43 (y0 y1 y2 y3) : k0_pay43 (F := Ideal) y0 y1 y2 y3 = k0_pay54 y0 y1 y2 y3 := rfl
theorem c46 : k0_pay46 (F := Ideal) gf = k0_pay60 gf := rfl
theorem c47 : k0_pay47 (F := Ideal) Z L qb sl kn = k0_pay124 qb (k0_pay100 Z L sl) kn := rfl
theorem c48 (y0 y1 y2 y3) : k0_pay48 (F := Ideal) Z L qb gf (k0_pay44 y0 y1 y2 y3) sl kn vn
    = k0_pay125 qb (k0_pay100 Z L sl) (k0_pay59 gf (k0_pay55 y0) (k0_pay56 y1) (k0_pay57 y2) y3) (k0_pay60 gf) kn vn := rfl
theorem c6 (y0 y1 y2 y3) : k0_pay6 (F := Ideal) (k0_pay49 Z L qb gf (k0_pay44 y0 y1 y2 y3) sl kn vn)
    = k0_pay90 (k0_pay59 gf (k0_pay55 y0) (k0_pay56 y1) (k0_pay57 y2) y3) k0_pay61 kn (k0_pay124 qb (k0_pay100 Z L sl) kn) (k0_pay85 (k0_pay60 gf) vn) := rfl
theorem c7 (y0 y1 y2 y3) : k0_pay7 (F := Ideal) (k0_pay49 Z L qb gf (k0_pay44 y0 y1 y2 y3) sl kn vn)
    = k0_pay91 (k0_pay59 gf (k0_pay55 y0) (k0_pay56 y1) (k0_pay57 y2) y3) k0_pay61 kn (k0_pay124 qb (k0_pay100 Z L sl) kn) (k0_pay85 (k0_pay60 gf) vn) := rfl
theorem c8 (y0 y1 y2 y3) : k0_pay8 (F := Ideal) (k0_pay49 Z L qb gf (k0_pay44 y0 y1 y2 y3) sl kn vn)
    = k0_pay92 (k0_pay59 gf (k0_pay55 y0) (k0_pay56 y1) (k0_pay57 y2) y3) k0_pay61 kn (k0_pay124 qb (k0_pay100 Z L sl) kn) (k0_pay85 (k0_pay60 gf) vn) := rfl
theorem c9 (y0 y1 y2 y3) : k0_pay9 (F := Ideal) (k0_pay49 Z L qb gf (k0_pay44 y0 y1 y2 y3) sl kn vn)
    = k0_pay93 (k0_pay59 gf (k0_pay55 y0) (k0_pay56 y1) (k0_pay57 y2) y3) k0_pay61 kn (k0_pay124 qb (k0_pay100 Z L sl) kn) (k0_pay85 (k0_pay60 gf) vn) := rfl
theorem c3 (dn : FVec Ideal S1024x256 .f32) : k0_pay3 (F := Ideal) qs dn an = k0_pay10 qs dn an := rfl
theorem c4 : k0_pay4 (F := Ideal) g pn an = k0_pay11 g pn an := rfl
end

theorem zero1 (y : S4352x128.Idx) : k0_pay1 (F := Ideal) y = 0 := by
  unfold k0_pay1; exact Ideal.ofBits_zero_f32
theorem zero2 (y : S4352x128.Idx) : k0_pay2 (F := Ideal) y = 0 := by
  unfold k0_pay2; exact Ideal.ofBits_zero_f32

section
variable {qb qs g : FVec Ideal S1024x64 .bf16} {l d : FVec Ideal S1024x1 .f32} {Q G : Fin 1024 → Fin 64 → ℝ} {K V : Fin 256 → Fin 64 → ℝ}
  (S : Stk qb qs g l d Q G K V) {x1 x2 : Vec Ideal S4352x128 .bf16} {h : Fin 2}
  (hx1 : ∀ c d, x1 (ix2 (Fin.castLE ctx_le c) (kcol h d)) = (K c d : EReal)) (hx2 : ∀ c d, x2 (ix2 (Fin.castLE ctx_le c) (kcol h d)) = (V c d : EReal))

/-- The context's rectangle of an array of keys. -/
theorem ldc {φ : EltTy} {b : ℕ} {i} (X : Vec Ideal S4352x128 φ) (h : Fin 2) (hb : b = 64 * h.val)
    (c : Fin 256) (d : Fin 64) : View.ld X (Rect.unit (s := S4352x128) ![0, b] ![256, 64] i) (ix2 c d) = X (ix2 (Fin.castLE ctx_le c) (kcol h d)) :=
  ld_at X c d (Fin.castLE ctx_le c) (kcol h d) (by simp) (by rw [hb, kcol_val])

include S hx1 hx2 in
theorem kc {b : ℕ} {i i'} (hb : b = 64 * h.val) (a : FVec Ideal S256x64 .f32) (c : Fin 256) (e : Fin 64) :
    k0_pay10 (F := Ideal) qs (k0_pay125 qb l d g (View.ld x1 (Rect.unit (s := S4352x128) ![0, b] ![256, 64] i)) (View.ld x2 (Rect.unit (s := S4352x128) ![0, b] ![256, 64] i')))
      a (ix2 c e)
      = a (ix2 c e) + ((∑ R, ds (sc (Q R) K) (dp (G R) V) c * (Q R e * (8 : ℝ)⁻¹) : ℝ) : EReal) :=
  uk' (pos := id) S (fun c d => (ldc x1 h hb c d).trans (hx1 _ d)) (fun c d => (ldc x2 h hb c d).trans (hx2 _ d)) _ c e

include S hx1 in
theorem vc {b : ℕ} {i} (hb : b = 64 * h.val) (a : FVec Ideal S256x64 .f32) (c : Fin 256) (e : Fin 64) :
    k0_pay11 (F := Ideal) g (k0_pay124 qb l (View.ld x1 (Rect.unit (s := S4352x128) ![0, b] ![256, 64] i)))
      a (ix2 c e)
      = a (ix2 c e) + ((∑ R, pr (sc (Q R) K) c * G R e : ℝ) : EReal) :=
  uv' (pos := id) S (fun c d => (ldc x1 h hb c d).trans (hx1 _ d)) _ c e

include S hx1 hx2 in
theorem qc {b : ℕ} {i j} (hb : b = 64 * h.val) (R : Fin 1024) (e : Fin 64) :
    k0_pay89 (F := Ideal) d k0_pay61
      (View.ld x1 (Rect.unit (s := S4352x128) ![0, b] ![256, 64] i))
      (k0_pay124 qb l (View.ld x1 (Rect.unit (s := S4352x128) ![0, b] ![256, 64] i)))
      (k0_pay85 g (View.ld x2 (Rect.unit (s := S4352x128) ![0, b] ![256, 64] j))) (ix2 R e)
      = (((∑ c, ds (sc (Q R) K) (dp (G R) V) c * K c e) * (8 : ℝ)⁻¹ : ℝ) : EReal) := by
  have z : ∀ R e, k0_pay61 (F := Ideal) (ix2 R e) = ((0 : ℝ) : EReal) := fun R e => Ideal.ofBits_zero_f32
  refine (uq' (pos := id) S (fun c d => (ldc x1 h hb c d).trans (hx1 _ d)) (fun c d => (ldc x2 h hb c d).trans (hx2 _ d)) (A := fun _ _ => 0) z R e).trans ?_
  rw [zero_add]
  rfl
end

variable (cc : Dev nD) (i : grid0.Coords) (a2 : Memref sig .tc .vmem S256x512 .f32) (h2 : a2.IsWhole)
  (a3 : Memref sig .tc .vmem S4352x128 .bf16) (h3 : a3.IsWhole) (a4 : Memref sig .tc .vmem S4352x128 .bf16) (h4 : a4.IsWhole)
  (a5 : Memref sig .tc .vmem S256x512 .bf16) (h5 : a5.IsWhole) (a6 : Memref sig .tc .vmem S256x128 .f32) (h6 : a6.IsWhole)
  (a7 : Memref sig .tc .vmem S256x512 .bf16) (h7 : a7.IsWhole) (a8 : Memref sig .tc .vmem S256x512 .f32) (h8 : a8.IsWhole)
  (a9 : Memref sig .tc .vmem S4352x128 .bf16) (h9 : a9.IsWhole) (a10 : Memref sig .tc .vmem S4352x128 .bf16) (h10 : a10.IsWhole)
  (a11 : Memref sig .tc .vmem S4352x128 .f32) (h11 : a11.IsWhole) (a12 : Memref sig .tc .vmem S4352x128 .f32) (h12 : a12.IsWhole)
  {x0 : Vec Ideal S256x512 .f32} {x1 : Vec Ideal S4352x128 .bf16} {x2 : Vec Ideal S4352x128 .bf16} {x3 : Vec Ideal S256x512 .bf16}
  {x4 : Vec Ideal S256x128 .f32} {x5 : Vec Ideal S256x512 .bf16}
  {Q G : Fin 2 → Fin 4 → Fin 256 → Fin 64 → ℝ} {K V : Fin 2 → Fin 256 → Fin 64 → ℝ} (B : Blk x0 x3 x4 x5 Q G K V)
  (hx1 : ∀ g c d, x1 (ix2 (Fin.castLE ctx_le c) (kcol g d)) = (K g c d : EReal)) (hx2 : ∀ g c d, x2 (ix2 (Fin.castLE ctx_le c) (kcol g d)) = (V g c d : EReal))

include B hx1 hx2 in
theorem dk (hc0 hc1 hc2 hc3) (g : Fin 2) (c : Fin 256) (d : Fin 64) :
    sout0_A_0 (F := Ideal) cc i a2 h2 a3 h3 a4 h4 a5 h5 a6 h6 a7 h7 a8 h8 a9 h9 a10 h10 a11 h11 a12 h12 hc0 hc1 hc2 hc3
      x0 x1 x2 x3 x4 x5 (ix2 (Fin.castLE ctx_le c) (kcol g d))
      = ((∑ R, ds (sc (Q g (hd R) (rw' R)) (K g)) (dp (G g (hd R) (rw' R)) (V g)) c * (Q g (hd R) (rw' R) d * (8 : ℝ)⁻¹) : ℝ) : EReal) := by
  unfold sout0_A_0
  rw [View.read_writes_junk_eq_canon]
  unfold kernelRun0_A
  dsimp only
  sl_unfold_words
  simp only [View.readAt_eq_ld, h2.read_unread, h3.read_unread, h4.read_unread, h5.read_unread, h6.read_unread, h7.read_unread]
  simp only [f_qb0, f_qs0, f_g0, f_d0, f_qb1, f_qs1, f_g1, f_d1, c21, c22, c23, c27, c28, c30, c31, c32, c33, c34, c36, c37, c38, c39, c41, c42, c43, c46, c47, c48, c6, c7, c8, c9, c3, c4]
  have S0 := stk0 B
  have S1 := stk1 B
  have k0 : (kcol 0 d).val = d.val := by simp [kcol_val]
  have k1 : (kcol 1 d).val = 64 + d.val := by simp [kcol_val]
  match g with
  | 0 =>
    rw [canon_pass _ _ _ _ (by omega), canon_hit _ _ c d _ _ (by simp) (by omega)]
    refine (kc S0 (hx1 0) (hx2 0) rfl _ c d).trans ?_
    rw [readCov_at _ _ c d (Fin.castLE ctx_le c) (kcol 0 d) (by simp) (by omega)]
    rw [canon_hit _ _ (Fin.castLE ctx_le c) (kcol 0 d) _ _ (by omega) (by omega), zero1, zero_add]
  | 1 =>
    rw [canon_hit _ _ c d _ _ (by simp) (by omega)]
    refine (kc S1 (hx1 1) (hx2 1) rfl _ c d).trans ?_
    rw [readCov_at _ _ c d (Fin.castLE ctx_le c) (kcol 1 d) (by simp) (by omega)]
    rw [canon_pass _ _ _ _ (by omega), canon_hit _ _ (Fin.castLE ctx_le c) (kcol 1 d) _ _ (by omega) (by omega), zero1, zero_add]

include B hx1 in
theorem dv (hc0 hc1 hc2 hc3) (g : Fin 2) (c : Fin 256) (d : Fin 64) :
    sout0_A_1 (F := Ideal) cc i a2 h2 a3 h3 a4 h4 a5 h5 a6 h6 a7 h7 a8 h8 a9 h9 a10 h10 a11 h11 a12 h12 hc0 hc1 hc2 hc3
      x0 x1 x2 x3 x4 x5 (ix2 (Fin.castLE ctx_le c) (kcol g d))
      = ((∑ R, pr (sc (Q g (hd R) (rw' R)) (K g)) c * G g (hd R) (rw' R) d : ℝ) : EReal) := by
  unfold sout0_A_1
  rw [View.read_writes_junk_eq_canon]
  unfold kernelRun0_A
  dsimp only
  sl_unfold_words
  simp only [View.readAt_eq_ld, h2.read_unread, h3.read_unread, h4.read_unread, h5.read_unread, h6.read_unread, h7.read_unread]
  simp only [f_qb0, f_qs0, f_g0, f_d0, f_qb1, f_qs1, f_g1, f_d1, c21, c22, c23, c27, c28, c30, c31, c32, c33, c34, c36, c37, c38, c39, c41, c42, c43, c46, c47, c48, c6, c7, c8, c9, c3, c4]
  have S0 := stk0 B
  have S1 := stk1 B
  have k0 : (kcol 0 d).val = d.val := by simp [kcol_val]
  have k1 : (kcol 1 d).val = 64 + d.val := by simp [kcol_val]
  match g with
  | 0 =>
    rw [canon_pass _ _ _ _ (by omega), canon_hit _ _ c d _ _ (by simp) (by omega)]
    refine (vc S0 (hx1 0) rfl _ c d).trans ?_
    rw [readCov_at _ _ c d (Fin.castLE ctx_le c) (kcol 0 d) (by simp) (by omega)]
    rw [canon_hit _ _ (Fin.castLE ctx_le c) (kcol 0 d) _ _ (by omega) (by omega), zero2, zero_add]
  | 1 =>
    rw [canon_hit _ _ c d _ _ (by simp) (by omega)]
    refine (vc S1 (hx1 1) rfl _ c d).trans ?_
    rw [readCov_at _ _ c d (Fin.castLE ctx_le c) (kcol 1 d) (by simp) (by omega)]
    rw [canon_pass _ _ _ _ (by omega), canon_hit _ _ (Fin.castLE ctx_le c) (kcol 1 d) _ _ (by omega) (by omega), zero2, zero_add]

include B hx1 hx2 in
theorem dq (hc0 hc1 hc2 hc3) (g : Fin 2) (j : Fin 4) (r : Fin 256) (d : Fin 64) :
    out0_A_6 (F := Ideal) cc i a2 h2 a3 h3 a4 h4 a5 h5 a6 h6 a7 h7 a8 h8 a9 h9 a10 h10 a11 h11 a12 h12 hc0 hc1 hc2 hc3
      x0 x1 x2 x3 x4 x5 (ix2 r (qcol g j d))
      = (((∑ c, ds (sc (Q g j r) (K g)) (dp (G g j r) (V g)) c * K g c d) * (8 : ℝ)⁻¹ : ℝ) : EReal) := by
  unfold out0_A_6
  rw [View.read_writes_junk_eq_canon]
  unfold kernelRun0_A
  dsimp only
  sl_unfold_words
  simp only [View.readAt_eq_ld, h2.read_unread, h3.read_unread, h4.read_unread, h5.read_unread, h6.read_unread, h7.read_unread]
  simp only [f_qb0, f_qs0, f_g0, f_d0, f_qb1, f_qs1, f_g1, f_d1, c21, c22, c23, c27, c28, c30, c31, c32, c33, c34, c36, c37, c38, c39, c41, c42, c43, c46, c47, c48, c6, c7, c8, c9, c3, c4]
  have S0 := stk0 B
  have S1 := stk1 B
  have q0 := fun R e => qc S0 (hx1 0) (hx2 0) (i := inb_S4352x128_S256x64_0_0) (j := inb_S4352x128_S256x64_0_0) rfl R e
  have q1 := fun R e => qc S1 (hx1 1) (hx2 1) (i := inb_S4352x128_S256x64_0_64) (j := inb_S4352x128_S256x64_0_64) rfl R e
  refine eight (e := .f32) _ _ _ _ _ _ _ _ (fun g j r d => (((∑ c, ds (sc (Q g j r) (K g)) (dp (G g j r) (V g)) c * K g c d) * (8 : ℝ)⁻¹ : ℝ) : EReal)) g j r d ?_ ?_ ?_ ?_ ?_ ?_ ?_ ?_
  · exact fun r d => (slice3 _ _ _ _ _ r d).trans ((q1 (stk 3 r) d).trans (by rw [hd_stk, rw_stk]))
  · exact fun r d => (slice2 _ _ _ _ _ r d).trans ((q1 (stk 2 r) d).trans (by rw [hd_stk, rw_stk]))
  · exact fun r d => (slice1 _ _ _ _ _ r d).trans ((q1 (stk 1 r) d).trans (by rw [hd_stk, rw_stk]))
  · exact fun r d => (slice0 _ _ _ _ _ r d).trans ((q1 (stk 0 r) d).trans (by rw [hd_stk, rw_stk]))
  · exact fun r d => (slice3 _ _ _ _ _ r d).trans ((q0 (stk 3 r) d).trans (by rw [hd_stk, rw_stk]))
  · exact fun r d => (slice2 _ _ _ _ _ r d).trans ((q0 (stk 2 r) d).trans (by rw [hd_stk, rw_stk]))
  · exact fun r d => (slice1 _ _ _ _ _ r d).trans ((q0 (stk 1 r) d).trans (by rw [hd_stk, rw_stk]))
  · exact fun r d => (slice0 _ _ _ _ _ r d).trans ((q0 (stk 0 r) d).trans (by rw [hd_stk, rw_stk]))

theorem dk_rest (hc0 hc1 hc2 hc3) (c : Fin 4352) (hc : 256 ≤ c.val) (j : Fin 128) :
    sout0_A_0 (F := Ideal) cc i a2 h2 a3 h3 a4 h4 a5 h5 a6 h6 a7 h7 a8 h8 a9 h9 a10 h10 a11 h11 a12 h12 hc0 hc1 hc2 hc3
      x0 x1 x2 x3 x4 x5 (ix2 c j) = 0 := by
  unfold sout0_A_0
  rw [View.read_writes_junk_eq_canon]
  unfold kernelRun0_A
  dsimp only
  sl_unfold_words
  rw [canon_pass _ _ _ _ (by omega), canon_pass _ _ _ _ (by omega), canon_hit _ _ c j _ _ (by omega) (by omega)]
  exact zero1 _

theorem dv_rest (hc0 hc1 hc2 hc3) (c : Fin 4352) (hc : 256 ≤ c.val) (j : Fin 128) :
    sout0_A_1 (F := Ideal) cc i a2 h2 a3 h3 a4 h4 a5 h5 a6 h6 a7 h7 a8 h8 a9 h9 a10 h10 a11 h11 a12 h12 hc0 hc1 hc2 hc3
      x0 x1 x2 x3 x4 x5 (ix2 c j) = 0 := by
  unfold sout0_A_1
  rw [View.read_writes_junk_eq_canon]
  unfold kernelRun0_A
  dsimp only
  sl_unfold_words
  rw [canon_pass _ _ _ _ (by omega), canon_pass _ _ _ _ (by omega), canon_hit _ _ c j _ _ (by omega) (by omega)]
  exact zero2 _

end Cert.GroupedIdeal.TileA

end
-- ==== Proof.GroupedTileB.lean ====
/- What a latent point of a batch but the last leaves in the query gradient's block and in the two accumulators of the grouped kernel, read at an
   index: the real formulas of Soft over the point's blocks. -/
module

public import proofs.«01_k».proof.Proof.GroupedTile

@[expose] public section

noncomputable section

namespace Cert.GroupedIdeal.TileB

open Cert.GroupedIdeal Cert.GroupedIdeal.Gen Idealize.ShloMosaic Idealize.ShloMosaic.TcCoe Cert.Soft
open Cert.KernelIdeal (readCov_whole)

variable (cc : Dev nD) (i : grid0.Coords) (a2 : Memref sig .tc .vmem S256x512 .f32) (h2 : a2.IsWhole)
  (a3 : Memref sig .tc .vmem S4352x128 .bf16) (h3 : a3.IsWhole) (a4 : Memref sig .tc .vmem S4352x128 .bf16) (h4 : a4.IsWhole)
  (a5 : Memref sig .tc .vmem S256x512 .bf16) (h5 : a5.IsWhole) (a6 : Memref sig .tc .vmem S256x128 .f32) (h6 : a6.IsWhole)
  (a7 : Memref sig .tc .vmem S256x512 .bf16) (h7 : a7.IsWhole) (a8 : Memref sig .tc .vmem S256x512 .f32) (h8 : a8.IsWhole)
  (a9 : Memref sig .tc .vmem S4352x128 .bf16) (h9 : a9.IsWhole) (a10 : Memref sig .tc .vmem S4352x128 .bf16) (h10 : a10.IsWhole)
  (a11 : Memref sig .tc .vmem S4352x128 .f32) (h11 : a11.IsWhole) (a12 : Memref sig .tc .vmem S4352x128 .f32) (h12 : a12.IsWhole)
  {x0 : Vec Ideal S256x512 .f32} {x1 : Vec Ideal S4352x128 .bf16} {x2 : Vec Ideal S4352x128 .bf16} {x3 : Vec Ideal S256x512 .bf16}
  {x4 : Vec Ideal S256x128 .f32} {x5 : Vec Ideal S256x512 .bf16} (xs0 : Vec Ideal S4352x128 .f32) (xs1 : Vec Ideal S4352x128 .f32)
  {Q G : Fin 2 → Fin 4 → Fin 256 → Fin 64 → ℝ} {K V : Fin 2 → Fin 4352 → Fin 64 → ℝ} (B : Blk x0 x3 x4 x5 Q G K V)
  (hx1 : ∀ g c d, x1 (ix2 c (kcol g d)) = (K g c d : EReal)) (hx2 : ∀ g c d, x2 (ix2 c (kcol g d)) = (V g c d : EReal))

include B hx1 hx2 in
theorem dk (hc0 hc1 hc2 hc3) (g : Fin 2) (c : Fin 4352) (d : Fin 64) :
    sout0_B_0 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 c (kcol g d))
      = xs0 (ix2 c (kcol g d)) + ((∑ R, ds (sc (Q g (hd R) (rw' R)) (K g)) (dp (G g (hd R) (rw' R)) (V g)) c * (Q g (hd R) (rw' R) d * (8 : ℝ)⁻¹) : ℝ) : EReal) := by
  unfold sout0_B_0
  rw [View.read_writes_junk_eq_canon]
  unfold kernelRun0_B
  dsimp only
  sl_unfold_words
  simp only [View.readAt_eq_ld, h2.read_unread, h3.read_unread, h4.read_unread, h5.read_unread, h6.read_unread, h7.read_unread, h11.read_unread, h12.read_unread]
  simp only [f_qb0, f_qs0, f_g0, f_d0, f_qb1, f_qs1, f_g1, f_d1, e62, e63, e64, e65, e66, e69, e71, e72, e75, e76, e78, e81, e82, e83, e84, e86,
    e87, e88, e95, e96, e97, e101, e102, e103, e104, e105, e111, e113, e116, e117, e118, e122, e123, e13, e14, e15, e16]
  have S0 := stk0 B
  have S1 := stk1 B
  exact ten _ _ _ _ _ _ _ _ _ _ (fun g c d => xs0 (ix2 c (kcol g d)) + ((∑ R, ds (sc (Q g (hd R) (rw' R)) (K g)) (dp (G g (hd R) (rw' R)) (V g)) c * (Q g (hd R) (rw' R) d * (8 : ℝ)⁻¹) : ℝ) : EReal)) g c d
    (kn S1 (hx1 1) (hx2 1) rfl xs0) (kw S1 (hx1 1) (hx2 1) 3 rfl rfl xs0) (kw S1 (hx1 1) (hx2 1) 2 rfl rfl xs0) (kw S1 (hx1 1) (hx2 1) 1 rfl rfl xs0)
    (kw S1 (hx1 1) (hx2 1) 0 rfl rfl xs0)
    (kn S0 (hx1 0) (hx2 0) rfl xs0) (kw S0 (hx1 0) (hx2 0) 3 rfl rfl xs0) (kw S0 (hx1 0) (hx2 0) 2 rfl rfl xs0) (kw S0 (hx1 0) (hx2 0) 1 rfl rfl xs0)
    (kw S0 (hx1 0) (hx2 0) 0 rfl rfl xs0)

include B hx1 in
theorem dv (hc0 hc1 hc2 hc3) (g : Fin 2) (c : Fin 4352) (d : Fin 64) :
    sout0_B_1 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 c (kcol g d))
      = xs1 (ix2 c (kcol g d)) + ((∑ R, pr (sc (Q g (hd R) (rw' R)) (K g)) c * G g (hd R) (rw' R) d : ℝ) : EReal) := by
  unfold sout0_B_1
  rw [View.read_writes_junk_eq_canon]
  unfold kernelRun0_B
  dsimp only
  sl_unfold_words
  simp only [View.readAt_eq_ld, h2.read_unread, h3.read_unread, h4.read_unread, h5.read_unread, h6.read_unread, h7.read_unread, h11.read_unread, h12.read_unread]
  simp only [f_qb0, f_qs0, f_g0, f_d0, f_qb1, f_qs1, f_g1, f_d1, e62, e63, e64, e65, e66, e69, e71, e72, e75, e76, e78, e81, e82, e83, e84, e86,
    e87, e88, e95, e96, e97, e101, e102, e103, e104, e105, e111, e113, e116, e117, e118, e122, e123, e13, e14, e15, e16]
  have S0 := stk0 B
  have S1 := stk1 B
  exact ten _ _ _ _ _ _ _ _ _ _ (fun g c d => xs1 (ix2 c (kcol g d)) + ((∑ R, pr (sc (Q g (hd R) (rw' R)) (K g)) c * G g (hd R) (rw' R) d : ℝ) : EReal)) g c d
    (vn S1 (hx1 1) rfl xs1) (vw S1 (hx1 1) 3 rfl rfl xs1) (vw S1 (hx1 1) 2 rfl rfl xs1) (vw S1 (hx1 1) 1 rfl rfl xs1) (vw S1 (hx1 1) 0 rfl rfl xs1)
    (vn S0 (hx1 0) rfl xs1) (vw S0 (hx1 0) 3 rfl rfl xs1) (vw S0 (hx1 0) 2 rfl rfl xs1) (vw S0 (hx1 0) 1 rfl rfl xs1) (vw S0 (hx1 0) 0 rfl rfl xs1)

include B hx1 hx2 in
theorem dq (hc0 hc1 hc2 hc3) (g : Fin 2) (j : Fin 4) (r : Fin 256) (d : Fin 64) :
    out0_B_6 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 r (qcol g j d))
      = (((∑ c, ds (sc (Q g j r) (K g)) (dp (G g j r) (V g)) c * K g c d) * (8 : ℝ)⁻¹ : ℝ) : EReal) := by
  unfold out0_B_6
  rw [View.read_writes_junk_eq_canon]
  unfold kernelRun0_B
  dsimp only
  sl_unfold_words
  simp only [View.readAt_eq_ld, h2.read_unread, h3.read_unread, h4.read_unread, h5.read_unread, h6.read_unread, h7.read_unread, h11.read_unread, h12.read_unread]
  simp only [f_qb0, f_qs0, f_g0, f_d0, f_qb1, f_qs1, f_g1, f_d1, e62, e63, e64, e65, e66, e69, e71, e72, e75, e76, e78, e81, e82, e83, e84, e86,
    e87, e88, e95, e96, e97, e101, e102, e103, e104, e105, e111, e113, e116, e117, e118, e122, e123, e13, e14, e15, e16]
  have S0 := stk0 B
  have S1 := stk1 B
  have q0 := fun R e => qsum S0 (hx1 0) (hx2 0) (i0 := inb_S4352x128_S1024x64_0_0) (j0 := inb_S4352x128_S1024x64_0_0)
    (i1 := inb_S4352x128_S1024x64_1024_0) (j1 := inb_S4352x128_S1024x64_1024_0) (i2 := inb_S4352x128_S1024x64_2048_0) (j2 := inb_S4352x128_S1024x64_2048_0)
    (i3 := inb_S4352x128_S1024x64_3072_0) (j3 := inb_S4352x128_S1024x64_3072_0) (i4 := inb_S4352x128_S256x64_4096_0) (j4 := inb_S4352x128_S256x64_4096_0) rfl R e
  have q1 := fun R e => qsum S1 (hx1 1) (hx2 1) (i0 := inb_S4352x128_S1024x64_0_64) (j0 := inb_S4352x128_S1024x64_0_64)
    (i1 := inb_S4352x128_S1024x64_1024_64) (j1 := inb_S4352x128_S1024x64_1024_64) (i2 := inb_S4352x128_S1024x64_2048_64) (j2 := inb_S4352x128_S1024x64_2048_64)
    (i3 := inb_S4352x128_S1024x64_3072_64) (j3 := inb_S4352x128_S1024x64_3072_64) (i4 := inb_S4352x128_S256x64_4096_64) (j4 := inb_S4352x128_S256x64_4096_64) rfl R e
  refine eight (e := .f32) _ _ _ _ _ _ _ _ (fun g j r d => (((∑ c, ds (sc (Q g j r) (K g)) (dp (G g j r) (V g)) c * K g c d) * (8 : ℝ)⁻¹ : ℝ) : EReal)) g j r d ?_ ?_ ?_ ?_ ?_ ?_ ?_ ?_
  · exact fun r d => (slice3 _ _ _ _ _ r d).trans ((q1 (stk 3 r) d).trans (by rw [hd_stk, rw_stk]))
  · exact fun r d => (slice2 _ _ _ _ _ r d).trans ((q1 (stk 2 r) d).trans (by rw [hd_stk, rw_stk]))
  · exact fun r d => (slice1 _ _ _ _ _ r d).trans ((q1 (stk 1 r) d).trans (by rw [hd_stk, rw_stk]))
  · exact fun r d => (slice0 _ _ _ _ _ r d).trans ((q1 (stk 0 r) d).trans (by rw [hd_stk, rw_stk]))
  · exact fun r d => (slice3 _ _ _ _ _ r d).trans ((q0 (stk 3 r) d).trans (by rw [hd_stk, rw_stk]))
  · exact fun r d => (slice2 _ _ _ _ _ r d).trans ((q0 (stk 2 r) d).trans (by rw [hd_stk, rw_stk]))
  · exact fun r d => (slice1 _ _ _ _ _ r d).trans ((q0 (stk 1 r) d).trans (by rw [hd_stk, rw_stk]))
  · exact fun r d => (slice0 _ _ _ _ _ r d).trans ((q0 (stk 0 r) d).trans (by rw [hd_stk, rw_stk]))

end Cert.GroupedIdeal.TileB

end
-- ==== Proof.GroupedTileC.lean ====
/- What a latent point of a batch, the last, leaves in the query gradient's block and in the two accumulators of the grouped kernel, read at an
   index: the real formulas of Soft over the point's blocks. -/
module

public import proofs.«01_k».proof.Proof.GroupedTile

@[expose] public section

noncomputable section

namespace Cert.GroupedIdeal.TileC

open Cert.GroupedIdeal Cert.GroupedIdeal.Gen Idealize.ShloMosaic Idealize.ShloMosaic.TcCoe Cert.Soft
open Cert.KernelIdeal (readCov_whole)

variable (cc : Dev nD) (i : grid0.Coords) (a2 : Memref sig .tc .vmem S256x512 .f32) (h2 : a2.IsWhole)
  (a3 : Memref sig .tc .vmem S4352x128 .bf16) (h3 : a3.IsWhole) (a4 : Memref sig .tc .vmem S4352x128 .bf16) (h4 : a4.IsWhole)
  (a5 : Memref sig .tc .vmem S256x512 .bf16) (h5 : a5.IsWhole) (a6 : Memref sig .tc .vmem S256x128 .f32) (h6 : a6.IsWhole)
  (a7 : Memref sig .tc .vmem S256x512 .bf16) (h7 : a7.IsWhole) (a8 : Memref sig .tc .vmem S256x512 .f32) (h8 : a8.IsWhole)
  (a9 : Memref sig .tc .vmem S4352x128 .bf16) (h9 : a9.IsWhole) (a10 : Memref sig .tc .vmem S4352x128 .bf16) (h10 : a10.IsWhole)
  (a11 : Memref sig .tc .vmem S4352x128 .f32) (h11 : a11.IsWhole) (a12 : Memref sig .tc .vmem S4352x128 .f32) (h12 : a12.IsWhole)
  {x0 : Vec Ideal S256x512 .f32} {x1 : Vec Ideal S4352x128 .bf16} {x2 : Vec Ideal S4352x128 .bf16} {x3 : Vec Ideal S256x512 .bf16}
  {x4 : Vec Ideal S256x128 .f32} {x5 : Vec Ideal S256x512 .bf16} (xs0 : Vec Ideal S4352x128 .f32) (xs1 : Vec Ideal S4352x128 .f32)
  {Q G : Fin 2 → Fin 4 → Fin 256 → Fin 64 → ℝ} {K V : Fin 2 → Fin 4352 → Fin 64 → ℝ} (B : Blk x0 x3 x4 x5 Q G K V)
  (hx1 : ∀ g c d, x1 (ix2 c (kcol g d)) = (K g c d : EReal)) (hx2 : ∀ g c d, x2 (ix2 c (kcol g d)) = (V g c d : EReal))

include B hx1 hx2 in
theorem dk (hc0 hc1 hc2 hc3) (g : Fin 2) (c : Fin 4352) (d : Fin 64) :
    sout0_C_0 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 c (kcol g d))
      = xs0 (ix2 c (kcol g d)) + ((∑ R, ds (sc (Q g (hd R) (rw' R)) (K g)) (dp (G g (hd R) (rw' R)) (V g)) c * (Q g (hd R) (rw' R) d * (8 : ℝ)⁻¹) : ℝ) : EReal) := by
  unfold sout0_C_0
  rw [View.read_writes_junk_eq_canon]
  unfold kernelRun0_C
  dsimp only
  sl_unfold_words
  simp only [View.readAt_eq_ld, h2.read_unread, h3.read_unread, h4.read_unread, h5.read_unread, h6.read_unread, h7.read_unread, h11.read_unread, h12.read_unread]
  simp only [f_qb0, f_qs0, f_g0, f_d0, f_qb1, f_qs1, f_g1, f_d1, e62, e63, e64, e65, e66, e69, e71, e72, e75, e76, e78, e81, e82, e83, e84, e86,
    e87, e88, e95, e96, e97, e101, e102, e103, e104, e105, e111, e113, e116, e117, e118, e122, e123, e13, e14, e15, e16]
  have S0 := stk0 B
  have S1 := stk1 B
  exact ten _ _ _ _ _ _ _ _ _ _ (fun g c d => xs0 (ix2 c (kcol g d)) + ((∑ R, ds (sc (Q g (hd R) (rw' R)) (K g)) (dp (G g (hd R) (rw' R)) (V g)) c * (Q g (hd R) (rw' R) d * (8 : ℝ)⁻¹) : ℝ) : EReal)) g c d
    (kn S1 (hx1 1) (hx2 1) rfl xs0) (kw S1 (hx1 1) (hx2 1) 3 rfl rfl xs0) (kw S1 (hx1 1) (hx2 1) 2 rfl rfl xs0) (kw S1 (hx1 1) (hx2 1) 1 rfl rfl xs0)
    (kw S1 (hx1 1) (hx2 1) 0 rfl rfl xs0)
    (kn S0 (hx1 0) (hx2 0) rfl xs0) (kw S0 (hx1 0) (hx2 0) 3 rfl rfl xs0) (kw S0 (hx1 0) (hx2 0) 2 rfl rfl xs0) (kw S0 (hx1 0) (hx2 0) 1 rfl rfl xs0)
    (kw S0 (hx1 0) (hx2 0) 0 rfl rfl xs0)

include B hx1 in
theorem dv (hc0 hc1 hc2 hc3) (g : Fin 2) (c : Fin 4352) (d : Fin 64) :
    sout0_C_1 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 c (kcol g d))
      = xs1 (ix2 c (kcol g d)) + ((∑ R, pr (sc (Q g (hd R) (rw' R)) (K g)) c * G g (hd R) (rw' R) d : ℝ) : EReal) := by
  unfold sout0_C_1
  rw [View.read_writes_junk_eq_canon]
  unfold kernelRun0_C
  dsimp only
  sl_unfold_words
  simp only [View.readAt_eq_ld, h2.read_unread, h3.read_unread, h4.read_unread, h5.read_unread, h6.read_unread, h7.read_unread, h11.read_unread, h12.read_unread]
  simp only [f_qb0, f_qs0, f_g0, f_d0, f_qb1, f_qs1, f_g1, f_d1, e62, e63, e64, e65, e66, e69, e71, e72, e75, e76, e78, e81, e82, e83, e84, e86,
    e87, e88, e95, e96, e97, e101, e102, e103, e104, e105, e111, e113, e116, e117, e118, e122, e123, e13, e14, e15, e16]
  have S0 := stk0 B
  have S1 := stk1 B
  exact ten _ _ _ _ _ _ _ _ _ _ (fun g c d => xs1 (ix2 c (kcol g d)) + ((∑ R, pr (sc (Q g (hd R) (rw' R)) (K g)) c * G g (hd R) (rw' R) d : ℝ) : EReal)) g c d
    (vn S1 (hx1 1) rfl xs1) (vw S1 (hx1 1) 3 rfl rfl xs1) (vw S1 (hx1 1) 2 rfl rfl xs1) (vw S1 (hx1 1) 1 rfl rfl xs1) (vw S1 (hx1 1) 0 rfl rfl xs1)
    (vn S0 (hx1 0) rfl xs1) (vw S0 (hx1 0) 3 rfl rfl xs1) (vw S0 (hx1 0) 2 rfl rfl xs1) (vw S0 (hx1 0) 1 rfl rfl xs1) (vw S0 (hx1 0) 0 rfl rfl xs1)

include B hx1 hx2 in
theorem dq (hc0 hc1 hc2 hc3) (g : Fin 2) (j : Fin 4) (r : Fin 256) (d : Fin 64) :
    out0_C_6 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 r (qcol g j d))
      = (((∑ c, ds (sc (Q g j r) (K g)) (dp (G g j r) (V g)) c * K g c d) * (8 : ℝ)⁻¹ : ℝ) : EReal) := by
  unfold out0_C_6
  rw [View.read_writes_junk_eq_canon]
  unfold kernelRun0_C
  dsimp only
  sl_unfold_words
  simp only [View.readAt_eq_ld, h2.read_unread, h3.read_unread, h4.read_unread, h5.read_unread, h6.read_unread, h7.read_unread, h11.read_unread, h12.read_unread]
  simp only [f_qb0, f_qs0, f_g0, f_d0, f_qb1, f_qs1, f_g1, f_d1, e62, e63, e64, e65, e66, e69, e71, e72, e75, e76, e78, e81, e82, e83, e84, e86,
    e87, e88, e95, e96, e97, e101, e102, e103, e104, e105, e111, e113, e116, e117, e118, e122, e123, e13, e14, e15, e16]
  have S0 := stk0 B
  have S1 := stk1 B
  have q0 := fun R e => qsum S0 (hx1 0) (hx2 0) (i0 := inb_S4352x128_S1024x64_0_0) (j0 := inb_S4352x128_S1024x64_0_0)
    (i1 := inb_S4352x128_S1024x64_1024_0) (j1 := inb_S4352x128_S1024x64_1024_0) (i2 := inb_S4352x128_S1024x64_2048_0) (j2 := inb_S4352x128_S1024x64_2048_0)
    (i3 := inb_S4352x128_S1024x64_3072_0) (j3 := inb_S4352x128_S1024x64_3072_0) (i4 := inb_S4352x128_S256x64_4096_0) (j4 := inb_S4352x128_S256x64_4096_0) rfl R e
  have q1 := fun R e => qsum S1 (hx1 1) (hx2 1) (i0 := inb_S4352x128_S1024x64_0_64) (j0 := inb_S4352x128_S1024x64_0_64)
    (i1 := inb_S4352x128_S1024x64_1024_64) (j1 := inb_S4352x128_S1024x64_1024_64) (i2 := inb_S4352x128_S1024x64_2048_64) (j2 := inb_S4352x128_S1024x64_2048_64)
    (i3 := inb_S4352x128_S1024x64_3072_64) (j3 := inb_S4352x128_S1024x64_3072_64) (i4 := inb_S4352x128_S256x64_4096_64) (j4 := inb_S4352x128_S256x64_4096_64) rfl R e
  refine eight (e := .f32) _ _ _ _ _ _ _ _ (fun g j r d => (((∑ c, ds (sc (Q g j r) (K g)) (dp (G g j r) (V g)) c * K g c d) * (8 : ℝ)⁻¹ : ℝ) : EReal)) g j r d ?_ ?_ ?_ ?_ ?_ ?_ ?_ ?_
  · exact fun r d => (slice3 _ _ _ _ _ r d).trans ((q1 (stk 3 r) d).trans (by rw [hd_stk, rw_stk]))
  · exact fun r d => (slice2 _ _ _ _ _ r d).trans ((q1 (stk 2 r) d).trans (by rw [hd_stk, rw_stk]))
  · exact fun r d => (slice1 _ _ _ _ _ r d).trans ((q1 (stk 1 r) d).trans (by rw [hd_stk, rw_stk]))
  · exact fun r d => (slice0 _ _ _ _ _ r d).trans ((q1 (stk 0 r) d).trans (by rw [hd_stk, rw_stk]))
  · exact fun r d => (slice3 _ _ _ _ _ r d).trans ((q0 (stk 3 r) d).trans (by rw [hd_stk, rw_stk]))
  · exact fun r d => (slice2 _ _ _ _ _ r d).trans ((q0 (stk 2 r) d).trans (by rw [hd_stk, rw_stk]))
  · exact fun r d => (slice1 _ _ _ _ _ r d).trans ((q0 (stk 1 r) d).trans (by rw [hd_stk, rw_stk]))
  · exact fun r d => (slice0 _ _ _ _ _ r d).trans ((q0 (stk 0 r) d).trans (by rw [hd_stk, rw_stk]))

theorem cast7 (X : Vec Ideal S4352x128 .f32) (y : S4352x128.Idx) : k0_pay17 (F := Ideal) X y = X y := rfl
theorem cast8 (X : Vec Ideal S4352x128 .f32) (y : S4352x128.Idx) : k0_pay18 (F := Ideal) X y = X y := rfl

/-- The last point casts the accumulators out. -/
theorem out7 (hc0 hc1 hc2 hc3) (y : S4352x128.Idx) :
    out0_C_7 (F := Ideal) cc i a2 h2 a3 h3 a4 h4 a5 h5 a6 h6 a7 h7 a8 h8 a9 h9 a10 h10 a11 h11 a12 h12 hc0 hc1 hc2 hc3
      x0 x1 x2 x3 x4 x5 xs0 xs1 y
      = sout0_C_0 (F := Ideal) cc i a2 h2 a3 h3 a4 h4 a5 h5 a6 h6 a7 h7 a8 h8 a9 h9 a10 h10 a11 h11 a12 h12 hc0 hc1 hc2 hc3
      x0 x1 x2 x3 x4 x5 xs0 xs1 y := by
  unfold out0_C_7 sout0_C_0
  rw [View.read_writes_junk_eq_canon, View.read_writes_junk_eq_canon]
  unfold kernelRun0_C
  dsimp only
  sl_unfold_words
  rw [View.canon_unit_zero (by decide)]
  exact (cast7 _ y).trans (congrFun (readCov_whole _ _) y)

theorem out8 (hc0 hc1 hc2 hc3) (y : S4352x128.Idx) :
    out0_C_8 (F := Ideal) cc i a2 h2 a3 h3 a4 h4 a5 h5 a6 h6 a7 h7 a8 h8 a9 h9 a10 h10 a11 h11 a12 h12 hc0 hc1 hc2 hc3
      x0 x1 x2 x3 x4 x5 xs0 xs1 y
      = sout0_C_1 (F := Ideal) cc i a2 h2 a3 h3 a4 h4 a5 h5 a6 h6 a7 h7 a8 h8 a9 h9 a10 h10 a11 h11 a12 h12 hc0 hc1 hc2 hc3
      x0 x1 x2 x3 x4 x5 xs0 xs1 y := by
  unfold out0_C_8 sout0_C_1
  rw [View.read_writes_junk_eq_canon, View.read_writes_junk_eq_canon]
  unfold kernelRun0_C
  dsimp only
  sl_unfold_words
  rw [View.canon_unit_zero (by decide)]
  exact (cast8 _ y).trans (congrFun (readCov_whole _ _) y)

end Cert.GroupedIdeal.TileC

end
-- ==== Proof.PayCtx.lean ====
/- What the kernel's straight-line text computes, head by head, where only the 256 keys of the context are in play: the weights, the gradient of the scores,
   and the three updates, read at an index as the real formulas of Row. -/
module

public import proofs.«01_k».proof.Proof.Gen.KernelIdeal.Frame
public import proofs.«01_k».proof.Proof.Lane

@[expose] public section

noncomputable section

namespace Cert.KernelIdeal.PayCtx

open Cert.KernelIdeal Cert.KernelIdeal.Gen Idealize.ShloMosaic Idealize.ShloMosaic.TcCoe Cert.AttnGrad

variable {q : Vec Ideal S256x128 .f32} {k : Vec Ideal S256x128 .bf16} {v : Vec Ideal S256x64 .bf16}
  {g o : Vec Ideal S256x64 .bf16} {l : Vec Ideal S256x128 .f32}
  {Q : Fin 256 → Fin 128 → ℝ} {K : Fin 256 → Fin 128 → ℝ} {V : Fin 256 → Fin 64 → ℝ} {G : Fin 256 → Fin 64 → ℝ}

/-- The numbers of the lanes. -/
abbrev lanes : IVec S256x128 32 := iota Kind.tc S256x128 32 [1] iota_S256x128_d1_w32

/-! ### Head 0 -/

theorem p0 (hq : ∀ r d, q (ix2 r d) = (Q r d : EReal))
    (hk : ∀ c d, k (ix2 c d) = (K c d : EReal)) (hl : ∀ r, l (ix2 r 0) = (ls (Q r) K : EReal)) (r : Fin 256) (c : Fin 256) :
    k0_pay9 (F := Ideal) lanes l q k (ix2 r c) = (pr (Q r) K c : EReal) := by
  pointwise [k0_pay9, k0_pay5, lanes]
  rw [lane_sum 0 0 (by decide)]
  simp only [hq, hk, hl, scale_log2e]
  exact pr_kernel _ _ _

theorem ds0 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 0) = (ls (Q r) K : EReal)) (r : Fin 256) (c : Fin 256) :
    k0_pay10 (F := Ideal) lanes l q g o k v (ix2 r c) = (ds (Q r) K V (G r) c : EReal) := by
  have hp := p0 hq hk hl r c
  pointwise [k0_pay10, k0_pay7, k0_pay8]
  rw [hp]
  simp only [hv, hg, ho, dp_coe]
  exact ds_kernel _ _ _ _ _

theorem ak0 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 0) = (ls (Q r) K : EReal)) (a : Vec Ideal S256x128 .f32) (c : Fin 256) (d : Fin 128) :
    k0_pay12 (F := Ideal) (k0_pay6 q) (k0_pay10 lanes l q g o k v) a (ix2 c d)
      = a (ix2 c d) + ((∑ r, ds (Q r) K V (G r) c * (Q r d * (Real.sqrt 96)⁻¹) : ℝ) : EReal) := by
  have hd := fun r => ds0 hq hk hv hg ho hl r c
  pointwise [k0_pay12, k0_pay6]
  simp only [hd, hq, scale, ← EReal.coe_mul, sum_coe]

theorem av0 (hq : ∀ r d, q (ix2 r d) = (Q r d : EReal))
    (hk : ∀ c d, k (ix2 c d) = (K c d : EReal))
    (hg : ∀ r e, g (ix2 r e) = (G r e : EReal)) (hl : ∀ r, l (ix2 r 0) = (ls (Q r) K : EReal)) (a : Vec Ideal S256x64 .f32) (c : Fin 256) (e : Fin 64) :
    k0_pay13 (F := Ideal) (k0_pay8 g) (k0_pay9 lanes l q k) a (ix2 c e)
      = a (ix2 c e) + ((∑ r, pr (Q r) K c * G r e : ℝ) : EReal) := by
  have hp := fun r => p0 hq hk hl r c
  pointwise [k0_pay13, k0_pay8, k0_pay7]
  simp only [hp, hg, ← EReal.coe_mul, sum_coe]

theorem dq0 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 0) = (ls (Q r) K : EReal)) (r : Fin 256) (d : Fin 128) :
    k0_pay14 (F := Ideal) (k0_pay11 lanes l q g o k v) (ix2 r d)
      = (((∑ c, ds (Q r) K V (G r) c * K c d) * (Real.sqrt 96)⁻¹ : ℝ) : EReal) := by
  have hd := fun c => ds0 hq hk hv hg ho hl r c
  pointwise [k0_pay14, k0_pay11]
  simp only [hd, hk, scale, ← EReal.coe_mul, sum_coe]

/-! ### Head 1 -/

theorem p1 (hq : ∀ r d, q (ix2 r d) = (Q r d : EReal))
    (hk : ∀ c d, k (ix2 c d) = (K c d : EReal)) (hl : ∀ r, l (ix2 r 1) = (ls (Q r) K : EReal)) (r : Fin 256) (c : Fin 256) :
    k0_pay21 (F := Ideal) (k0_pay15 q) (k0_pay19 lanes (k0_pay5 l)) k (ix2 r c) = (pr (Q r) K c : EReal) := by
  pointwise [k0_pay21, k0_pay15, k0_pay19, k0_pay5, lanes]
  rw [lane_sum 0 1 (by decide)]
  simp only [hq, hk, hl, scale_log2e]
  exact pr_kernel _ _ _

theorem ds1 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 1) = (ls (Q r) K : EReal)) (r : Fin 256) (c : Fin 256) :
    k0_pay22 (F := Ideal) (k0_pay15 q) (k0_pay17 g) (k0_pay18 o) (k0_pay19 lanes (k0_pay5 l)) k v (ix2 r c) = (ds (Q r) K V (G r) c : EReal) := by
  have hp := p1 hq hk hl r c
  pointwise [k0_pay22, k0_pay17, k0_pay18, k0_pay20]
  rw [hp]
  simp only [hv, hg, ho, dp_coe]
  exact ds_kernel _ _ _ _ _

theorem ak1 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 1) = (ls (Q r) K : EReal)) (a : Vec Ideal S256x128 .f32) (c : Fin 256) (d : Fin 128) :
    k0_pay23 (F := Ideal) (k0_pay15 q) (k0_pay16 q) (k0_pay17 g) (k0_pay18 o) (k0_pay19 lanes (k0_pay5 l)) k v a (ix2 c d)
      = a (ix2 c d) + ((∑ r, ds (Q r) K V (G r) c * (Q r d * (Real.sqrt 96)⁻¹) : ℝ) : EReal) := by
  have hd := fun r => ds1 hq hk hv hg ho hl r c
  pointwise [k0_pay23, k0_pay16]
  simp only [hd, hq, scale, ← EReal.coe_mul, sum_coe]

theorem av1 (hq : ∀ r d, q (ix2 r d) = (Q r d : EReal))
    (hk : ∀ c d, k (ix2 c d) = (K c d : EReal))
    (hg : ∀ r e, g (ix2 r e) = (G r e : EReal)) (hl : ∀ r, l (ix2 r 1) = (ls (Q r) K : EReal)) (a : Vec Ideal S256x64 .f32) (c : Fin 256) (e : Fin 64) :
    k0_pay24 (F := Ideal) (k0_pay15 q) (k0_pay17 g) (k0_pay19 lanes (k0_pay5 l)) k a (ix2 c e)
      = a (ix2 c e) + ((∑ r, pr (Q r) K c * G r e : ℝ) : EReal) := by
  have hp := fun r => p1 hq hk hl r c
  pointwise [k0_pay24, k0_pay17, k0_pay20]
  simp only [hp, hg, ← EReal.coe_mul, sum_coe]

theorem dq1 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 1) = (ls (Q r) K : EReal)) (r : Fin 256) (d : Fin 128) :
    k0_pay25 (F := Ideal) (k0_pay15 q) (k0_pay17 g) (k0_pay18 o) (k0_pay19 lanes (k0_pay5 l)) k v (ix2 r d)
      = (((∑ c, ds (Q r) K V (G r) c * K c d) * (Real.sqrt 96)⁻¹ : ℝ) : EReal) := by
  have hd := fun c => ds1 hq hk hv hg ho hl r c
  pointwise [k0_pay25]
  simp only [hd, hk, scale, ← EReal.coe_mul, sum_coe]

/-! ### Head 2 -/

theorem p2 (hq : ∀ r d, q (ix2 r d) = (Q r d : EReal))
    (hk : ∀ c d, k (ix2 c d) = (K c d : EReal)) (hl : ∀ r, l (ix2 r 2) = (ls (Q r) K : EReal)) (r : Fin 256) (c : Fin 256) :
    k0_pay29 (F := Ideal) lanes (k0_pay5 l) q k (ix2 r c) = (pr (Q r) K c : EReal) := by
  pointwise [k0_pay29, k0_pay5, lanes]
  rw [lane_sum 0 2 (by decide)]
  simp only [hq, hk, hl, scale_log2e]
  exact pr_kernel _ _ _

theorem ds2 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 2) = (ls (Q r) K : EReal)) (r : Fin 256) (c : Fin 256) :
    k0_pay30 (F := Ideal) lanes (k0_pay5 l) q g o k v (ix2 r c) = (ds (Q r) K V (G r) c : EReal) := by
  have hp := p2 hq hk hl r c
  pointwise [k0_pay30, k0_pay27, k0_pay28]
  rw [hp]
  simp only [hv, hg, ho, dp_coe]
  exact ds_kernel _ _ _ _ _

theorem ak2 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 2) = (ls (Q r) K : EReal)) (a : Vec Ideal S256x128 .f32) (c : Fin 256) (d : Fin 128) :
    k0_pay32 (F := Ideal) (k0_pay26 q) (k0_pay30 lanes (k0_pay5 l) q g o k v) a (constant S256x128 .f32 0x00000000#32) (ix2 c d)
      = a (ix2 c d) + ((∑ r, ds (Q r) K V (G r) c * (Q r d * (Real.sqrt 96)⁻¹) : ℝ) : EReal) := by
  have hd := fun r => ds2 hq hk hv hg ho hl r c
  pointwise [k0_pay32, k0_pay26]
  simp only [hd, hq, scale, ← EReal.coe_mul, sum_coe]

theorem av2 (hq : ∀ r d, q (ix2 r d) = (Q r d : EReal))
    (hk : ∀ c d, k (ix2 c d) = (K c d : EReal))
    (hg : ∀ r e, g (ix2 r e) = (G r e : EReal)) (hl : ∀ r, l (ix2 r 2) = (ls (Q r) K : EReal)) (a : Vec Ideal S256x64 .f32) (c : Fin 256) (e : Fin 64) :
    k0_pay33 (F := Ideal) (k0_pay28 g) (k0_pay29 lanes (k0_pay5 l) q k) a (ix2 c e)
      = a (ix2 c e) + ((∑ r, pr (Q r) K c * G r e : ℝ) : EReal) := by
  have hp := fun r => p2 hq hk hl r c
  pointwise [k0_pay33, k0_pay28, k0_pay27]
  simp only [hp, hg, ← EReal.coe_mul, sum_coe]

theorem dq2 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 2) = (ls (Q r) K : EReal)) (r : Fin 256) (d : Fin 128) :
    k0_pay34 (F := Ideal) (k0_pay31 lanes (k0_pay5 l) q g o k v) (ix2 r d)
      = (((∑ c, ds (Q r) K V (G r) c * K c d) * (Real.sqrt 96)⁻¹ : ℝ) : EReal) := by
  have hd := fun c => ds2 hq hk hv hg ho hl r c
  pointwise [k0_pay34, k0_pay31]
  simp only [hd, hk, scale, ← EReal.coe_mul, sum_coe]

/-! ### Head 3 -/

theorem p3 (hq : ∀ r d, q (ix2 r d) = (Q r d : EReal))
    (hk : ∀ c d, k (ix2 c d) = (K c d : EReal)) (hl : ∀ r, l (ix2 r 3) = (ls (Q r) K : EReal)) (r : Fin 256) (c : Fin 256) :
    k0_pay41 (F := Ideal) (k0_pay35 q) (k0_pay38 lanes (k0_pay5 l)) k (ix2 r c) = (pr (Q r) K c : EReal) := by
  pointwise [k0_pay41, k0_pay35, k0_pay38, k0_pay5, lanes]
  rw [lane_sum 0 3 (by decide)]
  simp only [hq, hk, hl, scale_log2e]
  exact pr_kernel _ _ _

theorem ds3 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 3) = (ls (Q r) K : EReal)) (r : Fin 256) (c : Fin 256) :
    k0_pay42 (F := Ideal) (k0_pay35 q) (k0_pay37 g) (k0_pay38 lanes (k0_pay5 l)) (k0_pay39 g o) k v (ix2 r c) = (ds (Q r) K V (G r) c : EReal) := by
  have hp := p3 hq hk hl r c
  pointwise [k0_pay42, k0_pay37, k0_pay39, k0_pay40]
  rw [hp]
  simp only [hv, hg, ho, dp_coe]
  exact ds_kernel _ _ _ _ _

theorem ak3 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 3) = (ls (Q r) K : EReal)) (a : Vec Ideal S256x128 .f32) (c : Fin 256) (d : Fin 128) :
    k0_pay43 (F := Ideal) (k0_pay35 q) (k0_pay36 q) (k0_pay37 g) (k0_pay38 lanes (k0_pay5 l)) (k0_pay39 g o) k v a (ix2 c d)
      = a (ix2 c d) + ((∑ r, ds (Q r) K V (G r) c * (Q r d * (Real.sqrt 96)⁻¹) : ℝ) : EReal) := by
  have hd := fun r => ds3 hq hk hv hg ho hl r c
  pointwise [k0_pay43, k0_pay36]
  simp only [hd, hq, scale, ← EReal.coe_mul, sum_coe]

theorem av3 (hq : ∀ r d, q (ix2 r d) = (Q r d : EReal))
    (hk : ∀ c d, k (ix2 c d) = (K c d : EReal))
    (hg : ∀ r e, g (ix2 r e) = (G r e : EReal)) (hl : ∀ r, l (ix2 r 3) = (ls (Q r) K : EReal)) (a : Vec Ideal S256x64 .f32) (c : Fin 256) (e : Fin 64) :
    k0_pay44 (F := Ideal) (k0_pay35 q) (k0_pay37 g) (k0_pay38 lanes (k0_pay5 l)) k a (ix2 c e)
      = a (ix2 c e) + ((∑ r, pr (Q r) K c * G r e : ℝ) : EReal) := by
  have hp := fun r => p3 hq hk hl r c
  pointwise [k0_pay44, k0_pay37, k0_pay40]
  simp only [hp, hg, ← EReal.coe_mul, sum_coe]

theorem dq3 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 3) = (ls (Q r) K : EReal)) (r : Fin 256) (d : Fin 128) :
    k0_pay45 (F := Ideal) (k0_pay35 q) (k0_pay37 g) (k0_pay38 lanes (k0_pay5 l)) (k0_pay39 g o) k v (ix2 r d)
      = (((∑ c, ds (Q r) K V (G r) c * K c d) * (Real.sqrt 96)⁻¹ : ℝ) : EReal) := by
  have hd := fun c => ds3 hq hk hv hg ho hl r c
  pointwise [k0_pay45]
  simp only [hd, hk, scale, ← EReal.coe_mul, sum_coe]

end Cert.KernelIdeal.PayCtx

end
-- ==== Proof.TileA.lean ====
/- What the first point of a batch (its 256 context queries, against the 256 context keys) leaves in the query gradient's
   block and in the two accumulators, read at an index: the real formulas of Row over the point's blocks. -/
module

public import proofs.«01_k».proof.Proof.PayCtx
public import proofs.«01_k».proof.Proof.Rank2

@[expose] public section

noncomputable section

namespace Cert.KernelIdeal.TileA

open Cert.KernelIdeal Cert.KernelIdeal.Gen Idealize.ShloMosaic Idealize.ShloMosaic.TcCoe Cert.AttnGrad

variable (cc : Dev nD) (i : grid0.Coords) (a2 : Memref sig .tc .vmem S256x512 .f32) (h2 : a2.IsWhole)
  (a3 : Memref sig .tc .vmem S4352x512 .bf16) (h3 : a3.IsWhole) (a4 : Memref sig .tc .vmem S4352x256 .bf16) (h4 : a4.IsWhole)
  (a5 : Memref sig .tc .vmem S256x256 .bf16) (h5 : a5.IsWhole) (a6 : Memref sig .tc .vmem S256x128 .f32) (h6 : a6.IsWhole)
  (a7 : Memref sig .tc .vmem S256x256 .bf16) (h7 : a7.IsWhole) (a8 : Memref sig .tc .vmem S256x512 .f32) (h8 : a8.IsWhole)
  (a9 : Memref sig .tc .vmem S4352x512 .bf16) (h9 : a9.IsWhole) (a10 : Memref sig .tc .vmem S4352x256 .bf16) (h10 : a10.IsWhole)
  (a11 : Memref sig .tc .vmem S4352x512 .f32) (h11 : a11.IsWhole) (a12 : Memref sig .tc .vmem S4352x256 .f32) (h12 : a12.IsWhole)
  {x0 : Vec Ideal S256x512 .f32} {x1 : Vec Ideal S4352x512 .bf16} {x2 : Vec Ideal S4352x256 .bf16} {x3 : Vec Ideal S256x256 .bf16}
  {x4 : Vec Ideal S256x128 .f32} {x5 : Vec Ideal S256x256 .bf16}
  {Q : Fin 4 → Fin 256 → Fin 128 → ℝ} {K : Fin 4 → Fin 256 → Fin 128 → ℝ} {V : Fin 4 → Fin 256 → Fin 64 → ℝ} {G : Fin 4 → Fin 256 → Fin 64 → ℝ}
  (hx0 : ∀ h r d, x0 (ix2 r (col128 h d)) = (Q h r d : EReal))
  (hx1 : ∀ h c d, x1 (ix2 (Fin.castLE ctx_le c) (col128 h d)) = (K h c d : EReal))
  (hx2 : ∀ h c e, x2 (ix2 (Fin.castLE ctx_le c) (col64 h e)) = (V h c e : EReal))
  (hx3 : ∀ h r e, x3 (ix2 r (col64 h e)) = (ob (Q h r) (K h) (V h) e : EReal))
  (hx4 : ∀ h r, x4 (ix2 r (lane h)) = (ls (Q h r) (K h) : EReal))
  (hx5 : ∀ h r e, x5 (ix2 r (col64 h e)) = (G h r e : EReal))

theorem zero128 (y : S4352x512.Idx) : k0_pay1 (F := Ideal) y = 0 := by
  unfold k0_pay1; exact Ideal.ofBits_zero_f32

theorem zero64 (y : S4352x256.Idx) : k0_pay2 (F := Ideal) y = 0 := by
  unfold k0_pay2; exact Ideal.ofBits_zero_f32

include hx0 hx1 hx2 hx3 hx4 hx5 in
theorem dk (hc0 hc1 hc2 hc3) (h : Fin 4) (c : Fin 256) (d : Fin 128) :
    sout0_A_0 (F := Ideal) cc i a2 h2 a3 h3 a4 h4 a5 h5 a6 h6 a7 h7 a8 h8 a9 h9 a10 h10 a11 h11 a12 h12 hc0 hc1 hc2 hc3
      x0 x1 x2 x3 x4 x5 (ix2 (Fin.castLE ctx_le c) (col128 h d))
      = ((∑ r, ds (Q h r) (K h) (V h) (G h r) c * (Q h r d * (Real.sqrt 96)⁻¹) : ℝ) : EReal) := by
  unfold sout0_A_0
  rw [View.read_writes_junk_eq_canon]
  unfold kernelRun0_A
  dsimp only
  sl_unfold_words
  simp only [View.readAt_eq_ld, h2.read_unread, h3.read_unread, h4.read_unread, h5.read_unread, h6.read_unread, h7.read_unread]
  match h with
  | 0 =>
    rw [canon_skip _ _ _ _ (by simp only [col128_val] <;> omega)]; rw [canon_skip _ _ _ _ (by simp only [col128_val] <;> omega)]; rw [canon_skip _ _ _ _ (by simp only [col128_val] <;> omega)]; rw [canon_hit _ _ c d _ _ (by simp) (by simp only [col128_val] <;> omega)]
    refine (PayCtx.ak0 (Q := Q 0) (K := K 0) (V := V 0) (G := G 0)
      (fun r d => (ld_at _ r d r (col128 0 d) (by omega) (by simp only [col128_val] <;> omega)).trans (hx0 0 r d))
      (fun c d => (ld_at _ c d (Fin.castLE ctx_le c) (col128 0 d) (by simp) (by simp only [col128_val] <;> omega)).trans (hx1 0 c d))
      (fun c e => (ld_at _ c e (Fin.castLE ctx_le c) (col64 0 e) (by simp) (by simp only [col64_val] <;> omega)).trans (hx2 0 c e))
      (fun r e => (ld_at _ r e r (col64 0 e) (by omega) (by simp only [col64_val] <;> omega)).trans (hx5 0 r e))
      (fun r e => (ld_at _ r e r (col64 0 e) (by omega) (by simp only [col64_val] <;> omega)).trans (hx3 0 r e))
      (fun r => (ld_at _ r _ r (lane 0) (by omega) (by simp [lane])).trans (hx4 0 r))
       _ c d).trans ?_
    rw [readCov_at _ _ c d (Fin.castLE ctx_le c) (col128 0 d) (by simp) (by simp only [col128_val] <;> omega)]
    rw [canon_hit _ _ (Fin.castLE ctx_le c) (col128 0 d) _ _ (by omega) (by omega)]
    rw [zero128, zero_add]
  | 1 =>
    rw [canon_skip _ _ _ _ (by simp only [col128_val] <;> omega)]; rw [canon_skip _ _ _ _ (by simp only [col128_val] <;> omega)]; rw [canon_hit _ _ c d _ _ (by simp) (by simp only [col128_val] <;> omega)]
    refine (PayCtx.ak1 (Q := Q 1) (K := K 1) (V := V 1) (G := G 1)
      (fun r d => (ld_at _ r d r (col128 1 d) (by omega) (by simp only [col128_val] <;> omega)).trans (hx0 1 r d))
      (fun c d => (ld_at _ c d (Fin.castLE ctx_le c) (col128 1 d) (by simp) (by simp only [col128_val] <;> omega)).trans (hx1 1 c d))
      (fun c e => (ld_at _ c e (Fin.castLE ctx_le c) (col64 1 e) (by simp) (by simp only [col64_val] <;> omega)).trans (hx2 1 c e))
      (fun r e => (ld_at _ r e r (col64 1 e) (by omega) (by simp only [col64_val] <;> omega)).trans (hx5 1 r e))
      (fun r e => (ld_at _ r e r (col64 1 e) (by omega) (by simp only [col64_val] <;> omega)).trans (hx3 1 r e))
      (fun r => (ld_at _ r _ r (lane 1) (by omega) (by simp [lane])).trans (hx4 1 r))
       _ c d).trans ?_
    rw [readCov_at _ _ c d (Fin.castLE ctx_le c) (col128 1 d) (by simp) (by simp only [col128_val] <;> omega)]
    rw [canon_skip _ _ _ _ (by simp only [col128_val] <;> omega)]; rw [canon_hit _ _ (Fin.castLE ctx_le c) (col128 1 d) _ _ (by omega) (by omega)]
    rw [zero128, zero_add]
  | 2 =>
    rw [canon_skip _ _ _ _ (by simp only [col128_val] <;> omega)]; rw [canon_hit _ _ c d _ _ (by simp) (by simp only [col128_val] <;> omega)]
    refine (PayCtx.ak2 (Q := Q 2) (K := K 2) (V := V 2) (G := G 2)
      (fun r d => (ld_at _ r d r (col128 2 d) (by omega) (by simp only [col128_val] <;> omega)).trans (hx0 2 r d))
      (fun c d => (ld_at _ c d (Fin.castLE ctx_le c) (col128 2 d) (by simp) (by simp only [col128_val] <;> omega)).trans (hx1 2 c d))
      (fun c e => (ld_at _ c e (Fin.castLE ctx_le c) (col64 2 e) (by simp) (by simp only [col64_val] <;> omega)).trans (hx2 2 c e))
      (fun r e => (ld_at _ r e r (col64 2 e) (by omega) (by simp only [col64_val] <;> omega)).trans (hx5 2 r e))
      (fun r e => (ld_at _ r e r (col64 2 e) (by omega) (by simp only [col64_val] <;> omega)).trans (hx3 2 r e))
      (fun r => (ld_at _ r _ r (lane 2) (by omega) (by simp [lane])).trans (hx4 2 r))
       _ c d).trans ?_
    rw [readCov_at _ _ c d (Fin.castLE ctx_le c) (col128 2 d) (by simp) (by simp only [col128_val] <;> omega)]
    rw [canon_skip _ _ _ _ (by simp only [col128_val] <;> omega)]; rw [canon_skip _ _ _ _ (by simp only [col128_val] <;> omega)]; rw [canon_hit _ _ (Fin.castLE ctx_le c) (col128 2 d) _ _ (by omega) (by omega)]
    rw [zero128, zero_add]
  | 3 =>
    rw [canon_hit _ _ c d _ _ (by simp) (by simp only [col128_val] <;> omega)]
    refine (PayCtx.ak3 (Q := Q 3) (K := K 3) (V := V 3) (G := G 3)
      (fun r d => (ld_at _ r d r (col128 3 d) (by omega) (by simp only [col128_val] <;> omega)).trans (hx0 3 r d))
      (fun c d => (ld_at _ c d (Fin.castLE ctx_le c) (col128 3 d) (by simp) (by simp only [col128_val] <;> omega)).trans (hx1 3 c d))
      (fun c e => (ld_at _ c e (Fin.castLE ctx_le c) (col64 3 e) (by simp) (by simp only [col64_val] <;> omega)).trans (hx2 3 c e))
      (fun r e => (ld_at _ r e r (col64 3 e) (by omega) (by simp only [col64_val] <;> omega)).trans (hx5 3 r e))
      (fun r e => (ld_at _ r e r (col64 3 e) (by omega) (by simp only [col64_val] <;> omega)).trans (hx3 3 r e))
      (fun r => (ld_at _ r _ r (lane 3) (by omega) (by simp [lane])).trans (hx4 3 r))
       _ c d).trans ?_
    rw [readCov_at _ _ c d (Fin.castLE ctx_le c) (col128 3 d) (by simp) (by simp only [col128_val] <;> omega)]
    rw [canon_skip _ _ _ _ (by simp only [col128_val] <;> omega)]; rw [canon_skip _ _ _ _ (by simp only [col128_val] <;> omega)]; rw [canon_skip _ _ _ _ (by simp only [col128_val] <;> omega)]; rw [canon_hit _ _ (Fin.castLE ctx_le c) (col128 3 d) _ _ (by omega) (by omega)]
    rw [zero128, zero_add]

theorem dk_rest (hc0 hc1 hc2 hc3) (c : Fin 4352) (hc : 256 ≤ c.val) (j : Fin 512) :
    sout0_A_0 (F := Ideal) cc i a2 h2 a3 h3 a4 h4 a5 h5 a6 h6 a7 h7 a8 h8 a9 h9 a10 h10 a11 h11 a12 h12 hc0 hc1 hc2 hc3
      x0 x1 x2 x3 x4 x5 (ix2 c j) = 0 := by
  unfold sout0_A_0
  rw [View.read_writes_junk_eq_canon]
  unfold kernelRun0_A
  dsimp only
  sl_unfold_words
  simp only [View.readAt_eq_ld, h2.read_unread, h3.read_unread, h4.read_unread, h5.read_unread, h6.read_unread, h7.read_unread]
  rw [canon_skip _ _ _ _ (by omega), canon_skip _ _ _ _ (by omega), canon_skip _ _ _ _ (by omega),
    canon_skip _ _ _ _ (by omega), canon_hit _ _ c j _ _ (by omega) (by omega)]
  exact zero128 _

include hx0 hx1 hx2 hx3 hx4 hx5 in
theorem dv (hc0 hc1 hc2 hc3) (h : Fin 4) (c : Fin 256) (d : Fin 64) :
    sout0_A_1 (F := Ideal) cc i a2 h2 a3 h3 a4 h4 a5 h5 a6 h6 a7 h7 a8 h8 a9 h9 a10 h10 a11 h11 a12 h12 hc0 hc1 hc2 hc3
      x0 x1 x2 x3 x4 x5 (ix2 (Fin.castLE ctx_le c) (col64 h d))
      = ((∑ r, pr (Q h r) (K h) c * G h r d : ℝ) : EReal) := by
  unfold sout0_A_1
  rw [View.read_writes_junk_eq_canon]
  unfold kernelRun0_A
  dsimp only
  sl_unfold_words
  simp only [View.readAt_eq_ld, h2.read_unread, h3.read_unread, h4.read_unread, h5.read_unread, h6.read_unread, h7.read_unread]
  match h with
  | 0 =>
    rw [canon_skip _ _ _ _ (by simp only [col64_val] <;> omega)]; rw [canon_skip _ _ _ _ (by simp only [col64_val] <;> omega)]; rw [canon_skip _ _ _ _ (by simp only [col64_val] <;> omega)]; rw [canon_hit _ _ c d _ _ (by simp) (by simp only [col64_val] <;> omega)]
    refine (PayCtx.av0 (Q := Q 0) (K := K 0) (G := G 0)
      (fun r d => (ld_at _ r d r (col128 0 d) (by omega) (by simp only [col128_val] <;> omega)).trans (hx0 0 r d))
      (fun c d => (ld_at _ c d (Fin.castLE ctx_le c) (col128 0 d) (by simp) (by simp only [col128_val] <;> omega)).trans (hx1 0 c d))
      (fun r e => (ld_at _ r e r (col64 0 e) (by omega) (by simp only [col64_val] <;> omega)).trans (hx5 0 r e))
      (fun r => (ld_at _ r _ r (lane 0) (by omega) (by simp [lane])).trans (hx4 0 r))
       _ c d).trans ?_
    rw [readCov_at _ _ c d (Fin.castLE ctx_le c) (col64 0 d) (by simp) (by simp only [col64_val] <;> omega)]
    rw [canon_hit _ _ (Fin.castLE ctx_le c) (col64 0 d) _ _ (by omega) (by omega)]
    rw [zero64, zero_add]
  | 1 =>
    rw [canon_skip _ _ _ _ (by simp only [col64_val] <;> omega)]; rw [canon_skip _ _ _ _ (by simp only [col64_val] <;> omega)]; rw [canon_hit _ _ c d _ _ (by simp) (by simp only [col64_val] <;> omega)]
    refine (PayCtx.av1 (Q := Q 1) (K := K 1) (G := G 1)
      (fun r d => (ld_at _ r d r (col128 1 d) (by omega) (by simp only [col128_val] <;> omega)).trans (hx0 1 r d))
      (fun c d => (ld_at _ c d (Fin.castLE ctx_le c) (col128 1 d) (by simp) (by simp only [col128_val] <;> omega)).trans (hx1 1 c d))
      (fun r e => (ld_at _ r e r (col64 1 e) (by omega) (by simp only [col64_val] <;> omega)).trans (hx5 1 r e))
      (fun r => (ld_at _ r _ r (lane 1) (by omega) (by simp [lane])).trans (hx4 1 r))
       _ c d).trans ?_
    rw [readCov_at _ _ c d (Fin.castLE ctx_le c) (col64 1 d) (by simp) (by simp only [col64_val] <;> omega)]
    rw [canon_skip _ _ _ _ (by simp only [col64_val] <;> omega)]; rw [canon_hit _ _ (Fin.castLE ctx_le c) (col64 1 d) _ _ (by omega) (by omega)]
    rw [zero64, zero_add]
  | 2 =>
    rw [canon_skip _ _ _ _ (by simp only [col64_val] <;> omega)]; rw [canon_hit _ _ c d _ _ (by simp) (by simp only [col64_val] <;> omega)]
    refine (PayCtx.av2 (Q := Q 2) (K := K 2) (G := G 2)
      (fun r d => (ld_at _ r d r (col128 2 d) (by omega) (by simp only [col128_val] <;> omega)).trans (hx0 2 r d))
      (fun c d => (ld_at _ c d (Fin.castLE ctx_le c) (col128 2 d) (by simp) (by simp only [col128_val] <;> omega)).trans (hx1 2 c d))
      (fun r e => (ld_at _ r e r (col64 2 e) (by omega) (by simp only [col64_val] <;> omega)).trans (hx5 2 r e))
      (fun r => (ld_at _ r _ r (lane 2) (by omega) (by simp [lane])).trans (hx4 2 r))
       _ c d).trans ?_
    rw [readCov_at _ _ c d (Fin.castLE ctx_le c) (col64 2 d) (by simp) (by simp only [col64_val] <;> omega)]
    rw [canon_skip _ _ _ _ (by simp only [col64_val] <;> omega)]; rw [canon_skip _ _ _ _ (by simp only [col64_val] <;> omega)]; rw [canon_hit _ _ (Fin.castLE ctx_le c) (col64 2 d) _ _ (by omega) (by omega)]
    rw [zero64, zero_add]
  | 3 =>
    rw [canon_hit _ _ c d _ _ (by simp) (by simp only [col64_val] <;> omega)]
    refine (PayCtx.av3 (Q := Q 3) (K := K 3) (G := G 3)
      (fun r d => (ld_at _ r d r (col128 3 d) (by omega) (by simp only [col128_val] <;> omega)).trans (hx0 3 r d))
      (fun c d => (ld_at _ c d (Fin.castLE ctx_le c) (col128 3 d) (by simp) (by simp only [col128_val] <;> omega)).trans (hx1 3 c d))
      (fun r e => (ld_at _ r e r (col64 3 e) (by omega) (by simp only [col64_val] <;> omega)).trans (hx5 3 r e))
      (fun r => (ld_at _ r _ r (lane 3) (by omega) (by simp [lane])).trans (hx4 3 r))
       _ c d).trans ?_
    rw [readCov_at _ _ c d (Fin.castLE ctx_le c) (col64 3 d) (by simp) (by simp only [col64_val] <;> omega)]
    rw [canon_skip _ _ _ _ (by simp only [col64_val] <;> omega)]; rw [canon_skip _ _ _ _ (by simp only [col64_val] <;> omega)]; rw [canon_skip _ _ _ _ (by simp only [col64_val] <;> omega)]; rw [canon_hit _ _ (Fin.castLE ctx_le c) (col64 3 d) _ _ (by omega) (by omega)]
    rw [zero64, zero_add]

theorem dv_rest (hc0 hc1 hc2 hc3) (c : Fin 4352) (hc : 256 ≤ c.val) (j : Fin 256) :
    sout0_A_1 (F := Ideal) cc i a2 h2 a3 h3 a4 h4 a5 h5 a6 h6 a7 h7 a8 h8 a9 h9 a10 h10 a11 h11 a12 h12 hc0 hc1 hc2 hc3
      x0 x1 x2 x3 x4 x5 (ix2 c j) = 0 := by
  unfold sout0_A_1
  rw [View.read_writes_junk_eq_canon]
  unfold kernelRun0_A
  dsimp only
  sl_unfold_words
  simp only [View.readAt_eq_ld, h2.read_unread, h3.read_unread, h4.read_unread, h5.read_unread, h6.read_unread, h7.read_unread]
  rw [canon_skip _ _ _ _ (by omega), canon_skip _ _ _ _ (by omega), canon_skip _ _ _ _ (by omega),
    canon_skip _ _ _ _ (by omega), canon_hit _ _ c j _ _ (by omega) (by omega)]
  exact zero64 _

include hx0 hx1 hx2 hx3 hx4 hx5 in
theorem dq (hc0 hc1 hc2 hc3) (h : Fin 4) (r : Fin 256) (d : Fin 128) :
    out0_A_6 (F := Ideal) cc i a2 h2 a3 h3 a4 h4 a5 h5 a6 h6 a7 h7 a8 h8 a9 h9 a10 h10 a11 h11 a12 h12 hc0 hc1 hc2 hc3
      x0 x1 x2 x3 x4 x5 (ix2 r (col128 h d))
      = (((∑ c, ds (Q h r) (K h) (V h) (G h r) c * K h c d) * (Real.sqrt 96)⁻¹ : ℝ) : EReal) := by
  unfold out0_A_6
  rw [View.read_writes_junk_eq_canon]
  unfold kernelRun0_A
  dsimp only
  sl_unfold_words
  simp only [View.readAt_eq_ld, h2.read_unread, h3.read_unread, h4.read_unread, h5.read_unread, h6.read_unread, h7.read_unread]
  match h with
  | 0 =>
    rw [canon_skip _ _ _ _ (by simp only [col128_val] <;> omega)]; rw [canon_skip _ _ _ _ (by simp only [col128_val] <;> omega)]; rw [canon_skip _ _ _ _ (by simp only [col128_val] <;> omega)]; rw [canon_hit _ _ r d _ _ (by omega) (by simp only [col128_val] <;> omega)]
    refine (PayCtx.dq0 (Q := Q 0) (K := K 0) (V := V 0) (G := G 0)
      (fun r d => (ld_at _ r d r (col128 0 d) (by omega) (by simp only [col128_val] <;> omega)).trans (hx0 0 r d))
      (fun c d => (ld_at _ c d (Fin.castLE ctx_le c) (col128 0 d) (by simp) (by simp only [col128_val] <;> omega)).trans (hx1 0 c d))
      (fun c e => (ld_at _ c e (Fin.castLE ctx_le c) (col64 0 e) (by simp) (by simp only [col64_val] <;> omega)).trans (hx2 0 c e))
      (fun r e => (ld_at _ r e r (col64 0 e) (by omega) (by simp only [col64_val] <;> omega)).trans (hx5 0 r e))
      (fun r e => (ld_at _ r e r (col64 0 e) (by omega) (by simp only [col64_val] <;> omega)).trans (hx3 0 r e))
      (fun r => (ld_at _ r _ r (lane 0) (by omega) (by simp [lane])).trans (hx4 0 r))
       r d).trans ?_
    rfl
  | 1 =>
    rw [canon_skip _ _ _ _ (by simp only [col128_val] <;> omega)]; rw [canon_skip _ _ _ _ (by simp only [col128_val] <;> omega)]; rw [canon_hit _ _ r d _ _ (by omega) (by simp only [col128_val] <;> omega)]
    refine (PayCtx.dq1 (Q := Q 1) (K := K 1) (V := V 1) (G := G 1)
      (fun r d => (ld_at _ r d r (col128 1 d) (by omega) (by simp only [col128_val] <;> omega)).trans (hx0 1 r d))
      (fun c d => (ld_at _ c d (Fin.castLE ctx_le c) (col128 1 d) (by simp) (by simp only [col128_val] <;> omega)).trans (hx1 1 c d))
      (fun c e => (ld_at _ c e (Fin.castLE ctx_le c) (col64 1 e) (by simp) (by simp only [col64_val] <;> omega)).trans (hx2 1 c e))
      (fun r e => (ld_at _ r e r (col64 1 e) (by omega) (by simp only [col64_val] <;> omega)).trans (hx5 1 r e))
      (fun r e => (ld_at _ r e r (col64 1 e) (by omega) (by simp only [col64_val] <;> omega)).trans (hx3 1 r e))
      (fun r => (ld_at _ r _ r (lane 1) (by omega) (by simp [lane])).trans (hx4 1 r))
       r d).trans ?_
    rfl
  | 2 =>
    rw [canon_skip _ _ _ _ (by simp only [col128_val] <;> omega)]; rw [canon_hit _ _ r d _ _ (by omega) (by simp only [col128_val] <;> omega)]
    refine (PayCtx.dq2 (Q := Q 2) (K := K 2) (V := V 2) (G := G 2)
      (fun r d => (ld_at _ r d r (col128 2 d) (by omega) (by simp only [col128_val] <;> omega)).trans (hx0 2 r d))
      (fun c d => (ld_at _ c d (Fin.castLE ctx_le c) (col128 2 d) (by simp) (by simp only [col128_val] <;> omega)).trans (hx1 2 c d))
      (fun c e => (ld_at _ c e (Fin.castLE ctx_le c) (col64 2 e) (by simp) (by simp only [col64_val] <;> omega)).trans (hx2 2 c e))
      (fun r e => (ld_at _ r e r (col64 2 e) (by omega) (by simp only [col64_val] <;> omega)).trans (hx5 2 r e))
      (fun r e => (ld_at _ r e r (col64 2 e) (by omega) (by simp only [col64_val] <;> omega)).trans (hx3 2 r e))
      (fun r => (ld_at _ r _ r (lane 2) (by omega) (by simp [lane])).trans (hx4 2 r))
       r d).trans ?_
    rfl
  | 3 =>
    rw [canon_hit _ _ r d _ _ (by omega) (by simp only [col128_val] <;> omega)]
    refine (PayCtx.dq3 (Q := Q 3) (K := K 3) (V := V 3) (G := G 3)
      (fun r d => (ld_at _ r d r (col128 3 d) (by omega) (by simp only [col128_val] <;> omega)).trans (hx0 3 r d))
      (fun c d => (ld_at _ c d (Fin.castLE ctx_le c) (col128 3 d) (by simp) (by simp only [col128_val] <;> omega)).trans (hx1 3 c d))
      (fun c e => (ld_at _ c e (Fin.castLE ctx_le c) (col64 3 e) (by simp) (by simp only [col64_val] <;> omega)).trans (hx2 3 c e))
      (fun r e => (ld_at _ r e r (col64 3 e) (by omega) (by simp only [col64_val] <;> omega)).trans (hx5 3 r e))
      (fun r e => (ld_at _ r e r (col64 3 e) (by omega) (by simp only [col64_val] <;> omega)).trans (hx3 3 r e))
      (fun r => (ld_at _ r _ r (lane 3) (by omega) (by simp [lane])).trans (hx4 3 r))
       r d).trans ?_
    rfl

end Cert.KernelIdeal.TileA

end
-- ==== Proof.PayLat.lean ====
/- What the kernel's straight-line text computes, head by head, where all 4352 keys are in play: the weights, the gradient of the scores,
   and the three updates, read at an index as the real formulas of Row. -/
module

public import proofs.«01_k».proof.Proof.Gen.KernelIdeal.Frame
public import proofs.«01_k».proof.Proof.Lane

@[expose] public section

noncomputable section

namespace Cert.KernelIdeal.PayLat

open Cert.KernelIdeal Cert.KernelIdeal.Gen Idealize.ShloMosaic Idealize.ShloMosaic.TcCoe Cert.AttnGrad

variable {q : Vec Ideal S256x128 .f32} {k : Vec Ideal S4352x128 .bf16} {v : Vec Ideal S4352x64 .bf16}
  {g o : Vec Ideal S256x64 .bf16} {l : Vec Ideal S256x128 .f32}
  {Q : Fin 256 → Fin 128 → ℝ} {K : Fin 4352 → Fin 128 → ℝ} {V : Fin 4352 → Fin 64 → ℝ} {G : Fin 256 → Fin 64 → ℝ}

/-- The numbers of the lanes. -/
abbrev lanes : IVec S256x128 32 := iota Kind.tc S256x128 32 [1] iota_S256x128_d1_w32

/-! ### Head 0 -/

theorem p0 (hq : ∀ r d, q (ix2 r d) = (Q r d : EReal))
    (hk : ∀ c d, k (ix2 c d) = (K c d : EReal)) (hl : ∀ r, l (ix2 r 0) = (ls (Q r) K : EReal)) (r : Fin 256) (c : Fin 4352) :
    k0_pay50 (F := Ideal) lanes l q k (ix2 r c) = (pr (Q r) K c : EReal) := by
  pointwise [k0_pay50, k0_pay46, lanes]
  rw [lane_sum 0 0 (by decide)]
  simp only [hq, hk, hl, scale_log2e]
  exact pr_kernel _ _ _

theorem ds0 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 0) = (ls (Q r) K : EReal)) (r : Fin 256) (c : Fin 4352) :
    k0_pay51 (F := Ideal) lanes l q g o k v (ix2 r c) = (ds (Q r) K V (G r) c : EReal) := by
  have hp := p0 hq hk hl r c
  pointwise [k0_pay51, k0_pay48, k0_pay49]
  rw [hp]
  simp only [hv, hg, ho, dp_coe]
  exact ds_kernel _ _ _ _ _

theorem ak0 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 0) = (ls (Q r) K : EReal)) (a : Vec Ideal S4352x128 .f32) (c : Fin 4352) (d : Fin 128) :
    k0_pay53 (F := Ideal) (k0_pay47 q) (k0_pay51 lanes l q g o k v) a (ix2 c d)
      = a (ix2 c d) + ((∑ r, ds (Q r) K V (G r) c * (Q r d * (Real.sqrt 96)⁻¹) : ℝ) : EReal) := by
  have hd := fun r => ds0 hq hk hv hg ho hl r c
  pointwise [k0_pay53, k0_pay47]
  simp only [hd, hq, scale, ← EReal.coe_mul, sum_coe]

theorem av0 (hq : ∀ r d, q (ix2 r d) = (Q r d : EReal))
    (hk : ∀ c d, k (ix2 c d) = (K c d : EReal))
    (hg : ∀ r e, g (ix2 r e) = (G r e : EReal)) (hl : ∀ r, l (ix2 r 0) = (ls (Q r) K : EReal)) (a : Vec Ideal S4352x64 .f32) (c : Fin 4352) (e : Fin 64) :
    k0_pay54 (F := Ideal) (k0_pay49 g) (k0_pay50 lanes l q k) a (ix2 c e)
      = a (ix2 c e) + ((∑ r, pr (Q r) K c * G r e : ℝ) : EReal) := by
  have hp := fun r => p0 hq hk hl r c
  pointwise [k0_pay54, k0_pay49, k0_pay48]
  simp only [hp, hg, ← EReal.coe_mul, sum_coe]

theorem dq0 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 0) = (ls (Q r) K : EReal)) (r : Fin 256) (d : Fin 128) :
    k0_pay55 (F := Ideal) (k0_pay52 lanes l q g o k v) (ix2 r d)
      = (((∑ c, ds (Q r) K V (G r) c * K c d) * (Real.sqrt 96)⁻¹ : ℝ) : EReal) := by
  have hd := fun c => ds0 hq hk hv hg ho hl r c
  pointwise [k0_pay55, k0_pay52]
  simp only [hd, hk, scale, ← EReal.coe_mul, sum_coe]

/-! ### Head 1 -/

theorem p1 (hq : ∀ r d, q (ix2 r d) = (Q r d : EReal))
    (hk : ∀ c d, k (ix2 c d) = (K c d : EReal)) (hl : ∀ r, l (ix2 r 1) = (ls (Q r) K : EReal)) (r : Fin 256) (c : Fin 4352) :
    k0_pay62 (F := Ideal) (k0_pay56 q) (k0_pay60 lanes (k0_pay46 l)) k (ix2 r c) = (pr (Q r) K c : EReal) := by
  pointwise [k0_pay62, k0_pay56, k0_pay60, k0_pay46, lanes]
  rw [lane_sum 0 1 (by decide)]
  simp only [hq, hk, hl, scale_log2e]
  exact pr_kernel _ _ _

theorem ds1 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 1) = (ls (Q r) K : EReal)) (r : Fin 256) (c : Fin 4352) :
    k0_pay63 (F := Ideal) (k0_pay56 q) (k0_pay58 g) (k0_pay59 o) (k0_pay60 lanes (k0_pay46 l)) k v (ix2 r c) = (ds (Q r) K V (G r) c : EReal) := by
  have hp := p1 hq hk hl r c
  pointwise [k0_pay63, k0_pay58, k0_pay59, k0_pay61]
  rw [hp]
  simp only [hv, hg, ho, dp_coe]
  exact ds_kernel _ _ _ _ _

theorem ak1 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 1) = (ls (Q r) K : EReal)) (a : Vec Ideal S4352x128 .f32) (c : Fin 4352) (d : Fin 128) :
    k0_pay64 (F := Ideal) (k0_pay56 q) (k0_pay57 q) (k0_pay58 g) (k0_pay59 o) (k0_pay60 lanes (k0_pay46 l)) k v a (ix2 c d)
      = a (ix2 c d) + ((∑ r, ds (Q r) K V (G r) c * (Q r d * (Real.sqrt 96)⁻¹) : ℝ) : EReal) := by
  have hd := fun r => ds1 hq hk hv hg ho hl r c
  pointwise [k0_pay64, k0_pay57]
  simp only [hd, hq, scale, ← EReal.coe_mul, sum_coe]

theorem av1 (hq : ∀ r d, q (ix2 r d) = (Q r d : EReal))
    (hk : ∀ c d, k (ix2 c d) = (K c d : EReal))
    (hg : ∀ r e, g (ix2 r e) = (G r e : EReal)) (hl : ∀ r, l (ix2 r 1) = (ls (Q r) K : EReal)) (a : Vec Ideal S4352x64 .f32) (c : Fin 4352) (e : Fin 64) :
    k0_pay65 (F := Ideal) (k0_pay56 q) (k0_pay58 g) (k0_pay60 lanes (k0_pay46 l)) k a (ix2 c e)
      = a (ix2 c e) + ((∑ r, pr (Q r) K c * G r e : ℝ) : EReal) := by
  have hp := fun r => p1 hq hk hl r c
  pointwise [k0_pay65, k0_pay58, k0_pay61]
  simp only [hp, hg, ← EReal.coe_mul, sum_coe]

theorem dq1 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 1) = (ls (Q r) K : EReal)) (r : Fin 256) (d : Fin 128) :
    k0_pay66 (F := Ideal) (k0_pay56 q) (k0_pay58 g) (k0_pay59 o) (k0_pay60 lanes (k0_pay46 l)) k v (ix2 r d)
      = (((∑ c, ds (Q r) K V (G r) c * K c d) * (Real.sqrt 96)⁻¹ : ℝ) : EReal) := by
  have hd := fun c => ds1 hq hk hv hg ho hl r c
  pointwise [k0_pay66]
  simp only [hd, hk, scale, ← EReal.coe_mul, sum_coe]

/-! ### Head 2 -/

theorem p2 (hq : ∀ r d, q (ix2 r d) = (Q r d : EReal))
    (hk : ∀ c d, k (ix2 c d) = (K c d : EReal)) (hl : ∀ r, l (ix2 r 2) = (ls (Q r) K : EReal)) (r : Fin 256) (c : Fin 4352) :
    k0_pay70 (F := Ideal) lanes (k0_pay46 l) q k (ix2 r c) = (pr (Q r) K c : EReal) := by
  pointwise [k0_pay70, k0_pay46, lanes]
  rw [lane_sum 0 2 (by decide)]
  simp only [hq, hk, hl, scale_log2e]
  exact pr_kernel _ _ _

theorem ds2 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 2) = (ls (Q r) K : EReal)) (r : Fin 256) (c : Fin 4352) :
    k0_pay71 (F := Ideal) lanes (k0_pay46 l) q g o k v (ix2 r c) = (ds (Q r) K V (G r) c : EReal) := by
  have hp := p2 hq hk hl r c
  pointwise [k0_pay71, k0_pay68, k0_pay69]
  rw [hp]
  simp only [hv, hg, ho, dp_coe]
  exact ds_kernel _ _ _ _ _

theorem ak2 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 2) = (ls (Q r) K : EReal)) (a : Vec Ideal S4352x128 .f32) (c : Fin 4352) (d : Fin 128) :
    k0_pay73 (F := Ideal) (k0_pay67 q) (k0_pay71 lanes (k0_pay46 l) q g o k v) a (constant S4352x128 .f32 0x00000000#32) (ix2 c d)
      = a (ix2 c d) + ((∑ r, ds (Q r) K V (G r) c * (Q r d * (Real.sqrt 96)⁻¹) : ℝ) : EReal) := by
  have hd := fun r => ds2 hq hk hv hg ho hl r c
  pointwise [k0_pay73, k0_pay67]
  simp only [hd, hq, scale, ← EReal.coe_mul, sum_coe]

theorem av2 (hq : ∀ r d, q (ix2 r d) = (Q r d : EReal))
    (hk : ∀ c d, k (ix2 c d) = (K c d : EReal))
    (hg : ∀ r e, g (ix2 r e) = (G r e : EReal)) (hl : ∀ r, l (ix2 r 2) = (ls (Q r) K : EReal)) (a : Vec Ideal S4352x64 .f32) (c : Fin 4352) (e : Fin 64) :
    k0_pay74 (F := Ideal) (k0_pay69 g) (k0_pay70 lanes (k0_pay46 l) q k) a (ix2 c e)
      = a (ix2 c e) + ((∑ r, pr (Q r) K c * G r e : ℝ) : EReal) := by
  have hp := fun r => p2 hq hk hl r c
  pointwise [k0_pay74, k0_pay69, k0_pay68]
  simp only [hp, hg, ← EReal.coe_mul, sum_coe]

theorem dq2 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 2) = (ls (Q r) K : EReal)) (r : Fin 256) (d : Fin 128) :
    k0_pay75 (F := Ideal) (k0_pay72 lanes (k0_pay46 l) q g o k v) (ix2 r d)
      = (((∑ c, ds (Q r) K V (G r) c * K c d) * (Real.sqrt 96)⁻¹ : ℝ) : EReal) := by
  have hd := fun c => ds2 hq hk hv hg ho hl r c
  pointwise [k0_pay75, k0_pay72]
  simp only [hd, hk, scale, ← EReal.coe_mul, sum_coe]

/-! ### Head 3 -/

theorem p3 (hq : ∀ r d, q (ix2 r d) = (Q r d : EReal))
    (hk : ∀ c d, k (ix2 c d) = (K c d : EReal)) (hl : ∀ r, l (ix2 r 3) = (ls (Q r) K : EReal)) (r : Fin 256) (c : Fin 4352) :
    k0_pay82 (F := Ideal) (k0_pay76 q) (k0_pay79 lanes (k0_pay46 l)) k (ix2 r c) = (pr (Q r) K c : EReal) := by
  pointwise [k0_pay82, k0_pay76, k0_pay79, k0_pay46, lanes]
  rw [lane_sum 0 3 (by decide)]
  simp only [hq, hk, hl, scale_log2e]
  exact pr_kernel _ _ _

theorem ds3 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 3) = (ls (Q r) K : EReal)) (r : Fin 256) (c : Fin 4352) :
    k0_pay83 (F := Ideal) (k0_pay76 q) (k0_pay78 g) (k0_pay79 lanes (k0_pay46 l)) (k0_pay80 g o) k v (ix2 r c) = (ds (Q r) K V (G r) c : EReal) := by
  have hp := p3 hq hk hl r c
  pointwise [k0_pay83, k0_pay78, k0_pay80, k0_pay81]
  rw [hp]
  simp only [hv, hg, ho, dp_coe]
  exact ds_kernel _ _ _ _ _

theorem ak3 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 3) = (ls (Q r) K : EReal)) (a : Vec Ideal S4352x128 .f32) (c : Fin 4352) (d : Fin 128) :
    k0_pay84 (F := Ideal) (k0_pay76 q) (k0_pay77 q) (k0_pay78 g) (k0_pay79 lanes (k0_pay46 l)) (k0_pay80 g o) k v a (ix2 c d)
      = a (ix2 c d) + ((∑ r, ds (Q r) K V (G r) c * (Q r d * (Real.sqrt 96)⁻¹) : ℝ) : EReal) := by
  have hd := fun r => ds3 hq hk hv hg ho hl r c
  pointwise [k0_pay84, k0_pay77]
  simp only [hd, hq, scale, ← EReal.coe_mul, sum_coe]

theorem av3 (hq : ∀ r d, q (ix2 r d) = (Q r d : EReal))
    (hk : ∀ c d, k (ix2 c d) = (K c d : EReal))
    (hg : ∀ r e, g (ix2 r e) = (G r e : EReal)) (hl : ∀ r, l (ix2 r 3) = (ls (Q r) K : EReal)) (a : Vec Ideal S4352x64 .f32) (c : Fin 4352) (e : Fin 64) :
    k0_pay85 (F := Ideal) (k0_pay76 q) (k0_pay78 g) (k0_pay79 lanes (k0_pay46 l)) k a (ix2 c e)
      = a (ix2 c e) + ((∑ r, pr (Q r) K c * G r e : ℝ) : EReal) := by
  have hp := fun r => p3 hq hk hl r c
  pointwise [k0_pay85, k0_pay78, k0_pay81]
  simp only [hp, hg, ← EReal.coe_mul, sum_coe]

theorem dq3 (hq : ∀ r d, q (ix2 r d) = (Q r d : EReal))
    (hk : ∀ c d, k (ix2 c d) = (K c d : EReal)) (hv : ∀ c e, v (ix2 c e) = (V c e : EReal))
    (hg : ∀ r e, g (ix2 r e) = (G r e : EReal)) (ho : ∀ r e, o (ix2 r e) = (ob (Q r) K V e : EReal))
    (hl : ∀ r, l (ix2 r 3) = (ls (Q r) K : EReal)) (r : Fin 256) (d : Fin 128) :
    k0_pay86 (F := Ideal) (k0_pay76 q) (k0_pay78 g) (k0_pay79 lanes (k0_pay46 l)) (k0_pay80 g o) k v (ix2 r d)
      = (((∑ c, ds (Q r) K V (G r) c * K c d) * (Real.sqrt 96)⁻¹ : ℝ) : EReal) := by
  have hd := fun c => ds3 hq hk hv hg ho hl r c
  pointwise [k0_pay86]
  simp only [hd, hk, scale, ← EReal.coe_mul, sum_coe]

end Cert.KernelIdeal.PayLat

end
-- ==== Proof.TileB.lean ====
/- What a latent point of a batch but the last leaves in the query gradient's
   block and in the two accumulators, read at an index: the real formulas of Row over the point's blocks. -/
module

public import proofs.«01_k».proof.Proof.PayLat
public import proofs.«01_k».proof.Proof.Rank2

@[expose] public section

noncomputable section

namespace Cert.KernelIdeal.TileB

open Cert.KernelIdeal Cert.KernelIdeal.Gen Idealize.ShloMosaic Idealize.ShloMosaic.TcCoe Cert.AttnGrad

variable (cc : Dev nD) (i : grid0.Coords) (a2 : Memref sig .tc .vmem S256x512 .f32) (h2 : a2.IsWhole)
  (a3 : Memref sig .tc .vmem S4352x512 .bf16) (h3 : a3.IsWhole) (a4 : Memref sig .tc .vmem S4352x256 .bf16) (h4 : a4.IsWhole)
  (a5 : Memref sig .tc .vmem S256x256 .bf16) (h5 : a5.IsWhole) (a6 : Memref sig .tc .vmem S256x128 .f32) (h6 : a6.IsWhole)
  (a7 : Memref sig .tc .vmem S256x256 .bf16) (h7 : a7.IsWhole) (a8 : Memref sig .tc .vmem S256x512 .f32) (h8 : a8.IsWhole)
  (a9 : Memref sig .tc .vmem S4352x512 .bf16) (h9 : a9.IsWhole) (a10 : Memref sig .tc .vmem S4352x256 .bf16) (h10 : a10.IsWhole)
  (a11 : Memref sig .tc .vmem S4352x512 .f32) (h11 : a11.IsWhole) (a12 : Memref sig .tc .vmem S4352x256 .f32) (h12 : a12.IsWhole)
  {x0 : Vec Ideal S256x512 .f32} {x1 : Vec Ideal S4352x512 .bf16} {x2 : Vec Ideal S4352x256 .bf16} {x3 : Vec Ideal S256x256 .bf16}
  {x4 : Vec Ideal S256x128 .f32} {x5 : Vec Ideal S256x256 .bf16} (xs0 : Vec Ideal S4352x512 .f32) (xs1 : Vec Ideal S4352x256 .f32)
  {Q : Fin 4 → Fin 256 → Fin 128 → ℝ} {K : Fin 4 → Fin 4352 → Fin 128 → ℝ} {V : Fin 4 → Fin 4352 → Fin 64 → ℝ} {G : Fin 4 → Fin 256 → Fin 64 → ℝ}
  (hx0 : ∀ h r d, x0 (ix2 r (col128 h d)) = (Q h r d : EReal))
  (hx1 : ∀ h c d, x1 (ix2 c (col128 h d)) = (K h c d : EReal))
  (hx2 : ∀ h c e, x2 (ix2 c (col64 h e)) = (V h c e : EReal))
  (hx3 : ∀ h r e, x3 (ix2 r (col64 h e)) = (ob (Q h r) (K h) (V h) e : EReal))
  (hx4 : ∀ h r, x4 (ix2 r (lane h)) = (ls (Q h r) (K h) : EReal))
  (hx5 : ∀ h r e, x5 (ix2 r (col64 h e)) = (G h r e : EReal))

include hx0 hx1 hx2 hx3 hx4 hx5 in
theorem dk (hc0 hc1 hc2 hc3) (h : Fin 4) (c : Fin 4352) (d : Fin 128) :
    sout0_B_0 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 c (col128 h d))
      = xs0 (ix2 c (col128 h d)) + ((∑ r, ds (Q h r) (K h) (V h) (G h r) c * (Q h r d * (Real.sqrt 96)⁻¹) : ℝ) : EReal) := by
  unfold sout0_B_0
  rw [View.read_writes_junk_eq_canon]
  unfold kernelRun0_B
  dsimp only
  sl_unfold_words
  simp only [View.readAt_eq_ld, h2.read_unread, h3.read_unread, h4.read_unread, h5.read_unread, h6.read_unread, h7.read_unread, h11.read_unread, h12.read_unread]
  match h with
  | 0 =>
    rw [canon_skip _ _ _ _ (by simp only [col128_val] <;> omega)]; rw [canon_skip _ _ _ _ (by simp only [col128_val] <;> omega)]; rw [canon_skip _ _ _ _ (by simp only [col128_val] <;> omega)]; rw [canon_hit _ _ c d _ _ (by omega) (by simp only [col128_val] <;> omega)]
    refine (PayLat.ak0 (Q := Q 0) (K := K 0) (V := V 0) (G := G 0)
      (fun r d => (ld_at _ r d r (col128 0 d) (by omega) (by simp only [col128_val] <;> omega)).trans (hx0 0 r d))
      (fun c d => (ld_at _ c d c (col128 0 d) (by omega) (by simp only [col128_val] <;> omega)).trans (hx1 0 c d))
      (fun c e => (ld_at _ c e c (col64 0 e) (by omega) (by simp only [col64_val] <;> omega)).trans (hx2 0 c e))
      (fun r e => (ld_at _ r e r (col64 0 e) (by omega) (by simp only [col64_val] <;> omega)).trans (hx5 0 r e))
      (fun r e => (ld_at _ r e r (col64 0 e) (by omega) (by simp only [col64_val] <;> omega)).trans (hx3 0 r e))
      (fun r => (ld_at _ r _ r (lane 0) (by omega) (by simp [lane])).trans (hx4 0 r))
       _ c d).trans ?_
    rw [ld_at _ c d c (col128 0 d) (by omega) (by simp only [col128_val] <;> omega)]
  | 1 =>
    rw [canon_skip _ _ _ _ (by simp only [col128_val] <;> omega)]; rw [canon_skip _ _ _ _ (by simp only [col128_val] <;> omega)]; rw [canon_hit _ _ c d _ _ (by omega) (by simp only [col128_val] <;> omega)]
    refine (PayLat.ak1 (Q := Q 1) (K := K 1) (V := V 1) (G := G 1)
      (fun r d => (ld_at _ r d r (col128 1 d) (by omega) (by simp only [col128_val] <;> omega)).trans (hx0 1 r d))
      (fun c d => (ld_at _ c d c (col128 1 d) (by omega) (by simp only [col128_val] <;> omega)).trans (hx1 1 c d))
      (fun c e => (ld_at _ c e c (col64 1 e) (by omega) (by simp only [col64_val] <;> omega)).trans (hx2 1 c e))
      (fun r e => (ld_at _ r e r (col64 1 e) (by omega) (by simp only [col64_val] <;> omega)).trans (hx5 1 r e))
      (fun r e => (ld_at _ r e r (col64 1 e) (by omega) (by simp only [col64_val] <;> omega)).trans (hx3 1 r e))
      (fun r => (ld_at _ r _ r (lane 1) (by omega) (by simp [lane])).trans (hx4 1 r))
       _ c d).trans ?_
    rw [ld_at _ c d c (col128 1 d) (by omega) (by simp only [col128_val] <;> omega)]
  | 2 =>
    rw [canon_skip _ _ _ _ (by simp only [col128_val] <;> omega)]; rw [canon_hit _ _ c d _ _ (by omega) (by simp only [col128_val] <;> omega)]
    refine (PayLat.ak2 (Q := Q 2) (K := K 2) (V := V 2) (G := G 2)
      (fun r d => (ld_at _ r d r (col128 2 d) (by omega) (by simp only [col128_val] <;> omega)).trans (hx0 2 r d))
      (fun c d => (ld_at _ c d c (col128 2 d) (by omega) (by simp only [col128_val] <;> omega)).trans (hx1 2 c d))
      (fun c e => (ld_at _ c e c (col64 2 e) (by omega) (by simp only [col64_val] <;> omega)).trans (hx2 2 c e))
      (fun r e => (ld_at _ r e r (col64 2 e) (by omega) (by simp only [col64_val] <;> omega)).trans (hx5 2 r e))
      (fun r e => (ld_at _ r e r (col64 2 e) (by omega) (by simp only [col64_val] <;> omega)).trans (hx3 2 r e))
      (fun r => (ld_at _ r _ r (lane 2) (by omega) (by simp [lane])).trans (hx4 2 r))
       _ c d).trans ?_
    rw [ld_at _ c d c (col128 2 d) (by omega) (by simp only [col128_val] <;> omega)]
  | 3 =>
    rw [canon_hit _ _ c d _ _ (by omega) (by simp only [col128_val] <;> omega)]
    refine (PayLat.ak3 (Q := Q 3) (K := K 3) (V := V 3) (G := G 3)
      (fun r d => (ld_at _ r d r (col128 3 d) (by omega) (by simp only [col128_val] <;> omega)).trans (hx0 3 r d))
      (fun c d => (ld_at _ c d c (col128 3 d) (by omega) (by simp only [col128_val] <;> omega)).trans (hx1 3 c d))
      (fun c e => (ld_at _ c e c (col64 3 e) (by omega) (by simp only [col64_val] <;> omega)).trans (hx2 3 c e))
      (fun r e => (ld_at _ r e r (col64 3 e) (by omega) (by simp only [col64_val] <;> omega)).trans (hx5 3 r e))
      (fun r e => (ld_at _ r e r (col64 3 e) (by omega) (by simp only [col64_val] <;> omega)).trans (hx3 3 r e))
      (fun r => (ld_at _ r _ r (lane 3) (by omega) (by simp [lane])).trans (hx4 3 r))
       _ c d).trans ?_
    rw [ld_at _ c d c (col128 3 d) (by omega) (by simp only [col128_val] <;> omega)]

include hx0 hx1 hx2 hx3 hx4 hx5 in
theorem dv (hc0 hc1 hc2 hc3) (h : Fin 4) (c : Fin 4352) (d : Fin 64) :
    sout0_B_1 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 c (col64 h d))
      = xs1 (ix2 c (col64 h d)) + ((∑ r, pr (Q h r) (K h) c * G h r d : ℝ) : EReal) := by
  unfold sout0_B_1
  rw [View.read_writes_junk_eq_canon]
  unfold kernelRun0_B
  dsimp only
  sl_unfold_words
  simp only [View.readAt_eq_ld, h2.read_unread, h3.read_unread, h4.read_unread, h5.read_unread, h6.read_unread, h7.read_unread, h11.read_unread, h12.read_unread]
  match h with
  | 0 =>
    rw [canon_skip _ _ _ _ (by simp only [col64_val] <;> omega)]; rw [canon_skip _ _ _ _ (by simp only [col64_val] <;> omega)]; rw [canon_skip _ _ _ _ (by simp only [col64_val] <;> omega)]; rw [canon_hit _ _ c d _ _ (by omega) (by simp only [col64_val] <;> omega)]
    refine (PayLat.av0 (Q := Q 0) (K := K 0) (G := G 0)
      (fun r d => (ld_at _ r d r (col128 0 d) (by omega) (by simp only [col128_val] <;> omega)).trans (hx0 0 r d))
      (fun c d => (ld_at _ c d c (col128 0 d) (by omega) (by simp only [col128_val] <;> omega)).trans (hx1 0 c d))
      (fun r e => (ld_at _ r e r (col64 0 e) (by omega) (by simp only [col64_val] <;> omega)).trans (hx5 0 r e))
      (fun r => (ld_at _ r _ r (lane 0) (by omega) (by simp [lane])).trans (hx4 0 r))
       _ c d).trans ?_
    rw [ld_at _ c d c (col64 0 d) (by omega) (by simp only [col64_val] <;> omega)]
  | 1 =>
    rw [canon_skip _ _ _ _ (by simp only [col64_val] <;> omega)]; rw [canon_skip _ _ _ _ (by simp only [col64_val] <;> omega)]; rw [canon_hit _ _ c d _ _ (by omega) (by simp only [col64_val] <;> omega)]
    refine (PayLat.av1 (Q := Q 1) (K := K 1) (G := G 1)
      (fun r d => (ld_at _ r d r (col128 1 d) (by omega) (by simp only [col128_val] <;> omega)).trans (hx0 1 r d))
      (fun c d => (ld_at _ c d c (col128 1 d) (by omega) (by simp only [col128_val] <;> omega)).trans (hx1 1 c d))
      (fun r e => (ld_at _ r e r (col64 1 e) (by omega) (by simp only [col64_val] <;> omega)).trans (hx5 1 r e))
      (fun r => (ld_at _ r _ r (lane 1) (by omega) (by simp [lane])).trans (hx4 1 r))
       _ c d).trans ?_
    rw [ld_at _ c d c (col64 1 d) (by omega) (by simp only [col64_val] <;> omega)]
  | 2 =>
    rw [canon_skip _ _ _ _ (by simp only [col64_val] <;> omega)]; rw [canon_hit _ _ c d _ _ (by omega) (by simp only [col64_val] <;> omega)]
    refine (PayLat.av2 (Q := Q 2) (K := K 2) (G := G 2)
      (fun r d => (ld_at _ r d r (col128 2 d) (by omega) (by simp only [col128_val] <;> omega)).trans (hx0 2 r d))
      (fun c d => (ld_at _ c d c (col128 2 d) (by omega) (by simp only [col128_val] <;> omega)).trans (hx1 2 c d))
      (fun r e => (ld_at _ r e r (col64 2 e) (by omega) (by simp only [col64_val] <;> omega)).trans (hx5 2 r e))
      (fun r => (ld_at _ r _ r (lane 2) (by omega) (by simp [lane])).trans (hx4 2 r))
       _ c d).trans ?_
    rw [ld_at _ c d c (col64 2 d) (by omega) (by simp only [col64_val] <;> omega)]
  | 3 =>
    rw [canon_hit _ _ c d _ _ (by omega) (by simp only [col64_val] <;> omega)]
    refine (PayLat.av3 (Q := Q 3) (K := K 3) (G := G 3)
      (fun r d => (ld_at _ r d r (col128 3 d) (by omega) (by simp only [col128_val] <;> omega)).trans (hx0 3 r d))
      (fun c d => (ld_at _ c d c (col128 3 d) (by omega) (by simp only [col128_val] <;> omega)).trans (hx1 3 c d))
      (fun r e => (ld_at _ r e r (col64 3 e) (by omega) (by simp only [col64_val] <;> omega)).trans (hx5 3 r e))
      (fun r => (ld_at _ r _ r (lane 3) (by omega) (by simp [lane])).trans (hx4 3 r))
       _ c d).trans ?_
    rw [ld_at _ c d c (col64 3 d) (by omega) (by simp only [col64_val] <;> omega)]

include hx0 hx1 hx2 hx3 hx4 hx5 in
theorem dq (hc0 hc1 hc2 hc3) (h : Fin 4) (r : Fin 256) (d : Fin 128) :
    out0_B_6 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 r (col128 h d))
      = (((∑ c, ds (Q h r) (K h) (V h) (G h r) c * K h c d) * (Real.sqrt 96)⁻¹ : ℝ) : EReal) := by
  unfold out0_B_6
  rw [View.read_writes_junk_eq_canon]
  unfold kernelRun0_B
  dsimp only
  sl_unfold_words
  simp only [View.readAt_eq_ld, h2.read_unread, h3.read_unread, h4.read_unread, h5.read_unread, h6.read_unread, h7.read_unread, h11.read_unread, h12.read_unread]
  match h with
  | 0 =>
    rw [canon_skip _ _ _ _ (by simp only [col128_val] <;> omega)]; rw [canon_skip _ _ _ _ (by simp only [col128_val] <;> omega)]; rw [canon_skip _ _ _ _ (by simp only [col128_val] <;> omega)]; rw [canon_hit _ _ r d _ _ (by omega) (by simp only [col128_val] <;> omega)]
    refine (PayLat.dq0 (Q := Q 0) (K := K 0) (V := V 0) (G := G 0)
      (fun r d => (ld_at _ r d r (col128 0 d) (by omega) (by simp only [col128_val] <;> omega)).trans (hx0 0 r d))
      (fun c d => (ld_at _ c d c (col128 0 d) (by omega) (by simp only [col128_val] <;> omega)).trans (hx1 0 c d))
      (fun c e => (ld_at _ c e c (col64 0 e) (by omega) (by simp only [col64_val] <;> omega)).trans (hx2 0 c e))
      (fun r e => (ld_at _ r e r (col64 0 e) (by omega) (by simp only [col64_val] <;> omega)).trans (hx5 0 r e))
      (fun r e => (ld_at _ r e r (col64 0 e) (by omega) (by simp only [col64_val] <;> omega)).trans (hx3 0 r e))
      (fun r => (ld_at _ r _ r (lane 0) (by omega) (by simp [lane])).trans (hx4 0 r))
       r d).trans ?_
    rfl
  | 1 =>
    rw [canon_skip _ _ _ _ (by simp only [col128_val] <;> omega)]; rw [canon_skip _ _ _ _ (by simp only [col128_val] <;> omega)]; rw [canon_hit _ _ r d _ _ (by omega) (by simp only [col128_val] <;> omega)]
    refine (PayLat.dq1 (Q := Q 1) (K := K 1) (V := V 1) (G := G 1)
      (fun r d => (ld_at _ r d r (col128 1 d) (by omega) (by simp only [col128_val] <;> omega)).trans (hx0 1 r d))
      (fun c d => (ld_at _ c d c (col128 1 d) (by omega) (by simp only [col128_val] <;> omega)).trans (hx1 1 c d))
      (fun c e => (ld_at _ c e c (col64 1 e) (by omega) (by simp only [col64_val] <;> omega)).trans (hx2 1 c e))
      (fun r e => (ld_at _ r e r (col64 1 e) (by omega) (by simp only [col64_val] <;> omega)).trans (hx5 1 r e))
      (fun r e => (ld_at _ r e r (col64 1 e) (by omega) (by simp only [col64_val] <;> omega)).trans (hx3 1 r e))
      (fun r => (ld_at _ r _ r (lane 1) (by omega) (by simp [lane])).trans (hx4 1 r))
       r d).trans ?_
    rfl
  | 2 =>
    rw [canon_skip _ _ _ _ (by simp only [col128_val] <;> omega)]; rw [canon_hit _ _ r d _ _ (by omega) (by simp only [col128_val] <;> omega)]
    refine (PayLat.dq2 (Q := Q 2) (K := K 2) (V := V 2) (G := G 2)
      (fun r d => (ld_at _ r d r (col128 2 d) (by omega) (by simp only [col128_val] <;> omega)).trans (hx0 2 r d))
      (fun c d => (ld_at _ c d c (col128 2 d) (by omega) (by simp only [col128_val] <;> omega)).trans (hx1 2 c d))
      (fun c e => (ld_at _ c e c (col64 2 e) (by omega) (by simp only [col64_val] <;> omega)).trans (hx2 2 c e))
      (fun r e => (ld_at _ r e r (col64 2 e) (by omega) (by simp only [col64_val] <;> omega)).trans (hx5 2 r e))
      (fun r e => (ld_at _ r e r (col64 2 e) (by omega) (by simp only [col64_val] <;> omega)).trans (hx3 2 r e))
      (fun r => (ld_at _ r _ r (lane 2) (by omega) (by simp [lane])).trans (hx4 2 r))
       r d).trans ?_
    rfl
  | 3 =>
    rw [canon_hit _ _ r d _ _ (by omega) (by simp only [col128_val] <;> omega)]
    refine (PayLat.dq3 (Q := Q 3) (K := K 3) (V := V 3) (G := G 3)
      (fun r d => (ld_at _ r d r (col128 3 d) (by omega) (by simp only [col128_val] <;> omega)).trans (hx0 3 r d))
      (fun c d => (ld_at _ c d c (col128 3 d) (by omega) (by simp only [col128_val] <;> omega)).trans (hx1 3 c d))
      (fun c e => (ld_at _ c e c (col64 3 e) (by omega) (by simp only [col64_val] <;> omega)).trans (hx2 3 c e))
      (fun r e => (ld_at _ r e r (col64 3 e) (by omega) (by simp only [col64_val] <;> omega)).trans (hx5 3 r e))
      (fun r e => (ld_at _ r e r (col64 3 e) (by omega) (by simp only [col64_val] <;> omega)).trans (hx3 3 r e))
      (fun r => (ld_at _ r _ r (lane 3) (by omega) (by simp [lane])).trans (hx4 3 r))
       r d).trans ?_
    rfl

end Cert.KernelIdeal.TileB

end
-- ==== Proof.TileC.lean ====
/- What the last point of a batch leaves in the query gradient's
   block and in the two accumulators, read at an index: the real formulas of Row over the point's blocks. -/
module

public import proofs.«01_k».proof.Proof.PayLat
public import proofs.«01_k».proof.Proof.Rank2

@[expose] public section

noncomputable section

namespace Cert.KernelIdeal.TileC

open Cert.KernelIdeal Cert.KernelIdeal.Gen Idealize.ShloMosaic Idealize.ShloMosaic.TcCoe Cert.AttnGrad

variable (cc : Dev nD) (i : grid0.Coords) (a2 : Memref sig .tc .vmem S256x512 .f32) (h2 : a2.IsWhole)
  (a3 : Memref sig .tc .vmem S4352x512 .bf16) (h3 : a3.IsWhole) (a4 : Memref sig .tc .vmem S4352x256 .bf16) (h4 : a4.IsWhole)
  (a5 : Memref sig .tc .vmem S256x256 .bf16) (h5 : a5.IsWhole) (a6 : Memref sig .tc .vmem S256x128 .f32) (h6 : a6.IsWhole)
  (a7 : Memref sig .tc .vmem S256x256 .bf16) (h7 : a7.IsWhole) (a8 : Memref sig .tc .vmem S256x512 .f32) (h8 : a8.IsWhole)
  (a9 : Memref sig .tc .vmem S4352x512 .bf16) (h9 : a9.IsWhole) (a10 : Memref sig .tc .vmem S4352x256 .bf16) (h10 : a10.IsWhole)
  (a11 : Memref sig .tc .vmem S4352x512 .f32) (h11 : a11.IsWhole) (a12 : Memref sig .tc .vmem S4352x256 .f32) (h12 : a12.IsWhole)
  {x0 : Vec Ideal S256x512 .f32} {x1 : Vec Ideal S4352x512 .bf16} {x2 : Vec Ideal S4352x256 .bf16} {x3 : Vec Ideal S256x256 .bf16}
  {x4 : Vec Ideal S256x128 .f32} {x5 : Vec Ideal S256x256 .bf16} (xs0 : Vec Ideal S4352x512 .f32) (xs1 : Vec Ideal S4352x256 .f32)
  {Q : Fin 4 → Fin 256 → Fin 128 → ℝ} {K : Fin 4 → Fin 4352 → Fin 128 → ℝ} {V : Fin 4 → Fin 4352 → Fin 64 → ℝ} {G : Fin 4 → Fin 256 → Fin 64 → ℝ}
  (hx0 : ∀ h r d, x0 (ix2 r (col128 h d)) = (Q h r d : EReal))
  (hx1 : ∀ h c d, x1 (ix2 c (col128 h d)) = (K h c d : EReal))
  (hx2 : ∀ h c e, x2 (ix2 c (col64 h e)) = (V h c e : EReal))
  (hx3 : ∀ h r e, x3 (ix2 r (col64 h e)) = (ob (Q h r) (K h) (V h) e : EReal))
  (hx4 : ∀ h r, x4 (ix2 r (lane h)) = (ls (Q h r) (K h) : EReal))
  (hx5 : ∀ h r e, x5 (ix2 r (col64 h e)) = (G h r e : EReal))

include hx0 hx1 hx2 hx3 hx4 hx5 in
theorem dk (hc0 hc1 hc2 hc3) (h : Fin 4) (c : Fin 4352) (d : Fin 128) :
    sout0_C_0 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 c (col128 h d))
      = xs0 (ix2 c (col128 h d)) + ((∑ r, ds (Q h r) (K h) (V h) (G h r) c * (Q h r d * (Real.sqrt 96)⁻¹) : ℝ) : EReal) := by
  unfold sout0_C_0
  rw [View.read_writes_junk_eq_canon]
  unfold kernelRun0_C
  dsimp only
  sl_unfold_words
  simp only [View.readAt_eq_ld, h2.read_unread, h3.read_unread, h4.read_unread, h5.read_unread, h6.read_unread, h7.read_unread, h11.read_unread, h12.read_unread]
  match h with
  | 0 =>
    rw [canon_skip _ _ _ _ (by simp only [col128_val] <;> omega)]; rw [canon_skip _ _ _ _ (by simp only [col128_val] <;> omega)]; rw [canon_skip _ _ _ _ (by simp only [col128_val] <;> omega)]; rw [canon_hit _ _ c d _ _ (by omega) (by simp only [col128_val] <;> omega)]
    refine (PayLat.ak0 (Q := Q 0) (K := K 0) (V := V 0) (G := G 0)
      (fun r d => (ld_at _ r d r (col128 0 d) (by omega) (by simp only [col128_val] <;> omega)).trans (hx0 0 r d))
      (fun c d => (ld_at _ c d c (col128 0 d) (by omega) (by simp only [col128_val] <;> omega)).trans (hx1 0 c d))
      (fun c e => (ld_at _ c e c (col64 0 e) (by omega) (by simp only [col64_val] <;> omega)).trans (hx2 0 c e))
      (fun r e => (ld_at _ r e r (col64 0 e) (by omega) (by simp only [col64_val] <;> omega)).trans (hx5 0 r e))
      (fun r e => (ld_at _ r e r (col64 0 e) (by omega) (by simp only [col64_val] <;> omega)).trans (hx3 0 r e))
      (fun r => (ld_at _ r _ r (lane 0) (by omega) (by simp [lane])).trans (hx4 0 r))
       _ c d).trans ?_
    rw [ld_at _ c d c (col128 0 d) (by omega) (by simp only [col128_val] <;> omega)]
  | 1 =>
    rw [canon_skip _ _ _ _ (by simp only [col128_val] <;> omega)]; rw [canon_skip _ _ _ _ (by simp only [col128_val] <;> omega)]; rw [canon_hit _ _ c d _ _ (by omega) (by simp only [col128_val] <;> omega)]
    refine (PayLat.ak1 (Q := Q 1) (K := K 1) (V := V 1) (G := G 1)
      (fun r d => (ld_at _ r d r (col128 1 d) (by omega) (by simp only [col128_val] <;> omega)).trans (hx0 1 r d))
      (fun c d => (ld_at _ c d c (col128 1 d) (by omega) (by simp only [col128_val] <;> omega)).trans (hx1 1 c d))
      (fun c e => (ld_at _ c e c (col64 1 e) (by omega) (by simp only [col64_val] <;> omega)).trans (hx2 1 c e))
      (fun r e => (ld_at _ r e r (col64 1 e) (by omega) (by simp only [col64_val] <;> omega)).trans (hx5 1 r e))
      (fun r e => (ld_at _ r e r (col64 1 e) (by omega) (by simp only [col64_val] <;> omega)).trans (hx3 1 r e))
      (fun r => (ld_at _ r _ r (lane 1) (by omega) (by simp [lane])).trans (hx4 1 r))
       _ c d).trans ?_
    rw [ld_at _ c d c (col128 1 d) (by omega) (by simp only [col128_val] <;> omega)]
  | 2 =>
    rw [canon_skip _ _ _ _ (by simp only [col128_val] <;> omega)]; rw [canon_hit _ _ c d _ _ (by omega) (by simp only [col128_val] <;> omega)]
    refine (PayLat.ak2 (Q := Q 2) (K := K 2) (V := V 2) (G := G 2)
      (fun r d => (ld_at _ r d r (col128 2 d) (by omega) (by simp only [col128_val] <;> omega)).trans (hx0 2 r d))
      (fun c d => (ld_at _ c d c (col128 2 d) (by omega) (by simp only [col128_val] <;> omega)).trans (hx1 2 c d))
      (fun c e => (ld_at _ c e c (col64 2 e) (by omega) (by simp only [col64_val] <;> omega)).trans (hx2 2 c e))
      (fun r e => (ld_at _ r e r (col64 2 e) (by omega) (by simp only [col64_val] <;> omega)).trans (hx5 2 r e))
      (fun r e => (ld_at _ r e r (col64 2 e) (by omega) (by simp only [col64_val] <;> omega)).trans (hx3 2 r e))
      (fun r => (ld_at _ r _ r (lane 2) (by omega) (by simp [lane])).trans (hx4 2 r))
       _ c d).trans ?_
    rw [ld_at _ c d c (col128 2 d) (by omega) (by simp only [col128_val] <;> omega)]
  | 3 =>
    rw [canon_hit _ _ c d _ _ (by omega) (by simp only [col128_val] <;> omega)]
    refine (PayLat.ak3 (Q := Q 3) (K := K 3) (V := V 3) (G := G 3)
      (fun r d => (ld_at _ r d r (col128 3 d) (by omega) (by simp only [col128_val] <;> omega)).trans (hx0 3 r d))
      (fun c d => (ld_at _ c d c (col128 3 d) (by omega) (by simp only [col128_val] <;> omega)).trans (hx1 3 c d))
      (fun c e => (ld_at _ c e c (col64 3 e) (by omega) (by simp only [col64_val] <;> omega)).trans (hx2 3 c e))
      (fun r e => (ld_at _ r e r (col64 3 e) (by omega) (by simp only [col64_val] <;> omega)).trans (hx5 3 r e))
      (fun r e => (ld_at _ r e r (col64 3 e) (by omega) (by simp only [col64_val] <;> omega)).trans (hx3 3 r e))
      (fun r => (ld_at _ r _ r (lane 3) (by omega) (by simp [lane])).trans (hx4 3 r))
       _ c d).trans ?_
    rw [ld_at _ c d c (col128 3 d) (by omega) (by simp only [col128_val] <;> omega)]

include hx0 hx1 hx2 hx3 hx4 hx5 in
theorem dv (hc0 hc1 hc2 hc3) (h : Fin 4) (c : Fin 4352) (d : Fin 64) :
    sout0_C_1 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 c (col64 h d))
      = xs1 (ix2 c (col64 h d)) + ((∑ r, pr (Q h r) (K h) c * G h r d : ℝ) : EReal) := by
  unfold sout0_C_1
  rw [View.read_writes_junk_eq_canon]
  unfold kernelRun0_C
  dsimp only
  sl_unfold_words
  simp only [View.readAt_eq_ld, h2.read_unread, h3.read_unread, h4.read_unread, h5.read_unread, h6.read_unread, h7.read_unread, h11.read_unread, h12.read_unread]
  match h with
  | 0 =>
    rw [canon_skip _ _ _ _ (by simp only [col64_val] <;> omega)]; rw [canon_skip _ _ _ _ (by simp only [col64_val] <;> omega)]; rw [canon_skip _ _ _ _ (by simp only [col64_val] <;> omega)]; rw [canon_hit _ _ c d _ _ (by omega) (by simp only [col64_val] <;> omega)]
    refine (PayLat.av0 (Q := Q 0) (K := K 0) (G := G 0)
      (fun r d => (ld_at _ r d r (col128 0 d) (by omega) (by simp only [col128_val] <;> omega)).trans (hx0 0 r d))
      (fun c d => (ld_at _ c d c (col128 0 d) (by omega) (by simp only [col128_val] <;> omega)).trans (hx1 0 c d))
      (fun r e => (ld_at _ r e r (col64 0 e) (by omega) (by simp only [col64_val] <;> omega)).trans (hx5 0 r e))
      (fun r => (ld_at _ r _ r (lane 0) (by omega) (by simp [lane])).trans (hx4 0 r))
       _ c d).trans ?_
    rw [ld_at _ c d c (col64 0 d) (by omega) (by simp only [col64_val] <;> omega)]
  | 1 =>
    rw [canon_skip _ _ _ _ (by simp only [col64_val] <;> omega)]; rw [canon_skip _ _ _ _ (by simp only [col64_val] <;> omega)]; rw [canon_hit _ _ c d _ _ (by omega) (by simp only [col64_val] <;> omega)]
    refine (PayLat.av1 (Q := Q 1) (K := K 1) (G := G 1)
      (fun r d => (ld_at _ r d r (col128 1 d) (by omega) (by simp only [col128_val] <;> omega)).trans (hx0 1 r d))
      (fun c d => (ld_at _ c d c (col128 1 d) (by omega) (by simp only [col128_val] <;> omega)).trans (hx1 1 c d))
      (fun r e => (ld_at _ r e r (col64 1 e) (by omega) (by simp only [col64_val] <;> omega)).trans (hx5 1 r e))
      (fun r => (ld_at _ r _ r (lane 1) (by omega) (by simp [lane])).trans (hx4 1 r))
       _ c d).trans ?_
    rw [ld_at _ c d c (col64 1 d) (by omega) (by simp only [col64_val] <;> omega)]
  | 2 =>
    rw [canon_skip _ _ _ _ (by simp only [col64_val] <;> omega)]; rw [canon_hit _ _ c d _ _ (by omega) (by simp only [col64_val] <;> omega)]
    refine (PayLat.av2 (Q := Q 2) (K := K 2) (G := G 2)
      (fun r d => (ld_at _ r d r (col128 2 d) (by omega) (by simp only [col128_val] <;> omega)).trans (hx0 2 r d))
      (fun c d => (ld_at _ c d c (col128 2 d) (by omega) (by simp only [col128_val] <;> omega)).trans (hx1 2 c d))
      (fun r e => (ld_at _ r e r (col64 2 e) (by omega) (by simp only [col64_val] <;> omega)).trans (hx5 2 r e))
      (fun r => (ld_at _ r _ r (lane 2) (by omega) (by simp [lane])).trans (hx4 2 r))
       _ c d).trans ?_
    rw [ld_at _ c d c (col64 2 d) (by omega) (by simp only [col64_val] <;> omega)]
  | 3 =>
    rw [canon_hit _ _ c d _ _ (by omega) (by simp only [col64_val] <;> omega)]
    refine (PayLat.av3 (Q := Q 3) (K := K 3) (G := G 3)
      (fun r d => (ld_at _ r d r (col128 3 d) (by omega) (by simp only [col128_val] <;> omega)).trans (hx0 3 r d))
      (fun c d => (ld_at _ c d c (col128 3 d) (by omega) (by simp only [col128_val] <;> omega)).trans (hx1 3 c d))
      (fun r e => (ld_at _ r e r (col64 3 e) (by omega) (by simp only [col64_val] <;> omega)).trans (hx5 3 r e))
      (fun r => (ld_at _ r _ r (lane 3) (by omega) (by simp [lane])).trans (hx4 3 r))
       _ c d).trans ?_
    rw [ld_at _ c d c (col64 3 d) (by omega) (by simp only [col64_val] <;> omega)]

include hx0 hx1 hx2 hx3 hx4 hx5 in
theorem dq (hc0 hc1 hc2 hc3) (h : Fin 4) (r : Fin 256) (d : Fin 128) :
    out0_C_6 (F := Ideal) cc i a2 h2 a3 h3 a4 h4 a5 h5 a6 h6 a7 h7 a8 h8 a9 h9 a10 h10 a11 h11 a12 h12 hc0 hc1 hc2 hc3
      x0 x1 x2 x3 x4 x5 xs0 xs1 (ix2 r (col128 h d))
      = (((∑ c, ds (Q h r) (K h) (V h) (G h r) c * K h c d) * (Real.sqrt 96)⁻¹ : ℝ) : EReal) := by
  unfold out0_C_6
  rw [View.read_writes_junk_eq_canon]
  unfold kernelRun0_C
  dsimp only
  sl_unfold_words
  simp only [View.readAt_eq_ld, h2.read_unread, h3.read_unread, h4.read_unread, h5.read_unread, h6.read_unread, h7.read_unread, h11.read_unread, h12.read_unread]
  match h with
  | 0 =>
    rw [canon_skip _ _ _ _ (by simp only [col128_val] <;> omega)]; rw [canon_skip _ _ _ _ (by simp only [col128_val] <;> omega)]; rw [canon_skip _ _ _ _ (by simp only [col128_val] <;> omega)]; rw [canon_hit _ _ r d _ _ (by omega) (by simp only [col128_val] <;> omega)]
    refine (PayLat.dq0 (Q := Q 0) (K := K 0) (V := V 0) (G := G 0)
      (fun r d => (ld_at _ r d r (col128 0 d) (by omega) (by simp only [col128_val] <;> omega)).trans (hx0 0 r d))
      (fun c d => (ld_at _ c d c (col128 0 d) (by omega) (by simp only [col128_val] <;> omega)).trans (hx1 0 c d))
      (fun c e => (ld_at _ c e c (col64 0 e) (by omega) (by simp only [col64_val] <;> omega)).trans (hx2 0 c e))
      (fun r e => (ld_at _ r e r (col64 0 e) (by omega) (by simp only [col64_val] <;> omega)).trans (hx5 0 r e))
      (fun r e => (ld_at _ r e r (col64 0 e) (by omega) (by simp only [col64_val] <;> omega)).trans (hx3 0 r e))
      (fun r => (ld_at _ r _ r (lane 0) (by omega) (by simp [lane])).trans (hx4 0 r))
       r d).trans ?_
    rfl
  | 1 =>
    rw [canon_skip _ _ _ _ (by simp only [col128_val] <;> omega)]; rw [canon_skip _ _ _ _ (by simp only [col128_val] <;> omega)]; rw [canon_hit _ _ r d _ _ (by omega) (by simp only [col128_val] <;> omega)]
    refine (PayLat.dq1 (Q := Q 1) (K := K 1) (V := V 1) (G := G 1)
      (fun r d => (ld_at _ r d r (col128 1 d) (by omega) (by simp only [col128_val] <;> omega)).trans (hx0 1 r d))
      (fun c d => (ld_at _ c d c (col128 1 d) (by omega) (by simp only [col128_val] <;> omega)).trans (hx1 1 c d))
      (fun c e => (ld_at _ c e c (col64 1 e) (by omega) (by simp only [col64_val] <;> omega)).trans (hx2 1 c e))
      (fun r e => (ld_at _ r e r (col64 1 e) (by omega) (by simp only [col64_val] <;> omega)).trans (hx5 1 r e))
      (fun r e => (ld_at _ r e r (col64 1 e) (by omega) (by simp only [col64_val] <;> omega)).trans (hx3 1 r e))
      (fun r => (ld_at _ r _ r (lane 1) (by omega) (by simp [lane])).trans (hx4 1 r))
       r d).trans ?_
    rfl
  | 2 =>
    rw [canon_skip _ _ _ _ (by simp only [col128_val] <;> omega)]; rw [canon_hit _ _ r d _ _ (by omega) (by simp only [col128_val] <;> omega)]
    refine (PayLat.dq2 (Q := Q 2) (K := K 2) (V := V 2) (G := G 2)
      (fun r d => (ld_at _ r d r (col128 2 d) (by omega) (by simp only [col128_val] <;> omega)).trans (hx0 2 r d))
      (fun c d => (ld_at _ c d c (col128 2 d) (by omega) (by simp only [col128_val] <;> omega)).trans (hx1 2 c d))
      (fun c e => (ld_at _ c e c (col64 2 e) (by omega) (by simp only [col64_val] <;> omega)).trans (hx2 2 c e))
      (fun r e => (ld_at _ r e r (col64 2 e) (by omega) (by simp only [col64_val] <;> omega)).trans (hx5 2 r e))
      (fun r e => (ld_at _ r e r (col64 2 e) (by omega) (by simp only [col64_val] <;> omega)).trans (hx3 2 r e))
      (fun r => (ld_at _ r _ r (lane 2) (by omega) (by simp [lane])).trans (hx4 2 r))
       r d).trans ?_
    rfl
  | 3 =>
    rw [canon_hit _ _ r d _ _ (by omega) (by simp only [col128_val] <;> omega)]
    refine (PayLat.dq3 (Q := Q 3) (K := K 3) (V := V 3) (G := G 3)
      (fun r d => (ld_at _ r d r (col128 3 d) (by omega) (by simp only [col128_val] <;> omega)).trans (hx0 3 r d))
      (fun c d => (ld_at _ c d c (col128 3 d) (by omega) (by simp only [col128_val] <;> omega)).trans (hx1 3 c d))
      (fun c e => (ld_at _ c e c (col64 3 e) (by omega) (by simp only [col64_val] <;> omega)).trans (hx2 3 c e))
      (fun r e => (ld_at _ r e r (col64 3 e) (by omega) (by simp only [col64_val] <;> omega)).trans (hx5 3 r e))
      (fun r e => (ld_at _ r e r (col64 3 e) (by omega) (by simp only [col64_val] <;> omega)).trans (hx3 3 r e))
      (fun r => (ld_at _ r _ r (lane 3) (by omega) (by simp [lane])).trans (hx4 3 r))
       r d).trans ?_
    rfl

theorem cast7 (X : Vec Ideal S4352x512 .f32) (y : S4352x512.Idx) : k0_pay3 (F := Ideal) X y = X y := rfl

theorem cast8 (X : Vec Ideal S4352x256 .f32) (y : S4352x256.Idx) : k0_pay4 (F := Ideal) X y = X y := rfl

theorem out7 (hc0 hc1 hc2 hc3) (y : S4352x512.Idx) :
    out0_C_7 (F := Ideal) cc i a2 h2 a3 h3 a4 h4 a5 h5 a6 h6 a7 h7 a8 h8 a9 h9 a10 h10 a11 h11 a12 h12 hc0 hc1 hc2 hc3
      x0 x1 x2 x3 x4 x5 xs0 xs1 y
      = sout0_C_0 (F := Ideal) cc i a2 h2 a3 h3 a4 h4 a5 h5 a6 h6 a7 h7 a8 h8 a9 h9 a10 h10 a11 h11 a12 h12 hc0 hc1 hc2 hc3
      x0 x1 x2 x3 x4 x5 xs0 xs1 y := by
  unfold out0_C_7 sout0_C_0
  rw [View.read_writes_junk_eq_canon, View.read_writes_junk_eq_canon]
  unfold kernelRun0_C
  dsimp only
  sl_unfold_words
  rw [View.canon_unit_zero (by decide)]
  rw [readCov_whole]
  exact cast7 _ y

theorem out8 (hc0 hc1 hc2 hc3) (y : S4352x256.Idx) :
    out0_C_8 (F := Ideal) cc i a2 h2 a3 h3 a4 h4 a5 h5 a6 h6 a7 h7 a8 h8 a9 h9 a10 h10 a11 h11 a12 h12 hc0 hc1 hc2 hc3
      x0 x1 x2 x3 x4 x5 xs0 xs1 y
      = sout0_C_1 (F := Ideal) cc i a2 h2 a3 h3 a4 h4 a5 h5 a6 h6 a7 h7 a8 h8 a9 h9 a10 h10 a11 h11 a12 h12 hc0 hc1 hc2 hc3
      x0 x1 x2 x3 x4 x5 xs0 xs1 y := by
  unfold out0_C_8 sout0_C_1
  rw [View.read_writes_junk_eq_canon, View.read_writes_junk_eq_canon]
  unfold kernelRun0_C
  dsimp only
  sl_unfold_words
  rw [View.canon_unit_zero (by decide)]
  rw [readCov_whole]
  exact cast8 _ y

end Cert.KernelIdeal.TileC

end
-- ==== Proof.Steps.lean ====
/- What one grid point does: the block of the queries' gradient that it writes, and what it adds to the two running sums
   for the gradients of the keys and of the values. -/
module

public import proofs.«01_k».proof.Proof.Blocks
public import proofs.«01_k».proof.Proof.TileA
public import proofs.«01_k».proof.Proof.TileB
public import proofs.«01_k».proof.Proof.TileC

@[expose] public section

set_option maxRecDepth 16384

noncomputable section

namespace Cert.KernelIdeal.Steps

open Cert.KernelIdeal Cert.KernelIdeal.Gen Cert.KernelIdeal.Saved Cert.KernelIdeal.Blocks Cert.AttnGrad Idealize.ShloMosaic Idealize.ShloMosaic.TcCoe

variable (m : (ℓ : Loc nD τ sig) → Buf (Elt Ideal) ℓ) (c : Dev nD)

/-- The call's four arguments on core `c`. -/
abbrev aq : FVec Ideal S8704x512 .f32 := m ((c : Thread nD τ).loc main_arg0)
abbrev ak : FVec Ideal S8704x512 .bf16 := m ((c : Thread nD τ).loc main_arg1)
abbrev av : FVec Ideal S8704x256 .bf16 := m ((c : Thread nD τ).loc main_arg2)
abbrev ag : FVec Ideal S8704x256 .bf16 := m ((c : Thread nD τ).loc main_arg3)

/-- Latent row `r` of the `n`-th tile of latent rows. -/
def tl (n : Fin 16) (r : Fin 256) : Fin 4096 := ⟨n.val * 256 + r.val, by omega⟩

theorem tile_zero (r : Fin 256) : tilePos 0 r = ctxPos r := Fin.ext (by simp only [tilePos, ctxPos, Fin.val_castLE]; simp)
theorem tile_succ (n : Fin 16) (r : Fin 256) : tilePos n.succ r = latPos (tl n r) :=
  Fin.ext (by simp only [tilePos, latPos, tl, Fin.val_succ]; omega)

theorem mod_zero (b : Fin 2) : (pt b 0).val % 17 = 0 := by simp [pt]
theorem mod_succ (b : Fin 2) (n : Fin 16) : (pt b n.succ).val % 17 = n.val + 1 := by simp only [pt, Fin.val_succ]; omega

variable {Q K : Fin 2 → Fin 4 → Fin 4352 → Fin 128 → ℝ} {X G : Fin 2 → Fin 4 → Fin 4352 → Fin 64 → ℝ}
  (hq : ∀ b h s d, aq m c (ix2 (row b s) (col128 h d)) = (Q b h s d : EReal))
  (hk : ∀ b h s d, ak m c (ix2 (row b s) (col128 h d)) = (K b h s d : EReal))
  (hv : ∀ b h s d, av m c (ix2 (row b s) (col64 h d)) = (X b h s d : EReal))
  (hg : ∀ b h s d, ag m c (ix2 (row b s) (col64 h d)) = (G b h s d : EReal))

include hq in
theorem c0 (b : Fin 2) (h : Fin 4) (r : Fin 256) (d : Fin 128) : iblk m c 0 (pt b 0) (ix2 r (col128 h d)) = (Q b h (ctxPos r) d : EReal) :=
  (blk0 m c b 0 r _).trans ((congrArg (fun s => aq m c (ix2 (row b s) (col128 h d))) (tile_zero r)).trans (hq b h (ctxPos r) d))
include hk in
theorem c1 (b : Fin 2) (i : Fin 17) (h : Fin 4) (r : Fin 4352) (d : Fin 128) : iblk m c 1 (pt b i) (ix2 r (col128 h d)) = (K b h r d : EReal) :=
  (blk1 m c b i r _).trans (hk b h r d)
include hv in
theorem c2 (b : Fin 2) (i : Fin 17) (h : Fin 4) (r : Fin 4352) (d : Fin 64) : iblk m c 2 (pt b i) (ix2 r (col64 h d)) = (X b h r d : EReal) :=
  (blk2 m c b i r _).trans (hv b h r d)
include hq hk hv in
theorem c3 (b : Fin 2) (h : Fin 4) (r : Fin 256) (d : Fin 64) : iblk m c 3 (pt b 0) (ix2 r (col64 h d))
    = (ob (Q b h (ctxPos r)) (fun c => K b h (ctxPos c)) (fun c => X b h (ctxPos c)) d : EReal) :=
  (blk3 m c b 0 r _).trans ((congrArg (fun s => V m c main_v45 (ix2 (row b s) (col64 h d))) (tile_zero r)).trans
    ((congrFun (V_o m c) _).trans (o_ctx hq hk hv b h r d _)))
include hq hk in
theorem c4 (b : Fin 2) (h : Fin 4) (r : Fin 256) : iblk m c 4 (pt b 0) (ix2 r (lane h))
    = (ls (Q b h (ctxPos r)) (fun c => K b h (ctxPos c)) : EReal) :=
  (blk4 m c b 0 r _).trans ((congrArg (fun s => V m c main_v90 (ix2 (row b s) (lane h))) (tile_zero r)).trans
    ((congrFun (V_l m c) _).trans (l_ctx hq hk b h r _)))
include hg in
theorem c5 (b : Fin 2) (h : Fin 4) (r : Fin 256) (d : Fin 64) : iblk m c 5 (pt b 0) (ix2 r (col64 h d)) = (G b h (ctxPos r) d : EReal) :=
  (blk5 m c b 0 r _).trans ((congrArg (fun s => ag m c (ix2 (row b s) (col64 h d))) (tile_zero r)).trans (hg b h (ctxPos r) d))

include hq in
theorem t0 (b : Fin 2) (n : Fin 16) (h : Fin 4) (r : Fin 256) (d : Fin 128) :
    iblk m c 0 (pt b n.succ) (ix2 r (col128 h d)) = (Q b h (latPos (tl n r)) d : EReal) :=
  (blk0 m c b n.succ r _).trans ((congrArg (fun s => aq m c (ix2 (row b s) (col128 h d))) (tile_succ n r)).trans (hq b h _ d))
include hq hk hv in
theorem t3 (b : Fin 2) (n : Fin 16) (h : Fin 4) (r : Fin 256) (d : Fin 64) : iblk m c 3 (pt b n.succ) (ix2 r (col64 h d))
    = (ob (Q b h (latPos (tl n r))) (K b h) (X b h) d : EReal) :=
  (blk3 m c b n.succ r _).trans ((congrArg (fun s => V m c main_v45 (ix2 (row b s) (col64 h d))) (tile_succ n r)).trans
    ((congrFun (V_o m c) _).trans (o_lat hq hk hv b h (tl n r) d _)))
include hq hk in
theorem t4 (b : Fin 2) (n : Fin 16) (h : Fin 4) (r : Fin 256) : iblk m c 4 (pt b n.succ) (ix2 r (lane h))
    = (ls (Q b h (latPos (tl n r))) (K b h) : EReal) :=
  (blk4 m c b n.succ r _).trans ((congrArg (fun s => V m c main_v90 (ix2 (row b s) (lane h))) (tile_succ n r)).trans
    ((congrFun (V_l m c) _).trans (l_lat hq hk b h (tl n r) _)))
include hg in
theorem t5 (b : Fin 2) (n : Fin 16) (h : Fin 4) (r : Fin 256) (d : Fin 64) :
    iblk m c 5 (pt b n.succ) (ix2 r (col64 h d)) = (G b h (latPos (tl n r)) d : EReal) :=
  (blk5 m c b n.succ r _).trans ((congrArg (fun s => ag m c (ix2 (row b s) (col64 h d))) (tile_succ n r)).trans (hg b h _ d))

/-- What the carried state is after a point. -/
abbrev st (b : Fin 2) (i : Fin 17) := outsAt0 m c (pt b i).val (pt b i).isLt

theorem nA2 (b : Fin 2) : ¬ 1 ≤ (pt b 0).val % 17 := by rw [mod_zero]; decide
theorem nA3 (b : Fin 2) : ¬ (pt b 0).val % 17 = 16 := by rw [mod_zero]; decide
theorem nS0 (b : Fin 2) (n : Fin 16) : ¬ (pt b n.succ).val % 17 = 0 := by rw [mod_succ]; omega
theorem nS2 (b : Fin 2) (n : Fin 16) : 1 ≤ (pt b n.succ).val % 17 := by rw [mod_succ]; omega
theorem nB3 (b : Fin 2) (n : Fin 16) (hn : n.val < 15) : ¬ (pt b n.succ).val % 17 = 16 := by rw [mod_succ]; omega
theorem nC3 (b : Fin 2) (n : Fin 16) (hn : n.val = 15) : (pt b n.succ).val % 17 = 16 := by rw [mod_succ]; omega

theorem outs_congr {a a' : ℕ} (e : a = a') (ha : a < cfg0.N) (ha' : a' < cfg0.N) : outsAt0 m c a ha = outsAt0 m c a' ha' := by
  subst e; rfl

theorem prev (b : Fin 2) (n : Fin 16) : (outsAt0 m c ((pt b n.succ).val - 1) (Nat.lt_of_le_of_lt (Nat.sub_le _ _) (pt b n.succ).isLt)) = st m c b n.castSucc :=
  outs_congr m c (by simp only [pt, Fin.val_succ, Fin.val_castSucc]; omega) _ _

include hq hk hv hg in
theorem dkA (b : Fin 2) (h : Fin 4) (k : Fin 256) (d : Fin 128) : (st m c b 0).2.2.2.1 (ix2 (ctxPos k) (col128 h d))
    = ((∑ r, ds (Q b h (ctxPos r)) (fun c => K b h (ctxPos c)) (fun c => X b h (ctxPos c)) (G b h (ctxPos r)) k * (Q b h (ctxPos r) d * (Real.sqrt 96)⁻¹) : ℝ) : EReal) := by
  have e := outsAt0_A m c (pt b 0) (mod_zero b) (mod_zero b) (nA2 b) (nA3 b)
  refine (congrFun (congrArg (fun z => z.2.2.2.1) e) _).trans ?_
  dsimp only
  exact TileA.dk c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _) (x0 := iblk m c 0 (pt b 0)) (x1 := iblk m c 1 (pt b 0)) (x2 := iblk m c 2 (pt b 0)) (x3 := iblk m c 3 (pt b 0)) (x4 := iblk m c 4 (pt b 0)) (x5 := iblk m c 5 (pt b 0))
      (Q := fun h r => Q b h (ctxPos r)) (K := fun h c => K b h (ctxPos c)) (V := fun h c => X b h (ctxPos c)) (G := fun h r => G b h (ctxPos r))
      (c0 m c hq b) (fun h r d => c1 m c hk b 0 h (ctxPos r) d) (fun h r d => c2 m c hv b 0 h (ctxPos r) d) (c3 m c hq hk hv b) (c4 m c hq hk b) (c5 m c hg b) ((hcond0_0 (pt b 0)).mpr (mod_zero b)) ((hcond0_1 (pt b 0)).mpr (mod_zero b)) (fun h => nA2 b ((hcond0_2 (pt b 0)).mp h)) (fun h => nA3 b ((hcond0_3 (pt b 0)).mp h)) h k d

theorem dkA_rest (b : Fin 2) (k : Fin 4352) (hc : 256 ≤ k.val) (j : Fin 512) : (st m c b 0).2.2.2.1 (ix2 k j)
    = 0 := by
  have e := outsAt0_A m c (pt b 0) (mod_zero b) (mod_zero b) (nA2 b) (nA3 b)
  refine (congrFun (congrArg (fun z => z.2.2.2.1) e) _).trans ?_
  dsimp only
  exact TileA.dk_rest c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _) (x0 := iblk m c 0 (pt b 0)) (x1 := iblk m c 1 (pt b 0)) (x2 := iblk m c 2 (pt b 0)) (x3 := iblk m c 3 (pt b 0)) (x4 := iblk m c 4 (pt b 0)) (x5 := iblk m c 5 (pt b 0)) ((hcond0_0 (pt b 0)).mpr (mod_zero b)) ((hcond0_1 (pt b 0)).mpr (mod_zero b)) (fun h => nA2 b ((hcond0_2 (pt b 0)).mp h)) (fun h => nA3 b ((hcond0_3 (pt b 0)).mp h)) k hc j

include hq hk hv hg in
theorem dvA (b : Fin 2) (h : Fin 4) (k : Fin 256) (d : Fin 64) : (st m c b 0).2.2.2.2 (ix2 (ctxPos k) (col64 h d))
    = ((∑ r, pr (Q b h (ctxPos r)) (fun c => K b h (ctxPos c)) k * G b h (ctxPos r) d : ℝ) : EReal) := by
  have e := outsAt0_A m c (pt b 0) (mod_zero b) (mod_zero b) (nA2 b) (nA3 b)
  refine (congrFun (congrArg (fun z => z.2.2.2.2) e) _).trans ?_
  dsimp only
  exact TileA.dv c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _) (x0 := iblk m c 0 (pt b 0)) (x1 := iblk m c 1 (pt b 0)) (x2 := iblk m c 2 (pt b 0)) (x3 := iblk m c 3 (pt b 0)) (x4 := iblk m c 4 (pt b 0)) (x5 := iblk m c 5 (pt b 0))
      (Q := fun h r => Q b h (ctxPos r)) (K := fun h c => K b h (ctxPos c)) (V := fun h c => X b h (ctxPos c)) (G := fun h r => G b h (ctxPos r))
      (c0 m c hq b) (fun h r d => c1 m c hk b 0 h (ctxPos r) d) (fun h r d => c2 m c hv b 0 h (ctxPos r) d) (c3 m c hq hk hv b) (c4 m c hq hk b) (c5 m c hg b) ((hcond0_0 (pt b 0)).mpr (mod_zero b)) ((hcond0_1 (pt b 0)).mpr (mod_zero b)) (fun h => nA2 b ((hcond0_2 (pt b 0)).mp h)) (fun h => nA3 b ((hcond0_3 (pt b 0)).mp h)) h k d

theorem dvA_rest (b : Fin 2) (k : Fin 4352) (hc : 256 ≤ k.val) (j : Fin 256) : (st m c b 0).2.2.2.2 (ix2 k j)
    = 0 := by
  have e := outsAt0_A m c (pt b 0) (mod_zero b) (mod_zero b) (nA2 b) (nA3 b)
  refine (congrFun (congrArg (fun z => z.2.2.2.2) e) _).trans ?_
  dsimp only
  exact TileA.dv_rest c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _) (x0 := iblk m c 0 (pt b 0)) (x1 := iblk m c 1 (pt b 0)) (x2 := iblk m c 2 (pt b 0)) (x3 := iblk m c 3 (pt b 0)) (x4 := iblk m c 4 (pt b 0)) (x5 := iblk m c 5 (pt b 0)) ((hcond0_0 (pt b 0)).mpr (mod_zero b)) ((hcond0_1 (pt b 0)).mpr (mod_zero b)) (fun h => nA2 b ((hcond0_2 (pt b 0)).mp h)) (fun h => nA3 b ((hcond0_3 (pt b 0)).mp h)) k hc j

include hq hk hv hg in
theorem dqA (b : Fin 2) (h : Fin 4) (r : Fin 256) (d : Fin 128) : (st m c b 0).1 (ix2 r (col128 h d))
    = (((∑ k, ds (Q b h (ctxPos r)) (fun c => K b h (ctxPos c)) (fun c => X b h (ctxPos c)) (G b h (ctxPos r)) k * K b h (ctxPos k) d) * (Real.sqrt 96)⁻¹ : ℝ) : EReal) := by
  have e := outsAt0_A m c (pt b 0) (mod_zero b) (mod_zero b) (nA2 b) (nA3 b)
  refine (congrFun (congrArg (fun z => z.1) e) _).trans ?_
  dsimp only
  exact TileA.dq c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _) (x0 := iblk m c 0 (pt b 0)) (x1 := iblk m c 1 (pt b 0)) (x2 := iblk m c 2 (pt b 0)) (x3 := iblk m c 3 (pt b 0)) (x4 := iblk m c 4 (pt b 0)) (x5 := iblk m c 5 (pt b 0))
      (Q := fun h r => Q b h (ctxPos r)) (K := fun h c => K b h (ctxPos c)) (V := fun h c => X b h (ctxPos c)) (G := fun h r => G b h (ctxPos r))
      (c0 m c hq b) (fun h r d => c1 m c hk b 0 h (ctxPos r) d) (fun h r d => c2 m c hv b 0 h (ctxPos r) d) (c3 m c hq hk hv b) (c4 m c hq hk b) (c5 m c hg b) ((hcond0_0 (pt b 0)).mpr (mod_zero b)) ((hcond0_1 (pt b 0)).mpr (mod_zero b)) (fun h => nA2 b ((hcond0_2 (pt b 0)).mp h)) (fun h => nA3 b ((hcond0_3 (pt b 0)).mp h)) h r d

include hq hk hv hg in
theorem dkB (b : Fin 2) (n : Fin 16) (hn : n.val < 15) (h : Fin 4) (k : Fin 4352) (d : Fin 128) : (st m c b n.succ).2.2.2.1 (ix2 k (col128 h d))
    = (st m c b n.castSucc).2.2.2.1 (ix2 k (col128 h d))
      + ((∑ r, ds (Q b h (latPos (tl n r))) (K b h) (X b h) (G b h (latPos (tl n r))) k * (Q b h (latPos (tl n r)) d * (Real.sqrt 96)⁻¹) : ℝ) : EReal) := by
  have e := outsAt0_B m c (pt b n.succ) (nS0 b n) (nS0 b n) (nS2 b n) (nB3 b n hn)
  rw [prev m c b n] at e
  refine (congrFun (congrArg (fun z => z.2.2.2.1) e) _).trans ?_
  generalize st m c b n.castSucc = z
  dsimp only
  exact TileB.dk c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _) (x0 := iblk m c 0 (pt b n.succ)) (x1 := iblk m c 1 (pt b n.succ)) (x2 := iblk m c 2 (pt b n.succ)) (x3 := iblk m c 3 (pt b n.succ)) (x4 := iblk m c 4 (pt b n.succ)) (x5 := iblk m c 5 (pt b n.succ))
      z.2.2.2.1 z.2.2.2.2
      (Q := fun h r => Q b h (latPos (tl n r))) (K := K b) (V := X b) (G := fun h r => G b h (latPos (tl n r)))
      (t0 m c hq b n) (c1 m c hk b n.succ) (c2 m c hv b n.succ) (t3 m c hq hk hv b n) (t4 m c hq hk b n) (t5 m c hg b n) (fun h => nS0 b n ((hcond0_0 (pt b n.succ)).mp h)) (fun h => nS0 b n ((hcond0_1 (pt b n.succ)).mp h)) ((hcond0_2 (pt b n.succ)).mpr (nS2 b n)) (fun h => nB3 b n hn ((hcond0_3 (pt b n.succ)).mp h)) h k d

include hq hk hv hg in
theorem dvB (b : Fin 2) (n : Fin 16) (hn : n.val < 15) (h : Fin 4) (k : Fin 4352) (d : Fin 64) : (st m c b n.succ).2.2.2.2 (ix2 k (col64 h d))
    = (st m c b n.castSucc).2.2.2.2 (ix2 k (col64 h d))
      + ((∑ r, pr (Q b h (latPos (tl n r))) (K b h) k * G b h (latPos (tl n r)) d : ℝ) : EReal) := by
  have e := outsAt0_B m c (pt b n.succ) (nS0 b n) (nS0 b n) (nS2 b n) (nB3 b n hn)
  rw [prev m c b n] at e
  refine (congrFun (congrArg (fun z => z.2.2.2.2) e) _).trans ?_
  generalize st m c b n.castSucc = z
  dsimp only
  exact TileB.dv c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _) (x0 := iblk m c 0 (pt b n.succ)) (x1 := iblk m c 1 (pt b n.succ)) (x2 := iblk m c 2 (pt b n.succ)) (x3 := iblk m c 3 (pt b n.succ)) (x4 := iblk m c 4 (pt b n.succ)) (x5 := iblk m c 5 (pt b n.succ))
      z.2.2.2.1 z.2.2.2.2
      (Q := fun h r => Q b h (latPos (tl n r))) (K := K b) (V := X b) (G := fun h r => G b h (latPos (tl n r)))
      (t0 m c hq b n) (c1 m c hk b n.succ) (c2 m c hv b n.succ) (t3 m c hq hk hv b n) (t4 m c hq hk b n) (t5 m c hg b n) (fun h => nS0 b n ((hcond0_0 (pt b n.succ)).mp h)) (fun h => nS0 b n ((hcond0_1 (pt b n.succ)).mp h)) ((hcond0_2 (pt b n.succ)).mpr (nS2 b n)) (fun h => nB3 b n hn ((hcond0_3 (pt b n.succ)).mp h)) h k d

include hq hk hv hg in
theorem dqB (b : Fin 2) (n : Fin 16) (hn : n.val < 15) (h : Fin 4) (r : Fin 256) (d : Fin 128) : (st m c b n.succ).1 (ix2 r (col128 h d))
    = (((∑ k, ds (Q b h (latPos (tl n r))) (K b h) (X b h) (G b h (latPos (tl n r))) k * K b h k d) * (Real.sqrt 96)⁻¹ : ℝ) : EReal) := by
  have e := outsAt0_B m c (pt b n.succ) (nS0 b n) (nS0 b n) (nS2 b n) (nB3 b n hn)
  rw [prev m c b n] at e
  refine (congrFun (congrArg (fun z => z.1) e) _).trans ?_
  generalize st m c b n.castSucc = z
  dsimp only
  exact TileB.dq c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _) (x0 := iblk m c 0 (pt b n.succ)) (x1 := iblk m c 1 (pt b n.succ)) (x2 := iblk m c 2 (pt b n.succ)) (x3 := iblk m c 3 (pt b n.succ)) (x4 := iblk m c 4 (pt b n.succ)) (x5 := iblk m c 5 (pt b n.succ))
      z.2.2.2.1 z.2.2.2.2
      (Q := fun h r => Q b h (latPos (tl n r))) (K := K b) (V := X b) (G := fun h r => G b h (latPos (tl n r)))
      (t0 m c hq b n) (c1 m c hk b n.succ) (c2 m c hv b n.succ) (t3 m c hq hk hv b n) (t4 m c hq hk b n) (t5 m c hg b n) (fun h => nS0 b n ((hcond0_0 (pt b n.succ)).mp h)) (fun h => nS0 b n ((hcond0_1 (pt b n.succ)).mp h)) ((hcond0_2 (pt b n.succ)).mpr (nS2 b n)) (fun h => nB3 b n hn ((hcond0_3 (pt b n.succ)).mp h)) h r d

include hq hk hv hg in
theorem dkC (b : Fin 2) (n : Fin 16) (hn : n.val = 15) (h : Fin 4) (k : Fin 4352) (d : Fin 128) : (st m c b n.succ).2.2.2.1 (ix2 k (col128 h d))
    = (st m c b n.castSucc).2.2.2.1 (ix2 k (col128 h d))
      + ((∑ r, ds (Q b h (latPos (tl n r))) (K b h) (X b h) (G b h (latPos (tl n r))) k * (Q b h (latPos (tl n r)) d * (Real.sqrt 96)⁻¹) : ℝ) : EReal) := by
  have e := outsAt0_C m c (pt b n.succ) (nS0 b n) (nS0 b n) (nS2 b n) (nC3 b n hn)
  rw [prev m c b n] at e
  refine (congrFun (congrArg (fun z => z.2.2.2.1) e) _).trans ?_
  generalize st m c b n.castSucc = z
  dsimp only
  exact TileC.dk c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _) (x0 := iblk m c 0 (pt b n.succ)) (x1 := iblk m c 1 (pt b n.succ)) (x2 := iblk m c 2 (pt b n.succ)) (x3 := iblk m c 3 (pt b n.succ)) (x4 := iblk m c 4 (pt b n.succ)) (x5 := iblk m c 5 (pt b n.succ))
      z.2.2.2.1 z.2.2.2.2
      (Q := fun h r => Q b h (latPos (tl n r))) (K := K b) (V := X b) (G := fun h r => G b h (latPos (tl n r)))
      (t0 m c hq b n) (c1 m c hk b n.succ) (c2 m c hv b n.succ) (t3 m c hq hk hv b n) (t4 m c hq hk b n) (t5 m c hg b n) (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) h k d

include hq hk hv hg in
theorem dvC (b : Fin 2) (n : Fin 16) (hn : n.val = 15) (h : Fin 4) (k : Fin 4352) (d : Fin 64) : (st m c b n.succ).2.2.2.2 (ix2 k (col64 h d))
    = (st m c b n.castSucc).2.2.2.2 (ix2 k (col64 h d))
      + ((∑ r, pr (Q b h (latPos (tl n r))) (K b h) k * G b h (latPos (tl n r)) d : ℝ) : EReal) := by
  have e := outsAt0_C m c (pt b n.succ) (nS0 b n) (nS0 b n) (nS2 b n) (nC3 b n hn)
  rw [prev m c b n] at e
  refine (congrFun (congrArg (fun z => z.2.2.2.2) e) _).trans ?_
  generalize st m c b n.castSucc = z
  dsimp only
  exact TileC.dv c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _) (x0 := iblk m c 0 (pt b n.succ)) (x1 := iblk m c 1 (pt b n.succ)) (x2 := iblk m c 2 (pt b n.succ)) (x3 := iblk m c 3 (pt b n.succ)) (x4 := iblk m c 4 (pt b n.succ)) (x5 := iblk m c 5 (pt b n.succ))
      z.2.2.2.1 z.2.2.2.2
      (Q := fun h r => Q b h (latPos (tl n r))) (K := K b) (V := X b) (G := fun h r => G b h (latPos (tl n r)))
      (t0 m c hq b n) (c1 m c hk b n.succ) (c2 m c hv b n.succ) (t3 m c hq hk hv b n) (t4 m c hq hk b n) (t5 m c hg b n) (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) h k d

include hq hk hv hg in
theorem dqC (b : Fin 2) (n : Fin 16) (hn : n.val = 15) (h : Fin 4) (r : Fin 256) (d : Fin 128) : (st m c b n.succ).1 (ix2 r (col128 h d))
    = (((∑ k, ds (Q b h (latPos (tl n r))) (K b h) (X b h) (G b h (latPos (tl n r))) k * K b h k d) * (Real.sqrt 96)⁻¹ : ℝ) : EReal) := by
  have e := outsAt0_C m c (pt b n.succ) (nS0 b n) (nS0 b n) (nS2 b n) (nC3 b n hn)
  rw [prev m c b n] at e
  refine (congrFun (congrArg (fun z => z.1) e) _).trans ?_
  generalize st m c b n.castSucc = z
  dsimp only
  exact TileC.dq c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _) (x0 := iblk m c 0 (pt b n.succ)) (x1 := iblk m c 1 (pt b n.succ)) (x2 := iblk m c 2 (pt b n.succ)) (x3 := iblk m c 3 (pt b n.succ)) (x4 := iblk m c 4 (pt b n.succ)) (x5 := iblk m c 5 (pt b n.succ))
      z.2.2.2.1 z.2.2.2.2
      (Q := fun h r => Q b h (latPos (tl n r))) (K := K b) (V := X b) (G := fun h r => G b h (latPos (tl n r)))
      (t0 m c hq b n) (c1 m c hk b n.succ) (c2 m c hv b n.succ) (t3 m c hq hk hv b n) (t4 m c hq hk b n) (t5 m c hg b n) (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) h r d

theorem out7 (b : Fin 2) (n : Fin 16) (hn : n.val = 15) (y : S4352x512.Idx) : (st m c b n.succ).2.1 y = (st m c b n.succ).2.2.2.1 y := by
  have e := outsAt0_C m c (pt b n.succ) (nS0 b n) (nS0 b n) (nS2 b n) (nC3 b n hn)
  rw [prev m c b n] at e
  refine (congrFun (congrArg (fun z => z.2.1) e) _).trans ?_
  refine Eq.trans ?_ (congrFun (congrArg (fun z => z.2.2.2.1) e) _).symm
  generalize st m c b n.castSucc = z
  dsimp only
  exact TileC.out7 c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _) (x0 := iblk m c 0 (pt b n.succ)) (x1 := iblk m c 1 (pt b n.succ)) (x2 := iblk m c 2 (pt b n.succ)) (x3 := iblk m c 3 (pt b n.succ)) (x4 := iblk m c 4 (pt b n.succ)) (x5 := iblk m c 5 (pt b n.succ))
      z.2.2.2.1 z.2.2.2.2 (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) y

theorem out8 (b : Fin 2) (n : Fin 16) (hn : n.val = 15) (y : S4352x256.Idx) : (st m c b n.succ).2.2.1 y = (st m c b n.succ).2.2.2.2 y := by
  have e := outsAt0_C m c (pt b n.succ) (nS0 b n) (nS0 b n) (nS2 b n) (nC3 b n hn)
  rw [prev m c b n] at e
  refine (congrFun (congrArg (fun z => z.2.2.1) e) _).trans ?_
  refine Eq.trans ?_ (congrFun (congrArg (fun z => z.2.2.2.2) e) _).symm
  generalize st m c b n.castSucc = z
  dsimp only
  exact TileC.out8 c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _) (x0 := iblk m c 0 (pt b n.succ)) (x1 := iblk m c 1 (pt b n.succ)) (x2 := iblk m c 2 (pt b n.succ)) (x3 := iblk m c 3 (pt b n.succ)) (x4 := iblk m c 4 (pt b n.succ)) (x5 := iblk m c 5 (pt b n.succ))
      z.2.2.2.1 z.2.2.2.2 (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) y

end Cert.KernelIdeal.Steps

end
-- ==== Proof.GroupedSteps.lean ====
/- What one grid point of the grouped call does: the block of the queries' gradient that it writes, and what it adds to the
   two running sums for the gradients of the keys and of the values. -/
module

public import proofs.«01_k».proof.Proof.GroupedBlocks
public import proofs.«01_k».proof.Proof.GroupedTileA
public import proofs.«01_k».proof.Proof.GroupedTileB
public import proofs.«01_k».proof.Proof.GroupedTileC
public import proofs.«01_k».proof.Proof.Steps

@[expose] public section

set_option maxRecDepth 16384

noncomputable section

namespace Cert.GroupedIdeal.Steps

open Cert.GroupedIdeal Cert.GroupedIdeal.Gen Cert.GroupedIdeal.Saved Cert.GroupedIdeal.Blocks Cert.Soft Idealize.ShloMosaic
  Idealize.ShloMosaic.TcCoe
open Cert.KernelIdeal (ctxPos)
open Cert.KernelIdeal.Saved (row latPos)
open Cert.KernelIdeal.Blocks (tilePos)
open Cert.KernelIdeal.Steps (tl tile_zero tile_succ)

variable (m : (ℓ : Loc nD τ sig) → Buf (Elt Ideal) ℓ) (c : Dev nD)

/-- The call's four arguments on core `c`. -/
abbrev aq : FVec Ideal S8704x512 .f32 := m ((c : Thread nD τ).loc main_arg0)
abbrev ak : FVec Ideal S8704x128 .bf16 := m ((c : Thread nD τ).loc main_arg1)
abbrev av : FVec Ideal S8704x128 .bf16 := m ((c : Thread nD τ).loc main_arg2)
abbrev ag : FVec Ideal S8704x512 .bf16 := m ((c : Thread nD τ).loc main_arg3)

theorem mod_zero (b : Fin 2) : (pt b 0).val % 17 = 0 := by simp [pt]
theorem mod_succ (b : Fin 2) (n : Fin 16) : (pt b n.succ).val % 17 = n.val + 1 := by simp only [pt, Fin.val_succ]; omega

variable {Q G : Fin 2 → Fin 8 → Fin 4352 → Fin 64 → ℝ} {K X : Fin 2 → Fin 2 → Fin 4352 → Fin 64 → ℝ}
  (hq : ∀ b h s d, aq m c (ix2 (row b s) (col8 h d)) = (Q b h s d : EReal))
  (hk : ∀ b g s d, ak m c (ix2 (row b s) (kcol g d)) = (K b g s d : EReal))
  (hv : ∀ b g s d, av m c (ix2 (row b s) (kcol g d)) = (X b g s d : EReal))
  (hg : ∀ b h s d, ag m c (ix2 (row b s) (col8 h d)) = (G b h s d : EReal))

/-- A context tile's queries or cotangents and its keys or values; a latent tile's queries or cotangents. -/
abbrev qC (Q : Fin 2 → Fin 8 → Fin 4352 → Fin 64 → ℝ) (b : Fin 2) (g : Fin 2) (j : Fin 4) (r : Fin 256) := Q b (hh g j) (ctxPos r)
abbrev kC (K : Fin 2 → Fin 2 → Fin 4352 → Fin 64 → ℝ) (b : Fin 2) (g : Fin 2) (r : Fin 256) := K b g (ctxPos r)
abbrev qT (Q : Fin 2 → Fin 8 → Fin 4352 → Fin 64 → ℝ) (b : Fin 2) (n : Fin 16) (g : Fin 2) (j : Fin 4) (r : Fin 256) :=
  Q b (hh g j) (latPos (tl n r))

include hk in
theorem c1 (b : Fin 2) (i : Fin 17) (g : Fin 2) (r : Fin 4352) (d : Fin 64) : iblk m c 1 (pt b i) (ix2 r (kcol g d)) = (K b g r d : EReal) :=
  (blk1 m c b i r _).trans (hk b g r d)
include hv in
theorem c2 (b : Fin 2) (i : Fin 17) (g : Fin 2) (r : Fin 4352) (d : Fin 64) : iblk m c 2 (pt b i) (ix2 r (kcol g d)) = (X b g r d : EReal) :=
  (blk2 m c b i r _).trans (hv b g r d)

include hq hk hv in
theorem c3 (b : Fin 2) (g : Fin 2) (j : Fin 4) (r : Fin 256) (d : Fin 64) : iblk m c 3 (pt b 0) (ix2 r (qcol g j d))
    = (ob (qC Q b g j r) (kC K b g) (kC X b g) d : EReal) := by
  rw [qcol_hh]
  refine (blk3 m c b 0 r _).trans ((congrArg (fun s => V m c main_v47 (ix2 (row b s) (col8 (hh g j) d))) (tile_zero r)).trans
    ((congrFun (V_o m c) _).trans ((o_ctx hq hk hv b (hh g j) r d _).trans ?_)))
  rw [gp_hh]
include hq hk in
theorem c4 (b : Fin 2) (g : Fin 2) (j : Fin 4) (r : Fin 256) : iblk m c 4 (pt b 0) (ix2 r (hlane g j))
    = (ls (sc (qC Q b g j r) (kC K b g)) : EReal) := by
  rw [hlane_hh]
  refine (blk4 m c b 0 r _).trans ((congrArg (fun s => V m c main_v96 (ix2 (row b s) (lane8 (hh g j)))) (tile_zero r)).trans
    ((congrFun (V_l m c) _).trans ((l_ctx hq hk b (hh g j) r _).trans ?_)))
  rw [gp_hh]

include hq hk hv in
theorem t3 (b : Fin 2) (n : Fin 16) (g : Fin 2) (j : Fin 4) (r : Fin 256) (d : Fin 64) : iblk m c 3 (pt b n.succ) (ix2 r (qcol g j d))
    = (ob (qT Q b n g j r) (K b g) (X b g) d : EReal) := by
  rw [qcol_hh]
  refine (blk3 m c b n.succ r _).trans ((congrArg (fun s => V m c main_v47 (ix2 (row b s) (col8 (hh g j) d))) (tile_succ n r)).trans
    ((congrFun (V_o m c) _).trans ((o_lat hq hk hv b (hh g j) (tl n r) d _).trans ?_)))
  rw [gp_hh]
include hq hk in
theorem t4 (b : Fin 2) (n : Fin 16) (g : Fin 2) (j : Fin 4) (r : Fin 256) : iblk m c 4 (pt b n.succ) (ix2 r (hlane g j))
    = (ls (sc (qT Q b n g j r) (K b g)) : EReal) := by
  rw [hlane_hh]
  refine (blk4 m c b n.succ r _).trans ((congrArg (fun s => V m c main_v96 (ix2 (row b s) (lane8 (hh g j)))) (tile_succ n r)).trans
    ((congrFun (V_l m c) _).trans ((l_lat hq hk b (hh g j) (tl n r) _).trans ?_)))
  rw [gp_hh]

include hq hk hv hg in
/-- The context tile's blocks and a latent tile's blocks, as the tile lemmas want them. -/
theorem blkC (b : Fin 2) : Blk (iblk m c 0 (pt b 0)) (iblk m c 3 (pt b 0)) (iblk m c 4 (pt b 0)) (iblk m c 5 (pt b 0))
    (qC Q b) (qC G b) (kC K b) (kC X b) where
  q g j r d := by
    rw [qcol_hh]
    exact (blk0 m c b 0 r _).trans ((congrArg (fun s => aq m c (ix2 (row b s) (col8 (hh g j) d))) (tile_zero r)).trans (hq b _ (ctxPos r) d))
  o g j r d := c3 m c hq hk hv b g j r d
  l g j r := c4 m c hq hk b g j r
  g g j r d := by
    rw [qcol_hh]
    exact (blk5 m c b 0 r _).trans ((congrArg (fun s => ag m c (ix2 (row b s) (col8 (hh g j) d))) (tile_zero r)).trans (hg b _ (ctxPos r) d))

include hq hk hv hg in
theorem blkT (b : Fin 2) (n : Fin 16) :
    Blk (iblk m c 0 (pt b n.succ)) (iblk m c 3 (pt b n.succ)) (iblk m c 4 (pt b n.succ)) (iblk m c 5 (pt b n.succ))
    (qT Q b n) (qT G b n) (K b) (X b) where
  q g j r d := by
    rw [qcol_hh]
    exact (blk0 m c b n.succ r _).trans ((congrArg (fun s => aq m c (ix2 (row b s) (col8 (hh g j) d))) (tile_succ n r)).trans (hq b _ _ d))
  o g j r d := t3 m c hq hk hv b n g j r d
  l g j r := t4 m c hq hk b n g j r
  g g j r d := by
    rw [qcol_hh]
    exact (blk5 m c b n.succ r _).trans ((congrArg (fun s => ag m c (ix2 (row b s) (col8 (hh g j) d))) (tile_succ n r)).trans (hg b _ _ d))

/-- What the carried state is after a point. -/
abbrev st (b : Fin 2) (i : Fin 17) := outsAt0 m c (pt b i).val (pt b i).isLt

theorem nA2 (b : Fin 2) : ¬ 1 ≤ (pt b 0).val % 17 := by rw [mod_zero]; decide
theorem nA3 (b : Fin 2) : ¬ (pt b 0).val % 17 = 16 := by rw [mod_zero]; decide
theorem nS0 (b : Fin 2) (n : Fin 16) : ¬ (pt b n.succ).val % 17 = 0 := by rw [mod_succ]; omega
theorem nS2 (b : Fin 2) (n : Fin 16) : 1 ≤ (pt b n.succ).val % 17 := by rw [mod_succ]; omega
theorem nB3 (b : Fin 2) (n : Fin 16) (hn : n.val < 15) : ¬ (pt b n.succ).val % 17 = 16 := by rw [mod_succ]; omega
theorem nC3 (b : Fin 2) (n : Fin 16) (hn : n.val = 15) : (pt b n.succ).val % 17 = 16 := by rw [mod_succ]; omega

theorem outs_congr {a a' : ℕ} (e : a = a') (ha : a < cfg0.N) (ha' : a' < cfg0.N) : outsAt0 m c a ha = outsAt0 m c a' ha' := by
  subst e; rfl

theorem prev (b : Fin 2) (n : Fin 16) : (outsAt0 m c ((pt b n.succ).val - 1) (Nat.lt_of_le_of_lt (Nat.sub_le _ _) (pt b n.succ).isLt)) = st m c b n.castSucc :=
  outs_congr m c (by simp only [pt, Fin.val_succ, Fin.val_castSucc]; omega) _ _

include hq hk hv hg in
theorem dkA (b : Fin 2) (g : Fin 2) (k : Fin 256) (d : Fin 64) : (st m c b 0).2.2.2.1 (ix2 (ctxPos k) (kcol g d))
    = ((∑ R, ds (sc (qC Q b g (hd R) (rw' R)) (kC K b g)) (dp (qC G b g (hd R) (rw' R)) (kC X b g)) k * (qC Q b g (hd R) (rw' R) d * (8 : ℝ)⁻¹) : ℝ) : EReal) := by
  have e := outsAt0_A m c (pt b 0) (mod_zero b) (mod_zero b) (nA2 b) (nA3 b)
  refine (congrFun (congrArg (fun z => z.2.2.2.1) e) _).trans ?_
  dsimp only
  exact TileA.dk c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _)
    (x1 := iblk m c 1 (pt b 0)) (x2 := iblk m c 2 (pt b 0))
    (blkC m c hq hk hv hg b) (fun g r d => c1 m c hk b 0 g (ctxPos r) d) (fun g r d => c2 m c hv b 0 g (ctxPos r) d)
    ((hcond0_0 (pt b 0)).mpr (mod_zero b)) ((hcond0_1 (pt b 0)).mpr (mod_zero b)) (fun h => nA2 b ((hcond0_2 (pt b 0)).mp h)) (fun h => nA3 b ((hcond0_3 (pt b 0)).mp h)) g k d

theorem dkA_rest (b : Fin 2) (k : Fin 4352) (hc : 256 ≤ k.val) (j : Fin 128) : (st m c b 0).2.2.2.1 (ix2 k j) = 0 := by
  have e := outsAt0_A m c (pt b 0) (mod_zero b) (mod_zero b) (nA2 b) (nA3 b)
  refine (congrFun (congrArg (fun z => z.2.2.2.1) e) _).trans ?_
  dsimp only
  exact TileA.dk_rest c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _)
    ((hcond0_0 (pt b 0)).mpr (mod_zero b)) ((hcond0_1 (pt b 0)).mpr (mod_zero b)) (fun h => nA2 b ((hcond0_2 (pt b 0)).mp h)) (fun h => nA3 b ((hcond0_3 (pt b 0)).mp h)) k hc j

include hq hk hv hg in
theorem dvA (b : Fin 2) (g : Fin 2) (k : Fin 256) (d : Fin 64) : (st m c b 0).2.2.2.2 (ix2 (ctxPos k) (kcol g d))
    = ((∑ R, pr (sc (qC Q b g (hd R) (rw' R)) (kC K b g)) k * qC G b g (hd R) (rw' R) d : ℝ) : EReal) := by
  have e := outsAt0_A m c (pt b 0) (mod_zero b) (mod_zero b) (nA2 b) (nA3 b)
  refine (congrFun (congrArg (fun z => z.2.2.2.2) e) _).trans ?_
  dsimp only
  exact TileA.dv c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _)
    (x1 := iblk m c 1 (pt b 0))
    (blkC m c hq hk hv hg b) (fun g r d => c1 m c hk b 0 g (ctxPos r) d)
    ((hcond0_0 (pt b 0)).mpr (mod_zero b)) ((hcond0_1 (pt b 0)).mpr (mod_zero b)) (fun h => nA2 b ((hcond0_2 (pt b 0)).mp h)) (fun h => nA3 b ((hcond0_3 (pt b 0)).mp h)) g k d

theorem dvA_rest (b : Fin 2) (k : Fin 4352) (hc : 256 ≤ k.val) (j : Fin 128) : (st m c b 0).2.2.2.2 (ix2 k j) = 0 := by
  have e := outsAt0_A m c (pt b 0) (mod_zero b) (mod_zero b) (nA2 b) (nA3 b)
  refine (congrFun (congrArg (fun z => z.2.2.2.2) e) _).trans ?_
  dsimp only
  exact TileA.dv_rest c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _)
    ((hcond0_0 (pt b 0)).mpr (mod_zero b)) ((hcond0_1 (pt b 0)).mpr (mod_zero b)) (fun h => nA2 b ((hcond0_2 (pt b 0)).mp h)) (fun h => nA3 b ((hcond0_3 (pt b 0)).mp h)) k hc j

include hq hk hv hg in
theorem dqA (b : Fin 2) (g : Fin 2) (j : Fin 4) (r : Fin 256) (d : Fin 64) : (st m c b 0).1 (ix2 r (qcol g j d))
    = (((∑ k, ds (sc (qC Q b g j r) (kC K b g)) (dp (qC G b g j r) (kC X b g)) k * kC K b g k d) * (8 : ℝ)⁻¹ : ℝ) : EReal) := by
  have e := outsAt0_A m c (pt b 0) (mod_zero b) (mod_zero b) (nA2 b) (nA3 b)
  refine (congrFun (congrArg (fun z => z.1) e) _).trans ?_
  dsimp only
  exact TileA.dq c (grid0.coords (pt b 0)) (ms0_0 (pt b 0)) (hs0_0 (pt b 0)) (ms0_1 (pt b 0)) (hs0_1 (pt b 0)) (ms0_2 (pt b 0)) (hs0_2 (pt b 0)) (ms0_3 (pt b 0)) (hs0_3 (pt b 0)) (ms0_4 (pt b 0)) (hs0_4 (pt b 0)) (ms0_5 (pt b 0)) (hs0_5 (pt b 0)) (ms0_6 (pt b 0)) (hs0_6 (pt b 0)) (ms0_7 (pt b 0)) (hs0_7 (pt b 0)) (ms0_8 (pt b 0)) (hs0_8 (pt b 0)) scM0_0 (Memref.isWhole_whole _) scM0_1 (Memref.isWhole_whole _)
    (x1 := iblk m c 1 (pt b 0)) (x2 := iblk m c 2 (pt b 0))
    (blkC m c hq hk hv hg b) (fun g r d => c1 m c hk b 0 g (ctxPos r) d) (fun g r d => c2 m c hv b 0 g (ctxPos r) d)
    ((hcond0_0 (pt b 0)).mpr (mod_zero b)) ((hcond0_1 (pt b 0)).mpr (mod_zero b)) (fun h => nA2 b ((hcond0_2 (pt b 0)).mp h)) (fun h => nA3 b ((hcond0_3 (pt b 0)).mp h)) g j r d

include hq hk hv hg in
theorem dkB (b : Fin 2) (n : Fin 16) (hn : n.val < 15) (g : Fin 2) (k : Fin 4352) (d : Fin 64) : (st m c b n.succ).2.2.2.1 (ix2 k (kcol g d))
    = (st m c b n.castSucc).2.2.2.1 (ix2 k (kcol g d))
      + ((∑ R, ds (sc (qT Q b n g (hd R) (rw' R)) (K b g)) (dp (qT G b n g (hd R) (rw' R)) (X b g)) k * (qT Q b n g (hd R) (rw' R) d * (8 : ℝ)⁻¹) : ℝ) : EReal) := by
  have e := outsAt0_B m c (pt b n.succ) (nS0 b n) (nS0 b n) (nS2 b n) (nB3 b n hn)
  rw [prev m c b n] at e
  refine (congrFun (congrArg (fun z => z.2.2.2.1) e) _).trans ?_
  generalize st m c b n.castSucc = z
  dsimp only
  exact TileB.dk c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _)
    (x1 := iblk m c 1 (pt b n.succ)) (x2 := iblk m c 2 (pt b n.succ))
    z.2.2.2.1 z.2.2.2.2 (blkT m c hq hk hv hg b n) (c1 m c hk b n.succ) (c2 m c hv b n.succ)
    (fun h => nS0 b n ((hcond0_0 (pt b n.succ)).mp h)) (fun h => nS0 b n ((hcond0_1 (pt b n.succ)).mp h)) ((hcond0_2 (pt b n.succ)).mpr (nS2 b n)) (fun h => nB3 b n hn ((hcond0_3 (pt b n.succ)).mp h)) g k d

include hq hk hv hg in
theorem dvB (b : Fin 2) (n : Fin 16) (hn : n.val < 15) (g : Fin 2) (k : Fin 4352) (d : Fin 64) : (st m c b n.succ).2.2.2.2 (ix2 k (kcol g d))
    = (st m c b n.castSucc).2.2.2.2 (ix2 k (kcol g d))
      + ((∑ R, pr (sc (qT Q b n g (hd R) (rw' R)) (K b g)) k * qT G b n g (hd R) (rw' R) d : ℝ) : EReal) := by
  have e := outsAt0_B m c (pt b n.succ) (nS0 b n) (nS0 b n) (nS2 b n) (nB3 b n hn)
  rw [prev m c b n] at e
  refine (congrFun (congrArg (fun z => z.2.2.2.2) e) _).trans ?_
  generalize st m c b n.castSucc = z
  dsimp only
  exact TileB.dv c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _)
    (x1 := iblk m c 1 (pt b n.succ))
    z.2.2.2.1 z.2.2.2.2 (blkT m c hq hk hv hg b n) (c1 m c hk b n.succ)
    (fun h => nS0 b n ((hcond0_0 (pt b n.succ)).mp h)) (fun h => nS0 b n ((hcond0_1 (pt b n.succ)).mp h)) ((hcond0_2 (pt b n.succ)).mpr (nS2 b n)) (fun h => nB3 b n hn ((hcond0_3 (pt b n.succ)).mp h)) g k d

include hq hk hv hg in
theorem dqB (b : Fin 2) (n : Fin 16) (hn : n.val < 15) (g : Fin 2) (j : Fin 4) (r : Fin 256) (d : Fin 64) : (st m c b n.succ).1 (ix2 r (qcol g j d))
    = (((∑ k, ds (sc (qT Q b n g j r) (K b g)) (dp (qT G b n g j r) (X b g)) k * K b g k d) * (8 : ℝ)⁻¹ : ℝ) : EReal) := by
  have e := outsAt0_B m c (pt b n.succ) (nS0 b n) (nS0 b n) (nS2 b n) (nB3 b n hn)
  rw [prev m c b n] at e
  refine (congrFun (congrArg (fun z => z.1) e) _).trans ?_
  generalize st m c b n.castSucc = z
  dsimp only
  exact TileB.dq c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _)
    (x1 := iblk m c 1 (pt b n.succ)) (x2 := iblk m c 2 (pt b n.succ))
    z.2.2.2.1 z.2.2.2.2 (blkT m c hq hk hv hg b n) (c1 m c hk b n.succ) (c2 m c hv b n.succ)
    (fun h => nS0 b n ((hcond0_0 (pt b n.succ)).mp h)) (fun h => nS0 b n ((hcond0_1 (pt b n.succ)).mp h)) ((hcond0_2 (pt b n.succ)).mpr (nS2 b n)) (fun h => nB3 b n hn ((hcond0_3 (pt b n.succ)).mp h)) g j r d

include hq hk hv hg in
theorem dkC (b : Fin 2) (n : Fin 16) (hn : n.val = 15) (g : Fin 2) (k : Fin 4352) (d : Fin 64) : (st m c b n.succ).2.2.2.1 (ix2 k (kcol g d))
    = (st m c b n.castSucc).2.2.2.1 (ix2 k (kcol g d))
      + ((∑ R, ds (sc (qT Q b n g (hd R) (rw' R)) (K b g)) (dp (qT G b n g (hd R) (rw' R)) (X b g)) k * (qT Q b n g (hd R) (rw' R) d * (8 : ℝ)⁻¹) : ℝ) : EReal) := by
  have e := outsAt0_C m c (pt b n.succ) (nS0 b n) (nS0 b n) (nS2 b n) (nC3 b n hn)
  rw [prev m c b n] at e
  refine (congrFun (congrArg (fun z => z.2.2.2.1) e) _).trans ?_
  generalize st m c b n.castSucc = z
  dsimp only
  exact TileC.dk c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _)
    (x1 := iblk m c 1 (pt b n.succ)) (x2 := iblk m c 2 (pt b n.succ))
    z.2.2.2.1 z.2.2.2.2 (blkT m c hq hk hv hg b n) (c1 m c hk b n.succ) (c2 m c hv b n.succ)
    (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) g k d

include hq hk hv hg in
theorem dvC (b : Fin 2) (n : Fin 16) (hn : n.val = 15) (g : Fin 2) (k : Fin 4352) (d : Fin 64) : (st m c b n.succ).2.2.2.2 (ix2 k (kcol g d))
    = (st m c b n.castSucc).2.2.2.2 (ix2 k (kcol g d))
      + ((∑ R, pr (sc (qT Q b n g (hd R) (rw' R)) (K b g)) k * qT G b n g (hd R) (rw' R) d : ℝ) : EReal) := by
  have e := outsAt0_C m c (pt b n.succ) (nS0 b n) (nS0 b n) (nS2 b n) (nC3 b n hn)
  rw [prev m c b n] at e
  refine (congrFun (congrArg (fun z => z.2.2.2.2) e) _).trans ?_
  generalize st m c b n.castSucc = z
  dsimp only
  exact TileC.dv c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _)
    (x1 := iblk m c 1 (pt b n.succ))
    z.2.2.2.1 z.2.2.2.2 (blkT m c hq hk hv hg b n) (c1 m c hk b n.succ)
    (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) g k d

include hq hk hv hg in
theorem dqC (b : Fin 2) (n : Fin 16) (hn : n.val = 15) (g : Fin 2) (j : Fin 4) (r : Fin 256) (d : Fin 64) : (st m c b n.succ).1 (ix2 r (qcol g j d))
    = (((∑ k, ds (sc (qT Q b n g j r) (K b g)) (dp (qT G b n g j r) (X b g)) k * K b g k d) * (8 : ℝ)⁻¹ : ℝ) : EReal) := by
  have e := outsAt0_C m c (pt b n.succ) (nS0 b n) (nS0 b n) (nS2 b n) (nC3 b n hn)
  rw [prev m c b n] at e
  refine (congrFun (congrArg (fun z => z.1) e) _).trans ?_
  generalize st m c b n.castSucc = z
  dsimp only
  exact TileC.dq c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _)
    (x1 := iblk m c 1 (pt b n.succ)) (x2 := iblk m c 2 (pt b n.succ))
    z.2.2.2.1 z.2.2.2.2 (blkT m c hq hk hv hg b n) (c1 m c hk b n.succ) (c2 m c hv b n.succ)
    (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) g j r d

theorem out7 (b : Fin 2) (n : Fin 16) (hn : n.val = 15) (y : S4352x128.Idx) : (st m c b n.succ).2.1 y = (st m c b n.succ).2.2.2.1 y := by
  have e := outsAt0_C m c (pt b n.succ) (nS0 b n) (nS0 b n) (nS2 b n) (nC3 b n hn)
  rw [prev m c b n] at e
  refine (congrFun (congrArg (fun z => z.2.1) e) _).trans ?_
  refine Eq.trans ?_ (congrFun (congrArg (fun z => z.2.2.2.1) e) _).symm
  generalize st m c b n.castSucc = z
  dsimp only
  exact TileC.out7 c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _)
    z.2.2.2.1 z.2.2.2.2
    (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) y

theorem out8 (b : Fin 2) (n : Fin 16) (hn : n.val = 15) (y : S4352x128.Idx) : (st m c b n.succ).2.2.1 y = (st m c b n.succ).2.2.2.2 y := by
  have e := outsAt0_C m c (pt b n.succ) (nS0 b n) (nS0 b n) (nS2 b n) (nC3 b n hn)
  rw [prev m c b n] at e
  refine (congrFun (congrArg (fun z => z.2.2.1) e) _).trans ?_
  refine Eq.trans ?_ (congrFun (congrArg (fun z => z.2.2.2.2) e) _).symm
  generalize st m c b n.castSucc = z
  dsimp only
  exact TileC.out8 c (grid0.coords (pt b n.succ)) (ms0_0 (pt b n.succ)) (hs0_0 (pt b n.succ)) (ms0_1 (pt b n.succ)) (hs0_1 (pt b n.succ)) (ms0_2 (pt b n.succ)) (hs0_2 (pt b n.succ)) (ms0_3 (pt b n.succ)) (hs0_3 (pt b n.succ)) (ms0_4 (pt b n.succ)) (hs0_4 (pt b n.succ)) (ms0_5 (pt b n.succ)) (hs0_5 (pt b n.succ)) (ms0_6 (pt b n.succ)) (hs0_6 (pt b n.succ)) (ms0_7 (pt b n.succ)) (hs0_7 (pt b n.succ)) (ms0_8 (pt b n.succ)) (hs0_8 (pt b n.succ)) scM0_0 (Memref.isWhole_whole _) scM0_1 (Memref.isWhole_whole _)
    z.2.2.2.1 z.2.2.2.2
    (fun h => nS0 b n ((hcond0_0 (pt b n.succ)).mp h)) (fun h => nS0 b n ((hcond0_1 (pt b n.succ)).mp h)) ((hcond0_2 (pt b n.succ)).mpr (nS2 b n)) ((hcond0_3 (pt b n.succ)).mpr (nC3 b n hn)) y

end Cert.GroupedIdeal.Steps

end
-- ==== Proof.Fold.lean ====
/- What the call's three outputs hold after all the points of a batch: the queries' gradient block by block, and the keys'
   and the values' gradients as the sums that the points of the batch build up one after another. -/
module

public import proofs.«01_k».proof.Proof.Steps
public import proofs.«01_k».proof.Proof.Gen.KernelIdeal.Value

@[expose] public section

set_option maxRecDepth 16384

noncomputable section

namespace Cert.KernelIdeal.Fold

open Cert.KernelIdeal Cert.KernelIdeal.Gen Cert.KernelIdeal.Saved Cert.KernelIdeal.Blocks Cert.KernelIdeal.Steps Cert.KernelIdeal.Value Cert.AttnGrad
  Idealize.ShloMosaic Idealize.ShloMosaic.TcCoe

/-- A quantity that each step raises by a real number, after all the steps. -/
theorem run_sum {N : ℕ} (f : Fin (N + 1) → EReal) (A : ℝ) (T : Fin N → ℝ) (h0 : f 0 = (A : EReal))
    (hs : ∀ n : Fin N, f n.succ = f n.castSucc + (T n : EReal)) : f (Fin.last N) = ((A + ∑ n, T n : ℝ) : EReal) := by
  induction N with
  | zero => simpa using h0
  | succ N ih =>
    have h := ih (fun i => f i.castSucc) (fun n => T n.castSucc) h0 (fun n => hs n.castSucc)
    rw [← Fin.succ_last, hs (Fin.last N), h, ← EReal.coe_add, Fin.sum_univ_castSucc, add_assoc]

/-- The latent rows' sum, tile by tile. -/
theorem sum_tl (F : Fin 4096 → ℝ) : ∑ n : Fin 16, ∑ r : Fin 256, F (tl n r) = ∑ r, F r :=
  (Fin.sum_univ_tiles 16 256 rfl F).symm

variable (m : (ℓ : Loc nD τ sig) → Buf (Elt Ideal) ℓ) (c : Dev nD)

theorem G6_at (b : Fin 2) (i : Fin 17) (r : Fin 256) (j : Fin 512) :
    G6 m c (ix2 (row b (tilePos i r)) j) = (st m c b i).1 (ix2 r j) := by
  have hp : pt6Of (ix2 (row b (tilePos i r)) j) = (pt b i).val := by
    have := j.isLt
    show 1 * ((4352 * b.val + (256 * i.val + r.val)) / 256 - 0) + 1 * (j.val / 512 - 0) = 17 * b.val + i.val
    omega
  have hl : loc6Of (ix2 (row b (tilePos i r)) j) = ix2 r j := by
    funext a
    match a with
    | ⟨0, _⟩ => exact Fin.ext (show (4352 * b.val + (256 * i.val + r.val)) % 256 = r.val by omega)
    | ⟨1, _⟩ => exact Fin.ext (Nat.mod_eq_of_lt j.isLt)
  unfold G6
  rw [dif_pos (hp ▸ (pt b i).isLt : _ < cfg0.N), ← outsAt0_sweep m c _ (hp ▸ (pt b i).isLt : _ < cfg0.N), hl]
  exact congrArg (fun z => z.1 (ix2 r j)) (outs_congr m c hp _ _)

theorem G7_at (b : Fin 2) (k : Fin 4352) (j : Fin 512) :
    G7 m c (ix2 (row b k) j) = (st m c b (Fin.last 16)).2.1 (ix2 k j) := by
  have hp : pt7Of (ix2 (row b k) j) = (pt b (Fin.last 16)).val := by
    have := j.isLt
    show 17 * (1 * ((4352 * b.val + k.val) / 4352 - 0) + 1 * (j.val / 512 - 0)) + 16 = 17 * b.val + 16
    omega
  have hl : loc7Of (ix2 (row b k) j) = ix2 k j := by
    funext a
    match a with
    | ⟨0, _⟩ => exact Fin.ext (row_mod b k)
    | ⟨1, _⟩ => exact Fin.ext (Nat.mod_eq_of_lt j.isLt)
  unfold G7
  rw [dif_pos (hp ▸ (pt b (Fin.last 16)).isLt : _ < cfg0.N), ← outsAt0_sweep m c _ (hp ▸ (pt b (Fin.last 16)).isLt : _ < cfg0.N), hl]
  exact congrArg (fun z => z.2.1 (ix2 k j)) (outs_congr m c hp _ _)

theorem G8_at (b : Fin 2) (k : Fin 4352) (j : Fin 256) :
    G8 m c (ix2 (row b k) j) = (st m c b (Fin.last 16)).2.2.1 (ix2 k j) := by
  have hp : pt8Of (ix2 (row b k) j) = (pt b (Fin.last 16)).val := by
    have := j.isLt
    show 17 * (1 * ((4352 * b.val + k.val) / 4352 - 0) + 1 * (j.val / 256 - 0)) + 16 = 17 * b.val + 16
    omega
  have hl : loc8Of (ix2 (row b k) j) = ix2 k j := by
    funext a
    match a with
    | ⟨0, _⟩ => exact Fin.ext (row_mod b k)
    | ⟨1, _⟩ => exact Fin.ext (Nat.mod_eq_of_lt j.isLt)
  unfold G8
  rw [dif_pos (hp ▸ (pt b (Fin.last 16)).isLt : _ < cfg0.N), ← outsAt0_sweep m c _ (hp ▸ (pt b (Fin.last 16)).isLt : _ < cfg0.N), hl]
  exact congrArg (fun z => z.2.2.1 (ix2 k j)) (outs_congr m c hp _ _)

variable {Q K : Fin 2 → Fin 4 → Fin 4352 → Fin 128 → ℝ} {X G : Fin 2 → Fin 4 → Fin 4352 → Fin 64 → ℝ}
  (hq : ∀ b h s d, aq m c (ix2 (row b s) (col128 h d)) = (Q b h s d : EReal))
  (hk : ∀ b h s d, ak m c (ix2 (row b s) (col128 h d)) = (K b h s d : EReal))
  (hv : ∀ b h s d, av m c (ix2 (row b s) (col64 h d)) = (X b h s d : EReal))
  (hg : ∀ b h s d, ag m c (ix2 (row b s) (col64 h d)) = (G b h s d : EReal))

include hq hk hv hg in
/-- The queries' gradient of a context row. -/
theorem dq_ctx (b : Fin 2) (h : Fin 4) (r : Fin 256) (d : Fin 128) : G6 m c (ix2 (row b (ctxPos r)) (col128 h d))
    = (((∑ k, ds (Q b h (ctxPos r)) (fun c => K b h (ctxPos c)) (fun c => X b h (ctxPos c)) (G b h (ctxPos r)) k * K b h (ctxPos k) d)
        * (Real.sqrt 96)⁻¹ : ℝ) : EReal) := by
  refine (congrArg (fun s => G6 m c (ix2 (row b s) (col128 h d))) (tile_zero r)).symm.trans ?_
  exact (G6_at m c b 0 r _).trans (dqA m c hq hk hv hg b h r d)

include hq hk hv hg in
/-- The queries' gradient of a latent row. -/
theorem dq_lat (b : Fin 2) (h : Fin 4) (r : Fin 4096) (d : Fin 128) : G6 m c (ix2 (row b (latPos r)) (col128 h d))
    = (((∑ k, ds (Q b h (latPos r)) (K b h) (X b h) (G b h (latPos r)) k * K b h k d) * (Real.sqrt 96)⁻¹ : ℝ) : EReal) := by
  obtain ⟨n, r', rfl⟩ : ∃ (n : Fin 16) (r' : Fin 256), r = tl n r' :=
    ⟨⟨r.val / 256, by omega⟩, ⟨r.val % 256, by omega⟩, Fin.ext (by simp only [tl]; omega)⟩
  refine (congrArg (fun s => G6 m c (ix2 (row b s) (col128 h d))) (tile_succ n r')).symm.trans ((G6_at m c b n.succ r' _).trans ?_)
  rcases Nat.lt_or_ge n.val 15 with hn | hn
  · exact dqB m c hq hk hv hg b n hn h r' d
  · exact dqC m c hq hk hv hg b n (by omega) h r' d

/-- The context rows' part of the keys' gradient, which only the context keys have. -/
def dkCtx (Q K : Fin 2 → Fin 4 → Fin 4352 → Fin 128 → ℝ) (X G : Fin 2 → Fin 4 → Fin 4352 → Fin 64 → ℝ)
    (b : Fin 2) (h : Fin 4) (k : Fin 4352) (d : Fin 128) : ℝ :=
  if hk : k.val < 256 then ∑ r : Fin 256, ds (Q b h (ctxPos r)) (fun c => K b h (ctxPos c)) (fun c => X b h (ctxPos c)) (G b h (ctxPos r)) ⟨k.val, hk⟩
    * (Q b h (ctxPos r) d * (Real.sqrt 96)⁻¹) else 0

/-- The context rows' part of the values' gradient. -/
def dvCtx (Q K : Fin 2 → Fin 4 → Fin 4352 → Fin 128 → ℝ) (G : Fin 2 → Fin 4 → Fin 4352 → Fin 64 → ℝ)
    (b : Fin 2) (h : Fin 4) (k : Fin 4352) (d : Fin 64) : ℝ :=
  if hk : k.val < 256 then ∑ r : Fin 256, pr (Q b h (ctxPos r)) (fun c => K b h (ctxPos c)) ⟨k.val, hk⟩ * G b h (ctxPos r) d else 0

include hq hk hv hg in
theorem dk_start (b : Fin 2) (h : Fin 4) (k : Fin 4352) (d : Fin 128) :
    (st m c b 0).2.2.2.1 (ix2 k (col128 h d)) = (dkCtx Q K X G b h k d : EReal) := by
  unfold dkCtx
  by_cases hc : k.val < 256
  · rw [dif_pos hc]
    exact dkA m c hq hk hv hg b h ⟨k.val, hc⟩ d
  · rw [dif_neg hc, dkA_rest m c b k (by omega), EReal.coe_zero]

include hq hk hv hg in
theorem dv_start (b : Fin 2) (h : Fin 4) (k : Fin 4352) (d : Fin 64) :
    (st m c b 0).2.2.2.2 (ix2 k (col64 h d)) = (dvCtx Q K G b h k d : EReal) := by
  unfold dvCtx
  by_cases hc : k.val < 256
  · rw [dif_pos hc]
    exact dvA m c hq hk hv hg b h ⟨k.val, hc⟩ d
  · rw [dif_neg hc, dvA_rest m c b k (by omega), EReal.coe_zero]

include hq hk hv hg in
/-- The keys' gradient. -/
theorem dk_all (b : Fin 2) (h : Fin 4) (k : Fin 4352) (d : Fin 128) : G7 m c (ix2 (row b k) (col128 h d))
    = ((dkCtx Q K X G b h k d + ∑ r : Fin 4096, ds (Q b h (latPos r)) (K b h) (X b h) (G b h (latPos r)) k
        * (Q b h (latPos r) d * (Real.sqrt 96)⁻¹) : ℝ) : EReal) := by
  rw [G7_at]
  refine (out7 m c b 15 rfl _).trans ?_
  rw [← sum_tl]
  exact run_sum (fun i => (st m c b i).2.2.2.1 (ix2 k (col128 h d))) _ _ (dk_start m c hq hk hv hg b h k d) fun n => by
    rcases Nat.lt_or_ge n.val 15 with hn | hn
    · exact dkB m c hq hk hv hg b n hn h k d
    · exact dkC m c hq hk hv hg b n (by omega) h k d

include hq hk hv hg in
/-- The values' gradient. -/
theorem dv_all (b : Fin 2) (h : Fin 4) (k : Fin 4352) (d : Fin 64) : G8 m c (ix2 (row b k) (col64 h d))
    = ((dvCtx Q K G b h k d + ∑ r : Fin 4096, pr (Q b h (latPos r)) (K b h) k * G b h (latPos r) d : ℝ) : EReal) := by
  rw [G8_at]
  refine (out8 m c b 15 rfl _).trans ?_
  rw [← sum_tl]
  exact run_sum (fun i => (st m c b i).2.2.2.2 (ix2 k (col64 h d))) _ _ (dv_start m c hq hk hv hg b h k d) fun n => by
    rcases Nat.lt_or_ge n.val 15 with hn | hn
    · exact dvB m c hq hk hv hg b n hn h k d
    · exact dvC m c hq hk hv hg b n (by omega) h k d

end Cert.KernelIdeal.Fold

end
-- ==== Proof.GroupedFold.lean ====
/- What the grouped call's three outputs hold after all the points of a batch: the queries' gradient block by block, and the
   keys' and the values' gradients as the sums that the points of the batch build up one after another, each over the four heads of
   a group. -/
module

public import proofs.«01_k».proof.Proof.GroupedSteps
public import proofs.«01_k».proof.Proof.Fold
public import proofs.«01_k».proof.Proof.Gen.GroupedIdeal.Value

@[expose] public section

set_option maxRecDepth 16384

noncomputable section

namespace Cert.GroupedIdeal.Fold

open Cert.GroupedIdeal Cert.GroupedIdeal.Gen Cert.GroupedIdeal.Saved Cert.GroupedIdeal.Blocks Cert.GroupedIdeal.Steps Cert.GroupedIdeal.Value
  Cert.Soft Idealize.ShloMosaic Idealize.ShloMosaic.TcCoe
open Cert.KernelIdeal (ctxPos)
open Cert.KernelIdeal.Saved (row latPos row_mod)
open Cert.KernelIdeal.Blocks (tilePos)
open Cert.KernelIdeal.Steps (tl tile_zero tile_succ)
open Cert.KernelIdeal.Fold (run_sum sum_tl)

/-- A tile's sum over its stacked rows, head by head; and the latent rows' sum, tile by tile. -/
theorem sum_heads (F : Fin 4 → Fin 256 → ℝ) : ∑ R, F (hd R) (rw' R) = ∑ j, ∑ r, F j r := by
  rw [sum_stk]
  exact Finset.sum_congr rfl fun j _ => Finset.sum_congr rfl fun r _ => by rw [hd_stk, rw_stk]

theorem sum_tiles (F : Fin 4 → Fin 4096 → ℝ) : ∑ n : Fin 16, ∑ R, F (hd R) (tl n (rw' R)) = ∑ j, ∑ r, F j r := by
  rw [Finset.sum_congr rfl fun n _ => sum_heads fun j r => F j (tl n r), Finset.sum_comm]
  exact Finset.sum_congr rfl fun j _ => sum_tl (F j)

variable (m : (ℓ : Loc nD τ sig) → Buf (Elt Ideal) ℓ) (c : Dev nD)

theorem G6_at (b : Fin 2) (i : Fin 17) (r : Fin 256) (j : Fin 512) :
    G6 m c (ix2 (row b (tilePos i r)) j) = (st m c b i).1 (ix2 r j) := by
  have hp : pt6Of (ix2 (row b (tilePos i r)) j) = (pt b i).val := by
    have := j.isLt
    show 1 * ((4352 * b.val + (256 * i.val + r.val)) / 256 - 0) + 1 * (j.val / 512 - 0) = 17 * b.val + i.val
    omega
  have hl : loc6Of (ix2 (row b (tilePos i r)) j) = ix2 r j := by
    funext a
    match a with
    | ⟨0, _⟩ => exact Fin.ext (show (4352 * b.val + (256 * i.val + r.val)) % 256 = r.val by omega)
    | ⟨1, _⟩ => exact Fin.ext (Nat.mod_eq_of_lt j.isLt)
  unfold G6
  rw [dif_pos (hp ▸ (pt b i).isLt : _ < cfg0.N), ← outsAt0_sweep m c _ (hp ▸ (pt b i).isLt : _ < cfg0.N), hl]
  exact congrArg (fun z => z.1 (ix2 r j)) (outs_congr m c hp _ _)

theorem G7_at (b : Fin 2) (k : Fin 4352) (j : Fin 128) :
    G7 m c (ix2 (row b k) j) = (st m c b (Fin.last 16)).2.1 (ix2 k j) := by
  have hp : pt7Of (ix2 (row b k) j) = (pt b (Fin.last 16)).val := by
    have := j.isLt
    show 17 * (1 * ((4352 * b.val + k.val) / 4352 - 0) + 1 * (j.val / 128 - 0)) + 16 = 17 * b.val + 16
    omega
  have hl : loc7Of (ix2 (row b k) j) = ix2 k j := by
    funext a
    match a with
    | ⟨0, _⟩ => exact Fin.ext (row_mod b k)
    | ⟨1, _⟩ => exact Fin.ext (Nat.mod_eq_of_lt j.isLt)
  unfold G7
  rw [dif_pos (hp ▸ (pt b (Fin.last 16)).isLt : _ < cfg0.N), ← outsAt0_sweep m c _ (hp ▸ (pt b (Fin.last 16)).isLt : _ < cfg0.N), hl]
  exact congrArg (fun z => z.2.1 (ix2 k j)) (outs_congr m c hp _ _)

theorem G8_at (b : Fin 2) (k : Fin 4352) (j : Fin 128) :
    G8 m c (ix2 (row b k) j) = (st m c b (Fin.last 16)).2.2.1 (ix2 k j) := by
  have hp : pt8Of (ix2 (row b k) j) = (pt b (Fin.last 16)).val := by
    have := j.isLt
    show 17 * (1 * ((4352 * b.val + k.val) / 4352 - 0) + 1 * (j.val / 128 - 0)) + 16 = 17 * b.val + 16
    omega
  have hl : loc8Of (ix2 (row b k) j) = ix2 k j := by
    funext a
    match a with
    | ⟨0, _⟩ => exact Fin.ext (row_mod b k)
    | ⟨1, _⟩ => exact Fin.ext (Nat.mod_eq_of_lt j.isLt)
  unfold G8
  rw [dif_pos (hp ▸ (pt b (Fin.last 16)).isLt : _ < cfg0.N), ← outsAt0_sweep m c _ (hp ▸ (pt b (Fin.last 16)).isLt : _ < cfg0.N), hl]
  exact congrArg (fun z => z.2.2.1 (ix2 k j)) (outs_congr m c hp _ _)

variable {Q G : Fin 2 → Fin 8 → Fin 4352 → Fin 64 → ℝ} {K X : Fin 2 → Fin 2 → Fin 4352 → Fin 64 → ℝ}
  (hq : ∀ b h s d, aq m c (ix2 (row b s) (col8 h d)) = (Q b h s d : EReal))
  (hk : ∀ b g s d, ak m c (ix2 (row b s) (kcol g d)) = (K b g s d : EReal))
  (hv : ∀ b g s d, av m c (ix2 (row b s) (kcol g d)) = (X b g s d : EReal))
  (hg : ∀ b h s d, ag m c (ix2 (row b s) (col8 h d)) = (G b h s d : EReal))

include hq hk hv hg in
/-- The queries' gradient of a context row. -/
theorem dq_ctx (b : Fin 2) (g : Fin 2) (j : Fin 4) (r : Fin 256) (d : Fin 64) : G6 m c (ix2 (row b (ctxPos r)) (qcol g j d))
    = (((∑ k, ds (sc (Q b (hh g j) (ctxPos r)) (fun c => K b g (ctxPos c))) (dp (G b (hh g j) (ctxPos r)) (fun c => X b g (ctxPos c))) k
        * K b g (ctxPos k) d) * (8 : ℝ)⁻¹ : ℝ) : EReal) := by
  refine (congrArg (fun s => G6 m c (ix2 (row b s) (qcol g j d))) (tile_zero r)).symm.trans ?_
  exact (G6_at m c b 0 r _).trans (dqA m c hq hk hv hg b g j r d)

include hq hk hv hg in
/-- The queries' gradient of a latent row. -/
theorem dq_lat (b : Fin 2) (g : Fin 2) (j : Fin 4) (r : Fin 4096) (d : Fin 64) : G6 m c (ix2 (row b (latPos r)) (qcol g j d))
    = (((∑ k, ds (sc (Q b (hh g j) (latPos r)) (K b g)) (dp (G b (hh g j) (latPos r)) (X b g)) k * K b g k d) * (8 : ℝ)⁻¹ : ℝ) : EReal) := by
  obtain ⟨n, r', rfl⟩ : ∃ (n : Fin 16) (r' : Fin 256), r = tl n r' :=
    ⟨⟨r.val / 256, by omega⟩, ⟨r.val % 256, by omega⟩, Fin.ext (by simp only [tl]; omega)⟩
  refine (congrArg (fun s => G6 m c (ix2 (row b s) (qcol g j d))) (tile_succ n r')).symm.trans ((G6_at m c b n.succ r' _).trans ?_)
  rcases Nat.lt_or_ge n.val 15 with hn | hn
  · exact dqB m c hq hk hv hg b n hn g j r' d
  · exact dqC m c hq hk hv hg b n (by omega) g j r' d

/-- The context rows' part of the keys' gradient, which only the context keys have. -/
def dkCtx (Q G : Fin 2 → Fin 8 → Fin 4352 → Fin 64 → ℝ) (K X : Fin 2 → Fin 2 → Fin 4352 → Fin 64 → ℝ)
    (b : Fin 2) (g : Fin 2) (k : Fin 4352) (d : Fin 64) : ℝ :=
  if hk : k.val < 256 then ∑ j : Fin 4, ∑ r : Fin 256,
    ds (sc (Q b (hh g j) (ctxPos r)) (fun c => K b g (ctxPos c))) (dp (G b (hh g j) (ctxPos r)) (fun c => X b g (ctxPos c))) ⟨k.val, hk⟩
      * (Q b (hh g j) (ctxPos r) d * (8 : ℝ)⁻¹) else 0

/-- The context rows' part of the values' gradient. -/
def dvCtx (Q G : Fin 2 → Fin 8 → Fin 4352 → Fin 64 → ℝ) (K : Fin 2 → Fin 2 → Fin 4352 → Fin 64 → ℝ)
    (b : Fin 2) (g : Fin 2) (k : Fin 4352) (d : Fin 64) : ℝ :=
  if hk : k.val < 256 then ∑ j : Fin 4, ∑ r : Fin 256,
    pr (sc (Q b (hh g j) (ctxPos r)) (fun c => K b g (ctxPos c))) ⟨k.val, hk⟩ * G b (hh g j) (ctxPos r) d else 0

include hq hk hv hg in
theorem dk_start (b : Fin 2) (g : Fin 2) (k : Fin 4352) (d : Fin 64) :
    (st m c b 0).2.2.2.1 (ix2 k (kcol g d)) = (dkCtx Q G K X b g k d : EReal) := by
  unfold dkCtx
  by_cases hc : k.val < 256
  · rw [dif_pos hc]
    exact (dkA m c hq hk hv hg b g ⟨k.val, hc⟩ d).trans (congrArg Real.toEReal (sum_heads fun j r =>
      ds (sc (qC Q b g j r) (kC K b g)) (dp (qC G b g j r) (kC X b g)) ⟨k.val, hc⟩ * (qC Q b g j r d * (8 : ℝ)⁻¹)))
  · rw [dif_neg hc, dkA_rest m c b k (by omega), EReal.coe_zero]

include hq hk hv hg in
theorem dv_start (b : Fin 2) (g : Fin 2) (k : Fin 4352) (d : Fin 64) :
    (st m c b 0).2.2.2.2 (ix2 k (kcol g d)) = (dvCtx Q G K b g k d : EReal) := by
  unfold dvCtx
  by_cases hc : k.val < 256
  · rw [dif_pos hc]
    exact (dvA m c hq hk hv hg b g ⟨k.val, hc⟩ d).trans (congrArg Real.toEReal (sum_heads fun j r =>
      pr (sc (qC Q b g j r) (kC K b g)) ⟨k.val, hc⟩ * qC G b g j r d))
  · rw [dif_neg hc, dvA_rest m c b k (by omega), EReal.coe_zero]

include hq hk hv hg in
/-- The keys' gradient. -/
theorem dk_all (b : Fin 2) (g : Fin 2) (k : Fin 4352) (d : Fin 64) : G7 m c (ix2 (row b k) (kcol g d))
    = ((dkCtx Q G K X b g k d + ∑ j : Fin 4, ∑ r : Fin 4096,
        ds (sc (Q b (hh g j) (latPos r)) (K b g)) (dp (G b (hh g j) (latPos r)) (X b g)) k * (Q b (hh g j) (latPos r) d * (8 : ℝ)⁻¹) : ℝ) : EReal) := by
  rw [G7_at]
  refine (out7 m c b 15 rfl _).trans ?_
  rw [← sum_tiles]
  exact run_sum (fun i => (st m c b i).2.2.2.1 (ix2 k (kcol g d))) _ _ (dk_start m c hq hk hv hg b g k d) fun n => by
    rcases Nat.lt_or_ge n.val 15 with hn | hn
    · exact dkB m c hq hk hv hg b n hn g k d
    · exact dkC m c hq hk hv hg b n (by omega) g k d

include hq hk hv hg in
/-- The values' gradient. -/
theorem dv_all (b : Fin 2) (g : Fin 2) (k : Fin 4352) (d : Fin 64) : G8 m c (ix2 (row b k) (kcol g d))
    = ((dvCtx Q G K b g k d + ∑ j : Fin 4, ∑ r : Fin 4096, pr (sc (Q b (hh g j) (latPos r)) (K b g)) k * G b (hh g j) (latPos r) d : ℝ) : EReal) := by
  rw [G8_at]
  refine (out8 m c b 15 rfl _).trans ?_
  rw [← sum_tiles]
  exact run_sum (fun i => (st m c b i).2.2.2.2 (ix2 k (kcol g d))) _ _ (dv_start m c hq hk hv hg b g k d) fun n => by
    rcases Nat.lt_or_ge n.val 15 with hn | hn
    · exact dvB m c hq hk hv hg b n hn g k d
    · exact dvC m c hq hk hv hg b n (by omega) g k d

end Cert.GroupedIdeal.Fold

end
-- ==== Proof.GroupedRefLat.lean ====
/- The grouped reference's chain of host operations for the queries of the latent rows, as functions of the arrays it reads, and
   each stage read at an index: over finite arrays every stage is a real number, the one that Soft.lean names. -/
module

public import proofs.«01_k».proof.Proof.Gen.GroupedReferenceIdeal
public import proofs.«01_k».proof.Proof.GroupedStack
public import Idealize.ShloMosaic.Lib.Pointwise
public import Idealize.ShloMosaic.Lib.IdealHost

@[expose] public section

set_option maxRecDepth 16384

noncomputable section

namespace Cert.GroupedReferenceIdeal.Lat

open Cert.GroupedReferenceIdeal Cert.GroupedReferenceIdeal.Gen Cert.Soft Idealize.ShloMosaic
open Cert.AttnGrad (sum_coe fold_max_coe bot32 log2_host maximumf_at reduceMax_last)

/-- The scores. -/
def s (q : FVec Ideal S2x4096x8x64 .f32) (k : FVec Ideal S2x4352x8x64 .f32) : FVec Ideal S2x8x4096x4352 .f32 :=
  mulf (Host.dotGeneral dot_S2x4096x8x64_S2x4352x8x64_S2x8x4096x4352_3_3_1_1_02_02 none q k)
    (broadcastInDim S2x8x4096x4352 ![] bcast_S_S2x8x4096x4352 (constant S_ .f32 0x3E000000#32))

/-- The rows' greatest scores. -/
def mx (s : FVec Ideal S2x8x4096x4352 .f32) : FVec Ideal S2x8x4096 .f32 :=
  maximumf (broadcastInDim S2x8x4096 ![] bcast_S_S2x8x4096 (constant S_ .f32 0xFF800000#32))
    (Host.reduce FloatOps.maximumf s (constant S_ .f32 0xFF800000#32) reducesTo_S2x8x4096x4352_S2x8x4096_d3 h_S_)

/-- The exponentials of the scores less their row's greatest. -/
def e (s : FVec Ideal S2x8x4096x4352 .f32) : FVec Ideal S2x8x4096x4352 .f32 :=
  Host.exp (subf s (broadcastInDim S2x8x4096x4352 ![0, 1, 2, 3] bcast_S2x8x4096x1_S2x8x4096x4352_0_1_2_3
    (broadcastInDim S2x8x4096x1 ![0, 1, 2] bcast_S2x8x4096_S2x8x4096x1_0_1_2 (mx s))))

/-- Their sums over a row. -/
def l (e : FVec Ideal S2x8x4096x4352 .f32) : FVec Ideal S2x8x4096x1 .f32 :=
  broadcastInDim S2x8x4096x1 ![0, 1, 2] bcast_S2x8x4096_S2x8x4096x1_0_1_2
    (Host.reduceAdd e (constant S_ .f32 0x00000000#32) reducesTo_S2x8x4096x4352_S2x8x4096_d3 h_S_)

/-- The weights. -/
def p (e : FVec Ideal S2x8x4096x4352 .f32) : FVec Ideal S2x8x4096x4352 .f32 :=
  Host.divf e (broadcastInDim S2x8x4096x4352 ![0, 1, 2, 3] bcast_S2x8x4096x1_S2x8x4096x4352_0_1_2_3 (l e))

/-- The cotangent with the query axis last. -/
def gt (g : FVec Ideal S2x4096x8x64 .f32) : FVec Ideal S2x8x64x4096 .f32 :=
  transpose S2x8x64x4096 [0, 2, 3, 1] g transposes_S2x4096x8x64_S2x8x64x4096_0_2_3_1

/-- The gradient with respect to the weights. -/
def dpr (g : FVec Ideal S2x4096x8x64 .f32) (v : FVec Ideal S2x4352x8x64 .f32) : FVec Ideal S2x8x4096x4352 .f32 :=
  Host.dotGeneral dot_S2x8x64x4096_S2x4352x8x64_S2x8x4096x4352_2_3_3_1_01_02 none (gt g) v

/-- The sum over a row that the derivative of the quotient subtracts. -/
def dl (e dp : FVec Ideal S2x8x4096x4352 .f32) : FVec Ideal S2x8x4096 .f32 :=
  Host.reduceAdd (mulf (mulf dp (broadcastInDim S2x8x4096x4352 ![0, 1, 2, 3] bcast_S2x8x4096x1_S2x8x4096x4352_0_1_2_3
    (Host.divf (broadcastInDim S2x8x4096x1 ![] bcast_S_S2x8x4096x1 (constant S_ .f32 0x3F800000#32)) (mulf (l e) (l e))))) e)
    (constant S_ .f32 0x00000000#32) reducesTo_S2x8x4096x4352_S2x8x4096_d3 h_S_

/-- The gradient with respect to the products of queries and keys. -/
def dsc (e dp : FVec Ideal S2x8x4096x4352 .f32) : FVec Ideal S2x8x4096x4352 .f32 :=
  mulf (mulf (addf
      (Host.divf dp (broadcastInDim S2x8x4096x4352 ![0, 1, 2, 3] bcast_S2x8x4096x1_S2x8x4096x4352_0_1_2_3 (l e)))
      (broadcastInDim S2x8x4096x4352 ![0, 1, 2] bcast_S2x8x4096_S2x8x4096x4352_0_1_2
        (Host.reduceAdd (Host.negf (shapeCast _ (dl e dp) shapeCasts_S2x8x4096_S2x8x4096x1))
          (constant S_ .f32 0x00000000#32) reducesTo_S2x8x4096x1_S2x8x4096_d3 h_S_))) e)
    (broadcastInDim S2x8x4096x4352 ![] bcast_S_S2x8x4096x4352 (constant S_ .f32 0x3E000000#32))

/-- The gradients of the queries, of the keys and of the values. -/
def dq (ds : FVec Ideal S2x8x4096x4352 .f32) (k : FVec Ideal S2x4352x8x64 .f32) : FVec Ideal S2x4096x8x64 .f32 :=
  transpose S2x4096x8x64 [0, 2, 1, 3] (Host.dotGeneral dot_S2x8x4096x4352_S2x4352x8x64_S2x8x4096x64_3_1_2_3_01_02 none ds k)
    transposes_S2x8x4096x64_S2x4096x8x64_0_2_1_3
def dk (ds : FVec Ideal S2x8x4096x4352 .f32) (q : FVec Ideal S2x4096x8x64 .f32) : FVec Ideal S2x4352x8x64 .f32 :=
  transpose S2x4352x8x64 [0, 2, 1, 3] (Host.dotGeneral dot_S2x8x4096x4352_S2x4096x8x64_S2x8x4352x64_2_1_3_3_01_02 none ds q)
    transposes_S2x8x4352x64_S2x4352x8x64_0_2_1_3
def dv (g : FVec Ideal S2x4096x8x64 .f32) (p : FVec Ideal S2x8x4096x4352 .f32) : FVec Ideal S2x4352x8x64 .f32 :=
  transpose S2x4352x8x64 [0, 3, 1, 2] (Host.dotGeneral dot_S2x8x64x4096_S2x8x4096x4352_S2x8x64x4352_3_2_2_3_01_01 none (gt g) p)
    transposes_S2x8x64x4352_S2x4352x8x64_0_3_1_2

variable {q : FVec Ideal S2x4096x8x64 .f32} {k : FVec Ideal S2x4352x8x64 .f32} {v : FVec Ideal S2x4352x8x64 .f32} {g : FVec Ideal S2x4096x8x64 .f32}
variable {Q : Fin 2 → Fin 8 → Fin 4096 → Fin 64 → ℝ} {K : Fin 2 → Fin 8 → Fin 4352 → Fin 64 → ℝ}
  {V : Fin 2 → Fin 8 → Fin 4352 → Fin 64 → ℝ} {G : Fin 2 → Fin 8 → Fin 4096 → Fin 64 → ℝ}

theorem s_at (hq : ∀ b r h d, q (ix4 b r h d) = (Q b h r d : EReal)) (hk : ∀ b c h d, k (ix4 b c h d) = (K b h c d : EReal))
    (b : Fin 2) (h : Fin 8) (r : Fin 4096) (c : Fin 4352) : s q k (ix4 b h r c) = (sc (Q b h r) (K b h) c : EReal) := by
  pointwise [s]
  simp only [hq, hk]
  rw [eighth, score_host]

theorem mx_apply (s : FVec Ideal S2x8x4096x4352 .f32) (b : Fin 2) (h : Fin 8) (r : Fin 4096) : mx s (ix3 b h r)
    = max (Ideal.ofBits .f32 0xFF800000#32)
        (Finset.univ.fold max (Ideal.ofBits .f32 0xFF800000#32) fun c : Fin 4352 => s (ix4 b h r c)) := by
  unfold mx
  exact (maximumf_at _ _ _).trans (congrArg₂ max rfl
    (reduceMax_last s (constant S_ .f32 0xFF800000#32) reducesTo_S2x8x4096x4352_S2x8x4096_d3 h_S_ b h r _ rfl))

theorem mx_at (hq : ∀ b r h d, q (ix4 b r h d) = (Q b h r d : EReal)) (hk : ∀ b c h d, k (ix4 b c h d) = (K b h c d : EReal))
    (b : Fin 2) (h : Fin 8) (r : Fin 4096) : ∃ M : ℝ, mx (s q k) (ix3 b h r) = (M : EReal) := by
  obtain ⟨M, hM⟩ := fold_max_coe (sc (Q b h r) (K b h))
  refine ⟨M, ?_⟩
  simp only [mx_apply, s_at hq hk]
  rw [bot32, hM]; simp

theorem e_apply (s : FVec Ideal S2x8x4096x4352 .f32) (b : Fin 2) (h : Fin 8) (r : Fin 4096) (c : Fin 4352) :
    e s (ix4 b h r c) = Ideal.exp (s (ix4 b h r c) - mx s (ix3 b h r)) := by
  pointwise [e]

theorem l_apply (e : FVec Ideal S2x8x4096x4352 .f32) (b : Fin 2) (h : Fin 8) (r : Fin 4096) :
    l e (ix4 b h r 0) = ∑ c : Fin 4352, e (ix4 b h r c) := by
  pointwise [l]

/-- Relative to some real `M`, the row's exponentials and their sum. -/
theorem e_at (hq : ∀ b r h d, q (ix4 b r h d) = (Q b h r d : EReal)) (hk : ∀ b c h d, k (ix4 b c h d) = (K b h c d : EReal))
    (b : Fin 2) (h : Fin 8) (r : Fin 4096) : ∃ M : ℝ,
      (∀ c, e (s q k) (ix4 b h r c) = Ideal.exp ((sc (Q b h r) (K b h) c : EReal) - (M : EReal)))
      ∧ l (e (s q k)) (ix4 b h r 0) = (zm (sc (Q b h r) (K b h)) M : EReal) := by
  obtain ⟨M, hm⟩ := mx_at hq hk b h r
  have he : ∀ c, e (s q k) (ix4 b h r c) = Ideal.exp ((sc (Q b h r) (K b h) c : EReal) - (M : EReal)) := by
    intro c
    rw [e_apply, hm, s_at hq hk]
  refine ⟨M, he, ?_⟩
  rw [l_apply]
  simp only [he]
  rw [sum_exp_host]

theorem p_at (hq : ∀ b r h d, q (ix4 b r h d) = (Q b h r d : EReal)) (hk : ∀ b c h d, k (ix4 b c h d) = (K b h c d : EReal))
    (b : Fin 2) (h : Fin 8) (r : Fin 4096) (c : Fin 4352) : p (e (s q k)) (ix4 b h r c) = (pr (sc (Q b h r) (K b h)) c : EReal) := by
  obtain ⟨M, he, hl⟩ := e_at hq hk b h r
  pointwise [p]
  rw [he, hl, pr_host]

theorem dpr_at (hg : ∀ b r h d, g (ix4 b r h d) = (G b h r d : EReal)) (hv : ∀ b c h d, v (ix4 b c h d) = (V b h c d : EReal))
    (b : Fin 2) (h : Fin 8) (r : Fin 4096) (c : Fin 4352) : dpr g v (ix4 b h r c) = (dp (G b h r) (V b h) c : EReal) := by
  pointwise [dpr, gt]
  simp only [hg, hv]
  rw [dp, dot_coe]

theorem dsc_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 8) (r : Fin 4096) (c : Fin 4352) :
    dsc (e (s q k)) (dpr g v) (ix4 b h r c) = ((ds (sc (Q b h r) (K b h)) (dp (G b h r) (V b h)) c * (8 : ℝ)⁻¹ : ℝ) : EReal) := by
  obtain ⟨M, he, hl⟩ := e_at hq hk b h r
  have hd : dl (e (s q k)) (dpr g v) (ix3 b h r) = ∑ c', (dp (G b h r) (V b h) c' : EReal)
      * Ideal.div 1 ((zm (sc (Q b h r) (K b h)) M : EReal) * (zm (sc (Q b h r) (K b h)) M : EReal))
      * Ideal.exp ((sc (Q b h r) (K b h) c' : EReal) - (M : EReal)) := by
    pointwise [dl]
    simp only [he, hl, dpr_at hg hv]
  pointwise [dsc]
  rw [he, hl, dpr_at hg hv, Fin.sum_univ_one, hd, eighth]
  rw [ds_host, ← EReal.coe_mul]

theorem dq_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 8) (r : Fin 4096) (d : Fin 64) :
    dq (dsc (e (s q k)) (dpr g v)) k (ix4 b r h d)
      = ((∑ c, ds (sc (Q b h r) (K b h)) (dp (G b h r) (V b h)) c * (8 : ℝ)⁻¹ * K b h c d : ℝ) : EReal) := by
  pointwise [dq]
  simp only [dsc_at hq hk hg hv, hk, ← EReal.coe_mul]
  rw [sum_coe]

theorem dk_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 8) (c : Fin 4352) (d : Fin 64) :
    dk (dsc (e (s q k)) (dpr g v)) q (ix4 b c h d)
      = ((∑ r, ds (sc (Q b h r) (K b h)) (dp (G b h r) (V b h)) c * (8 : ℝ)⁻¹ * Q b h r d : ℝ) : EReal) := by
  pointwise [dk]
  simp only [dsc_at hq hk hg hv, hq, ← EReal.coe_mul]
  rw [sum_coe]

theorem dv_at (hq : ∀ b r h d, q (ix4 b r h d) = (Q b h r d : EReal)) (hk : ∀ b c h d, k (ix4 b c h d) = (K b h c d : EReal))
    (hg : ∀ b r h d, g (ix4 b r h d) = (G b h r d : EReal))
    (b : Fin 2) (h : Fin 8) (c : Fin 4352) (d : Fin 64) :
    dv g (p (e (s q k))) (ix4 b c h d) = ((∑ r, G b h r d * pr (sc (Q b h r) (K b h)) c : ℝ) : EReal) := by
  pointwise [dv, gt]
  simp only [p_at hq hk, hg, ← EReal.coe_mul]
  rw [sum_coe]

end Cert.GroupedReferenceIdeal.Lat

end
-- ==== Proof.GroupedRefCtx.lean ====
/- The grouped reference's chain of host operations for the queries of the context rows, as functions of the arrays it reads, and
   each stage read at an index: over finite arrays every stage is a real number, the one that Soft.lean names. -/
module

public import proofs.«01_k».proof.Proof.Gen.GroupedReferenceIdeal
public import proofs.«01_k».proof.Proof.GroupedStack
public import Idealize.ShloMosaic.Lib.Pointwise
public import Idealize.ShloMosaic.Lib.IdealHost

@[expose] public section

set_option maxRecDepth 16384

noncomputable section

namespace Cert.GroupedReferenceIdeal.Ctx

open Cert.GroupedReferenceIdeal Cert.GroupedReferenceIdeal.Gen Cert.Soft Idealize.ShloMosaic
open Cert.AttnGrad (sum_coe fold_max_coe bot32 log2_host maximumf_at reduceMax_last)

/-- The scores. -/
def s (q : FVec Ideal S2x256x8x64 .f32) (k : FVec Ideal S2x256x8x64 .f32) : FVec Ideal S2x8x256x256 .f32 :=
  mulf (Host.dotGeneral dot_S2x256x8x64_S2x256x8x64_S2x8x256x256_3_3_1_1_02_02 none q k)
    (broadcastInDim S2x8x256x256 ![] bcast_S_S2x8x256x256 (constant S_ .f32 0x3E000000#32))

/-- The rows' greatest scores. -/
def mx (s : FVec Ideal S2x8x256x256 .f32) : FVec Ideal S2x8x256 .f32 :=
  maximumf (broadcastInDim S2x8x256 ![] bcast_S_S2x8x256 (constant S_ .f32 0xFF800000#32))
    (Host.reduce FloatOps.maximumf s (constant S_ .f32 0xFF800000#32) reducesTo_S2x8x256x256_S2x8x256_d3 h_S_)

/-- The exponentials of the scores less their row's greatest. -/
def e (s : FVec Ideal S2x8x256x256 .f32) : FVec Ideal S2x8x256x256 .f32 :=
  Host.exp (subf s (broadcastInDim S2x8x256x256 ![0, 1, 2, 3] bcast_S2x8x256x1_S2x8x256x256_0_1_2_3
    (broadcastInDim S2x8x256x1 ![0, 1, 2] bcast_S2x8x256_S2x8x256x1_0_1_2 (mx s))))

/-- Their sums over a row. -/
def l (e : FVec Ideal S2x8x256x256 .f32) : FVec Ideal S2x8x256x1 .f32 :=
  broadcastInDim S2x8x256x1 ![0, 1, 2] bcast_S2x8x256_S2x8x256x1_0_1_2
    (Host.reduceAdd e (constant S_ .f32 0x00000000#32) reducesTo_S2x8x256x256_S2x8x256_d3 h_S_)

/-- The weights. -/
def p (e : FVec Ideal S2x8x256x256 .f32) : FVec Ideal S2x8x256x256 .f32 :=
  Host.divf e (broadcastInDim S2x8x256x256 ![0, 1, 2, 3] bcast_S2x8x256x1_S2x8x256x256_0_1_2_3 (l e))

/-- The cotangent with the query axis last. -/
def gt (g : FVec Ideal S2x256x8x64 .f32) : FVec Ideal S2x8x64x256 .f32 :=
  transpose S2x8x64x256 [0, 2, 3, 1] g transposes_S2x256x8x64_S2x8x64x256_0_2_3_1

/-- The gradient with respect to the weights. -/
def dpr (g : FVec Ideal S2x256x8x64 .f32) (v : FVec Ideal S2x256x8x64 .f32) : FVec Ideal S2x8x256x256 .f32 :=
  Host.dotGeneral dot_S2x8x64x256_S2x256x8x64_S2x8x256x256_2_3_3_1_01_02 none (gt g) v

/-- The sum over a row that the derivative of the quotient subtracts. -/
def dl (e dp : FVec Ideal S2x8x256x256 .f32) : FVec Ideal S2x8x256 .f32 :=
  Host.reduceAdd (mulf (mulf dp (broadcastInDim S2x8x256x256 ![0, 1, 2, 3] bcast_S2x8x256x1_S2x8x256x256_0_1_2_3
    (Host.divf (broadcastInDim S2x8x256x1 ![] bcast_S_S2x8x256x1 (constant S_ .f32 0x3F800000#32)) (mulf (l e) (l e))))) e)
    (constant S_ .f32 0x00000000#32) reducesTo_S2x8x256x256_S2x8x256_d3 h_S_

/-- The gradient with respect to the products of queries and keys. -/
def dsc (e dp : FVec Ideal S2x8x256x256 .f32) : FVec Ideal S2x8x256x256 .f32 :=
  mulf (mulf (addf
      (Host.divf dp (broadcastInDim S2x8x256x256 ![0, 1, 2, 3] bcast_S2x8x256x1_S2x8x256x256_0_1_2_3 (l e)))
      (broadcastInDim S2x8x256x256 ![0, 1, 2] bcast_S2x8x256_S2x8x256x256_0_1_2
        (Host.reduceAdd (Host.negf (shapeCast _ (dl e dp) shapeCasts_S2x8x256_S2x8x256x1))
          (constant S_ .f32 0x00000000#32) reducesTo_S2x8x256x1_S2x8x256_d3 h_S_))) e)
    (broadcastInDim S2x8x256x256 ![] bcast_S_S2x8x256x256 (constant S_ .f32 0x3E000000#32))

/-- The gradients of the queries, of the keys and of the values. -/
def dq (ds : FVec Ideal S2x8x256x256 .f32) (k : FVec Ideal S2x256x8x64 .f32) : FVec Ideal S2x256x8x64 .f32 :=
  transpose S2x256x8x64 [0, 2, 1, 3] (Host.dotGeneral dot_S2x8x256x256_S2x256x8x64_S2x8x256x64_3_1_2_3_01_02 none ds k)
    transposes_S2x8x256x64_S2x256x8x64_0_2_1_3
def dk (ds : FVec Ideal S2x8x256x256 .f32) (q : FVec Ideal S2x256x8x64 .f32) : FVec Ideal S2x256x8x64 .f32 :=
  transpose S2x256x8x64 [0, 2, 1, 3] (Host.dotGeneral dot_S2x8x256x256_S2x256x8x64_S2x8x256x64_2_1_3_3_01_02 none ds q)
    transposes_S2x8x256x64_S2x256x8x64_0_2_1_3
def dv (g : FVec Ideal S2x256x8x64 .f32) (p : FVec Ideal S2x8x256x256 .f32) : FVec Ideal S2x256x8x64 .f32 :=
  transpose S2x256x8x64 [0, 3, 1, 2] (Host.dotGeneral dot_S2x8x64x256_S2x8x256x256_S2x8x64x256_3_2_2_3_01_01 none (gt g) p)
    transposes_S2x8x64x256_S2x256x8x64_0_3_1_2

variable {q : FVec Ideal S2x256x8x64 .f32} {k : FVec Ideal S2x256x8x64 .f32} {v : FVec Ideal S2x256x8x64 .f32} {g : FVec Ideal S2x256x8x64 .f32}
variable {Q : Fin 2 → Fin 8 → Fin 256 → Fin 64 → ℝ} {K : Fin 2 → Fin 8 → Fin 256 → Fin 64 → ℝ}
  {V : Fin 2 → Fin 8 → Fin 256 → Fin 64 → ℝ} {G : Fin 2 → Fin 8 → Fin 256 → Fin 64 → ℝ}

theorem s_at (hq : ∀ b r h d, q (ix4 b r h d) = (Q b h r d : EReal)) (hk : ∀ b c h d, k (ix4 b c h d) = (K b h c d : EReal))
    (b : Fin 2) (h : Fin 8) (r : Fin 256) (c : Fin 256) : s q k (ix4 b h r c) = (sc (Q b h r) (K b h) c : EReal) := by
  pointwise [s]
  simp only [hq, hk]
  rw [eighth, score_host]

theorem mx_apply (s : FVec Ideal S2x8x256x256 .f32) (b : Fin 2) (h : Fin 8) (r : Fin 256) : mx s (ix3 b h r)
    = max (Ideal.ofBits .f32 0xFF800000#32)
        (Finset.univ.fold max (Ideal.ofBits .f32 0xFF800000#32) fun c : Fin 256 => s (ix4 b h r c)) := by
  unfold mx
  exact (maximumf_at _ _ _).trans (congrArg₂ max rfl
    (reduceMax_last s (constant S_ .f32 0xFF800000#32) reducesTo_S2x8x256x256_S2x8x256_d3 h_S_ b h r _ rfl))

theorem mx_at (hq : ∀ b r h d, q (ix4 b r h d) = (Q b h r d : EReal)) (hk : ∀ b c h d, k (ix4 b c h d) = (K b h c d : EReal))
    (b : Fin 2) (h : Fin 8) (r : Fin 256) : ∃ M : ℝ, mx (s q k) (ix3 b h r) = (M : EReal) := by
  obtain ⟨M, hM⟩ := fold_max_coe (sc (Q b h r) (K b h))
  refine ⟨M, ?_⟩
  simp only [mx_apply, s_at hq hk]
  rw [bot32, hM]; simp

theorem e_apply (s : FVec Ideal S2x8x256x256 .f32) (b : Fin 2) (h : Fin 8) (r : Fin 256) (c : Fin 256) :
    e s (ix4 b h r c) = Ideal.exp (s (ix4 b h r c) - mx s (ix3 b h r)) := by
  pointwise [e]

theorem l_apply (e : FVec Ideal S2x8x256x256 .f32) (b : Fin 2) (h : Fin 8) (r : Fin 256) :
    l e (ix4 b h r 0) = ∑ c : Fin 256, e (ix4 b h r c) := by
  pointwise [l]

/-- Relative to some real `M`, the row's exponentials and their sum. -/
theorem e_at (hq : ∀ b r h d, q (ix4 b r h d) = (Q b h r d : EReal)) (hk : ∀ b c h d, k (ix4 b c h d) = (K b h c d : EReal))
    (b : Fin 2) (h : Fin 8) (r : Fin 256) : ∃ M : ℝ,
      (∀ c, e (s q k) (ix4 b h r c) = Ideal.exp ((sc (Q b h r) (K b h) c : EReal) - (M : EReal)))
      ∧ l (e (s q k)) (ix4 b h r 0) = (zm (sc (Q b h r) (K b h)) M : EReal) := by
  obtain ⟨M, hm⟩ := mx_at hq hk b h r
  have he : ∀ c, e (s q k) (ix4 b h r c) = Ideal.exp ((sc (Q b h r) (K b h) c : EReal) - (M : EReal)) := by
    intro c
    rw [e_apply, hm, s_at hq hk]
  refine ⟨M, he, ?_⟩
  rw [l_apply]
  simp only [he]
  rw [sum_exp_host]

theorem p_at (hq : ∀ b r h d, q (ix4 b r h d) = (Q b h r d : EReal)) (hk : ∀ b c h d, k (ix4 b c h d) = (K b h c d : EReal))
    (b : Fin 2) (h : Fin 8) (r : Fin 256) (c : Fin 256) : p (e (s q k)) (ix4 b h r c) = (pr (sc (Q b h r) (K b h)) c : EReal) := by
  obtain ⟨M, he, hl⟩ := e_at hq hk b h r
  pointwise [p]
  rw [he, hl, pr_host]

theorem dpr_at (hg : ∀ b r h d, g (ix4 b r h d) = (G b h r d : EReal)) (hv : ∀ b c h d, v (ix4 b c h d) = (V b h c d : EReal))
    (b : Fin 2) (h : Fin 8) (r : Fin 256) (c : Fin 256) : dpr g v (ix4 b h r c) = (dp (G b h r) (V b h) c : EReal) := by
  pointwise [dpr, gt]
  simp only [hg, hv]
  rw [dp, dot_coe]

theorem dsc_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 8) (r : Fin 256) (c : Fin 256) :
    dsc (e (s q k)) (dpr g v) (ix4 b h r c) = ((ds (sc (Q b h r) (K b h)) (dp (G b h r) (V b h)) c * (8 : ℝ)⁻¹ : ℝ) : EReal) := by
  obtain ⟨M, he, hl⟩ := e_at hq hk b h r
  have hd : dl (e (s q k)) (dpr g v) (ix3 b h r) = ∑ c', (dp (G b h r) (V b h) c' : EReal)
      * Ideal.div 1 ((zm (sc (Q b h r) (K b h)) M : EReal) * (zm (sc (Q b h r) (K b h)) M : EReal))
      * Ideal.exp ((sc (Q b h r) (K b h) c' : EReal) - (M : EReal)) := by
    pointwise [dl]
    simp only [he, hl, dpr_at hg hv]
  pointwise [dsc]
  rw [he, hl, dpr_at hg hv, Fin.sum_univ_one, hd, eighth]
  rw [ds_host, ← EReal.coe_mul]

theorem dq_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 8) (r : Fin 256) (d : Fin 64) :
    dq (dsc (e (s q k)) (dpr g v)) k (ix4 b r h d)
      = ((∑ c, ds (sc (Q b h r) (K b h)) (dp (G b h r) (V b h)) c * (8 : ℝ)⁻¹ * K b h c d : ℝ) : EReal) := by
  pointwise [dq]
  simp only [dsc_at hq hk hg hv, hk, ← EReal.coe_mul]
  rw [sum_coe]

theorem dk_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 8) (c : Fin 256) (d : Fin 64) :
    dk (dsc (e (s q k)) (dpr g v)) q (ix4 b c h d)
      = ((∑ r, ds (sc (Q b h r) (K b h)) (dp (G b h r) (V b h)) c * (8 : ℝ)⁻¹ * Q b h r d : ℝ) : EReal) := by
  pointwise [dk]
  simp only [dsc_at hq hk hg hv, hq, ← EReal.coe_mul]
  rw [sum_coe]

theorem dv_at (hq : ∀ b r h d, q (ix4 b r h d) = (Q b h r d : EReal)) (hk : ∀ b c h d, k (ix4 b c h d) = (K b h c d : EReal))
    (hg : ∀ b r h d, g (ix4 b r h d) = (G b h r d : EReal))
    (b : Fin 2) (h : Fin 8) (c : Fin 256) (d : Fin 64) :
    dv g (p (e (s q k))) (ix4 b c h d) = ((∑ r, G b h r d * pr (sc (Q b h r) (K b h)) c : ℝ) : EReal) := by
  pointwise [dv, gt]
  simp only [p_at hq hk, hg, ← EReal.coe_mul]
  rw [sum_coe]

end Cert.GroupedReferenceIdeal.Ctx

end
-- ==== Proof.GroupedRefRead.lean ====
/- The grouped reference's three results as compositions of its stages, each read at a row and a column. -/
module

public import proofs.«01_k».proof.Proof.Gen.GroupedReferenceIdeal.Run
public import proofs.«01_k».proof.Proof.GroupedRefLat
public import proofs.«01_k».proof.Proof.GroupedRefCtx
public import proofs.«01_k».proof.Proof.GroupedSaved

@[expose] public section

set_option maxRecDepth 16384

noncomputable section

namespace Cert.GroupedReferenceIdeal.Read

open Cert.GroupedReferenceIdeal Cert.GroupedReferenceIdeal.Gen Cert.Soft Idealize.ShloMosaic Idealize.ShloMosaic.TcCoe
open Cert.AttnGrad (sum_coe)
open Cert.GroupedIdeal (kcol)
open Cert.GroupedIdeal.Saved (hh gp gp_hh col8 col8_div col8_mod col8_eq)
open Cert.KernelIdeal (ctxPos)
open Cert.KernelIdeal.Saved (row latPos row_eq row_div row_mod)

/-- The queries or the cotangents by batch, position, head and dimension; the keys or values likewise, each group's repeated for
    its heads. -/
def q4 (q : FVec Ideal S8704x512 .f32) : FVec Ideal S2x4352x8x64 .f32 := shapeCast _ q shapeCasts_S8704x512_S2x4352x8x64
def g4 (g : FVec Ideal S8704x512 .bf16) : FVec Ideal S2x4352x8x64 .f32 :=
  shapeCast _ (extf .f32 g bitsLt_bf16_f32) shapeCasts_S8704x512_S2x4352x8x64
def k4 (k : FVec Ideal S8704x128 .bf16) : FVec Ideal S2x4352x8x64 .f32 :=
  shapeCast _ (broadcastInDim S2x4352x2x4x64 ![0, 1, 2, 4] bcast_S2x4352x2x64_S2x4352x2x4x64_0_1_2_4
    (shapeCast S2x4352x2x64 (extf .f32 k bitsLt_bf16_f32) shapeCasts_S8704x128_S2x4352x2x64)) shapeCasts_S2x4352x2x4x64_S2x4352x8x64

/-- Their latent and context rows. -/
def lat (q : FVec Ideal S2x4352x8x64 .f32) : FVec Ideal S2x4096x8x64 .f32 :=
  extractStridedSlice S2x4096x8x64 ![0, 256, 0, 0] q slices_S2x4352x8x64_S2x4096x8x64_0_256_0_0
def ctx (q : FVec Ideal S2x4352x8x64 .f32) : FVec Ideal S2x256x8x64 .f32 :=
  extractStridedSlice S2x256x8x64 ![0, 0, 0, 0] q slices_S2x4352x8x64_S2x256x8x64_0_0_0_0

/-- The two kinds of rows' gradients, put together: for the queries head by head, for the keys and the values summed over the
    heads of a group. -/
def joinQ (a : FVec Ideal S2x256x8x64 .f32) (b : FVec Ideal S2x4096x8x64 .f32) : FVec Ideal S8704x512 .f32 :=
  shapeCast _ (addf
    (pad S2x4352x8x64 ![0, 0, 0, 0] ![0, 4096, 0, 0] ![0, 0, 0, 0] a (constant S_ .f32 0x00000000#32) pads_S2x256x8x64_S2x4352x8x64_000_040960_000_000 h_S_)
    (pad S2x4352x8x64 ![0, 256, 0, 0] ![0, 0, 0, 0] ![0, 0, 0, 0] b (constant S_ .f32 0x00000000#32) pads_S2x4096x8x64_S2x4352x8x64_000_25600_000_000 h_S_))
    shapeCasts_S2x4352x8x64_S8704x512
def joinA (a : FVec Ideal S2x256x8x64 .f32) (b : FVec Ideal S2x4352x8x64 .f32) : FVec Ideal S2x4352x8x64 .f32 :=
  addf
    (pad S2x4352x8x64 ![0, 0, 0, 0] ![0, 4096, 0, 0] ![0, 0, 0, 0] a (constant S_ .f32 0x00000000#32) pads_S2x256x8x64_S2x4352x8x64_000_040960_000_000 h_S_)
    b
def joinK (a : FVec Ideal S2x256x8x64 .f32) (b : FVec Ideal S2x4352x8x64 .f32) : FVec Ideal S8704x128 .bf16 :=
  truncf .bf16 (shapeCast _ (Host.reduceAdd (shapeCast S2x4352x2x4x64 (joinA a b) shapeCasts_S2x4352x8x64_S2x4352x2x4x64)
    (constant S_ .f32 0x00000000#32) reducesTo_S2x4352x2x4x64_S2x4352x2x64_d3 h_S_) shapeCasts_S2x4352x2x64_S8704x128) bitsLt_bf16_f32

/-- The two kinds of rows' gradients with respect to the products of queries and keys. -/
def dsC (q : FVec Ideal S8704x512 .f32) (k v : FVec Ideal S8704x128 .bf16) (g : FVec Ideal S8704x512 .bf16) : FVec Ideal S2x8x256x256 .f32 :=
  Ctx.dsc (Ctx.e (Ctx.s (ctx (q4 q)) (ctx (k4 k)))) (Ctx.dpr (ctx (g4 g)) (ctx (k4 v)))
def dsL (q : FVec Ideal S8704x512 .f32) (k v : FVec Ideal S8704x128 .bf16) (g : FVec Ideal S8704x512 .bf16) : FVec Ideal S2x8x4096x4352 .f32 :=
  Lat.dsc (Lat.e (Lat.s (lat (q4 q)) (k4 k))) (Lat.dpr (lat (g4 g)) (k4 v))

section
variable (m : (ℓ : Loc nD τ sig) → Buf (Elt Ideal) ℓ) (c : Dev nD)

/-- The reference's four arguments on core `c`. -/
abbrev aq : FVec Ideal S8704x512 .f32 := m ((c.tc : Thread nD τ).loc main_arg0)
abbrev ak : FVec Ideal S8704x128 .bf16 := m ((c.tc : Thread nD τ).loc main_arg1)
abbrev av : FVec Ideal S8704x128 .bf16 := m ((c.tc : Thread nD τ).loc main_arg2)
abbrev ag : FVec Ideal S8704x512 .bf16 := m ((c.tc : Thread nD τ).loc main_arg3)

theorem res_dq : Value.res_out0 m c = joinQ (Ctx.dq (dsC (aq m c) (ak m c) (av m c) (ag m c)) (ctx (k4 (ak m c))))
    (Lat.dq (dsL (aq m c) (ak m c) (av m c) (ag m c)) (k4 (ak m c))) := rfl

theorem res_dk : Value.res_out1 m c = joinK (Ctx.dk (dsC (aq m c) (ak m c) (av m c) (ag m c)) (ctx (q4 (aq m c))))
    (Lat.dk (dsL (aq m c) (ak m c) (av m c) (ag m c)) (lat (q4 (aq m c)))) := rfl

theorem res_dv : Value.res_out2 m c = joinK (Ctx.dv (ctx (g4 (ag m c))) (Ctx.p (Ctx.e (Ctx.s (ctx (q4 (aq m c))) (ctx (k4 (ak m c)))))))
    (Lat.dv (lat (g4 (ag m c))) (Lat.p (Lat.e (Lat.s (lat (q4 (aq m c))) (k4 (ak m c)))))) := rfl
end

theorem q4_at (q : FVec Ideal S8704x512 .f32) (b : Fin 2) (s : Fin 4352) (h : Fin 8) (d : Fin 64) :
    q4 q (ix4 b s h d) = q (ix2 (row b s) (col8 h d)) := by
  pointwise [q4]
  rw [row_eq, col8_eq]

theorem g4_at (g : FVec Ideal S8704x512 .bf16) (b : Fin 2) (s : Fin 4352) (h : Fin 8) (d : Fin 64) :
    g4 g (ix4 b s h d) = g (ix2 (row b s) (col8 h d)) := by
  pointwise [g4]
  rw [row_eq, col8_eq]

theorem k4_at (k : FVec Ideal S8704x128 .bf16) (b : Fin 2) (s : Fin 4352) (h : Fin 8) (d : Fin 64) :
    k4 k (ix4 b s h d) = k (ix2 (row b s) (kcol (gp h) d)) := by
  pointwise [k4]
  rw [row_eq]
  exact congrArg (fun c => k (ix2 (row b s) c)) (Fin.ext (by simp only [kcol, gp]; omega))

theorem lat_at (q : FVec Ideal S2x4352x8x64 .f32) (b : Fin 2) (r : Fin 4096) (h : Fin 8) (d : Fin 64) :
    lat q (ix4 b r h d) = q (ix4 b (latPos r) h d) := by
  pointwise [lat]
  rfl

theorem ctx_at (q : FVec Ideal S2x4352x8x64 .f32) (b : Fin 2) (r : Fin 256) (h : Fin 8) (d : Fin 64) :
    ctx q (ix4 b r h d) = q (ix4 b (ctxPos r) h d) := by
  pointwise [ctx]
  rfl

theorem joinQ_at (x : FVec Ideal S2x256x8x64 .f32) (y : FVec Ideal S2x4096x8x64 .f32) (b : Fin 2) (s : Fin 4352) (h : Fin 8) (d : Fin 64) :
    joinQ x y (ix2 (row b s) (col8 h d)) = if hs : s.val < 256 then x (ix4 b ⟨s.val, hs⟩ h d) else y (ix4 b ⟨s.val - 256, by omega⟩ h d) := by
  pointwise [joinQ]
  simp only [row_div, row_mod, col8_div, col8_mod, Fin.eta]
  by_cases hs : s.val < 256
  · rw [dif_pos ⟨b.isLt, hs, h.isLt, d.isLt⟩, dif_neg (fun t => absurd hs (by omega)), dif_pos hs, add_zero]
  · rw [dif_neg (fun t => hs t.2.1), dif_pos ⟨b.isLt, by omega, h.isLt, d.isLt⟩, dif_neg hs, zero_add]

theorem joinA_at (x : FVec Ideal S2x256x8x64 .f32) (y : FVec Ideal S2x4352x8x64 .f32) (b : Fin 2) (s : Fin 4352) (h : Fin 8) (d : Fin 64) :
    joinA x y (ix4 b s h d) = (if hs : s.val < 256 then x (ix4 b ⟨s.val, hs⟩ h d) else 0) + y (ix4 b s h d) := by
  pointwise [joinA]

theorem kcol_div (g : Fin 2) (d : Fin 64) : (kcol g d).val / 64 = g.val := by simp only [kcol]; omega
theorem kcol_mod (g : Fin 2) (d : Fin 64) : (kcol g d).val % 64 = d.val := by simp only [kcol]; omega

theorem joinK_at (x : FVec Ideal S2x256x8x64 .f32) (y : FVec Ideal S2x4352x8x64 .f32) (b : Fin 2) (s : Fin 4352) (g : Fin 2) (d : Fin 64) :
    joinK x y (ix2 (row b s) (kcol g d)) = ∑ j : Fin 4, joinA x y (ix4 b s (hh g j) d) := by
  unfold joinK
  generalize joinA x y = z
  pointwise []
  simp only [row_div, row_mod, kcol_div, kcol_mod, Fin.eta]
  exact Finset.sum_congr rfl fun j _ => congrArg (fun h => z (ix4 b s h d)) (Fin.ext (by simp only [hh]; omega))

variable (m : (ℓ : Loc nD τ sig) → Buf (Elt Ideal) ℓ) (c : Dev nD)
  {Q G : Fin 2 → Fin 8 → Fin 4352 → Fin 64 → ℝ} {K X : Fin 2 → Fin 2 → Fin 4352 → Fin 64 → ℝ}
  (hq : ∀ b h s d, aq m c (ix2 (row b s) (col8 h d)) = (Q b h s d : EReal))
  (hk : ∀ b g s d, ak m c (ix2 (row b s) (kcol g d)) = (K b g s d : EReal))
  (hv : ∀ b g s d, av m c (ix2 (row b s) (kcol g d)) = (X b g s d : EReal))
  (hg : ∀ b h s d, ag m c (ix2 (row b s) (col8 h d)) = (G b h s d : EReal))

include hq in
theorem qc (b : Fin 2) (r : Fin 256) (h : Fin 8) (d : Fin 64) : ctx (q4 (aq m c)) (ix4 b r h d) = (Q b h (ctxPos r) d : EReal) := by
  rw [ctx_at, q4_at, hq]
include hk in
theorem kc (b : Fin 2) (r : Fin 256) (h : Fin 8) (d : Fin 64) : ctx (k4 (ak m c)) (ix4 b r h d) = (K b (gp h) (ctxPos r) d : EReal) := by
  rw [ctx_at, k4_at, hk]
include hv in
theorem vc (b : Fin 2) (r : Fin 256) (h : Fin 8) (d : Fin 64) : ctx (k4 (av m c)) (ix4 b r h d) = (X b (gp h) (ctxPos r) d : EReal) := by
  rw [ctx_at, k4_at, hv]
include hg in
theorem gc (b : Fin 2) (r : Fin 256) (h : Fin 8) (d : Fin 64) : ctx (g4 (ag m c)) (ix4 b r h d) = (G b h (ctxPos r) d : EReal) := by
  rw [ctx_at, g4_at, hg]
include hq in
theorem ql (b : Fin 2) (r : Fin 4096) (h : Fin 8) (d : Fin 64) : lat (q4 (aq m c)) (ix4 b r h d) = (Q b h (latPos r) d : EReal) := by
  rw [lat_at, q4_at, hq]
include hk in
theorem kl (b : Fin 2) (r : Fin 4352) (h : Fin 8) (d : Fin 64) : k4 (ak m c) (ix4 b r h d) = (K b (gp h) r d : EReal) := by
  rw [k4_at, hk]
include hv in
theorem vl (b : Fin 2) (r : Fin 4352) (h : Fin 8) (d : Fin 64) : k4 (av m c) (ix4 b r h d) = (X b (gp h) r d : EReal) := by
  rw [k4_at, hv]
include hg in
theorem gl (b : Fin 2) (r : Fin 4096) (h : Fin 8) (d : Fin 64) : lat (g4 (ag m c)) (ix4 b r h d) = (G b h (latPos r) d : EReal) := by
  rw [lat_at, g4_at, hg]

include hq hk hv hg in
/-- The queries' gradient of a context row. -/
theorem dq_ctx (b : Fin 2) (h : Fin 8) (r : Fin 256) (d : Fin 64) : Value.res_out0 m c (ix2 (row b (ctxPos r)) (col8 h d))
    = ((∑ k, ds (sc (Q b h (ctxPos r)) (fun c => K b (gp h) (ctxPos c))) (dp (G b h (ctxPos r)) (fun c => X b (gp h) (ctxPos c))) k * (8 : ℝ)⁻¹
        * K b (gp h) (ctxPos k) d : ℝ) : EReal) := by
  rw [res_dq, joinQ_at, dif_pos (show (ctxPos r).val < 256 from r.isLt)]
  exact Ctx.dq_at (Q := fun b h r => Q b h (ctxPos r)) (K := fun b h c => K b (gp h) (ctxPos c)) (V := fun b h c => X b (gp h) (ctxPos c))
    (G := fun b h r => G b h (ctxPos r)) (qc m c hq) (kc m c hk) (gc m c hg) (vc m c hv) b h r d

include hq hk hv hg in
/-- The queries' gradient of a latent row. -/
theorem dq_lat (b : Fin 2) (h : Fin 8) (r : Fin 4096) (d : Fin 64) : Value.res_out0 m c (ix2 (row b (latPos r)) (col8 h d))
    = ((∑ k, ds (sc (Q b h (latPos r)) (K b (gp h))) (dp (G b h (latPos r)) (X b (gp h))) k * (8 : ℝ)⁻¹ * K b (gp h) k d : ℝ) : EReal) := by
  rw [res_dq, joinQ_at, dif_neg (show ¬ (latPos r).val < 256 by simp only [latPos]; omega)]
  rw [show (⟨(latPos r).val - 256, by omega⟩ : Fin 4096) = r from Fin.ext (by simp only [latPos]; omega)]
  exact Lat.dq_at (Q := fun b h r => Q b h (latPos r)) (K := fun b h => K b (gp h)) (V := fun b h => X b (gp h))
    (G := fun b h r => G b h (latPos r)) (ql m c hq) (kl m c hk) (gl m c hg) (vl m c hv) b h r d

include hq hk hv hg in
/-- One head's part of the keys' gradient. -/
theorem dk_head (b : Fin 2) (h : Fin 8) (k : Fin 4352) (d : Fin 64) :
    joinA (Ctx.dk (dsC (aq m c) (ak m c) (av m c) (ag m c)) (ctx (q4 (aq m c))))
      (Lat.dk (dsL (aq m c) (ak m c) (av m c) (ag m c)) (lat (q4 (aq m c)))) (ix4 b k h d)
    = (((if hk : k.val < 256 then ∑ r : Fin 256, ds (sc (Q b h (ctxPos r)) (fun c => K b (gp h) (ctxPos c)))
          (dp (G b h (ctxPos r)) (fun c => X b (gp h) (ctxPos c))) ⟨k.val, hk⟩ * (8 : ℝ)⁻¹ * Q b h (ctxPos r) d else 0)
      + ∑ r : Fin 4096, ds (sc (Q b h (latPos r)) (K b (gp h))) (dp (G b h (latPos r)) (X b (gp h))) k * (8 : ℝ)⁻¹ * Q b h (latPos r) d : ℝ) : EReal) := by
  rw [joinA_at, EReal.coe_add]
  refine congrArg₂ (· + ·) ?_ (Lat.dk_at (Q := fun b h r => Q b h (latPos r)) (K := fun b h => K b (gp h)) (V := fun b h => X b (gp h))
    (G := fun b h r => G b h (latPos r)) (ql m c hq) (kl m c hk) (gl m c hg) (vl m c hv) b h k d)
  by_cases hs : k.val < 256
  · rw [dif_pos hs, dif_pos hs]
    exact Ctx.dk_at (Q := fun b h r => Q b h (ctxPos r)) (K := fun b h c => K b (gp h) (ctxPos c)) (V := fun b h c => X b (gp h) (ctxPos c))
      (G := fun b h r => G b h (ctxPos r)) (qc m c hq) (kc m c hk) (gc m c hg) (vc m c hv) b h ⟨k.val, hs⟩ d
  · rw [dif_neg hs, dif_neg hs, EReal.coe_zero]

include hq hk hg in
/-- One head's part of the values' gradient. -/
theorem dv_head (b : Fin 2) (h : Fin 8) (k : Fin 4352) (d : Fin 64) :
    joinA (Ctx.dv (ctx (g4 (ag m c))) (Ctx.p (Ctx.e (Ctx.s (ctx (q4 (aq m c))) (ctx (k4 (ak m c)))))))
      (Lat.dv (lat (g4 (ag m c))) (Lat.p (Lat.e (Lat.s (lat (q4 (aq m c))) (k4 (ak m c)))))) (ix4 b k h d)
    = (((if hk : k.val < 256 then ∑ r : Fin 256, G b h (ctxPos r) d * pr (sc (Q b h (ctxPos r)) (fun c => K b (gp h) (ctxPos c))) ⟨k.val, hk⟩ else 0)
      + ∑ r : Fin 4096, G b h (latPos r) d * pr (sc (Q b h (latPos r)) (K b (gp h))) k : ℝ) : EReal) := by
  rw [joinA_at, EReal.coe_add]
  refine congrArg₂ (· + ·) ?_ (Lat.dv_at (Q := fun b h r => Q b h (latPos r)) (K := fun b h => K b (gp h))
    (G := fun b h r => G b h (latPos r)) (ql m c hq) (kl m c hk) (gl m c hg) b h k d)
  by_cases hs : k.val < 256
  · rw [dif_pos hs, dif_pos hs]
    exact Ctx.dv_at (Q := fun b h r => Q b h (ctxPos r)) (K := fun b h c => K b (gp h) (ctxPos c))
      (G := fun b h r => G b h (ctxPos r)) (qc m c hq) (kc m c hk) (gc m c hg) b h ⟨k.val, hs⟩ d
  · rw [dif_neg hs, dif_neg hs, EReal.coe_zero]

/-- A sum over the heads of a part that only some positions have, and of a part that all have. -/
theorem sum_parts (p : Prop) [Decidable p] (f : p → Fin 4 → ℝ) (g : Fin 4 → ℝ) :
    ∑ j, ((if h : p then f h j else 0) + g j) = (if h : p then ∑ j, f h j else 0) + ∑ j, g j := by
  rw [Finset.sum_add_distrib]
  by_cases h : p
  · simp only [dif_pos h]
  · simp only [dif_neg h, Finset.sum_const_zero]

include hq hk hv hg in
/-- The keys' gradient. -/
theorem dk_all (b : Fin 2) (g : Fin 2) (k : Fin 4352) (d : Fin 64) : Value.res_out1 m c (ix2 (row b k) (kcol g d))
    = (((if hk : k.val < 256 then ∑ j : Fin 4, ∑ r : Fin 256, ds (sc (Q b (hh g j) (ctxPos r)) (fun c => K b g (ctxPos c)))
          (dp (G b (hh g j) (ctxPos r)) (fun c => X b g (ctxPos c))) ⟨k.val, hk⟩ * (8 : ℝ)⁻¹ * Q b (hh g j) (ctxPos r) d else 0)
      + ∑ j : Fin 4, ∑ r : Fin 4096, ds (sc (Q b (hh g j) (latPos r)) (K b g)) (dp (G b (hh g j) (latPos r)) (X b g)) k * (8 : ℝ)⁻¹
          * Q b (hh g j) (latPos r) d : ℝ) : EReal) := by
  rw [res_dk, joinK_at]
  simp only [dk_head m c hq hk hv hg, gp_hh]
  rw [sum_coe]
  exact congrArg Real.toEReal (sum_parts _ _ _)

include hq hk hg in
/-- The values' gradient. -/
theorem dv_all (b : Fin 2) (g : Fin 2) (k : Fin 4352) (d : Fin 64) : Value.res_out2 m c (ix2 (row b k) (kcol g d))
    = (((if hk : k.val < 256 then ∑ j : Fin 4, ∑ r : Fin 256, G b (hh g j) (ctxPos r) d
          * pr (sc (Q b (hh g j) (ctxPos r)) (fun c => K b g (ctxPos c))) ⟨k.val, hk⟩ else 0)
      + ∑ j : Fin 4, ∑ r : Fin 4096, G b (hh g j) (latPos r) d * pr (sc (Q b (hh g j) (latPos r)) (K b g)) k : ℝ) : EReal) := by
  rw [res_dv, joinK_at]
  simp only [dv_head m c hq hk hg, gp_hh]
  rw [sum_coe]
  exact congrArg Real.toEReal (sum_parts _ _ _)

end Cert.GroupedReferenceIdeal.Read

end
-- ==== Proof.RefLat.lean ====
/- The reference's chain of host operations for the queries of the latent rows, as functions of the arrays it reads, and
   each stage read at an index: over finite arrays every stage is a real number, the one that Row.lean names. -/
module

public import proofs.«01_k».proof.Proof.Gen.ReferenceIdeal
public import proofs.«01_k».proof.Proof.Row
public import Idealize.ShloMosaic.Lib.Pointwise
public import Idealize.ShloMosaic.Lib.IdealHost

@[expose] public section

set_option maxRecDepth 16384

noncomputable section

namespace Cert.ReferenceIdeal.Lat

open Cert.ReferenceIdeal Cert.ReferenceIdeal.Gen Cert.AttnGrad Idealize.ShloMosaic

/-- The scores. -/
def s (q : FVec Ideal S2x4096x4x128 .f32) (k : FVec Ideal S2x4352x4x128 .f32) : FVec Ideal S2x4x4096x4352 .f32 :=
  Host.divf (Host.dotGeneral dot_S2x4096x4x128_S2x4352x4x128_S2x4x4096x4352_3_3_1_1_02_02 none q k)
    (broadcastInDim S2x4x4096x4352 ![] bcast_S_S2x4x4096x4352 (Host.sqrt (constant S_ .f32 0x42C00000#32)))

/-- The rows' greatest scores. -/
def mx (s : FVec Ideal S2x4x4096x4352 .f32) : FVec Ideal S2x4x4096 .f32 :=
  maximumf (broadcastInDim S2x4x4096 ![] bcast_S_S2x4x4096 (constant S_ .f32 0xFF800000#32))
    (Host.reduce FloatOps.maximumf s (constant S_ .f32 0xFF800000#32) reducesTo_S2x4x4096x4352_S2x4x4096_d3 h_S_)

/-- The exponentials of the scores less their row's greatest. -/
def e (s : FVec Ideal S2x4x4096x4352 .f32) : FVec Ideal S2x4x4096x4352 .f32 :=
  Host.exp (subf s (broadcastInDim S2x4x4096x4352 ![0, 1, 2, 3] bcast_S2x4x4096x1_S2x4x4096x4352_0_1_2_3
    (broadcastInDim S2x4x4096x1 ![0, 1, 2] bcast_S2x4x4096_S2x4x4096x1_0_1_2 (mx s))))

/-- Their sums over a row. -/
def l (e : FVec Ideal S2x4x4096x4352 .f32) : FVec Ideal S2x4x4096x1 .f32 :=
  broadcastInDim S2x4x4096x1 ![0, 1, 2] bcast_S2x4x4096_S2x4x4096x1_0_1_2
    (Host.reduceAdd e (constant S_ .f32 0x00000000#32) reducesTo_S2x4x4096x4352_S2x4x4096_d3 h_S_)

/-- The weights. -/
def p (e : FVec Ideal S2x4x4096x4352 .f32) : FVec Ideal S2x4x4096x4352 .f32 :=
  Host.divf e (broadcastInDim S2x4x4096x4352 ![0, 1, 2, 3] bcast_S2x4x4096x1_S2x4x4096x4352_0_1_2_3 (l e))

/-- The cotangent with the query axis last. -/
def gt (g : FVec Ideal S2x4096x4x64 .f32) : FVec Ideal S2x4x64x4096 .f32 :=
  transpose S2x4x64x4096 [0, 2, 3, 1] g transposes_S2x4096x4x64_S2x4x64x4096_0_2_3_1

/-- The gradient with respect to the weights. -/
def dpr (g : FVec Ideal S2x4096x4x64 .f32) (v : FVec Ideal S2x4352x4x64 .f32) : FVec Ideal S2x4x4096x4352 .f32 :=
  Host.dotGeneral dot_S2x4x64x4096_S2x4352x4x64_S2x4x4096x4352_2_3_3_1_01_02 none (gt g) v

/-- The sum over a row that the derivative of the quotient subtracts. -/
def dl (e dp : FVec Ideal S2x4x4096x4352 .f32) : FVec Ideal S2x4x4096 .f32 :=
  Host.reduceAdd (mulf (mulf dp (broadcastInDim S2x4x4096x4352 ![0, 1, 2, 3] bcast_S2x4x4096x1_S2x4x4096x4352_0_1_2_3
    (Host.divf (broadcastInDim S2x4x4096x1 ![] bcast_S_S2x4x4096x1 (constant S_ .f32 0x3F800000#32)) (mulf (l e) (l e))))) e)
    (constant S_ .f32 0x00000000#32) reducesTo_S2x4x4096x4352_S2x4x4096_d3 h_S_

/-- The gradient with respect to the products of queries and keys. -/
def dsc (e dp : FVec Ideal S2x4x4096x4352 .f32) : FVec Ideal S2x4x4096x4352 .f32 :=
  Host.divf (mulf (addf
      (Host.divf dp (broadcastInDim S2x4x4096x4352 ![0, 1, 2, 3] bcast_S2x4x4096x1_S2x4x4096x4352_0_1_2_3 (l e)))
      (broadcastInDim S2x4x4096x4352 ![0, 1, 2] bcast_S2x4x4096_S2x4x4096x4352_0_1_2
        (Host.reduceAdd (Host.negf (shapeCast _ (dl e dp) shapeCasts_S2x4x4096_S2x4x4096x1))
          (constant S_ .f32 0x00000000#32) reducesTo_S2x4x4096x1_S2x4x4096_d3 h_S_))) e)
    (broadcastInDim S2x4x4096x4352 ![] bcast_S_S2x4x4096x4352 (Host.sqrt (constant S_ .f32 0x42C00000#32)))

/-- The gradients of the queries, of the keys and of the values. -/
def dq (ds : FVec Ideal S2x4x4096x4352 .f32) (k : FVec Ideal S2x4352x4x128 .f32) : FVec Ideal S2x4096x4x128 .f32 :=
  transpose S2x4096x4x128 [0, 2, 1, 3] (Host.dotGeneral dot_S2x4x4096x4352_S2x4352x4x128_S2x4x4096x128_3_1_2_3_01_02 none ds k)
    transposes_S2x4x4096x128_S2x4096x4x128_0_2_1_3
def dk (ds : FVec Ideal S2x4x4096x4352 .f32) (q : FVec Ideal S2x4096x4x128 .f32) : FVec Ideal S2x4352x4x128 .f32 :=
  transpose S2x4352x4x128 [0, 2, 1, 3] (Host.dotGeneral dot_S2x4x4096x4352_S2x4096x4x128_S2x4x4352x128_2_1_3_3_01_02 none ds q)
    transposes_S2x4x4352x128_S2x4352x4x128_0_2_1_3
def dv (g : FVec Ideal S2x4096x4x64 .f32) (p : FVec Ideal S2x4x4096x4352 .f32) : FVec Ideal S2x4352x4x64 .f32 :=
  transpose S2x4352x4x64 [0, 3, 1, 2] (Host.dotGeneral dot_S2x4x64x4096_S2x4x4096x4352_S2x4x64x4352_3_2_2_3_01_01 none (gt g) p)
    transposes_S2x4x64x4352_S2x4352x4x64_0_3_1_2

variable {q : FVec Ideal S2x4096x4x128 .f32} {k : FVec Ideal S2x4352x4x128 .f32} {v : FVec Ideal S2x4352x4x64 .f32} {g : FVec Ideal S2x4096x4x64 .f32}
variable {Q : Fin 2 → Fin 4 → Fin 4096 → Fin 128 → ℝ} {K : Fin 2 → Fin 4 → Fin 4352 → Fin 128 → ℝ}
  {V : Fin 2 → Fin 4 → Fin 4352 → Fin 64 → ℝ} {G : Fin 2 → Fin 4 → Fin 4096 → Fin 64 → ℝ}

theorem s_at (hq : ∀ b r h d, q (ix4 b r h d) = (Q b h r d : EReal)) (hk : ∀ b c h d, k (ix4 b c h d) = (K b h c d : EReal))
    (b : Fin 2) (h : Fin 4) (r : Fin 4096) (c : Fin 4352) : s q k (ix4 b h r c) = (sc (Q b h r) (K b h) c : EReal) := by
  pointwise [s]
  simp only [hq, hk]
  rw [root96, score_host]

theorem mx_apply (s : FVec Ideal S2x4x4096x4352 .f32) (b : Fin 2) (h : Fin 4) (r : Fin 4096) : mx s (ix3 b h r)
    = max (Ideal.ofBits .f32 0xFF800000#32)
        (Finset.univ.fold max (Ideal.ofBits .f32 0xFF800000#32) fun c : Fin 4352 => s (ix4 b h r c)) := by
  unfold mx
  exact (maximumf_at _ _ _).trans (congrArg₂ max rfl
    (reduceMax_last s (constant S_ .f32 0xFF800000#32) reducesTo_S2x4x4096x4352_S2x4x4096_d3 h_S_ b h r _ rfl))

theorem mx_at (hq : ∀ b r h d, q (ix4 b r h d) = (Q b h r d : EReal)) (hk : ∀ b c h d, k (ix4 b c h d) = (K b h c d : EReal))
    (b : Fin 2) (h : Fin 4) (r : Fin 4096) : ∃ M : ℝ, mx (s q k) (ix3 b h r) = (M : EReal) := by
  obtain ⟨M, hM⟩ := fold_max_coe (sc (Q b h r) (K b h))
  refine ⟨M, ?_⟩
  simp only [mx_apply, s_at hq hk]
  rw [bot32, hM]; simp

theorem e_apply (s : FVec Ideal S2x4x4096x4352 .f32) (b : Fin 2) (h : Fin 4) (r : Fin 4096) (c : Fin 4352) :
    e s (ix4 b h r c) = Ideal.exp (s (ix4 b h r c) - mx s (ix3 b h r)) := by
  pointwise [e]

theorem l_apply (e : FVec Ideal S2x4x4096x4352 .f32) (b : Fin 2) (h : Fin 4) (r : Fin 4096) :
    l e (ix4 b h r 0) = ∑ c : Fin 4352, e (ix4 b h r c) := by
  pointwise [l]

/-- Relative to some real `M`, the row's exponentials and their sum. -/
theorem e_at (hq : ∀ b r h d, q (ix4 b r h d) = (Q b h r d : EReal)) (hk : ∀ b c h d, k (ix4 b c h d) = (K b h c d : EReal))
    (b : Fin 2) (h : Fin 4) (r : Fin 4096) : ∃ M : ℝ,
      (∀ c, e (s q k) (ix4 b h r c) = Ideal.exp ((sc (Q b h r) (K b h) c : EReal) - (M : EReal)))
      ∧ l (e (s q k)) (ix4 b h r 0) = (zm (Q b h r) (K b h) M : EReal) := by
  obtain ⟨M, hm⟩ := mx_at hq hk b h r
  have he : ∀ c, e (s q k) (ix4 b h r c) = Ideal.exp ((sc (Q b h r) (K b h) c : EReal) - (M : EReal)) := by
    intro c
    rw [e_apply, hm, s_at hq hk]
  refine ⟨M, he, ?_⟩
  rw [l_apply]
  simp only [he]
  rw [sum_exp_host]

theorem p_at (hq : ∀ b r h d, q (ix4 b r h d) = (Q b h r d : EReal)) (hk : ∀ b c h d, k (ix4 b c h d) = (K b h c d : EReal))
    (b : Fin 2) (h : Fin 4) (r : Fin 4096) (c : Fin 4352) : p (e (s q k)) (ix4 b h r c) = (pr (Q b h r) (K b h) c : EReal) := by
  obtain ⟨M, he, hl⟩ := e_at hq hk b h r
  pointwise [p]
  rw [he, hl, pr_host]

theorem dpr_at (hg : ∀ b r h d, g (ix4 b r h d) = (G b h r d : EReal)) (hv : ∀ b c h d, v (ix4 b c h d) = (V b h c d : EReal))
    (b : Fin 2) (h : Fin 4) (r : Fin 4096) (c : Fin 4352) : dpr g v (ix4 b h r c) = (dp (G b h r) (V b h) c : EReal) := by
  pointwise [dpr, gt]
  simp only [hg, hv]
  rw [dp_coe]

theorem dsc_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 4) (r : Fin 4096) (c : Fin 4352) :
    dsc (e (s q k)) (dpr g v) (ix4 b h r c) = ((ds (Q b h r) (K b h) (V b h) (G b h r) c * (Real.sqrt 96)⁻¹ : ℝ) : EReal) := by
  obtain ⟨M, he, hl⟩ := e_at hq hk b h r
  have hd : dl (e (s q k)) (dpr g v) (ix3 b h r) = ∑ c', (dp (G b h r) (V b h) c' : EReal)
      * Ideal.div 1 ((zm (Q b h r) (K b h) M : EReal) * (zm (Q b h r) (K b h) M : EReal))
      * Ideal.exp ((sc (Q b h r) (K b h) c' : EReal) - (M : EReal)) := by
    pointwise [dl]
    simp only [he, hl, dpr_at hg hv]
  pointwise [dsc]
  rw [he, hl, dpr_at hg hv, Fin.sum_univ_one, hd, root96]
  rw [ds_host, div_root]

theorem dq_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 4) (r : Fin 4096) (d : Fin 128) :
    dq (dsc (e (s q k)) (dpr g v)) k (ix4 b r h d)
      = ((∑ c, ds (Q b h r) (K b h) (V b h) (G b h r) c * (Real.sqrt 96)⁻¹ * K b h c d : ℝ) : EReal) := by
  pointwise [dq]
  simp only [dsc_at hq hk hg hv, hk, ← EReal.coe_mul]
  rw [sum_coe]

theorem dk_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 4) (c : Fin 4352) (d : Fin 128) :
    dk (dsc (e (s q k)) (dpr g v)) q (ix4 b c h d)
      = ((∑ r, ds (Q b h r) (K b h) (V b h) (G b h r) c * (Real.sqrt 96)⁻¹ * Q b h r d : ℝ) : EReal) := by
  pointwise [dk]
  simp only [dsc_at hq hk hg hv, hq, ← EReal.coe_mul]
  rw [sum_coe]

theorem dv_at (hq : ∀ b r h d, q (ix4 b r h d) = (Q b h r d : EReal)) (hk : ∀ b c h d, k (ix4 b c h d) = (K b h c d : EReal))
    (hg : ∀ b r h d, g (ix4 b r h d) = (G b h r d : EReal))
    (b : Fin 2) (h : Fin 4) (c : Fin 4352) (d : Fin 64) :
    dv g (p (e (s q k))) (ix4 b c h d) = ((∑ r, G b h r d * pr (Q b h r) (K b h) c : ℝ) : EReal) := by
  pointwise [dv, gt]
  simp only [p_at hq hk, hg, ← EReal.coe_mul]
  rw [sum_coe]

end Cert.ReferenceIdeal.Lat

end
-- ==== Proof.RefCtx.lean ====
/- The reference's chain of host operations for the queries of the context rows, as functions of the arrays it reads, and
   each stage read at an index: over finite arrays every stage is a real number, the one that Row.lean names. -/
module

public import proofs.«01_k».proof.Proof.Gen.ReferenceIdeal
public import proofs.«01_k».proof.Proof.Row
public import Idealize.ShloMosaic.Lib.Pointwise
public import Idealize.ShloMosaic.Lib.IdealHost

@[expose] public section

set_option maxRecDepth 16384

noncomputable section

namespace Cert.ReferenceIdeal.Ctx

open Cert.ReferenceIdeal Cert.ReferenceIdeal.Gen Cert.AttnGrad Idealize.ShloMosaic

/-- The scores. -/
def s (q : FVec Ideal S2x256x4x128 .f32) (k : FVec Ideal S2x256x4x128 .f32) : FVec Ideal S2x4x256x256 .f32 :=
  Host.divf (Host.dotGeneral dot_S2x256x4x128_S2x256x4x128_S2x4x256x256_3_3_1_1_02_02 none q k)
    (broadcastInDim S2x4x256x256 ![] bcast_S_S2x4x256x256 (Host.sqrt (constant S_ .f32 0x42C00000#32)))

/-- The rows' greatest scores. -/
def mx (s : FVec Ideal S2x4x256x256 .f32) : FVec Ideal S2x4x256 .f32 :=
  maximumf (broadcastInDim S2x4x256 ![] bcast_S_S2x4x256 (constant S_ .f32 0xFF800000#32))
    (Host.reduce FloatOps.maximumf s (constant S_ .f32 0xFF800000#32) reducesTo_S2x4x256x256_S2x4x256_d3 h_S_)

/-- The exponentials of the scores less their row's greatest. -/
def e (s : FVec Ideal S2x4x256x256 .f32) : FVec Ideal S2x4x256x256 .f32 :=
  Host.exp (subf s (broadcastInDim S2x4x256x256 ![0, 1, 2, 3] bcast_S2x4x256x1_S2x4x256x256_0_1_2_3
    (broadcastInDim S2x4x256x1 ![0, 1, 2] bcast_S2x4x256_S2x4x256x1_0_1_2 (mx s))))

/-- Their sums over a row. -/
def l (e : FVec Ideal S2x4x256x256 .f32) : FVec Ideal S2x4x256x1 .f32 :=
  broadcastInDim S2x4x256x1 ![0, 1, 2] bcast_S2x4x256_S2x4x256x1_0_1_2
    (Host.reduceAdd e (constant S_ .f32 0x00000000#32) reducesTo_S2x4x256x256_S2x4x256_d3 h_S_)

/-- The weights. -/
def p (e : FVec Ideal S2x4x256x256 .f32) : FVec Ideal S2x4x256x256 .f32 :=
  Host.divf e (broadcastInDim S2x4x256x256 ![0, 1, 2, 3] bcast_S2x4x256x1_S2x4x256x256_0_1_2_3 (l e))

/-- The cotangent with the query axis last. -/
def gt (g : FVec Ideal S2x256x4x64 .f32) : FVec Ideal S2x4x64x256 .f32 :=
  transpose S2x4x64x256 [0, 2, 3, 1] g transposes_S2x256x4x64_S2x4x64x256_0_2_3_1

/-- The gradient with respect to the weights. -/
def dpr (g : FVec Ideal S2x256x4x64 .f32) (v : FVec Ideal S2x256x4x64 .f32) : FVec Ideal S2x4x256x256 .f32 :=
  Host.dotGeneral dot_S2x4x64x256_S2x256x4x64_S2x4x256x256_2_3_3_1_01_02 none (gt g) v

/-- The sum over a row that the derivative of the quotient subtracts. -/
def dl (e dp : FVec Ideal S2x4x256x256 .f32) : FVec Ideal S2x4x256 .f32 :=
  Host.reduceAdd (mulf (mulf dp (broadcastInDim S2x4x256x256 ![0, 1, 2, 3] bcast_S2x4x256x1_S2x4x256x256_0_1_2_3
    (Host.divf (broadcastInDim S2x4x256x1 ![] bcast_S_S2x4x256x1 (constant S_ .f32 0x3F800000#32)) (mulf (l e) (l e))))) e)
    (constant S_ .f32 0x00000000#32) reducesTo_S2x4x256x256_S2x4x256_d3 h_S_

/-- The gradient with respect to the products of queries and keys. -/
def dsc (e dp : FVec Ideal S2x4x256x256 .f32) : FVec Ideal S2x4x256x256 .f32 :=
  Host.divf (mulf (addf
      (Host.divf dp (broadcastInDim S2x4x256x256 ![0, 1, 2, 3] bcast_S2x4x256x1_S2x4x256x256_0_1_2_3 (l e)))
      (broadcastInDim S2x4x256x256 ![0, 1, 2] bcast_S2x4x256_S2x4x256x256_0_1_2
        (Host.reduceAdd (Host.negf (shapeCast _ (dl e dp) shapeCasts_S2x4x256_S2x4x256x1))
          (constant S_ .f32 0x00000000#32) reducesTo_S2x4x256x1_S2x4x256_d3 h_S_))) e)
    (broadcastInDim S2x4x256x256 ![] bcast_S_S2x4x256x256 (Host.sqrt (constant S_ .f32 0x42C00000#32)))

/-- The gradients of the queries, of the keys and of the values. -/
def dq (ds : FVec Ideal S2x4x256x256 .f32) (k : FVec Ideal S2x256x4x128 .f32) : FVec Ideal S2x256x4x128 .f32 :=
  transpose S2x256x4x128 [0, 2, 1, 3] (Host.dotGeneral dot_S2x4x256x256_S2x256x4x128_S2x4x256x128_3_1_2_3_01_02 none ds k)
    transposes_S2x4x256x128_S2x256x4x128_0_2_1_3
def dk (ds : FVec Ideal S2x4x256x256 .f32) (q : FVec Ideal S2x256x4x128 .f32) : FVec Ideal S2x256x4x128 .f32 :=
  transpose S2x256x4x128 [0, 2, 1, 3] (Host.dotGeneral dot_S2x4x256x256_S2x256x4x128_S2x4x256x128_2_1_3_3_01_02 none ds q)
    transposes_S2x4x256x128_S2x256x4x128_0_2_1_3
def dv (g : FVec Ideal S2x256x4x64 .f32) (p : FVec Ideal S2x4x256x256 .f32) : FVec Ideal S2x256x4x64 .f32 :=
  transpose S2x256x4x64 [0, 3, 1, 2] (Host.dotGeneral dot_S2x4x64x256_S2x4x256x256_S2x4x64x256_3_2_2_3_01_01 none (gt g) p)
    transposes_S2x4x64x256_S2x256x4x64_0_3_1_2

variable {q : FVec Ideal S2x256x4x128 .f32} {k : FVec Ideal S2x256x4x128 .f32} {v : FVec Ideal S2x256x4x64 .f32} {g : FVec Ideal S2x256x4x64 .f32}
variable {Q : Fin 2 → Fin 4 → Fin 256 → Fin 128 → ℝ} {K : Fin 2 → Fin 4 → Fin 256 → Fin 128 → ℝ}
  {V : Fin 2 → Fin 4 → Fin 256 → Fin 64 → ℝ} {G : Fin 2 → Fin 4 → Fin 256 → Fin 64 → ℝ}

theorem s_at (hq : ∀ b r h d, q (ix4 b r h d) = (Q b h r d : EReal)) (hk : ∀ b c h d, k (ix4 b c h d) = (K b h c d : EReal))
    (b : Fin 2) (h : Fin 4) (r : Fin 256) (c : Fin 256) : s q k (ix4 b h r c) = (sc (Q b h r) (K b h) c : EReal) := by
  pointwise [s]
  simp only [hq, hk]
  rw [root96, score_host]

theorem mx_apply (s : FVec Ideal S2x4x256x256 .f32) (b : Fin 2) (h : Fin 4) (r : Fin 256) : mx s (ix3 b h r)
    = max (Ideal.ofBits .f32 0xFF800000#32)
        (Finset.univ.fold max (Ideal.ofBits .f32 0xFF800000#32) fun c : Fin 256 => s (ix4 b h r c)) := by
  unfold mx
  exact (maximumf_at _ _ _).trans (congrArg₂ max rfl
    (reduceMax_last s (constant S_ .f32 0xFF800000#32) reducesTo_S2x4x256x256_S2x4x256_d3 h_S_ b h r _ rfl))

theorem mx_at (hq : ∀ b r h d, q (ix4 b r h d) = (Q b h r d : EReal)) (hk : ∀ b c h d, k (ix4 b c h d) = (K b h c d : EReal))
    (b : Fin 2) (h : Fin 4) (r : Fin 256) : ∃ M : ℝ, mx (s q k) (ix3 b h r) = (M : EReal) := by
  obtain ⟨M, hM⟩ := fold_max_coe (sc (Q b h r) (K b h))
  refine ⟨M, ?_⟩
  simp only [mx_apply, s_at hq hk]
  rw [bot32, hM]; simp

theorem e_apply (s : FVec Ideal S2x4x256x256 .f32) (b : Fin 2) (h : Fin 4) (r : Fin 256) (c : Fin 256) :
    e s (ix4 b h r c) = Ideal.exp (s (ix4 b h r c) - mx s (ix3 b h r)) := by
  pointwise [e]

theorem l_apply (e : FVec Ideal S2x4x256x256 .f32) (b : Fin 2) (h : Fin 4) (r : Fin 256) :
    l e (ix4 b h r 0) = ∑ c : Fin 256, e (ix4 b h r c) := by
  pointwise [l]

/-- Relative to some real `M`, the row's exponentials and their sum. -/
theorem e_at (hq : ∀ b r h d, q (ix4 b r h d) = (Q b h r d : EReal)) (hk : ∀ b c h d, k (ix4 b c h d) = (K b h c d : EReal))
    (b : Fin 2) (h : Fin 4) (r : Fin 256) : ∃ M : ℝ,
      (∀ c, e (s q k) (ix4 b h r c) = Ideal.exp ((sc (Q b h r) (K b h) c : EReal) - (M : EReal)))
      ∧ l (e (s q k)) (ix4 b h r 0) = (zm (Q b h r) (K b h) M : EReal) := by
  obtain ⟨M, hm⟩ := mx_at hq hk b h r
  have he : ∀ c, e (s q k) (ix4 b h r c) = Ideal.exp ((sc (Q b h r) (K b h) c : EReal) - (M : EReal)) := by
    intro c
    rw [e_apply, hm, s_at hq hk]
  refine ⟨M, he, ?_⟩
  rw [l_apply]
  simp only [he]
  rw [sum_exp_host]

theorem p_at (hq : ∀ b r h d, q (ix4 b r h d) = (Q b h r d : EReal)) (hk : ∀ b c h d, k (ix4 b c h d) = (K b h c d : EReal))
    (b : Fin 2) (h : Fin 4) (r : Fin 256) (c : Fin 256) : p (e (s q k)) (ix4 b h r c) = (pr (Q b h r) (K b h) c : EReal) := by
  obtain ⟨M, he, hl⟩ := e_at hq hk b h r
  pointwise [p]
  rw [he, hl, pr_host]

theorem dpr_at (hg : ∀ b r h d, g (ix4 b r h d) = (G b h r d : EReal)) (hv : ∀ b c h d, v (ix4 b c h d) = (V b h c d : EReal))
    (b : Fin 2) (h : Fin 4) (r : Fin 256) (c : Fin 256) : dpr g v (ix4 b h r c) = (dp (G b h r) (V b h) c : EReal) := by
  pointwise [dpr, gt]
  simp only [hg, hv]
  rw [dp_coe]

theorem dsc_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 4) (r : Fin 256) (c : Fin 256) :
    dsc (e (s q k)) (dpr g v) (ix4 b h r c) = ((ds (Q b h r) (K b h) (V b h) (G b h r) c * (Real.sqrt 96)⁻¹ : ℝ) : EReal) := by
  obtain ⟨M, he, hl⟩ := e_at hq hk b h r
  have hd : dl (e (s q k)) (dpr g v) (ix3 b h r) = ∑ c', (dp (G b h r) (V b h) c' : EReal)
      * Ideal.div 1 ((zm (Q b h r) (K b h) M : EReal) * (zm (Q b h r) (K b h) M : EReal))
      * Ideal.exp ((sc (Q b h r) (K b h) c' : EReal) - (M : EReal)) := by
    pointwise [dl]
    simp only [he, hl, dpr_at hg hv]
  pointwise [dsc]
  rw [he, hl, dpr_at hg hv, Fin.sum_univ_one, hd, root96]
  rw [ds_host, div_root]

theorem dq_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 4) (r : Fin 256) (d : Fin 128) :
    dq (dsc (e (s q k)) (dpr g v)) k (ix4 b r h d)
      = ((∑ c, ds (Q b h r) (K b h) (V b h) (G b h r) c * (Real.sqrt 96)⁻¹ * K b h c d : ℝ) : EReal) := by
  pointwise [dq]
  simp only [dsc_at hq hk hg hv, hk, ← EReal.coe_mul]
  rw [sum_coe]

theorem dk_at (hq : ∀ b r h d, q (ix4 b r h d) = (Q b h r d : EReal)) (hk : ∀ b c h d, k (ix4 b c h d) = (K b h c d : EReal))
    (hg : ∀ b r h d, g (ix4 b r h d) = (G b h r d : EReal)) (hv : ∀ b c h d, v (ix4 b c h d) = (V b h c d : EReal))
    (b : Fin 2) (h : Fin 4) (c : Fin 256) (d : Fin 128) :
    dk (dsc (e (s q k)) (dpr g v)) q (ix4 b c h d)
      = ((∑ r, ds (Q b h r) (K b h) (V b h) (G b h r) c * (Real.sqrt 96)⁻¹ * Q b h r d : ℝ) : EReal) := by
  pointwise [dk]
  simp only [dsc_at hq hk hg hv, hq, ← EReal.coe_mul]
  rw [sum_coe]

theorem dv_at (hq : ∀ b r h d, q (ix4 b r h d) = (Q b h r d : EReal)) (hk : ∀ b c h d, k (ix4 b c h d) = (K b h c d : EReal))
    (hg : ∀ b r h d, g (ix4 b r h d) = (G b h r d : EReal))
    (b : Fin 2) (h : Fin 4) (c : Fin 256) (d : Fin 64) :
    dv g (p (e (s q k))) (ix4 b c h d) = ((∑ r, G b h r d * pr (Q b h r) (K b h) c : ℝ) : EReal) := by
  pointwise [dv, gt]
  simp only [p_at hq hk, hg, ← EReal.coe_mul]
  rw [sum_coe]

end Cert.ReferenceIdeal.Ctx

end
-- ==== Proof.RefRead.lean ====
/- The reference's three results as compositions of its stages, each read at a row and a column. -/
module

public import proofs.«01_k».proof.Proof.Gen.ReferenceIdeal.Run
public import proofs.«01_k».proof.Proof.RefLat
public import proofs.«01_k».proof.Proof.RefCtx
public import proofs.«01_k».proof.Proof.Saved

@[expose] public section

set_option maxRecDepth 16384

noncomputable section

namespace Cert.ReferenceIdeal.Read

open Cert.ReferenceIdeal Cert.ReferenceIdeal.Gen Cert.AttnGrad Idealize.ShloMosaic Idealize.ShloMosaic.TcCoe
open Cert.KernelIdeal (col128 col64 ctxPos)
open Cert.KernelIdeal.Saved (row latPos row_eq col128_eq col64_eq row_div row_mod col64_div col64_mod)

/-- The arguments by batch, position, head and dimension. -/
def q4 (q : FVec Ideal S8704x512 .f32) : FVec Ideal S2x4352x4x128 .f32 := shapeCast _ q shapeCasts_S8704x512_S2x4352x4x128
def k4 (k : FVec Ideal S8704x512 .bf16) : FVec Ideal S2x4352x4x128 .f32 :=
  shapeCast _ (extf .f32 k bitsLt_bf16_f32) shapeCasts_S8704x512_S2x4352x4x128
def v4 (v : FVec Ideal S8704x256 .bf16) : FVec Ideal S2x4352x4x64 .f32 :=
  shapeCast _ (extf .f32 v bitsLt_bf16_f32) shapeCasts_S8704x256_S2x4352x4x64

/-- Their latent and context rows. -/
def lat (q : FVec Ideal S2x4352x4x128 .f32) : FVec Ideal S2x4096x4x128 .f32 :=
  extractStridedSlice S2x4096x4x128 ![0, 256, 0, 0] q slices_S2x4352x4x128_S2x4096x4x128_0_256_0_0
def ctx (q : FVec Ideal S2x4352x4x128 .f32) : FVec Ideal S2x256x4x128 .f32 :=
  extractStridedSlice S2x256x4x128 ![0, 0, 0, 0] q slices_S2x4352x4x128_S2x256x4x128_0_0_0_0
def ltv (v : FVec Ideal S2x4352x4x64 .f32) : FVec Ideal S2x4096x4x64 .f32 :=
  extractStridedSlice S2x4096x4x64 ![0, 256, 0, 0] v slices_S2x4352x4x64_S2x4096x4x64_0_256_0_0
def ctv (v : FVec Ideal S2x4352x4x64 .f32) : FVec Ideal S2x256x4x64 .f32 :=
  extractStridedSlice S2x256x4x64 ![0, 0, 0, 0] v slices_S2x4352x4x64_S2x256x4x64_0_0_0_0

/-- The two groups' gradients, put together. -/
def joinQ (a : FVec Ideal S2x256x4x128 .f32) (b : FVec Ideal S2x4096x4x128 .f32) : FVec Ideal S8704x512 .f32 :=
  shapeCast _ (addf
    (pad S2x4352x4x128 ![0, 0, 0, 0] ![0, 4096, 0, 0] ![0, 0, 0, 0] a (constant S_ .f32 0x00000000#32) pads_S2x256x4x128_S2x4352x4x128_000_040960_000_000 h_S_)
    (pad S2x4352x4x128 ![0, 256, 0, 0] ![0, 0, 0, 0] ![0, 0, 0, 0] b (constant S_ .f32 0x00000000#32) pads_S2x4096x4x128_S2x4352x4x128_000_25600_000_000 h_S_))
    shapeCasts_S2x4352x4x128_S8704x512
def joinK (a : FVec Ideal S2x256x4x128 .f32) (b : FVec Ideal S2x4352x4x128 .f32) : FVec Ideal S8704x512 .bf16 :=
  truncf .bf16 (shapeCast _ (addf
    (pad S2x4352x4x128 ![0, 0, 0, 0] ![0, 4096, 0, 0] ![0, 0, 0, 0] a (constant S_ .f32 0x00000000#32) pads_S2x256x4x128_S2x4352x4x128_000_040960_000_000 h_S_)
    b) shapeCasts_S2x4352x4x128_S8704x512) bitsLt_bf16_f32
def joinV (a : FVec Ideal S2x256x4x64 .f32) (b : FVec Ideal S2x4352x4x64 .f32) : FVec Ideal S8704x256 .bf16 :=
  truncf .bf16 (shapeCast _ (addf
    (pad S2x4352x4x64 ![0, 0, 0, 0] ![0, 4096, 0, 0] ![0, 0, 0, 0] a (constant S_ .f32 0x00000000#32) pads_S2x256x4x64_S2x4352x4x64_000_040960_000_000 h_S_)
    b) shapeCasts_S2x4352x4x64_S8704x256) bitsLt_bf16_f32

/-- The two groups' gradients with respect to the products of queries and keys. -/
def dsC (q : FVec Ideal S8704x512 .f32) (k : FVec Ideal S8704x512 .bf16) (v g : FVec Ideal S8704x256 .bf16) : FVec Ideal S2x4x256x256 .f32 :=
  Ctx.dsc (Ctx.e (Ctx.s (ctx (q4 q)) (ctx (k4 k)))) (Ctx.dpr (ctv (v4 g)) (ctv (v4 v)))
def dsL (q : FVec Ideal S8704x512 .f32) (k : FVec Ideal S8704x512 .bf16) (v g : FVec Ideal S8704x256 .bf16) : FVec Ideal S2x4x4096x4352 .f32 :=
  Lat.dsc (Lat.e (Lat.s (lat (q4 q)) (k4 k))) (Lat.dpr (ltv (v4 g)) (v4 v))

section
variable (m : (ℓ : Loc nD τ sig) → Buf (Elt Ideal) ℓ) (c : Dev nD)

/-- The reference's four arguments on core `c`. -/
abbrev aq : FVec Ideal S8704x512 .f32 := m ((c.tc : Thread nD τ).loc main_arg0)
abbrev ak : FVec Ideal S8704x512 .bf16 := m ((c.tc : Thread nD τ).loc main_arg1)
abbrev av : FVec Ideal S8704x256 .bf16 := m ((c.tc : Thread nD τ).loc main_arg2)
abbrev ag : FVec Ideal S8704x256 .bf16 := m ((c.tc : Thread nD τ).loc main_arg3)

theorem res_dq : Value.res_out0 m c = joinQ (Ctx.dq (dsC (aq m c) (ak m c) (av m c) (ag m c)) (ctx (k4 (ak m c))))
    (Lat.dq (dsL (aq m c) (ak m c) (av m c) (ag m c)) (k4 (ak m c))) := rfl

theorem res_dk : Value.res_out1 m c = joinK (Ctx.dk (dsC (aq m c) (ak m c) (av m c) (ag m c)) (ctx (q4 (aq m c))))
    (Lat.dk (dsL (aq m c) (ak m c) (av m c) (ag m c)) (lat (q4 (aq m c)))) := rfl

theorem res_dv : Value.res_out2 m c = joinV (Ctx.dv (ctv (v4 (ag m c))) (Ctx.p (Ctx.e (Ctx.s (ctx (q4 (aq m c))) (ctx (k4 (ak m c)))))))
    (Lat.dv (ltv (v4 (ag m c))) (Lat.p (Lat.e (Lat.s (lat (q4 (aq m c))) (k4 (ak m c)))))) := rfl
end

theorem col128_div (h : Fin 4) (d : Fin 128) : (col128 h d).val / 128 = h.val := by simp only [col128]; omega
theorem col128_mod (h : Fin 4) (d : Fin 128) : (col128 h d).val % 128 = d.val := by simp only [col128]; omega

theorem q4_at (q : FVec Ideal S8704x512 .f32) (b : Fin 2) (s : Fin 4352) (h : Fin 4) (d : Fin 128) :
    q4 q (ix4 b s h d) = q (ix2 (row b s) (col128 h d)) := by
  pointwise [q4]
  rw [row_eq, col128_eq]

theorem k4_at (k : FVec Ideal S8704x512 .bf16) (b : Fin 2) (s : Fin 4352) (h : Fin 4) (d : Fin 128) :
    k4 k (ix4 b s h d) = k (ix2 (row b s) (col128 h d)) := by
  pointwise [k4]
  rw [row_eq, col128_eq]

theorem v4_at (v : FVec Ideal S8704x256 .bf16) (b : Fin 2) (s : Fin 4352) (h : Fin 4) (d : Fin 64) :
    v4 v (ix4 b s h d) = v (ix2 (row b s) (col64 h d)) := by
  pointwise [v4]
  rw [row_eq, col64_eq]

theorem lat_at (q : FVec Ideal S2x4352x4x128 .f32) (b : Fin 2) (r : Fin 4096) (h : Fin 4) (d : Fin 128) :
    lat q (ix4 b r h d) = q (ix4 b (latPos r) h d) := by
  pointwise [lat]
  rfl

theorem ctx_at (q : FVec Ideal S2x4352x4x128 .f32) (b : Fin 2) (r : Fin 256) (h : Fin 4) (d : Fin 128) :
    ctx q (ix4 b r h d) = q (ix4 b (ctxPos r) h d) := by
  pointwise [ctx]
  rfl

theorem ltv_at (v : FVec Ideal S2x4352x4x64 .f32) (b : Fin 2) (r : Fin 4096) (h : Fin 4) (d : Fin 64) :
    ltv v (ix4 b r h d) = v (ix4 b (latPos r) h d) := by
  pointwise [ltv]
  rfl

theorem ctv_at (v : FVec Ideal S2x4352x4x64 .f32) (b : Fin 2) (r : Fin 256) (h : Fin 4) (d : Fin 64) :
    ctv v (ix4 b r h d) = v (ix4 b (ctxPos r) h d) := by
  pointwise [ctv]
  rfl

theorem joinQ_at (x : FVec Ideal S2x256x4x128 .f32) (y : FVec Ideal S2x4096x4x128 .f32) (b : Fin 2) (s : Fin 4352) (h : Fin 4) (d : Fin 128) :
    joinQ x y (ix2 (row b s) (col128 h d)) = if hs : s.val < 256 then x (ix4 b ⟨s.val, hs⟩ h d) else y (ix4 b ⟨s.val - 256, by omega⟩ h d) := by
  pointwise [joinQ]
  simp only [row_div, row_mod, col128_div, col128_mod, Fin.eta]
  by_cases hs : s.val < 256
  · rw [dif_pos ⟨b.isLt, hs, h.isLt, d.isLt⟩, dif_neg (fun t => absurd hs (by omega)), dif_pos hs, add_zero]
  · rw [dif_neg (fun t => hs t.2.1), dif_pos ⟨b.isLt, by omega, h.isLt, d.isLt⟩, dif_neg hs, zero_add]

theorem joinK_at (x : FVec Ideal S2x256x4x128 .f32) (y : FVec Ideal S2x4352x4x128 .f32) (b : Fin 2) (s : Fin 4352) (h : Fin 4) (d : Fin 128) :
    joinK x y (ix2 (row b s) (col128 h d)) = (if hs : s.val < 256 then x (ix4 b ⟨s.val, hs⟩ h d) else 0) + y (ix4 b s h d) := by
  pointwise [joinK]
  simp only [row_div, row_mod, col128_div, col128_mod, Fin.eta]
  by_cases hs : s.val < 256
  · rw [dif_pos ⟨b.isLt, hs, h.isLt, d.isLt⟩, dif_pos hs]
  · rw [dif_neg (fun t => hs t.2.1), dif_neg hs]

theorem joinV_at (x : FVec Ideal S2x256x4x64 .f32) (y : FVec Ideal S2x4352x4x64 .f32) (b : Fin 2) (s : Fin 4352) (h : Fin 4) (d : Fin 64) :
    joinV x y (ix2 (row b s) (col64 h d)) = (if hs : s.val < 256 then x (ix4 b ⟨s.val, hs⟩ h d) else 0) + y (ix4 b s h d) := by
  pointwise [joinV]
  simp only [row_div, row_mod, col64_div, col64_mod, Fin.eta]
  by_cases hs : s.val < 256
  · rw [dif_pos ⟨b.isLt, hs, h.isLt, d.isLt⟩, dif_pos hs]
  · rw [dif_neg (fun t => hs t.2.1), dif_neg hs]

variable (m : (ℓ : Loc nD τ sig) → Buf (Elt Ideal) ℓ) (c : Dev nD)
  {Q K : Fin 2 → Fin 4 → Fin 4352 → Fin 128 → ℝ} {X G : Fin 2 → Fin 4 → Fin 4352 → Fin 64 → ℝ}
  (hq : ∀ b h s d, aq m c (ix2 (row b s) (col128 h d)) = (Q b h s d : EReal))
  (hk : ∀ b h s d, ak m c (ix2 (row b s) (col128 h d)) = (K b h s d : EReal))
  (hv : ∀ b h s d, av m c (ix2 (row b s) (col64 h d)) = (X b h s d : EReal))
  (hg : ∀ b h s d, ag m c (ix2 (row b s) (col64 h d)) = (G b h s d : EReal))

include hq in
theorem qc (b : Fin 2) (r : Fin 256) (h : Fin 4) (d : Fin 128) : ctx (q4 (aq m c)) (ix4 b r h d) = (Q b h (ctxPos r) d : EReal) := by
  rw [ctx_at, q4_at, hq]
include hk in
theorem kc (b : Fin 2) (r : Fin 256) (h : Fin 4) (d : Fin 128) : ctx (k4 (ak m c)) (ix4 b r h d) = (K b h (ctxPos r) d : EReal) := by
  rw [ctx_at, k4_at, hk]
include hv in
theorem vc (b : Fin 2) (r : Fin 256) (h : Fin 4) (d : Fin 64) : ctv (v4 (av m c)) (ix4 b r h d) = (X b h (ctxPos r) d : EReal) := by
  rw [ctv_at, v4_at, hv]
include hg in
theorem gc (b : Fin 2) (r : Fin 256) (h : Fin 4) (d : Fin 64) : ctv (v4 (ag m c)) (ix4 b r h d) = (G b h (ctxPos r) d : EReal) := by
  rw [ctv_at, v4_at, hg]
include hq in
theorem ql (b : Fin 2) (r : Fin 4096) (h : Fin 4) (d : Fin 128) : lat (q4 (aq m c)) (ix4 b r h d) = (Q b h (latPos r) d : EReal) := by
  rw [lat_at, q4_at, hq]
include hk in
theorem kl (b : Fin 2) (r : Fin 4352) (h : Fin 4) (d : Fin 128) : k4 (ak m c) (ix4 b r h d) = (K b h r d : EReal) := by
  rw [k4_at, hk]
include hv in
theorem vl (b : Fin 2) (r : Fin 4352) (h : Fin 4) (d : Fin 64) : v4 (av m c) (ix4 b r h d) = (X b h r d : EReal) := by
  rw [v4_at, hv]
include hg in
theorem gl (b : Fin 2) (r : Fin 4096) (h : Fin 4) (d : Fin 64) : ltv (v4 (ag m c)) (ix4 b r h d) = (G b h (latPos r) d : EReal) := by
  rw [ltv_at, v4_at, hg]

include hq hk hv hg in
/-- The queries' gradient of a context row. -/
theorem dq_ctx (b : Fin 2) (h : Fin 4) (r : Fin 256) (d : Fin 128) : Value.res_out0 m c (ix2 (row b (ctxPos r)) (col128 h d))
    = ((∑ k, ds (Q b h (ctxPos r)) (fun c => K b h (ctxPos c)) (fun c => X b h (ctxPos c)) (G b h (ctxPos r)) k * (Real.sqrt 96)⁻¹
        * K b h (ctxPos k) d : ℝ) : EReal) := by
  rw [res_dq, joinQ_at, dif_pos (show (ctxPos r).val < 256 from r.isLt)]
  exact Ctx.dq_at (Q := fun b h r => Q b h (ctxPos r)) (K := fun b h c => K b h (ctxPos c)) (V := fun b h c => X b h (ctxPos c))
    (G := fun b h r => G b h (ctxPos r)) (qc m c hq) (kc m c hk) (gc m c hg) (vc m c hv) b h r d

include hq hk hv hg in
/-- The queries' gradient of a latent row. -/
theorem dq_lat (b : Fin 2) (h : Fin 4) (r : Fin 4096) (d : Fin 128) : Value.res_out0 m c (ix2 (row b (latPos r)) (col128 h d))
    = ((∑ k, ds (Q b h (latPos r)) (K b h) (X b h) (G b h (latPos r)) k * (Real.sqrt 96)⁻¹ * K b h k d : ℝ) : EReal) := by
  rw [res_dq, joinQ_at, dif_neg (show ¬ (latPos r).val < 256 by simp only [latPos]; omega)]
  rw [show (⟨(latPos r).val - 256, by omega⟩ : Fin 4096) = r from Fin.ext (by simp only [latPos]; omega)]
  exact Lat.dq_at (Q := fun b h r => Q b h (latPos r)) (K := K) (V := X)
    (G := fun b h r => G b h (latPos r)) (ql m c hq) (kl m c hk) (gl m c hg) (vl m c hv) b h r d

include hq hk hv hg in
/-- The keys' gradient. -/
theorem dk_all (b : Fin 2) (h : Fin 4) (k : Fin 4352) (d : Fin 128) : Value.res_out1 m c (ix2 (row b k) (col128 h d))
    = (((if hk : k.val < 256 then ∑ r : Fin 256, ds (Q b h (ctxPos r)) (fun c => K b h (ctxPos c)) (fun c => X b h (ctxPos c)) (G b h (ctxPos r)) ⟨k.val, hk⟩
        * (Real.sqrt 96)⁻¹ * Q b h (ctxPos r) d else 0)
      + ∑ r : Fin 4096, ds (Q b h (latPos r)) (K b h) (X b h) (G b h (latPos r)) k * (Real.sqrt 96)⁻¹ * Q b h (latPos r) d : ℝ) : EReal) := by
  rw [res_dk, joinK_at, EReal.coe_add]
  refine congrArg₂ (· + ·) ?_ (Lat.dk_at (Q := fun b h r => Q b h (latPos r)) (K := K) (V := X)
    (G := fun b h r => G b h (latPos r)) (ql m c hq) (kl m c hk) (gl m c hg) (vl m c hv) b h k d)
  by_cases hs : k.val < 256
  · rw [dif_pos hs, dif_pos hs]
    exact Ctx.dk_at (Q := fun b h r => Q b h (ctxPos r)) (K := fun b h c => K b h (ctxPos c)) (V := fun b h c => X b h (ctxPos c))
      (G := fun b h r => G b h (ctxPos r)) (qc m c hq) (kc m c hk) (gc m c hg) (vc m c hv) b h ⟨k.val, hs⟩ d
  · rw [dif_neg hs, dif_neg hs, EReal.coe_zero]

include hq hk hg in
/-- The values' gradient. -/
theorem dv_all (b : Fin 2) (h : Fin 4) (k : Fin 4352) (d : Fin 64) : Value.res_out2 m c (ix2 (row b k) (col64 h d))
    = (((if hk : k.val < 256 then ∑ r : Fin 256, G b h (ctxPos r) d * pr (Q b h (ctxPos r)) (fun c => K b h (ctxPos c)) ⟨k.val, hk⟩ else 0)
      + ∑ r : Fin 4096, G b h (latPos r) d * pr (Q b h (latPos r)) (K b h) k : ℝ) : EReal) := by
  rw [res_dv, joinV_at, EReal.coe_add]
  refine congrArg₂ (· + ·) ?_ (Lat.dv_at (Q := fun b h r => Q b h (latPos r)) (K := K)
    (G := fun b h r => G b h (latPos r)) (ql m c hq) (kl m c hk) (gl m c hg) b h k d)
  by_cases hs : k.val < 256
  · rw [dif_pos hs, dif_pos hs]
    exact Ctx.dv_at (Q := fun b h r => Q b h (ctxPos r)) (K := fun b h c => K b h (ctxPos c))
      (G := fun b h r => G b h (ctxPos r)) (qc m c hq) (kc m c hk) (gc m c hg) b h ⟨k.val, hs⟩ d
  · rw [dif_neg hs, dif_neg hs, EReal.coe_zero]

end Cert.ReferenceIdeal.Read

end
-- ==== Proof.Match.lean ====
/- The call's three results are the reference's, entry by entry, when the arguments' entries are real numbers. -/
module

public import proofs.«01_k».proof.Proof.Fold
public import proofs.«01_k».proof.Proof.RefRead

@[expose] public section

noncomputable section

namespace Cert.AttnGrad.Match

open Idealize.ShloMosaic Idealize.ShloMosaic.TcCoe
open Cert.KernelIdeal (col128 col64 ctxPos)
open Cert.KernelIdeal.Saved (row latPos)

/-- A position is one of the context or one of the latents. -/
theorem pos_cases (s : Fin 4352) : (∃ r, s = ctxPos r) ∨ ∃ r, s = latPos r := by
  by_cases hs : s.val < 256
  · exact .inl ⟨⟨s.val, hs⟩, Fin.ext rfl⟩
  · exact .inr ⟨⟨s.val - 256, by omega⟩, Fin.ext (by simp only [latPos]; omega)⟩

/-- Every index of an array of rows is a batch's position and a head's dimension. -/
theorem idx128 (i : (⟨2, ![8704, 512]⟩ : Shape).Idx) : ∃ b s h d, i = ix2 (row b s) (col128 h d) := by
  have i0 : (i 0).val < 8704 := (i 0).isLt
  have i1 : (i 1).val < 512 := (i 1).isLt
  refine ⟨⟨(i 0).val / 4352, by omega⟩, ⟨(i 0).val % 4352, by omega⟩, ⟨(i 1).val / 128, by omega⟩, ⟨(i 1).val % 128, by omega⟩, ?_⟩
  funext a
  match a with
  | 0 => exact Fin.ext (by show (i 0).val = 4352 * ((i 0).val / 4352) + (i 0).val % 4352; omega)
  | 1 => exact Fin.ext (by show (i 1).val = 128 * ((i 1).val / 128) + (i 1).val % 128; omega)

theorem idx64 (i : (⟨2, ![8704, 256]⟩ : Shape).Idx) : ∃ b s h d, i = ix2 (row b s) (col64 h d) := by
  have i0 : (i 0).val < 8704 := (i 0).isLt
  have i1 : (i 1).val < 256 := (i 1).isLt
  refine ⟨⟨(i 0).val / 4352, by omega⟩, ⟨(i 0).val % 4352, by omega⟩, ⟨(i 1).val / 64, by omega⟩, ⟨(i 1).val % 64, by omega⟩, ?_⟩
  funext a
  match a with
  | 0 => exact Fin.ext (by show (i 0).val = 4352 * ((i 0).val / 4352) + (i 0).val % 4352; omega)
  | 1 => exact Fin.ext (by show (i 1).val = 64 * ((i 1).val / 64) + (i 1).val % 64; omega)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)
  {Q K : Fin 2 → Fin 4 → Fin 4352 → Fin 128 → ℝ} {X G : Fin 2 → Fin 4 → Fin 4352 → Fin 64 → ℝ}
  (hq : ∀ b h s d, Cert.KernelIdeal.Steps.aq m c (ix2 (row b s) (col128 h d)) = (Q b h s d : EReal))
  (hk : ∀ b h s d, Cert.KernelIdeal.Steps.ak m c (ix2 (row b s) (col128 h d)) = (K b h s d : EReal))
  (hv : ∀ b h s d, Cert.KernelIdeal.Steps.av m c (ix2 (row b s) (col64 h d)) = (X b h s d : EReal))
  (hg : ∀ b h s d, Cert.KernelIdeal.Steps.ag m c (ix2 (row b s) (col64 h d)) = (G b h s d : EReal))
  (hq' : ∀ b h s d, Cert.ReferenceIdeal.Read.aq m' c (ix2 (row b s) (col128 h d)) = (Q b h s d : EReal))
  (hk' : ∀ b h s d, Cert.ReferenceIdeal.Read.ak m' c (ix2 (row b s) (col128 h d)) = (K b h s d : EReal))
  (hv' : ∀ b h s d, Cert.ReferenceIdeal.Read.av m' c (ix2 (row b s) (col64 h d)) = (X b h s d : EReal))
  (hg' : ∀ b h s d, Cert.ReferenceIdeal.Read.ag m' c (ix2 (row b s) (col64 h d)) = (G b h s d : EReal))

include hq hk hv hg hq' hk' hv' hg' in
/-- The queries' gradient. -/
theorem dq_eq (b : Fin 2) (s : Fin 4352) (h : Fin 4) (d : Fin 128) :
    Cert.ReferenceIdeal.Value.res_out0 m' c (ix2 (row b s) (col128 h d))
      = Cert.KernelIdeal.Value.G6 m c (ix2 (row b s) (col128 h d)) := by
  rcases pos_cases s with ⟨r, rfl⟩ | ⟨r, rfl⟩
  · rw [Cert.ReferenceIdeal.Read.dq_ctx m' c hq' hk' hv' hg', Cert.KernelIdeal.Fold.dq_ctx m c hq hk hv hg]
    refine congrArg Real.toEReal ?_
    rw [Finset.sum_mul]
    exact Finset.sum_congr rfl fun k _ => by ring
  · rw [Cert.ReferenceIdeal.Read.dq_lat m' c hq' hk' hv' hg', Cert.KernelIdeal.Fold.dq_lat m c hq hk hv hg]
    refine congrArg Real.toEReal ?_
    rw [Finset.sum_mul]
    exact Finset.sum_congr rfl fun k _ => by ring

include hq hk hv hg hq' hk' hv' hg' in
/-- The keys' gradient. -/
theorem dk_eq (b : Fin 2) (k : Fin 4352) (h : Fin 4) (d : Fin 128) :
    Cert.ReferenceIdeal.Value.res_out1 m' c (ix2 (row b k) (col128 h d))
      = Cert.KernelIdeal.Value.G7 m c (ix2 (row b k) (col128 h d)) := by
  rw [Cert.ReferenceIdeal.Read.dk_all m' c hq' hk' hv' hg', Cert.KernelIdeal.Fold.dk_all m c hq hk hv hg]
  refine congrArg Real.toEReal (congrArg₂ (· + ·) ?_ (Finset.sum_congr rfl fun r _ => by ring))
  unfold Cert.KernelIdeal.Fold.dkCtx
  by_cases hs : k.val < 256
  · rw [dif_pos hs, dif_pos hs]
    exact Finset.sum_congr rfl fun r _ => by ring
  · rw [dif_neg hs, dif_neg hs]

include hq hk hv hg hq' hk' hv' hg' in
/-- The values' gradient. -/
theorem dv_eq (b : Fin 2) (k : Fin 4352) (h : Fin 4) (d : Fin 64) :
    Cert.ReferenceIdeal.Value.res_out2 m' c (ix2 (row b k) (col64 h d))
      = Cert.KernelIdeal.Value.G8 m c (ix2 (row b k) (col64 h d)) := by
  rw [Cert.ReferenceIdeal.Read.dv_all m' c hq' hk' hg', Cert.KernelIdeal.Fold.dv_all m c hq hk hv hg]
  refine congrArg Real.toEReal (congrArg₂ (· + ·) ?_ (Finset.sum_congr rfl fun r _ => mul_comm _ _))
  unfold Cert.KernelIdeal.Fold.dvCtx
  by_cases hs : k.val < 256
  · rw [dif_pos hs, dif_pos hs]
    exact Finset.sum_congr rfl fun r _ => mul_comm _ _
  · rw [dif_neg hs, dif_neg hs]

end Cert.AttnGrad.Match

end
-- ==== Proof.GroupedMatch.lean ====
/- The grouped call's three results are the reference's, entry by entry, when the arguments' entries are real numbers. -/
module

public import proofs.«01_k».proof.Proof.GroupedFold
public import proofs.«01_k».proof.Proof.GroupedRefRead
public import proofs.«01_k».proof.Proof.Match

@[expose] public section

noncomputable section

namespace Cert.Soft.Match

open Idealize.ShloMosaic Idealize.ShloMosaic.TcCoe
open Cert.KernelIdeal (ctxPos)
open Cert.KernelIdeal.Saved (row latPos)
open Cert.GroupedIdeal (kcol qcol)
open Cert.GroupedIdeal.Saved (hh gp_hh col8 qcol_hh)
open Cert.AttnGrad.Match (pos_cases)

/-- Every index of an array of rows is a batch's position and a head's, or a group's, dimension. -/
theorem idxQ (i : (⟨2, ![8704, 512]⟩ : Shape).Idx) : ∃ b s g j d, i = ix2 (row b s) (col8 (hh g j) d) := by
  have i0 : (i 0).val < 8704 := (i 0).isLt
  have i1 : (i 1).val < 512 := (i 1).isLt
  refine ⟨⟨(i 0).val / 4352, by omega⟩, ⟨(i 0).val % 4352, by omega⟩, ⟨(i 1).val / 256, by omega⟩, ⟨(i 1).val / 64 % 4, by omega⟩,
    ⟨(i 1).val % 64, by omega⟩, ?_⟩
  funext a
  match a with
  | 0 => exact Fin.ext (by show (i 0).val = 4352 * ((i 0).val / 4352) + (i 0).val % 4352; omega)
  | 1 => exact Fin.ext (by show (i 1).val = 64 * (4 * ((i 1).val / 256) + (i 1).val / 64 % 4) + (i 1).val % 64; omega)

theorem idxK (i : (⟨2, ![8704, 128]⟩ : Shape).Idx) : ∃ b s g d, i = ix2 (row b s) (kcol g d) := by
  have i0 : (i 0).val < 8704 := (i 0).isLt
  have i1 : (i 1).val < 128 := (i 1).isLt
  refine ⟨⟨(i 0).val / 4352, by omega⟩, ⟨(i 0).val % 4352, by omega⟩, ⟨(i 1).val / 64, by omega⟩, ⟨(i 1).val % 64, by omega⟩, ?_⟩
  funext a
  match a with
  | 0 => exact Fin.ext (by show (i 0).val = 4352 * ((i 0).val / 4352) + (i 0).val % 4352; omega)
  | 1 => exact Fin.ext (by show (i 1).val = 64 * ((i 1).val / 64) + (i 1).val % 64; omega)

variable (m : (ℓ : Loc Cert.GroupedIdeal.nD Cert.GroupedIdeal.τ Cert.GroupedIdeal.sig) → Buf (Elt Ideal) ℓ)
  (m' : (ℓ : Loc Cert.GroupedReferenceIdeal.nD Cert.GroupedReferenceIdeal.τ Cert.GroupedReferenceIdeal.sig) → Buf (Elt Ideal) ℓ)
  (c : Dev Cert.GroupedIdeal.nD)
  {Q G : Fin 2 → Fin 8 → Fin 4352 → Fin 64 → ℝ} {K X : Fin 2 → Fin 2 → Fin 4352 → Fin 64 → ℝ}
  (hq : ∀ b h s d, Cert.GroupedIdeal.Steps.aq m c (ix2 (row b s) (col8 h d)) = (Q b h s d : EReal))
  (hk : ∀ b g s d, Cert.GroupedIdeal.Steps.ak m c (ix2 (row b s) (kcol g d)) = (K b g s d : EReal))
  (hv : ∀ b g s d, Cert.GroupedIdeal.Steps.av m c (ix2 (row b s) (kcol g d)) = (X b g s d : EReal))
  (hg : ∀ b h s d, Cert.GroupedIdeal.Steps.ag m c (ix2 (row b s) (col8 h d)) = (G b h s d : EReal))
  (hq' : ∀ b h s d, Cert.GroupedReferenceIdeal.Read.aq m' c (ix2 (row b s) (col8 h d)) = (Q b h s d : EReal))
  (hk' : ∀ b g s d, Cert.GroupedReferenceIdeal.Read.ak m' c (ix2 (row b s) (kcol g d)) = (K b g s d : EReal))
  (hv' : ∀ b g s d, Cert.GroupedReferenceIdeal.Read.av m' c (ix2 (row b s) (kcol g d)) = (X b g s d : EReal))
  (hg' : ∀ b h s d, Cert.GroupedReferenceIdeal.Read.ag m' c (ix2 (row b s) (col8 h d)) = (G b h s d : EReal))

include hq hk hv hg hq' hk' hv' hg' in
/-- The queries' gradient. -/
theorem dq_eq (b : Fin 2) (s : Fin 4352) (g : Fin 2) (j : Fin 4) (d : Fin 64) :
    Cert.GroupedReferenceIdeal.Value.res_out0 m' c (ix2 (row b s) (col8 (hh g j) d))
      = Cert.GroupedIdeal.Value.G6 m c (ix2 (row b s) (col8 (hh g j) d)) := by
  rcases pos_cases s with ⟨r, rfl⟩ | ⟨r, rfl⟩
  · rw [Cert.GroupedReferenceIdeal.Read.dq_ctx m' c hq' hk' hv' hg', ← qcol_hh, Cert.GroupedIdeal.Fold.dq_ctx m c hq hk hv hg, gp_hh]
    refine congrArg Real.toEReal ?_
    rw [Finset.sum_mul]
    exact Finset.sum_congr rfl fun k _ => by ring
  · rw [Cert.GroupedReferenceIdeal.Read.dq_lat m' c hq' hk' hv' hg', ← qcol_hh, Cert.GroupedIdeal.Fold.dq_lat m c hq hk hv hg, gp_hh]
    refine congrArg Real.toEReal ?_
    rw [Finset.sum_mul]
    exact Finset.sum_congr rfl fun k _ => by ring

include hq hk hv hg hq' hk' hv' hg' in
/-- The keys' gradient. -/
theorem dk_eq (b : Fin 2) (k : Fin 4352) (g : Fin 2) (d : Fin 64) :
    Cert.GroupedReferenceIdeal.Value.res_out1 m' c (ix2 (row b k) (kcol g d))
      = Cert.GroupedIdeal.Value.G7 m c (ix2 (row b k) (kcol g d)) := by
  rw [Cert.GroupedReferenceIdeal.Read.dk_all m' c hq' hk' hv' hg', Cert.GroupedIdeal.Fold.dk_all m c hq hk hv hg]
  refine congrArg Real.toEReal (congrArg₂ (· + ·) ?_ (Finset.sum_congr rfl fun j _ => Finset.sum_congr rfl fun r _ => by ring))
  unfold Cert.GroupedIdeal.Fold.dkCtx
  by_cases hs : k.val < 256
  · rw [dif_pos hs, dif_pos hs]
    exact Finset.sum_congr rfl fun j _ => Finset.sum_congr rfl fun r _ => by ring
  · rw [dif_neg hs, dif_neg hs]

include hq hk hv hg hq' hk' hv' hg' in
/-- The values' gradient. -/
theorem dv_eq (b : Fin 2) (k : Fin 4352) (g : Fin 2) (d : Fin 64) :
    Cert.GroupedReferenceIdeal.Value.res_out2 m' c (ix2 (row b k) (kcol g d))
      = Cert.GroupedIdeal.Value.G8 m c (ix2 (row b k) (kcol g d)) := by
  rw [Cert.GroupedReferenceIdeal.Read.dv_all m' c hq' hk' hg', Cert.GroupedIdeal.Fold.dv_all m c hq hk hv hg]
  refine congrArg Real.toEReal (congrArg₂ (· + ·) ?_ (Finset.sum_congr rfl fun j _ => Finset.sum_congr rfl fun r _ => mul_comm _ _))
  unfold Cert.GroupedIdeal.Fold.dvCtx
  by_cases hs : k.val < 256
  · rw [dif_pos hs, dif_pos hs]
    exact Finset.sum_congr rfl fun j _ => Finset.sum_congr rfl fun r _ => mul_comm _ _
  · rw [dif_neg hs, dif_neg hs]

end Cert.Soft.Match

end
-- ==== Proof.GroupedClaim.lean ====
/- The grouped call's results are its reference's, under the precondition that the arguments' entries are real numbers. -/
module

public import proofs.«01_k».proof.Defs
public import proofs.«01_k».proof.Proof.Gen.Grouped
public import proofs.«01_k».proof.Proof.Gen.Grouped.Frame
public import proofs.«01_k».proof.Proof.Gen.GroupedIdeal
public import proofs.«01_k».proof.Proof.Gen.GroupedIdeal.Frame
public import proofs.«01_k».proof.Proof.Gen.GroupedIdeal.Value
public import proofs.«01_k».proof.Proof.Gen.GroupedReferenceIdeal
public import proofs.«01_k».proof.Proof.Gen.GroupedReferenceIdeal.Run
public import proofs.«01_k».proof.Proof.GroupedFinite
public import proofs.«01_k».proof.Proof.GroupedMatch
public import Idealize.ShloMosaic.Adequacy
public import Idealize.ShloMosaic.Init
public import Idealize.ShloMosaic.Lib.Quiescent

@[expose] public section

noncomputable section

namespace Cert.Proof

open Idealize.ShloMosaic Idealize.SL.Sem
open Cert.Soft.Match

instance finite1_facts : Cert.Pre_finite1.Facts := Cert.Pre_finite1.conditions

/-- The grouped reference ends with its arguments unchanged and every semaphore at zero. -/
theorem grouped_reference_quiet (m : (ℓ : Loc Cert.GroupedReferenceIdeal.nD Cert.GroupedReferenceIdeal.τ Cert.GroupedReferenceIdeal.sig) → Buf (Elt Ideal) ℓ)
    (g : Dev Cert.GroupedReferenceIdeal.nD → PrngReg) :
    θ_run (Cert.GroupedReferenceIdeal.defs (F := Ideal)) (onTc (τ := Cert.GroupedReferenceIdeal.τ) (Cert.GroupedReferenceIdeal.main (F := Ideal)))
      ⟨m, fun _ => 0, g⟩ (fun r => (∀ c : Dev Cert.GroupedReferenceIdeal.nD,
        r.2.mem ((c.tc : Thread Cert.GroupedReferenceIdeal.nD Cert.GroupedReferenceIdeal.τ).loc Cert.GroupedReferenceIdeal.main_arg0)
            = m ((c.tc : Thread Cert.GroupedReferenceIdeal.nD Cert.GroupedReferenceIdeal.τ).loc Cert.GroupedReferenceIdeal.main_arg0)
        ∧ r.2.mem ((c.tc : Thread Cert.GroupedReferenceIdeal.nD Cert.GroupedReferenceIdeal.τ).loc Cert.GroupedReferenceIdeal.main_arg1)
            = m ((c.tc : Thread Cert.GroupedReferenceIdeal.nD Cert.GroupedReferenceIdeal.τ).loc Cert.GroupedReferenceIdeal.main_arg1)
        ∧ r.2.mem ((c.tc : Thread Cert.GroupedReferenceIdeal.nD Cert.GroupedReferenceIdeal.τ).loc Cert.GroupedReferenceIdeal.main_arg2)
            = m ((c.tc : Thread Cert.GroupedReferenceIdeal.nD Cert.GroupedReferenceIdeal.τ).loc Cert.GroupedReferenceIdeal.main_arg2)
        ∧ r.2.mem ((c.tc : Thread Cert.GroupedReferenceIdeal.nD Cert.GroupedReferenceIdeal.τ).loc Cert.GroupedReferenceIdeal.main_arg3)
            = m ((c.tc : Thread Cert.GroupedReferenceIdeal.nD Cert.GroupedReferenceIdeal.τ).loc Cert.GroupedReferenceIdeal.main_arg3))
        ∧ r.2.sem = fun _ => 0) :=
  (θ_run _ _ _).mono (fun r h => ⟨fun c => (h c).2.2.2, Idealize.ShloMosaic.sem_eq_zero_of_no_sems (by decide) r.2⟩)
    (Cert.GroupedReferenceIdeal.Value.run (F := Ideal) m g)

section
variable (m : (ℓ : Loc Cert.GroupedIdeal.nD Cert.GroupedIdeal.τ Cert.GroupedIdeal.sig) → Buf (Elt Ideal) ℓ)
  (m' : (ℓ : Loc Cert.GroupedReferenceIdeal.nD Cert.GroupedReferenceIdeal.τ Cert.GroupedReferenceIdeal.sig) → Buf (Elt Ideal) ℓ)
  (hm : Cert.Pre_GroupedIdeal_finite1 m) (c : Dev Cert.GroupedIdeal.nD)
  (h0 : Cert.GroupedReferenceIdeal.Read.aq m' c = Cert.GroupedIdeal.Steps.aq m c)
  (h1 : Cert.GroupedReferenceIdeal.Read.ak m' c = Cert.GroupedIdeal.Steps.ak m c)
  (h2 : Cert.GroupedReferenceIdeal.Read.av m' c = Cert.GroupedIdeal.Steps.av m c)
  (h3 : Cert.GroupedReferenceIdeal.Read.ag m' c = Cert.GroupedIdeal.Steps.ag m c)

include hm h0 h1 h2 h3

theorem grouped_dq : Cert.GroupedReferenceIdeal.Value.res_out0 m' c = Cert.GroupedIdeal.Value.G6 m c := by
  obtain ⟨fq, fk, fv, fg⟩ := Cert.Pre_finite1.finite_iff _ _ _ _ (hm c)
  funext i
  obtain ⟨b, s, g, j, d, rfl⟩ := idxQ i
  exact dq_eq m m' c (fun _ _ _ _ => fq _) (fun _ _ _ _ => fk _) (fun _ _ _ _ => fv _) (fun _ _ _ _ => fg _)
    (fun _ _ _ _ => (congrFun h0 _).trans (fq _)) (fun _ _ _ _ => (congrFun h1 _).trans (fk _))
    (fun _ _ _ _ => (congrFun h2 _).trans (fv _)) (fun _ _ _ _ => (congrFun h3 _).trans (fg _)) b s g j d

theorem grouped_dk : Cert.GroupedReferenceIdeal.Value.res_out1 m' c = Cert.GroupedIdeal.Value.G7 m c := by
  obtain ⟨fq, fk, fv, fg⟩ := Cert.Pre_finite1.finite_iff _ _ _ _ (hm c)
  funext i
  obtain ⟨b, s, g, d, rfl⟩ := idxK i
  exact dk_eq m m' c (fun _ _ _ _ => fq _) (fun _ _ _ _ => fk _) (fun _ _ _ _ => fv _) (fun _ _ _ _ => fg _)
    (fun _ _ _ _ => (congrFun h0 _).trans (fq _)) (fun _ _ _ _ => (congrFun h1 _).trans (fk _))
    (fun _ _ _ _ => (congrFun h2 _).trans (fv _)) (fun _ _ _ _ => (congrFun h3 _).trans (fg _)) b s g d

theorem grouped_dv : Cert.GroupedReferenceIdeal.Value.res_out2 m' c = Cert.GroupedIdeal.Value.G8 m c := by
  obtain ⟨fq, fk, fv, fg⟩ := Cert.Pre_finite1.finite_iff _ _ _ _ (hm c)
  funext i
  obtain ⟨b, s, g, d, rfl⟩ := idxK i
  exact dv_eq m m' c (fun _ _ _ _ => fq _) (fun _ _ _ _ => fk _) (fun _ _ _ _ => fv _) (fun _ _ _ _ => fg _)
    (fun _ _ _ _ => (congrFun h0 _).trans (fq _)) (fun _ _ _ _ => (congrFun h1 _).trans (fk _))
    (fun _ _ _ _ => (congrFun h2 _).trans (fv _)) (fun _ _ _ _ => (congrFun h3 _).trans (fg _)) b s g d

end

theorem grouped : Cert.algebraic_GroupedIdeal_GroupedReferenceIdeal_pre_finite1 := by
  intro m g m' g' hm agree
  refine ⟨_, _, _, Cert.GroupedIdeal.Value.run (F := Ideal) m g, ?_⟩
  refine (θ_run _ _ _).mono (fun r h c => ?_) (Cert.GroupedReferenceIdeal.Value.run (F := Ideal) m' g')
  obtain ⟨a0, a1, a2, a3⟩ := agree c
  exact ⟨(h c).1.trans (grouped_dq m m' hm c a0 a1 a2 a3), (h c).2.1.trans (grouped_dk m m' hm c a0 a1 a2 a3),
    (h c).2.2.1.trans (grouped_dv m m' hm c a0 a1 a2 a3), (h c).2.2.2⟩

end Cert.Proof

end
-- ==== Proof.SquaredRelu.lean ====
/- The derivative of the squared ReLU, as the kernel takes it from the saved square `z` (twice `z` over its root, kept from zero by
   a small floor) and as the reference takes it from the product (twice the positive part where the product is positive): the two are
   one extended real number where the square is zero, or at least the floor and not infinite. -/
module

public import proofs.«01_k».proof.Defs
public import Idealize.ShloMosaic.Lib.Pointwise.Select
public import Idealize.ShloMosaic.Lib.ReduceAll
public import Idealize.ShloMosaic.Lib.Decide
public import Idealize.ShloMosaic.Lib.Affine

@[expose] public section

noncomputable section

namespace Cert.SquaredRelu

open Idealize.ShloMosaic

/-- The kernel's floor under the square. -/
abbrev floor : EReal := Ideal.ofBits .f32 0x0DA24260#32

theorem floor_pos : 0 < floor := by
  simp only [floor, Ideal.ofBits, Ideal.ieee]
  simp
  rw [← EReal.coe_mul]
  exact EReal.coe_pos.2 (by positivity)

theorem two : Ideal.ofBits .f32 0x40000000#32 = 2 := by
  simp [Ideal.ofBits, Ideal.ieee]
  rw [← EReal.coe_mul]
  norm_num
  rfl

/-- Where the square `z` of the positive part is zero, or a finite number from the floor on. -/
def Apart (z : EReal) : Prop := z = 0 ∨ floor ≤ z ∧ z < ⊤

/-- The positive part's square over its own root is the positive part. -/
theorem root (p : EReal) (hp : 0 ≤ p) (h : Apart (p * p)) : p * p * Ideal.rsqrt (max (p * p) floor) = p := by
  rcases h with h | ⟨h, ht⟩
  · rw [h, zero_mul]
    rcases mul_eq_zero.1 h with e | e <;> exact e.symm
  · rw [max_eq_left h]
    induction p with
    | bot => exact absurd hp (by simp)
    | top => exact absurd ht (by simp)
    | coe r =>
      have hr : 0 < r := by
        rcases (EReal.coe_nonneg.1 hp).lt_or_eq with e | e
        · exact e
        · exact absurd (floor_pos.trans_le h) (by rw [← e]; simp)
      rw [← EReal.coe_mul]
      show ((r * r : ℝ) : EReal) * (if r * r < 0 then (⊥ : EReal) else if r * r = 0 then ⊤ else (((Real.sqrt (r * r))⁻¹ : ℝ) : EReal) : EReal) = _
      rw [if_neg (not_lt.2 (mul_self_nonneg r)), if_neg (mul_self_ne_zero.2 hr.ne'), Real.sqrt_mul_self hr.le, ← EReal.coe_mul]
      congr 1
      field_simp

/-- The two derivatives agree, times any cotangent. -/
theorem slope (s ct : EReal) (h : Apart (max s 0 * max s 0)) :
    ct * (2 * (max s 0 * max s 0 * Ideal.rsqrt (max (max s 0 * max s 0) floor))) = if 0 < s then ct * (2 * max s 0) else 0 := by
  rw [root _ (le_max_right _ _) h]
  by_cases hs : 0 < s
  · rw [if_pos hs]
  · rw [if_neg hs, max_eq_right (not_lt.1 hs)]; simp

/-- The precondition's test of one entry. -/
theorem apart_of (z : EReal) (h : IntOp.ori (FloatOps.cmpf (F := Ideal) (φ := .f32) .oeq z (FloatOps.ofBits (F := Ideal) .f32 0x00000000#32))
    (IntOp.andi (FloatOps.cmpf (F := Ideal) (φ := .f32) .oge z (FloatOps.ofBits (F := Ideal) .f32 0x0DA24260#32))
      (FloatOps.cmpf (F := Ideal) (φ := .f32) .olt z (FloatOps.ofBits (F := Ideal) .f32 0x7F800000#32))) = 1#1) : Apart z := by
  have top : Ideal.ofBits .f32 0x7F800000#32 = ⊤ := by simp [Ideal.ofBits, Ideal.ieee]
  rcases IntOp.ori_eq_one.1 h with h | h
  · exact .inl (((Idealize.ShloMosaic.Ideal.cmp_oeq_eq_one _ _).1 h).trans Ideal.ofBits_zero_f32)
  · obtain ⟨h1, h2⟩ := IntOp.andi_eq_one.1 h
    exact .inr ⟨(Idealize.ShloMosaic.Ideal.cmp_oge_eq_one _ _).1 h1, top ▸ (Idealize.ShloMosaic.Ideal.cmp_olt_eq_one _ _).1 h2⟩

end Cert.SquaredRelu

end
-- ==== Proof.MlpTile.lean ====
/- What one grid point of each of the four calls writes, read at an index of its block. -/
module

public import proofs.«01_k».proof.Proof.Gen.MlpIdeal.Frame
public import proofs.«01_k».proof.Proof.SquaredRelu
public import Idealize.ShloMosaic.Lib.Pointwise.Select
public import Idealize.ShloMosaic.Lib.Pointwise

@[expose] public section

noncomputable section

namespace Cert.MlpIdeal.Tile

open Cert.MlpIdeal Cert.MlpIdeal.Gen Cert.SquaredRelu Idealize.ShloMosaic Idealize.ShloMosaic.TcCoe

theorem hidden (x : Vec Ideal S512x1024 .bf16) (w : Vec Ideal S1024x2048 .bf16) (r : Fin 512) (j : Fin 2048) :
    k0_pay1 (F := Ideal) x w (ix2 r j) = max (∑ k : Fin 1024, x (ix2 r k) * w (ix2 k j)) 0 * max (∑ k : Fin 1024, x (ix2 r k) * w (ix2 k j)) 0 := by
  pointwise [k0_pay1]

theorem second (x : Vec Ideal S512x4096 .bf16) (w : Vec Ideal S4096x1024 .bf16) (r : Fin 512) (j : Fin 1024) :
    k1_pay1 (F := Ideal) x w (ix2 r j) = (∑ k : Fin 4096, x (ix2 r k) * w (ix2 k j) : EReal) := by
  pointwise [k1_pay1]

theorem second_dx (g : Vec Ideal S512x1024 .f32) (w : Vec Ideal S2048x1024 .bf16) (r : Fin 512) (j : Fin 2048) :
    k2_pay1 (F := Ideal) g w (ix2 r j) = (∑ k : Fin 1024, g (ix2 r k) * w (ix2 j k) : EReal) := by
  pointwise [k2_pay1]

theorem hidden_dx (z g : Vec Ideal S256x4096 .bf16) (w : Vec Ideal S1024x4096 .bf16) (r : Fin 256) (j : Fin 1024) :
    k3_pay1 (F := Ideal) z g w (ix2 r j)
      = (∑ k : Fin 4096, g (ix2 r k) * (2 * (z (ix2 r k) * Ideal.rsqrt (max (z (ix2 r k)) floor))) * w (ix2 j k) : EReal) := by
  pointwise [k3_pay1]
  simp only [two]

end Cert.MlpIdeal.Tile

end
-- ==== Proof.MlpArray.lean ====
/- What each of the four calls leaves in its array, index by index, as a function of the arrays that it reads: the blocks of the grid
   points tile the array, and each is the product of a band of the first operand with a band of the second. -/
module

public import proofs.«01_k».proof.Proof.MlpTile

@[expose] public section

set_option maxRecDepth 16384

noncomputable section

namespace Cert.MlpIdeal.Arrays

open Cert.MlpIdeal Cert.MlpIdeal.Gen Cert.SquaredRelu Idealize.ShloMosaic Idealize.ShloMosaic.TcCoe

theorem zeros : (![0, 0] : Fin 2 → ℕ) = fun _ => 0 := funext fun a => by fin_cases a <;> rfl

/-- Two indices of two axes are one when their coordinates are. -/
theorem ext2 {n m : ℕ} {x y : (⟨2, ![n, m]⟩ : Shape).Idx} (h0 : (x 0).val = (y 0).val) (h1 : (x 1).val = (y 1).val) : x = y := by
  funext a
  match a with
  | ⟨0, _⟩ => exact Fin.ext h0
  | ⟨1, _⟩ => exact Fin.ext h1

theorem eta2 {n m : ℕ} (x : (⟨2, ![n, m]⟩ : Shape).Idx) : x = ix2 (x 0) (x 1) := ext2 rfl rfl

variable (V : (c : Dev nD) → (b : Ref sig .tc) → Buf (Elt Ideal) ((c : Thread nD τ).loc b)) (c : Dev nD)

/-! ### The first product and its squared ReLU: blocks of 512 rows by 2048 columns -/

/-- The square of the positive part of the product. -/
def hid (x : Vec Ideal S8704x1024 .bf16) (w : Vec Ideal S1024x4096 .bf16) : Vec Ideal S8704x4096 .bf16 := fun i =>
  max (∑ k : Fin 1024, x (ix2 (i 0) k) * w (ix2 k (i 1))) 0 * max (∑ k : Fin 1024, x (ix2 (i 0) k) * w (ix2 k (i 1))) 0

theorem at0 : ∀ t : Fin cfg0.N, win0_0.index t = ![t.val % 17, 0] ∧ win0_1.index t = ![0, t.val / 17]
    ∧ win0_2.index t = ![t.val % 17, t.val / 17] := (by decide +kernel : ∀ t : Fin grid0.N, _)

theorem block0_0 (t : Fin cfg0.N) (r : Fin 512) (k : Fin 1024) (R : Fin 8704) (hR : R.val = t.val % 17 * 512 + r.val) :
    iblk0 V c 0 t (ix2 r k) = V c main_arg0 (ix2 R k) := by
  refine congrArg (V c main_arg0) (ext2 ?_ ?_)
  · refine (show _ = win0_0.index t (0 : Fin 2) * 512 + 1 * r.val from rfl).trans ?_
    rw [(at0 t).1, Nat.one_mul]; exact hR.symm
  · refine (show _ = win0_0.index t (1 : Fin 2) * 1024 + 1 * k.val from rfl).trans ?_
    rw [(at0 t).1, Nat.one_mul]; exact Nat.zero_add _

theorem block0_1 (t : Fin cfg0.N) (k : Fin 1024) (j : Fin 2048) (J : Fin 4096) (hJ : J.val = t.val / 17 * 2048 + j.val) :
    iblk0 V c 1 t (ix2 k j) = V c main_arg1 (ix2 k J) := by
  refine congrArg (V c main_arg1) (ext2 ?_ ?_)
  · refine (show _ = win0_1.index t (0 : Fin 2) * 1024 + 1 * k.val from rfl).trans ?_
    rw [(at0 t).2.1, Nat.one_mul]; exact Nat.zero_add _
  · refine (show _ = win0_1.index t (1 : Fin 2) * 2048 + 1 * j.val from rfl).trans ?_
    rw [(at0 t).2.1, Nat.one_mul]; exact hJ.symm

theorem place0 (t : Fin cfg0.N) (r : Fin 512) (j : Fin 2048) (R : Fin 8704) (J : Fin 4096) (hR : R.val = t.val % 17 * 512 + r.val)
    (hJ : J.val = t.val / 17 * 2048 + j.val) : ((cfg0.win 2).blk t).view.emb (ix2 r j) = ix2 R J := by
  refine ext2 ?_ ?_
  · refine (show _ = win0_2.index t (0 : Fin 2) * 512 + 1 * r.val from rfl).trans ?_
    rw [(at0 t).2.2, Nat.one_mul]; exact hR.symm
  · refine (show _ = win0_2.index t (1 : Fin 2) * 2048 + 1 * j.val from rfl).trans ?_
    rw [(at0 t).2.2, Nat.one_mul]; exact hJ.symm

theorem array0 : (dat0 (F := Ideal) V c).arrAt 2 cfg0.N = hid (V c main_arg0) (V c main_arg1) := by
  refine (dat0 V c).arrAt_eq_of_cover 2 _ (fun t _ => ?_) fun i => ?_
  · show (cfg0.win 2).cut (grid0.coords t) ((dat0 V c).after 2 t) = _
    rw [after0_2]
    unfold out0_2
    rw [View.canon_unit_zero zeros, View.ld_unit_zero zeros, View.ld_unit_zero zeros]
    have ht : t.val < 34 := t.isLt.trans_eq N_0
    funext y
    obtain ⟨r, j, rfl⟩ : ∃ (r : Fin 512) (j : Fin 2048), y = ix2 r j := ⟨y 0, y 1, eta2 y⟩
    let R : Fin 8704 := ⟨t.val % 17 * 512 + r.val, by omega⟩
    let J : Fin 4096 := ⟨t.val / 17 * 2048 + j.val, by omega⟩
    refine ((Tile.hidden _ _ r j).trans ?_).trans (congrArg (hid (V c main_arg0) (V c main_arg1)) (place0 t r j R J rfl rfl).symm)
    simp only [block0_0 V c t r _ R rfl, block0_1 V c t _ j J rfl]
    rfl
  · have h0 : (i 0).val < 8704 := (i 0).isLt
    have h1 : (i 1).val < 4096 := (i 1).isLt
    let t : Fin cfg0.N := ⟨17 * ((i 1).val / 2048) + (i 0).val / 512, by rw [show cfg0.N = 34 from N_0]; omega⟩
    refine ⟨t, flush0_2 t, ?_⟩
    have e := place0 t ⟨(i 0).val % 512, by omega⟩ ⟨(i 1).val % 2048, by omega⟩ (i 0) (i 1)
      (by simp only [t]; omega) (by simp only [t]; omega)
    rw [eta2 i]
    exact e ▸ View.emb_mem_set _ _

/-! ### The second product: blocks of 512 rows -/

/-- The product of a matrix with 4096 columns and one with 4096 rows. -/
def prod (x : Vec Ideal S8704x4096 .bf16) (w : Vec Ideal S4096x1024 .bf16) : Vec Ideal S8704x1024 .f32 := fun i =>
  (∑ k : Fin 4096, x (ix2 (i 0) k) * w (ix2 k (i 1)) : EReal)

theorem at1 : ∀ t : Fin cfg1.N, win1_0.index t = ![t.val, 0] ∧ win1_1.index t = ![0, 0]
    ∧ win1_2.index t = ![t.val, 0] := (by decide +kernel : ∀ t : Fin grid1.N, _)

theorem block1_0 (t : Fin cfg1.N) (r : Fin 512) (k : Fin 4096) (R : Fin 8704) (hR : R.val = t.val * 512 + r.val) :
    iblk1 V c 0 t (ix2 r k) = V c main_v0 (ix2 R k) := by
  refine congrArg (V c main_v0) (ext2 ?_ ?_)
  · refine (show _ = win1_0.index t (0 : Fin 2) * 512 + 1 * r.val from rfl).trans ?_
    rw [(at1 t).1, Nat.one_mul]; exact hR.symm
  · refine (show _ = win1_0.index t (1 : Fin 2) * 4096 + 1 * k.val from rfl).trans ?_
    rw [(at1 t).1, Nat.one_mul]; exact Nat.zero_add _

theorem block1_1 (t : Fin cfg1.N) (k : Fin 4096) (j : Fin 1024) : iblk1 V c 1 t (ix2 k j) = V c main_arg2 (ix2 k j) := by
  refine congrArg (V c main_arg2) (ext2 ?_ ?_)
  · refine (show _ = win1_1.index t (0 : Fin 2) * 4096 + 1 * k.val from rfl).trans ?_
    rw [(at1 t).2.1, Nat.one_mul]; exact Nat.zero_add _
  · refine (show _ = win1_1.index t (1 : Fin 2) * 1024 + 1 * j.val from rfl).trans ?_
    rw [(at1 t).2.1, Nat.one_mul]; exact Nat.zero_add _

theorem place1 (t : Fin cfg1.N) (r : Fin 512) (j : Fin 1024) (R : Fin 8704) (hR : R.val = t.val * 512 + r.val) :
    ((cfg1.win 2).blk t).view.emb (ix2 r j) = ix2 R j := by
  refine ext2 ?_ ?_
  · refine (show _ = win1_2.index t (0 : Fin 2) * 512 + 1 * r.val from rfl).trans ?_
    rw [(at1 t).2.2, Nat.one_mul]; exact hR.symm
  · refine (show _ = win1_2.index t (1 : Fin 2) * 1024 + 1 * j.val from rfl).trans ?_
    rw [(at1 t).2.2, Nat.one_mul]; exact Nat.zero_add _

theorem array1 : (dat1 (F := Ideal) V c).arrAt 2 cfg1.N = prod (V c main_v0) (V c main_arg2) := by
  refine (dat1 V c).arrAt_eq_of_cover 2 _ (fun t _ => ?_) fun i => ?_
  · show (cfg1.win 2).cut (grid1.coords t) ((dat1 V c).after 2 t) = _
    rw [after1_2]
    unfold out1_2
    rw [View.canon_unit_zero zeros, View.ld_unit_zero zeros, View.ld_unit_zero zeros]
    have ht : t.val < 17 := t.isLt.trans_eq N_1
    funext y
    obtain ⟨r, j, rfl⟩ : ∃ (r : Fin 512) (j : Fin 1024), y = ix2 r j := ⟨y 0, y 1, eta2 y⟩
    let R : Fin 8704 := ⟨t.val * 512 + r.val, by omega⟩
    refine ((Tile.second _ _ r j).trans ?_).trans (congrArg (prod (V c main_v0) (V c main_arg2)) (place1 t r j R rfl).symm)
    simp only [block1_0 V c t r _ R rfl, block1_1 V c t _ j]
    rfl
  · have h0 : (i 0).val < 8704 := (i 0).isLt
    let t : Fin cfg1.N := ⟨(i 0).val / 512, by rw [show cfg1.N = 17 from N_1]; omega⟩
    refine ⟨t, flush1_2 t, ?_⟩
    have e := place1 t ⟨(i 0).val % 512, by omega⟩ (i 1) (i 0) (by simp only [t]; omega)
    rw [eta2 i]
    exact e ▸ View.emb_mem_set _ _

/-! ### The gradient of the second product's input: blocks of 512 rows by 2048 columns -/

/-- The product with the transpose of a matrix with 1024 columns. -/
def prodT (g : Vec Ideal S8704x1024 .f32) (w : Vec Ideal S4096x1024 .bf16) : Vec Ideal S8704x4096 .bf16 := fun i =>
  (∑ k : Fin 1024, g (ix2 (i 0) k) * w (ix2 (i 1) k) : EReal)

theorem at2 : ∀ t : Fin cfg2.N, win2_0.index t = ![t.val % 17, 0] ∧ win2_1.index t = ![t.val / 17, 0]
    ∧ win2_2.index t = ![t.val % 17, t.val / 17] := (by decide +kernel : ∀ t : Fin grid2.N, _)

theorem block2_0 (t : Fin cfg2.N) (r : Fin 512) (k : Fin 1024) (R : Fin 8704) (hR : R.val = t.val % 17 * 512 + r.val) :
    iblk2 V c 0 t (ix2 r k) = V c main_arg3 (ix2 R k) := by
  refine congrArg (V c main_arg3) (ext2 ?_ ?_)
  · refine (show _ = win2_0.index t (0 : Fin 2) * 512 + 1 * r.val from rfl).trans ?_
    rw [(at2 t).1, Nat.one_mul]; exact hR.symm
  · refine (show _ = win2_0.index t (1 : Fin 2) * 1024 + 1 * k.val from rfl).trans ?_
    rw [(at2 t).1, Nat.one_mul]; exact Nat.zero_add _

theorem block2_1 (t : Fin cfg2.N) (j : Fin 2048) (k : Fin 1024) (J : Fin 4096) (hJ : J.val = t.val / 17 * 2048 + j.val) :
    iblk2 V c 1 t (ix2 j k) = V c main_arg2 (ix2 J k) := by
  refine congrArg (V c main_arg2) (ext2 ?_ ?_)
  · refine (show _ = win2_1.index t (0 : Fin 2) * 2048 + 1 * j.val from rfl).trans ?_
    rw [(at2 t).2.1, Nat.one_mul]; exact hJ.symm
  · refine (show _ = win2_1.index t (1 : Fin 2) * 1024 + 1 * k.val from rfl).trans ?_
    rw [(at2 t).2.1, Nat.one_mul]; exact Nat.zero_add _

theorem place2 (t : Fin cfg2.N) (r : Fin 512) (j : Fin 2048) (R : Fin 8704) (J : Fin 4096) (hR : R.val = t.val % 17 * 512 + r.val)
    (hJ : J.val = t.val / 17 * 2048 + j.val) : ((cfg2.win 2).blk t).view.emb (ix2 r j) = ix2 R J := by
  refine ext2 ?_ ?_
  · refine (show _ = win2_2.index t (0 : Fin 2) * 512 + 1 * r.val from rfl).trans ?_
    rw [(at2 t).2.2, Nat.one_mul]; exact hR.symm
  · refine (show _ = win2_2.index t (1 : Fin 2) * 2048 + 1 * j.val from rfl).trans ?_
    rw [(at2 t).2.2, Nat.one_mul]; exact hJ.symm

theorem array2 : (dat2 (F := Ideal) V c).arrAt 2 cfg2.N = prodT (V c main_arg3) (V c main_arg2) := by
  refine (dat2 V c).arrAt_eq_of_cover 2 _ (fun t _ => ?_) fun i => ?_
  · show (cfg2.win 2).cut (grid2.coords t) ((dat2 V c).after 2 t) = _
    rw [after2_2]
    unfold out2_2
    rw [View.canon_unit_zero zeros, View.ld_unit_zero zeros, View.ld_unit_zero zeros]
    have ht : t.val < 34 := t.isLt.trans_eq N_2
    funext y
    obtain ⟨r, j, rfl⟩ : ∃ (r : Fin 512) (j : Fin 2048), y = ix2 r j := ⟨y 0, y 1, eta2 y⟩
    let R : Fin 8704 := ⟨t.val % 17 * 512 + r.val, by omega⟩
    let J : Fin 4096 := ⟨t.val / 17 * 2048 + j.val, by omega⟩
    refine ((Tile.second_dx _ _ r j).trans ?_).trans (congrArg (prodT (V c main_arg3) (V c main_arg2)) (place2 t r j R J rfl rfl).symm)
    simp only [block2_0 V c t r _ R rfl, block2_1 V c t j _ J rfl]
    rfl
  · have h0 : (i 0).val < 8704 := (i 0).isLt
    have h1 : (i 1).val < 4096 := (i 1).isLt
    let t : Fin cfg2.N := ⟨17 * ((i 1).val / 2048) + (i 0).val / 512, by rw [show cfg2.N = 34 from N_2]; omega⟩
    refine ⟨t, flush2_2 t, ?_⟩
    have e := place2 t ⟨(i 0).val % 512, by omega⟩ ⟨(i 1).val % 2048, by omega⟩ (i 0) (i 1)
      (by simp only [t]; omega) (by simp only [t]; omega)
    rw [eta2 i]
    exact e ▸ View.emb_mem_set _ _

/-! ### The gradient of the first product's input, through the squared ReLU: blocks of 256 rows -/

/-- The cotangent times twice the saved square over its root, multiplied with the transpose of a matrix with 4096 columns. -/
def slopeT (g z : Vec Ideal S8704x4096 .bf16) (w : Vec Ideal S1024x4096 .bf16) : Vec Ideal S8704x1024 .bf16 := fun i =>
  (∑ k : Fin 4096, g (ix2 (i 0) k) * (2 * (z (ix2 (i 0) k) * Ideal.rsqrt (max (z (ix2 (i 0) k)) floor))) * w (ix2 (i 1) k) : EReal)

theorem at3 : ∀ t : Fin cfg3.N, win3_0.index t = ![t.val, 0] ∧ win3_1.index t = ![t.val, 0] ∧ win3_2.index t = ![0, 0]
    ∧ win3_3.index t = ![t.val, 0] := (by decide +kernel : ∀ t : Fin grid3.N, _)

theorem block3_0 (t : Fin cfg3.N) (r : Fin 256) (k : Fin 4096) (R : Fin 8704) (hR : R.val = t.val * 256 + r.val) :
    iblk3 V c 0 t (ix2 r k) = V c main_v2 (ix2 R k) := by
  refine congrArg (V c main_v2) (ext2 ?_ ?_)
  · refine (show _ = win3_0.index t (0 : Fin 2) * 256 + 1 * r.val from rfl).trans ?_
    rw [(at3 t).1, Nat.one_mul]; exact hR.symm
  · refine (show _ = win3_0.index t (1 : Fin 2) * 4096 + 1 * k.val from rfl).trans ?_
    rw [(at3 t).1, Nat.one_mul]; exact Nat.zero_add _

theorem block3_1 (t : Fin cfg3.N) (r : Fin 256) (k : Fin 4096) (R : Fin 8704) (hR : R.val = t.val * 256 + r.val) :
    iblk3 V c 1 t (ix2 r k) = V c main_v0 (ix2 R k) := by
  refine congrArg (V c main_v0) (ext2 ?_ ?_)
  · refine (show _ = win3_1.index t (0 : Fin 2) * 256 + 1 * r.val from rfl).trans ?_
    rw [(at3 t).2.1, Nat.one_mul]; exact hR.symm
  · refine (show _ = win3_1.index t (1 : Fin 2) * 4096 + 1 * k.val from rfl).trans ?_
    rw [(at3 t).2.1, Nat.one_mul]; exact Nat.zero_add _

theorem block3_2 (t : Fin cfg3.N) (j : Fin 1024) (k : Fin 4096) : iblk3 V c 2 t (ix2 j k) = V c main_arg1 (ix2 j k) := by
  refine congrArg (V c main_arg1) (ext2 ?_ ?_)
  · refine (show _ = win3_2.index t (0 : Fin 2) * 1024 + 1 * j.val from rfl).trans ?_
    rw [(at3 t).2.2.1, Nat.one_mul]; exact Nat.zero_add _
  · refine (show _ = win3_2.index t (1 : Fin 2) * 4096 + 1 * k.val from rfl).trans ?_
    rw [(at3 t).2.2.1, Nat.one_mul]; exact Nat.zero_add _

theorem place3 (t : Fin cfg3.N) (r : Fin 256) (j : Fin 1024) (R : Fin 8704) (hR : R.val = t.val * 256 + r.val) :
    ((cfg3.win 3).blk t).view.emb (ix2 r j) = ix2 R j := by
  refine ext2 ?_ ?_
  · refine (show _ = win3_3.index t (0 : Fin 2) * 256 + 1 * r.val from rfl).trans ?_
    rw [(at3 t).2.2.2, Nat.one_mul]; exact hR.symm
  · refine (show _ = win3_3.index t (1 : Fin 2) * 1024 + 1 * j.val from rfl).trans ?_
    rw [(at3 t).2.2.2, Nat.one_mul]; exact Nat.zero_add _

theorem array3 : (dat3 (F := Ideal) V c).arrAt 3 cfg3.N = slopeT (V c main_v2) (V c main_v0) (V c main_arg1) := by
  refine (dat3 V c).arrAt_eq_of_cover 3 _ (fun t _ => ?_) fun i => ?_
  · show (cfg3.win 3).cut (grid3.coords t) ((dat3 V c).after 3 t) = _
    rw [after3_3]
    unfold out3_3
    rw [View.canon_unit_zero zeros, View.ld_unit_zero zeros, View.ld_unit_zero zeros, View.ld_unit_zero zeros]
    have ht : t.val < 34 := t.isLt.trans_eq N_3
    funext y
    obtain ⟨r, j, rfl⟩ : ∃ (r : Fin 256) (j : Fin 1024), y = ix2 r j := ⟨y 0, y 1, eta2 y⟩
    let R : Fin 8704 := ⟨t.val * 256 + r.val, by omega⟩
    refine ((Tile.hidden_dx _ _ _ r j).trans ?_).trans
      (congrArg (slopeT (V c main_v2) (V c main_v0) (V c main_arg1)) (place3 t r j R rfl).symm)
    simp only [block3_0 V c t r _ R rfl, block3_1 V c t r _ R rfl, block3_2 V c t j _]
    rfl
  · have h0 : (i 0).val < 8704 := (i 0).isLt
    let t : Fin cfg3.N := ⟨(i 0).val / 256, by rw [show cfg3.N = 34 from N_3]; omega⟩
    refine ⟨t, flush3_3 t, ?_⟩
    have e := place3 t ⟨(i 0).val % 256, by omega⟩ (i 1) (i 0) (by simp only [t]; omega)
    rw [eta2 i]
    exact e ▸ View.emb_mem_set _ _

end Cert.MlpIdeal.Arrays

end
-- ==== Proof.MlpRun.lean ====
/- The run of the four calls, with the whole memory that it leaves, and each result as a function of the arguments. -/
module

public import proofs.«01_k».proof.Proof.MlpArray

@[expose] public section

set_option maxRecDepth 16384

noncomputable section

namespace Cert.MlpIdeal.Run

open Cert.MlpIdeal Cert.MlpIdeal.Gen Cert.MlpIdeal.Arrays Idealize.ShloMosaic Idealize.ShloMosaic.TcCoe Idealize.SL Idealize.SL.RA
open Idealize.SL.BI Idealize.SL.BI.BIBase Idealize.SL.BI.Laws Idealize.SL.ProofMode Idealize.SL.Sem Idealize.ShloMosaic.Rounds
open scoped Idealize.SL.BI

variable {F : FTy → Type} [FloatOps F] (m : (ℓ : Loc nD τ sig) → Buf (Elt F) ℓ) (ρ : Dev nD → PrngReg)

/-- The tokens that the run starts with are those of its windows; nothing more is set aside for a device. -/
theorem tokens (u : UR sig nD τ) : (ownU u : sProp (MT nD τ sig Unit (Elt F) ℕ (UR sig nD τ) ℕ))
    ⊢ iprop(|={Set.univ}=> (BI.own (emb₁ u) ∗ bigSep Finset.univ (fun _ : Dev nD => (BI.emp : sProp (MT nD τ sig Unit (Elt F) ℕ (UR sig nD τ) ℕ))))) := by
  rw [BI.bigSep_emp_const]
  iintro H
  imodintro
  isplitl [H]
  · iapply (show (ownU u : sProp (MT nD τ sig Unit (Elt F) ℕ (UR sig nD τ) ℕ)) ⊢ BI.own (emb₁ u) from .rfl)
    iexact H
  · iempintro

set_option backward.isDefEq.respectTransparency.types false in
/-- After the run every array that outlives the calls holds what the fold of the four calls gives it. -/
theorem memory : θ_run defs (onTc (τ := τ) (main (F := F))) ⟨m, fun _ => 0, ρ⟩ fun r =>
    ∀ (c : Dev nD), ∀ b ∈ Pipeline.ucRefs τ sig, r.2.mem ((c : Thread nD τ).1, b) = W4 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := tokens _)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      · isplitl [Hp]
        · iexists _
          iexact Hp
        · iexists ∅
          iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun _ h _ => h)

variable (m : (ℓ : Loc nD τ sig) → Buf (Elt Ideal) ℓ) (ρ : Dev nD → PrngReg) (c : Dev nD)

/-- The saved squares: the first call's result. -/
def zed := hid (V0 m ρ c main_arg0) (V0 m ρ c main_arg1)

/-- The gradient of the saved squares: the third call's result. -/
def zedGrad := prodT (V0 m ρ c main_arg3) (V0 m ρ c main_arg2)

theorem z1 : W1 m ρ c (Proc.devRef .tc main_v0) = zed m ρ c := (W1_arr m ρ c 2).trans (array0 (V0 m ρ) c)

theorem z2 : W2 m ρ c (Proc.devRef .tc main_v0) = zed m ρ c := (W2_of m ρ c main_v0 (by decide)).trans (z1 m ρ c)

theorem z3 : W3 m ρ c (Proc.devRef .tc main_v0) = zed m ρ c := (W3_of m ρ c main_v0 (by decide)).trans (z2 m ρ c)

theorem z4 : W4 m ρ c (Proc.devRef .tc main_v0) = zed m ρ c := (W4_of m ρ c main_v0 (by decide)).trans (z3 m ρ c)

theorem y2 : W2 m ρ c (Proc.devRef .tc main_v1) = prod (zed m ρ c) (V0 m ρ c main_arg2) := by
  refine ((W2_arr m ρ c 2).trans (array1 (V1 m ρ) c)).trans ?_
  exact congr (congrArg prod (z1 m ρ c)) (W1_of m ρ c main_arg2 (by decide))

theorem y4 : W4 m ρ c (Proc.devRef .tc main_v1) = prod (zed m ρ c) (V0 m ρ c main_arg2) :=
  (W4_of m ρ c main_v1 (by decide)).trans ((W3_of m ρ c main_v1 (by decide)).trans (y2 m ρ c))

theorem dz3 : W3 m ρ c (Proc.devRef .tc main_v2) = zedGrad m ρ c := by
  refine ((W3_arr m ρ c 2).trans (array2 (V2 m ρ) c)).trans ?_
  exact congr (congrArg prodT ((W2_of m ρ c main_arg3 (by decide)).trans (W1_of m ρ c main_arg3 (by decide))))
    ((W2_of m ρ c main_arg2 (by decide)).trans (W1_of m ρ c main_arg2 (by decide)))

theorem dz4 : W4 m ρ c (Proc.devRef .tc main_v2) = zedGrad m ρ c := (W4_of m ρ c main_v2 (by decide)).trans (dz3 m ρ c)

theorem dh4 : W4 m ρ c (Proc.devRef .tc main_v3) = slopeT (zedGrad m ρ c) (zed m ρ c) (V0 m ρ c main_arg1) := by
  refine ((W4_arr m ρ c 3).trans (array3 (V3 m ρ) c)).trans ?_
  exact congr (congr (congrArg slopeT (dz3 m ρ c)) (z3 m ρ c))
    ((W3_of m ρ c main_arg1 (by decide)).trans ((W2_of m ρ c main_arg1 (by decide)).trans (W1_of m ρ c main_arg1 (by decide))))

/-- The run leaves the saved squares, the output and the two gradients in the results' arrays, and the arguments as they were. -/
theorem results : θ_run defs (onTc (τ := τ) (main (F := Ideal))) ⟨m, fun _ => 0, ρ⟩ fun r => ∀ c : Dev nD,
    r.2.mem ((c.tc : Thread nD τ).loc main_v0) = zed m ρ c
    ∧ r.2.mem ((c.tc : Thread nD τ).loc main_v1) = prod (zed m ρ c) (V0 m ρ c main_arg2)
    ∧ r.2.mem ((c.tc : Thread nD τ).loc main_v2) = zedGrad m ρ c
    ∧ r.2.mem ((c.tc : Thread nD τ).loc main_v3) = slopeT (zedGrad m ρ c) (zed m ρ c) (V0 m ρ c main_arg1)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c =>
    ⟨(h c _ (mem_uc main_v0 (by decide))).trans (z4 m ρ c), (h c _ (mem_uc main_v1 (by decide))).trans (y4 m ρ c),
     (h c _ (mem_uc main_v2 (by decide))).trans (dz4 m ρ c), (h c _ (mem_uc main_v3 (by decide))).trans (dh4 m ρ c),
     (h c _ (mem_uc main_arg0 (by decide))).trans (W4_main_arg0 m ρ c), (h c _ (mem_uc main_arg1 (by decide))).trans (W4_main_arg1 m ρ c),
     (h c _ (mem_uc main_arg2 (by decide))).trans (W4_main_arg2 m ρ c), (h c _ (mem_uc main_arg3 (by decide))).trans (W4_main_arg3 m ρ c)⟩)
    (memory m ρ)

end Cert.MlpIdeal.Run

end
-- ==== Proof.MlpRef.lean ====
/- The reference's four results of the multilayer perceptron, read at an index. -/
module

public import proofs.«01_k».proof.Proof.Gen.MlpReferenceIdeal.Run
public import proofs.«01_k».proof.Proof.SquaredRelu
public import Idealize.ShloMosaic.Lib.Pointwise.Select
public import Idealize.ShloMosaic.Lib.Pointwise

@[expose] public section

noncomputable section

namespace Cert.MlpReferenceIdeal.Read

open Cert.MlpReferenceIdeal Cert.MlpReferenceIdeal.Gen Cert.SquaredRelu Idealize.ShloMosaic Idealize.ShloMosaic.TcCoe
open Cert.MlpReferenceIdeal.Facts

/-- The product before the squared ReLU. -/
def pre (h : FVec Ideal S8704x1024 .bf16) (w : FVec Ideal S1024x4096 .bf16) : FVec Ideal S8704x4096 .f32 :=
  Host.dotGeneral dot_S8704x1024_S1024x4096_S8704x4096_1_0_0_1_n_n none (extf .f32 h bitsLt_bf16_f32) (extf .f32 w bitsLt_bf16_f32)

/-- A constant over the squares' array. -/
def full (b : BitVec 32) : FVec Ideal S8704x4096 .f32 := broadcastInDim S8704x4096 ![] bcast_S_S8704x4096 (constant (F := Ideal) S_ .f32 b)

/-- The positive part of the product. -/
def pos (h : FVec Ideal S8704x1024 .bf16) (w : FVec Ideal S1024x4096 .bf16) : FVec Ideal S8704x4096 .f32 := maximumf (pre h w) (full 0x00000000#32)

/-- The gradient of the squares. -/
def grad (dy : FVec Ideal S8704x1024 .f32) (w : FVec Ideal S4096x1024 .bf16) : FVec Ideal S8704x4096 .f32 :=
  Host.dotGeneral dot_S8704x1024_S4096x1024_S8704x4096_1_1_0_0_n_n none dy (extf .f32 w bitsLt_bf16_f32)

/-- A cotangent of the squares through the squared ReLU. -/
def back (g s p : FVec Ideal S8704x4096 .f32) : FVec Ideal S8704x4096 .f32 :=
  select (cmpf .ogt s (full 0x00000000#32)) (mulf g (mulf (full 0x40000000#32) p)) (full 0x00000000#32)

theorem pre_at (h : FVec Ideal S8704x1024 .bf16) (w : FVec Ideal S1024x4096 .bf16) (r : Fin 8704) (k : Fin 4096) :
    pre h w (ix2 r k) = (∑ l : Fin 1024, h (ix2 r l) * w (ix2 l k) : EReal) := by
  pointwise [pre]

theorem pos_at (h : FVec Ideal S8704x1024 .bf16) (w : FVec Ideal S1024x4096 .bf16) (r : Fin 8704) (k : Fin 4096) :
    pos h w (ix2 r k) = (max (pre h w (ix2 r k)) 0 : EReal) := by
  pointwise [pos, full]

theorem grad_at (dy : FVec Ideal S8704x1024 .f32) (w : FVec Ideal S4096x1024 .bf16) (r : Fin 8704) (k : Fin 4096) :
    grad dy w (ix2 r k) = (∑ l : Fin 1024, dy (ix2 r l) * w (ix2 k l) : EReal) := by
  pointwise [grad]

theorem back_at (g s p : FVec Ideal S8704x4096 .f32) (r : Fin 8704) (k : Fin 4096) :
    back g s p (ix2 r k) = if (0 : EReal) < s (ix2 r k) then (g (ix2 r k) * (2 * p (ix2 r k)) : EReal) else 0 := by
  pointwise [back, full]
  simp only [two]

theorem square_at (p : FVec Ideal S8704x4096 .f32) (r : Fin 8704) (k : Fin 4096) :
    truncf .bf16 (mulf p p) bitsLt_bf16_f32 (ix2 r k) = (p (ix2 r k) * p (ix2 r k) : EReal) := by
  pointwise []

theorem out_at (p : FVec Ideal S8704x4096 .f32) (w : FVec Ideal S4096x1024 .bf16) (r : Fin 8704) (j : Fin 1024) :
    Host.dotGeneral dot_S8704x4096_S4096x1024_S8704x1024_1_0_0_1_n_n none (mulf p p) (extf .f32 w bitsLt_bf16_f32) (ix2 r j)
      = (∑ k : Fin 4096, p (ix2 r k) * p (ix2 r k) * w (ix2 k j) : EReal) := by
  pointwise []

theorem grad_round (g : FVec Ideal S8704x4096 .f32) (i : S8704x4096.Idx) : truncf .bf16 g bitsLt_bf16_f32 i = g i := rfl

theorem input_at (b : FVec Ideal S8704x4096 .f32) (w : FVec Ideal S1024x4096 .bf16) (r : Fin 8704) (j : Fin 1024) :
    truncf .bf16 (Host.dotGeneral dot_S8704x4096_S1024x4096_S8704x1024_1_1_0_0_n_n none b (extf .f32 w bitsLt_bf16_f32)) bitsLt_bf16_f32 (ix2 r j)
      = (∑ k : Fin 4096, b (ix2 r k) * w (ix2 j k) : EReal) := by
  pointwise []

end Cert.MlpReferenceIdeal.Read

end
-- ==== Proof.Separated.lean ====
/- What the preconditions of the squared ReLU's gradients say: every square is zero, or finite and at least the kernel's floor. -/
module

public import proofs.«01_k».proof.Proof.SquaredRelu
public import Idealize.ShloMosaic.Lib.Pointwise

@[expose] public section

noncomputable section

namespace Cert.Pre_separated

open Idealize.ShloMosaic Cert.SquaredRelu

/-- The conditions that the precondition's operations take. -/
theorem conditions : Facts where
  bitsLt_bf16_f32 := by decide
  bcast_S_S8704x4096 := by decide
  reducesTo_S8704x4096_S_d0_1 := by decide
  h_S_ := by decide
  dot_S8704x1024_S1024x4096_S8704x4096_1_0_0_1_n_n_wf := by decide

instance : Subsingleton S_.Idx := ⟨fun a b => funext fun i => i.elim0⟩

variable [Facts]
open Facts

theorem product_at (h : FVec Ideal S8704x1024 .f32) (w : FVec Ideal S1024x4096 .f32) (r : Fin 8704) (k : Fin 4096) :
    Host.dotGeneral dot_S8704x1024_S1024x4096_S8704x4096_1_0_0_1_n_n none h w (ix2 r k) = (∑ l : Fin 1024, h (ix2 r l) * w (ix2 l k) : EReal) := by
  pointwise []

theorem apart (h : FVec Ideal S8704x1024 .bf16) (w1 : FVec Ideal S1024x4096 .bf16) (w2 : FVec Ideal S4096x1024 .bf16) (dy : FVec Ideal S8704x1024 .f32)
    (e : fn (F := Ideal) h w1 w2 dy = fun _ => 1#1) (r : Fin 8704) (k : Fin 4096) :
    Apart (max (∑ l : Fin 1024, h (ix2 r l) * w1 (ix2 l k)) 0 * max (∑ l : Fin 1024, h (ix2 r l) * w1 (ix2 l k)) 0) := by
  have e0 := congrFun e fun a => a.elim0
  unfold fn fn_relu at e0
  dsimp only at e0
  have e1 := apart_of _ (Host.reduce_andi_all _ _ _ _ _ e0 (ix2 r k))
  have e2 : mulf (maximumf (Host.dotGeneral dot_S8704x1024_S1024x4096_S8704x4096_1_0_0_1_n_n none (extf .f32 h bitsLt_bf16_f32) (extf .f32 w1 bitsLt_bf16_f32))
        (broadcastInDim S8704x4096 ![] bcast_S_S8704x4096 (constant (F := Ideal) S_ .f32 0x00000000#32)))
      (maximumf (Host.dotGeneral dot_S8704x1024_S1024x4096_S8704x4096_1_0_0_1_n_n none (extf .f32 h bitsLt_bf16_f32) (extf .f32 w1 bitsLt_bf16_f32))
        (broadcastInDim S8704x4096 ![] bcast_S_S8704x4096 (constant (F := Ideal) S_ .f32 0x00000000#32))) (ix2 r k)
      = (max (∑ l : Fin 1024, h (ix2 r l) * w1 (ix2 l k)) 0 * max (∑ l : Fin 1024, h (ix2 r l) * w1 (ix2 l k)) 0 : EReal) := by
    pointwise []
  exact e2 ▸ e1

end Cert.Pre_separated

end
-- ==== Proof.MlpMatch.lean ====
/- The four results of the calls are the reference's four results. -/
module

public import proofs.«01_k».proof.Proof.MlpRun
public import proofs.«01_k».proof.Proof.MlpRef
public import proofs.«01_k».proof.Proof.Separated

@[expose] public section

noncomputable section

namespace Cert.MlpMatch

open Cert.MlpReferenceIdeal Cert.MlpReferenceIdeal.Gen Cert.MlpReferenceIdeal.Read Cert.SquaredRelu Idealize.ShloMosaic Idealize.ShloMosaic.TcCoe Idealize.SL.Sem
open Cert.MlpIdeal.Arrays (hid prod prodT slopeT eta2)
open Cert.MlpReferenceIdeal.Facts

variable (h : FVec Ideal S8704x1024 .bf16) (w1 : FVec Ideal S1024x4096 .bf16) (w2 : FVec Ideal S4096x1024 .bf16) (dy : FVec Ideal S8704x1024 .f32)

theorem saved (r : Fin 8704) (k : Fin 4096) : pos h w1 (ix2 r k) * pos h w1 (ix2 r k) = hid h w1 (ix2 r k) := by
  rw [pos_at, pre_at]; rfl

theorem square_eq : truncf .bf16 (mulf (pos h w1) (pos h w1)) bitsLt_bf16_f32 = hid h w1 := by
  funext i
  obtain ⟨r, k, rfl⟩ : ∃ (r : Fin 8704) (k : Fin 4096), i = ix2 r k := ⟨i 0, i 1, eta2 i⟩
  exact (square_at _ r k).trans (saved h w1 r k)

theorem out_eq : Host.dotGeneral dot_S8704x4096_S4096x1024_S8704x1024_1_0_0_1_n_n none (mulf (pos h w1) (pos h w1)) (extf .f32 w2 bitsLt_bf16_f32)
    = prod (hid h w1) w2 := by
  funext i
  obtain ⟨r, j, rfl⟩ : ∃ (r : Fin 8704) (j : Fin 1024), i = ix2 r j := ⟨i 0, i 1, eta2 i⟩
  exact (out_at _ w2 r j).trans (Finset.sum_congr rfl fun k _ => congrArg (· * w2 (ix2 k j)) (saved h w1 r k))

theorem grad_eq : truncf .bf16 (grad dy w2) bitsLt_bf16_f32 = prodT dy w2 := by
  funext i
  obtain ⟨r, k, rfl⟩ : ∃ (r : Fin 8704) (k : Fin 4096), i = ix2 r k := ⟨i 0, i 1, eta2 i⟩
  exact grad_at dy w2 r k

theorem input_eq (sep : ∀ (r : Fin 8704) (k : Fin 4096), Apart (hid h w1 (ix2 r k))) :
    truncf .bf16 (Host.dotGeneral dot_S8704x4096_S1024x4096_S8704x1024_1_1_0_0_n_n none (back (grad dy w2) (pre h w1) (pos h w1))
      (extf .f32 w1 bitsLt_bf16_f32)) bitsLt_bf16_f32 = slopeT (prodT dy w2) (hid h w1) w1 := by
  funext i
  obtain ⟨r, j, rfl⟩ : ∃ (r : Fin 8704) (j : Fin 1024), i = ix2 r j := ⟨i 0, i 1, eta2 i⟩
  refine (input_at _ w1 r j).trans (Finset.sum_congr rfl fun k _ => congrArg (· * w1 (ix2 j k)) ?_)
  have e := saved h w1 r k
  rw [pos_at] at e
  rw [back_at, pos_at, grad_at]
  refine (slope _ _ (e ▸ sep r k)).symm.trans ?_
  rw [e]
  rfl

end Cert.MlpMatch

namespace Cert.Proof

open Idealize.ShloMosaic Idealize.SL.Sem Cert.MlpMatch

instance : Cert.Pre_separated.Facts := Cert.Pre_separated.conditions

theorem mlp : Cert.algebraic_MlpIdeal_MlpReferenceIdeal_pre_separated := by
  intro m g m' g' hm agree
  refine ⟨_, _, _, _, Cert.MlpIdeal.Run.results m g, ?_⟩
  refine (θ_run _ _ _).mono (fun r h c => ?_) (Cert.MlpReferenceIdeal.Value.run (F := Ideal) m' g')
  obtain ⟨a0, a1, a2, a3⟩ := agree c
  have sep := Cert.Pre_separated.apart _ _ _ _ (hm c)
  obtain ⟨e0, e1, e2, e3, rest⟩ := h c
  rw [a0, a1] at e0
  rw [a0, a1, a2] at e1
  rw [a2, a3] at e2
  rw [a0, a1, a2, a3] at e3
  exact ⟨e0.trans (square_eq _ _), e1.trans (out_eq _ _ _), e2.trans (grad_eq _ _), e3.trans (input_eq _ _ _ _ sep), rest⟩

end Cert.Proof

end
-- ==== Proof.Chunks.lean ====
/- A sum over the 8704 rows, taken 2176 rows at a time. -/
module

public import Idealize.ShloMosaic.Lib.Pointwise

@[expose] public section

noncomputable section

namespace Cert.Chunks

/-- The sum over the first `n` rows. -/
def upTo (f : Fin 8704 → EReal) (n : ℕ) : EReal := ∑ k ∈ Finset.range n, if h : k < 8704 then f ⟨k, h⟩ else 0

theorem upTo_zero (f : Fin 8704 → EReal) : upTo f 0 = 0 := rfl

theorem upTo_all (f : Fin 8704 → EReal) : upTo f 8704 = ∑ k, f k := by
  unfold upTo
  rw [Finset.sum_range]
  exact Finset.sum_congr rfl fun k _ => dif_pos k.isLt

theorem upTo_add (f : Fin 8704 → EReal) (a : ℕ) (g : Fin 2176 → EReal) (ha : a + 2176 ≤ 8704)
    (hg : ∀ (r : Fin 2176) (R : Fin 8704), R.val = a + r.val → g r = f R) : upTo f (a + 2176) = upTo f a + ∑ r, g r := by
  unfold upTo
  rw [Finset.sum_range_add, Finset.sum_range (n := 2176)]
  refine congrArg _ (Finset.sum_congr rfl fun r _ => ?_)
  have hr : a + r.val < 8704 := by omega
  rw [dif_pos hr]
  exact (hg r ⟨a + r.val, hr⟩ rfl).symm

end Cert.Chunks

end
-- ==== Proof.FirstWeight.lean ====
/- The gradient of the first product's weights: each point takes a cotangent's block through the squared ReLU and adds its product with
   the transposed inputs; four points, one for each band of rows, make a block of the result. -/
module

public import proofs.«01_k».proof.Proof.Gen.FirstWeightIdeal.Value
public import proofs.«01_k».proof.Proof.Gen.FirstWeightReferenceIdeal.Run
public import proofs.«01_k».proof.Proof.Chunks
public import proofs.«01_k».proof.Proof.MlpMatch
public import Idealize.ShloMosaic.Lib.StableHlo.ReadAt
public import Idealize.ShloMosaic.Lib.Pipeline.ValueKit.Tiles

@[expose] public section

set_option maxRecDepth 16384

noncomputable section

namespace Cert.FirstWeightIdeal.Steps

open Cert.FirstWeightIdeal Cert.FirstWeightIdeal.Gen Cert.Chunks Cert.SquaredRelu Idealize.ShloMosaic Idealize.ShloMosaic.TcCoe
open Cert.MlpIdeal.Arrays (zeros ext2 eta2)

section
variable (cc : Dev nD) (i : grid0.Coords) (a3 : Memref sig .tc .vmem S2176x1024 .bf16) (h3 : a3.IsWhole)
  (a4 : Memref sig .tc .vmem S2176x1024 .bf16) (h4 : a4.IsWhole) (a5 : Memref sig .tc .vmem S2176x1024 .bf16) (h5 : a5.IsWhole)
  (a6 : Memref sig .tc .vmem S1024x1024 .bf16) (h6 : a6.IsWhole) (a7 : Memref sig .tc .vmem S1024x1024 .f32) (h7 : a7.IsWhole)
  (x g z : Vec Ideal S2176x1024 .bf16) (s : Vec Ideal S1024x1024 .f32)

theorem first (hc0 hc1) : sout0_A_0 cc i a3 h3 a4 h4 a5 h5 a6 h6 a7 h7 hc0 hc1 x g z = k0_pay2 (F := Ideal) (k0_pay1 (F := Ideal)) x z g := by
  unfold sout0_A_0
  rw [View.read_writes_junk_eq_canon]
  unfold kernelRun0_A
  dsimp only
  sl_unfold_words
  simp only [View.readAt_eq_ld, h3.read_unread, h4.read_unread, h5.read_unread]
  rw [View.canon_cons_unit_zero zeros, View.readCov_unit_zero _ zeros, View.ld_unit_zero zeros, View.ld_unit_zero zeros, View.ld_unit_zero zeros]

theorem next (hc0 hc1) : sout0_B_0 cc i a3 h3 a4 h4 a5 h5 a6 h6 a7 h7 hc0 hc1 x g z s = k0_pay2 (F := Ideal) s x z g := by
  unfold sout0_B_0
  rw [View.read_writes_junk_eq_canon]
  unfold kernelRun0_B
  dsimp only
  sl_unfold_words
  simp only [View.readAt_eq_ld, h3.read_unread, h4.read_unread, h5.read_unread, h7.read_unread]
  rw [View.canon_cons_unit_zero zeros, View.ld_unit_zero zeros, View.ld_unit_zero zeros, View.ld_unit_zero zeros, View.ld_unit_zero zeros]

theorem last (hc0 hc1) : sout0_C_0 cc i a3 h3 a4 h4 a5 h5 a6 h6 a7 h7 hc0 hc1 x g z s = k0_pay2 (F := Ideal) s x z g := by
  unfold sout0_C_0
  rw [View.read_writes_junk_eq_canon]
  unfold kernelRun0_C
  dsimp only
  sl_unfold_words
  simp only [View.readAt_eq_ld, h3.read_unread, h4.read_unread, h5.read_unread, h7.read_unread]
  rw [View.canon_cons_unit_zero zeros, View.ld_unit_zero zeros, View.ld_unit_zero zeros, View.ld_unit_zero zeros, View.ld_unit_zero zeros]

theorem stored (hc0 hc1) : out0_C_3 cc i a3 h3 a4 h4 a5 h5 a6 h6 a7 h7 hc0 hc1 x g z s = k0_pay3 (F := Ideal) (k0_pay2 (F := Ideal) s x z g) := by
  unfold out0_C_3
  rw [View.read_writes_junk_eq_canon]
  unfold kernelRun0_C
  dsimp only
  sl_unfold_words
  simp only [View.readAt_eq_ld, h3.read_unread, h4.read_unread, h5.read_unread, h7.read_unread]
  rw [View.canon_cons_unit_zero zeros, View.readCov_unit_zero _ zeros, View.ld_unit_zero zeros, View.ld_unit_zero zeros, View.ld_unit_zero zeros, View.ld_unit_zero zeros]

theorem pay2_at (p q : Fin 1024) : k0_pay2 (F := Ideal) s x z g (ix2 p q) = (s (ix2 p q) + ∑ r : Fin 2176,
    x (ix2 r p) * (g (ix2 r q) * (2 * (z (ix2 r q) * Ideal.rsqrt (max (z (ix2 r q)) floor)))) : EReal) := by
  pointwise [k0_pay2]
  simp only [two]

theorem pay1_at (p q : Fin 1024) : k0_pay1 (F := Ideal) (ix2 p q) = (0 : EReal) := by
  pointwise [k0_pay1]

end

variable (m : (ℓ : Loc nD τ sig) → Buf (Elt Ideal) ℓ) (c : Dev nD)

/-- The inputs, the cotangent and the saved squares, as the call finds them. -/
abbrev ah : FVec Ideal S8704x1024 .bf16 := V m c main_arg0
abbrev ag : FVec Ideal S8704x4096 .bf16 := V m c main_arg2
abbrev az : FVec Ideal S8704x4096 .bf16 := V m c main_v5

theorem at0 : ∀ t : Fin cfg0.N, win0_0.index t = ![t.val % 4, 0] ∧ win0_1.index t = ![t.val % 4, t.val / 4]
    ∧ win0_2.index t = ![t.val % 4, t.val / 4] ∧ win0_3.index t = ![0, t.val / 4] := (by decide +kernel : ∀ t : Fin grid0.N, _)

theorem block0 (t : Fin cfg0.N) (r : Fin 2176) (p : Fin 1024) (R : Fin 8704) (hR : R.val = 2176 * (t.val % 4) + r.val) :
    iblk m c 0 t (ix2 r p) = ah m c (ix2 R p) := by
  refine congrArg (V m c main_arg0) (ext2 ?_ ?_)
  · refine (show _ = win0_0.index t (0 : Fin 2) * 2176 + 1 * r.val from rfl).trans ?_
    rw [(at0 t).1, Nat.one_mul]; exact (Nat.mul_comm _ _ ▸ hR).symm
  · refine (show _ = win0_0.index t (1 : Fin 2) * 1024 + 1 * p.val from rfl).trans ?_
    rw [(at0 t).1, Nat.one_mul]; exact Nat.zero_add _

theorem block1 (t : Fin cfg0.N) (r : Fin 2176) (q : Fin 1024) (R : Fin 8704) (Q : Fin 4096) (hR : R.val = 2176 * (t.val % 4) + r.val)
    (hQ : Q.val = t.val / 4 * 1024 + q.val) : iblk m c 1 t (ix2 r q) = ag m c (ix2 R Q) := by
  refine congrArg (V m c main_arg2) (ext2 ?_ ?_)
  · refine (show _ = win0_1.index t (0 : Fin 2) * 2176 + 1 * r.val from rfl).trans ?_
    rw [(at0 t).2.1, Nat.one_mul]; exact (Nat.mul_comm _ _ ▸ hR).symm
  · refine (show _ = win0_1.index t (1 : Fin 2) * 1024 + 1 * q.val from rfl).trans ?_
    rw [(at0 t).2.1, Nat.one_mul]; exact hQ.symm

theorem block2 (t : Fin cfg0.N) (r : Fin 2176) (q : Fin 1024) (R : Fin 8704) (Q : Fin 4096) (hR : R.val = 2176 * (t.val % 4) + r.val)
    (hQ : Q.val = t.val / 4 * 1024 + q.val) : iblk m c 2 t (ix2 r q) = az m c (ix2 R Q) := by
  refine congrArg (V m c main_v5) (ext2 ?_ ?_)
  · refine (show _ = win0_2.index t (0 : Fin 2) * 2176 + 1 * r.val from rfl).trans ?_
    rw [(at0 t).2.2.1, Nat.one_mul]; exact (Nat.mul_comm _ _ ▸ hR).symm
  · refine (show _ = win0_2.index t (1 : Fin 2) * 1024 + 1 * q.val from rfl).trans ?_
    rw [(at0 t).2.2.1, Nat.one_mul]; exact hQ.symm

theorem place (t : Fin cfg0.N) (p q : Fin 1024) (Q : Fin 4096) (hQ : Q.val = t.val / 4 * 1024 + q.val) :
    ((cfg0.win 3).blk t).view.emb (ix2 p q) = ix2 p Q := by
  refine ext2 ?_ ?_
  · refine (show _ = win0_3.index t (0 : Fin 2) * 1024 + 1 * p.val from rfl).trans ?_
    rw [(at0 t).2.2.2, Nat.one_mul]; exact Nat.zero_add _
  · refine (show _ = win0_3.index t (1 : Fin 2) * 1024 + 1 * q.val from rfl).trans ?_
    rw [(at0 t).2.2.2, Nat.one_mul]; exact hQ.symm

/-- The `k`-th term of the gradient's entry. -/
def entry (x : FVec Ideal S8704x1024 .bf16) (g z : FVec Ideal S8704x4096 .bf16) (p : Fin 1024) (Q : Fin 4096) (k : Fin 8704) : EReal :=
  (x (ix2 k p) * (g (ix2 k Q) * (2 * (z (ix2 k Q) * Ideal.rsqrt (max (z (ix2 k Q)) floor)))) : EReal)

abbrev term (p : Fin 1024) (Q : Fin 4096) : Fin 8704 → EReal := entry (ah m c) (ag m c) (az m c) p Q

/-- One point adds its band of rows. -/
theorem add (t : Fin cfg0.N) (p q : Fin 1024) (Q : Fin 4096) (hQ : Q.val = t.val / 4 * 1024 + q.val) (s : Vec Ideal S1024x1024 .f32)
    (hs : s (ix2 p q) = upTo (term m c p Q) (2176 * (t.val % 4))) :
    k0_pay2 (F := Ideal) s (iblk m c 0 t) (iblk m c 2 t) (iblk m c 1 t) (ix2 p q) = upTo (term m c p Q) (2176 * (t.val % 4) + 2176) := by
  rw [pay2_at, hs]
  refine (upTo_add _ _ _ (by omega) fun r R hR => ?_).symm
  rw [block0 m c t r p R hR, block1 m c t r q R Q hR hQ, block2 m c t r q R Q hR hQ]
  rfl

/-- What the accumulator holds after a point: the bands of rows so far. -/
theorem carried (n : ℕ) (hn : n < cfg0.N) (p q : Fin 1024) (Q : Fin 4096) (hQ : Q.val = n / 4 * 1024 + q.val) :
    (outsAt0 m c n hn).2 (ix2 p q) = upTo (term m c p Q) (2176 * (n % 4) + 2176) := by
  induction n using Nat.strong_induction_on generalizing Q with
  | _ n ih =>
    let t : Fin cfg0.N := ⟨n, hn⟩
    by_cases h0 : n % 4 = 0
    · have h1 : ¬ n % 4 = 3 := by omega
      refine (congrFun (congrArg Prod.snd (outsAt0_A m c t h0 h1)) _).trans ?_
      dsimp only
      rw [first]
      refine add m c t p q Q hQ _ ?_
      rw [pay1_at, show t.val % 4 = 0 from h0]
      rfl
    · have prev := ih (n - 1) (by omega) (by omega) Q (by omega)
      rw [show 2176 * ((n - 1) % 4) + 2176 = 2176 * (n % 4) by omega] at prev
      by_cases h1 : n % 4 = 3
      · refine (congrFun (congrArg Prod.snd (outsAt0_C m c t h0 h1)) _).trans ?_
        dsimp only
        rw [last]
        exact add m c t p q Q hQ _ prev
      · refine (congrFun (congrArg Prod.snd (outsAt0_B m c t h0 h1)) _).trans ?_
        dsimp only
        rw [next]
        exact add m c t p q Q hQ _ prev

/-- What the last point of a block stores. -/
theorem written (t : Fin cfg0.N) (h1 : t.val % 4 = 3) (p q : Fin 1024) (Q : Fin 4096) (hQ : Q.val = t.val / 4 * 1024 + q.val) :
    (outsAt0 m c t.val t.isLt).1 (ix2 p q) = ∑ k, term m c p Q k := by
  have h0 : ¬ t.val % 4 = 0 := by omega
  refine (congrFun (congrArg Prod.fst (outsAt0_C m c t h0 h1)) _).trans ?_
  dsimp only
  rw [stored]
  refine (show _ = k0_pay2 (F := Ideal) _ (iblk m c 0 t) (iblk m c 2 t) (iblk m c 1 t) (ix2 p q) from rfl).trans ?_
  refine (add m c t p q Q hQ _ ?_).trans (by rw [h1]; exact upTo_all _)
  refine (carried m c (t.val - 1) _ p q Q (by omega)).trans ?_
  rw [show 2176 * ((t.val - 1) % 4) + 2176 = 2176 * (t.val % 4) by omega]

/-- The transposed inputs times the cotangent taken through the squared ReLU. -/
def tslope (x : FVec Ideal S8704x1024 .bf16) (g z : FVec Ideal S8704x4096 .bf16) : FVec Ideal S1024x4096 .bf16 := fun i =>
  ∑ k : Fin 8704, entry x g z (i 0) (i 1) k

theorem array (G : FVec Ideal S1024x4096 .bf16) (hG : ∀ (p : Fin 1024) (Q : Fin 4096), G (ix2 p Q) = ∑ k, term m c p Q k) :
    (dats m 0 c).arrAt 3 cfg0.N = G := by
  refine (dats m 0 c).arrAt_eq_of_cover 3 _ (fun t ht => ?_) fun i => ?_
  · show (cfg0.win 3).cut (grid0.coords t) ((dats m 0 c).after 3 t) = _
    rw [after0_3]
    have h1 := (flush0_3 t).1 ht
    have hN : t.val < 16 := t.isLt.trans_eq N_0
    funext y
    obtain ⟨p, q, rfl⟩ : ∃ (p q : Fin 1024), y = ix2 p q := ⟨y 0, y 1, eta2 y⟩
    let Q : Fin 4096 := ⟨t.val / 4 * 1024 + q.val, by omega⟩
    exact ((written m c t h1 p q Q rfl).trans (hG p Q).symm).trans (congrArg G (place t p q Q rfl).symm)
  · have h0 : (i 1).val < 4096 := (i 1).isLt
    let t : Fin cfg0.N := ⟨4 * ((i 1).val / 1024) + 3, by rw [show cfg0.N = 16 from N_0]; omega⟩
    refine ⟨t, (flush0_3 t).2 (by simp only [t]; omega), ?_⟩
    have e := place t (i 0) ⟨(i 1).val % 1024, by omega⟩ (i 1) (by simp only [t]; omega)
    rw [eta2 i]
    exact e ▸ View.emb_mem_set _ _

open Cert.MlpReferenceIdeal.Read (pos pre back)
open Cert.MlpIdeal.Arrays (hid)
open Cert.FirstWeightIdeal.Facts

/-- The saved squares are the reference's, computed on the host. -/
theorem saved : az m c = truncf .bf16 (mulf (pos (m ((c : Thread nD τ).loc main_arg0)) (m ((c : Thread nD τ).loc main_arg1)))
    (pos (m ((c : Thread nD τ).loc main_arg0)) (m ((c : Thread nD τ).loc main_arg1)))) bitsLt_bf16_f32 := by
  unfold az V
  after_reads_simp
  all_goals try simp -implicitDefEqProofs only [StableHlo.TRef.toBuf, StableHlo.TRef.ofBuf, cast_cast, cast_eq]
  rfl

theorem result : Value.G3 m c = tslope (m ((c : Thread nD τ).loc main_arg0)) (m ((c : Thread nD τ).loc main_arg2))
    (hid (m ((c : Thread nD τ).loc main_arg0)) (m ((c : Thread nD τ).loc main_arg1))) := by
  refine ((Value.final3 m c).symm.trans (array m c (tslope (ah m c) (ag m c) (az m c)) fun _ _ => rfl)).trans ?_
  exact congr (congr (congrArg tslope (V_main_arg0 m c)) (V_main_arg2 m c)) ((saved m c).trans (Cert.MlpMatch.square_eq _ _))

end Cert.FirstWeightIdeal.Steps

namespace Cert.FirstWeightReferenceIdeal.Read

open Cert.FirstWeightReferenceIdeal Cert.FirstWeightReferenceIdeal.Gen Cert.SquaredRelu Idealize.ShloMosaic Idealize.ShloMosaic.TcCoe
open Cert.FirstWeightReferenceIdeal.Facts
open Cert.MlpReferenceIdeal.Read (pos pre back back_at pos_at)
open Cert.MlpIdeal.Arrays (hid eta2)

theorem grad_at (b : FVec Ideal S8704x4096 .f32) (x : FVec Ideal S8704x1024 .bf16) (p : Fin 1024) (q : Fin 4096) :
    truncf .bf16 (transpose S1024x4096 [1, 0] (Host.dotGeneral dot_S8704x4096_S8704x1024_S4096x1024_0_0_1_1_n_n none b (extf .f32 x bitsLt_bf16_f32))
      transposes_S4096x1024_S1024x4096_1_0) bitsLt_bf16_f32 (ix2 p q) = (∑ k : Fin 8704, b (ix2 k q) * x (ix2 k p) : EReal) := by
  pointwise []

theorem grad_eq (x : FVec Ideal S8704x1024 .bf16) (w : FVec Ideal S1024x4096 .bf16) (g : FVec Ideal S8704x4096 .bf16)
    (sep : ∀ (r : Fin 8704) (k : Fin 4096), Apart (hid x w (ix2 r k))) :
    truncf .bf16 (transpose S1024x4096 [1, 0] (Host.dotGeneral dot_S8704x4096_S8704x1024_S4096x1024_0_0_1_1_n_n none
      (back (extf .f32 g bitsLt_bf16_f32) (pre x w) (pos x w)) (extf .f32 x bitsLt_bf16_f32))
      transposes_S4096x1024_S1024x4096_1_0) bitsLt_bf16_f32 = Cert.FirstWeightIdeal.Steps.tslope x g (hid x w) := by
  funext i
  obtain ⟨p, q, rfl⟩ : ∃ (p : Fin 1024) (q : Fin 4096), i = ix2 p q := ⟨i 0, i 1, eta2 i⟩
  refine (grad_at _ x p q).trans (Finset.sum_congr rfl fun k _ => (mul_comm _ _).trans (congrArg (x (ix2 k p) * ·) ?_))
  have e := Cert.MlpMatch.saved x w k q
  rw [pos_at] at e
  rw [back_at, pos_at]
  refine (slope _ _ (e ▸ sep k q)).symm.trans ?_
  rw [e]
  rfl

end Cert.FirstWeightReferenceIdeal.Read

namespace Cert.Proof

open Idealize.ShloMosaic Idealize.SL.Sem

/-- The second precondition takes the conditions of the first. -/
theorem conditions1 : Cert.Pre_separated1.Facts where
  bitsLt_bf16_f32 := by decide
  bcast_S_S8704x4096 := by decide
  reducesTo_S8704x4096_S_d0_1 := by decide
  h_S_ := by decide
  dot_S8704x1024_S1024x4096_S8704x4096_1_0_0_1_n_n_wf := by decide

instance : Cert.Pre_separated1.Facts := conditions1

/-- The second precondition is the first, of its first two arguments. -/
theorem same_test (h : FVec Ideal Cert.Pre_separated.S8704x1024 .bf16) (w : FVec Ideal Cert.Pre_separated.S1024x4096 .bf16)
    (g : FVec Ideal Cert.Pre_separated.S8704x4096 .bf16) : Cert.Pre_separated1.fn (F := Ideal) h w g
      = Cert.Pre_separated.fn (F := Ideal) h w (fun _ => (0 : EReal)) (fun _ => (0 : EReal)) := rfl

theorem first_weight : Cert.algebraic_FirstWeightIdeal_FirstWeightReferenceIdeal_pre_separated1 := by
  intro m g m' g' hm agree
  refine ⟨_, Cert.FirstWeightIdeal.Value.run (F := Ideal) m g, ?_⟩
  refine (θ_run _ _ _).mono (fun r h c => ?_) (Cert.FirstWeightReferenceIdeal.Value.run (F := Ideal) m' g')
  obtain ⟨a0, a1, a2⟩ := agree c
  have sep := Cert.Pre_separated.apart _ _ _ _ ((same_test _ _ _).symm.trans (hm c))
  obtain ⟨e, rest⟩ := h c
  rw [a0, a1, a2] at e
  exact ⟨e.trans ((Cert.FirstWeightReferenceIdeal.Read.grad_eq _ _ _ sep).trans (Cert.FirstWeightIdeal.Steps.result m c).symm), rest⟩

end Cert.Proof

end
-- ==== Proof.SecondWeight.lean ====
/- The gradient of the second product's weights: each block of the result is accumulated over four bands of rows, and the four bands
   together are all the rows. -/
module

public import proofs.«01_k».proof.Proof.Gen.SecondWeightIdeal.Value
public import proofs.«01_k».proof.Proof.Gen.SecondWeightReferenceIdeal.Run
public import proofs.«01_k».proof.Proof.Chunks
public import proofs.«01_k».proof.Proof.MlpArray
public import Idealize.ShloMosaic.Lib.Pipeline.ValueKit.Tiles

@[expose] public section

set_option maxRecDepth 16384

noncomputable section

namespace Cert.SecondWeightIdeal.Steps

open Cert.SecondWeightIdeal Cert.SecondWeightIdeal.Gen Cert.Chunks Idealize.ShloMosaic Idealize.ShloMosaic.TcCoe
open Cert.MlpIdeal.Arrays (zeros ext2 eta2)

section
variable (cc : Dev nD) (i : grid0.Coords) (a3 : Memref sig .tc .vmem S2176x1024 .bf16) (h3 : a3.IsWhole)
  (a4 : Memref sig .tc .vmem S2176x1024 .f32) (h4 : a4.IsWhole) (a5 : Memref sig .tc .vmem S1024x1024 .bf16) (h5 : a5.IsWhole)
  (a6 : Memref sig .tc .vmem S1024x1024 .f32) (h6 : a6.IsWhole) (x : Vec Ideal S2176x1024 .bf16) (g : Vec Ideal S2176x1024 .f32)
  (s : Vec Ideal S1024x1024 .f32)

theorem first (hc0 hc1) : sout0_A_0 cc i a3 h3 a4 h4 a5 h5 a6 h6 hc0 hc1 x g = k0_pay2 (F := Ideal) (k0_pay1 (F := Ideal)) x g := by
  unfold sout0_A_0
  rw [View.read_writes_junk_eq_canon]
  unfold kernelRun0_A
  dsimp only
  sl_unfold_words
  simp only [View.readAt_eq_ld, h3.read_unread, h4.read_unread]
  rw [View.canon_cons_unit_zero zeros, View.readCov_unit_zero _ zeros, View.ld_unit_zero zeros, View.ld_unit_zero zeros]

theorem next (hc0 hc1) : sout0_B_0 cc i a3 h3 a4 h4 a5 h5 a6 h6 hc0 hc1 x g s = k0_pay2 (F := Ideal) s x g := by
  unfold sout0_B_0
  rw [View.read_writes_junk_eq_canon]
  unfold kernelRun0_B
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem last (hc0 hc1) : sout0_C_0 cc i a3 h3 a4 h4 a5 h5 a6 h6 hc0 hc1 x g s = k0_pay2 (F := Ideal) s x g := by
  unfold sout0_C_0
  rw [View.read_writes_junk_eq_canon]
  unfold kernelRun0_C
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem stored (hc0 hc1) : out0_C_2 cc i a3 h3 a4 h4 a5 h5 a6 h6 hc0 hc1 x g s = k0_pay3 (F := Ideal) (k0_pay2 (F := Ideal) s x g) := by
  unfold out0_C_2
  rw [View.read_writes_junk_eq_canon]
  unfold kernelRun0_C
  dsimp only
  sl_unfold_words
  simp only [View.readAt_eq_ld, h3.read_unread, h4.read_unread, h6.read_unread]
  rw [View.canon_cons_unit_zero zeros, View.readCov_unit_zero _ zeros, View.ld_unit_zero zeros, View.ld_unit_zero zeros, View.ld_unit_zero zeros]

theorem pay2_at (p q : Fin 1024) : k0_pay2 (F := Ideal) s x g (ix2 p q) = (s (ix2 p q) + ∑ r : Fin 2176, x (ix2 r p) * g (ix2 r q) : EReal) := by
  pointwise [k0_pay2]

theorem pay1_at (p q : Fin 1024) : k0_pay1 (F := Ideal) (ix2 p q) = (0 : EReal) := by
  pointwise [k0_pay1]

end

variable (m : (ℓ : Loc nD τ sig) → Buf (Elt Ideal) ℓ) (c : Dev nD)

/-- The saved squares and the cotangent, as the call finds them. -/
abbrev az : FVec Ideal S8704x4096 .bf16 := V m c main_arg0
abbrev ag : FVec Ideal S8704x1024 .f32 := V m c main_arg2

theorem at0 : ∀ t : Fin cfg0.N, win0_0.index t = ![t.val % 4, t.val / 4] ∧ win0_1.index t = ![t.val % 4, 0]
    ∧ win0_2.index t = ![t.val / 4, 0] := (by decide +kernel : ∀ t : Fin grid0.N, _)

theorem block0 (t : Fin cfg0.N) (r : Fin 2176) (p : Fin 1024) (R : Fin 8704) (P : Fin 4096) (hR : R.val = 2176 * (t.val % 4) + r.val)
    (hP : P.val = t.val / 4 * 1024 + p.val) : iblk m c 0 t (ix2 r p) = az m c (ix2 R P) := by
  refine congrArg (V m c main_arg0) (ext2 ?_ ?_)
  · refine (show _ = win0_0.index t (0 : Fin 2) * 2176 + 1 * r.val from rfl).trans ?_
    rw [(at0 t).1, Nat.one_mul]; exact (Nat.mul_comm _ _ ▸ hR).symm
  · refine (show _ = win0_0.index t (1 : Fin 2) * 1024 + 1 * p.val from rfl).trans ?_
    rw [(at0 t).1, Nat.one_mul]; exact hP.symm

theorem block1 (t : Fin cfg0.N) (r : Fin 2176) (q : Fin 1024) (R : Fin 8704) (hR : R.val = 2176 * (t.val % 4) + r.val) :
    iblk m c 1 t (ix2 r q) = ag m c (ix2 R q) := by
  refine congrArg (V m c main_arg2) (ext2 ?_ ?_)
  · refine (show _ = win0_1.index t (0 : Fin 2) * 2176 + 1 * r.val from rfl).trans ?_
    rw [(at0 t).2.1, Nat.one_mul]; exact (Nat.mul_comm _ _ ▸ hR).symm
  · refine (show _ = win0_1.index t (1 : Fin 2) * 1024 + 1 * q.val from rfl).trans ?_
    rw [(at0 t).2.1, Nat.one_mul]; exact Nat.zero_add _

theorem place (t : Fin cfg0.N) (p q : Fin 1024) (P : Fin 4096) (hP : P.val = t.val / 4 * 1024 + p.val) :
    ((cfg0.win 2).blk t).view.emb (ix2 p q) = ix2 P q := by
  refine ext2 ?_ ?_
  · refine (show _ = win0_2.index t (0 : Fin 2) * 1024 + 1 * p.val from rfl).trans ?_
    rw [(at0 t).2.2, Nat.one_mul]; exact hP.symm
  · refine (show _ = win0_2.index t (1 : Fin 2) * 1024 + 1 * q.val from rfl).trans ?_
    rw [(at0 t).2.2, Nat.one_mul]; exact Nat.zero_add _

/-- The `k`-th term of the gradient's entry. -/
def term (P : Fin 4096) (q : Fin 1024) (k : Fin 8704) : EReal := (az m c (ix2 k P) * ag m c (ix2 k q) : EReal)

/-- One point adds its band of rows. -/
theorem add (t : Fin cfg0.N) (p q : Fin 1024) (P : Fin 4096) (hP : P.val = t.val / 4 * 1024 + p.val) (s : Vec Ideal S1024x1024 .f32)
    (hs : s (ix2 p q) = upTo (term m c P q) (2176 * (t.val % 4))) :
    k0_pay2 (F := Ideal) s (iblk m c 0 t) (iblk m c 1 t) (ix2 p q) = upTo (term m c P q) (2176 * (t.val % 4) + 2176) := by
  rw [pay2_at, hs]
  refine (upTo_add _ _ _ (by omega) fun r R hR => ?_).symm
  rw [block0 m c t r p R P hR hP, block1 m c t r q R hR]
  rfl

/-- What the accumulator holds after a point: the bands of rows so far. -/
theorem carried (n : ℕ) (hn : n < cfg0.N) (p q : Fin 1024) (P : Fin 4096) (hP : P.val = n / 4 * 1024 + p.val) :
    (outsAt0 m c n hn).2 (ix2 p q) = upTo (term m c P q) (2176 * (n % 4) + 2176) := by
  induction n using Nat.strong_induction_on generalizing P with
  | _ n ih =>
    let t : Fin cfg0.N := ⟨n, hn⟩
    by_cases h0 : n % 4 = 0
    · have h1 : ¬ n % 4 = 3 := by omega
      refine (congrFun (congrArg Prod.snd (outsAt0_A m c t h0 h1)) _).trans ?_
      dsimp only
      rw [first]
      refine add m c t p q P hP _ ?_
      rw [pay1_at, show t.val % 4 = 0 from h0]
      rfl
    · have prev := ih (n - 1) (by omega) (by omega) P (by omega)
      rw [show 2176 * ((n - 1) % 4) + 2176 = 2176 * (n % 4) by omega] at prev
      by_cases h1 : n % 4 = 3
      · refine (congrFun (congrArg Prod.snd (outsAt0_C m c t h0 h1)) _).trans ?_
        dsimp only
        rw [last]
        exact add m c t p q P hP _ prev
      · refine (congrFun (congrArg Prod.snd (outsAt0_B m c t h0 h1)) _).trans ?_
        dsimp only
        rw [next]
        exact add m c t p q P hP _ prev

/-- What the last point of a block stores. -/
theorem written (t : Fin cfg0.N) (h1 : t.val % 4 = 3) (p q : Fin 1024) (P : Fin 4096) (hP : P.val = t.val / 4 * 1024 + p.val) :
    (outsAt0 m c t.val t.isLt).1 (ix2 p q) = ∑ k, term m c P q k := by
  have h0 : ¬ t.val % 4 = 0 := by omega
  refine (congrFun (congrArg Prod.fst (outsAt0_C m c t h0 h1)) _).trans ?_
  dsimp only
  rw [stored]
  refine (show _ = k0_pay2 (F := Ideal) _ (iblk m c 0 t) (iblk m c 1 t) (ix2 p q) from rfl).trans ?_
  refine (add m c t p q P hP _ ?_).trans (by rw [h1]; exact upTo_all _)
  refine (carried m c (t.val - 1) _ p q P (by omega)).trans ?_
  rw [show 2176 * ((t.val - 1) % 4) + 2176 = 2176 * (t.val % 4) by omega]

/-- The transpose of one operand times the other. -/
def tprod (x : Vec Ideal S8704x4096 .bf16) (g : Vec Ideal S8704x1024 .f32) : Vec Ideal S4096x1024 .bf16 := fun i =>
  (∑ k : Fin 8704, x (ix2 k (i 0)) * g (ix2 k (i 1)) : EReal)

theorem array : (dats m 0 c).arrAt 2 cfg0.N = tprod (V m c main_arg0) (V m c main_arg2) := by
  refine (dats m 0 c).arrAt_eq_of_cover 2 _ (fun t ht => ?_) fun i => ?_
  · show (cfg0.win 2).cut (grid0.coords t) ((dats m 0 c).after 2 t) = _
    rw [after0_2]
    have h1 := (flush0_2 t).1 ht
    have hN : t.val < 16 := t.isLt.trans_eq N_0
    funext y
    obtain ⟨p, q, rfl⟩ : ∃ (p q : Fin 1024), y = ix2 p q := ⟨y 0, y 1, eta2 y⟩
    let P : Fin 4096 := ⟨t.val / 4 * 1024 + p.val, by omega⟩
    exact (written m c t h1 p q P rfl).trans (congrArg (tprod (V m c main_arg0) (V m c main_arg2)) (place t p q P rfl).symm)
  · have h0 : (i 0).val < 4096 := (i 0).isLt
    let t : Fin cfg0.N := ⟨4 * ((i 0).val / 1024) + 3, by rw [show cfg0.N = 16 from N_0]; omega⟩
    refine ⟨t, (flush0_2 t).2 (by simp only [t]; omega), ?_⟩
    have e := place t ⟨(i 0).val % 1024, by omega⟩ (i 1) (i 0) (by simp only [t]; omega)
    rw [eta2 i]
    exact e ▸ View.emb_mem_set _ _

theorem result : Value.G2 m c = tprod (m ((c : Thread nD τ).loc main_arg0)) (m ((c : Thread nD τ).loc main_arg2)) :=
  (Value.final2 m c).symm.trans (array m c)

end Cert.SecondWeightIdeal.Steps

namespace Cert.SecondWeightReferenceIdeal.Read

open Cert.SecondWeightReferenceIdeal Cert.SecondWeightReferenceIdeal.Gen Idealize.ShloMosaic Idealize.ShloMosaic.TcCoe
open Cert.SecondWeightReferenceIdeal.Facts
open Cert.MlpIdeal.Arrays (eta2)

theorem grad_at (x : FVec Ideal S8704x4096 .bf16) (g : FVec Ideal S8704x1024 .f32) (P : Fin 4096) (q : Fin 1024) :
    truncf .bf16 (transpose S4096x1024 [1, 0] (Host.dotGeneral dot_S8704x1024_S8704x4096_S1024x4096_0_0_1_1_n_n none g (extf .f32 x bitsLt_bf16_f32))
      transposes_S1024x4096_S4096x1024_1_0) bitsLt_bf16_f32 (ix2 P q) = (∑ k : Fin 8704, g (ix2 k q) * x (ix2 k P) : EReal) := by
  pointwise []

theorem grad_eq (x : FVec Ideal S8704x4096 .bf16) (g : FVec Ideal S8704x1024 .f32) :
    truncf .bf16 (transpose S4096x1024 [1, 0] (Host.dotGeneral dot_S8704x1024_S8704x4096_S1024x4096_0_0_1_1_n_n none g (extf .f32 x bitsLt_bf16_f32))
      transposes_S1024x4096_S4096x1024_1_0) bitsLt_bf16_f32 = Cert.SecondWeightIdeal.Steps.tprod x g := by
  funext i
  obtain ⟨P, q, rfl⟩ : ∃ (P : Fin 4096) (q : Fin 1024), i = ix2 P q := ⟨i 0, i 1, eta2 i⟩
  exact (grad_at x g P q).trans (Finset.sum_congr rfl fun k _ => mul_comm _ _)

end Cert.SecondWeightReferenceIdeal.Read

namespace Cert.Proof

open Idealize.ShloMosaic Idealize.SL.Sem

theorem second_weight : Cert.algebraic_SecondWeightIdeal_SecondWeightReferenceIdeal := by
  intro m g m' g' _ agree
  refine ⟨_, Cert.SecondWeightIdeal.Value.run (F := Ideal) m g, ?_⟩
  refine (θ_run _ _ _).mono (fun r h c => ?_) (Cert.SecondWeightReferenceIdeal.Value.run (F := Ideal) m' g')
  obtain ⟨a0, a1, a2⟩ := agree c
  obtain ⟨e, rest⟩ := h c
  rw [a0, a2] at e
  exact ⟨e.trans ((Cert.SecondWeightReferenceIdeal.Read.grad_eq _ _).trans (Cert.SecondWeightIdeal.Steps.result m c).symm), rest⟩

end Cert.Proof

end
-- ==== Proof.RowBlocks.lean ====
/- Products of a matrix of 8704 rows, taken in blocks of 512 rows against a whole weight: where a block's entries lie, what a point writes,
   and that every entry of the result is written. -/
module

public import proofs.«01_k».proof.Proof.MlpArray

@[expose] public section

noncomputable section

namespace Cert.RowBlocks

open Idealize.ShloMosaic Idealize.ShloMosaic.TcCoe
open Cert.MlpIdeal.Arrays (ext2 eta2)

/-- The product of a matrix of 8704 rows and another, at either width of its result. -/
def prod {n p : ℕ} (e : FTy) (x : FVec Ideal ⟨2, ![8704, n]⟩ .bf16) (w : FVec Ideal ⟨2, ![n, p]⟩ .bf16) : FVec Ideal ⟨2, ![8704, p]⟩ e := fun i =>
  (∑ k : Fin n, x (ix2 (i 0) k) * w (ix2 k (i 1)) : EReal)

/-- The product of a matrix of 8704 rows and another's transpose. -/
def prodT {n p : ℕ} (e : FTy) (x : FVec Ideal ⟨2, ![8704, n]⟩ e) (w : FVec Ideal ⟨2, ![p, n]⟩ .bf16) : FVec Ideal ⟨2, ![8704, p]⟩ .bf16 := fun i =>
  (∑ k : Fin n, x (ix2 (i 0) k) * w (ix2 (i 1) k) : EReal)

/-- The index, in an array of 8704 rows, of an entry of the `t`-th block of 512 rows. -/
theorem in_band {n : ℕ} {i : (⟨2, ![8704, n]⟩ : Shape).Idx} {b : Fin 2 → ℕ} {t : ℕ} (hb : b = ![t, 0]) (r : Fin 512) (k : Fin n) (R : Fin 8704)
    (hR : R.val = t * 512 + r.val) (h0 : (i 0).val = b 0 * 512 + 1 * r.val) (h1 : (i 1).val = b 1 * n + 1 * k.val) : i = ix2 R k := by
  subst hb
  refine ext2 (h0.trans ?_) (h1.trans ?_)
  · rw [Nat.one_mul]; exact hR.symm
  · rw [Nat.one_mul]; exact (congrArg (· + k.val) (Nat.zero_mul n)).trans (Nat.zero_add _)

/-- The index of an entry of an array that is one block. -/
theorem in_whole {a n : ℕ} {i : (⟨2, ![a, n]⟩ : Shape).Idx} {b : Fin 2 → ℕ} (hb : b = ![0, 0]) (j : Fin a) (k : Fin n)
    (h0 : (i 0).val = b 0 * a + 1 * j.val) (h1 : (i 1).val = b 1 * n + 1 * k.val) : i = ix2 j k := by
  subst hb
  refine ext2 (h0.trans ?_) (h1.trans ?_)
  · rw [Nat.one_mul]; exact (congrArg (· + j.val) (Nat.zero_mul a)).trans (Nat.zero_add _)
  · rw [Nat.one_mul]; exact (congrArg (· + k.val) (Nat.zero_mul n)).trans (Nat.zero_add _)

section
variable {N p : ℕ} (hN : N = 17) (emb : Fin N → (⟨2, ![512, p]⟩ : Shape).Idx → (⟨2, ![8704, p]⟩ : Shape).Idx)
  (place : ∀ (t : Fin N) (r : Fin 512) (j : Fin p) (R : Fin 8704), R.val = t.val * 512 + r.val → emb t (ix2 r j) = ix2 R j)

include hN place

/-- A point writes its rows of the product: its block of rows times the weight. -/
theorem rows {n : ℕ} {e : FTy} {X : FVec Ideal ⟨2, ![8704, n]⟩ .bf16} {W : FVec Ideal ⟨2, ![n, p]⟩ .bf16} {x : FVec Ideal ⟨2, ![512, n]⟩ .bf16}
    {w : FVec Ideal ⟨2, ![n, p]⟩ .bf16} {o : FVec Ideal ⟨2, ![512, p]⟩ e} (t : Fin N)
    (tile : ∀ (r : Fin 512) (j : Fin p), o (ix2 r j) = (∑ k : Fin n, x (ix2 r k) * w (ix2 k j) : EReal))
    (band : ∀ (r : Fin 512) (k : Fin n) (R : Fin 8704), R.val = t.val * 512 + r.val → x (ix2 r k) = X (ix2 R k))
    (whole : ∀ (k : Fin n) (j : Fin p), w (ix2 k j) = W (ix2 k j)) : o = fun y => prod e X W (emb t y) := by
  have ht : t.val < 17 := t.isLt.trans_eq hN
  funext y
  obtain ⟨r, j, rfl⟩ : ∃ (r : Fin 512) (j : Fin p), y = ix2 r j := ⟨y 0, y 1, eta2 y⟩
  let R : Fin 8704 := ⟨t.val * 512 + r.val, by omega⟩
  refine ((tile r j).trans ?_).trans (congrArg (prod e X W) (place t r j R rfl).symm)
  exact Finset.sum_congr rfl fun k _ => congr (congrArg (fun a b : EReal => a * b) (band r k R rfl)) (whole k j)

/-- The same, against the weight's transpose. -/
theorem rowsT {n : ℕ} {e : FTy} {X : FVec Ideal ⟨2, ![8704, n]⟩ e} {W : FVec Ideal ⟨2, ![p, n]⟩ .bf16} {x : FVec Ideal ⟨2, ![512, n]⟩ e}
    {w : FVec Ideal ⟨2, ![p, n]⟩ .bf16} {o : FVec Ideal ⟨2, ![512, p]⟩ .bf16} (t : Fin N)
    (tile : ∀ (r : Fin 512) (j : Fin p), o (ix2 r j) = (∑ k : Fin n, x (ix2 r k) * w (ix2 j k) : EReal))
    (band : ∀ (r : Fin 512) (k : Fin n) (R : Fin 8704), R.val = t.val * 512 + r.val → x (ix2 r k) = X (ix2 R k))
    (whole : ∀ (j : Fin p) (k : Fin n), w (ix2 j k) = W (ix2 j k)) : o = fun y => prodT e X W (emb t y) := by
  have ht : t.val < 17 := t.isLt.trans_eq hN
  funext y
  obtain ⟨r, j, rfl⟩ : ∃ (r : Fin 512) (j : Fin p), y = ix2 r j := ⟨y 0, y 1, eta2 y⟩
  let R : Fin 8704 := ⟨t.val * 512 + r.val, by omega⟩
  refine ((tile r j).trans ?_).trans (congrArg (prodT e X W) (place t r j R rfl).symm)
  exact Finset.sum_congr rfl fun k _ => congr (congrArg (fun a b : EReal => a * b) (band r k R rfl)) (whole j k)

/-- Every entry of the result lies in some point's block. -/
theorem found (S : Fin N → Set (⟨2, ![8704, p]⟩ : Shape).Idx) (mem : ∀ t y, emb t y ∈ S t) (i : (⟨2, ![8704, p]⟩ : Shape).Idx) : ∃ t, i ∈ S t := by
  have h0 : (i 0).val < 8704 := (i 0).isLt
  let t : Fin N := ⟨(i 0).val / 512, by omega⟩
  have e := place t ⟨(i 0).val % 512, by omega⟩ (i 1) (i 0) (by simp only [t]; omega)
  rw [eta2 i]
  exact ⟨t, e ▸ mem t _⟩

end

end Cert.RowBlocks

end
-- ==== Proof.MixArray.lean ====
/- The two projections of the mixers, forward and in their inputs' gradients: what each of the four calls leaves in its array, index by
   index, as a function of the arrays that it reads. -/
module

public import proofs.«01_k».proof.Proof.Gen.MixIdeal.Frame
public import proofs.«01_k».proof.Proof.RowBlocks

@[expose] public section

set_option maxRecDepth 16384

noncomputable section

namespace Cert.MixIdeal.Arrays

open Cert.MixIdeal Cert.MixIdeal.Gen Idealize.ShloMosaic Idealize.ShloMosaic.TcCoe
open Cert.MlpIdeal.Arrays (zeros ext2 eta2)
open Cert.RowBlocks

theorem tile0 (x : Vec Ideal S512x1024 .bf16) (w : Vec Ideal S1024x1280 .bf16) (r : Fin 512) (j : Fin 1280) :
    k0_pay1 (F := Ideal) x w (ix2 r j) = (∑ k : Fin 1024, x (ix2 r k) * w (ix2 k j) : EReal) := by
  pointwise [k0_pay1]

theorem tile1 (x : Vec Ideal S512x2560 .f32) (w : Vec Ideal S1024x2560 .bf16) (r : Fin 512) (j : Fin 1024) :
    k1_pay1 (F := Ideal) x w (ix2 r j) = (∑ k : Fin 2560, x (ix2 r k) * w (ix2 j k) : EReal) := by
  pointwise [k1_pay1]

theorem tile2 (x : Vec Ideal S512x1024 .bf16) (w : Vec Ideal S1024x1024 .bf16) (r : Fin 512) (j : Fin 1024) :
    k2_pay1 (F := Ideal) x w (ix2 r j) = (∑ k : Fin 1024, x (ix2 r k) * w (ix2 k j) : EReal) := by
  pointwise [k2_pay1]

theorem tile3 (x : Vec Ideal S512x1024 .f32) (w : Vec Ideal S1024x1024 .bf16) (r : Fin 512) (j : Fin 1024) :
    k3_pay1 (F := Ideal) x w (ix2 r j) = (∑ k : Fin 1024, x (ix2 r k) * w (ix2 j k) : EReal) := by
  pointwise [k3_pay1]

variable (V : (c : Dev nD) → (b : Ref sig .tc) → Buf (Elt Ideal) ((c : Thread nD τ).loc b)) (c : Dev nD)

/-! ### The projection into the mixers: blocks of 512 rows by 1280 columns -/

theorem at0 : ∀ t : Fin cfg0.N, win0_0.index t = ![t.val % 17, 0] ∧ win0_1.index t = ![0, t.val / 17]
    ∧ win0_2.index t = ![t.val % 17, t.val / 17] := (by decide +kernel : ∀ t : Fin grid0.N, _)

theorem band0 (t : Fin cfg0.N) (r : Fin 512) (k : Fin 1024) (R : Fin 8704) (hR : R.val = t.val % 17 * 512 + r.val) :
    iblk0 V c 0 t (ix2 r k) = V c main_arg0 (ix2 R k) := by
  refine congrArg (V c main_arg0) (ext2 ?_ ?_)
  · refine (show _ = win0_0.index t (0 : Fin 2) * 512 + 1 * r.val from rfl).trans ?_
    rw [(at0 t).1, Nat.one_mul]; exact hR.symm
  · refine (show _ = win0_0.index t (1 : Fin 2) * 1024 + 1 * k.val from rfl).trans ?_
    rw [(at0 t).1, Nat.one_mul]; exact Nat.zero_add _

theorem wide0 (t : Fin cfg0.N) (k : Fin 1024) (j : Fin 1280) (J : Fin 2560) (hJ : J.val = t.val / 17 * 1280 + j.val) :
    iblk0 V c 1 t (ix2 k j) = V c main_arg1 (ix2 k J) := by
  refine congrArg (V c main_arg1) (ext2 ?_ ?_)
  · refine (show _ = win0_1.index t (0 : Fin 2) * 1024 + 1 * k.val from rfl).trans ?_
    rw [(at0 t).2.1, Nat.one_mul]; exact Nat.zero_add _
  · refine (show _ = win0_1.index t (1 : Fin 2) * 1280 + 1 * j.val from rfl).trans ?_
    rw [(at0 t).2.1, Nat.one_mul]; exact hJ.symm

theorem place0 (t : Fin cfg0.N) (r : Fin 512) (j : Fin 1280) (R : Fin 8704) (J : Fin 2560) (hR : R.val = t.val % 17 * 512 + r.val)
    (hJ : J.val = t.val / 17 * 1280 + j.val) : ((cfg0.win 2).blk t).view.emb (ix2 r j) = ix2 R J := by
  refine ext2 ?_ ?_
  · refine (show _ = win0_2.index t (0 : Fin 2) * 512 + 1 * r.val from rfl).trans ?_
    rw [(at0 t).2.2, Nat.one_mul]; exact hR.symm
  · refine (show _ = win0_2.index t (1 : Fin 2) * 1280 + 1 * j.val from rfl).trans ?_
    rw [(at0 t).2.2, Nat.one_mul]; exact hJ.symm

theorem array0 : (dat0 (F := Ideal) V c).arrAt 2 cfg0.N = prod .f32 (V c main_arg0) (V c main_arg1) := by
  refine (dat0 V c).arrAt_eq_of_cover 2 _ (fun t _ => ?_) fun i => ?_
  · show (cfg0.win 2).cut (grid0.coords t) ((dat0 V c).after 2 t) = _
    rw [after0_2]
    unfold out0_2
    rw [View.canon_unit_zero zeros, View.ld_unit_zero zeros, View.ld_unit_zero zeros]
    have ht : t.val < 34 := t.isLt.trans_eq N_0
    funext y
    obtain ⟨r, j, rfl⟩ : ∃ (r : Fin 512) (j : Fin 1280), y = ix2 r j := ⟨y 0, y 1, eta2 y⟩
    let R : Fin 8704 := ⟨t.val % 17 * 512 + r.val, by omega⟩
    let J : Fin 2560 := ⟨t.val / 17 * 1280 + j.val, by omega⟩
    refine ((tile0 _ _ r j).trans ?_).trans (congrArg (prod .f32 (V c main_arg0) (V c main_arg1)) (place0 t r j R J rfl rfl).symm)
    simp only [band0 V c t r _ R rfl, wide0 V c t _ j J rfl]
    rfl
  · have h0 : (i 0).val < 8704 := (i 0).isLt
    have h1 : (i 1).val < 2560 := (i 1).isLt
    let t : Fin cfg0.N := ⟨17 * ((i 1).val / 1280) + (i 0).val / 512, by rw [show cfg0.N = 34 from N_0]; omega⟩
    refine ⟨t, flush0_2 t, ?_⟩
    have e := place0 t ⟨(i 0).val % 512, by omega⟩ ⟨(i 1).val % 1280, by omega⟩ (i 0) (i 1)
      (by simp only [t]; omega) (by simp only [t]; omega)
    rw [eta2 i]
    exact e ▸ View.emb_mem_set _ _

/-! ### The gradient of its input: blocks of 512 rows -/

theorem at1 : ∀ t : Fin cfg1.N, win1_0.index t = ![t.val, 0] ∧ win1_1.index t = ![0, 0]
    ∧ win1_2.index t = ![t.val, 0] := (by decide +kernel : ∀ t : Fin grid1.N, _)

theorem place1 (t : Fin cfg1.N) (r : Fin 512) (j : Fin 1024) (R : Fin 8704) (hR : R.val = t.val * 512 + r.val) :
    ((cfg1.win 2).blk t).view.emb (ix2 r j) = ix2 R j :=
  in_band (at1 t).2.2 r j R hR rfl rfl

theorem array1 : (dat1 (F := Ideal) V c).arrAt 2 cfg1.N = prodT .f32 (V c main_arg2) (V c main_arg1) := by
  refine (dat1 V c).arrAt_eq_of_cover 2 _ (fun t _ => ?_) fun i => ?_
  · show (cfg1.win 2).cut (grid1.coords t) ((dat1 V c).after 2 t) = _
    rw [after1_2]
    unfold out1_2
    rw [View.canon_unit_zero zeros, View.ld_unit_zero zeros, View.ld_unit_zero zeros]
    exact rowsT N_1 (fun t => ((cfg1.win 2).blk t).view.emb) place1 t (tile1 _ _)
      (fun r k R hR => congrArg (V c main_arg2) (in_band (at1 t).1 r k R hR rfl rfl))
      fun a b => congrArg (V c main_arg1) (in_whole (at1 t).2.1 a b rfl rfl)
  · obtain ⟨t, ht⟩ := found N_1 (fun t => ((cfg1.win 2).blk t).view.emb) place1 (fun t => ((cfg1.win 2).blk t).view.set)
      (fun _ _ => View.emb_mem_set _ _) i
    exact ⟨t, flush1_2 t, ht⟩

/-! ### The projection out of the mixers: blocks of 512 rows -/

theorem at2 : ∀ t : Fin cfg2.N, win2_0.index t = ![t.val, 0] ∧ win2_1.index t = ![0, 0]
    ∧ win2_2.index t = ![t.val, 0] := (by decide +kernel : ∀ t : Fin grid2.N, _)

theorem place2 (t : Fin cfg2.N) (r : Fin 512) (j : Fin 1024) (R : Fin 8704) (hR : R.val = t.val * 512 + r.val) :
    ((cfg2.win 2).blk t).view.emb (ix2 r j) = ix2 R j :=
  in_band (at2 t).2.2 r j R hR rfl rfl

theorem array2 : (dat2 (F := Ideal) V c).arrAt 2 cfg2.N = prod .f32 (V c main_arg3) (V c main_arg4) := by
  refine (dat2 V c).arrAt_eq_of_cover 2 _ (fun t _ => ?_) fun i => ?_
  · show (cfg2.win 2).cut (grid2.coords t) ((dat2 V c).after 2 t) = _
    rw [after2_2]
    unfold out2_2
    rw [View.canon_unit_zero zeros, View.ld_unit_zero zeros, View.ld_unit_zero zeros]
    exact rows N_2 (fun t => ((cfg2.win 2).blk t).view.emb) place2 t (tile2 _ _)
      (fun r k R hR => congrArg (V c main_arg3) (in_band (at2 t).1 r k R hR rfl rfl))
      fun a b => congrArg (V c main_arg4) (in_whole (at2 t).2.1 a b rfl rfl)
  · obtain ⟨t, ht⟩ := found N_2 (fun t => ((cfg2.win 2).blk t).view.emb) place2 (fun t => ((cfg2.win 2).blk t).view.set)
      (fun _ _ => View.emb_mem_set _ _) i
    exact ⟨t, flush2_2 t, ht⟩

/-! ### The gradient of its input: blocks of 512 rows -/

theorem at3 : ∀ t : Fin cfg3.N, win3_0.index t = ![t.val, 0] ∧ win3_1.index t = ![0, 0]
    ∧ win3_2.index t = ![t.val, 0] := (by decide +kernel : ∀ t : Fin grid3.N, _)

theorem place3 (t : Fin cfg3.N) (r : Fin 512) (j : Fin 1024) (R : Fin 8704) (hR : R.val = t.val * 512 + r.val) :
    ((cfg3.win 2).blk t).view.emb (ix2 r j) = ix2 R j :=
  in_band (at3 t).2.2 r j R hR rfl rfl

theorem array3 : (dat3 (F := Ideal) V c).arrAt 2 cfg3.N = prodT .f32 (V c main_arg5) (V c main_arg4) := by
  refine (dat3 V c).arrAt_eq_of_cover 2 _ (fun t _ => ?_) fun i => ?_
  · show (cfg3.win 2).cut (grid3.coords t) ((dat3 V c).after 2 t) = _
    rw [after3_2]
    unfold out3_2
    rw [View.canon_unit_zero zeros, View.ld_unit_zero zeros, View.ld_unit_zero zeros]
    exact rowsT N_3 (fun t => ((cfg3.win 2).blk t).view.emb) place3 t (tile3 _ _)
      (fun r k R hR => congrArg (V c main_arg5) (in_band (at3 t).1 r k R hR rfl rfl))
      fun a b => congrArg (V c main_arg4) (in_whole (at3 t).2.1 a b rfl rfl)
  · obtain ⟨t, ht⟩ := found N_3 (fun t => ((cfg3.win 2).blk t).view.emb) place3 (fun t => ((cfg3.win 2).blk t).view.set)
      (fun _ _ => View.emb_mem_set _ _) i
    exact ⟨t, flush3_2 t, ht⟩

end Cert.MixIdeal.Arrays

end
-- ==== Proof.MixRun.lean ====
/- The run of the projections' four calls, with the whole memory that it leaves, and each result as a function of the arguments. -/
module

public import proofs.«01_k».proof.Proof.MixArray

@[expose] public section

set_option maxRecDepth 16384

noncomputable section

namespace Cert.MixIdeal.Run

open Cert.MixIdeal Cert.MixIdeal.Gen Cert.MixIdeal.Arrays Idealize.ShloMosaic Idealize.ShloMosaic.TcCoe Idealize.SL Idealize.SL.RA
open Cert.RowBlocks
open Idealize.SL.BI Idealize.SL.BI.BIBase Idealize.SL.BI.Laws Idealize.SL.ProofMode Idealize.SL.Sem Idealize.ShloMosaic.Rounds
open scoped Idealize.SL.BI

variable {F : FTy → Type} [FloatOps F] (m : (ℓ : Loc nD τ sig) → Buf (Elt F) ℓ) (ρ : Dev nD → PrngReg)

/-- The tokens that the run starts with are those of its windows; nothing more is set aside for a device. -/
theorem tokens (u : UR sig nD τ) : (ownU u : sProp (MT nD τ sig Unit (Elt F) ℕ (UR sig nD τ) ℕ))
    ⊢ iprop(|={Set.univ}=> (BI.own (emb₁ u) ∗ bigSep Finset.univ (fun _ : Dev nD => (BI.emp : sProp (MT nD τ sig Unit (Elt F) ℕ (UR sig nD τ) ℕ))))) := by
  rw [BI.bigSep_emp_const]
  iintro H
  imodintro
  isplitl [H]
  · iapply (show (ownU u : sProp (MT nD τ sig Unit (Elt F) ℕ (UR sig nD τ) ℕ)) ⊢ BI.own (emb₁ u) from .rfl)
    iexact H
  · iempintro

set_option backward.isDefEq.respectTransparency.types false in
/-- After the run every array that outlives the calls holds what the fold of the four calls gives it. -/
theorem memory : θ_run defs (onTc (τ := τ) (main (F := F))) ⟨m, fun _ => 0, ρ⟩ fun r =>
    ∀ (c : Dev nD), ∀ b ∈ Pipeline.ucRefs τ sig, r.2.mem ((c : Thread nD τ).1, b) = W4 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := tokens _)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      · isplitl [Hp]
        · iexists _
          iexact Hp
        · iexists ∅
          iexact HO)
    (QY := fun c s => ∀ b ∈ Pipeline.ucRefs τ sig, s.mem ((c : Thread nD τ).1, b) = W4 m ρ c b)
    (hfin := fun c s' => by
      iintro ⟨⟨Hh, -⟩, HSI⟩
      unfold StableHlo.held
      imodintro
      iapply (pointsTo_read_all (Pipeline.ucRefs τ sig) (fun b => ((c : Thread nD τ).1, b)) (W4 m ρ c) s')
      isplitl [Hh] <;> iassumption)
    (hQ := fun _ h _ => h)

variable (m : (ℓ : Loc nD τ sig) → Buf (Elt Ideal) ℓ) (ρ : Dev nD → PrngReg) (c : Dev nD)

/-- The features: the first call's result. -/
theorem feat4 : W4 m ρ c (Proc.devRef .tc main_v0) = prod .f32 (V0 m ρ c main_arg0) (V0 m ρ c main_arg1) :=
  (W4_of m ρ c main_v0 (by decide)).trans ((W3_of m ρ c main_v0 (by decide)).trans ((W2_of m ρ c main_v0 (by decide)).trans
    ((W1_arr m ρ c 2).trans (array0 (V0 m ρ) c))))

/-- The gradient of the mixers' input: the second call's result. -/
theorem dh4 : W4 m ρ c (Proc.devRef .tc main_v1) = prodT .f32 (V0 m ρ c main_arg2) (V0 m ρ c main_arg1) := by
  refine (W4_of m ρ c main_v1 (by decide)).trans ((W3_of m ρ c main_v1 (by decide)).trans ?_)
  refine ((W2_arr m ρ c 2).trans (array1 (V1 m ρ) c)).trans ?_
  exact congr (congrArg (prodT .f32) (W1_of m ρ c main_arg2 (by decide))) (W1_of m ρ c main_arg1 (by decide))

/-- The mixers' output: the third call's result. -/
theorem mix4 : W4 m ρ c (Proc.devRef .tc main_v2) = prod .f32 (V0 m ρ c main_arg3) (V0 m ρ c main_arg4) := by
  refine ((W4_of m ρ c main_v2 (by decide)).trans ((W3_arr m ρ c 2).trans (array2 (V2 m ρ) c))).trans ?_
  exact congr (congrArg (prod .f32) ((W2_of m ρ c main_arg3 (by decide)).trans (W1_of m ρ c main_arg3 (by decide))))
    ((W2_of m ρ c main_arg4 (by decide)).trans (W1_of m ρ c main_arg4 (by decide)))

/-- The gradient of the joined mixers: the fourth call's result. -/
theorem dycat4 : W4 m ρ c (Proc.devRef .tc main_v3) = prodT .f32 (V0 m ρ c main_arg5) (V0 m ρ c main_arg4) := by
  refine ((W4_arr m ρ c 2).trans (array3 (V3 m ρ) c)).trans ?_
  exact congr
    (congrArg (prodT .f32) ((W3_of m ρ c main_arg5 (by decide)).trans ((W2_of m ρ c main_arg5 (by decide)).trans (W1_of m ρ c main_arg5 (by decide)))))
    ((W3_of m ρ c main_arg4 (by decide)).trans ((W2_of m ρ c main_arg4 (by decide)).trans (W1_of m ρ c main_arg4 (by decide))))

/-- The run leaves the four products in the results' arrays, and the arguments as they were. -/
theorem results : θ_run defs (onTc (τ := τ) (main (F := Ideal))) ⟨m, fun _ => 0, ρ⟩ fun r => ∀ c : Dev nD,
    r.2.mem ((c.tc : Thread nD τ).loc main_v0) = prod .f32 (V0 m ρ c main_arg0) (V0 m ρ c main_arg1)
    ∧ r.2.mem ((c.tc : Thread nD τ).loc main_v1) = prodT .f32 (V0 m ρ c main_arg2) (V0 m ρ c main_arg1)
    ∧ r.2.mem ((c.tc : Thread nD τ).loc main_v2) = prod .f32 (V0 m ρ c main_arg3) (V0 m ρ c main_arg4)
    ∧ r.2.mem ((c.tc : Thread nD τ).loc main_v3) = prodT .f32 (V0 m ρ c main_arg5) (V0 m ρ c main_arg4)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  (θ_run defs _ _).mono (fun _ h c =>
    ⟨(h c _ (mem_uc main_v0 (by decide))).trans (feat4 m ρ c), (h c _ (mem_uc main_v1 (by decide))).trans (dh4 m ρ c),
     (h c _ (mem_uc main_v2 (by decide))).trans (mix4 m ρ c), (h c _ (mem_uc main_v3 (by decide))).trans (dycat4 m ρ c),
     (h c _ (mem_uc main_arg0 (by decide))).trans (W4_main_arg0 m ρ c), (h c _ (mem_uc main_arg1 (by decide))).trans (W4_main_arg1 m ρ c),
     (h c _ (mem_uc main_arg2 (by decide))).trans (W4_main_arg2 m ρ c), (h c _ (mem_uc main_arg3 (by decide))).trans (W4_main_arg3 m ρ c),
     (h c _ (mem_uc main_arg4 (by decide))).trans (W4_main_arg4 m ρ c), (h c _ (mem_uc main_arg5 (by decide))).trans (W4_main_arg5 m ρ c)⟩)
    (memory m ρ)

end Cert.MixIdeal.Run

end
-- ==== Proof.MixMatch.lean ====
/- The four products of the projections are the reference's four results. -/
module

public import proofs.«01_k».proof.Proof.MixRun
public import proofs.«01_k».proof.Proof.Gen.MixReferenceIdeal.Run

@[expose] public section

noncomputable section

namespace Cert.MixMatch

open Cert.MixReferenceIdeal Cert.MixReferenceIdeal.Gen Idealize.ShloMosaic Idealize.ShloMosaic.TcCoe Idealize.SL.Sem
open Cert.MixReferenceIdeal.Facts
open Cert.MlpIdeal.Arrays (eta2)

variable (h y : FVec Ideal S8704x1024 .bf16) (wi : FVec Ideal S1024x2560 .bf16) (wo : FVec Ideal S1024x1024 .bf16)
  (df : FVec Ideal S8704x2560 .f32) (dm : FVec Ideal S8704x1024 .f32)

theorem feat_at (r : Fin 8704) (j : Fin 2560) :
    Host.dotGeneral dot_S8704x1024_S1024x2560_S8704x2560_1_0_0_1_n_n none (extf .f32 h bitsLt_bf16_f32) (extf .f32 wi bitsLt_bf16_f32) (ix2 r j)
      = (∑ k : Fin 1024, h (ix2 r k) * wi (ix2 k j) : EReal) := by pointwise []

theorem dh_at (r : Fin 8704) (j : Fin 1024) :
    truncf .bf16 (Host.dotGeneral dot_S8704x2560_S1024x2560_S8704x1024_1_1_0_0_n_n none df (extf .f32 wi bitsLt_bf16_f32)) bitsLt_bf16_f32 (ix2 r j)
      = (∑ k : Fin 2560, df (ix2 r k) * wi (ix2 j k) : EReal) := by pointwise []

theorem mix_at (r : Fin 8704) (j : Fin 1024) :
    Host.dotGeneral dot_S8704x1024_S1024x1024_S8704x1024_1_0_0_1_n_n none (extf .f32 y bitsLt_bf16_f32) (extf .f32 wo bitsLt_bf16_f32) (ix2 r j)
      = (∑ k : Fin 1024, y (ix2 r k) * wo (ix2 k j) : EReal) := by pointwise []

theorem dycat_at (r : Fin 8704) (j : Fin 1024) :
    truncf .bf16 (Host.dotGeneral dot_S8704x1024_S1024x1024_S8704x1024_1_1_0_0_n_n none dm (extf .f32 wo bitsLt_bf16_f32)) bitsLt_bf16_f32 (ix2 r j)
      = (∑ k : Fin 1024, dm (ix2 r k) * wo (ix2 j k) : EReal) := by pointwise []

/-- A matrix of 8704 rows is known by its entries. -/
theorem by_entries {p : ℕ} {e : FTy} {A B : FVec Ideal ⟨2, ![8704, p]⟩ e} (same : ∀ (r : Fin 8704) (j : Fin p), A (ix2 r j) = B (ix2 r j)) : A = B := by
  funext i
  rw [eta2 i]
  exact same (i 0) (i 1)

end Cert.MixMatch

namespace Cert.Proof

open Idealize.ShloMosaic Idealize.SL.Sem Cert.MixMatch

theorem mix : Cert.algebraic_MixIdeal_MixReferenceIdeal := by
  intro m g m' g' _ agree
  refine ⟨_, _, _, _, Cert.MixIdeal.Run.results m g, ?_⟩
  refine (θ_run _ _ _).mono (fun r h c => ?_) (Cert.MixReferenceIdeal.Value.run (F := Ideal) m' g')
  obtain ⟨a0, a1, a2, a3, a4, a5⟩ := agree c
  obtain ⟨e0, e1, e2, e3, rest⟩ := h c
  rw [a0, a1] at e0
  rw [a2, a1] at e1
  rw [a3, a4] at e2
  rw [a5, a4] at e3
  exact ⟨e0.trans (by_entries (feat_at _ _)), e1.trans (by_entries (dh_at _ _)), e2.trans (by_entries (mix_at _ _)),
    e3.trans (by_entries (dycat_at _ _)), rest⟩

end Cert.Proof

end
-- ==== Proof.InWeight.lean ====
/- The gradient of the weight of the projection into the mixers: a block of the result, 512 columns wide, is accumulated over the four
   bands of rows. -/
module

public import proofs.«01_k».proof.Proof.Gen.InWeightIdeal.Value
public import proofs.«01_k».proof.Proof.Gen.InWeightReferenceIdeal.Run
public import proofs.«01_k».proof.Proof.Chunks
public import proofs.«01_k».proof.Proof.MlpArray

@[expose] public section

set_option maxRecDepth 16384

noncomputable section

namespace Cert.InWeightIdeal.Steps

open Cert.InWeightIdeal Cert.InWeightIdeal.Gen Cert.Chunks Idealize.ShloMosaic Idealize.ShloMosaic.TcCoe
open Cert.MlpIdeal.Arrays (zeros ext2 eta2)

section
variable (cc : Dev nD) (i : grid0.Coords) (a3 : Memref sig .tc .vmem S2176x1024 .bf16) (h3 : a3.IsWhole)
  (a4 : Memref sig .tc .vmem S2176x512 .f32) (h4 : a4.IsWhole) (a5 : Memref sig .tc .vmem S1024x512 .bf16) (h5 : a5.IsWhole)
  (a6 : Memref sig .tc .vmem S1024x512 .f32) (h6 : a6.IsWhole) (x : Vec Ideal S2176x1024 .bf16) (g : Vec Ideal S2176x512 .f32)
  (s : Vec Ideal S1024x512 .f32)

theorem first (hc0 hc1) : sout0_A_0 cc i a3 h3 a4 h4 a5 h5 a6 h6 hc0 hc1 x g = k0_pay2 (F := Ideal) (k0_pay1 (F := Ideal)) x g := by
  unfold sout0_A_0
  rw [View.read_writes_junk_eq_canon]
  unfold kernelRun0_A
  dsimp only
  sl_unfold_words
  simp only [View.readAt_eq_ld, h3.read_unread, h4.read_unread]
  rw [View.canon_cons_unit_zero zeros, View.readCov_unit_zero _ zeros, View.ld_unit_zero zeros, View.ld_unit_zero zeros]

theorem next (hc0 hc1) : sout0_B_0 cc i a3 h3 a4 h4 a5 h5 a6 h6 hc0 hc1 x g s = k0_pay2 (F := Ideal) s x g := by
  unfold sout0_B_0
  rw [View.read_writes_junk_eq_canon]
  unfold kernelRun0_B
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem last (hc0 hc1) : sout0_C_0 cc i a3 h3 a4 h4 a5 h5 a6 h6 hc0 hc1 x g s = k0_pay2 (F := Ideal) s x g := by
  unfold sout0_C_0
  rw [View.read_writes_junk_eq_canon]
  unfold kernelRun0_C
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem stored (hc0 hc1) : out0_C_2 cc i a3 h3 a4 h4 a5 h5 a6 h6 hc0 hc1 x g s = k0_pay3 (F := Ideal) (k0_pay2 (F := Ideal) s x g) := by
  unfold out0_C_2
  rw [View.read_writes_junk_eq_canon]
  unfold kernelRun0_C
  dsimp only
  sl_unfold_words
  simp only [View.readAt_eq_ld, h3.read_unread, h4.read_unread, h6.read_unread]
  rw [View.canon_cons_unit_zero zeros, View.readCov_unit_zero _ zeros, View.ld_unit_zero zeros, View.ld_unit_zero zeros, View.ld_unit_zero zeros]

theorem pay2_at (p : Fin 1024) (q : Fin 512) : k0_pay2 (F := Ideal) s x g (ix2 p q) = (s (ix2 p q) + ∑ r : Fin 2176, x (ix2 r p) * g (ix2 r q) : EReal) := by
  pointwise [k0_pay2]

theorem pay1_at (p : Fin 1024) (q : Fin 512) : k0_pay1 (F := Ideal) (ix2 p q) = (0 : EReal) := by
  pointwise [k0_pay1]

end

variable (m : (ℓ : Loc nD τ sig) → Buf (Elt Ideal) ℓ) (c : Dev nD)

/-- The inputs and the cotangent, as the call finds them. -/
abbrev az : FVec Ideal S8704x1024 .bf16 := V m c main_arg0
abbrev ag : FVec Ideal S8704x2560 .f32 := V m c main_arg2

theorem at0 : ∀ t : Fin cfg0.N, win0_0.index t = ![t.val % 4, 0] ∧ win0_1.index t = ![t.val % 4, t.val / 4]
    ∧ win0_2.index t = ![0, t.val / 4] := (by decide +kernel : ∀ t : Fin grid0.N, _)

theorem block0 (t : Fin cfg0.N) (r : Fin 2176) (p : Fin 1024) (R : Fin 8704) (hR : R.val = 2176 * (t.val % 4) + r.val) :
    iblk m c 0 t (ix2 r p) = az m c (ix2 R p) := by
  refine congrArg (V m c main_arg0) (ext2 ?_ ?_)
  · refine (show _ = win0_0.index t (0 : Fin 2) * 2176 + 1 * r.val from rfl).trans ?_
    rw [(at0 t).1, Nat.one_mul]; exact (Nat.mul_comm _ _ ▸ hR).symm
  · refine (show _ = win0_0.index t (1 : Fin 2) * 1024 + 1 * p.val from rfl).trans ?_
    rw [(at0 t).1, Nat.one_mul]; exact Nat.zero_add _

theorem block1 (t : Fin cfg0.N) (r : Fin 2176) (q : Fin 512) (R : Fin 8704) (Q : Fin 2560) (hR : R.val = 2176 * (t.val % 4) + r.val)
    (hQ : Q.val = t.val / 4 * 512 + q.val) : iblk m c 1 t (ix2 r q) = ag m c (ix2 R Q) := by
  refine congrArg (V m c main_arg2) (ext2 ?_ ?_)
  · refine (show _ = win0_1.index t (0 : Fin 2) * 2176 + 1 * r.val from rfl).trans ?_
    rw [(at0 t).2.1, Nat.one_mul]; exact (Nat.mul_comm _ _ ▸ hR).symm
  · refine (show _ = win0_1.index t (1 : Fin 2) * 512 + 1 * q.val from rfl).trans ?_
    rw [(at0 t).2.1, Nat.one_mul]; exact hQ.symm

theorem place (t : Fin cfg0.N) (p : Fin 1024) (q : Fin 512) (Q : Fin 2560) (hQ : Q.val = t.val / 4 * 512 + q.val) :
    ((cfg0.win 2).blk t).view.emb (ix2 p q) = ix2 p Q := by
  refine ext2 ?_ ?_
  · refine (show _ = win0_2.index t (0 : Fin 2) * 1024 + 1 * p.val from rfl).trans ?_
    rw [(at0 t).2.2, Nat.one_mul]; exact Nat.zero_add _
  · refine (show _ = win0_2.index t (1 : Fin 2) * 512 + 1 * q.val from rfl).trans ?_
    rw [(at0 t).2.2, Nat.one_mul]; exact hQ.symm

/-- The `k`-th term of the gradient's entry. -/
def term (p : Fin 1024) (Q : Fin 2560) (k : Fin 8704) : EReal := (az m c (ix2 k p) * ag m c (ix2 k Q) : EReal)

/-- One point adds its band of rows. -/
theorem add (t : Fin cfg0.N) (p : Fin 1024) (q : Fin 512) (Q : Fin 2560) (hQ : Q.val = t.val / 4 * 512 + q.val) (s : Vec Ideal S1024x512 .f32)
    (hs : s (ix2 p q) = upTo (term m c p Q) (2176 * (t.val % 4))) :
    k0_pay2 (F := Ideal) s (iblk m c 0 t) (iblk m c 1 t) (ix2 p q) = upTo (term m c p Q) (2176 * (t.val % 4) + 2176) := by
  rw [pay2_at, hs]
  refine (upTo_add _ _ _ (by omega) fun r R hR => ?_).symm
  rw [block0 m c t r p R hR, block1 m c t r q R Q hR hQ]
  rfl

/-- What the accumulator holds after a point: the bands of rows so far. -/
theorem carried (n : ℕ) (hn : n < cfg0.N) (p : Fin 1024) (q : Fin 512) (Q : Fin 2560) (hQ : Q.val = n / 4 * 512 + q.val) :
    (outsAt0 m c n hn).2 (ix2 p q) = upTo (term m c p Q) (2176 * (n % 4) + 2176) := by
  induction n using Nat.strong_induction_on generalizing Q with
  | _ n ih =>
    let t : Fin cfg0.N := ⟨n, hn⟩
    by_cases h0 : n % 4 = 0
    · have h1 : ¬ n % 4 = 3 := by omega
      refine (congrFun (congrArg Prod.snd (outsAt0_A m c t h0 h1)) _).trans ?_
      dsimp only
      rw [first]
      refine add m c t p q Q hQ _ ?_
      rw [pay1_at, show t.val % 4 = 0 from h0]
      rfl
    · have prev := ih (n - 1) (by omega) (by omega) Q (by omega)
      rw [show 2176 * ((n - 1) % 4) + 2176 = 2176 * (n % 4) by omega] at prev
      by_cases h1 : n % 4 = 3
      · refine (congrFun (congrArg Prod.snd (outsAt0_C m c t h0 h1)) _).trans ?_
        dsimp only
        rw [last]
        exact add m c t p q Q hQ _ prev
      · refine (congrFun (congrArg Prod.snd (outsAt0_B m c t h0 h1)) _).trans ?_
        dsimp only
        rw [next]
        exact add m c t p q Q hQ _ prev

/-- What the last point of a block stores. -/
theorem written (t : Fin cfg0.N) (h1 : t.val % 4 = 3) (p : Fin 1024) (q : Fin 512) (Q : Fin 2560) (hQ : Q.val = t.val / 4 * 512 + q.val) :
    (outsAt0 m c t.val t.isLt).1 (ix2 p q) = ∑ k, term m c p Q k := by
  have h0 : ¬ t.val % 4 = 0 := by omega
  refine (congrFun (congrArg Prod.fst (outsAt0_C m c t h0 h1)) _).trans ?_
  dsimp only
  rw [stored]
  refine (show _ = k0_pay2 (F := Ideal) _ (iblk m c 0 t) (iblk m c 1 t) (ix2 p q) from rfl).trans ?_
  refine (add m c t p q Q hQ _ ?_).trans (by rw [h1]; exact upTo_all _)
  refine (carried m c (t.val - 1) _ p q Q (by omega)).trans ?_
  rw [show 2176 * ((t.val - 1) % 4) + 2176 = 2176 * (t.val % 4) by omega]

/-- The transpose of one operand times the other. -/
def tprod (x : Vec Ideal S8704x1024 .bf16) (g : Vec Ideal S8704x2560 .f32) : Vec Ideal S1024x2560 .bf16 := fun i =>
  (∑ k : Fin 8704, x (ix2 k (i 0)) * g (ix2 k (i 1)) : EReal)

theorem array : (dats m 0 c).arrAt 2 cfg0.N = tprod (V m c main_arg0) (V m c main_arg2) := by
  refine (dats m 0 c).arrAt_eq_of_cover 2 _ (fun t ht => ?_) fun i => ?_
  · show (cfg0.win 2).cut (grid0.coords t) ((dats m 0 c).after 2 t) = _
    rw [after0_2]
    have h1 := (flush0_2 t).1 ht
    have hN : t.val < 20 := t.isLt.trans_eq N_0
    funext y
    obtain ⟨p, q, rfl⟩ : ∃ (p : Fin 1024) (q : Fin 512), y = ix2 p q := ⟨y 0, y 1, eta2 y⟩
    let Q : Fin 2560 := ⟨t.val / 4 * 512 + q.val, by omega⟩
    exact (written m c t h1 p q Q rfl).trans (congrArg (tprod (V m c main_arg0) (V m c main_arg2)) (place t p q Q rfl).symm)
  · have h0 : (i 1).val < 2560 := (i 1).isLt
    let t : Fin cfg0.N := ⟨4 * ((i 1).val / 512) + 3, by rw [show cfg0.N = 20 from N_0]; omega⟩
    refine ⟨t, (flush0_2 t).2 (by simp only [t]; omega), ?_⟩
    have e := place t (i 0) ⟨(i 1).val % 512, by omega⟩ (i 1) (by simp only [t]; omega)
    rw [eta2 i]
    exact e ▸ View.emb_mem_set _ _

theorem result : Value.G2 m c = tprod (m ((c : Thread nD τ).loc main_arg0)) (m ((c : Thread nD τ).loc main_arg2)) :=
  (Value.final2 m c).symm.trans (array m c)

end Cert.InWeightIdeal.Steps

namespace Cert.InWeightReferenceIdeal.Read

open Cert.InWeightReferenceIdeal Cert.InWeightReferenceIdeal.Gen Idealize.ShloMosaic Idealize.ShloMosaic.TcCoe
open Cert.InWeightReferenceIdeal.Facts
open Cert.MlpIdeal.Arrays (eta2)

theorem grad_at (x : FVec Ideal S8704x1024 .bf16) (g : FVec Ideal S8704x2560 .f32) (p : Fin 1024) (q : Fin 2560) :
    truncf .bf16 (transpose S1024x2560 [1, 0] (Host.dotGeneral dot_S8704x2560_S8704x1024_S2560x1024_0_0_1_1_n_n none g (extf .f32 x bitsLt_bf16_f32))
      transposes_S2560x1024_S1024x2560_1_0) bitsLt_bf16_f32 (ix2 p q) = (∑ k : Fin 8704, g (ix2 k q) * x (ix2 k p) : EReal) := by
  pointwise []

theorem grad_eq (x : FVec Ideal S8704x1024 .bf16) (g : FVec Ideal S8704x2560 .f32) :
    truncf .bf16 (transpose S1024x2560 [1, 0] (Host.dotGeneral dot_S8704x2560_S8704x1024_S2560x1024_0_0_1_1_n_n none g (extf .f32 x bitsLt_bf16_f32))
      transposes_S2560x1024_S1024x2560_1_0) bitsLt_bf16_f32 = Cert.InWeightIdeal.Steps.tprod x g := by
  funext i
  obtain ⟨p, q, rfl⟩ : ∃ (p : Fin 1024) (q : Fin 2560), i = ix2 p q := ⟨i 0, i 1, eta2 i⟩
  exact (grad_at x g p q).trans (Finset.sum_congr rfl fun k _ => mul_comm _ _)

end Cert.InWeightReferenceIdeal.Read

namespace Cert.Proof

open Idealize.ShloMosaic Idealize.SL.Sem

theorem in_weight : Cert.algebraic_InWeightIdeal_InWeightReferenceIdeal := by
  intro m g m' g' _ agree
  refine ⟨_, Cert.InWeightIdeal.Value.run (F := Ideal) m g, ?_⟩
  refine (θ_run _ _ _).mono (fun r h c => ?_) (Cert.InWeightReferenceIdeal.Value.run (F := Ideal) m' g')
  obtain ⟨a0, a1, a2⟩ := agree c
  obtain ⟨e, rest⟩ := h c
  rw [a0, a2] at e
  exact ⟨e.trans ((Cert.InWeightReferenceIdeal.Read.grad_eq _ _).trans (Cert.InWeightIdeal.Steps.result m c).symm), rest⟩

end Cert.Proof

end
-- ==== Proof.BandSum.lean ====
/- A weight's gradient that is one block: an accumulator that starts at zero and takes one of the four bands of rows at each point ends at
   the transpose of one operand times the other. -/
module

public import proofs.«01_k».proof.Proof.Chunks
public import proofs.«01_k».proof.Proof.MlpArray

@[expose] public section

noncomputable section

namespace Cert.BandSum

open Cert.Chunks Idealize.ShloMosaic Idealize.ShloMosaic.TcCoe
open Cert.MlpIdeal.Arrays (ext2 eta2)

/-- The index, in an array of 8704 rows, of an entry of the `t`-th band of 2176 rows. -/
theorem in_band {n : ℕ} {i : (⟨2, ![8704, n]⟩ : Shape).Idx} {b : Fin 2 → ℕ} {t : ℕ} (hb : b = ![t, 0]) (r : Fin 2176) (k : Fin n) (R : Fin 8704)
    (hR : R.val = 2176 * t + r.val) (h0 : (i 0).val = b 0 * 2176 + 1 * r.val) (h1 : (i 1).val = b 1 * n + 1 * k.val) : i = ix2 R k := by
  subst hb
  refine ext2 (h0.trans ?_) (h1.trans ?_)
  · rw [Nat.one_mul]; exact (Nat.mul_comm _ _ ▸ hR).symm
  · rw [Nat.one_mul]; exact (congrArg (· + k.val) (Nat.zero_mul n)).trans (Nat.zero_add _)

variable {K N : ℕ} {e : FTy} (X : FVec Ideal ⟨2, ![8704, K]⟩ .bf16) (G : FVec Ideal ⟨2, ![8704, N]⟩ e)

/-- The `k`-th term of the gradient's entry. -/
def term (p : Fin K) (q : Fin N) (k : Fin 8704) : EReal := (X (ix2 k p) * G (ix2 k q) : EReal)

/-- The transpose of one operand times the other. -/
def tprod : FVec Ideal ⟨2, ![K, N]⟩ .bf16 := fun i => (∑ k : Fin 8704, X (ix2 k (i 0)) * G (ix2 k (i 1)) : EReal)

section
variable {P : ℕ} (hP : P = 4) (step : FVec Ideal ⟨2, ![K, N]⟩ .f32 → Fin P → FVec Ideal ⟨2, ![K, N]⟩ .f32) (zero : FVec Ideal ⟨2, ![K, N]⟩ .f32)
  (x : Fin P → FVec Ideal ⟨2, ![2176, K]⟩ .bf16) (g : Fin P → FVec Ideal ⟨2, ![2176, N]⟩ e) (S : ∀ n, n < P → FVec Ideal ⟨2, ![K, N]⟩ .f32)
  (hz : ∀ (p : Fin K) (q : Fin N), zero (ix2 p q) = (0 : EReal))
  (hstep : ∀ s t (p : Fin K) (q : Fin N), step s t (ix2 p q) = (s (ix2 p q) + ∑ r : Fin 2176, x t (ix2 r p) * g t (ix2 r q) : EReal))
  (bx : ∀ (t : Fin P) (r : Fin 2176) (p : Fin K) (R : Fin 8704), R.val = 2176 * t.val + r.val → x t (ix2 r p) = X (ix2 R p))
  (bg : ∀ (t : Fin P) (r : Fin 2176) (q : Fin N) (R : Fin 8704), R.val = 2176 * t.val + r.val → g t (ix2 r q) = G (ix2 R q))
  (first : ∀ h, S 0 h = step zero ⟨0, h⟩) (next : ∀ n (h : n + 1 < P), S (n + 1) h = step (S n (Nat.lt_of_succ_lt h)) ⟨n + 1, h⟩)

include hP hz hstep bx bg first next

/-- What the accumulator holds after a point: the bands of rows so far. -/
theorem carried (n : ℕ) (hn : n < P) (p : Fin K) (q : Fin N) : S n hn (ix2 p q) = upTo (term X G p q) (2176 * n + 2176) := by
  induction n with
  | zero =>
    rw [first, hstep, hz]
    refine (upTo_add (term X G p q) 0 _ (by omega) fun r R hR => ?_).symm
    rw [bx ⟨0, hn⟩ r p R (by simpa using hR), bg ⟨0, hn⟩ r q R (by simpa using hR)]
    rfl
  | succ n ih =>
    rw [next, hstep, ih (Nat.lt_of_succ_lt hn), show 2176 * n + 2176 = 2176 * (n + 1) by omega]
    refine (upTo_add (term X G p q) (2176 * (n + 1)) _ (by omega) fun r R hR => ?_).symm
    rw [bx ⟨n + 1, hn⟩ r p R hR, bg ⟨n + 1, hn⟩ r q R hR]
    rfl

/-- After the last point, the whole product. -/
theorem ended (h : 3 < P) : S 3 h = tprod X G := by
  funext i
  obtain ⟨p, q, rfl⟩ : ∃ (p : Fin K) (q : Fin N), i = ix2 p q := ⟨i 0, i 1, eta2 i⟩
  exact (carried X G hP step zero x g S hz hstep bx bg first next 3 h p q).trans (upTo_all _)

end

end Cert.BandSum

end
-- ==== Proof.OutWeight.lean ====
/- The gradient of the weight of the projection out of the mixers: the result is one block, accumulated over the four bands of rows. -/
module

public import proofs.«01_k».proof.Proof.Gen.OutWeightIdeal.Value
public import proofs.«01_k».proof.Proof.Gen.OutWeightReferenceIdeal.Run
public import proofs.«01_k».proof.Proof.BandSum
public import proofs.«01_k».proof.Proof.RowBlocks

@[expose] public section

set_option maxRecDepth 16384

noncomputable section

namespace Cert.OutWeightIdeal.Steps

open Cert.OutWeightIdeal Cert.OutWeightIdeal.Gen Cert.BandSum Idealize.ShloMosaic Idealize.ShloMosaic.TcCoe
open Cert.MlpIdeal.Arrays (zeros)
open Cert.RowBlocks (in_whole)

section
variable (cc : Dev nD) (i : grid0.Coords) (a3 : Memref sig .tc .vmem S2176x1024 .bf16) (h3 : a3.IsWhole)
  (a4 : Memref sig .tc .vmem S2176x1024 .f32) (h4 : a4.IsWhole) (a5 : Memref sig .tc .vmem S1024x1024 .bf16) (h5 : a5.IsWhole)
  (a6 : Memref sig .tc .vmem S1024x1024 .f32) (h6 : a6.IsWhole) (x : Vec Ideal S2176x1024 .bf16) (g : Vec Ideal S2176x1024 .f32)
  (s : Vec Ideal S1024x1024 .f32)

theorem first (hc0 hc1) : sout0_A_0 cc i a3 h3 a4 h4 a5 h5 a6 h6 hc0 hc1 x g = k0_pay2 (F := Ideal) (k0_pay1 (F := Ideal)) x g := by
  unfold sout0_A_0
  rw [View.read_writes_junk_eq_canon]
  unfold kernelRun0_A
  dsimp only
  sl_unfold_words
  simp only [View.readAt_eq_ld, h3.read_unread, h4.read_unread]
  rw [View.canon_cons_unit_zero zeros, View.readCov_unit_zero _ zeros, View.ld_unit_zero zeros, View.ld_unit_zero zeros]

theorem next (hc0 hc1) : sout0_B_0 cc i a3 h3 a4 h4 a5 h5 a6 h6 hc0 hc1 x g s = k0_pay2 (F := Ideal) s x g := by
  unfold sout0_B_0
  rw [View.read_writes_junk_eq_canon]
  unfold kernelRun0_B
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem last (hc0 hc1) : sout0_C_0 cc i a3 h3 a4 h4 a5 h5 a6 h6 hc0 hc1 x g s = k0_pay2 (F := Ideal) s x g := by
  unfold sout0_C_0
  rw [View.read_writes_junk_eq_canon]
  unfold kernelRun0_C
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem stored (hc0 hc1) : out0_C_2 cc i a3 h3 a4 h4 a5 h5 a6 h6 hc0 hc1 x g s = k0_pay2 (F := Ideal) s x g := by
  unfold out0_C_2
  rw [View.read_writes_junk_eq_canon]
  unfold kernelRun0_C
  dsimp only
  sl_unfold_words
  simp only [View.readAt_eq_ld, h3.read_unread, h4.read_unread, h6.read_unread]
  rw [View.canon_cons_unit_zero zeros, View.readCov_unit_zero _ zeros, View.ld_unit_zero zeros, View.ld_unit_zero zeros, View.ld_unit_zero zeros]
  rfl

theorem pay2_at (p : Fin 1024) (q : Fin 1024) :
    k0_pay2 (F := Ideal) s x g (ix2 p q) = (s (ix2 p q) + ∑ r : Fin 2176, x (ix2 r p) * g (ix2 r q) : EReal) := by
  pointwise [k0_pay2]

theorem pay1_at (p : Fin 1024) (q : Fin 1024) : k0_pay1 (F := Ideal) (ix2 p q) = (0 : EReal) := by
  pointwise [k0_pay1]

end

variable (m : (ℓ : Loc nD τ sig) → Buf (Elt Ideal) ℓ) (c : Dev nD)

theorem at0 : ∀ t : Fin cfg0.N, win0_0.index t = ![t.val, 0] ∧ win0_1.index t = ![t.val, 0]
    ∧ win0_2.index t = ![0, 0] := (by decide +kernel : ∀ t : Fin grid0.N, _)

theorem next_point (n : ℕ) (h : n + 1 < cfg0.N) : (outsAt0 m c (n + 1) h).2
    = k0_pay2 (F := Ideal) (outsAt0 m c n (Nat.lt_of_succ_lt h)).2 (iblk m c 0 ⟨n + 1, h⟩) (iblk m c 1 ⟨n + 1, h⟩) := by
  have hN : n + 1 < 4 := h.trans_eq N_0
  have h0 : ¬ (n + 1) % 4 = 0 := by omega
  by_cases h1 : (n + 1) % 4 = 3
  · refine (congrArg Prod.snd (outsAt0_C m c ⟨n + 1, h⟩ h0 h1)).trans ?_
    dsimp only
    rw [last]
    rfl
  · refine (congrArg Prod.snd (outsAt0_B m c ⟨n + 1, h⟩ h0 h1)).trans ?_
    dsimp only
    rw [next]
    rfl

theorem first_point (h : 0 < cfg0.N) : (outsAt0 m c 0 h).2
    = k0_pay2 (F := Ideal) (k0_pay1 (F := Ideal)) (iblk m c 0 ⟨0, h⟩) (iblk m c 1 ⟨0, h⟩) := by
  refine (congrArg Prod.snd (outsAt0_A m c ⟨0, h⟩ rfl (show ¬ 0 % 4 = 3 by decide))).trans ?_
  dsimp only
  rw [first]

/-- The last point's block is the whole product. -/
theorem written (t : Fin cfg0.N) (ht : t.val = 3) : (outsAt0 m c t.val t.isLt).1 = tprod (e := .f32) (V m c main_arg0) (V m c main_arg2) := by
  obtain ⟨n, hn⟩ := t
  obtain rfl : n = 3 := ht
  refine (congrArg Prod.fst (outsAt0_C m c ⟨3, hn⟩ (show ¬ 3 % 4 = 0 by decide) rfl)).trans ?_
  dsimp only
  rw [stored]
  refine (next_point m c 2 hn).symm.trans ?_
  exact ended (V m c main_arg0) (V m c main_arg2) (P := cfg0.N) N_0 (fun s t => k0_pay2 (F := Ideal) s (iblk m c 0 t) (iblk m c 1 t))
    (k0_pay1 (F := Ideal)) (fun t => iblk m c 0 t) (fun t => iblk m c 1 t) (fun n h => (outsAt0 m c n h).2) pay1_at
    (fun s t p q => pay2_at _ _ s p q) (fun t r p R hR => congrArg (V m c main_arg0) (in_band (at0 t).1 r p R hR rfl rfl))
    (fun t r q R hR => congrArg (V m c main_arg2) (in_band (at0 t).2.1 r q R hR rfl rfl)) (first_point m c) (next_point m c) hn

theorem place (t : Fin cfg0.N) (i : S1024x1024.Idx) : ((cfg0.win 2).blk t).view.emb i = i := by
  obtain ⟨p, q, rfl⟩ : ∃ (p : Fin 1024) (q : Fin 1024), i = ix2 p q := ⟨i 0, i 1, Cert.MlpIdeal.Arrays.eta2 i⟩
  exact in_whole (at0 t).2.2 p q rfl rfl

theorem array : (dats m 0 c).arrAt 2 cfg0.N = tprod (e := .f32) (V m c main_arg0) (V m c main_arg2) := by
  refine (dats m 0 c).arrAt_eq_of_cover 2 _ (fun t ht => ?_) fun i => ?_
  · show (cfg0.win 2).cut (grid0.coords t) ((dats m 0 c).after 2 t) = _
    rw [after0_2]
    have h1 := (flush0_2 t).1 ht
    have hN : t.val < 4 := t.isLt.trans_eq N_0
    refine (written m c t (by omega)).trans (funext fun y => ?_)
    exact congrArg (tprod (e := .f32) (V m c main_arg0) (V m c main_arg2)) (place t y).symm
  · let t : Fin cfg0.N := ⟨3, by rw [show cfg0.N = 4 from N_0]; omega⟩
    exact ⟨t, (flush0_2 t).2 rfl, (place t i) ▸ View.emb_mem_set _ _⟩

theorem result : Value.G2 m c = tprod (e := .f32) (m ((c : Thread nD τ).loc main_arg0)) (m ((c : Thread nD τ).loc main_arg2)) :=
  (Value.final2 m c).symm.trans (array m c)

end Cert.OutWeightIdeal.Steps

namespace Cert.OutWeightReferenceIdeal.Read

open Cert.OutWeightReferenceIdeal Cert.OutWeightReferenceIdeal.Gen Idealize.ShloMosaic Idealize.ShloMosaic.TcCoe
open Cert.OutWeightReferenceIdeal.Facts

theorem grad_at (x : FVec Ideal S8704x1024 .bf16) (g : FVec Ideal S8704x1024 .f32) (p : Fin 1024) (q : Fin 1024) :
    truncf .bf16 (transpose S1024x1024 [1, 0] (Host.dotGeneral dot_S8704x1024_S8704x1024_S1024x1024_0_0_1_1_n_n none g (extf .f32 x bitsLt_bf16_f32))
      transposes_S1024x1024_S1024x1024_1_0) bitsLt_bf16_f32 (ix2 p q) = (∑ k : Fin 8704, g (ix2 k q) * x (ix2 k p) : EReal) := by
  pointwise []

theorem grad_eq (x : FVec Ideal S8704x1024 .bf16) (g : FVec Ideal S8704x1024 .f32) :
    truncf .bf16 (transpose S1024x1024 [1, 0] (Host.dotGeneral dot_S8704x1024_S8704x1024_S1024x1024_0_0_1_1_n_n none g (extf .f32 x bitsLt_bf16_f32))
      transposes_S1024x1024_S1024x1024_1_0) bitsLt_bf16_f32 = Cert.BandSum.tprod x g := by
  funext i
  obtain ⟨p, q, rfl⟩ : ∃ (p : Fin 1024) (q : Fin 1024), i = ix2 p q := ⟨i 0, i 1, Cert.MlpIdeal.Arrays.eta2 i⟩
  exact (grad_at x g p q).trans (Finset.sum_congr rfl fun k _ => mul_comm _ _)

end Cert.OutWeightReferenceIdeal.Read

namespace Cert.Proof

open Idealize.ShloMosaic Idealize.SL.Sem

theorem out_weight : Cert.algebraic_OutWeightIdeal_OutWeightReferenceIdeal := by
  intro m g m' g' _ agree
  refine ⟨_, Cert.OutWeightIdeal.Value.run (F := Ideal) m g, ?_⟩
  refine (θ_run _ _ _).mono (fun r h c => ?_) (Cert.OutWeightReferenceIdeal.Value.run (F := Ideal) m' g')
  obtain ⟨a0, a1, a2⟩ := agree c
  obtain ⟨e, rest⟩ := h c
  rw [a0, a2] at e
  exact ⟨e.trans ((Cert.OutWeightReferenceIdeal.Read.grad_eq _ _).trans (Cert.OutWeightIdeal.Steps.result m c).symm), rest⟩

end Cert.Proof

end
-- ==== Proof.Quiet.lean ====
/- The bit-exact programs of the MLP's and the projections' products have the text of their idealized ones, so each takes the run proved once for any
   elements; the references end quietly too. -/
module

public import proofs.«01_k».proof.Defs
public import proofs.«01_k».proof.Proof.Gen.MlpIdeal.Frame
public import proofs.«01_k».proof.Proof.Gen.FirstWeightIdeal.Frame
public import proofs.«01_k».proof.Proof.Gen.SecondWeightIdeal.Frame
public import proofs.«01_k».proof.Proof.Gen.MlpReferenceIdeal.Run
public import proofs.«01_k».proof.Proof.Gen.FirstWeightReferenceIdeal.Run
public import proofs.«01_k».proof.Proof.Gen.SecondWeightReferenceIdeal.Run
public import proofs.«01_k».proof.Proof.Gen.MixIdeal.Frame
public import proofs.«01_k».proof.Proof.Gen.MixReferenceIdeal.Run
public import proofs.«01_k».proof.Proof.Gen.InWeightIdeal.Frame
public import proofs.«01_k».proof.Proof.Gen.InWeightReferenceIdeal.Run
public import proofs.«01_k».proof.Proof.Gen.OutWeightIdeal.Frame
public import proofs.«01_k».proof.Proof.Gen.OutWeightReferenceIdeal.Run
public import Idealize.ShloMosaic.Init
public import Idealize.ShloMosaic.Lib.Quiescent

@[expose] public section

noncomputable section

namespace Cert.Proof

open Idealize.ShloMosaic Idealize.SL.Sem

instance mlp_facts0 : Cert.Mlp.Facts₀ := { Cert.MlpIdeal.Gen.facts₀ with }

instance mlp_facts : Cert.Mlp.Facts where

theorem mlp_defs : Cert.Mlp.defs (F := Bits) = Cert.MlpIdeal.defs (F := Bits) := by sl_kernel_rfl

theorem mlp_quiet : Cert.quiescent_Mlp := by
  intro m ρ _
  have h := Cert.MlpIdeal.Gen.frame (F := Bits) m ρ
  rw [← mlp_defs] at h
  exact h

instance first_facts0 : Cert.FirstWeight.Facts₀ := { Cert.FirstWeightIdeal.Gen.facts₀ with }

instance first_facts : Cert.FirstWeight.Facts where

theorem first_defs : Cert.FirstWeight.defs (F := Bits) = Cert.FirstWeightIdeal.defs (F := Bits) := by sl_kernel_rfl

theorem first_quiet : Cert.quiescent_FirstWeight := by
  intro m ρ _
  have h := Cert.FirstWeightIdeal.Gen.frame (F := Bits) m ρ
  rw [← first_defs] at h
  exact h

instance second_facts0 : Cert.SecondWeight.Facts₀ := { Cert.SecondWeightIdeal.Gen.facts₀ with }

instance second_facts : Cert.SecondWeight.Facts where

theorem second_defs : Cert.SecondWeight.defs (F := Bits) = Cert.SecondWeightIdeal.defs (F := Bits) := by sl_kernel_rfl

theorem second_quiet : Cert.quiescent_SecondWeight := by
  intro m ρ _
  have h := Cert.SecondWeightIdeal.Gen.frame (F := Bits) m ρ
  rw [← second_defs] at h
  exact h

instance mix_facts0 : Cert.Mix.Facts₀ := { Cert.MixIdeal.Gen.facts₀ with }

instance mix_facts : Cert.Mix.Facts where

theorem mix_defs : Cert.Mix.defs (F := Bits) = Cert.MixIdeal.defs (F := Bits) := by sl_kernel_rfl

theorem mix_quiet : Cert.quiescent_Mix := by
  intro m ρ _
  have h := Cert.MixIdeal.Gen.frame (F := Bits) m ρ
  rw [← mix_defs] at h
  exact h

instance in_facts0 : Cert.InWeight.Facts₀ := { Cert.InWeightIdeal.Gen.facts₀ with }

instance in_facts : Cert.InWeight.Facts where

theorem in_defs : Cert.InWeight.defs (F := Bits) = Cert.InWeightIdeal.defs (F := Bits) := by sl_kernel_rfl

theorem in_quiet : Cert.quiescent_InWeight := by
  intro m ρ _
  have h := Cert.InWeightIdeal.Gen.frame (F := Bits) m ρ
  rw [← in_defs] at h
  exact h

instance out_facts0 : Cert.OutWeight.Facts₀ := { Cert.OutWeightIdeal.Gen.facts₀ with }

instance out_facts : Cert.OutWeight.Facts where

theorem out_defs : Cert.OutWeight.defs (F := Bits) = Cert.OutWeightIdeal.defs (F := Bits) := by sl_kernel_rfl

theorem out_quiet : Cert.quiescent_OutWeight := by
  intro m ρ _
  have h := Cert.OutWeightIdeal.Gen.frame (F := Bits) m ρ
  rw [← out_defs] at h
  exact h

section
open Cert.MlpReferenceIdeal
theorem mlp_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run _ _ _).mono (fun r h => ⟨fun c => (h c).2.2.2.2, sem_eq_zero_of_no_sems (by decide) r.2⟩) (Value.run (F := Ideal) m g)
end

section
open Cert.FirstWeightReferenceIdeal
theorem first_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run _ _ _).mono (fun r h => ⟨fun c => (h c).2, sem_eq_zero_of_no_sems (by decide) r.2⟩) (Value.run (F := Ideal) m g)
end

section
open Cert.SecondWeightReferenceIdeal
theorem second_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run _ _ _).mono (fun r h => ⟨fun c => (h c).2, sem_eq_zero_of_no_sems (by decide) r.2⟩) (Value.run (F := Ideal) m g)
end

section
open Cert.MixReferenceIdeal
theorem mix_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
        ∧ r.2.sem = fun _ => 0) :=
  (θ_run _ _ _).mono (fun r h => ⟨fun c => (h c).2.2.2.2, sem_eq_zero_of_no_sems (by decide) r.2⟩) (Value.run (F := Ideal) m g)
end

section
open Cert.InWeightReferenceIdeal
theorem in_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run _ _ _).mono (fun r h => ⟨fun c => (h c).2, sem_eq_zero_of_no_sems (by decide) r.2⟩) (Value.run (F := Ideal) m g)
end

section
open Cert.OutWeightReferenceIdeal
theorem out_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run _ _ _).mono (fun r h => ⟨fun c => (h c).2, sem_eq_zero_of_no_sems (by decide) r.2⟩) (Value.run (F := Ideal) m g)
end

end Cert.Proof

end
-- ==== Proof.UpArray.lean ====
/- The three products up from the latent attention's ranks, forward and in their inputs' gradients: what each of the six calls leaves in
   its array. All six go through the rows in blocks of 512, against a whole weight. -/
module

public import proofs.«01_k».proof.Proof.Gen.UpIdeal.Frame
public import proofs.«01_k».proof.Proof.RowBlocks

@[expose] public section

set_option maxRecDepth 16384

noncomputable section

namespace Cert.UpIdeal.Arrays

open Cert.UpIdeal Cert.UpIdeal.Gen Idealize.ShloMosaic Idealize.ShloMosaic.TcCoe
open Cert.MlpIdeal.Arrays (zeros)
open Cert.RowBlocks

variable (V : (c : Dev nD) → (b : Ref sig .tc) → Buf (Elt Ideal) ((c : Thread nD τ).loc b)) (c : Dev nD)

/-! ### The queries -/

theorem tile0 (x : Vec Ideal S512x256 .bf16) (w : Vec Ideal S256x512 .bf16) (r : Fin 512) (j : Fin 512) :
    k0_pay1 (F := Ideal) x w (ix2 r j) = (∑ k : Fin 256, x (ix2 r k) * w (ix2 k j) : EReal) := by
  pointwise [k0_pay1]

theorem at0 : ∀ t : Fin cfg0.N, win0_0.index t = ![t.val, 0] ∧ win0_1.index t = ![0, 0]
    ∧ win0_2.index t = ![t.val, 0] := (by decide +kernel : ∀ t : Fin grid0.N, _)

theorem place0 (t : Fin cfg0.N) (r : Fin 512) (j : Fin 512) (R : Fin 8704) (hR : R.val = t.val * 512 + r.val) :
    ((cfg0.win 2).blk t).view.emb (ix2 r j) = ix2 R j :=
  in_band (at0 t).2.2 r j R hR rfl rfl

theorem array0 : (dat0 (F := Ideal) V c).arrAt 2 cfg0.N = prod .f32 (V c main_arg0) (V c main_arg1) := by
  refine (dat0 V c).arrAt_eq_of_cover 2 _ (fun t _ => ?_) fun i => ?_
  · show (cfg0.win 2).cut (grid0.coords t) ((dat0 V c).after 2 t) = _
    rw [after0_2]
    unfold out0_2
    rw [View.canon_unit_zero zeros, View.ld_unit_zero zeros, View.ld_unit_zero zeros]
    exact rows N_0 (fun t => ((cfg0.win 2).blk t).view.emb) place0 t (tile0 _ _)
      (fun r k R hR => congrArg (V c main_arg0) (in_band (at0 t).1 r k R hR rfl rfl))
      fun a b => congrArg (V c main_arg1) (in_whole (at0 t).2.1 a b rfl rfl)
  · obtain ⟨t, ht⟩ := found N_0 (fun t => ((cfg0.win 2).blk t).view.emb) place0 (fun t => ((cfg0.win 2).blk t).view.set)
      (fun _ _ => View.emb_mem_set _ _) i
    exact ⟨t, flush0_2 t, ht⟩

/-! ### The gradient of their input -/

theorem tile1 (x : Vec Ideal S512x512 .f32) (w : Vec Ideal S256x512 .bf16) (r : Fin 512) (j : Fin 256) :
    k1_pay1 (F := Ideal) x w (ix2 r j) = (∑ k : Fin 512, x (ix2 r k) * w (ix2 j k) : EReal) := by
  pointwise [k1_pay1]

theorem at1 : ∀ t : Fin cfg1.N, win1_0.index t = ![t.val, 0] ∧ win1_1.index t = ![0, 0]
    ∧ win1_2.index t = ![t.val, 0] := (by decide +kernel : ∀ t : Fin grid1.N, _)

theorem place1 (t : Fin cfg1.N) (r : Fin 512) (j : Fin 256) (R : Fin 8704) (hR : R.val = t.val * 512 + r.val) :
    ((cfg1.win 2).blk t).view.emb (ix2 r j) = ix2 R j :=
  in_band (at1 t).2.2 r j R hR rfl rfl

theorem array1 : (dat1 (F := Ideal) V c).arrAt 2 cfg1.N = prodT .f32 (V c main_arg2) (V c main_arg1) := by
  refine (dat1 V c).arrAt_eq_of_cover 2 _ (fun t _ => ?_) fun i => ?_
  · show (cfg1.win 2).cut (grid1.coords t) ((dat1 V c).after 2 t) = _
    rw [after1_2]
    unfold out1_2
    rw [View.canon_unit_zero zeros, View.ld_unit_zero zeros, View.ld_unit_zero zeros]
    exact rowsT N_1 (fun t => ((cfg1.win 2).blk t).view.emb) place1 t (tile1 _ _)
      (fun r k R hR => congrArg (V c main_arg2) (in_band (at1 t).1 r k R hR rfl rfl))
      fun a b => congrArg (V c main_arg1) (in_whole (at1 t).2.1 a b rfl rfl)
  · obtain ⟨t, ht⟩ := found N_1 (fun t => ((cfg1.win 2).blk t).view.emb) place1 (fun t => ((cfg1.win 2).blk t).view.set)
      (fun _ _ => View.emb_mem_set _ _) i
    exact ⟨t, flush1_2 t, ht⟩

/-! ### The keys -/

theorem tile2 (x : Vec Ideal S512x128 .bf16) (w : Vec Ideal S128x256 .bf16) (r : Fin 512) (j : Fin 256) :
    k2_pay1 (F := Ideal) x w (ix2 r j) = (∑ k : Fin 128, x (ix2 r k) * w (ix2 k j) : EReal) := by
  pointwise [k2_pay1]

theorem at2 : ∀ t : Fin cfg2.N, win2_0.index t = ![t.val, 0] ∧ win2_1.index t = ![0, 0]
    ∧ win2_2.index t = ![t.val, 0] := (by decide +kernel : ∀ t : Fin grid2.N, _)

theorem place2 (t : Fin cfg2.N) (r : Fin 512) (j : Fin 256) (R : Fin 8704) (hR : R.val = t.val * 512 + r.val) :
    ((cfg2.win 2).blk t).view.emb (ix2 r j) = ix2 R j :=
  in_band (at2 t).2.2 r j R hR rfl rfl

theorem array2 : (dat2 (F := Ideal) V c).arrAt 2 cfg2.N = prod .f32 (V c main_arg3) (V c main_arg4) := by
  refine (dat2 V c).arrAt_eq_of_cover 2 _ (fun t _ => ?_) fun i => ?_
  · show (cfg2.win 2).cut (grid2.coords t) ((dat2 V c).after 2 t) = _
    rw [after2_2]
    unfold out2_2
    rw [View.canon_unit_zero zeros, View.ld_unit_zero zeros, View.ld_unit_zero zeros]
    exact rows N_2 (fun t => ((cfg2.win 2).blk t).view.emb) place2 t (tile2 _ _)
      (fun r k R hR => congrArg (V c main_arg3) (in_band (at2 t).1 r k R hR rfl rfl))
      fun a b => congrArg (V c main_arg4) (in_whole (at2 t).2.1 a b rfl rfl)
  · obtain ⟨t, ht⟩ := found N_2 (fun t => ((cfg2.win 2).blk t).view.emb) place2 (fun t => ((cfg2.win 2).blk t).view.set)
      (fun _ _ => View.emb_mem_set _ _) i
    exact ⟨t, flush2_2 t, ht⟩

/-! ### The gradient of their input -/

theorem tile3 (x : Vec Ideal S512x256 .f32) (w : Vec Ideal S128x256 .bf16) (r : Fin 512) (j : Fin 128) :
    k3_pay1 (F := Ideal) x w (ix2 r j) = (∑ k : Fin 256, x (ix2 r k) * w (ix2 j k) : EReal) := by
  pointwise [k3_pay1]

theorem at3 : ∀ t : Fin cfg3.N, win3_0.index t = ![t.val, 0] ∧ win3_1.index t = ![0, 0]
    ∧ win3_2.index t = ![t.val, 0] := (by decide +kernel : ∀ t : Fin grid3.N, _)

theorem place3 (t : Fin cfg3.N) (r : Fin 512) (j : Fin 128) (R : Fin 8704) (hR : R.val = t.val * 512 + r.val) :
    ((cfg3.win 2).blk t).view.emb (ix2 r j) = ix2 R j :=
  in_band (at3 t).2.2 r j R hR rfl rfl

theorem array3 : (dat3 (F := Ideal) V c).arrAt 2 cfg3.N = prodT .f32 (V c main_arg5) (V c main_arg4) := by
  refine (dat3 V c).arrAt_eq_of_cover 2 _ (fun t _ => ?_) fun i => ?_
  · show (cfg3.win 2).cut (grid3.coords t) ((dat3 V c).after 2 t) = _
    rw [after3_2]
    unfold out3_2
    rw [View.canon_unit_zero zeros, View.ld_unit_zero zeros, View.ld_unit_zero zeros]
    exact rowsT N_3 (fun t => ((cfg3.win 2).blk t).view.emb) place3 t (tile3 _ _)
      (fun r k R hR => congrArg (V c main_arg5) (in_band (at3 t).1 r k R hR rfl rfl))
      fun a b => congrArg (V c main_arg4) (in_whole (at3 t).2.1 a b rfl rfl)
  · obtain ⟨t, ht⟩ := found N_3 (fun t => ((cfg3.win 2).blk t).view.emb) place3 (fun t => ((cfg3.win 2).blk t).view.set)
      (fun _ _ => View.emb_mem_set _ _) i
    exact ⟨t, flush3_2 t, ht⟩

/-! ### The values -/

theorem tile4 (x : Vec Ideal S512x128 .bf16) (w : Vec Ideal S128x256 .bf16) (r : Fin 512) (j : Fin 256) :
    k4_pay1 (F := Ideal) x w (ix2 r j) = (∑ k : Fin 128, x (ix2 r k) * w (ix2 k j) : EReal) := by
  pointwise [k4_pay1]

theorem at4 : ∀ t : Fin cfg4.N, win4_0.index t = ![t.val, 0] ∧ win4_1.index t = ![0, 0]
    ∧ win4_2.index t = ![t.val, 0] := (by decide +kernel : ∀ t : Fin grid4.N, _)

theorem place4 (t : Fin cfg4.N) (r : Fin 512) (j : Fin 256) (R : Fin 8704) (hR : R.val = t.val * 512 + r.val) :
    ((cfg4.win 2).blk t).view.emb (ix2 r j) = ix2 R j :=
  in_band (at4 t).2.2 r j R hR rfl rfl

theorem array4 : (dat4 (F := Ideal) V c).arrAt 2 cfg4.N = prod .bf16 (V c main_arg3) (V c main_arg6) := by
  refine (dat4 V c).arrAt_eq_of_cover 2 _ (fun t _ => ?_) fun i => ?_
  · show (cfg4.win 2).cut (grid4.coords t) ((dat4 V c).after 2 t) = _
    rw [after4_2]
    unfold out4_2
    rw [View.canon_unit_zero zeros, View.ld_unit_zero zeros, View.ld_unit_zero zeros]
    exact rows N_4 (fun t => ((cfg4.win 2).blk t).view.emb) place4 t (tile4 _ _)
      (fun r k R hR => congrArg (V c main_arg3) (in_band (at4 t).1 r k R hR rfl rfl))
      fun a b => congrArg (V c main_arg6) (in_whole (at4 t).2.1 a b rfl rfl)
  · obtain ⟨t, ht⟩ := found N_4 (fun t => ((cfg4.win 2).blk t).view.emb) place4 (fun t => ((cfg4.win 2).blk t).view.set)
      (fun _ _ => View.emb_mem_set _ _) i
    exact ⟨t, flush4_2 t, ht⟩

/-! ### The gradient of their input -/

theorem tile5 (x : Vec Ideal S512x256 .bf16) (w : Vec Ideal S128x256 .bf16) (r : Fin 512) (j : Fin 128) :
    k5_pay1 (F := Ideal) x w (ix2 r j) = (∑ k : Fin 256, x (ix2 r k) * w (ix2 j k) : EReal) := by
  pointwise [k5_pay1]

theorem at5 : ∀ t : Fin cfg5.N, win5_0.index t = ![t.val, 0] ∧ win5_1.index t = ![0, 0]
    ∧ win5_2.index t = ![t.val, 0] := (by decide +kernel : ∀ t : Fin grid5.N, _)

theorem place5 (t : Fin cfg5.N) (r : Fin 512) (j : Fin 128) (R : Fin 8704) (hR : R.val = t.val * 512 + r.val) :
    ((cfg5.win 2).blk t).view.emb (ix2 r j) = ix2 R j :=
  in_band (at5 t).2.2 r j R hR rfl rfl

theorem array5 : (dat5 (F := Ideal) V c).arrAt 2 cfg5.N = prodT .bf16 (V c main_arg7) (V c main_arg6) := by
  refine (dat5 V c).arrAt_eq_of_cover 2 _ (fun t _ => ?_) fun i => ?_
  · show (cfg5.win 2).cut (grid5.coords t) ((dat5 V c).after 2 t) = _
    rw [after5_2]
    unfold out5_2
    rw [View.canon_unit_zero zeros, View.ld_unit_zero zeros, View.ld_unit_zero zeros]
    exact rowsT N_5 (fun t => ((cfg5.win 2).blk t).view.emb) place5 t (tile5 _ _)
      (fun r k R hR => congrArg (V c main_arg7) (in_band (at5 t).1 r k R hR rfl rfl))
      fun a b => congrArg (V c main_arg6) (in_whole (at5 t).2.1 a b rfl rfl)
  · obtain ⟨t, ht⟩ := found N_5 (fun t => ((cfg5.win 2).blk t).view.emb) place5 (fun t => ((cfg5.win 2).blk t).view.set)
      (fun _ _ => View.emb_mem_set _ _) i
    exact ⟨t, flush5_2 t, ht⟩

end Cert.UpIdeal.Arrays

end
-- ==== Proof.UpRun.lean ====
/- The run of the six products up from the latent ranks, with the whole memory that it leaves, and each result as a function of the arguments. -/
module

public import proofs.«01_k».proof.Proof.UpArray

@[expose] public section

set_option maxRecDepth 16384

noncomputable section

namespace Cert.UpIdeal.Run

open Cert.UpIdeal Cert.UpIdeal.Gen Cert.UpIdeal.Arrays Idealize.ShloMosaic Idealize.ShloMosaic.TcCoe Idealize.SL Idealize.SL.RA
open Cert.RowBlocks
open Idealize.SL.BI Idealize.SL.BI.BIBase Idealize.SL.BI.Laws Idealize.SL.ProofMode Idealize.SL.Sem Idealize.ShloMosaic.Rounds
open scoped Idealize.SL.BI

variable {F : FTy → Type} [FloatOps F] (m : (ℓ : Loc nD τ sig) → Buf (Elt F) ℓ) (ρ : Dev nD → PrngReg)

/-- The tokens that the run starts with are those of its windows; nothing more is set aside for a device. -/
theorem tokens (u : UR sig nD τ) : (ownU u : sProp (MT nD τ sig Unit (Elt F) ℕ (UR sig nD τ) ℕ))
    ⊢ iprop(|={Set.univ}=> (BI.own (emb₁ u) ∗ bigSep Finset.univ (fun _ : Dev nD => (BI.emp : sProp (MT nD τ sig Unit (Elt F) ℕ (UR sig nD τ) ℕ))))) := by
  rw [BI.bigSep_emp_const]
  iintro H
  imodintro
  isplitl [H]
  · iapply (show (ownU u : sProp (MT nD τ sig Unit (Elt F) ℕ (UR sig nD τ) ℕ)) ⊢ BI.own (emb₁ u) from .rfl)
    iexact H
  · iempintro

set_option backward.isDefEq.respectTransparency.types false in
/-- After the run every array that outlives the calls holds what the fold of the six calls gives it. -/
theorem memory : θ_run defs (onTc (τ := τ) (main (F := F))) ⟨m, fun _ => 0, ρ⟩ fun r =>
    ∀ (c : Dev nD), ∀ b ∈ Pipeline.ucRefs τ sig, r.2.mem ((c : Thread nD τ).1, b) = W6 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := tokens _)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]
      · iexact Hh
      · isplitl [Hp]
        · iexists _
          iexact Hp
        · iexists ∅
          iexact HO)
    (QY := fun c s => ∀ b ∈ Pipeline.ucRefs τ sig, s.mem ((c : Thread nD τ).1, b) = W6 m ρ c b)
    (hfin := fun c s' => by
      iintro ⟨⟨Hh, -⟩, HSI⟩
      unfold StableHlo.held
      imodintro
      iapply (pointsTo_read_all (Pipeline.ucRefs τ sig) (fun b => ((c : Thread nD τ).1, b)) (W6 m ρ c) s')
      isplitl [Hh] <;> iassumption)
    (hQ := fun _ h _ => h)

variable (m : (ℓ : Loc nD τ sig) → Buf (Elt Ideal) ℓ) (ρ : Dev nD → PrngReg) (c : Dev nD)

/-- What an argument holds when a later call reads it is what it held at the start. -/
theorem kept1_1 : V1 m ρ c main_arg1 = V0 m ρ c main_arg1 := W1_of m ρ c main_arg1 (by decide)

theorem kept1_2 : V1 m ρ c main_arg2 = V0 m ρ c main_arg2 := W1_of m ρ c main_arg2 (by decide)

theorem kept2_3 : V2 m ρ c main_arg3 = V0 m ρ c main_arg3 := (W2_of m ρ c main_arg3 (by decide)).trans (W1_of m ρ c main_arg3 (by decide))

theorem kept2_4 : V2 m ρ c main_arg4 = V0 m ρ c main_arg4 := (W2_of m ρ c main_arg4 (by decide)).trans (W1_of m ρ c main_arg4 (by decide))

theorem kept3_4 : V3 m ρ c main_arg4 = V0 m ρ c main_arg4 := (W3_of m ρ c main_arg4 (by decide)).trans (kept2_4 m ρ c)

theorem kept3_5 : V3 m ρ c main_arg5 = V0 m ρ c main_arg5 := (W3_of m ρ c main_arg5 (by decide)).trans ((W2_of m ρ c main_arg5 (by decide)).trans (W1_of m ρ c main_arg5 (by decide)))

theorem kept4_3 : V4 m ρ c main_arg3 = V0 m ρ c main_arg3 := (W4_of m ρ c main_arg3 (by decide)).trans ((W3_of m ρ c main_arg3 (by decide)).trans (kept2_3 m ρ c))

theorem kept4_6 : V4 m ρ c main_arg6 = V0 m ρ c main_arg6 := (W4_of m ρ c main_arg6 (by decide)).trans ((W3_of m ρ c main_arg6 (by decide)).trans ((W2_of m ρ c main_arg6 (by decide)).trans (W1_of m ρ c main_arg6 (by decide))))

theorem kept5_6 : V5 m ρ c main_arg6 = V0 m ρ c main_arg6 := (W5_of m ρ c main_arg6 (by decide)).trans (kept4_6 m ρ c)

theorem kept5_7 : V5 m ρ c main_arg7 = V0 m ρ c main_arg7 := (W5_of m ρ c main_arg7 (by decide)).trans ((W4_of m ρ c main_arg7 (by decide)).trans ((W3_of m ρ c main_arg7 (by decide)).trans ((W2_of m ρ c main_arg7 (by decide)).trans (W1_of m ρ c main_arg7 (by decide)))))

/-- The queries: the first call's result. -/
theorem q6 : W6 m ρ c (Proc.devRef .tc main_v0) = prod .f32 (V0 m ρ c main_arg0) (V0 m ρ c main_arg1) :=
  (W6_of m ρ c main_v0 (by decide)).trans ((W5_of m ρ c main_v0 (by decide)).trans ((W4_of m ρ c main_v0 (by decide)).trans ((W3_of m ρ c main_v0 (by decide)).trans ((W2_of m ρ c main_v0 (by decide)).trans ((W1_arr m ρ c 2).trans (array0 (V0 m ρ) c))))))

/-- The gradient of their input: the second call's result. -/
theorem dq6 : W6 m ρ c (Proc.devRef .tc main_v1) = prodT .f32 (V0 m ρ c main_arg2) (V0 m ρ c main_arg1) :=
  (W6_of m ρ c main_v1 (by decide)).trans ((W5_of m ρ c main_v1 (by decide)).trans ((W4_of m ρ c main_v1 (by decide)).trans ((W3_of m ρ c main_v1 (by decide)).trans (((W2_arr m ρ c 2).trans (array1 (V1 m ρ) c)).trans (congr (congrArg (prodT .f32) (kept1_2 m ρ c)) (kept1_1 m ρ c))))))

/-- The keys: the third call's result. -/
theorem k6 : W6 m ρ c (Proc.devRef .tc main_v2) = prod .f32 (V0 m ρ c main_arg3) (V0 m ρ c main_arg4) :=
  (W6_of m ρ c main_v2 (by decide)).trans ((W5_of m ρ c main_v2 (by decide)).trans ((W4_of m ρ c main_v2 (by decide)).trans (((W3_arr m ρ c 2).trans (array2 (V2 m ρ) c)).trans (congr (congrArg (prod .f32) (kept2_3 m ρ c)) (kept2_4 m ρ c)))))

/-- The gradient of their input: the fourth call's result. -/
theorem dk6 : W6 m ρ c (Proc.devRef .tc main_v3) = prodT .f32 (V0 m ρ c main_arg5) (V0 m ρ c main_arg4) :=
  (W6_of m ρ c main_v3 (by decide)).trans ((W5_of m ρ c main_v3 (by decide)).trans (((W4_arr m ρ c 2).trans (array3 (V3 m ρ) c)).trans (congr (congrArg (prodT .f32) (kept3_5 m ρ c)) (kept3_4 m ρ c))))

/-- The values: the fifth call's result. -/
theorem v6 : W6 m ρ c (Proc.devRef .tc main_v4) = prod .bf16 (V0 m ρ c main_arg3) (V0 m ρ c main_arg6) :=
  (W6_of m ρ c main_v4 (by decide)).trans (((W5_arr m ρ c 2).trans (array4 (V4 m ρ) c)).trans (congr (congrArg (prod .bf16) (kept4_3 m ρ c)) (kept4_6 m ρ c)))

/-- The gradient of their input: the sixth call's result. -/
theorem dv6 : W6 m ρ c (Proc.devRef .tc main_v5) = prodT .bf16 (V0 m ρ c main_arg7) (V0 m ρ c main_arg6) :=
  ((W6_arr m ρ c 2).trans (array5 (V5 m ρ) c)).trans (congr (congrArg (prodT .bf16) (kept5_7 m ρ c)) (kept5_6 m ρ c))

/-- The run leaves the six products in the results' arrays, and the arguments as they were. -/
theorem results : θ_run defs (onTc (τ := τ) (main (F := Ideal))) ⟨m, fun _ => 0, ρ⟩ fun r => ∀ c : Dev nD,
    r.2.mem ((c.tc : Thread nD τ).loc main_v0) = prod .f32 (V0 m ρ c main_arg0) (V0 m ρ c main_arg1)
    ∧ r.2.mem ((c.tc : Thread nD τ).loc main_v1) = prodT .f32 (V0 m ρ c main_arg2) (V0 m ρ c main_arg1)
    ∧ r.2.mem ((c.tc : Thread nD τ).loc main_v2) = prod .f32 (V0 m ρ c main_arg3) (V0 m ρ c main_arg4)
    ∧ r.2.mem ((c.tc : Thread nD τ).loc main_v3) = prodT .f32 (V0 m ρ c main_arg5) (V0 m ρ c main_arg4)
    ∧ r.2.mem ((c.tc : Thread nD τ).loc main_v4) = prod .bf16 (V0 m ρ c main_arg3) (V0 m ρ c main_arg6)
    ∧ r.2.mem ((c.tc : Thread nD τ).loc main_v5) = prodT .bf16 (V0 m ρ c main_arg7) (V0 m ρ c main_arg6)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  (θ_run defs _ _).mono (fun _ h c =>
    ⟨(h c _ (mem_uc main_v0 (by decide))).trans (q6 m ρ c),
     (h c _ (mem_uc main_v1 (by decide))).trans (dq6 m ρ c),
     (h c _ (mem_uc main_v2 (by decide))).trans (k6 m ρ c),
     (h c _ (mem_uc main_v3 (by decide))).trans (dk6 m ρ c),
     (h c _ (mem_uc main_v4 (by decide))).trans (v6 m ρ c),
     (h c _ (mem_uc main_v5 (by decide))).trans (dv6 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c)⟩)
    (memory m ρ)

end Cert.UpIdeal.Run

end
-- ==== Proof.UpMatch.lean ====
/- The six products up from the latent ranks are the reference's six results. -/
module

public import proofs.«01_k».proof.Proof.UpRun
public import proofs.«01_k».proof.Proof.MixMatch
public import proofs.«01_k».proof.Proof.Gen.UpReferenceIdeal.Run

@[expose] public section

noncomputable section

namespace Cert.UpMatch

open Cert.UpReferenceIdeal Cert.UpReferenceIdeal.Gen Idealize.ShloMosaic Idealize.ShloMosaic.TcCoe Idealize.SL.Sem
open Cert.UpReferenceIdeal.Facts

variable (xq : FVec Ideal S8704x256 .bf16) (wq : FVec Ideal S256x512 .bf16) (dq : FVec Ideal S8704x512 .f32)
  (xk : FVec Ideal S8704x128 .bf16) (wk : FVec Ideal S128x256 .bf16) (dk : FVec Ideal S8704x256 .f32) (dv : FVec Ideal S8704x256 .bf16)

theorem q_at (r : Fin 8704) (j : Fin 512) :
    Host.dotGeneral dot_S8704x256_S256x512_S8704x512_1_0_0_1_n_n none (extf .f32 xq bitsLt_bf16_f32) (extf .f32 wq bitsLt_bf16_f32) (ix2 r j)
      = (∑ k : Fin 256, xq (ix2 r k) * wq (ix2 k j) : EReal) := by pointwise []

theorem dxq_at (r : Fin 8704) (j : Fin 256) :
    truncf .bf16 (Host.dotGeneral dot_S8704x512_S256x512_S8704x256_1_1_0_0_n_n none dq (extf .f32 wq bitsLt_bf16_f32)) bitsLt_bf16_f32 (ix2 r j)
      = (∑ k : Fin 512, dq (ix2 r k) * wq (ix2 j k) : EReal) := by pointwise []

theorem k_at (r : Fin 8704) (j : Fin 256) :
    Host.dotGeneral dot_S8704x128_S128x256_S8704x256_1_0_0_1_n_n none (extf .f32 xk bitsLt_bf16_f32) (extf .f32 wk bitsLt_bf16_f32) (ix2 r j)
      = (∑ k : Fin 128, xk (ix2 r k) * wk (ix2 k j) : EReal) := by pointwise []

theorem dxk_at (r : Fin 8704) (j : Fin 128) :
    truncf .bf16 (Host.dotGeneral dot_S8704x256_S128x256_S8704x128_1_1_0_0_n_n none dk (extf .f32 wk bitsLt_bf16_f32)) bitsLt_bf16_f32 (ix2 r j)
      = (∑ k : Fin 256, dk (ix2 r k) * wk (ix2 j k) : EReal) := by pointwise []

theorem v_at (r : Fin 8704) (j : Fin 256) :
    truncf .bf16 (Host.dotGeneral dot_S8704x128_S128x256_S8704x256_1_0_0_1_n_n none (extf .f32 xk bitsLt_bf16_f32) (extf .f32 wk bitsLt_bf16_f32))
      bitsLt_bf16_f32 (ix2 r j) = (∑ k : Fin 128, xk (ix2 r k) * wk (ix2 k j) : EReal) := by pointwise []

theorem dxv_at (r : Fin 8704) (j : Fin 128) :
    truncf .bf16 (Host.dotGeneral dot_S8704x256_S128x256_S8704x128_1_1_0_0_n_n none (extf .f32 dv bitsLt_bf16_f32) (extf .f32 wk bitsLt_bf16_f32))
      bitsLt_bf16_f32 (ix2 r j) = (∑ k : Fin 256, dv (ix2 r k) * wk (ix2 j k) : EReal) := by pointwise []

end Cert.UpMatch

namespace Cert.Proof

open Idealize.ShloMosaic Idealize.SL.Sem Cert.UpMatch
open Cert.MixMatch (by_entries)

theorem up : Cert.algebraic_UpIdeal_UpReferenceIdeal := by
  intro m g m' g' _ agree
  refine ⟨_, _, _, _, _, _, Cert.UpIdeal.Run.results m g, ?_⟩
  refine (θ_run _ _ _).mono (fun r h c => ?_) (Cert.UpReferenceIdeal.Value.run (F := Ideal) m' g')
  obtain ⟨a0, a1, a2, a3, a4, a5, a6, a7⟩ := agree c
  obtain ⟨e0, e1, e2, e3, e4, e5, rest⟩ := h c
  rw [a0, a1] at e0
  rw [a2, a1] at e1
  rw [a3, a4] at e2
  rw [a5, a4] at e3
  rw [a3, a6] at e4
  rw [a7, a6] at e5
  exact ⟨e0.trans (by_entries (q_at _ _)), e1.trans (by_entries (dxq_at _ _)), e2.trans (by_entries (k_at _ _)),
    e3.trans (by_entries (dxk_at _ _)), e4.trans (by_entries (v_at _ _)), e5.trans (by_entries (dxv_at _ _)), rest⟩

end Cert.Proof

end
-- ==== Proof.QWeight.lean ====
/- The gradient of the weight of the queries up from their latent rank: one block, accumulated over the four bands of rows. -/
module

public import proofs.«01_k».proof.Proof.Gen.QWeightIdeal.Value
public import proofs.«01_k».proof.Proof.Gen.QWeightReferenceIdeal.Run
public import proofs.«01_k».proof.Proof.BandSum
public import proofs.«01_k».proof.Proof.RowBlocks

@[expose] public section

set_option maxRecDepth 16384

noncomputable section

namespace Cert.QWeightIdeal.Steps

open Cert.QWeightIdeal Cert.QWeightIdeal.Gen Cert.BandSum Idealize.ShloMosaic Idealize.ShloMosaic.TcCoe
open Cert.MlpIdeal.Arrays (zeros)
open Cert.RowBlocks (in_whole)

section
variable (cc : Dev nD) (i : grid0.Coords) (a3 : Memref sig .tc .vmem S2176x256 .bf16) (h3 : a3.IsWhole)
  (a4 : Memref sig .tc .vmem S2176x512 .f32) (h4 : a4.IsWhole) (a5 : Memref sig .tc .vmem S256x512 .bf16) (h5 : a5.IsWhole)
  (a6 : Memref sig .tc .vmem S256x512 .f32) (h6 : a6.IsWhole) (x : Vec Ideal S2176x256 .bf16) (g : Vec Ideal S2176x512 .f32)
  (s : Vec Ideal S256x512 .f32)

theorem first (hc0 hc1) : sout0_A_0 cc i a3 h3 a4 h4 a5 h5 a6 h6 hc0 hc1 x g = k0_pay2 (F := Ideal) (k0_pay1 (F := Ideal)) x g := by
  unfold sout0_A_0
  rw [View.read_writes_junk_eq_canon]
  unfold kernelRun0_A
  dsimp only
  sl_unfold_words
  simp only [View.readAt_eq_ld, h3.read_unread, h4.read_unread]
  rw [View.canon_cons_unit_zero zeros, View.readCov_unit_zero _ zeros, View.ld_unit_zero zeros, View.ld_unit_zero zeros]

theorem next (hc0 hc1) : sout0_B_0 cc i a3 h3 a4 h4 a5 h5 a6 h6 hc0 hc1 x g s = k0_pay2 (F := Ideal) s x g := by
  unfold sout0_B_0
  rw [View.read_writes_junk_eq_canon]
  unfold kernelRun0_B
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem last (hc0 hc1) : sout0_C_0 cc i a3 h3 a4 h4 a5 h5 a6 h6 hc0 hc1 x g s = k0_pay2 (F := Ideal) s x g := by
  unfold sout0_C_0
  rw [View.read_writes_junk_eq_canon]
  unfold kernelRun0_C
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem stored (hc0 hc1) : out0_C_2 cc i a3 h3 a4 h4 a5 h5 a6 h6 hc0 hc1 x g s = k0_pay2 (F := Ideal) s x g := by
  unfold out0_C_2
  rw [View.read_writes_junk_eq_canon]
  unfold kernelRun0_C
  dsimp only
  sl_unfold_words
  simp only [View.readAt_eq_ld, h3.read_unread, h4.read_unread, h6.read_unread]
  rw [View.canon_cons_unit_zero zeros, View.readCov_unit_zero _ zeros, View.ld_unit_zero zeros, View.ld_unit_zero zeros, View.ld_unit_zero zeros]
  rfl

theorem pay2_at (p : Fin 256) (q : Fin 512) :
    k0_pay2 (F := Ideal) s x g (ix2 p q) = (s (ix2 p q) + ∑ r : Fin 2176, x (ix2 r p) * g (ix2 r q) : EReal) := by
  pointwise [k0_pay2]

theorem pay1_at (p : Fin 256) (q : Fin 512) : k0_pay1 (F := Ideal) (ix2 p q) = (0 : EReal) := by
  pointwise [k0_pay1]

end

variable (m : (ℓ : Loc nD τ sig) → Buf (Elt Ideal) ℓ) (c : Dev nD)

theorem at0 : ∀ t : Fin cfg0.N, win0_0.index t = ![t.val, 0] ∧ win0_1.index t = ![t.val, 0]
    ∧ win0_2.index t = ![0, 0] := (by decide +kernel : ∀ t : Fin grid0.N, _)

theorem next_point (n : ℕ) (h : n + 1 < cfg0.N) : (outsAt0 m c (n + 1) h).2
    = k0_pay2 (F := Ideal) (outsAt0 m c n (Nat.lt_of_succ_lt h)).2 (iblk m c 0 ⟨n + 1, h⟩) (iblk m c 1 ⟨n + 1, h⟩) := by
  have hN : n + 1 < 4 := h.trans_eq N_0
  have h0 : ¬ (n + 1) % 4 = 0 := by omega
  by_cases h1 : (n + 1) % 4 = 3
  · refine (congrArg Prod.snd (outsAt0_C m c ⟨n + 1, h⟩ h0 h1)).trans ?_
    dsimp only
    rw [last]
    rfl
  · refine (congrArg Prod.snd (outsAt0_B m c ⟨n + 1, h⟩ h0 h1)).trans ?_
    dsimp only
    rw [next]
    rfl

theorem first_point (h : 0 < cfg0.N) : (outsAt0 m c 0 h).2
    = k0_pay2 (F := Ideal) (k0_pay1 (F := Ideal)) (iblk m c 0 ⟨0, h⟩) (iblk m c 1 ⟨0, h⟩) := by
  refine (congrArg Prod.snd (outsAt0_A m c ⟨0, h⟩ rfl (show ¬ 0 % 4 = 3 by decide))).trans ?_
  dsimp only
  rw [first]

/-- The last point's block is the whole product. -/
theorem written (t : Fin cfg0.N) (ht : t.val = 3) : (outsAt0 m c t.val t.isLt).1 = tprod (e := .f32) (V m c main_arg0) (V m c main_arg2) := by
  obtain ⟨n, hn⟩ := t
  obtain rfl : n = 3 := ht
  refine (congrArg Prod.fst (outsAt0_C m c ⟨3, hn⟩ (show ¬ 3 % 4 = 0 by decide) rfl)).trans ?_
  dsimp only
  rw [stored]
  refine (next_point m c 2 hn).symm.trans ?_
  exact ended (V m c main_arg0) (V m c main_arg2) (P := cfg0.N) N_0 (fun s t => k0_pay2 (F := Ideal) s (iblk m c 0 t) (iblk m c 1 t))
    (k0_pay1 (F := Ideal)) (fun t => iblk m c 0 t) (fun t => iblk m c 1 t) (fun n h => (outsAt0 m c n h).2) pay1_at
    (fun s t p q => pay2_at _ _ s p q) (fun t r p R hR => congrArg (V m c main_arg0) (in_band (at0 t).1 r p R hR rfl rfl))
    (fun t r q R hR => congrArg (V m c main_arg2) (in_band (at0 t).2.1 r q R hR rfl rfl)) (first_point m c) (next_point m c) hn

theorem place (t : Fin cfg0.N) (i : S256x512.Idx) : ((cfg0.win 2).blk t).view.emb i = i := by
  obtain ⟨p, q, rfl⟩ : ∃ (p : Fin 256) (q : Fin 512), i = ix2 p q := ⟨i 0, i 1, Cert.MlpIdeal.Arrays.eta2 i⟩
  exact in_whole (at0 t).2.2 p q rfl rfl

theorem array : (dats m 0 c).arrAt 2 cfg0.N = tprod (e := .f32) (V m c main_arg0) (V m c main_arg2) := by
  refine (dats m 0 c).arrAt_eq_of_cover 2 _ (fun t ht => ?_) fun i => ?_
  · show (cfg0.win 2).cut (grid0.coords t) ((dats m 0 c).after 2 t) = _
    rw [after0_2]
    have h1 := (flush0_2 t).1 ht
    have hN : t.val < 4 := t.isLt.trans_eq N_0
    refine (written m c t (by omega)).trans (funext fun y => ?_)
    exact congrArg (tprod (e := .f32) (V m c main_arg0) (V m c main_arg2)) (place t y).symm
  · let t : Fin cfg0.N := ⟨3, by rw [show cfg0.N = 4 from N_0]; omega⟩
    exact ⟨t, (flush0_2 t).2 rfl, (place t i) ▸ View.emb_mem_set _ _⟩

theorem result : Value.G2 m c = tprod (e := .f32) (m ((c : Thread nD τ).loc main_arg0)) (m ((c : Thread nD τ).loc main_arg2)) :=
  (Value.final2 m c).symm.trans (array m c)

end Cert.QWeightIdeal.Steps

namespace Cert.QWeightReferenceIdeal.Read

open Cert.QWeightReferenceIdeal Cert.QWeightReferenceIdeal.Gen Idealize.ShloMosaic Idealize.ShloMosaic.TcCoe
open Cert.QWeightReferenceIdeal.Facts

theorem grad_at (x : FVec Ideal S8704x256 .bf16) (g : FVec Ideal S8704x512 .f32) (p : Fin 256) (q : Fin 512) :
    truncf .bf16 (transpose S256x512 [1, 0] (Host.dotGeneral dot_S8704x512_S8704x256_S512x256_0_0_1_1_n_n none g (extf .f32 x bitsLt_bf16_f32))
      transposes_S512x256_S256x512_1_0) bitsLt_bf16_f32 (ix2 p q) = (∑ k : Fin 8704, g (ix2 k q) * x (ix2 k p) : EReal) := by
  pointwise []

theorem grad_eq (x : FVec Ideal S8704x256 .bf16) (g : FVec Ideal S8704x512 .f32) :
    truncf .bf16 (transpose S256x512 [1, 0] (Host.dotGeneral dot_S8704x512_S8704x256_S512x256_0_0_1_1_n_n none g (extf .f32 x bitsLt_bf16_f32))
      transposes_S512x256_S256x512_1_0) bitsLt_bf16_f32 = Cert.BandSum.tprod x g := by
  funext i
  obtain ⟨p, q, rfl⟩ : ∃ (p : Fin 256) (q : Fin 512), i = ix2 p q := ⟨i 0, i 1, Cert.MlpIdeal.Arrays.eta2 i⟩
  exact (grad_at x g p q).trans (Finset.sum_congr rfl fun k _ => mul_comm _ _)

end Cert.QWeightReferenceIdeal.Read

namespace Cert.Proof

open Idealize.ShloMosaic Idealize.SL.Sem

theorem q_weight : Cert.algebraic_QWeightIdeal_QWeightReferenceIdeal := by
  intro m g m' g' _ agree
  refine ⟨_, Cert.QWeightIdeal.Value.run (F := Ideal) m g, ?_⟩
  refine (θ_run _ _ _).mono (fun r h c => ?_) (Cert.QWeightReferenceIdeal.Value.run (F := Ideal) m' g')
  obtain ⟨a0, a1, a2⟩ := agree c
  obtain ⟨e, rest⟩ := h c
  rw [a0, a2] at e
  exact ⟨e.trans ((Cert.QWeightReferenceIdeal.Read.grad_eq _ _).trans (Cert.QWeightIdeal.Steps.result m c).symm), rest⟩

end Cert.Proof

end
-- ==== Proof.KWeight.lean ====
/- The gradient of the weight of the keys up from their latent rank: one block, accumulated over the four bands of rows. -/
module

public import proofs.«01_k».proof.Proof.Gen.KWeightIdeal.Value
public import proofs.«01_k».proof.Proof.Gen.KWeightReferenceIdeal.Run
public import proofs.«01_k».proof.Proof.BandSum
public import proofs.«01_k».proof.Proof.RowBlocks

@[expose] public section

set_option maxRecDepth 16384

noncomputable section

namespace Cert.KWeightIdeal.Steps

open Cert.KWeightIdeal Cert.KWeightIdeal.Gen Cert.BandSum Idealize.ShloMosaic Idealize.ShloMosaic.TcCoe
open Cert.MlpIdeal.Arrays (zeros)
open Cert.RowBlocks (in_whole)

section
variable (cc : Dev nD) (i : grid0.Coords) (a3 : Memref sig .tc .vmem S2176x128 .bf16) (h3 : a3.IsWhole)
  (a4 : Memref sig .tc .vmem S2176x256 .f32) (h4 : a4.IsWhole) (a5 : Memref sig .tc .vmem S128x256 .bf16) (h5 : a5.IsWhole)
  (a6 : Memref sig .tc .vmem S128x256 .f32) (h6 : a6.IsWhole) (x : Vec Ideal S2176x128 .bf16) (g : Vec Ideal S2176x256 .f32)
  (s : Vec Ideal S128x256 .f32)

theorem first (hc0 hc1) : sout0_A_0 cc i a3 h3 a4 h4 a5 h5 a6 h6 hc0 hc1 x g = k0_pay2 (F := Ideal) (k0_pay1 (F := Ideal)) x g := by
  unfold sout0_A_0
  rw [View.read_writes_junk_eq_canon]
  unfold kernelRun0_A
  dsimp only
  sl_unfold_words
  simp only [View.readAt_eq_ld, h3.read_unread, h4.read_unread]
  rw [View.canon_cons_unit_zero zeros, View.readCov_unit_zero _ zeros, View.ld_unit_zero zeros, View.ld_unit_zero zeros]

theorem next (hc0 hc1) : sout0_B_0 cc i a3 h3 a4 h4 a5 h5 a6 h6 hc0 hc1 x g s = k0_pay2 (F := Ideal) s x g := by
  unfold sout0_B_0
  rw [View.read_writes_junk_eq_canon]
  unfold kernelRun0_B
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem last (hc0 hc1) : sout0_C_0 cc i a3 h3 a4 h4 a5 h5 a6 h6 hc0 hc1 x g s = k0_pay2 (F := Ideal) s x g := by
  unfold sout0_C_0
  rw [View.read_writes_junk_eq_canon]
  unfold kernelRun0_C
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem stored (hc0 hc1) : out0_C_2 cc i a3 h3 a4 h4 a5 h5 a6 h6 hc0 hc1 x g s = k0_pay2 (F := Ideal) s x g := by
  unfold out0_C_2
  rw [View.read_writes_junk_eq_canon]
  unfold kernelRun0_C
  dsimp only
  sl_unfold_words
  simp only [View.readAt_eq_ld, h3.read_unread, h4.read_unread, h6.read_unread]
  rw [View.canon_cons_unit_zero zeros, View.readCov_unit_zero _ zeros, View.ld_unit_zero zeros, View.ld_unit_zero zeros, View.ld_unit_zero zeros]
  rfl

theorem pay2_at (p : Fin 128) (q : Fin 256) :
    k0_pay2 (F := Ideal) s x g (ix2 p q) = (s (ix2 p q) + ∑ r : Fin 2176, x (ix2 r p) * g (ix2 r q) : EReal) := by
  pointwise [k0_pay2]

theorem pay1_at (p : Fin 128) (q : Fin 256) : k0_pay1 (F := Ideal) (ix2 p q) = (0 : EReal) := by
  pointwise [k0_pay1]

end

variable (m : (ℓ : Loc nD τ sig) → Buf (Elt Ideal) ℓ) (c : Dev nD)

theorem at0 : ∀ t : Fin cfg0.N, win0_0.index t = ![t.val, 0] ∧ win0_1.index t = ![t.val, 0]
    ∧ win0_2.index t = ![0, 0] := (by decide +kernel : ∀ t : Fin grid0.N, _)

theorem next_point (n : ℕ) (h : n + 1 < cfg0.N) : (outsAt0 m c (n + 1) h).2
    = k0_pay2 (F := Ideal) (outsAt0 m c n (Nat.lt_of_succ_lt h)).2 (iblk m c 0 ⟨n + 1, h⟩) (iblk m c 1 ⟨n + 1, h⟩) := by
  have hN : n + 1 < 4 := h.trans_eq N_0
  have h0 : ¬ (n + 1) % 4 = 0 := by omega
  by_cases h1 : (n + 1) % 4 = 3
  · refine (congrArg Prod.snd (outsAt0_C m c ⟨n + 1, h⟩ h0 h1)).trans ?_
    dsimp only
    rw [last]
    rfl
  · refine (congrArg Prod.snd (outsAt0_B m c ⟨n + 1, h⟩ h0 h1)).trans ?_
    dsimp only
    rw [next]
    rfl

theorem first_point (h : 0 < cfg0.N) : (outsAt0 m c 0 h).2
    = k0_pay2 (F := Ideal) (k0_pay1 (F := Ideal)) (iblk m c 0 ⟨0, h⟩) (iblk m c 1 ⟨0, h⟩) := by
  refine (congrArg Prod.snd (outsAt0_A m c ⟨0, h⟩ rfl (show ¬ 0 % 4 = 3 by decide))).trans ?_
  dsimp only
  rw [first]

/-- The last point's block is the whole product. -/
theorem written (t : Fin cfg0.N) (ht : t.val = 3) : (outsAt0 m c t.val t.isLt).1 = tprod (e := .f32) (V m c main_arg0) (V m c main_arg2) := by
  obtain ⟨n, hn⟩ := t
  obtain rfl : n = 3 := ht
  refine (congrArg Prod.fst (outsAt0_C m c ⟨3, hn⟩ (show ¬ 3 % 4 = 0 by decide) rfl)).trans ?_
  dsimp only
  rw [stored]
  refine (next_point m c 2 hn).symm.trans ?_
  exact ended (V m c main_arg0) (V m c main_arg2) (P := cfg0.N) N_0 (fun s t => k0_pay2 (F := Ideal) s (iblk m c 0 t) (iblk m c 1 t))
    (k0_pay1 (F := Ideal)) (fun t => iblk m c 0 t) (fun t => iblk m c 1 t) (fun n h => (outsAt0 m c n h).2) pay1_at
    (fun s t p q => pay2_at _ _ s p q) (fun t r p R hR => congrArg (V m c main_arg0) (in_band (at0 t).1 r p R hR rfl rfl))
    (fun t r q R hR => congrArg (V m c main_arg2) (in_band (at0 t).2.1 r q R hR rfl rfl)) (first_point m c) (next_point m c) hn

theorem place (t : Fin cfg0.N) (i : S128x256.Idx) : ((cfg0.win 2).blk t).view.emb i = i := by
  obtain ⟨p, q, rfl⟩ : ∃ (p : Fin 128) (q : Fin 256), i = ix2 p q := ⟨i 0, i 1, Cert.MlpIdeal.Arrays.eta2 i⟩
  exact in_whole (at0 t).2.2 p q rfl rfl

theorem array : (dats m 0 c).arrAt 2 cfg0.N = tprod (e := .f32) (V m c main_arg0) (V m c main_arg2) := by
  refine (dats m 0 c).arrAt_eq_of_cover 2 _ (fun t ht => ?_) fun i => ?_
  · show (cfg0.win 2).cut (grid0.coords t) ((dats m 0 c).after 2 t) = _
    rw [after0_2]
    have h1 := (flush0_2 t).1 ht
    have hN : t.val < 4 := t.isLt.trans_eq N_0
    refine (written m c t (by omega)).trans (funext fun y => ?_)
    exact congrArg (tprod (e := .f32) (V m c main_arg0) (V m c main_arg2)) (place t y).symm
  · let t : Fin cfg0.N := ⟨3, by rw [show cfg0.N = 4 from N_0]; omega⟩
    exact ⟨t, (flush0_2 t).2 rfl, (place t i) ▸ View.emb_mem_set _ _⟩

theorem result : Value.G2 m c = tprod (e := .f32) (m ((c : Thread nD τ).loc main_arg0)) (m ((c : Thread nD τ).loc main_arg2)) :=
  (Value.final2 m c).symm.trans (array m c)

end Cert.KWeightIdeal.Steps

namespace Cert.KWeightReferenceIdeal.Read

open Cert.KWeightReferenceIdeal Cert.KWeightReferenceIdeal.Gen Idealize.ShloMosaic Idealize.ShloMosaic.TcCoe
open Cert.KWeightReferenceIdeal.Facts

theorem grad_at (x : FVec Ideal S8704x128 .bf16) (g : FVec Ideal S8704x256 .f32) (p : Fin 128) (q : Fin 256) :
    truncf .bf16 (transpose S128x256 [1, 0] (Host.dotGeneral dot_S8704x256_S8704x128_S256x128_0_0_1_1_n_n none g (extf .f32 x bitsLt_bf16_f32))
      transposes_S256x128_S128x256_1_0) bitsLt_bf16_f32 (ix2 p q) = (∑ k : Fin 8704, g (ix2 k q) * x (ix2 k p) : EReal) := by
  pointwise []

theorem grad_eq (x : FVec Ideal S8704x128 .bf16) (g : FVec Ideal S8704x256 .f32) :
    truncf .bf16 (transpose S128x256 [1, 0] (Host.dotGeneral dot_S8704x256_S8704x128_S256x128_0_0_1_1_n_n none g (extf .f32 x bitsLt_bf16_f32))
      transposes_S256x128_S128x256_1_0) bitsLt_bf16_f32 = Cert.BandSum.tprod x g := by
  funext i
  obtain ⟨p, q, rfl⟩ : ∃ (p : Fin 128) (q : Fin 256), i = ix2 p q := ⟨i 0, i 1, Cert.MlpIdeal.Arrays.eta2 i⟩
  exact (grad_at x g p q).trans (Finset.sum_congr rfl fun k _ => mul_comm _ _)

end Cert.KWeightReferenceIdeal.Read

namespace Cert.Proof

open Idealize.ShloMosaic Idealize.SL.Sem

theorem k_weight : Cert.algebraic_KWeightIdeal_KWeightReferenceIdeal := by
  intro m g m' g' _ agree
  refine ⟨_, Cert.KWeightIdeal.Value.run (F := Ideal) m g, ?_⟩
  refine (θ_run _ _ _).mono (fun r h c => ?_) (Cert.KWeightReferenceIdeal.Value.run (F := Ideal) m' g')
  obtain ⟨a0, a1, a2⟩ := agree c
  obtain ⟨e, rest⟩ := h c
  rw [a0, a2] at e
  exact ⟨e.trans ((Cert.KWeightReferenceIdeal.Read.grad_eq _ _).trans (Cert.KWeightIdeal.Steps.result m c).symm), rest⟩

end Cert.Proof

end
-- ==== Proof.VWeight.lean ====
/- The gradient of the weight of the values up from their latent rank: one block, accumulated over the four bands of rows. -/
module

public import proofs.«01_k».proof.Proof.Gen.VWeightIdeal.Value
public import proofs.«01_k».proof.Proof.Gen.VWeightReferenceIdeal.Run
public import proofs.«01_k».proof.Proof.BandSum
public import proofs.«01_k».proof.Proof.RowBlocks

@[expose] public section

set_option maxRecDepth 16384

noncomputable section

namespace Cert.VWeightIdeal.Steps

open Cert.VWeightIdeal Cert.VWeightIdeal.Gen Cert.BandSum Idealize.ShloMosaic Idealize.ShloMosaic.TcCoe
open Cert.MlpIdeal.Arrays (zeros)
open Cert.RowBlocks (in_whole)

section
variable (cc : Dev nD) (i : grid0.Coords) (a3 : Memref sig .tc .vmem S2176x128 .bf16) (h3 : a3.IsWhole)
  (a4 : Memref sig .tc .vmem S2176x256 .bf16) (h4 : a4.IsWhole) (a5 : Memref sig .tc .vmem S128x256 .bf16) (h5 : a5.IsWhole)
  (a6 : Memref sig .tc .vmem S128x256 .f32) (h6 : a6.IsWhole) (x : Vec Ideal S2176x128 .bf16) (g : Vec Ideal S2176x256 .bf16)
  (s : Vec Ideal S128x256 .f32)

theorem first (hc0 hc1) : sout0_A_0 cc i a3 h3 a4 h4 a5 h5 a6 h6 hc0 hc1 x g = k0_pay2 (F := Ideal) (k0_pay1 (F := Ideal)) x g := by
  unfold sout0_A_0
  rw [View.read_writes_junk_eq_canon]
  unfold kernelRun0_A
  dsimp only
  sl_unfold_words
  simp only [View.readAt_eq_ld, h3.read_unread, h4.read_unread]
  rw [View.canon_cons_unit_zero zeros, View.readCov_unit_zero _ zeros, View.ld_unit_zero zeros, View.ld_unit_zero zeros]

theorem next (hc0 hc1) : sout0_B_0 cc i a3 h3 a4 h4 a5 h5 a6 h6 hc0 hc1 x g s = k0_pay2 (F := Ideal) s x g := by
  unfold sout0_B_0
  rw [View.read_writes_junk_eq_canon]
  unfold kernelRun0_B
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem last (hc0 hc1) : sout0_C_0 cc i a3 h3 a4 h4 a5 h5 a6 h6 hc0 hc1 x g s = k0_pay2 (F := Ideal) s x g := by
  unfold sout0_C_0
  rw [View.read_writes_junk_eq_canon]
  unfold kernelRun0_C
  dsimp only
  sl_unfold_words
  simp only [View.readAt_eq_ld, h3.read_unread, h4.read_unread, h6.read_unread]
  rw [View.canon_cons_unit_zero zeros, View.ld_unit_zero zeros, View.ld_unit_zero zeros, View.ld_unit_zero zeros]

theorem stored (hc0 hc1) : out0_C_2 cc i a3 h3 a4 h4 a5 h5 a6 h6 hc0 hc1 x g s = k0_pay2 (F := Ideal) s x g := by
  unfold out0_C_2
  rw [View.read_writes_junk_eq_canon]
  unfold kernelRun0_C
  dsimp only
  sl_unfold_words
  simp only [View.readAt_eq_ld, h3.read_unread, h4.read_unread, h6.read_unread]
  rw [View.canon_cons_unit_zero zeros, View.readCov_unit_zero _ zeros, View.ld_unit_zero zeros, View.ld_unit_zero zeros, View.ld_unit_zero zeros]
  rfl

theorem pay2_at (p : Fin 128) (q : Fin 256) :
    k0_pay2 (F := Ideal) s x g (ix2 p q) = (s (ix2 p q) + ∑ r : Fin 2176, x (ix2 r p) * g (ix2 r q) : EReal) := by
  pointwise [k0_pay2]

theorem pay1_at (p : Fin 128) (q : Fin 256) : k0_pay1 (F := Ideal) (ix2 p q) = (0 : EReal) := by
  pointwise [k0_pay1]

end

variable (m : (ℓ : Loc nD τ sig) → Buf (Elt Ideal) ℓ) (c : Dev nD)

theorem at0 : ∀ t : Fin cfg0.N, win0_0.index t = ![t.val, 0] ∧ win0_1.index t = ![t.val, 0]
    ∧ win0_2.index t = ![0, 0] := (by decide +kernel : ∀ t : Fin grid0.N, _)

theorem next_point (n : ℕ) (h : n + 1 < cfg0.N) : (outsAt0 m c (n + 1) h).2
    = k0_pay2 (F := Ideal) (outsAt0 m c n (Nat.lt_of_succ_lt h)).2 (iblk m c 0 ⟨n + 1, h⟩) (iblk m c 1 ⟨n + 1, h⟩) := by
  have hN : n + 1 < 4 := h.trans_eq N_0
  have h0 : ¬ (n + 1) % 4 = 0 := by omega
  by_cases h1 : (n + 1) % 4 = 3
  · refine (congrArg Prod.snd (outsAt0_C m c ⟨n + 1, h⟩ h0 h1)).trans ?_
    dsimp only
    rw [last]
    rfl
  · refine (congrArg Prod.snd (outsAt0_B m c ⟨n + 1, h⟩ h0 h1)).trans ?_
    dsimp only
    rw [next]
    rfl

theorem first_point (h : 0 < cfg0.N) : (outsAt0 m c 0 h).2
    = k0_pay2 (F := Ideal) (k0_pay1 (F := Ideal)) (iblk m c 0 ⟨0, h⟩) (iblk m c 1 ⟨0, h⟩) := by
  refine (congrArg Prod.snd (outsAt0_A m c ⟨0, h⟩ rfl (show ¬ 0 % 4 = 3 by decide))).trans ?_
  dsimp only
  rw [first]

/-- The last point's block is the whole product. -/
theorem written (t : Fin cfg0.N) (ht : t.val = 3) : (outsAt0 m c t.val t.isLt).1 = tprod (e := .bf16) (V m c main_arg0) (V m c main_arg2) := by
  obtain ⟨n, hn⟩ := t
  obtain rfl : n = 3 := ht
  refine (congrArg Prod.fst (outsAt0_C m c ⟨3, hn⟩ (show ¬ 3 % 4 = 0 by decide) rfl)).trans ?_
  dsimp only
  rw [stored]
  refine (next_point m c 2 hn).symm.trans ?_
  exact ended (V m c main_arg0) (V m c main_arg2) (P := cfg0.N) N_0 (fun s t => k0_pay2 (F := Ideal) s (iblk m c 0 t) (iblk m c 1 t))
    (k0_pay1 (F := Ideal)) (fun t => iblk m c 0 t) (fun t => iblk m c 1 t) (fun n h => (outsAt0 m c n h).2) pay1_at
    (fun s t p q => pay2_at _ _ s p q) (fun t r p R hR => congrArg (V m c main_arg0) (in_band (at0 t).1 r p R hR rfl rfl))
    (fun t r q R hR => congrArg (V m c main_arg2) (in_band (at0 t).2.1 r q R hR rfl rfl)) (first_point m c) (next_point m c) hn

theorem place (t : Fin cfg0.N) (i : S128x256.Idx) : ((cfg0.win 2).blk t).view.emb i = i := by
  obtain ⟨p, q, rfl⟩ : ∃ (p : Fin 128) (q : Fin 256), i = ix2 p q := ⟨i 0, i 1, Cert.MlpIdeal.Arrays.eta2 i⟩
  exact in_whole (at0 t).2.2 p q rfl rfl

theorem array : (dats m 0 c).arrAt 2 cfg0.N = tprod (e := .bf16) (V m c main_arg0) (V m c main_arg2) := by
  refine (dats m 0 c).arrAt_eq_of_cover 2 _ (fun t ht => ?_) fun i => ?_
  · show (cfg0.win 2).cut (grid0.coords t) ((dats m 0 c).after 2 t) = _
    rw [after0_2]
    have h1 := (flush0_2 t).1 ht
    have hN : t.val < 4 := t.isLt.trans_eq N_0
    refine (written m c t (by omega)).trans (funext fun y => ?_)
    exact congrArg (tprod (e := .bf16) (V m c main_arg0) (V m c main_arg2)) (place t y).symm
  · let t : Fin cfg0.N := ⟨3, by rw [show cfg0.N = 4 from N_0]; omega⟩
    exact ⟨t, (flush0_2 t).2 rfl, (place t i) ▸ View.emb_mem_set _ _⟩

theorem result : Value.G2 m c = tprod (e := .bf16) (m ((c : Thread nD τ).loc main_arg0)) (m ((c : Thread nD τ).loc main_arg2)) :=
  (Value.final2 m c).symm.trans (array m c)

end Cert.VWeightIdeal.Steps

namespace Cert.VWeightReferenceIdeal.Read

open Cert.VWeightReferenceIdeal Cert.VWeightReferenceIdeal.Gen Idealize.ShloMosaic Idealize.ShloMosaic.TcCoe
open Cert.VWeightReferenceIdeal.Facts

theorem grad_at (x : FVec Ideal S8704x128 .bf16) (g : FVec Ideal S8704x256 .bf16) (p : Fin 128) (q : Fin 256) :
    truncf .bf16 (transpose S128x256 [1, 0] (Host.dotGeneral dot_S8704x256_S8704x128_S256x128_0_0_1_1_n_n none (extf .f32 g bitsLt_bf16_f32) (extf .f32 x bitsLt_bf16_f32))
      transposes_S256x128_S128x256_1_0) bitsLt_bf16_f32 (ix2 p q) = (∑ k : Fin 8704, g (ix2 k q) * x (ix2 k p) : EReal) := by
  pointwise []

theorem grad_eq (x : FVec Ideal S8704x128 .bf16) (g : FVec Ideal S8704x256 .bf16) :
    truncf .bf16 (transpose S128x256 [1, 0] (Host.dotGeneral dot_S8704x256_S8704x128_S256x128_0_0_1_1_n_n none (extf .f32 g bitsLt_bf16_f32) (extf .f32 x bitsLt_bf16_f32))
      transposes_S256x128_S128x256_1_0) bitsLt_bf16_f32 = Cert.BandSum.tprod x g := by
  funext i
  obtain ⟨p, q, rfl⟩ : ∃ (p : Fin 128) (q : Fin 256), i = ix2 p q := ⟨i 0, i 1, Cert.MlpIdeal.Arrays.eta2 i⟩
  exact (grad_at x g p q).trans (Finset.sum_congr rfl fun k _ => mul_comm _ _)

end Cert.VWeightReferenceIdeal.Read

namespace Cert.Proof

open Idealize.ShloMosaic Idealize.SL.Sem

theorem v_weight : Cert.algebraic_VWeightIdeal_VWeightReferenceIdeal := by
  intro m g m' g' _ agree
  refine ⟨_, Cert.VWeightIdeal.Value.run (F := Ideal) m g, ?_⟩
  refine (θ_run _ _ _).mono (fun r h c => ?_) (Cert.VWeightReferenceIdeal.Value.run (F := Ideal) m' g')
  obtain ⟨a0, a1, a2⟩ := agree c
  obtain ⟨e, rest⟩ := h c
  rw [a0, a2] at e
  exact ⟨e.trans ((Cert.VWeightReferenceIdeal.Read.grad_eq _ _).trans (Cert.VWeightIdeal.Steps.result m c).symm), rest⟩

end Cert.Proof

end
-- ==== Proof.UpQuiet.lean ====
/- The bit-exact programs of the products up from the latent ranks have the text of their idealized ones, so each takes the run proved once for
   any elements; the references end quietly too. -/
module

public import proofs.«01_k».proof.Defs
public import proofs.«01_k».proof.Proof.Gen.UpIdeal.Frame
public import proofs.«01_k».proof.Proof.Gen.UpReferenceIdeal.Run
public import proofs.«01_k».proof.Proof.Gen.QWeightIdeal.Frame
public import proofs.«01_k».proof.Proof.Gen.QWeightReferenceIdeal.Run
public import proofs.«01_k».proof.Proof.Gen.KWeightIdeal.Frame
public import proofs.«01_k».proof.Proof.Gen.KWeightReferenceIdeal.Run
public import proofs.«01_k».proof.Proof.Gen.VWeightIdeal.Frame
public import proofs.«01_k».proof.Proof.Gen.VWeightReferenceIdeal.Run
public import Idealize.ShloMosaic.Init
public import Idealize.ShloMosaic.Lib.Quiescent

@[expose] public section

noncomputable section

namespace Cert.Proof

open Idealize.ShloMosaic Idealize.SL.Sem

instance up_facts0 : Cert.Up.Facts₀ := { Cert.UpIdeal.Gen.facts₀ with }

instance up_facts : Cert.Up.Facts where

theorem up_defs : Cert.Up.defs (F := Bits) = Cert.UpIdeal.defs (F := Bits) := by sl_kernel_rfl

theorem up_quiet : Cert.quiescent_Up := by
  intro m ρ _
  have h := Cert.UpIdeal.Gen.frame (F := Bits) m ρ
  rw [← up_defs] at h
  exact h

section
open Cert.UpReferenceIdeal
theorem up_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
        ∧ r.2.sem = fun _ => 0) :=
  (θ_run _ _ _).mono (fun r h => ⟨fun c => (h c).2.2.2.2.2.2, sem_eq_zero_of_no_sems (by decide) r.2⟩) (Value.run (F := Ideal) m g)
end

instance q_facts0 : Cert.QWeight.Facts₀ := { Cert.QWeightIdeal.Gen.facts₀ with }

instance q_facts : Cert.QWeight.Facts where

theorem q_defs : Cert.QWeight.defs (F := Bits) = Cert.QWeightIdeal.defs (F := Bits) := by sl_kernel_rfl

theorem q_quiet : Cert.quiescent_QWeight := by
  intro m ρ _
  have h := Cert.QWeightIdeal.Gen.frame (F := Bits) m ρ
  rw [← q_defs] at h
  exact h

section
open Cert.QWeightReferenceIdeal
theorem q_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run _ _ _).mono (fun r h => ⟨fun c => (h c).2, sem_eq_zero_of_no_sems (by decide) r.2⟩) (Value.run (F := Ideal) m g)
end

instance k_facts0 : Cert.KWeight.Facts₀ := { Cert.KWeightIdeal.Gen.facts₀ with }

instance k_facts : Cert.KWeight.Facts where

theorem k_defs : Cert.KWeight.defs (F := Bits) = Cert.KWeightIdeal.defs (F := Bits) := by sl_kernel_rfl

theorem k_quiet : Cert.quiescent_KWeight := by
  intro m ρ _
  have h := Cert.KWeightIdeal.Gen.frame (F := Bits) m ρ
  rw [← k_defs] at h
  exact h

section
open Cert.KWeightReferenceIdeal
theorem k_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run _ _ _).mono (fun r h => ⟨fun c => (h c).2, sem_eq_zero_of_no_sems (by decide) r.2⟩) (Value.run (F := Ideal) m g)
end

instance v_facts0 : Cert.VWeight.Facts₀ := { Cert.VWeightIdeal.Gen.facts₀ with }

instance v_facts : Cert.VWeight.Facts where

theorem v_defs : Cert.VWeight.defs (F := Bits) = Cert.VWeightIdeal.defs (F := Bits) := by sl_kernel_rfl

theorem v_quiet : Cert.quiescent_VWeight := by
  intro m ρ _
  have h := Cert.VWeightIdeal.Gen.frame (F := Bits) m ρ
  rw [← v_defs] at h
  exact h

section
open Cert.VWeightReferenceIdeal
theorem v_reference_quiet (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run _ _ _).mono (fun r h => ⟨fun c => (h c).2, sem_eq_zero_of_no_sems (by decide) r.2⟩) (Value.run (F := Ideal) m g)
end

end Cert.Proof

end
-- ==== Proof.lean ====
/- The claim: the calls run and leave their arguments alone, the named constants are the ones printed, and over the reals the results
   are the plain mathematics: the three gradients of the attention and of the grouped attention, the MLP forward with the gradients
   of its inputs and of its two weights, and the mixers' two projections and the latent attention's three products up from its ranks,
   forward with the gradients of their inputs and weights. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.MixIdeal.Frame
public import proofs.«01_k».proof.Proof.Gen.MixReferenceIdeal.Run
public import proofs.«01_k».proof.Proof.Gen.UpIdeal.Frame
public import proofs.«01_k».proof.Proof.Gen.UpReferenceIdeal.Run
public import proofs.«01_k».proof.Proof.Gen.QWeightIdeal.Value
public import proofs.«01_k».proof.Proof.Gen.QWeightReferenceIdeal.Run
public import proofs.«01_k».proof.Proof.Gen.KWeightIdeal.Value
public import proofs.«01_k».proof.Proof.Gen.KWeightReferenceIdeal.Run
public import proofs.«01_k».proof.Proof.Gen.VWeightIdeal.Value
public import proofs.«01_k».proof.Proof.Gen.VWeightReferenceIdeal.Run
public import proofs.«01_k».proof.Proof.Gen.InWeightIdeal.Value
public import proofs.«01_k».proof.Proof.Gen.InWeightReferenceIdeal.Run
public import proofs.«01_k».proof.Proof.Gen.OutWeightIdeal.Value
public import proofs.«01_k».proof.Proof.Gen.OutWeightReferenceIdeal.Run
public import proofs.«01_k».proof.Proof.Gen.Grouped
public import proofs.«01_k».proof.Proof.Gen.Grouped.Frame
public import proofs.«01_k».proof.Proof.Gen.GroupedIdeal
public import proofs.«01_k».proof.Proof.Gen.GroupedIdeal.Frame
public import proofs.«01_k».proof.Proof.Gen.GroupedIdeal.Value
public import proofs.«01_k».proof.Proof.Gen.GroupedReferenceIdeal
public import proofs.«01_k».proof.Proof.Gen.GroupedReferenceIdeal.Run
public import proofs.«01_k».proof.Proof.Finite
public import proofs.«01_k».proof.Proof.GroupedClaim
public import proofs.«01_k».proof.Proof.Match
public import proofs.«01_k».proof.Proof.MlpMatch
public import proofs.«01_k».proof.Proof.FirstWeight
public import proofs.«01_k».proof.Proof.SecondWeight
public import proofs.«01_k».proof.Proof.MixMatch
public import proofs.«01_k».proof.Proof.InWeight
public import proofs.«01_k».proof.Proof.OutWeight
public import proofs.«01_k».proof.Proof.Quiet
public import proofs.«01_k».proof.Proof.UpMatch
public import proofs.«01_k».proof.Proof.QWeight
public import proofs.«01_k».proof.Proof.KWeight
public import proofs.«01_k».proof.Proof.VWeight
public import proofs.«01_k».proof.Proof.UpQuiet
public import Idealize.ShloMosaic.Adequacy
public import Idealize.ShloMosaic.Init
public import Idealize.ShloMosaic.Lib.Quiescent

@[expose] public section

noncomputable section

namespace Cert.Proof

open Idealize.ShloMosaic Idealize.SL.Sem
open Cert.AttnGrad.Match

instance : Cert.Pre_finite.Facts := Cert.Pre_finite.conditions

/-- The reference ends with its arguments unchanged and every semaphore at zero. -/
theorem reference_quiet (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3)
            = m ((c.tc : Thread Cert.ReferenceIdeal.nD Cert.ReferenceIdeal.τ).loc Cert.ReferenceIdeal.main_arg3))
        ∧ r.2.sem = fun _ => 0) :=
  (θ_run _ _ _).mono (fun r h => ⟨fun c => (h c).2.2.2, Idealize.ShloMosaic.sem_eq_zero_of_no_sems (by decide) r.2⟩)
    (Cert.ReferenceIdeal.Value.run (F := Ideal) m g)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hm : Cert.Pre_KernelIdeal_finite m) (c : Dev Cert.KernelIdeal.nD)
  (h0 : Cert.ReferenceIdeal.Read.aq m' c = Cert.KernelIdeal.Steps.aq m c)
  (h1 : Cert.ReferenceIdeal.Read.ak m' c = Cert.KernelIdeal.Steps.ak m c)
  (h2 : Cert.ReferenceIdeal.Read.av m' c = Cert.KernelIdeal.Steps.av m c)
  (h3 : Cert.ReferenceIdeal.Read.ag m' c = Cert.KernelIdeal.Steps.ag m c)

include hm h0 h1 h2 h3

theorem same_dq : Cert.ReferenceIdeal.Value.res_out0 m' c = Cert.KernelIdeal.Value.G6 m c := by
  obtain ⟨fq, fk, fv, fg⟩ := Cert.Pre_finite.finite_iff _ _ _ _ (hm c)
  funext i
  obtain ⟨b, s, h, d, rfl⟩ := idx128 i
  exact dq_eq m m' c (fun _ _ _ _ => fq _) (fun _ _ _ _ => fk _) (fun _ _ _ _ => fv _) (fun _ _ _ _ => fg _)
    (fun _ _ _ _ => (congrFun h0 _).trans (fq _)) (fun _ _ _ _ => (congrFun h1 _).trans (fk _))
    (fun _ _ _ _ => (congrFun h2 _).trans (fv _)) (fun _ _ _ _ => (congrFun h3 _).trans (fg _)) b s h d

theorem same_dk : Cert.ReferenceIdeal.Value.res_out1 m' c = Cert.KernelIdeal.Value.G7 m c := by
  obtain ⟨fq, fk, fv, fg⟩ := Cert.Pre_finite.finite_iff _ _ _ _ (hm c)
  funext i
  obtain ⟨b, s, h, d, rfl⟩ := idx128 i
  exact dk_eq m m' c (fun _ _ _ _ => fq _) (fun _ _ _ _ => fk _) (fun _ _ _ _ => fv _) (fun _ _ _ _ => fg _)
    (fun _ _ _ _ => (congrFun h0 _).trans (fq _)) (fun _ _ _ _ => (congrFun h1 _).trans (fk _))
    (fun _ _ _ _ => (congrFun h2 _).trans (fv _)) (fun _ _ _ _ => (congrFun h3 _).trans (fg _)) b s h d

theorem same_dv : Cert.ReferenceIdeal.Value.res_out2 m' c = Cert.KernelIdeal.Value.G8 m c := by
  obtain ⟨fq, fk, fv, fg⟩ := Cert.Pre_finite.finite_iff _ _ _ _ (hm c)
  funext i
  obtain ⟨b, s, h, d, rfl⟩ := idx64 i
  exact dv_eq m m' c (fun _ _ _ _ => fq _) (fun _ _ _ _ => fk _) (fun _ _ _ _ => fv _) (fun _ _ _ _ => fg _)
    (fun _ _ _ _ => (congrFun h0 _).trans (fq _)) (fun _ _ _ _ => (congrFun h1 _).trans (fk _))
    (fun _ _ _ _ => (congrFun h2 _).trans (fv _)) (fun _ _ _ _ => (congrFun h3 _).trans (fg _)) b s h d

end

theorem gradients : Cert.algebraic_KernelIdeal_ReferenceIdeal_pre_finite := by
  intro m g m' g' hm agree
  refine ⟨_, _, _, Cert.KernelIdeal.Value.run (F := Ideal) m g, ?_⟩
  refine (θ_run _ _ _).mono (fun r h c => ?_) (Cert.ReferenceIdeal.Value.run (F := Ideal) m' g')
  obtain ⟨a0, a1, a2, a3⟩ := agree c
  exact ⟨(h c).1.trans (same_dq m m' hm c a0 a1 a2 a3), (h c).2.1.trans (same_dk m m' hm c a0 a1 a2 a3),
    (h c).2.2.1.trans (same_dv m m' hm c a0 a1 a2 a3), (h c).2.2.2⟩

theorem claim : Cert.Claim :=
  ⟨Cert.Kernel.Gen.facts, Cert.KernelIdeal.Gen.facts, Cert.ReferenceIdeal.Gen.facts,
    mlp_facts, Cert.MlpIdeal.Gen.facts, Cert.MlpReferenceIdeal.Gen.facts,
    first_facts, Cert.FirstWeightIdeal.Gen.facts, Cert.FirstWeightReferenceIdeal.Gen.facts,
    second_facts, Cert.SecondWeightIdeal.Gen.facts, Cert.SecondWeightReferenceIdeal.Gen.facts,
    mix_facts, Cert.MixIdeal.Gen.facts, Cert.MixReferenceIdeal.Gen.facts,
    in_facts, Cert.InWeightIdeal.Gen.facts, Cert.InWeightReferenceIdeal.Gen.facts,
    out_facts, Cert.OutWeightIdeal.Gen.facts, Cert.OutWeightReferenceIdeal.Gen.facts,
    Cert.Grouped.Gen.facts, Cert.GroupedIdeal.Gen.facts, Cert.GroupedReferenceIdeal.Gen.facts,
    up_facts, Cert.UpIdeal.Gen.facts, Cert.UpReferenceIdeal.Gen.facts,
    q_facts, Cert.QWeightIdeal.Gen.facts, Cert.QWeightReferenceIdeal.Gen.facts,
    k_facts, Cert.KWeightIdeal.Gen.facts, Cert.KWeightReferenceIdeal.Gen.facts,
    v_facts, Cert.VWeightIdeal.Gen.facts, Cert.VWeightReferenceIdeal.Gen.facts,
    Cert.Pre_finite.conditions, Cert.Pre_separated.conditions, conditions1, Cert.Pre_finite1.conditions,
    fun m ρ _ => Cert.Kernel.Gen.frame m ρ,
    fun m ρ _ => Cert.KernelIdeal.Gen.frame m ρ,
    fun m ρ _ => Cert.KernelIdeal.Gen.frame m ρ,
    fun m ρ _ => reference_quiet m ρ,
    fun m ρ _ => reference_quiet m ρ,
    mlp_quiet,
    fun m ρ _ => Cert.MlpIdeal.Gen.frame m ρ,
    fun m ρ _ => Cert.MlpIdeal.Gen.frame m ρ,
    fun m ρ _ => mlp_reference_quiet m ρ,
    fun m ρ _ => mlp_reference_quiet m ρ,
    first_quiet,
    fun m ρ _ => Cert.FirstWeightIdeal.Gen.frame m ρ,
    fun m ρ _ => Cert.FirstWeightIdeal.Gen.frame m ρ,
    fun m ρ _ => first_reference_quiet m ρ,
    fun m ρ _ => first_reference_quiet m ρ,
    second_quiet,
    fun m ρ _ => Cert.SecondWeightIdeal.Gen.frame m ρ,
    fun m ρ _ => second_reference_quiet m ρ,
    mix_quiet,
    fun m ρ _ => Cert.MixIdeal.Gen.frame m ρ,
    fun m ρ _ => mix_reference_quiet m ρ,
    in_quiet,
    fun m ρ _ => Cert.InWeightIdeal.Gen.frame m ρ,
    fun m ρ _ => in_reference_quiet m ρ,
    out_quiet,
    fun m ρ _ => Cert.OutWeightIdeal.Gen.frame m ρ,
    fun m ρ _ => out_reference_quiet m ρ,
    fun m ρ _ => Cert.Grouped.Gen.frame m ρ,
    fun m ρ _ => Cert.GroupedIdeal.Gen.frame m ρ,
    fun m ρ _ => Cert.GroupedIdeal.Gen.frame m ρ,
    fun m ρ _ => grouped_reference_quiet m ρ,
    fun m ρ _ => grouped_reference_quiet m ρ,
    up_quiet,
    fun m ρ _ => Cert.UpIdeal.Gen.frame m ρ,
    fun m ρ _ => up_reference_quiet m ρ,
    q_quiet,
    fun m ρ _ => Cert.QWeightIdeal.Gen.frame m ρ,
    fun m ρ _ => q_reference_quiet m ρ,
    k_quiet,
    fun m ρ _ => Cert.KWeightIdeal.Gen.frame m ρ,
    fun m ρ _ => k_reference_quiet m ρ,
    v_quiet,
    fun m ρ _ => Cert.VWeightIdeal.Gen.frame m ρ,
    fun m ρ _ => v_reference_quiet m ρ,
    ⟨IdealRules.named_const.statement Cert.KernelIdeal.κ "scale_log2e" .f32 0x3E16C740#32 _ rfl,
      IdealRules.named_const.statement Cert.KernelIdeal.κ "scale" .f32 0x3DD105EC#32 _ rfl⟩,
    gradients,
    trivial,
    mlp,
    trivial,
    first_weight,
    trivial,
    second_weight,
    trivial,
    mix,
    trivial,
    in_weight,
    trivial,
    out_weight,
    IdealRules.named_const.statement Cert.GroupedIdeal.κ "eighth_log2e" .f32 0x3E38AA3B#32 _ rfl,
    grouped,
    trivial,
    up,
    trivial,
    q_weight,
    trivial,
    k_weight,
    trivial,
    v_weight⟩

end Cert.Proof

end
